-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v14) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v13) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v6) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v8) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v8) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v7) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v6) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)) →
    ∃ (v0 : (c : Dev Cert.PoolBwdIdeal.nD) → Buf (Elt Ideal) ((c.tc : Thread Cert.PoolBwdIdeal.nD Cert.PoolBwdIdeal.τ).loc Cert.PoolBwdIdeal.main_v0_0)) (v1 : (c : Dev Cert.PoolBwdIdeal.nD) → Buf (Elt Ideal) ((c.tc : Thread Cert.PoolBwdIdeal.nD Cert.PoolBwdIdeal.τ).loc Cert.PoolBwdIdeal.main_v0_1)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v0_0) = v0 c
          ∧ r.2.mem ((c.tc : Thread Cert.PoolBwdIdeal.nD Cert.PoolBwdIdeal.τ).loc Cert.PoolBwdIdeal.main_v0_1) = v1 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v13) = v0 c
          ∧ r.2.mem ((c.tc : Thread Cert.PoolBwdRefIdeal.nD Cert.PoolBwdRefIdeal.τ).loc Cert.PoolBwdRefIdeal.main_v14) = v1 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v0_0)) (v1 : (c : Dev Cert.PoolIdeal.nD) → Buf (Elt Ideal) ((c.tc : Thread Cert.PoolIdeal.nD Cert.PoolIdeal.τ).loc Cert.PoolIdeal.main_v0_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_0) = v0 c
          ∧ r.2.mem ((c.tc : Thread Cert.PoolIdeal.nD Cert.PoolIdeal.τ).loc Cert.PoolIdeal.main_v0_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v8) = v0 c
          ∧ r.2.mem ((c.tc : Thread Cert.PoolRefIdeal.nD Cert.PoolRefIdeal.τ).loc Cert.PoolRefIdeal.main_v9) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v83_0)) (v1 : (c : Dev Cert.FoxIdeal.nD) → Buf (Elt Ideal) ((c.tc : Thread Cert.FoxIdeal.nD Cert.FoxIdeal.τ).loc Cert.FoxIdeal.main_v83_1)) (v2 : (c : Dev Cert.FoxIdeal.nD) → Buf (Elt Ideal) ((c.tc : Thread Cert.FoxIdeal.nD Cert.FoxIdeal.τ).loc Cert.FoxIdeal.main_v83_2)) (v3 : (c : Dev Cert.FoxIdeal.nD) → Buf (Elt Ideal) ((c.tc : Thread Cert.FoxIdeal.nD Cert.FoxIdeal.τ).loc Cert.FoxIdeal.main_v83_3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v83_0) = v0 c
          ∧ r.2.mem ((c.tc : Thread Cert.FoxIdeal.nD Cert.FoxIdeal.τ).loc Cert.FoxIdeal.main_v83_1) = v1 c
          ∧ r.2.mem ((c.tc : Thread Cert.FoxIdeal.nD Cert.FoxIdeal.τ).loc Cert.FoxIdeal.main_v83_2) = v2 c
          ∧ r.2.mem ((c.tc : Thread Cert.FoxIdeal.nD Cert.FoxIdeal.τ).loc Cert.FoxIdeal.main_v83_3) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v101) = v0 c
          ∧ r.2.mem ((c.tc : Thread Cert.FoxRefIdeal.nD Cert.FoxRefIdeal.τ).loc Cert.FoxRefIdeal.main_v102) = v1 c
          ∧ r.2.mem ((c.tc : Thread Cert.FoxRefIdeal.nD Cert.FoxRefIdeal.τ).loc Cert.FoxRefIdeal.main_v103) = v2 c
          ∧ r.2.mem ((c.tc : Thread Cert.FoxRefIdeal.nD Cert.FoxRefIdeal.τ).loc Cert.FoxRefIdeal.main_v104) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkvDx : Cert.QkvDx.Facts) (hQkvDxIdeal : Cert.QkvDxIdeal.Facts) (hQkvDxRefIdeal : Cert.QkvDxRefIdeal.Facts) (hQkvDw : Cert.QkvDw.Facts) (hQkvDwIdeal : Cert.QkvDwIdeal.Facts) (hQkvDwRefIdeal : Cert.QkvDwRefIdeal.Facts) (hQkv : Cert.Qkv.Facts) (hQkvIdeal : Cert.QkvIdeal.Facts) (hQkvRefIdeal : Cert.QkvRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOut : Cert.Out.Facts) (hOutIdeal : Cert.OutIdeal.Facts) (hOutRefIdeal : Cert.OutRefIdeal.Facts) (hPoolBwd : Cert.PoolBwd.Facts) (hPoolBwdIdeal : Cert.PoolBwdIdeal.Facts) (hPoolBwdRefIdeal : Cert.PoolBwdRefIdeal.Facts) (hPool : Cert.Pool.Facts) (hPoolIdeal : Cert.PoolIdeal.Facts) (hPoolRefIdeal : Cert.PoolRefIdeal.Facts) (hFox : Cert.Fox.Facts) (hFoxIdeal : Cert.FoxIdeal.Facts) (hFoxRefIdeal : Cert.FoxRefIdeal.Facts) (hPre_finite : Cert.Pre_finite.Facts) (hPre_fox_finite : Cert.Pre_fox_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Out (hOut := hOut)
    ∧ quiescent_OutIdeal (hOutIdeal := hOutIdeal)
    ∧ quiescent_OutRefIdeal (hOutRefIdeal := hOutRefIdeal)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ quiescent_Pool (hPool := hPool)
    ∧ quiescent_PoolIdeal (hPoolIdeal := hPoolIdeal)
    ∧ quiescent_PoolRefIdeal (hPoolRefIdeal := hPoolRefIdeal)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_QkvDx_QkvDxIdeal
    ∧ algebraic_QkvDxIdeal_QkvDxRefIdeal (hQkvDxIdeal := hQkvDxIdeal) (hQkvDxRefIdeal := hQkvDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_Qkv_QkvIdeal
    ∧ algebraic_QkvIdeal_QkvRefIdeal (hQkvIdeal := hQkvIdeal) (hQkvRefIdeal := hQkvRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Out_OutIdeal
    ∧ algebraic_OutIdeal_OutRefIdeal (hOutIdeal := hOutIdeal) (hOutRefIdeal := hOutRefIdeal)
    ∧ preserves_PoolBwd_PoolBwdIdeal
    ∧ algebraic_PoolBwdIdeal_PoolBwdRefIdeal (hPoolBwdIdeal := hPoolBwdIdeal) (hPoolBwdRefIdeal := hPoolBwdRefIdeal)
    ∧ preserves_Pool_PoolIdeal
    ∧ algebraic_PoolIdeal_PoolRefIdeal (hPoolIdeal := hPoolIdeal) (hPoolRefIdeal := hPoolRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
-- ==== Pre_finite.lean ====
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x6144 .bf16) (main_arg1 : FVec F S2048x2048 .bf16) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  main_v10
-- ==== Pre_fox_finite.lean ====
abbrev S2048x6144 : Shape := ⟨2, ![2048, 6144]⟩
abbrev S2048x2048 : Shape := ⟨2, ![2048, 2048]⟩
abbrev S8x2048 : Shape := ⟨2, ![8, 2048]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2048x6144 .bf16) (main_arg1 : FVec F S2048x2048 .bf16) (main_arg2 : FVec F S8x2048 .f32) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  let main_v11 : FVec F S8x2048 .f32 := Host.absf main_arg2
  let main_cst_2 : FVec F S_ .f32 := constant S_ .f32 0x7F800000#32
  let main_v12 : FVec F S8x2048 .f32 := broadcastInDim S8x2048 ![] bcast_S_S8x2048 main_cst_2
  let main_v13 : IVec S8x2048 1 := cmpf .olt main_v11 main_v12
  let main_c_3 : IVec S_ 1 := constantI S_ 1 1#1
  let main_v14 : IVec S_ 1 := (fun x v => Host.reduce IntOp.andi x v reducesTo_S8x2048_S_d0_1 h_S_) main_v13 main_c_3
  let main_v15 : IVec S_ 1 := andi main_v10 main_v14
  main_v15
-- ==== Kernel.lean ====
abbrev S2048x6144 : Shape := ⟨2, ![2048, 6144]⟩
abbrev S2048x2048 : Shape := ⟨2, ![2048, 2048]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S256x512 : Shape := ⟨2, ![256, 512]⟩
abbrev S2048x512 : Shape := ⟨2, ![2048, 512]⟩
abbrev S4x256x1 : Shape := ⟨3, ![4, 256, 1]⟩
abbrev S256x256 : Shape := ⟨2, ![256, 256]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩

abbrev nBuf : Space → Nat
  | .hbm => 48
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x6144, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x8x128, .f32⟩
  | .hbm, ⟨7, _⟩ => ⟨S8x2048x128, .f32⟩
  | .hbm, ⟨8, _⟩ => ⟨S2048x8x128, .f32⟩
  | .hbm, ⟨9, _⟩ => ⟨S8x2048x128, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S_, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S2048x1024, .bf16⟩
  | .hbm, ⟨46, _⟩ => ⟨S2048x1024, .bf16⟩
  | .hbm, ⟨47, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S4x256x1, .f32⟩
  | .local _ .vmem, ⟨9, _⟩ => ⟨S4x256x1, .f32⟩
  | .local _ .vmem, ⟨10, _⟩ => ⟨S256x512, .bf16⟩
  | .local _ .vmem, ⟨11, _⟩ => ⟨S256x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .f32⟩
  | .local _ .vmem, ⟨17, _⟩ => ⟨S2048x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_23 : BitVec 32 := 0#32
  let arg1 : BitVec 32 := BitVec.ofNat 32 (i 1).val
  let v31 : BitVec 32 := Scalar.subi arg1 c0_i32_23
  let c1_i32 : BitVec 32 := 1#32
  let v33 : BitVec 32 := Scalar.divsi v31 c1_i32
  let v34 : BitVec 32 := Scalar.muli v33 c1_i32
  let v35 : BitVec 32 := Scalar.addi c0_i32_23 v34
  let c1_i32_24 : BitVec 32 := 1#32
  ⟨c0_i32_23, v35, c1_i32_24⟩
def k0_mult1 (i : grid0.Coords) (k0_t1 : Fin (k0_t1_loop i).trips) : BitVec 32 :=
  let c0_i32_23 : BitVec 32 := 0#32
  let c1_i32_24 : BitVec 32 := 1#32
  let arg12 : BitVec 32 := Scf.iv c0_i32_23 c1_i32_24 k0_t1
  let c256_i32_127 : BitVec 32 := 256#32
  let v363 : BitVec 32 := Scalar.muli arg12 c256_i32_127
  v363
def k0_off1 (i : grid0.Coords) (k0_t1 : Fin (k0_t1_loop i).trips) : Fin 2 → Nat :=
  let c0_i32_23 : BitVec 32 := 0#32
  let c1_i32_24 : BitVec 32 := 1#32
  let arg12 : BitVec 32 := Scf.iv c0_i32_23 c1_i32_24 k0_t1
  let c256_i32_127 : BitVec 32 := 256#32
  let v363 : BitVec 32 := Scalar.muli arg12 c256_i32_127
  let v364 : BitVec 32 := v363
  let v365 : Index := Scalar.indexCast v364
  let c0_128 : Index := 0#32
  ![v365.toNat, 0]
def k0_off2 (i : grid0.Coords) (k0_t1 : Fin (k0_t1_loop i).trips) : Fin 2 → Nat :=
  let c0_i32_23 : BitVec 32 := 0#32
  let c1_i32_24 : BitVec 32 := 1#32
  let arg12 : BitVec 32 := Scf.iv c0_i32_23 c1_i32_24 k0_t1
  let c256_i32_127 : BitVec 32 := 256#32
  let v363 : BitVec 32 := Scalar.muli arg12 c256_i32_127
  let v364 : BitVec 32 := v363
  let v440 : Index := Scalar.indexCast v364
  let c128_150 : Index := 128#32
  ![v440.toNat, 128]
def k0_off3 (i : grid0.Coords) (k0_t1 : Fin (k0_t1_loop i).trips) : Fin 2 → Nat :=
  let c0_i32_23 : BitVec 32 := 0#32
  let c1_i32_24 : BitVec 32 := 1#32
  let arg12 : BitVec 32 := Scf.iv c0_i32_23 c1_i32_24 k0_t1
  let c256_i32_127 : BitVec 32 := 256#32
  let v363 : BitVec 32 := Scalar.muli arg12 c256_i32_127
  let v364 : BitVec 32 := v363
  let v515 : Index := Scalar.indexCast v364
  let c256_172 : Index := 256#32
  ![v515.toNat, 256]
def k0_off4 (i : grid0.Coords) (k0_t1 : Fin (k0_t1_loop i).trips) : Fin 2 → Nat :=
  let c0_i32_23 : BitVec 32 := 0#32
  let c1_i32_24 : BitVec 32 := 1#32
  let arg12 : BitVec 32 := Scf.iv c0_i32_23 c1_i32_24 k0_t1
  let c256_i32_127 : BitVec 32 := 256#32
  let v363 : BitVec 32 := Scalar.muli arg12 c256_i32_127
  let v364 : BitVec 32 := v363
  let v590 : Index := Scalar.indexCast v364
  let c384_194 : Index := 384#32
  ![v590.toNat, 384]
@[reducible] def k0_t2_loop (i : grid0.Coords) : Scf.Loop 32 :=
  let c0_i32_23 : BitVec 32 := 0#32
  let arg1 : BitVec 32 := BitVec.ofNat 32 (i 1).val
  let v31 : BitVec 32 := Scalar.subi arg1 c0_i32_23
  let c1_i32 : BitVec 32 := 1#32
  let v33 : BitVec 32 := Scalar.divsi v31 c1_i32
  let v34 : BitVec 32 := Scalar.muli v33 c1_i32
  let v35 : BitVec 32 := Scalar.addi c0_i32_23 v34
  let v32 : BitVec 32 := Scalar.addi c0_i32_23 v31
  let c1_i32_25 : BitVec 32 := 1#32
  ⟨v35, v32, c1_i32_25⟩
def k0_mult2 (i : grid0.Coords) (k0_t2 : Fin (k0_t2_loop i).trips) : BitVec 32 :=
  let c0_i32_23 : BitVec 32 := 0#32
  let arg1 : BitVec 32 := BitVec.ofNat 32 (i 1).val
  let v31 : BitVec 32 := Scalar.subi arg1 c0_i32_23
  let c1_i32 : BitVec 32 := 1#32
  let v33 : BitVec 32 := Scalar.divsi v31 c1_i32
  let v34 : BitVec 32 := Scalar.muli v33 c1_i32
  let v35 : BitVec 32 := Scalar.addi c0_i32_23 v34
  let c1_i32_25 : BitVec 32 := 1#32
  let arg12 : BitVec 32 := Scf.iv v35 c1_i32_25 k0_t2
  let c256_i32_127 : BitVec 32 := 256#32
  let v363 : BitVec 32 := Scalar.muli arg12 c256_i32_127
  v363
def k0_off5 (i : grid0.Coords) (k0_t2 : Fin (k0_t2_loop i).trips) : Fin 2 → Nat :=
  let c0_i32_23 : BitVec 32 := 0#32
  let arg1 : BitVec 32 := BitVec.ofNat 32 (i 1).val
  let v31 : BitVec 32 := Scalar.subi arg1 c0_i32_23
  let c1_i32 : BitVec 32 := 1#32
  let v33 : BitVec 32 := Scalar.divsi v31 c1_i32
  let v34 : BitVec 32 := Scalar.muli v33 c1_i32
  let v35 : BitVec 32 := Scalar.addi c0_i32_23 v34
  let c1_i32_25 : BitVec 32 := 1#32
  let arg12 : BitVec 32 := Scf.iv v35 c1_i32_25 k0_t2
  let c256_i32_127 : BitVec 32 := 256#32
  let v363 : BitVec 32 := Scalar.muli arg12 c256_i32_127
  let v364 : BitVec 32 := v363
  let v365 : Index := Scalar.indexCast v364
  let c0_128 : Index := 0#32
  ![v365.toNat, 0]
def k0_off6 (i : grid0.Coords) (k0_t2 : Fin (k0_t2_loop i).trips) : Fin 2 → Nat :=
  let c0_i32_23 : BitVec 32 := 0#32
  let arg1 : BitVec 32 := BitVec.ofNat 32 (i 1).val
  let v31 : BitVec 32 := Scalar.subi arg1 c0_i32_23
  let c1_i32 : BitVec 32 := 1#32
  let v33 : BitVec 32 := Scalar.divsi v31 c1_i32
  let v34 : BitVec 32 := Scalar.muli v33 c1_i32
  let v35 : BitVec 32 := Scalar.addi c0_i32_23 v34
  let c1_i32_25 : BitVec 32 := 1#32
  let arg12 : BitVec 32 := Scf.iv v35 c1_i32_25 k0_t2
  let c256_i32_127 : BitVec 32 := 256#32
  let v363 : BitVec 32 := Scalar.muli arg12 c256_i32_127
  let v364 : BitVec 32 := v363
  let v440 : Index := Scalar.indexCast v364
  let c128_150 : Index := 128#32
  ![v440.toNat, 128]
def k0_off7 (i : grid0.Coords) (k0_t2 : Fin (k0_t2_loop i).trips) : Fin 2 → Nat :=
  let c0_i32_23 : BitVec 32 := 0#32
  let arg1 : BitVec 32 := BitVec.ofNat 32 (i 1).val
  let v31 : BitVec 32 := Scalar.subi arg1 c0_i32_23
  let c1_i32 : BitVec 32 := 1#32
  let v33 : BitVec 32 := Scalar.divsi v31 c1_i32
  let v34 : BitVec 32 := Scalar.muli v33 c1_i32
  let v35 : BitVec 32 := Scalar.addi c0_i32_23 v34
  let c1_i32_25 : BitVec 32 := 1#32
  let arg12 : BitVec 32 := Scf.iv v35 c1_i32_25 k0_t2
  let c256_i32_127 : BitVec 32 := 256#32
  let v363 : BitVec 32 := Scalar.muli arg12 c256_i32_127
  let v364 : BitVec 32 := v363
  let v515 : Index := Scalar.indexCast v364
  let c256_172 : Index := 256#32
  ![v515.toNat, 256]
def k0_off8 (i : grid0.Coords) (k0_t2 : Fin (k0_t2_loop i).trips) : Fin 2 → Nat :=
  let c0_i32_23 : BitVec 32 := 0#32
  let arg1 : BitVec 32 := BitVec.ofNat 32 (i 1).val
  let v31 : BitVec 32 := Scalar.subi arg1 c0_i32_23
  let c1_i32 : BitVec 32 := 1#32
  let v33 : BitVec 32 := Scalar.divsi v31 c1_i32
  let v34 : BitVec 32 := Scalar.muli v33 c1_i32
  let v35 : BitVec 32 := Scalar.addi c0_i32_23 v34
  let c1_i32_25 : BitVec 32 := 1#32
  let arg12 : BitVec 32 := Scf.iv v35 c1_i32_25 k0_t2
  let c256_i32_127 : BitVec 32 := 256#32
  let v363 : BitVec 32 := Scalar.muli arg12 c256_i32_127
  let v364 : BitVec 32 := v363
  let v590 : Index := Scalar.indexCast v364
  let c384_194 : Index := 384#32
  ![v590.toNat, 384]
def k0_mult3 (i : grid0.Coords) : BitVec 32 :=
  let arg1 : BitVec 32 := BitVec.ofNat 32 (i 1).val
  let c256_i32 : BitVec 32 := 256#32
  let v38 : BitVec 32 := Scalar.muli arg1 c256_i32
  v38
def k0_off9 (i : grid0.Coords) : Fin 2 → Nat :=
  let arg1 : BitVec 32 := BitVec.ofNat 32 (i 1).val
  let c256_i32 : BitVec 32 := 256#32
  let v38 : BitVec 32 := Scalar.muli arg1 c256_i32
  let v39 : BitVec 32 := v38
  let v40 : Index := Scalar.indexCast v39
  let c0_26 : Index := 0#32
  ![v40.toNat, 0]
def k0_off10 (i : grid0.Coords) : Fin 2 → Nat :=
  let arg1 : BitVec 32 := BitVec.ofNat 32 (i 1).val
  let c256_i32 : BitVec 32 := 256#32
  let v38 : BitVec 32 := Scalar.muli arg1 c256_i32
  let v39 : BitVec 32 := v38
  let v118 : Index := Scalar.indexCast v39
  let c128_49 : Index := 128#32
  ![v118.toNat, 128]
def k0_off11 (i : grid0.Coords) : Fin 2 → Nat :=
  let arg1 : BitVec 32 := BitVec.ofNat 32 (i 1).val
  let c256_i32 : BitVec 32 := 256#32
  let v38 : BitVec 32 := Scalar.muli arg1 c256_i32
  let v39 : BitVec 32 := v38
  let v196 : Index := Scalar.indexCast v39
  let c256_72 : Index := 256#32
  ![v196.toNat, 256]
def k0_off12 (i : grid0.Coords) : Fin 2 → Nat :=
  let arg1 : BitVec 32 := BitVec.ofNat 32 (i 1).val
  let c256_i32 : BitVec 32 := 256#32
  let v38 : BitVec 32 := Scalar.muli arg1 c256_i32
  let v39 : BitVec 32 := v38
  let v274 : Index := Scalar.indexCast v39
  let c384_95 : Index := 384#32
  ![v274.toNat, 384]
def k0_cond2 (i : grid0.Coords) : BitVec 1 :=
  let arg1 : BitVec 32 := BitVec.ofNat 32 (i 1).val
  let c7_i32 : BitVec 32 := 7#32
  let v360 : BitVec 1 := Scalar.cmpi .eq arg1 c7_i32
  let v361 : BitVec 32 := Scalar.extui v360
  let c0_i32_126 : BitVec 32 := 0#32
  let v362 : BitVec 1 := Scalar.cmpi .ne v361 c0_i32_126
  v362

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x6144 : Shape := ⟨2, ![2048, 6144]⟩
abbrev S2048x2048 : Shape := ⟨2, ![2048, 2048]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x128x2048 : Shape := ⟨3, ![8, 128, 2048]⟩

abbrev nBuf : Space → Nat
  | .hbm => 183
  | .vmem => 0
  | .smem => 0
  | _ => 0

abbrev hbmTy0_0 (i : Nat) : BufTy := match i % 128 with
  | 0 => ⟨S2048x6144, .bf16⟩
  | 1 => ⟨S2048x2048, .bf16⟩
  | 2 => ⟨S2048x6144, .f32⟩
  | 3 => ⟨S2048x1024, .f32⟩
  | 4 => ⟨S2048x1024, .f32⟩
  | 5 => ⟨S2048x1024, .f32⟩
  | 6 => ⟨S2048x8x128, .f32⟩
  | 7 => ⟨S8x2048x128, .f32⟩
  | 8 => ⟨S2048x8x128, .f32⟩
  | 9 => ⟨S8x2048x128, .f32⟩
  | 10 => ⟨S8x2048x2048, .f32⟩
  | 11 => ⟨S_, .f32⟩
  | 12 => ⟨S8x2048x2048, .f32⟩
  | 13 => ⟨S8x2048x2048, .f32⟩
  | 14 => ⟨S2048, .i32⟩
  | 15 => ⟨S1x2048, .i32⟩
  | 16 => ⟨S2048x1, .i32⟩
  | 17 => ⟨S2048x2048, .i32⟩
  | 18 => ⟨S2048x2048, .i32⟩
  | 19 => ⟨S2048x2048, .i1⟩
  | 20 => ⟨S8x2048x2048, .f32⟩
  | 21 => ⟨S8x2048x2048, .f32⟩
  | 22 => ⟨S_, .f32⟩
  | 23 => ⟨S8x2048x2048, .f32⟩
  | 24 => ⟨S8x2048x2048, .f32⟩
  | 25 => ⟨S8x2048x2048, .f32⟩
  | 26 => ⟨S8x2048x2048, .f32⟩
  | 27 => ⟨S8x2048x2048, .i1⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .i1⟩
  | 39 => ⟨S_, .f32⟩
  | 40 => ⟨S8x2048x2048, .f32⟩
  | 41 => ⟨S8x2048x2048, .f32⟩
  | 42 => ⟨S_, .f32⟩
  | 43 => ⟨S8x2048x2048, .f32⟩
  | 44 => ⟨S8x2048x2048, .i1⟩
  | 45 => ⟨S_, .f32⟩
  | 46 => ⟨S8x2048x2048, .f32⟩
  | 47 => ⟨S8x2048x2048, .f32⟩
  | 48 => ⟨S8x2048x2048, .f32⟩
  | 49 => ⟨S8x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x2048x2048, .f32⟩
  | 58 => ⟨S8x2048x2048, .i1⟩
  | 59 => ⟨S_, .f32⟩
  | 60 => ⟨S8x2048x2048, .f32⟩
  | 61 => ⟨S8x2048x2048, .f32⟩
  | 62 => ⟨S8x2048x2048, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x2048, .f32⟩
  | 69 => ⟨S_, .f32⟩
  | 70 => ⟨S_, .f32⟩
  | 71 => ⟨S8x2048x2048, .i1⟩
  | 72 => ⟨S8x2048x2048, .f32⟩
  | 73 => ⟨S8x2048x2048, .f32⟩
  | 74 => ⟨S_, .f32⟩
  | 75 => ⟨S8x2048x2048, .f32⟩
  | 76 => ⟨S_, .f32⟩
  | 77 => ⟨S_, .f32⟩
  | 78 => ⟨S8x2048x2048, .f32⟩
  | 79 => ⟨S8x2048x2048, .f32⟩
  | 80 => ⟨S8x2048x2048, .f32⟩
  | 81 => ⟨S_, .f32⟩
  | 82 => ⟨S8x2048x2048, .f32⟩
  | 83 => ⟨S8x2048x2048, .f32⟩
  | 84 => ⟨S8x2048x2048, .f32⟩
  | 85 => ⟨S8x2048x2048, .f32⟩
  | 86 => ⟨S8x2048x2048, .i1⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S_, .f32⟩
  | 96 => ⟨S8x2048x2048, .f32⟩
  | 97 => ⟨S8x2048x2048, .i1⟩
  | 98 => ⟨S_, .f32⟩
  | 99 => ⟨S8x2048x2048, .f32⟩
  | 100 => ⟨S8x2048x2048, .f32⟩
  | 101 => ⟨S_, .f32⟩
  | 102 => ⟨S8x2048x2048, .f32⟩
  | 103 => ⟨S8x2048x2048, .i1⟩
  | 104 => ⟨S_, .f32⟩
  | 105 => ⟨S8x2048x2048, .f32⟩
  | 106 => ⟨S8x2048x2048, .f32⟩
  | 107 => ⟨S8x2048x2048, .f32⟩
  | 108 => ⟨S8x2048x2048, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S8x2048x2048, .f32⟩
  | 117 => ⟨S8x2048x2048, .i1⟩
  | 118 => ⟨S_, .f32⟩
  | 119 => ⟨S8x2048x2048, .f32⟩
  | 120 => ⟨S8x2048x2048, .f32⟩
  | 121 => ⟨S8x2048x2048, .f32⟩
  | 122 => ⟨S8x2048x2048, .f32⟩
  | 123 => ⟨S8x2048x2048, .f32⟩
  | 124 => ⟨S_, .f32⟩
  | 125 => ⟨S8x2048x2048, .f32⟩
  | 126 => ⟨S8x2048x2048, .f32⟩
  | 127 => ⟨S8x2048x2048, .f32⟩
  | _ => ⟨S2048x6144, .bf16⟩

abbrev hbmTy0_1 (i : Nat) : BufTy := match i % 128 with
  | 0 => ⟨S8x2048x2048, .f32⟩
  | 1 => ⟨S8x2048x2048, .f32⟩
  | 2 => ⟨S_, .f32⟩
  | 3 => ⟨S_, .f32⟩
  | 4 => ⟨S8x2048x2048, .i1⟩
  | 5 => ⟨S8x2048x2048, .f32⟩
  | 6 => ⟨S8x2048x2048, .f32⟩
  | 7 => ⟨S_, .f32⟩
  | 8 => ⟨S8x2048x2048, .f32⟩
  | 9 => ⟨S2048x8x128, .f32⟩
  | 10 => ⟨S8x2048x128, .f32⟩
  | 11 => ⟨S8x2048x128, .f32⟩
  | 12 => ⟨S2048x8x128, .f32⟩
  | 13 => ⟨S2048x1024, .f32⟩
  | 14 => ⟨S2048x1024, .bf16⟩
  | 15 => ⟨S2048x1024, .f32⟩
  | 16 => ⟨S2048x8x128, .f32⟩
  | 17 => ⟨S8x2048x128, .f32⟩
  | 18 => ⟨S8x128x2048, .f32⟩
  | 19 => ⟨S8x2048x128, .f32⟩
  | 20 => ⟨S8x2048x2048, .f32⟩
  | 21 => ⟨S2048x8x128, .f32⟩
  | 22 => ⟨S2048x1024, .f32⟩
  | 23 => ⟨S_, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S_, .f32⟩
  | 32 => ⟨S_, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .f32⟩
  | 46 => ⟨S8x2048x128, .f32⟩
  | 47 => ⟨S8x2048x128, .f32⟩
  | 48 => ⟨S2048x8x128, .f32⟩
  | 49 => ⟨S2048x1024, .f32⟩
  | 50 => ⟨S2048x8x128, .f32⟩
  | 51 => ⟨S2048x1024, .f32⟩
  | 52 => ⟨S2048x1024, .bf16⟩
  | 53 => ⟨S2048x1024, .bf16⟩
  | 54 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v22_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v22_2 : Ref sig .tc := ⟨.hbm, 126, rfl⟩
abbrev main_v22_0 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩

abbrev nD : Nat := 1
abbrev τ : Topo := Topo.v7x

variable {F : FTy → Type} [FloatOps F]
-- ==== UpDw.lean ====
abbrev S2048x2048 : Shape := ⟨2, ![2048, 2048]⟩
abbrev S2x2048x5632 : Shape := ⟨3, ![2, 2048, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2x2048x5632 : Shape := ⟨3, ![2, 2048, 5632]⟩
abbrev S_ : Shape := ⟨0, ![]⟩
abbrev S2048x11264 : Shape := ⟨2, ![2048, 11264]⟩
abbrev S1x2048x5632 : Shape := ⟨3, ![1, 2048, 5632]⟩
abbrev S2048x5632 : Shape := ⟨2, ![2048, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S2048x11264, .f32⟩
  | .hbm, ⟨4, _⟩ => ⟨S1x2048x5632, .bf16⟩
  | .hbm, ⟨5, _⟩ => ⟨S2048x5632, .bf16⟩
  | .hbm, ⟨6, _⟩ => ⟨S1x2048x5632, .bf16⟩
  | .hbm, ⟨7, _⟩ => ⟨S2048x5632, .bf16⟩
  | .hbm, ⟨8, _⟩ => ⟨S2048x11264, .bf16⟩
  | .hbm, ⟨9, _⟩ => ⟨S2048x2048, .f32⟩
  | .hbm, ⟨10, _⟩ => ⟨S2048x11264, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x2048, .f32⟩
  | .hbm, ⟨15, _⟩ => ⟨S2048x8x1408, .f32⟩
  | .hbm, ⟨16, _⟩ => ⟨S8x2048x1408, .f32⟩
  | .hbm, ⟨17, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== UpDx.lean ====
abbrev S2x2048x5632 : Shape := ⟨3, ![2, 2048, 5632]⟩
abbrev S8x2048x1408 : Shape := ⟨3, ![8, 2048, 1408]⟩
abbrev S2048x2048 : Shape := ⟨2, ![2048, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2x2048x5632 : Shape := ⟨3, ![2, 2048, 5632]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S2048x2048 : Shape := ⟨2, ![2048, 2048]⟩
abbrev S1x2048x5632 : Shape := ⟨3, ![1, 2048, 5632]⟩
abbrev S2048x5632 : Shape := ⟨2, ![2048, 5632]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S_, .f32⟩
  | .hbm, ⟨5, _⟩ => ⟨S2048x2048, .f32⟩
  | .hbm, ⟨6, _⟩ => ⟨S1x2048x5632, .bf16⟩
  | .hbm, ⟨7, _⟩ => ⟨S2048x5632, .bf16⟩
  | .hbm, ⟨8, _⟩ => ⟨S1x2048x5632, .bf16⟩
  | .hbm, ⟨9, _⟩ => ⟨S2048x5632, .bf16⟩
  | .hbm, ⟨10, _⟩ => ⟨S2048x11264, .bf16⟩
  | .hbm, ⟨11, _⟩ => ⟨S2048x11264, .f32⟩
  | .hbm, ⟨12, _⟩ => ⟨S2048x11264, .f32⟩
  | .hbm, ⟨13, _⟩ => ⟨S2048x11264, .f32⟩
  | .hbm, ⟨14, _⟩ => ⟨S11264x2048, .f32⟩
  | .hbm, ⟨15, _⟩ => ⟨S2048x11264, .f32⟩
  | .hbm, ⟨16, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S8x2048x1408 : Shape := ⟨3, ![8, 2048, 1408]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S2048x2048, .f32⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S1x2048, .f32⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== QkvDx.lean ====
abbrev S2048x6144 : Shape := ⟨2, ![2048, 6144]⟩
abbrev S6152x2048 : Shape := ⟨2, ![6152, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S6152x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S2048x6144 : Shape := ⟨2, ![2048, 6144]⟩
abbrev S6152x2048 : Shape := ⟨2, ![6152, 2048]⟩
abbrev S_ : Shape := ⟨0, ![]⟩
abbrev S2048x2048 : Shape := ⟨2, ![2048, 2048]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S6152x2048, .bf16⟩
  | .hbm, ⟨2, _⟩ => ⟨S_, .f32⟩
  | .hbm, ⟨3, _⟩ => ⟨S2048x2048, .f32⟩
  | .hbm, ⟨4, _⟩ => ⟨S6144x2048, .bf16⟩
  | .hbm, ⟨5, _⟩ => ⟨S2048x6144, .bf16⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S6144x2048, .f32⟩
  | .hbm, ⟨10, _⟩ => ⟨S2048x6144, .f32⟩
  | .hbm, ⟨11, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QkvDw.lean ====
abbrev S2048x6144 : Shape := ⟨2, ![2048, 6144]⟩
abbrev S2048x2048 : Shape := ⟨2, ![2048, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S2048x6144 : Shape := ⟨2, ![2048, 6144]⟩
abbrev S2048x2048 : Shape := ⟨2, ![2048, 2048]⟩
abbrev S_ : Shape := ⟨0, ![]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x2048, .f32⟩
  | .hbm, ⟨10, _⟩ => ⟨S6144x2048, .f32⟩
  | .hbm, ⟨11, _⟩ => ⟨S6144x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Qkv.lean ====
abbrev S2048x2048 : Shape := ⟨2, ![2048, 2048]⟩
abbrev S6152x2048 : Shape := ⟨2, ![6152, 2048]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S6152x2048, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S2048x2048 : Shape := ⟨2, ![2048, 2048]⟩
abbrev S6152x2048 : Shape := ⟨2, ![6152, 2048]⟩
abbrev S6144x2048 : Shape := ⟨2, ![6144, 2048]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S6152x2048, .bf16⟩
  | .hbm, ⟨2, _⟩ => ⟨S2048x2048, .f32⟩
  | .hbm, ⟨3, _⟩ => ⟨S6144x2048, .bf16⟩
  | .hbm, ⟨4, _⟩ => ⟨S2048x6144, .bf16⟩
  | .hbm, ⟨5, _⟩ => ⟨S2048x6144, .f32⟩
  | .hbm, ⟨6, _⟩ => ⟨S2048x6144, .f32⟩
  | .hbm, ⟨7, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== PoolBwd.lean ====
abbrev S2048x2048 : Shape := ⟨2, ![2048, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x512, .bf16⟩
  | .hbm, ⟨3, _⟩ => ⟨S2048x2048, .f32⟩
  | .hbm, ⟨4, _⟩ => ⟨S4x512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x512, .f32⟩
  | .local _ .vmem, ⟨7, _⟩ => ⟨S1024x512, .f32⟩
  | .local _ .vmem, ⟨8, _⟩ => ⟨S1x512x512, .bf16⟩
  | .local _ .vmem, ⟨9, _⟩ => ⟨S1x512x512, .bf16⟩
  | .local _ .vmem, ⟨10, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_14 : BitVec 32 := 0#32
  let v17 : BitVec 1 := Scalar.cmpi .ne v16 c0_i32_14
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PoolBwdRefIdeal.lean ====
abbrev S2048x2048 : Shape := ⟨2, ![2048, 2048]⟩
abbrev S4x512x512 : Shape := ⟨3, ![4, 512, 512]⟩
abbrev S2048x4x512 : Shape := ⟨3, ![2048, 4, 512]⟩
abbrev S4x512x2048 : Shape := ⟨3, ![4, 512, 2048]⟩
abbrev S4x2048x512 : Shape := ⟨3, ![4, 2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x512, .bf16⟩
  | .hbm, ⟨3, _⟩ => ⟨S2048x2048, .f32⟩
  | .hbm, ⟨4, _⟩ => ⟨S4x512x512, .f32⟩
  | .hbm, ⟨5, _⟩ => ⟨S2048x4x512, .f32⟩
  | .hbm, ⟨6, _⟩ => ⟨S4x512x2048, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x4x512, .f32⟩
  | .hbm, ⟨11, _⟩ => ⟨S4x512x2048, .f32⟩
  | .hbm, ⟨12, _⟩ => ⟨S4x2048x512, .f32⟩
  | .hbm, ⟨13, _⟩ => ⟨S2048x4x512, .f32⟩
  | .hbm, ⟨14, _⟩ => ⟨S4x512x512, .f32⟩
  | .hbm, ⟨15, _⟩ => ⟨S4x512x512, .f32⟩
  | .hbm, ⟨16, _⟩ => ⟨S2048x2048, .f32⟩
  | .hbm, ⟨17, _⟩ => ⟨S4x512x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Pool.lean ====
abbrev S2048x2048 : Shape := ⟨2, ![2048, 2048]⟩
abbrev S4x512x512 : Shape := ⟨3, ![4, 512, 512]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolRefIdeal.lean ====
abbrev S2048x2048 : Shape := ⟨2, ![2048, 2048]⟩
abbrev S4x512x512 : Shape := ⟨3, ![4, 512, 512]⟩
abbrev S1x2048 : Shape := ⟨2, ![1, 2048]⟩
abbrev S2048x4x512 : Shape := ⟨3, ![2048, 4, 512]⟩
abbrev S4x512x2048 : Shape := ⟨3, ![4, 512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S4x512x512, .f32⟩
  | .hbm, ⟨6, _⟩ => ⟨S2048x4x512, .f32⟩
  | .hbm, ⟨7, _⟩ => ⟨S4x512x2048, .f32⟩
  | .hbm, ⟨8, _⟩ => ⟨S2048x4x512, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Fox.lean ====
abbrev S2048x6144 : Shape := ⟨2, ![2048, 6144]⟩
abbrev S2048x2048 : Shape := ⟨2, ![2048, 2048]⟩
abbrev S8x2048 : Shape := ⟨2, ![8, 2048]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048x1 : Shape := ⟨3, ![8, 2048, 1]⟩
abbrev S8x1x2048 : Shape := ⟨3, ![8, 1, 2048]⟩
abbrev S8x8x1x256 : Shape := ⟨4, ![8, 8, 1, 256]⟩
abbrev S256x512 : Shape := ⟨2, ![256, 512]⟩
abbrev S2048x512 : Shape := ⟨2, ![2048, 512]⟩
abbrev S4x256x1 : Shape := ⟨3, ![4, 256, 1]⟩
abbrev S4x8x1x256 : Shape := ⟨4, ![4, 8, 1, 256]⟩
abbrev S256x256 : Shape := ⟨2, ![256, 256]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S1x1x1x256 : Shape := ⟨4, ![1, 1, 1, 256]⟩
abbrev S1x256 : Shape := ⟨2, ![1, 256]⟩

abbrev nBuf : Space → Nat
  | .hbm => 105
  | .vmem => 27
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S8x2048, .f32⟩
  | .hbm, ⟨3, _⟩ => ⟨S2048x6144, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x8x128, .f32⟩
  | .hbm, ⟨8, _⟩ => ⟨S8x2048x128, .f32⟩
  | .hbm, ⟨9, _⟩ => ⟨S2048x8x128, .f32⟩
  | .hbm, ⟨10, _⟩ => ⟨S8x2048x128, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S2048x8x128, .f32⟩
  | .hbm, ⟨50, _⟩ => ⟨S8x2048x128, .f32⟩
  | .hbm, ⟨51, _⟩ => ⟨S2048x8x128, .f32⟩
  | .hbm, ⟨52, _⟩ => ⟨S8x2048x128, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S2048, .i32⟩
  | .hbm, ⟨58, _⟩ => ⟨S1x2048, .i32⟩
  | .hbm, ⟨59, _⟩ => ⟨S2048x1, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S2048, .i32⟩
  | .hbm, ⟨64, _⟩ => ⟨S1x2048, .i32⟩
  | .hbm, ⟨65, _⟩ => ⟨S2048x1, .i32⟩
  | .hbm, ⟨66, _⟩ => ⟨S2048x2048, .i32⟩
  | .hbm, ⟨67, _⟩ => ⟨S2048x2048, .i32⟩
  | .hbm, ⟨68, _⟩ => ⟨S2048x2048, .i1⟩
  | .hbm, ⟨69, _⟩ => ⟨S8x2048x1, .f32⟩
  | .hbm, ⟨70, _⟩ => ⟨S8x2048x2048, .f32⟩
  | .hbm, ⟨71, _⟩ => ⟨S8x2048x2048, .f32⟩
  | .hbm, ⟨72, _⟩ => ⟨S8x1x2048, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S_, .f32⟩
  | .hbm, ⟨77, _⟩ => ⟨S8x2048x2048, .i1⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048, .f32⟩
  | .hbm, ⟨82, _⟩ => ⟨S_, .f32⟩
  | .hbm, ⟨83, _⟩ => ⟨S8x2048, .f32⟩
  | .hbm, ⟨84, _⟩ => ⟨S8x2048, .f32⟩
  | .hbm, ⟨85, _⟩ => ⟨S8x2048x1, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S_, .f32⟩
  | .hbm, ⟨90, _⟩ => ⟨S8x2048, .f32⟩
  | .hbm, ⟨91, _⟩ => ⟨S8x2048x1, .f32⟩
  | .hbm, ⟨92, _⟩ => ⟨S8x2048x2048, .f32⟩
  | .hbm, ⟨93, _⟩ => ⟨S8x2048x2048, .f32⟩
  | .hbm, ⟨94, _⟩ => ⟨S2048x8x128, .f32⟩
  | .hbm, ⟨95, _⟩ => ⟨S8x2048x128, .f32⟩
  | .hbm, ⟨96, _⟩ => ⟨S8x2048x128, .f32⟩
  | .hbm, ⟨97, _⟩ => ⟨S2048x8x128, .f32⟩
  | .hbm, ⟨98, _⟩ => ⟨S2048x1024, .f32⟩
  | .hbm, ⟨99, _⟩ => ⟨S8x2048x1, .f32⟩
  | .hbm, ⟨100, _⟩ => ⟨S8x8x1x256, .f32⟩
  | .hbm, ⟨101, _⟩ => ⟨S2048x1024, .bf16⟩
  | .hbm, ⟨102, _⟩ => ⟨S2048x1024, .bf16⟩
  | .hbm, ⟨103, _⟩ => ⟨S2048x1024, .bf16⟩
  | .hbm, ⟨104, _⟩ => ⟨S8x8x1x256, .f32⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S4x256x1, .f32⟩
  | .local _ .vmem, ⟨11, _⟩ => ⟨S4x256x1, .f32⟩
  | .local _ .vmem, ⟨12, _⟩ => ⟨S4x8x1x256, .f32⟩
  | .local _ .vmem, ⟨13, _⟩ => ⟨S4x8x1x256, .f32⟩
  | .local _ .vmem, ⟨14, _⟩ => ⟨S4x256x1, .f32⟩
  | .local _ .vmem, ⟨15, _⟩ => ⟨S4x256x1, .f32⟩
  | .local _ .vmem, ⟨16, _⟩ => ⟨S256x512, .bf16⟩
  | .local _ .vmem, ⟨17, _⟩ => ⟨S256x512, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S4x8x1x256, .f32⟩
  | .local _ .vmem, ⟨23, _⟩ => ⟨S4x8x1x256, .f32⟩
  | .local _ .vmem, ⟨24, _⟩ => ⟨S2048x512, .f32⟩
  | .local _ .vmem, ⟨25, _⟩ => ⟨S2048x512, .f32⟩
  | .local _ .vmem, ⟨26, _⟩ => ⟨S4x8x1x256, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_4 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83_0 : Ref sig .tc := ⟨.hbm, 101, rfl⟩
abbrev main_v83_1 : Ref sig .tc := ⟨.hbm, 102, rfl⟩
abbrev main_v83_2 : Ref sig .tc := ⟨.hbm, 103, rfl⟩
abbrev main_v83_3 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_47 : BitVec 32 := 1#32
  ⟨c0_i32_46, v58, c1_i32_47⟩
def k0_mult1 (i : grid0.Coords) (k0_t1 : Fin (k0_t1_loop i).trips) : BitVec 32 :=
  let c0_i32_46 : BitVec 32 := 0#32
  let c1_i32_47 : BitVec 32 := 1#32
  let arg17 : BitVec 32 := Scf.iv c0_i32_46 c1_i32_47 k0_t1
  let c256_i32_154 : BitVec 32 := 256#32
  let v298 : BitVec 32 := Scalar.muli arg17 c256_i32_154
  v298
def k0_off1 (i : grid0.Coords) (k0_t1 : Fin (k0_t1_loop i).trips) : Fin 2 → Nat :=
  let c0_i32_46 : BitVec 32 := 0#32
  let c1_i32_47 : BitVec 32 := 1#32
  let arg17 : BitVec 32 := Scf.iv c0_i32_46 c1_i32_47 k0_t1
  let c256_i32_154 : BitVec 32 := 256#32
  let v298 : BitVec 32 := Scalar.muli arg17 c256_i32_154
  let v299 : BitVec 32 := v298
  let v300 : Index := Scalar.indexCast v299
  let c0_155 : Index := 0#32
  ![v300.toNat, 0]
def k0_off2 (i : grid0.Coords) (k0_t1 : Fin (k0_t1_loop i).trips) : Fin 4 → Nat :=
  let c0_159 : Index := 0#32
  let c0_i32_46 : BitVec 32 := 0#32
  let c1_i32_47 : BitVec 32 := 1#32
  let arg17 : BitVec 32 := Scf.iv c0_i32_46 c1_i32_47 k0_t1
  let v307 : Index := Scalar.indexCast arg17
  let c0_160 : Index := 0#32
  let c0_161 : Index := 0#32
  ![0, v307.toNat, 0, 0]
def k0_off3 (i : grid0.Coords) (k0_t1 : Fin (k0_t1_loop i).trips) : Fin 2 → Nat :=
  let c0_i32_46 : BitVec 32 := 0#32
  let c1_i32_47 : BitVec 32 := 1#32
  let arg17 : BitVec 32 := Scf.iv c0_i32_46 c1_i32_47 k0_t1
  let c256_i32_154 : BitVec 32 := 256#32
  let v298 : BitVec 32 := Scalar.muli arg17 c256_i32_154
  let v299 : BitVec 32 := v298
  let v353 : Index := Scalar.indexCast v299
  let c128_178 : Index := 128#32
  ![v353.toNat, 128]
def k0_off4 (i : grid0.Coords) (k0_t1 : Fin (k0_t1_loop i).trips) : Fin 4 → Nat :=
  let c1_182 : Index := 1#32
  let c0_i32_46 : BitVec 32 := 0#32
  let c1_i32_47 : BitVec 32 := 1#32
  let arg17 : BitVec 32 := Scf.iv c0_i32_46 c1_i32_47 k0_t1
  let v360 : Index := Scalar.indexCast arg17
  let c0_183 : Index := 0#32
  let c0_184 : Index := 0#32
  ![1, v360.toNat, 0, 0]
def k0_off5 (i : grid0.Coords) (k0_t1 : Fin (k0_t1_loop i).trips) : Fin 2 → Nat :=
  let c0_i32_46 : BitVec 32 := 0#32
  let c1_i32_47 : BitVec 32 := 1#32
  let arg17 : BitVec 32 := Scf.iv c0_i32_46 c1_i32_47 k0_t1
  let c256_i32_154 : BitVec 32 := 256#32
  let v298 : BitVec 32 := Scalar.muli arg17 c256_i32_154
  let v299 : BitVec 32 := v298
  let v406 : Index := Scalar.indexCast v299
  let c256_201 : Index := 256#32
  ![v406.toNat, 256]
def k0_off6 (i : grid0.Coords) (k0_t1 : Fin (k0_t1_loop i).trips) : Fin 4 → Nat :=
  let c2_205 : Index := 2#32
  let c0_i32_46 : BitVec 32 := 0#32
  let c1_i32_47 : BitVec 32 := 1#32
  let arg17 : BitVec 32 := Scf.iv c0_i32_46 c1_i32_47 k0_t1
  let v413 : Index := Scalar.indexCast arg17
  let c0_206 : Index := 0#32
  let c0_207 : Index := 0#32
  ![2, v413.toNat, 0, 0]
def k0_off7 (i : grid0.Coords) (k0_t1 : Fin (k0_t1_loop i).trips) : Fin 2 → Nat :=
  let c0_i32_46 : BitVec 32 := 0#32
  let c1_i32_47 : BitVec 32 := 1#32
  let arg17 : BitVec 32 := Scf.iv c0_i32_46 c1_i32_47 k0_t1
  let c256_i32_154 : BitVec 32 := 256#32
  let v298 : BitVec 32 := Scalar.muli arg17 c256_i32_154
  let v299 : BitVec 32 := v298
  let v459 : Index := Scalar.indexCast v299
  let c384_224 : Index := 384#32
  ![v459.toNat, 384]
def k0_off8 (i : grid0.Coords) (k0_t1 : Fin (k0_t1_loop i).trips) : Fin 4 → Nat :=
  let c3_228 : Index := 3#32
  let c0_i32_46 : BitVec 32 := 0#32
  let c1_i32_47 : BitVec 32 := 1#32
  let arg17 : BitVec 32 := Scf.iv c0_i32_46 c1_i32_47 k0_t1
  let v466 : Index := Scalar.indexCast arg17
  let c0_229 : Index := 0#32
  let c0_230 : Index := 0#32
  ![3, v466.toNat, 0, 0]
@[reducible] def k0_t2_loop (i : grid0.Coords) : Scf.Loop 32 :=
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let v55 : BitVec 32 := Scalar.addi c0_i32_46 v54
  let c1_i32_48 : BitVec 32 := 1#32
  ⟨v58, v55, c1_i32_48⟩
def k0_mult2 (i : grid0.Coords) (k0_t2 : Fin (k0_t2_loop i).trips) : BitVec 32 :=
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let c256_i32_154 : BitVec 32 := 256#32
  let v298 : BitVec 32 := Scalar.muli arg17 c256_i32_154
  v298
def k0_off9 (i : grid0.Coords) (k0_t2 : Fin (k0_t2_loop i).trips) : Fin 2 → Nat :=
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let c256_i32_154 : BitVec 32 := 256#32
  let v298 : BitVec 32 := Scalar.muli arg17 c256_i32_154
  let v299 : BitVec 32 := v298
  let v300 : Index := Scalar.indexCast v299
  let c0_155 : Index := 0#32
  ![v300.toNat, 0]
def k0_off10 (i : grid0.Coords) (k0_t2 : Fin (k0_t2_loop i).trips) : Fin 4 → Nat :=
  let c0_159 : Index := 0#32
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let v307 : Index := Scalar.indexCast arg17
  let c0_160 : Index := 0#32
  let c0_161 : Index := 0#32
  ![0, v307.toNat, 0, 0]
def k0_off11 (i : grid0.Coords) (k0_t2 : Fin (k0_t2_loop i).trips) : Fin 2 → Nat :=
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let c256_i32_154 : BitVec 32 := 256#32
  let v298 : BitVec 32 := Scalar.muli arg17 c256_i32_154
  let v299 : BitVec 32 := v298
  let v353 : Index := Scalar.indexCast v299
  let c128_178 : Index := 128#32
  ![v353.toNat, 128]
def k0_off12 (i : grid0.Coords) (k0_t2 : Fin (k0_t2_loop i).trips) : Fin 4 → Nat :=
  let c1_182 : Index := 1#32
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let v360 : Index := Scalar.indexCast arg17
  let c0_183 : Index := 0#32
  let c0_184 : Index := 0#32
  ![1, v360.toNat, 0, 0]
def k0_off13 (i : grid0.Coords) (k0_t2 : Fin (k0_t2_loop i).trips) : Fin 2 → Nat :=
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let c256_i32_154 : BitVec 32 := 256#32
  let v298 : BitVec 32 := Scalar.muli arg17 c256_i32_154
  let v299 : BitVec 32 := v298
  let v406 : Index := Scalar.indexCast v299
  let c256_201 : Index := 256#32
  ![v406.toNat, 256]
def k0_off14 (i : grid0.Coords) (k0_t2 : Fin (k0_t2_loop i).trips) : Fin 4 → Nat :=
  let c2_205 : Index := 2#32
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let v413 : Index := Scalar.indexCast arg17
  let c0_206 : Index := 0#32
  let c0_207 : Index := 0#32
  ![2, v413.toNat, 0, 0]
def k0_off15 (i : grid0.Coords) (k0_t2 : Fin (k0_t2_loop i).trips) : Fin 2 → Nat :=
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let c256_i32_154 : BitVec 32 := 256#32
  let v298 : BitVec 32 := Scalar.muli arg17 c256_i32_154
  let v299 : BitVec 32 := v298
  let v459 : Index := Scalar.indexCast v299
  let c384_224 : Index := 384#32
  ![v459.toNat, 384]
def k0_off16 (i : grid0.Coords) (k0_t2 : Fin (k0_t2_loop i).trips) : Fin 4 → Nat :=
  let c3_228 : Index := 3#32
  let c0_i32_46 : BitVec 32 := 0#32
  let arg1 : BitVec 32 := BitVec.ofNat 32 (i 1).val
  let v54 : BitVec 32 := Scalar.subi arg1 c0_i32_46
  let c1_i32 : BitVec 32 := 1#32
  let v56 : BitVec 32 := Scalar.divsi v54 c1_i32
  let v57 : BitVec 32 := Scalar.muli v56 c1_i32
  let v58 : BitVec 32 := Scalar.addi c0_i32_46 v57
  let c1_i32_48 : BitVec 32 := 1#32
  let arg17 : BitVec 32 := Scf.iv v58 c1_i32_48 k0_t2
  let v466 : Index := Scalar.indexCast arg17
  let c0_229 : Index := 0#32
  let c0_230 : Index := 0#32
  ![3, v466.toNat, 0, 0]
def k0_mult3 (i : grid0.Coords) : BitVec 32 :=
  let arg1 : BitVec 32 := BitVec.ofNat 32 (i 1).val
  let c256_i32 : BitVec 32 := 256#32
  let v61 : BitVec 32 := Scalar.muli arg1 c256_i32
  v61
def k0_off17 (i : grid0.Coords) : Fin 2 → Nat :=
  let arg1 : BitVec 32 := BitVec.ofNat 32 (i 1).val
  let c256_i32 : BitVec 32 := 256#32
  let v61 : BitVec 32 := Scalar.muli arg1 c256_i32
  let v62 : BitVec 32 := v61
  let v63 : Index := Scalar.indexCast v62
  let c0_49 : Index := 0#32
  ![v63.toNat, 0]
def k0_off18 (i : grid0.Coords) : Fin 4 → Nat :=
  let c0_53 : Index := 0#32
  let arg1 : BitVec 32 := BitVec.ofNat 32 (i 1).val
  let v70 : Index := Scalar.indexCast arg1
  let c0_54 : Index := 0#32
  let c0_55 : Index := 0#32
  ![0, v70.toNat, 0, 0]
def k0_off19 (i : grid0.Coords) : Fin 2 → Nat :=
  let arg1 : BitVec 32 := BitVec.ofNat 32 (i 1).val
  let c256_i32 : BitVec 32 := 256#32
  let v61 : BitVec 32 := Scalar.muli arg1 c256_i32
  let v62 : BitVec 32 := v61
  let v119 : Index := Scalar.indexCast v62
  let c128_73 : Index := 128#32
  ![v119.toNat, 128]
def k0_off20 (i : grid0.Coords) : Fin 4 → Nat :=
  let c1_77 : Index := 1#32
  let arg1 : BitVec 32 := BitVec.ofNat 32 (i 1).val
  let v126 : Index := Scalar.indexCast arg1
  let c0_78 : Index := 0#32
  let c0_79 : Index := 0#32
  ![1, v126.toNat, 0, 0]
def k0_off21 (i : grid0.Coords) : Fin 2 → Nat :=
  let arg1 : BitVec 32 := BitVec.ofNat 32 (i 1).val
  let c256_i32 : BitVec 32 := 256#32
  let v61 : BitVec 32 := Scalar.muli arg1 c256_i32
  let v62 : BitVec 32 := v61
  let v175 : Index := Scalar.indexCast v62
  let c256_97 : Index := 256#32
  ![v175.toNat, 256]
def k0_off22 (i : grid0.Coords) : Fin 4 → Nat :=
  let c2_101 : Index := 2#32
  let arg1 : BitVec 32 := BitVec.ofNat 32 (i 1).val
  let v182 : Index := Scalar.indexCast arg1
  let c0_102 : Index := 0#32
  let c0_103 : Index := 0#32
  ![2, v182.toNat, 0, 0]
def k0_off23 (i : grid0.Coords) : Fin 2 → Nat :=
  let arg1 : BitVec 32 := BitVec.ofNat 32 (i 1).val
  let c256_i32 : BitVec 32 := 256#32
  let v61 : BitVec 32 := Scalar.muli arg1 c256_i32
  let v62 : BitVec 32 := v61
  let v231 : Index := Scalar.indexCast v62
  let c384_121 : Index := 384#32
  ![v231.toNat, 384]
def k0_off24 (i : grid0.Coords) : Fin 4 → Nat :=
  let c3_125 : Index := 3#32
  let arg1 : BitVec 32 := BitVec.ofNat 32 (i 1).val
  let v238 : Index := Scalar.indexCast arg1
  let c0_126 : Index := 0#32
  let c0_127 : Index := 0#32
  ![3, v238.toNat, 0, 0]
def k0_cond2 (i : grid0.Coords) : BitVec 1 :=
  let arg1 : BitVec 32 := BitVec.ofNat 32 (i 1).val
  let c7_i32 : BitVec 32 := 7#32
  let v295 : BitVec 1 := Scalar.cmpi .eq arg1 c7_i32
  let v296 : BitVec 32 := Scalar.extui v295
  let c0_i32_153 : BitVec 32 := 0#32
  let v297 : BitVec 1 := Scalar.cmpi .ne v296 c0_i32_153
  v297

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x8x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x8x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FoxRefIdeal.lean ====
abbrev S2048x6144 : Shape := ⟨2, ![2048, 6144]⟩
abbrev S2048x2048 : Shape := ⟨2, ![2048, 2048]⟩
abbrev S8x2048 : Shape := ⟨2, ![8, 2048]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048x1 : Shape := ⟨3, ![8, 2048, 1]⟩
abbrev S8x1x2048 : Shape := ⟨3, ![8, 1, 2048]⟩
abbrev S8x128x2048 : Shape := ⟨3, ![8, 128, 2048]⟩
abbrev S8x8x1x256 : Shape := ⟨4, ![8, 8, 1, 256]⟩

abbrev nBuf : Space → Nat
  | .hbm => 134
  | .vmem => 0
  | .smem => 0
  | _ => 0

abbrev hbmTy0_0 (i : Nat) : BufTy := match i % 128 with
  | 0 => ⟨S2048x6144, .bf16⟩
  | 1 => ⟨S2048x2048, .bf16⟩
  | 2 => ⟨S8x2048, .f32⟩
  | 3 => ⟨S2048x6144, .f32⟩
  | 4 => ⟨S2048x1024, .f32⟩
  | 5 => ⟨S2048x1024, .f32⟩
  | 6 => ⟨S2048x1024, .f32⟩
  | 7 => ⟨S2048x8x128, .f32⟩
  | 8 => ⟨S8x2048x128, .f32⟩
  | 9 => ⟨S2048x8x128, .f32⟩
  | 10 => ⟨S8x2048x128, .f32⟩
  | 11 => ⟨S8x2048x2048, .f32⟩
  | 12 => ⟨S_, .f32⟩
  | 13 => ⟨S8x2048x2048, .f32⟩
  | 14 => ⟨S8x2048x2048, .f32⟩
  | 15 => ⟨S2048, .i32⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S2048, .i32⟩
  | 22 => ⟨S1x2048, .i32⟩
  | 23 => ⟨S2048x1, .i32⟩
  | 24 => ⟨S2048x2048, .i32⟩
  | 25 => ⟨S2048x2048, .i32⟩
  | 26 => ⟨S2048x2048, .i1⟩
  | 27 => ⟨S8x2048x1, .f32⟩
  | 28 => ⟨S8x2048x2048, .f32⟩
  | 29 => ⟨S8x2048x2048, .f32⟩
  | 30 => ⟨S8x1x2048, .f32⟩
  | 31 => ⟨S8x2048x2048, .f32⟩
  | 32 => ⟨S8x2048x2048, .f32⟩
  | 33 => ⟨S_, .f32⟩
  | 34 => ⟨S_, .f32⟩
  | 35 => ⟨S8x2048x2048, .i1⟩
  | 36 => ⟨S8x2048x2048, .f32⟩
  | 37 => ⟨S8x2048x2048, .f32⟩
  | 38 => ⟨S_, .f32⟩
  | 39 => ⟨S8x2048x2048, .f32⟩
  | 40 => ⟨S_, .f32⟩
  | 41 => ⟨S8x2048, .f32⟩
  | 42 => ⟨S8x2048x1, .f32⟩
  | 43 => ⟨S8x2048x2048, .f32⟩
  | 44 => ⟨S8x2048x2048, .i1⟩
  | 45 => ⟨S8x2048x2048, .f32⟩
  | 46 => ⟨S_, .f32⟩
  | 47 => ⟨S8x2048, .f32⟩
  | 48 => ⟨S_, .f32⟩
  | 49 => ⟨S8x2048, .f32⟩
  | 50 => ⟨S8x2048, .f32⟩
  | 51 => ⟨S_, .f32⟩
  | 52 => ⟨S8x2048, .f32⟩
  | 53 => ⟨S8x2048, .i1⟩
  | 54 => ⟨S_, .f32⟩
  | 55 => ⟨S8x2048, .f32⟩
  | 56 => ⟨S8x2048, .i1⟩
  | 57 => ⟨S_, .f32⟩
  | 58 => ⟨S8x2048, .f32⟩
  | 59 => ⟨S_, .f32⟩
  | 60 => ⟨S8x2048, .f32⟩
  | 61 => ⟨S_, .f32⟩
  | 62 => ⟨S8x2048, .f32⟩
  | 63 => ⟨S8x2048, .f32⟩
  | 64 => ⟨S8x2048, .f32⟩
  | 65 => ⟨S8x2048x1, .f32⟩
  | 66 => ⟨S8x2048x2048, .f32⟩
  | 67 => ⟨S8x2048x2048, .f32⟩
  | 68 => ⟨S8x2048x2048, .f32⟩
  | 69 => ⟨S_, .f32⟩
  | 70 => ⟨S8x2048, .f32⟩
  | 71 => ⟨S8x2048x1, .f32⟩
  | 72 => ⟨S8x2048x2048, .f32⟩
  | 73 => ⟨S8x2048x2048, .f32⟩
  | 74 => ⟨S8x2048x1, .f32⟩
  | 75 => ⟨S_, .f32⟩
  | 76 => ⟨S8x2048x1, .f32⟩
  | 77 => ⟨S8x2048x1, .f32⟩
  | 78 => ⟨S2048x8x128, .f32⟩
  | 79 => ⟨S8x2048x128, .f32⟩
  | 80 => ⟨S8x2048x128, .f32⟩
  | 81 => ⟨S2048x8x128, .f32⟩
  | 82 => ⟨S2048x1024, .f32⟩
  | 83 => ⟨S2048x1024, .bf16⟩
  | 84 => ⟨S2048x1024, .f32⟩
  | 85 => ⟨S2048x8x128, .f32⟩
  | 86 => ⟨S8x2048x128, .f32⟩
  | 87 => ⟨S8x128x2048, .f32⟩
  | 88 => ⟨S8x2048x128, .f32⟩
  | 89 => ⟨S8x2048x2048, .f32⟩
  | 90 => ⟨S2048x8x128, .f32⟩
  | 91 => ⟨S2048x1024, .f32⟩
  | 92 => ⟨S8x2048x2048, .f32⟩
  | 93 => ⟨S8x2048x2048, .f32⟩
  | 94 => ⟨S8x2048x2048, .f32⟩
  | 95 => ⟨S_, .f32⟩
  | 96 => ⟨S8x2048, .f32⟩
  | 97 => ⟨S8x2048x1, .f32⟩
  | 98 => ⟨S8x2048x1, .f32⟩
  | 99 => ⟨S8x2048x2048, .f32⟩
  | 100 => ⟨S8x2048x2048, .f32⟩
  | 101 => ⟨S_, .f32⟩
  | 102 => ⟨S8x2048, .f32⟩
  | 103 => ⟨S8x2048x2048, .f32⟩
  | 104 => ⟨S8x2048x2048, .f32⟩
  | 105 => ⟨S8x2048x2048, .f32⟩
  | 106 => ⟨S_, .f32⟩
  | 107 => ⟨S8x2048x2048, .f32⟩
  | 108 => ⟨S8x2048x2048, .f32⟩
  | 109 => ⟨S8x2048x2048, .f32⟩
  | 110 => ⟨S_, .f32⟩
  | 111 => ⟨S8x2048, .f32⟩
  | 112 => ⟨S8x1x2048, .f32⟩
  | 113 => ⟨S_, .f32⟩
  | 114 => ⟨S8x2048, .f32⟩
  | 115 => ⟨S_, .f32⟩
  | 116 => ⟨S8x2048, .f32⟩
  | 117 => ⟨S8x2048x1, .f32⟩
  | 118 => ⟨S_, .f32⟩
  | 119 => ⟨S8x2048, .f32⟩
  | 120 => ⟨S8x2048, .f32⟩
  | 121 => ⟨S_, .f32⟩
  | 122 => ⟨S8x2048x2048, .f32⟩
  | 123 => ⟨S8x2048x2048, .f32⟩
  | 124 => ⟨S8x2048x128, .f32⟩
  | 125 => ⟨S8x2048x128, .f32⟩
  | 126 => ⟨S2048x8x128, .f32⟩
  | 127 => ⟨S2048x1024, .f32⟩
  | _ => ⟨S2048x6144, .bf16⟩

abbrev hbmTy0_1 (i : Nat) : BufTy := match i % 128 with
  | 0 => ⟨S2048x8x128, .f32⟩
  | 1 => ⟨S2048x1024, .f32⟩
  | 2 => ⟨S2048x1024, .bf16⟩
  | 3 => ⟨S2048x1024, .bf16⟩
  | 4 => ⟨S2048x1024, .bf16⟩
  | 5 => ⟨S8x8x1x256, .f32⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_v29_1 : Ref sig .tc := ⟨.hbm, 35, rfl⟩
abbrev main_call0_v2 : Ref sig .tc := ⟨.hbm, 36, rfl⟩
abbrev main_v29_0 : Ref sig .tc := ⟨.hbm, 37, rfl⟩
abbrev main_call0_cst : Ref sig .tc := ⟨.hbm, 38, rfl⟩
abbrev main_v29_2 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call1_cst : Ref sig .tc := ⟨.hbm, 106, rfl⟩
abbrev main_call1_v0 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== Proof.Step.lean ====
/-
  One head's block of the kernel's body, as functions of vectors: the scores of a block of queries against a block of
  keys, the logarithms of the kept and of the passed share, the weight, the two gradients of the scores' block, and what
  the block adds to the carried row sums, to dq and to the accumulators of dk and dv. `N` marks a block left of the
  diagonal, `D` the block on it (where the mask `col < row` is applied).
-/
module

public import proofs.«01_k».proof.Proof.Gen.KernelIdeal.Skeleton

@[expose] public section

set_option maxRecDepth 16384

noncomputable section

namespace Cert.KernelIdeal.Step

open Cert.KernelIdeal Cert.KernelIdeal.Gen Idealize.ShloMosaic Idealize.ShloMosaic.TcCoe

variable {F : FTy → Type} [FloatOps F]

/-- The scores of a block: query rows against key rows, scaled. -/
def zV (q k : Vec F S256x128 .bf16) : FVec F S256x256 .f32 :=
  mulf (matmul dot_S256x128_S256x128_S256x256_1_1_0_0_n_n none q k (constant S256x256 .f32 0x00000000#32)) (broadcast S256x256 (Scalar.ofBits .f32 0x3DB504F3#32))

/-- The logarithm of the logistic function of the scores. -/
def lsV (z : FVec F S256x256 .f32) : FVec F S256x256 .f32 :=
  subf (minimumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- A product with a triangle of ones and zeros, in two parts: the narrowed left operand and what narrowing left out. -/
def dot2 (a : FVec F S256x256 .f32) (tri : FVec F S256x256 .bf16) : FVec F S256x256 .f32 :=
  addf (matmul dot_S256x256_S256x256_S256x256_1_0_0_1_n_n none (truncf .bf16 a bitsLt_bf16_f32) tri (constant S256x256 .f32 0x00000000#32))
    (matmul dot_S256x256_S256x256_S256x256_1_0_0_1_n_n none (truncf .bf16 (subf a (extf .f32 (truncf .bf16 a bitsLt_bf16_f32) bitsLt_bf16_f32)) bitsLt_bf16_f32) tri (constant S256x256 .f32 0x00000000#32))

/-- The weights, from the logarithms `ls` and `lr`, the rows' totals and the rows' sums so far. -/
def wV (incl : FVec F S256x256 .bf16) (ls lr : FVec F S256x256 .f32) (tot cl : FVec F S256x1 .f32) : FVec F S256x256 .f32 :=
  exp (addf ls (subf (broadcastTo S256x256 tot broadcasts_S256x1_S256x256) (addf (broadcastTo S256x256 cl broadcasts_S256x1_S256x256) (dot2 lr incl))))

/-- The gradient of the weights times the weights. -/
def gV (d v : Vec F S256x128 .bf16) (w : FVec F S256x256 .f32) : FVec F S256x256 .f32 :=
  mulf (matmul dot_S256x128_S256x128_S256x256_1_1_0_0_n_n none d v (constant S256x256 .f32 0x00000000#32)) w

/-- The gradient of the scores. -/
def dzV (strict : FVec F S256x256 .bf16) (g ls lr : FVec F S256x256 .f32) (cg : FVec F S256x1 .f32) : FVec F S256x256 .f32 :=
  subf (mulf g (exp lr)) (mulf (addf (broadcastTo S256x256 cg broadcasts_S256x1_S256x256) (dot2 g strict)) (exp ls))

/-- The gradient of the unscaled scores. -/
def dzbV (dz : FVec F S256x256 .f32) : FVec F S256x256 .bf16 :=
  truncf .bf16 (mulf dz (broadcast S256x256 (Scalar.ofBits .f32 0x3DB504F3#32))) bitsLt_bf16_f32

/-- A column sum per row, as a column. -/
def rowSum (c : FVec F S256x1 .f32) (a : FVec F S256x256 .f32) : FVec F S256x1 .f32 :=
  addf c (shapeCast S256x1 (multiReduction .add [1] S256 a 0x00000000#32 reduces_S256x256_S256 (.inl rfl) rfl) shapeCasts_S256_S256x1)

/-- What the block adds to its rows of an accumulator: the transposed product. -/
def accV (old : Vec F S256x128 .f32) (a : FVec F S256x256 .bf16) (x : Vec F S256x128 .bf16) : FVec F S256x128 .f32 :=
  shapeCast S256x128 (addf old (matmul dot_S256x256_S256x128_S256x128_0_0_1_1_n_n none a x (constant S256x128 .f32 0x00000000#32))) shapeCasts_S256x128_S256x128

/-- What the block adds to dq. -/
def dqV (old : FVec F S256x128 .f32) (a : FVec F S256x256 .bf16) (k : Vec F S256x128 .bf16) : FVec F S256x128 .f32 :=
  addf old (matmul dot_S256x256_S256x128_S256x128_1_0_0_1_n_n none a k (constant S256x128 .f32 0x00000000#32))

/-- Zero where the column is not before the row. -/
def maskV (v3 v4 : IVec S256x256 32) (a : FVec F S256x256 .f32) : FVec F S256x256 .f32 :=
  select (cmpi .slt v4 v3) a (broadcast S256x256 (Scalar.ofBits .f32 0x00000000#32))

/-! A block left of the diagonal. -/

def lrN (q k : Vec F S256x128 .bf16) : FVec F S256x256 .f32 := subf (lsV (zV q k)) (zV q k)
def wN (incl : FVec F S256x256 .bf16) (q k : Vec F S256x128 .bf16) (tot cl : FVec F S256x1 .f32) : FVec F S256x256 .f32 :=
  wV incl (lsV (zV q k)) (lrN q k) tot cl
def gN (incl : FVec F S256x256 .bf16) (q d k v : Vec F S256x128 .bf16) (tot cl : FVec F S256x1 .f32) : FVec F S256x256 .f32 :=
  gV d v (wN incl q k tot cl)
def dzN (incl strict : FVec F S256x256 .bf16) (q d k v : Vec F S256x128 .bf16) (tot cl cg : FVec F S256x1 .f32) : FVec F S256x256 .bf16 :=
  dzbV (dzV strict (gN incl q d k v tot cl) (lsV (zV q k)) (lrN q k) cg)

/-! The block on the diagonal. -/

def lrD (v3 v4 : IVec S256x256 32) (q k : Vec F S256x128 .bf16) : FVec F S256x256 .f32 := maskV v3 v4 (lrN q k)
def wD (v3 v4 : IVec S256x256 32) (incl : FVec F S256x256 .bf16) (q k : Vec F S256x128 .bf16) (tot cl : FVec F S256x1 .f32) : FVec F S256x256 .f32 :=
  maskV v3 v4 (wV incl (lsV (zV q k)) (lrD v3 v4 q k) tot cl)
def gD (v3 v4 : IVec S256x256 32) (incl : FVec F S256x256 .bf16) (q d k v : Vec F S256x128 .bf16) (tot cl : FVec F S256x1 .f32) : FVec F S256x256 .f32 :=
  gV d v (wD v3 v4 incl q k tot cl)
def dzD (v3 v4 : IVec S256x256 32) (incl strict : FVec F S256x256 .bf16) (q d k v : Vec F S256x128 .bf16) (tot cl cg : FVec F S256x1 .f32) : FVec F S256x256 .bf16 :=
  dzbV (maskV v3 v4 (dzV strict (gD v3 v4 incl q d k v tot cl) (lsV (zV q k)) (lrD v3 v4 q k) cg))

end Cert.KernelIdeal.Step

end

end
-- ==== Proof.Block.lean ====
/-
  One head's block over the reals: what the vectors of the kernel's step hold, at the ideal values, where what they are
  given is finite. `cv` is a matrix of reals as a vector of extended reals.
-/
module

public import proofs.«01_k».proof.Proof.Step
public import Idealize.ShloMosaic.Lib.WordCmp
public import Idealize.ShloMosaic.Lib.MatmulPlain
public import Idealize.ShloMosaic.Lib.ValueIdx
public import Idealize.ShloMosaic.Lib.ValueLayoutCasts
public import Idealize.ShloMosaic.Lib.Pipeline.Value
public import Idealize.ShloMosaic.Lib.Pointwise.Reduce
public import Idealize.ShloMosaic.PureOps.Ideal.Laws

@[expose] public section

set_option maxRecDepth 16384

noncomputable section

namespace Cert.KernelIdeal.Block

open Cert.KernelIdeal Cert.KernelIdeal.Gen Cert.KernelIdeal.Step Idealize.ShloMosaic Idealize.ShloMosaic.TcCoe
open Idealize.ShloMosaic.ValueIdx hiding ix2 eq_ix2 ix1 eq_ix1 ix0 eq_ix0
open scoped BigOperators

/-- A matrix of reals, rows and columns numbered from zero, as a vector of extended reals. -/
def cv (m n : ℕ) (A : ℕ → ℕ → ℝ) : (⟨2, ![m, n]⟩ : Shape).Idx → EReal := fun j => ((A (j 0).val (j 1).val : ℝ) : EReal)

theorem cv_congr {m n : ℕ} {A B : ℕ → ℕ → ℝ} (h : ∀ r c, r < m → c < n → A r c = B r c) : cv m n A = cv m n B :=
  funext fun j => congrArg _ (h _ _ (idx2_lt0 j) (idx2_lt1 j))

theorem coe_sum_fin {n : ℕ} (f : ℕ → ℝ) : (∑ k : Fin n, ((f k.val : ℝ) : EReal)) = ((∑ k ∈ Finset.range n, f k : ℝ) : EReal) := by
  rw [← Finset.sum_range fun k => ((f k : ℝ) : EReal)]
  induction n with
  | zero => simp
  | succ n ih => rw [Finset.sum_range_succ, Finset.sum_range_succ, EReal.coe_add, ← ih]

/-- The scale. -/
def sc : ℝ := (11863283 : ℝ) / 134217728

theorem ofBits_sc : (Ideal.ofBits .f32 0x3DB504F3#32 : EReal) = ((sc : ℝ) : EReal) := by
  simp [sc, Ideal.ofBits, Ideal.ieee, -EReal.coe_mul]; norm_num

theorem ofBits_zero : (Ideal.ofBits .f32 0x00000000#32 : EReal) = ((0 : ℝ) : EReal) := by
  simp [Ideal.ofBits, Ideal.ieee, -EReal.coe_mul]

theorem ofBits_one : (Ideal.ofBits .f32 0x3F800000#32 : EReal) = ((1 : ℝ) : EReal) := by
  simp [Ideal.ofBits, Ideal.ieee, -EReal.coe_mul]; norm_num

/-! The products. -/

theorem nt_cv {φ : FTy} (A B : ℕ → ℕ → ℝ) :
    matmul (F := Ideal) (φ₁ := φ) (φ₂ := φ) dot_S256x128_S256x128_S256x256_1_1_0_0_n_n none (cv 256 128 A : FVec Ideal S256x128 φ) (cv 256 128 B : FVec Ideal S256x128 φ) (constant S256x256 .f32 0x00000000#32)
      = cv 256 256 fun r c => ∑ k ∈ Finset.range 128, A r k * B c k := by
  funext j
  obtain ⟨r, c, rfl⟩ : ∃ r c, j = ValueIdx.ix2 r c := ⟨_, _, ValueIdx.eq_ix2 j⟩
  refine (Ideal.matmul_transposedRhs_apply (M := 256) (K := 128) (N := 256) none (cv 256 128 A) (cv 256 128 B) (constant S256x256 .f32 0x00000000#32) r c).trans ?_
  rw [constant_apply, ofBits_zero, EReal.coe_zero, zero_add]
  simp only [cv, ← EReal.coe_mul]
  exact coe_sum_fin fun k => A r.val k * B c.val k

theorem tri_cv {φ ψ : FTy} (A B : ℕ → ℕ → ℝ) :
    matmul (F := Ideal) (φ₁ := φ) (φ₂ := ψ) dot_S256x256_S256x256_S256x256_1_0_0_1_n_n none (cv 256 256 A : FVec Ideal S256x256 φ) (cv 256 256 B : FVec Ideal S256x256 ψ) (constant S256x256 .f32 0x00000000#32)
      = cv 256 256 fun r c => ∑ k ∈ Finset.range 256, A r k * B k c := by
  funext j
  obtain ⟨r, c, rfl⟩ : ∃ r c, j = ValueIdx.ix2 r c := ⟨_, _, ValueIdx.eq_ix2 j⟩
  refine (Ideal.matmul_plain_apply (M := 256) (K := 256) (N := 256) none (cv 256 256 A) (cv 256 256 B) (constant S256x256 .f32 0x00000000#32) r c).trans ?_
  rw [constant_apply, ofBits_zero, EReal.coe_zero, zero_add]
  simp only [cv, ← EReal.coe_mul]
  exact coe_sum_fin fun k => A r.val k * B k c.val

theorem nn_cv {φ ψ : FTy} (A B : ℕ → ℕ → ℝ) :
    matmul (F := Ideal) (φ₁ := φ) (φ₂ := ψ) dot_S256x256_S256x128_S256x128_1_0_0_1_n_n none (cv 256 256 A : FVec Ideal S256x256 φ) (cv 256 128 B : FVec Ideal S256x128 ψ) (constant S256x128 .f32 0x00000000#32)
      = cv 256 128 fun r c => ∑ k ∈ Finset.range 256, A r k * B k c := by
  funext j
  obtain ⟨r, c, rfl⟩ : ∃ r c, j = ValueIdx.ix2 r c := ⟨_, _, ValueIdx.eq_ix2 j⟩
  refine (Ideal.matmul_plain_apply (M := 256) (K := 256) (N := 128) none (cv 256 256 A) (cv 256 128 B) (constant S256x128 .f32 0x00000000#32) r c).trans ?_
  rw [constant_apply, ofBits_zero, EReal.coe_zero, zero_add]
  simp only [cv, ← EReal.coe_mul]
  exact coe_sum_fin fun k => A r.val k * B k c.val

theorem tn_cv {φ ψ : FTy} (A B : ℕ → ℕ → ℝ) :
    matmul (F := Ideal) (φ₁ := φ) (φ₂ := ψ) dot_S256x256_S256x128_S256x128_0_0_1_1_n_n none (cv 256 256 A : FVec Ideal S256x256 φ) (cv 256 128 B : FVec Ideal S256x128 ψ) (constant S256x128 .f32 0x00000000#32)
      = cv 256 128 fun r c => ∑ k ∈ Finset.range 256, A k r * B k c := by
  funext j
  obtain ⟨r, c, rfl⟩ : ∃ r c, j = ValueIdx.ix2 r c := ⟨_, _, ValueIdx.eq_ix2 j⟩
  refine (Ideal.matmul_apply dot_S256x256_S256x128_S256x128_0_0_1_1_n_n none (cv 256 256 A) (cv 256 128 B) (constant S256x128 .f32 0x00000000#32) (ValueIdx.ix2 r c)).trans ?_
  rw [constant_apply, ofBits_zero, EReal.coe_zero, zero_add,
    ← Equiv.sum_comp (contrEquiv1 dot_S256x256_S256x128_S256x128_0_0_1_1_n_n 256 rfl rfl).symm]
  refine (Finset.sum_congr rfl fun k _ => ?_).trans (coe_sum_fin fun k => A k r.val * B k c.val)
  have hk := contrEquiv1_symm_val dot_S256x256_S256x128_S256x128_0_0_1_1_n_n 256 rfl rfl k
  have el : dot_S256x256_S256x128_S256x128_0_0_1_1_n_n.lhsIdx (ValueIdx.ix2 r c) ((contrEquiv1 dot_S256x256_S256x128_S256x128_0_0_1_1_n_n 256 rfl rfl).symm k) = ValueIdx.ix2 k r := by
    funext a; apply Fin.ext
    match a with
    | ⟨0, _⟩ => exact hk
    | ⟨1, _⟩ => rfl
  have er : dot_S256x256_S256x128_S256x128_0_0_1_1_n_n.rhsIdx (ValueIdx.ix2 r c) ((contrEquiv1 dot_S256x256_S256x128_S256x128_0_0_1_1_n_n 256 rfl rfl).symm k) = ValueIdx.ix2 k c := by
    funext a; apply Fin.ext
    match a with
    | ⟨0, _⟩ => exact hk
    | ⟨1, _⟩ => rfl
  rw [el, er, EReal.coe_mul]; rfl

/-! The real functions of a score. -/

/-- The logarithm of the logistic function. -/
def ls (x : ℝ) : ℝ := min x 0 - Real.log (1 + Real.exp (0 - |x|))
/-- The logarithm of what it leaves. -/
def lr (x : ℝ) : ℝ := ls x - x

/-- A block's scores. -/
def bz (q k : ℕ → ℕ → ℝ) (r c : ℕ) : ℝ := (∑ j ∈ Finset.range 128, q r j * k c j) * sc

theorem zV_cv (q k : ℕ → ℕ → ℝ) : zV (F := Ideal) (cv 256 128 q) (cv 256 128 k) = cv 256 256 (bz q k) := by
  unfold zV
  rw [show (matmul (F := Ideal) _ none (cv 256 128 q) (cv 256 128 k) _) = _ from nt_cv (φ := .bf16) q k]
  funext j
  rw [mulf_apply, broadcast_apply]
  show _ * Ideal.ofBits .f32 0x3DB504F3#32 = _
  rw [ofBits_sc, cv, ← EReal.coe_mul]; rfl

theorem lsV_cv (z : ℕ → ℕ → ℝ) : lsV (F := Ideal) (cv 256 256 z) = cv 256 256 fun r c => ls (z r c) := by
  funext j
  unfold lsV
  simp only [subf_apply, minimumf_apply, broadcast_apply]
  show min _ (Ideal.ofBits .f32 0x00000000#32) - Ideal.log (Ideal.ofBits .f32 0x3F800000#32 + Ideal.exp (Ideal.ofBits .f32 0x00000000#32 - max (cv 256 256 z j) (-(cv 256 256 z j)))) = _
  simp only [ofBits_zero, ofBits_one, cv]
  rw [← EReal.coe_neg, ← EReal.coe_strictMono.monotone.map_max, ← EReal.coe_strictMono.monotone.map_min, ← EReal.coe_sub, Ideal.exp_coe, ← EReal.coe_add, Ideal.log_coe,
    if_neg (not_le.mpr (by positivity)), ← EReal.coe_sub]
  rfl

theorem subf_cv {φ : FTy} (A B : ℕ → ℕ → ℝ) : (subf (cv 256 256 A : FVec Ideal S256x256 φ) (cv 256 256 B) : FVec Ideal S256x256 φ) = cv 256 256 fun r c => A r c - B r c := by
  funext j; rw [subf_apply, cv, cv, ← EReal.coe_sub]; rfl
theorem addf_cv {φ : FTy} (A B : ℕ → ℕ → ℝ) : (addf (cv 256 256 A : FVec Ideal S256x256 φ) (cv 256 256 B) : FVec Ideal S256x256 φ) = cv 256 256 fun r c => A r c + B r c := by
  funext j; rw [addf_apply, cv, cv, ← EReal.coe_add]; rfl
theorem addf_cv' {φ : FTy} (A B : ℕ → ℕ → ℝ) : (addf (cv 256 128 A : FVec Ideal S256x128 φ) (cv 256 128 B) : FVec Ideal S256x128 φ) = cv 256 128 fun r c => A r c + B r c := by
  funext j; rw [addf_apply, cv, cv, ← EReal.coe_add]; rfl
theorem mulf_cv {φ : FTy} (A B : ℕ → ℕ → ℝ) : (mulf (cv 256 256 A : FVec Ideal S256x256 φ) (cv 256 256 B) : FVec Ideal S256x256 φ) = cv 256 256 fun r c => A r c * B r c := by
  funext j; rw [mulf_apply, cv, cv, ← EReal.coe_mul]; rfl
theorem exp_cv {φ : FTy} (A : ℕ → ℕ → ℝ) : (exp (cv 256 256 A : FVec Ideal S256x256 φ) : FVec Ideal S256x256 φ) = cv 256 256 fun r c => Real.exp (A r c) := by
  funext j; exact Ideal.exp_coe (r := A (j 0).val (j 1).val)
theorem bcast_cv {φ : FTy} (A : ℕ → ℕ → ℝ) : (broadcastTo S256x256 (cv 256 1 A : FVec Ideal S256x1 φ) broadcasts_S256x1_S256x256 : FVec Ideal S256x256 φ) = cv 256 256 fun r _ => A r 0 := by
  funext j
  refine (broadcastTo_apply (cv 256 1 A) _ j (ValueIdx.ix2 ⟨(j 0).val, idx2_lt0 j⟩ ⟨0, Nat.one_pos⟩) fun a => ?_).trans rfl
  match a with
  | ⟨0, _⟩ => rfl
  | ⟨1, _⟩ => rfl
theorem trunc_cv {φ ψ : FTy} (m n : ℕ) (h : ψ.bits < φ.bits) (A : ℕ → ℕ → ℝ) : (truncf ψ (cv m n A : FVec Ideal ⟨2, ![m, n]⟩ φ) h : FVec Ideal ⟨2, ![m, n]⟩ ψ) = cv m n A := rfl
theorem ext_cv {φ ψ : FTy} (m n : ℕ) (h : φ.bits < ψ.bits) (A : ℕ → ℕ → ℝ) : (extf ψ (cv m n A : FVec Ideal ⟨2, ![m, n]⟩ φ) h : FVec Ideal ⟨2, ![m, n]⟩ ψ) = cv m n A := rfl

theorem dot2_cv (A B : ℕ → ℕ → ℝ) : dot2 (F := Ideal) (cv 256 256 A) (cv 256 256 B) = cv 256 256 fun r c => ∑ k ∈ Finset.range 256, A r k * B k c := by
  unfold dot2
  rw [trunc_cv (φ := .f32) (ψ := .bf16), ext_cv (φ := .bf16) (ψ := .f32), subf_cv (φ := .f32), trunc_cv (φ := .f32) (ψ := .bf16), tri_cv, tri_cv, addf_cv]
  refine cv_congr fun r c _ _ => ?_
  simp

/-- A block's kept shares' logarithms, where the mask holds. -/
def blr (M : ℕ → ℕ → Prop) [∀ r c, Decidable (M r c)] (q k : ℕ → ℕ → ℝ) (r c : ℕ) : ℝ := if M r c then lr (bz q k r c) else 0
/-- A block's weights. -/
def bw (M : ℕ → ℕ → Prop) [∀ r c, Decidable (M r c)] (q k : ℕ → ℕ → ℝ) (tot cl : ℕ → ℕ → ℝ) (r c : ℕ) : ℝ :=
  if M r c then Real.exp (ls (bz q k r c) + (tot r 0 - (cl r 0 + ∑ j ∈ Finset.range (c + 1), blr M q k r j))) else 0
/-- A block's gradient of the weights' logarithms. -/
def bg (M : ℕ → ℕ → Prop) [∀ r c, Decidable (M r c)] (q d k v : ℕ → ℕ → ℝ) (tot cl : ℕ → ℕ → ℝ) (r c : ℕ) : ℝ :=
  (∑ j ∈ Finset.range 128, d r j * v c j) * bw M q k tot cl r c
/-- A block's gradient of the unscaled scores. -/
def bdz (M : ℕ → ℕ → Prop) [∀ r c, Decidable (M r c)] (q d k v : ℕ → ℕ → ℝ) (tot cl cg : ℕ → ℕ → ℝ) (r c : ℕ) : ℝ :=
  (if M r c then bg M q d k v tot cl r c * Real.exp (lr (bz q k r c)) - (cg r 0 + ∑ j ∈ Finset.range c, bg M q d k v tot cl r j) * Real.exp (ls (bz q k r c)) else 0) * sc

theorem sum_mul_le (f : ℕ → ℝ) {c : ℕ} (h : c < 256) : ∑ k ∈ Finset.range 256, f k * (if k ≤ c then 1 else 0) = ∑ k ∈ Finset.range (c + 1), f k := by
  simp only [mul_ite, mul_one, mul_zero]
  rw [← Finset.sum_filter]
  refine Finset.sum_congr (Finset.ext fun k => ?_) fun _ _ => rfl
  simp only [Finset.mem_filter, Finset.mem_range]; omega
theorem sum_mul_lt (f : ℕ → ℝ) {c : ℕ} (h : c < 256) : ∑ k ∈ Finset.range 256, f k * (if k < c then 1 else 0) = ∑ k ∈ Finset.range c, f k := by
  simp only [mul_ite, mul_one, mul_zero]
  rw [← Finset.sum_filter]
  refine Finset.sum_congr (Finset.ext fun k => ?_) fun _ _ => rfl
  simp only [Finset.mem_filter, Finset.mem_range]; omega

theorem sitofp_bool (p : Prop) [Decidable p] :
    ((((((BitVec.ofBool (decide p)).setWidth 32).toInt : ℤ) : ℝ)) : EReal) = (((if p then 1 else 0 : ℝ)) : EReal) := by
  by_cases h : p <;> simp [h]

/-- The two triangles of ones. -/
theorem incl_cv : k0_pay102 (F := Ideal) = cv 256 256 fun r c => if r ≤ c then 1 else 0 := by
  funext j
  show (((((IntOp.cmpi .sle (iota .tc S256x256 32 [0] iota_S256x256_d0_w32 j) (iota .tc S256x256 32 [1] iota_S256x256_d1_w32 j)).setWidth 32).toInt : ℤ) : ℝ) : EReal) = _
  have h0 := idx2_lt0 j; have h1 := idx2_lt1 j
  rw [iota_single_apply, iota_single_apply, WordCmp.cmpi_sle_ofNat (by omega) (by omega)]
  exact sitofp_bool _

theorem strict_cv : k0_pay103 (F := Ideal) = cv 256 256 fun r c => if r < c then 1 else 0 := by
  funext j
  show (((((IntOp.cmpi .slt (iota .tc S256x256 32 [0] iota_S256x256_d0_w32 j) (iota .tc S256x256 32 [1] iota_S256x256_d1_w32 j)).setWidth 32).toInt : ℤ) : ℝ) : EReal) = _
  have h0 := idx2_lt0 j; have h1 := idx2_lt1 j
  rw [iota_single_apply, iota_single_apply, WordCmp.cmpi_slt_ofNat (by omega) (by omega)]
  exact sitofp_bool _

/-- The mask of the block on the diagonal. -/
theorem maskV_cv (A : ℕ → ℕ → ℝ) :
    maskV (F := Ideal) (iota .tc S256x256 32 [0] iota_S256x256_d0_w32) (iota .tc S256x256 32 [1] iota_S256x256_d1_w32) (cv 256 256 A)
      = cv 256 256 fun r c => if c < r then A r c else 0 := by
  funext j
  unfold maskV
  have h0 := idx2_lt0 j; have h1 := idx2_lt1 j
  rw [select_apply, broadcast_apply]
  show Scalar.select (IntOp.cmpi .slt (iota .tc S256x256 32 [1] iota_S256x256_d1_w32 j) (iota .tc S256x256 32 [0] iota_S256x256_d0_w32 j)) _ (Ideal.ofBits .f32 0x00000000#32) = _
  rw [iota_single_apply, iota_single_apply, WordCmp.cmpi_slt_ofNat (by omega) (by omega), ofBits_zero]
  by_cases h : (j 1).val < (j 0).val
  · simp only [h, decide_true, cv, if_true]; rfl
  · simp only [h, decide_false, cv, if_false]; rfl

theorem wV_cv (z l tot cl : ℕ → ℕ → ℝ) :
    wV (F := Ideal) k0_pay102 (cv 256 256 z) (cv 256 256 l) (cv 256 1 tot) (cv 256 1 cl)
      = cv 256 256 fun r c => Real.exp (z r c + (tot r 0 - (cl r 0 + ∑ j ∈ Finset.range (c + 1), l r j))) := by
  unfold wV
  rw [incl_cv, dot2_cv, bcast_cv, bcast_cv, addf_cv, subf_cv, addf_cv, exp_cv]
  exact cv_congr fun r c _ hc => by rw [sum_mul_le (fun k => l r k) hc]

theorem gV_cv (d v w : ℕ → ℕ → ℝ) :
    gV (F := Ideal) (cv 256 128 d) (cv 256 128 v) (cv 256 256 w) = cv 256 256 fun r c => (∑ j ∈ Finset.range 128, d r j * v c j) * w r c := by
  unfold gV
  rw [show (matmul (F := Ideal) _ none (cv 256 128 d) (cv 256 128 v) _) = _ from nt_cv (φ := .bf16) d v, mulf_cv]

theorem dzV_cv (g z l cg : ℕ → ℕ → ℝ) :
    dzV (F := Ideal) k0_pay103 (cv 256 256 g) (cv 256 256 z) (cv 256 256 l) (cv 256 1 cg)
      = cv 256 256 fun r c => g r c * Real.exp (l r c) - (cg r 0 + ∑ j ∈ Finset.range c, g r j) * Real.exp (z r c) := by
  unfold dzV
  rw [strict_cv, dot2_cv, bcast_cv, addf_cv, exp_cv, exp_cv, mulf_cv, mulf_cv, subf_cv]
  exact cv_congr fun r c _ hc => by rw [sum_mul_lt (fun k => g r k) hc]

theorem dzbV_cv (A : ℕ → ℕ → ℝ) : dzbV (F := Ideal) (cv 256 256 A) = cv 256 256 fun r c => A r c * sc := by
  funext j
  show cv 256 256 A j * Ideal.ofBits .f32 0x3DB504F3#32 = _
  rw [ofBits_sc, cv, ← EReal.coe_mul]; rfl

theorem rowSum_cv (c A : ℕ → ℕ → ℝ) : rowSum (F := Ideal) (cv 256 1 c) (cv 256 256 A) = cv 256 1 fun r _ => c r 0 + ∑ k ∈ Finset.range 256, A r k := by
  funext j
  obtain ⟨r, u, rfl⟩ : ∃ r u, j = ValueIdx.ix2 r u := ⟨_, _, ValueIdx.eq_ix2 j⟩
  unfold rowSum
  rw [addf_apply, shapeCast_a_a1_apply]
  have e : (∑ k : Fin 256, cv 256 256 A (ValueIdx.ix2 r k)) = ((∑ k ∈ Finset.range 256, A r.val k : ℝ) : EReal) := coe_sum_fin fun k => A r.val k
  refine (congrArg (cv 256 1 c (ValueIdx.ix2 r u) + ·) ((Ideal.reduceAdd_r2_a1 reduces_S256x256_S256 (cv 256 256 A) (ValueIdx.ix1 r)).trans e)).trans ?_
  have hu : u.val = 0 := by omega
  show ((c r.val u.val : ℝ) : EReal) + _ = ((c r.val 0 + _ : ℝ) : EReal)
  rw [hu, EReal.coe_add]

theorem accV_cv (o a x : ℕ → ℕ → ℝ) :
    accV (F := Ideal) (cv 256 128 o) (cv 256 256 a) (cv 256 128 x) = cv 256 128 fun r c => o r c + ∑ k ∈ Finset.range 256, a k r * x k c := by
  unfold accV
  rw [shapeCast_self, show (matmul (F := Ideal) _ none (cv 256 256 a) (cv 256 128 x) _) = _ from tn_cv (φ := .bf16) (ψ := .bf16) a x, addf_cv']

theorem dqV_cv (o a k : ℕ → ℕ → ℝ) :
    dqV (F := Ideal) (cv 256 128 o) (cv 256 256 a) (cv 256 128 k) = cv 256 128 fun r c => o r c + ∑ j ∈ Finset.range 256, a r j * k j c := by
  unfold dqV
  rw [show (matmul (F := Ideal) _ none (cv 256 256 a) (cv 256 128 k) _) = _ from nn_cv (φ := .bf16) (ψ := .bf16) a k, addf_cv']

section Left
variable (M : ℕ → ℕ → Prop) [∀ r c, Decidable (M r c)] (hM : ∀ r c, r < 256 → c < 256 → M r c) (q d k v tot cl cg : ℕ → ℕ → ℝ)
include hM

theorem lrN_cv :
    lrN (F := Ideal) (cv 256 128 q) (cv 256 128 k) = cv 256 256 (blr M q k) := by
  unfold lrN
  rw [zV_cv, lsV_cv, subf_cv]
  exact cv_congr fun r c hr hc => by rw [blr, if_pos (hM r c hr hc)]; rfl

theorem wN_cv : wN (F := Ideal) k0_pay102 (cv 256 128 q) (cv 256 128 k) (cv 256 1 tot) (cv 256 1 cl) = cv 256 256 (bw M q k tot cl) := by
  unfold wN
  rw [lrN_cv M hM, zV_cv, lsV_cv, wV_cv]
  exact cv_congr fun r c hr hc => by rw [bw, if_pos (hM r c hr hc)]

theorem gN_cv : gN (F := Ideal) k0_pay102 (cv 256 128 q) (cv 256 128 d) (cv 256 128 k) (cv 256 128 v) (cv 256 1 tot) (cv 256 1 cl) = cv 256 256 (bg M q d k v tot cl) := by
  unfold gN
  rw [wN_cv M hM, gV_cv]; rfl

theorem dzN_cv : dzN (F := Ideal) k0_pay102 k0_pay103 (cv 256 128 q) (cv 256 128 d) (cv 256 128 k) (cv 256 128 v) (cv 256 1 tot) (cv 256 1 cl) (cv 256 1 cg)
    = cv 256 256 (bdz M q d k v tot cl cg) := by
  unfold dzN
  rw [gN_cv M hM, lrN_cv M hM, zV_cv, lsV_cv, dzV_cv, dzbV_cv]
  exact cv_congr fun r c hr hc => by rw [bdz, if_pos (hM r c hr hc), blr, if_pos (hM r c hr hc)]

end Left

section Diagonal
variable (M : ℕ → ℕ → Prop) [∀ r c, Decidable (M r c)] (hM : ∀ r c, r < 256 → c < 256 → (M r c ↔ c < r)) (q d k v tot cl cg : ℕ → ℕ → ℝ)
include hM

theorem lrD_cv : lrD (F := Ideal) (iota Kind.tc S256x256 32 [0] iota_S256x256_d0_w32) (iota Kind.tc S256x256 32 [1] iota_S256x256_d1_w32) (cv 256 128 q) (cv 256 128 k) = cv 256 256 (blr M q k) := by
  unfold lrD
  rw [lrN_cv (fun _ _ => True) (fun _ _ _ _ => trivial), maskV_cv]
  refine cv_congr fun r c hr hc => ?_
  rw [blr, if_pos trivial, blr]
  by_cases h : c < r
  · rw [if_pos h, if_pos ((hM r c hr hc).mpr h)]
  · rw [if_neg h, if_neg fun h' => h ((hM r c hr hc).mp h')]

theorem wD_cv : wD (F := Ideal) (iota Kind.tc S256x256 32 [0] iota_S256x256_d0_w32) (iota Kind.tc S256x256 32 [1] iota_S256x256_d1_w32) k0_pay102 (cv 256 128 q) (cv 256 128 k) (cv 256 1 tot) (cv 256 1 cl) = cv 256 256 (bw M q k tot cl) := by
  unfold wD
  rw [lrD_cv M hM, zV_cv, lsV_cv, wV_cv, maskV_cv]
  refine cv_congr fun r c hr hc => ?_
  rw [bw]
  by_cases h : c < r
  · rw [if_pos h, if_pos ((hM r c hr hc).mpr h)]
  · rw [if_neg h, if_neg fun h' => h ((hM r c hr hc).mp h')]

theorem gD_cv : gD (F := Ideal) (iota Kind.tc S256x256 32 [0] iota_S256x256_d0_w32) (iota Kind.tc S256x256 32 [1] iota_S256x256_d1_w32) k0_pay102 (cv 256 128 q) (cv 256 128 d) (cv 256 128 k) (cv 256 128 v) (cv 256 1 tot) (cv 256 1 cl) = cv 256 256 (bg M q d k v tot cl) := by
  unfold gD
  rw [wD_cv M hM, gV_cv]; rfl

theorem dzD_cv : dzD (F := Ideal) (iota Kind.tc S256x256 32 [0] iota_S256x256_d0_w32) (iota Kind.tc S256x256 32 [1] iota_S256x256_d1_w32) k0_pay102 k0_pay103 (cv 256 128 q) (cv 256 128 d) (cv 256 128 k) (cv 256 128 v) (cv 256 1 tot) (cv 256 1 cl) (cv 256 1 cg)
    = cv 256 256 (bdz M q d k v tot cl cg) := by
  unfold dzD
  rw [gD_cv M hM, lrD_cv M hM, zV_cv, lsV_cv, dzV_cv, maskV_cv, dzbV_cv]
  refine cv_congr fun r c hr hc => ?_
  rw [bdz]
  by_cases h : c < r
  · rw [if_pos h, if_pos ((hM r c hr hc).mpr h), blr, if_pos ((hM r c hr hc).mpr h)]
  · rw [if_neg h, if_neg fun h' => h ((hM r c hr hc).mp h')]

end Diagonal

end Cert.KernelIdeal.Block

end

end
-- ==== Proof.Model.lean ====
/-
  The gradient of stick-breaking attention over the reals, one head at a time, and the block of it one step of the kernel
  computes: a block with the rows' sums up to it carried is the whole's own block.
-/
module

public import proofs.«01_k».proof.Proof.Block

@[expose] public section

set_option maxRecDepth 16384

noncomputable section

namespace Cert.KernelIdeal.Model

open Cert.KernelIdeal Cert.KernelIdeal.Gen Cert.KernelIdeal.Step Cert.KernelIdeal.Block Idealize.ShloMosaic
open scoped BigOperators

/-- A key before the query. -/
def before (t s : ℕ) : Prop := s < t
instance (t s : ℕ) : Decidable (before t s) := inferInstanceAs (Decidable (s < t))

/-- No sums carried. -/
def none0 (_ _ : ℕ) : ℝ := 0

/-- A head's columns of a matrix. -/
def hd (A : ℕ → ℕ → ℝ) (n t e : ℕ) : ℝ := A t (128 * n + e)

section
variable (Q D K V : ℕ → ℕ → ℝ) (T : ℕ → ℕ → ℝ) (n : ℕ)

/-- The kept shares' logarithms of a head, with their totals per query `T`. -/
def LR (t s : ℕ) : ℝ := blr before (hd Q n) (hd K n) t s
/-- The weights of a head. -/
def W (t s : ℕ) : ℝ := bw before (hd Q n) (hd K n) (fun t _ => T n t) none0 t s
/-- The gradient of a head's weights' logarithms. -/
def G (t s : ℕ) : ℝ := bg before (hd Q n) (hd D n) (hd K n) (hd V n) (fun t _ => T n t) none0 t s
/-- The gradient of a head's unscaled scores. -/
def DZ (t s : ℕ) : ℝ := bdz before (hd Q n) (hd D n) (hd K n) (hd V n) (fun t _ => T n t) none0 none0 t s

theorem DZ_of_not {t s : ℕ} (h : ¬ s < t) : DZ Q D K V T n t s = 0 := by
  unfold DZ bdz; rw [if_neg (show ¬ before t s from h), zero_mul]
theorem W_of_not {t s : ℕ} (h : ¬ s < t) : W Q K T n t s = 0 := by
  unfold W bw; rw [if_neg (show ¬ before t s from h)]

/-- The block's mask: key `256 * b + c` before query `256 * i + r`. -/
def bM (i b r c : ℕ) : Prop := before (256 * i + r) (256 * b + c)
instance (i b r c : ℕ) : Decidable (bM i b r c) := inferInstanceAs (Decidable (before (256 * i + r) (256 * b + c)))

/-- Rows of a head from row `256 * i` on. -/
def rows (A : ℕ → ℕ → ℝ) (i r e : ℕ) : ℝ := hd A n (256 * i + r) e
/-- The totals of the rows from row `256 * i` on. -/
def tots (i r : ℕ) (_ : ℕ) : ℝ := T n (256 * i + r)
/-- The carried sums before block `b`. -/
def CL (i b r : ℕ) (_ : ℕ) : ℝ := ∑ s ∈ Finset.range (256 * b), LR Q K n (256 * i + r) s
def CG (i b r : ℕ) (_ : ℕ) : ℝ := ∑ s ∈ Finset.range (256 * b), G Q D K V T n (256 * i + r) s
def DQ (i b r e : ℕ) : ℝ := ∑ s ∈ Finset.range (256 * b), DZ Q D K V T n (256 * i + r) s * hd K n s e

theorem lr_block (i b : ℕ) : blr (bM i b) (rows n Q i) (rows n K b) = fun r c => LR Q K n (256 * i + r) (256 * b + c) := rfl

theorem w_block (i b : ℕ) : bw (bM i b) (rows n Q i) (rows n K b) (tots T n i) (CL Q K n i b) = fun r c => W Q K T n (256 * i + r) (256 * b + c) := by
  funext r c
  unfold W bw
  have e : CL Q K n i b r 0 + ∑ j ∈ Finset.range (c + 1), blr (bM i b) (rows n Q i) (rows n K b) r j
      = none0 (256 * i + r) 0 + ∑ j ∈ Finset.range (256 * b + c + 1), blr before (hd Q n) (hd K n) (256 * i + r) j := by
    rw [Nat.add_assoc, Finset.sum_range_add _ (256 * b) (c + 1), none0, zero_add]; rfl
  rw [e]; rfl

theorem g_block (i b : ℕ) : bg (bM i b) (rows n Q i) (rows n D i) (rows n K b) (rows n V b) (tots T n i) (CL Q K n i b)
    = fun r c => G Q D K V T n (256 * i + r) (256 * b + c) := by
  funext r c
  unfold G bg
  rw [w_block]; rfl

theorem dz_block (i b : ℕ) : bdz (bM i b) (rows n Q i) (rows n D i) (rows n K b) (rows n V b) (tots T n i) (CL Q K n i b) (CG Q D K V T n i b)
    = fun r c => DZ Q D K V T n (256 * i + r) (256 * b + c) := by
  funext r c
  unfold DZ bdz
  have e : CG Q D K V T n i b r 0 + ∑ j ∈ Finset.range c, G Q D K V T n (256 * i + r) (256 * b + j)
      = none0 (256 * i + r) 0 + ∑ j ∈ Finset.range (256 * b + c), G Q D K V T n (256 * i + r) j := by
    rw [Finset.sum_range_add _ (256 * b) c, none0, zero_add]; rfl
  rw [g_block, e]; rfl

/-! One step of the kernel: the carried sums move on by a block. -/

theorem CL_succ (i b : ℕ) : cv 256 1 (fun r _ => CL Q K n i b r 0 + ∑ k ∈ Finset.range 256, LR Q K n (256 * i + r) (256 * b + k)) = cv 256 1 (CL Q K n i (b + 1)) :=
  cv_congr fun r _ _ _ => by unfold CL; rw [Nat.mul_succ, Finset.sum_range_add]
theorem CG_succ (i b : ℕ) : cv 256 1 (fun r _ => CG Q D K V T n i b r 0 + ∑ k ∈ Finset.range 256, G Q D K V T n (256 * i + r) (256 * b + k)) = cv 256 1 (CG Q D K V T n i (b + 1)) :=
  cv_congr fun r _ _ _ => by unfold CG; rw [Nat.mul_succ, Finset.sum_range_add]
theorem DQ_succ (i b : ℕ) : cv 256 128 (fun r e => DQ Q D K V T n i b r e + ∑ k ∈ Finset.range 256, DZ Q D K V T n (256 * i + r) (256 * b + k) * rows n K b k e) = cv 256 128 (DQ Q D K V T n i (b + 1)) :=
  cv_congr fun r _ _ _ => by unfold DQ; rw [Nat.mul_succ, Finset.sum_range_add]; rfl

/-! The two kinds of block. -/

theorem left_of {i b : ℕ} (h : b < i) : ∀ r c, r < 256 → c < 256 → bM i b r c := fun r c _ hc => by
  show 256 * b + c < 256 * i + r; omega
theorem diag_of (i : ℕ) : ∀ r c, r < 256 → c < 256 → (bM i i r c ↔ c < r) := fun r c _ _ => by
  show 256 * i + c < 256 * i + r ↔ _; omega

theorem wN_eq {i b : ℕ} (h : b < i) : wN (F := Ideal) k0_pay102 (cv 256 128 (rows n Q i)) (cv 256 128 (rows n K b)) (cv 256 1 (tots T n i)) (cv 256 1 (CL Q K n i b)) = cv 256 256 fun r c => W Q K T n (256 * i + r) (256 * b + c) := by
  rw [wN_cv (bM i b) (left_of h), w_block]
theorem gN_eq {i b : ℕ} (h : b < i) : gN (F := Ideal) k0_pay102 (cv 256 128 (rows n Q i)) (cv 256 128 (rows n D i)) (cv 256 128 (rows n K b)) (cv 256 128 (rows n V b)) (cv 256 1 (tots T n i)) (cv 256 1 (CL Q K n i b)) = cv 256 256 fun r c => G Q D K V T n (256 * i + r) (256 * b + c) := by
  rw [gN_cv (bM i b) (left_of h), g_block]
theorem dzN_eq {i b : ℕ} (h : b < i) : dzN (F := Ideal) k0_pay102 k0_pay103 (cv 256 128 (rows n Q i)) (cv 256 128 (rows n D i)) (cv 256 128 (rows n K b)) (cv 256 128 (rows n V b)) (cv 256 1 (tots T n i)) (cv 256 1 (CL Q K n i b)) (cv 256 1 (CG Q D K V T n i b)) = cv 256 256 fun r c => DZ Q D K V T n (256 * i + r) (256 * b + c) := by
  rw [dzN_cv (bM i b) (left_of h), dz_block]
theorem wD_eq (i : ℕ) : wD (F := Ideal) (iota Kind.tc S256x256 32 [0] iota_S256x256_d0_w32) (iota Kind.tc S256x256 32 [1] iota_S256x256_d1_w32) k0_pay102 (cv 256 128 (rows n Q i)) (cv 256 128 (rows n K i)) (cv 256 1 (tots T n i)) (cv 256 1 (CL Q K n i i)) = cv 256 256 fun r c => W Q K T n (256 * i + r) (256 * i + c) := by
  rw [wD_cv (bM i i) (diag_of i), w_block]
theorem dzD_eq (i : ℕ) : dzD (F := Ideal) (iota Kind.tc S256x256 32 [0] iota_S256x256_d0_w32) (iota Kind.tc S256x256 32 [1] iota_S256x256_d1_w32) k0_pay102 k0_pay103 (cv 256 128 (rows n Q i)) (cv 256 128 (rows n D i)) (cv 256 128 (rows n K i)) (cv 256 128 (rows n V i)) (cv 256 1 (tots T n i)) (cv 256 1 (CL Q K n i i)) (cv 256 1 (CG Q D K V T n i i)) = cv 256 256 fun r c => DZ Q D K V T n (256 * i + r) (256 * i + c) := by
  rw [dzD_cv (bM i i) (diag_of i), dz_block]

theorem stepCL {i b : ℕ} (h : b < i) : rowSum (F := Ideal) (cv 256 1 (CL Q K n i b)) (lrN (cv 256 128 (rows n Q i)) (cv 256 128 (rows n K b))) = cv 256 1 (CL Q K n i (b + 1)) := by
  rw [lrN_cv (bM i b) (left_of h), lr_block, rowSum_cv, CL_succ]
theorem stepCG {i b : ℕ} (h : b < i) : rowSum (F := Ideal) (cv 256 1 (CG Q D K V T n i b)) (gN k0_pay102 (cv 256 128 (rows n Q i)) (cv 256 128 (rows n D i)) (cv 256 128 (rows n K b)) (cv 256 128 (rows n V b)) (cv 256 1 (tots T n i)) (cv 256 1 (CL Q K n i b))) = cv 256 1 (CG Q D K V T n i (b + 1)) := by
  rw [gN_eq Q D K V T n h, rowSum_cv, CG_succ]
theorem stepDQ {i b : ℕ} (h : b < i) : dqV (F := Ideal) (cv 256 128 (DQ Q D K V T n i b)) (dzN k0_pay102 k0_pay103 (cv 256 128 (rows n Q i)) (cv 256 128 (rows n D i)) (cv 256 128 (rows n K b)) (cv 256 128 (rows n V b)) (cv 256 1 (tots T n i)) (cv 256 1 (CL Q K n i b)) (cv 256 1 (CG Q D K V T n i b))) (cv 256 128 (rows n K b)) = cv 256 128 (DQ Q D K V T n i (b + 1)) := by
  rw [dzN_eq Q D K V T n h, dqV_cv, DQ_succ]
theorem stepDQD (i : ℕ) : dqV (F := Ideal) (cv 256 128 (DQ Q D K V T n i i)) (dzD (iota Kind.tc S256x256 32 [0] iota_S256x256_d0_w32) (iota Kind.tc S256x256 32 [1] iota_S256x256_d1_w32) k0_pay102 k0_pay103 (cv 256 128 (rows n Q i)) (cv 256 128 (rows n D i)) (cv 256 128 (rows n K i)) (cv 256 128 (rows n V i)) (cv 256 1 (tots T n i)) (cv 256 1 (CL Q K n i i)) (cv 256 1 (CG Q D K V T n i i))) (cv 256 128 (rows n K i)) = cv 256 128 (DQ Q D K V T n i (i + 1)) := by
  rw [dzD_eq, dqV_cv, DQ_succ]

end

end Cert.KernelIdeal.Model

end

end
-- ==== Proof.Mem.lean ====
/-
  Loads and stores of blocks of 256 rows and 128 columns of a matrix of reals.
-/
module

public import proofs.«01_k».proof.Proof.Block
public import Idealize.ShloMosaic.Lib.WritesUnit
public import Idealize.ShloMosaic.Lib.VecWindow
public import Idealize.ShloMosaic.Lib.Pipeline.Frame

@[expose] public section

set_option maxRecDepth 16384

noncomputable section

namespace Cert.KernelIdeal.Mem

open Cert.KernelIdeal Cert.KernelIdeal.Gen Cert.KernelIdeal.Step Cert.KernelIdeal.Block Idealize.ShloMosaic Idealize.ShloMosaic.TcCoe Idealize.SL.Sem
open Idealize.ShloMosaic.ValueIdx hiding ix2 eq_ix2 ix1 eq_ix1 ix0 eq_ix0

/-- A matrix with the block at row `o`, column `c` replaced by `w`. -/
def upd (o c : ℕ) (w A : ℕ → ℕ → ℝ) (s t : ℕ) : ℝ := if (o ≤ s ∧ s < o + 256) ∧ (c ≤ t ∧ t < c + 128) then w (s - o) (t - c) else A s t

variable {sp : Space} {κ : Kind} {Val : EltTy → Type} {e : EltTy} {m n : ℕ}

/-- A matrix of reals as a vector of the elements `g` makes of them. -/
def cgen {α : Type} (g : ℝ → α) (m n : ℕ) (A : ℕ → ℕ → ℝ) : (⟨2, ![m, n]⟩ : Shape).Idx → α := fun j => g (A (j 0).val (j 1).val)

theorem read_store (g : ℝ → Val e) (v : View sig κ sp ⟨2, ![m, n]⟩ e) (f : v.ty.Contents Val) (L : List (View.Piece Val ⟨2, ![m, n]⟩ e))
    (off : Fin 2 → ℕ) (o c : ℕ) (hoff : off = ![o, c]) (inb : ∀ a : Fin 2, off a + S256x128.size a ≤ (![m, n] : Fin 2 → ℕ) a) (w A : ℕ → ℕ → ℝ)
    (h : v.read Val (v.writes Val f L) = cgen g m n A) :
    v.read Val (v.writes Val f ((⟨Rect.unit (s := ⟨2, ![m, n]⟩) off S256x128.size inb, cgen g 256 128 w⟩ : View.Piece Val ⟨2, ![m, n]⟩ e) :: L)) = cgen g m n (upd o c w A) := by
  funext y
  rw [View.read_writes_cons_unit v f inb (cgen g 256 128 w) L y hoff, h]
  unfold upd cgen
  beta_reduce
  by_cases hy : (o ≤ (y 0).val ∧ (y 0).val < o + 256) ∧ (c ≤ (y 1).val ∧ (y 1).val < c + 128)
  · rw [if_pos hy, dif_pos (fun a => by match a with
      | ⟨0, _⟩ => exact hy.1
      | ⟨1, _⟩ => exact hy.2)]
    rfl
  · rw [if_neg hy, dif_neg fun h' => hy ⟨h' 0, h' 1⟩]

theorem load (g : ℝ → Val e) (v : View sig κ sp ⟨2, ![m, n]⟩ e) (f : v.ty.Contents Val) (off : Fin 2 → ℕ) (o c : ℕ) (hoff : off = ![o, c])
    (inb : ∀ a : Fin 2, off a + S256x128.size a ≤ (![m, n] : Fin 2 → ℕ) a) (A : ℕ → ℕ → ℝ) (h : v.read Val f = cgen g m n A) :
    v.readAt Val (Rect.unit (s := ⟨2, ![m, n]⟩) off S256x128.size inb).toLoadRect f = cgen g 256 128 fun r t => A (o + r) (c + t) := by
  subst hoff
  funext y
  show v.read Val f ((Rect.unit (s := ⟨2, ![m, n]⟩) ![o, c] S256x128.size inb).emb y) = _
  rw [h]
  show g (A (o + 1 * (y 0).val) (c + 1 * (y 1).val)) = g (A (o + (y 0).val) (c + (y 1).val))
  rw [Nat.one_mul, Nat.one_mul]

end Cert.KernelIdeal.Mem

end

end
-- ==== Proof.Acc.lean ====
/-
  The accumulators of dk and dv, block of keys by block of keys and head by head, and the blocks a step loads.
-/
module

public import proofs.«01_k».proof.Proof.Model
public import proofs.«01_k».proof.Proof.Mem

@[expose] public section

set_option maxRecDepth 16384

noncomputable section

namespace Cert.KernelIdeal.Acc

open Cert.KernelIdeal Cert.KernelIdeal.Gen Cert.KernelIdeal.Step Cert.KernelIdeal.Block Cert.KernelIdeal.Model Cert.KernelIdeal.Mem Idealize.ShloMosaic Idealize.ShloMosaic.TcCoe Idealize.SL.Sem
open Idealize.ShloMosaic.ValueIdx hiding ix2 eq_ix2 ix1 eq_ix1 ix0 eq_ix0
open scoped BigOperators

/-- An accumulator `A` with the products of the rows from `256 * i` on added: at the keys before block `b`, and in block `b` at the heads below `n`. -/
def addN (X : ℕ → ℕ → ℕ → ℝ) (M : ℕ → ℕ → ℝ) (i b n : ℕ) (A : ℕ → ℕ → ℝ) (s e : ℕ) : ℝ :=
  if s < 256 * b ∨ (s < 256 * (b + 1) ∧ e < 128 * n) then A s e + ∑ j ∈ Finset.range 256, X (e / 128) (256 * i + j) s * M (256 * i + j) e else A s e

variable (X : ℕ → ℕ → ℕ → ℝ) (M : ℕ → ℕ → ℝ) (i : ℕ) (A : ℕ → ℕ → ℝ)

theorem addN_zero : addN X M i 0 0 A = A := by
  funext s e; unfold addN; rw [if_neg (by omega)]

theorem addN_next (b : ℕ) : cv 2048 512 (addN X M i b 4 A) = cv 2048 512 (addN X M i (b + 1) 0 A) :=
  cv_congr fun s e _ he => by
    unfold addN
    by_cases h : s < 256 * (b + 1)
    · rw [if_pos (Or.inr ⟨h, by omega⟩), if_pos (Or.inl h)]
    · rw [if_neg (by omega), if_neg (by omega)]

/-- What is stored for head `n` at block `b`. -/
def blockN (b n r e : ℕ) : ℝ := A (256 * b + r) (128 * n + e) + ∑ j ∈ Finset.range 256, X n (256 * i + j) (256 * b + r) * hd M n (256 * i + j) e

theorem upd_addN (b n : ℕ) : upd (256 * b) (128 * n) (blockN X M i A b n) (addN X M i b n A) = addN X M i b (n + 1) A := by
  funext s e
  unfold upd addN
  by_cases h : (256 * b ≤ s ∧ s < 256 * b + 256) ∧ (128 * n ≤ e ∧ e < 128 * n + 128)
  · rw [if_pos h, if_pos (Or.inr ⟨by omega, by omega⟩)]
    obtain ⟨⟨h1, h2⟩, h3, h4⟩ := h
    have e1 : 256 * b + (s - 256 * b) = s := by omega
    have e2 : 128 * n + (e - 128 * n) = e := by omega
    have e3 : e / 128 = n := by omega
    unfold blockN hd
    rw [e1, e2, e3]
  · rw [if_neg h]
    by_cases h' : s < 256 * b ∨ (s < 256 * (b + 1) ∧ e < 128 * n)
    · rw [if_pos h', if_pos (by omega)]
    · rw [if_neg h', if_neg (by omega)]

theorem addN_here {b n m r e : ℕ} (h : m ≤ n) : addN X M i b m A (256 * b + r) (128 * n + e) = A (256 * b + r) (128 * n + e) := by
  unfold addN; rw [if_neg (by omega)]

section
variable {sp : Space} {κ : Kind}

/-- A block of the accumulator, loaded. -/
theorem load_acc (v : View sig κ sp S2048x512 .f32) (f : v.ty.Contents (Elt Ideal)) (off : Fin 2 → ℕ) (b n m : ℕ) (hoff : off = ![256 * b, 128 * n]) (hm : m ≤ n)
    (inb : ∀ a, off a + S256x128.size a ≤ S2048x512.size a) (h : v.read (Elt Ideal) f = cv 2048 512 (addN X M i b m A)) :
    v.readAt (Elt Ideal) (Rect.unit (s := S2048x512) off S256x128.size inb).toLoadRect f = cv 256 128 fun r e => A (256 * b + r) (128 * n + e) :=
  (load (Val := Elt Ideal) (e := .f32) (fun x : ℝ => (x : EReal)) v f off _ _ hoff inb _ h).trans (cv_congr (m := 256) (n := 128) (A := fun r e => addN X M i b m A (256 * b + r) (128 * n + e)) fun r e _ _ => addN_here X M i A hm)

/-- A block of the accumulator, stored. -/
theorem store_acc (v : View sig κ sp S2048x512 .f32) (f : v.ty.Contents (Elt Ideal)) (L : List (View.Piece (Elt Ideal) S2048x512 .f32)) (off : Fin 2 → ℕ) (b n : ℕ)
    (hoff : off = ![256 * b, 128 * n]) (inb : ∀ a, off a + S256x128.size a ≤ S2048x512.size a) (w : Vec Ideal S256x128 .f32) (hw : w = cv 256 128 (blockN X M i A b n))
    (h : v.read (Elt Ideal) (v.writes (Elt Ideal) f L) = cv 2048 512 (addN X M i b n A)) :
    v.read (Elt Ideal) (v.writes (Elt Ideal) f ((⟨Rect.unit (s := S2048x512) off S256x128.size inb, w⟩ : View.Piece (Elt Ideal) S2048x512 .f32) :: L)) = cv 2048 512 (addN X M i b (n + 1) A) := by
  rw [hw, ← upd_addN]
  exact read_store (Val := Elt Ideal) (e := .f32) (fun x : ℝ => (x : EReal)) v f L off _ _ hoff inb _ _ h

/-- A block of keys, values, queries or gradients, loaded. -/
theorem load_rows {m : ℕ} (v : View sig κ sp ⟨2, ![m, 512]⟩ .bf16) (f : v.ty.Contents (Elt Ideal)) (off : Fin 2 → ℕ) (o b n : ℕ) (hoff : off = ![o, 128 * n])
    (inb : ∀ a : Fin 2, off a + S256x128.size a ≤ (![m, 512] : Fin 2 → ℕ) a) (A B : ℕ → ℕ → ℝ) (h : v.read (Elt Ideal) f = cv m 512 B) (hB : ∀ r e, B (o + r) e = A (256 * b + r) e) :
    v.readAt (Elt Ideal) (Rect.unit (s := ⟨2, ![m, 512]⟩) off S256x128.size inb).toLoadRect f = cv 256 128 (rows n A b) :=
  (load (Val := Elt Ideal) (e := .bf16) (fun x : ℝ => (x : EReal)) v f off _ _ hoff inb _ h).trans (cv_congr (m := 256) (n := 128) (A := fun r e => B (o + r) (128 * n + e)) (B := rows n A b) fun r e _ _ => hB _ _)

/-- A head's totals, loaded. -/
theorem load_tot (v : View sig κ sp S4x256x1 .f32) (f : v.ty.Contents (Elt Ideal)) (n : ℕ) (inb : ∀ a : Fin 3, (![n, 0, 0] : Fin 3 → ℕ) a + S1x256x1.size a ≤ S4x256x1.size a) (T : ℕ → ℕ → ℝ) (i : ℕ)
    (h : v.read (Elt Ideal) f = fun j => ((T (j 0).val (256 * i + (j 1).val) : ℝ) : EReal)) :
    k0_pay104 (F := Ideal) (v.readAt (Elt Ideal) (Rect.unit (s := S4x256x1) ![n, 0, 0] S1x256x1.size inb).toLoadRect f) = cv 256 1 (tots T n i) := by
  funext j
  unfold k0_pay104
  refine (shapeCast_dropUnit_apply (n := 2) ![256, 1] _ _ j).trans ?_
  show v.read (Elt Ideal) f ((Rect.unit (s := S4x256x1) ![n, 0, 0] S1x256x1.size inb).emb (Fin.cons ⟨0, Nat.one_pos⟩ j)) = _
  rw [h]
  show ((T (n + 1 * 0) (256 * i + (0 + 1 * (j 0).val)) : ℝ) : EReal) = ((T n (256 * i + (j 0).val) : ℝ) : EReal)
  simp only [Nat.mul_zero, Nat.add_zero, Nat.one_mul, Nat.zero_add]
end

theorem zeros : (k0_pay108 (F := Ideal)) = cv 256 1 fun _ _ => 0 := by
  funext j; unfold k0_pay108; exact ofBits_zero
theorem zeros128 : (k0_pay109 (F := Ideal)) = cv 256 128 fun _ _ => 0 := by
  funext j; unfold k0_pay109; exact ofBits_zero

end Cert.KernelIdeal.Acc

end

end
-- ==== Proof.Trip.lean ====
/-
  One trip of the kernel's loop over the blocks left of the diagonal, read: what it yields and what it stores, per head.
-/
module

public import proofs.«01_k».proof.Proof.Step
public import proofs.«01_k».proof.Proof.Gen.KernelIdeal.Loops

@[expose] public section

set_option maxRecDepth 16384
set_option maxHeartbeats 2000000

noncomputable section

namespace Cert.KernelIdeal.Trip

open Cert.KernelIdeal Cert.KernelIdeal.Gen Cert.KernelIdeal.Step Idealize.ShloMosaic Idealize.ShloMosaic.TcCoe Idealize.SL.Sem

variable {F : FTy → Type} [FloatOps F]

/-- What a trip stores into the accumulators of dk and dv. -/
theorem tripL_eq (𝒱 : Variants) (c : Dev nD) (bd : Option 𝒱.V) (i : grid0.Coords) (m2 : Memref sig .tc .vmem S256x512 .bf16) (w2 : m2.IsWhole) (m3 : Memref sig .tc .vmem S2048x512 .bf16) (w3 : m3.IsWhole) (m4 : Memref sig .tc .vmem S2048x512 .bf16) (w4 : m4.IsWhole) (m5 : Memref sig .tc .vmem S256x512 .bf16) (w5 : m5.IsWhole) (m6 : Memref sig .tc .vmem S4x256x1 .f32) (w6 : m6.IsWhole) (m7 : Memref sig .tc .vmem S256x512 .bf16) (w7 : m7.IsWhole) (m8 : Memref sig .tc .vmem S2048x512 .bf16) (w8 : m8.IsWhole) (m9 : Memref sig .tc .vmem S2048x512 .bf16) (w9 : m9.IsWhole) (m10 : Memref sig .tc .vmem S2048x512 .f32) (w10 : m10.IsWhole) (m11 : Memref sig .tc .vmem S2048x512 .f32) (w11 : m11.IsWhole) (m1 : BitVec 32) (v3 v4 : IVec S256x256 32) (v8 v12 : FVec F S256x256 .bf16) (v13 v14 v15 v16 v17 v18 v19 v20 : Vec F S256x128 .bf16) (v22 v24 v26 : FVec F S256x1 .f32) (v27 : Vec F S1x256x1 .f32) (X3 : BufTy.Contents (Elt F) m3.view.ty) (X4 : BufTy.Contents (Elt F) m4.view.ty) (k : Fin (k0_t1_loop i).trips) (a0 a1 b0 b1 c0 c1 d0 d1 : FVec F S256x1 .f32) (a2 b2 c2 d2 : FVec F S256x128 .f32) (f10 : BufTy.Contents (Elt F) m10.view.ty) (f11 : BufTy.Contents (Elt F) m11.view.ty) :
    tripL_k0_t1 𝒱 c bd i m2 w2 m3 w3 m4 w4 m5 w5 m6 w6 m7 w7 m8 w8 m9 w9 m10 w10 m11 w11 m1 v3 v4 v8 v12 v13 v14 v15 v16 v17 v18 v19 v20 v22 v24 v26 v27 X3 X4 k (a0,a1,a2,b0,b1,b2,c0,c1,c2,d0,d1,d2) f10 f11
      = ([⟨Rect.unit (s := S2048x512) (k0_off4 i k) S256x128.size (k0_off4_inb i k), accV (View.readAt (Elt F) m10.view (Rect.unit (s := S2048x512) (k0_off4 i k) S256x128.size (k0_off4_inb i k)).toLoadRect f10) (dzN v8 v12 v16 v20 (View.readAt (Elt F) m3.view (Rect.unit (s := S2048x512) (k0_off4 i k) S256x128.size (k0_off4_inb i k)).toLoadRect X3) (View.readAt (Elt F) m4.view (Rect.unit (s := S2048x512) (k0_off4 i k) S256x128.size (k0_off4_inb i k)).toLoadRect X4) (k0_pay107 v27) d0 d1) v16⟩,
      ⟨Rect.unit (s := S2048x512) (k0_off3 i k) S256x128.size (k0_off3_inb i k), accV (View.readAt (Elt F) m10.view (Rect.unit (s := S2048x512) (k0_off3 i k) S256x128.size (k0_off3_inb i k)).toLoadRect f10) (dzN v8 v12 v15 v19 (View.readAt (Elt F) m3.view (Rect.unit (s := S2048x512) (k0_off3 i k) S256x128.size (k0_off3_inb i k)).toLoadRect X3) (View.readAt (Elt F) m4.view (Rect.unit (s := S2048x512) (k0_off3 i k) S256x128.size (k0_off3_inb i k)).toLoadRect X4) v26 c0 c1) v15⟩,
      ⟨Rect.unit (s := S2048x512) (k0_off2 i k) S256x128.size (k0_off2_inb i k), accV (View.readAt (Elt F) m10.view (Rect.unit (s := S2048x512) (k0_off2 i k) S256x128.size (k0_off2_inb i k)).toLoadRect f10) (dzN v8 v12 v14 v18 (View.readAt (Elt F) m3.view (Rect.unit (s := S2048x512) (k0_off2 i k) S256x128.size (k0_off2_inb i k)).toLoadRect X3) (View.readAt (Elt F) m4.view (Rect.unit (s := S2048x512) (k0_off2 i k) S256x128.size (k0_off2_inb i k)).toLoadRect X4) v24 b0 b1) v14⟩,
      ⟨Rect.unit (s := S2048x512) (k0_off1 i k) S256x128.size (k0_off1_inb i k), accV (View.readAt (Elt F) m10.view (Rect.unit (s := S2048x512) (k0_off1 i k) S256x128.size (k0_off1_inb i k)).toLoadRect f10) (dzN v8 v12 v13 v17 (View.readAt (Elt F) m3.view (Rect.unit (s := S2048x512) (k0_off1 i k) S256x128.size (k0_off1_inb i k)).toLoadRect X3) (View.readAt (Elt F) m4.view (Rect.unit (s := S2048x512) (k0_off1 i k) S256x128.size (k0_off1_inb i k)).toLoadRect X4) v22 a0 a1) v13⟩],
      [⟨Rect.unit (s := S2048x512) (k0_off4 i k) S256x128.size (k0_off4_inb i k), accV (View.readAt (Elt F) m11.view (Rect.unit (s := S2048x512) (k0_off4 i k) S256x128.size (k0_off4_inb i k)).toLoadRect f11) (truncf .bf16 (wN v8 v16 (View.readAt (Elt F) m3.view (Rect.unit (s := S2048x512) (k0_off4 i k) S256x128.size (k0_off4_inb i k)).toLoadRect X3) (k0_pay107 v27) d0) bitsLt_bf16_f32) v20⟩,
      ⟨Rect.unit (s := S2048x512) (k0_off3 i k) S256x128.size (k0_off3_inb i k), accV (View.readAt (Elt F) m11.view (Rect.unit (s := S2048x512) (k0_off3 i k) S256x128.size (k0_off3_inb i k)).toLoadRect f11) (truncf .bf16 (wN v8 v15 (View.readAt (Elt F) m3.view (Rect.unit (s := S2048x512) (k0_off3 i k) S256x128.size (k0_off3_inb i k)).toLoadRect X3) v26 c0) bitsLt_bf16_f32) v19⟩,
      ⟨Rect.unit (s := S2048x512) (k0_off2 i k) S256x128.size (k0_off2_inb i k), accV (View.readAt (Elt F) m11.view (Rect.unit (s := S2048x512) (k0_off2 i k) S256x128.size (k0_off2_inb i k)).toLoadRect f11) (truncf .bf16 (wN v8 v14 (View.readAt (Elt F) m3.view (Rect.unit (s := S2048x512) (k0_off2 i k) S256x128.size (k0_off2_inb i k)).toLoadRect X3) v24 b0) bitsLt_bf16_f32) v18⟩,
      ⟨Rect.unit (s := S2048x512) (k0_off1 i k) S256x128.size (k0_off1_inb i k), accV (View.readAt (Elt F) m11.view (Rect.unit (s := S2048x512) (k0_off1 i k) S256x128.size (k0_off1_inb i k)).toLoadRect f11) (truncf .bf16 (wN v8 v13 (View.readAt (Elt F) m3.view (Rect.unit (s := S2048x512) (k0_off1 i k) S256x128.size (k0_off1_inb i k)).toLoadRect X3) v22 a0) bitsLt_bf16_f32) v17⟩]) := by
  unfold tripL_k0_t1 trip_k0_t1
  rfl

/-- What a trip yields. -/
theorem tripR_eq (𝒱 : Variants) (c : Dev nD) (bd : Option 𝒱.V) (i : grid0.Coords) (m2 : Memref sig .tc .vmem S256x512 .bf16) (w2 : m2.IsWhole) (m3 : Memref sig .tc .vmem S2048x512 .bf16) (w3 : m3.IsWhole) (m4 : Memref sig .tc .vmem S2048x512 .bf16) (w4 : m4.IsWhole) (m5 : Memref sig .tc .vmem S256x512 .bf16) (w5 : m5.IsWhole) (m6 : Memref sig .tc .vmem S4x256x1 .f32) (w6 : m6.IsWhole) (m7 : Memref sig .tc .vmem S256x512 .bf16) (w7 : m7.IsWhole) (m8 : Memref sig .tc .vmem S2048x512 .bf16) (w8 : m8.IsWhole) (m9 : Memref sig .tc .vmem S2048x512 .bf16) (w9 : m9.IsWhole) (m10 : Memref sig .tc .vmem S2048x512 .f32) (w10 : m10.IsWhole) (m11 : Memref sig .tc .vmem S2048x512 .f32) (w11 : m11.IsWhole) (m1 : BitVec 32) (v3 v4 : IVec S256x256 32) (v8 v12 : FVec F S256x256 .bf16) (v13 v14 v15 v16 v17 v18 v19 v20 : Vec F S256x128 .bf16) (v22 v24 v26 : FVec F S256x1 .f32) (v27 : Vec F S1x256x1 .f32) (X3 : BufTy.Contents (Elt F) m3.view.ty) (X4 : BufTy.Contents (Elt F) m4.view.ty) (k : Fin (k0_t1_loop i).trips) (a0 a1 b0 b1 c0 c1 d0 d1 : FVec F S256x1 .f32) (a2 b2 c2 d2 : FVec F S256x128 .f32) (f10 : BufTy.Contents (Elt F) m10.view.ty) (f11 : BufTy.Contents (Elt F) m11.view.ty) :
    tripR_k0_t1 𝒱 c bd i m2 w2 m3 w3 m4 w4 m5 w5 m6 w6 m7 w7 m8 w8 m9 w9 m10 w10 m11 w11 m1 v3 v4 v8 v12 v13 v14 v15 v16 v17 v18 v19 v20 v22 v24 v26 v27 X3 X4 k (a0,a1,a2,b0,b1,b2,c0,c1,c2,d0,d1,d2) f10 f11
      = (rowSum a0 (lrN v13 (View.readAt (Elt F) m3.view (Rect.unit (s := S2048x512) (k0_off1 i k) S256x128.size (k0_off1_inb i k)).toLoadRect X3)),
      rowSum a1 (gN v8 v13 v17 (View.readAt (Elt F) m3.view (Rect.unit (s := S2048x512) (k0_off1 i k) S256x128.size (k0_off1_inb i k)).toLoadRect X3) (View.readAt (Elt F) m4.view (Rect.unit (s := S2048x512) (k0_off1 i k) S256x128.size (k0_off1_inb i k)).toLoadRect X4) v22 a0),
      dqV a2 (dzN v8 v12 v13 v17 (View.readAt (Elt F) m3.view (Rect.unit (s := S2048x512) (k0_off1 i k) S256x128.size (k0_off1_inb i k)).toLoadRect X3) (View.readAt (Elt F) m4.view (Rect.unit (s := S2048x512) (k0_off1 i k) S256x128.size (k0_off1_inb i k)).toLoadRect X4) v22 a0 a1) (View.readAt (Elt F) m3.view (Rect.unit (s := S2048x512) (k0_off1 i k) S256x128.size (k0_off1_inb i k)).toLoadRect X3),
      rowSum b0 (lrN v14 (View.readAt (Elt F) m3.view (Rect.unit (s := S2048x512) (k0_off2 i k) S256x128.size (k0_off2_inb i k)).toLoadRect X3)),
      rowSum b1 (gN v8 v14 v18 (View.readAt (Elt F) m3.view (Rect.unit (s := S2048x512) (k0_off2 i k) S256x128.size (k0_off2_inb i k)).toLoadRect X3) (View.readAt (Elt F) m4.view (Rect.unit (s := S2048x512) (k0_off2 i k) S256x128.size (k0_off2_inb i k)).toLoadRect X4) v24 b0),
      dqV b2 (dzN v8 v12 v14 v18 (View.readAt (Elt F) m3.view (Rect.unit (s := S2048x512) (k0_off2 i k) S256x128.size (k0_off2_inb i k)).toLoadRect X3) (View.readAt (Elt F) m4.view (Rect.unit (s := S2048x512) (k0_off2 i k) S256x128.size (k0_off2_inb i k)).toLoadRect X4) v24 b0 b1) (View.readAt (Elt F) m3.view (Rect.unit (s := S2048x512) (k0_off2 i k) S256x128.size (k0_off2_inb i k)).toLoadRect X3),
      rowSum c0 (lrN v15 (View.readAt (Elt F) m3.view (Rect.unit (s := S2048x512) (k0_off3 i k) S256x128.size (k0_off3_inb i k)).toLoadRect X3)),
      rowSum c1 (gN v8 v15 v19 (View.readAt (Elt F) m3.view (Rect.unit (s := S2048x512) (k0_off3 i k) S256x128.size (k0_off3_inb i k)).toLoadRect X3) (View.readAt (Elt F) m4.view (Rect.unit (s := S2048x512) (k0_off3 i k) S256x128.size (k0_off3_inb i k)).toLoadRect X4) v26 c0),
      dqV c2 (dzN v8 v12 v15 v19 (View.readAt (Elt F) m3.view (Rect.unit (s := S2048x512) (k0_off3 i k) S256x128.size (k0_off3_inb i k)).toLoadRect X3) (View.readAt (Elt F) m4.view (Rect.unit (s := S2048x512) (k0_off3 i k) S256x128.size (k0_off3_inb i k)).toLoadRect X4) v26 c0 c1) (View.readAt (Elt F) m3.view (Rect.unit (s := S2048x512) (k0_off3 i k) S256x128.size (k0_off3_inb i k)).toLoadRect X3),
      rowSum d0 (lrN v16 (View.readAt (Elt F) m3.view (Rect.unit (s := S2048x512) (k0_off4 i k) S256x128.size (k0_off4_inb i k)).toLoadRect X3)),
      rowSum d1 (gN v8 v16 v20 (View.readAt (Elt F) m3.view (Rect.unit (s := S2048x512) (k0_off4 i k) S256x128.size (k0_off4_inb i k)).toLoadRect X3) (View.readAt (Elt F) m4.view (Rect.unit (s := S2048x512) (k0_off4 i k) S256x128.size (k0_off4_inb i k)).toLoadRect X4) (k0_pay107 v27) d0),
      dqV d2 (dzN v8 v12 v16 v20 (View.readAt (Elt F) m3.view (Rect.unit (s := S2048x512) (k0_off4 i k) S256x128.size (k0_off4_inb i k)).toLoadRect X3) (View.readAt (Elt F) m4.view (Rect.unit (s := S2048x512) (k0_off4 i k) S256x128.size (k0_off4_inb i k)).toLoadRect X4) (k0_pay107 v27) d0 d1) (View.readAt (Elt F) m3.view (Rect.unit (s := S2048x512) (k0_off4 i k) S256x128.size (k0_off4_inb i k)).toLoadRect X3)) := by
  unfold tripR_k0_t1 trip_k0_t1
  rfl

end Cert.KernelIdeal.Trip

end

end
-- ==== Proof.Loop.lean ====
/-
  The loop over the blocks left of the diagonal, read: before trip `k` the carried values are the sums over the keys before
  block `k`, and the accumulators hold the rows' products at those keys.
-/
module

public import proofs.«01_k».proof.Proof.Acc
public import proofs.«01_k».proof.Proof.Trip

@[expose] public section

set_option maxRecDepth 16384
set_option maxHeartbeats 1000000

noncomputable section

namespace Cert.KernelIdeal.Loop

open Cert.KernelIdeal Cert.KernelIdeal.Gen Cert.KernelIdeal.Step Cert.KernelIdeal.Block Cert.KernelIdeal.Model Cert.KernelIdeal.Mem Cert.KernelIdeal.Acc Cert.KernelIdeal.Trip Idealize.ShloMosaic Idealize.ShloMosaic.TcCoe Idealize.SL.Sem
open scoped BigOperators

variable (Q D K V T : ℕ → ℕ → ℝ)

/-- The carried values before block `b`, rows from `256 * p` on. -/
def carry (p b : ℕ) : FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 :=
  (cv 256 1 (CL Q K 0 p b), cv 256 1 (CG Q D K V T 0 p b), cv 256 128 (DQ Q D K V T 0 p b), cv 256 1 (CL Q K 1 p b), cv 256 1 (CG Q D K V T 1 p b), cv 256 128 (DQ Q D K V T 1 p b), cv 256 1 (CL Q K 2 p b), cv 256 1 (CG Q D K V T 2 p b), cv 256 128 (DQ Q D K V T 2 p b), cv 256 1 (CL Q K 3 p b), cv 256 1 (CG Q D K V T 3 p b), cv 256 128 (DQ Q D K V T 3 p b))

theorem carry_zero (p : ℕ) : carry Q D K V T p 0 = (k0_pay108, k0_pay108, k0_pay109, k0_pay108, k0_pay108, k0_pay109, k0_pay108, k0_pay108, k0_pay109, k0_pay108, k0_pay108, k0_pay109) := by
  have a : ∀ n, cv 256 1 (CL Q K n p 0) = (k0_pay108 (F := Ideal)) := fun n => (zeros.trans (cv_congr fun r _ _ _ => by simp [CL])).symm
  have b : ∀ n, cv 256 1 (CG Q D K V T n p 0) = (k0_pay108 (F := Ideal)) := fun n => (zeros.trans (cv_congr fun r _ _ _ => by simp [CG])).symm
  have c : ∀ n, cv 256 128 (DQ Q D K V T n p 0) = (k0_pay109 (F := Ideal)) := fun n => (zeros128.trans (cv_congr fun r _ _ _ => by simp [DQ])).symm
  unfold carry
  rw [a, a, a, a, b, b, b, b, c, c, c, c]

theorem narrow (s : Shape) (x : FVec Ideal s .f32) : truncf (F := Ideal) .bf16 x bitsLt_bf16_f32 = x := rfl

/-- What a step stores into dk's accumulator for a head. -/
theorem dkBlock {p b : ℕ} (n : ℕ) (h : b < p) (A : ℕ → ℕ → ℝ) : accV (F := Ideal) (cv 256 128 fun r e => A (256 * b + r) (128 * n + e)) (dzN k0_pay102 k0_pay103 (cv 256 128 (rows n Q p)) (cv 256 128 (rows n D p)) (cv 256 128 (rows n K b)) (cv 256 128 (rows n V b)) (cv 256 1 (tots T n p)) (cv 256 1 (CL Q K n p b)) (cv 256 1 (CG Q D K V T n p b))) (cv 256 128 (rows n Q p))
    = cv 256 128 (blockN (DZ Q D K V T) Q p A b n) := by
  rw [dzN_eq Q D K V T n h, accV_cv]; rfl

/-- What a step stores into dv's accumulator for a head. -/
theorem dvBlock {p b : ℕ} (n : ℕ) (h : b < p) (A : ℕ → ℕ → ℝ) : accV (F := Ideal) (cv 256 128 fun r e => A (256 * b + r) (128 * n + e)) (truncf .bf16 (wN k0_pay102 (cv 256 128 (rows n Q p)) (cv 256 128 (rows n K b)) (cv 256 1 (tots T n p)) (cv 256 1 (CL Q K n p b))) bitsLt_bf16_f32) (cv 256 128 (rows n D p))
    = cv 256 128 (blockN (W Q K T) D p A b n) := by
  rw [narrow, wN_eq Q K T n h, accV_cv]; rfl

/-- A trip's carried values. -/
theorem trip_carry (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (a1 : BitVec 32) (t3 : Vec Ideal S1x256x1 .f32) (X3 : BufTy.Contents (Elt Ideal) a3.view.ty) (X4 : BufTy.Contents (Elt Ideal) a4.view.ty) (k : Fin (k0_t1_loop i).trips) (f10 : BufTy.Contents (Elt Ideal) a10.view.ty) (f11 : BufTy.Contents (Elt Ideal) a11.view.ty)
    (p : ℕ) (hk : k.val < p) (h3 : a3.view.read (Elt Ideal) X3 = cv 2048 512 K) (h4 : a4.view.read (Elt Ideal) X4 = cv 2048 512 V) (ht : k0_pay107 (F := Ideal) t3 = cv 256 1 (tots T 3 p)) :
    tripR_k0_t1 (F := Ideal) Variants.none c none i a2 u2 a3 u3 a4 u4 a5 u5 a6 u6 a7 u7 a8 u8 a9 u9 a10 u10 a11 u11 a1 (iota .tc S256x256 32 [0] iota_S256x256_d0_w32) (iota .tc S256x256 32 [1] iota_S256x256_d1_w32) k0_pay102 k0_pay103 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (tots T 0 p)) (cv 256 1 (tots T 1 p)) (cv 256 1 (tots T 2 p)) t3 X3 X4 k (carry Q D K V T p k.val) f10 f11 = carry Q D K V T p (k.val + 1) := by
  unfold carry
  rw [tripR_eq, ht]
  rw [load_rows a3.view X3 (k0_off1 i k) (256 * k.val) k.val 0 (k0_off1_eq i k) (k0_off1_inb i k) K K h3 (fun _ _ => rfl), load_rows a4.view X4 (k0_off1 i k) (256 * k.val) k.val 0 (k0_off1_eq i k) (k0_off1_inb i k) V V h4 (fun _ _ => rfl)]
  rw [load_rows a3.view X3 (k0_off2 i k) (256 * k.val) k.val 1 (k0_off2_eq i k) (k0_off2_inb i k) K K h3 (fun _ _ => rfl), load_rows a4.view X4 (k0_off2 i k) (256 * k.val) k.val 1 (k0_off2_eq i k) (k0_off2_inb i k) V V h4 (fun _ _ => rfl)]
  rw [load_rows a3.view X3 (k0_off3 i k) (256 * k.val) k.val 2 (k0_off3_eq i k) (k0_off3_inb i k) K K h3 (fun _ _ => rfl), load_rows a4.view X4 (k0_off3 i k) (256 * k.val) k.val 2 (k0_off3_eq i k) (k0_off3_inb i k) V V h4 (fun _ _ => rfl)]
  rw [load_rows a3.view X3 (k0_off4 i k) (256 * k.val) k.val 3 (k0_off4_eq i k) (k0_off4_inb i k) K K h3 (fun _ _ => rfl), load_rows a4.view X4 (k0_off4 i k) (256 * k.val) k.val 3 (k0_off4_eq i k) (k0_off4_inb i k) V V h4 (fun _ _ => rfl)]
  rw [stepCL Q K 0 hk, stepCG Q D K V T 0 hk, stepDQ Q D K V T 0 hk]
  rw [stepCL Q K 1 hk, stepCG Q D K V T 1 hk, stepDQ Q D K V T 1 hk]
  rw [stepCL Q K 2 hk, stepCG Q D K V T 2 hk, stepDQ Q D K V T 2 hk]
  rw [stepCL Q K 3 hk, stepCG Q D K V T 3 hk, stepDQ Q D K V T 3 hk]

/-- A trip's stores into dk's accumulator. -/
theorem trip_dk (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (a1 : BitVec 32) (t3 : Vec Ideal S1x256x1 .f32) (X3 : BufTy.Contents (Elt Ideal) a3.view.ty) (X4 : BufTy.Contents (Elt Ideal) a4.view.ty) (k : Fin (k0_t1_loop i).trips) (f10 : BufTy.Contents (Elt Ideal) a10.view.ty) (f11 : BufTy.Contents (Elt Ideal) a11.view.ty)
    (p : ℕ) (hk : k.val < p) (h3 : a3.view.read (Elt Ideal) X3 = cv 2048 512 K) (h4 : a4.view.read (Elt Ideal) X4 = cv 2048 512 V) (ht : k0_pay107 (F := Ideal) t3 = cv 256 1 (tots T 3 p))
    (A : ℕ → ℕ → ℝ) (G : BufTy.Contents (Elt Ideal) a10.view.ty) (L : List (View.Piece (Elt Ideal) S2048x512 .f32)) (hf : f10 = a10.view.writes (Elt Ideal) G L) (h : a10.view.read (Elt Ideal) (a10.view.writes (Elt Ideal) G L) = cv 2048 512 (addN (DZ Q D K V T) Q p k.val 0 A)) :
    a10.view.read (Elt Ideal) (a10.view.writes (Elt Ideal) G ((tripL_k0_t1 (F := Ideal) Variants.none c none i a2 u2 a3 u3 a4 u4 a5 u5 a6 u6 a7 u7 a8 u8 a9 u9 a10 u10 a11 u11 a1 (iota .tc S256x256 32 [0] iota_S256x256_d0_w32) (iota .tc S256x256 32 [1] iota_S256x256_d1_w32) k0_pay102 k0_pay103 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (tots T 0 p)) (cv 256 1 (tots T 1 p)) (cv 256 1 (tots T 2 p)) t3 X3 X4 k (carry Q D K V T p k.val) f10 f11).1 ++ L)) = cv 2048 512 (addN (DZ Q D K V T) Q p (k.val + 1) 0 A) := by
  have hr : a10.view.read (Elt Ideal) f10 = cv 2048 512 (addN (DZ Q D K V T) Q p k.val 0 A) := by rw [hf]; exact h
  clear hf
  unfold carry
  rw [tripL_eq, ht, ← addN_next]
  rw [load_rows a3.view X3 (k0_off1 i k) (256 * k.val) k.val 0 (k0_off1_eq i k) (k0_off1_inb i k) K K h3 (fun _ _ => rfl), load_rows a4.view X4 (k0_off1 i k) (256 * k.val) k.val 0 (k0_off1_eq i k) (k0_off1_inb i k) V V h4 (fun _ _ => rfl), load_acc (DZ Q D K V T) Q p A a10.view f10 (k0_off1 i k) k.val 0 0 (k0_off1_eq i k) (Nat.zero_le _) (k0_off1_inb i k) hr]
  rw [load_rows a3.view X3 (k0_off2 i k) (256 * k.val) k.val 1 (k0_off2_eq i k) (k0_off2_inb i k) K K h3 (fun _ _ => rfl), load_rows a4.view X4 (k0_off2 i k) (256 * k.val) k.val 1 (k0_off2_eq i k) (k0_off2_inb i k) V V h4 (fun _ _ => rfl), load_acc (DZ Q D K V T) Q p A a10.view f10 (k0_off2 i k) k.val 1 0 (k0_off2_eq i k) (Nat.zero_le _) (k0_off2_inb i k) hr]
  rw [load_rows a3.view X3 (k0_off3 i k) (256 * k.val) k.val 2 (k0_off3_eq i k) (k0_off3_inb i k) K K h3 (fun _ _ => rfl), load_rows a4.view X4 (k0_off3 i k) (256 * k.val) k.val 2 (k0_off3_eq i k) (k0_off3_inb i k) V V h4 (fun _ _ => rfl), load_acc (DZ Q D K V T) Q p A a10.view f10 (k0_off3 i k) k.val 2 0 (k0_off3_eq i k) (Nat.zero_le _) (k0_off3_inb i k) hr]
  rw [load_rows a3.view X3 (k0_off4 i k) (256 * k.val) k.val 3 (k0_off4_eq i k) (k0_off4_inb i k) K K h3 (fun _ _ => rfl), load_rows a4.view X4 (k0_off4 i k) (256 * k.val) k.val 3 (k0_off4_eq i k) (k0_off4_inb i k) V V h4 (fun _ _ => rfl), load_acc (DZ Q D K V T) Q p A a10.view f10 (k0_off4 i k) k.val 3 0 (k0_off4_eq i k) (Nat.zero_le _) (k0_off4_inb i k) hr]
  exact (store_acc (DZ Q D K V T) Q p A a10.view G _ (k0_off4 i k) k.val 3 (k0_off4_eq i k) (k0_off4_inb i k) _ (dkBlock Q D K V T 3 hk A) (store_acc (DZ Q D K V T) Q p A a10.view G _ (k0_off3 i k) k.val 2 (k0_off3_eq i k) (k0_off3_inb i k) _ (dkBlock Q D K V T 2 hk A) (store_acc (DZ Q D K V T) Q p A a10.view G _ (k0_off2 i k) k.val 1 (k0_off2_eq i k) (k0_off2_inb i k) _ (dkBlock Q D K V T 1 hk A) (store_acc (DZ Q D K V T) Q p A a10.view G _ (k0_off1 i k) k.val 0 (k0_off1_eq i k) (k0_off1_inb i k) _ (dkBlock Q D K V T 0 hk A) h))))

/-- A trip's stores into dv's accumulator. -/
theorem trip_dv (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (a1 : BitVec 32) (t3 : Vec Ideal S1x256x1 .f32) (X3 : BufTy.Contents (Elt Ideal) a3.view.ty) (X4 : BufTy.Contents (Elt Ideal) a4.view.ty) (k : Fin (k0_t1_loop i).trips) (f10 : BufTy.Contents (Elt Ideal) a10.view.ty) (f11 : BufTy.Contents (Elt Ideal) a11.view.ty)
    (p : ℕ) (hk : k.val < p) (h3 : a3.view.read (Elt Ideal) X3 = cv 2048 512 K) (h4 : a4.view.read (Elt Ideal) X4 = cv 2048 512 V) (ht : k0_pay107 (F := Ideal) t3 = cv 256 1 (tots T 3 p))
    (A : ℕ → ℕ → ℝ) (G : BufTy.Contents (Elt Ideal) a11.view.ty) (L : List (View.Piece (Elt Ideal) S2048x512 .f32)) (hf : f11 = a11.view.writes (Elt Ideal) G L) (h : a11.view.read (Elt Ideal) (a11.view.writes (Elt Ideal) G L) = cv 2048 512 (addN (W Q K T) D p k.val 0 A)) :
    a11.view.read (Elt Ideal) (a11.view.writes (Elt Ideal) G ((tripL_k0_t1 (F := Ideal) Variants.none c none i a2 u2 a3 u3 a4 u4 a5 u5 a6 u6 a7 u7 a8 u8 a9 u9 a10 u10 a11 u11 a1 (iota .tc S256x256 32 [0] iota_S256x256_d0_w32) (iota .tc S256x256 32 [1] iota_S256x256_d1_w32) k0_pay102 k0_pay103 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (tots T 0 p)) (cv 256 1 (tots T 1 p)) (cv 256 1 (tots T 2 p)) t3 X3 X4 k (carry Q D K V T p k.val) f10 f11).2 ++ L)) = cv 2048 512 (addN (W Q K T) D p (k.val + 1) 0 A) := by
  have hr : a11.view.read (Elt Ideal) f11 = cv 2048 512 (addN (W Q K T) D p k.val 0 A) := by rw [hf]; exact h
  clear hf
  unfold carry
  rw [tripL_eq, ht, ← addN_next]
  rw [load_rows a3.view X3 (k0_off1 i k) (256 * k.val) k.val 0 (k0_off1_eq i k) (k0_off1_inb i k) K K h3 (fun _ _ => rfl), load_acc (W Q K T) D p A a11.view f11 (k0_off1 i k) k.val 0 0 (k0_off1_eq i k) (Nat.zero_le _) (k0_off1_inb i k) hr]
  rw [load_rows a3.view X3 (k0_off2 i k) (256 * k.val) k.val 1 (k0_off2_eq i k) (k0_off2_inb i k) K K h3 (fun _ _ => rfl), load_acc (W Q K T) D p A a11.view f11 (k0_off2 i k) k.val 1 0 (k0_off2_eq i k) (Nat.zero_le _) (k0_off2_inb i k) hr]
  rw [load_rows a3.view X3 (k0_off3 i k) (256 * k.val) k.val 2 (k0_off3_eq i k) (k0_off3_inb i k) K K h3 (fun _ _ => rfl), load_acc (W Q K T) D p A a11.view f11 (k0_off3 i k) k.val 2 0 (k0_off3_eq i k) (Nat.zero_le _) (k0_off3_inb i k) hr]
  rw [load_rows a3.view X3 (k0_off4 i k) (256 * k.val) k.val 3 (k0_off4_eq i k) (k0_off4_inb i k) K K h3 (fun _ _ => rfl), load_acc (W Q K T) D p A a11.view f11 (k0_off4 i k) k.val 3 0 (k0_off4_eq i k) (Nat.zero_le _) (k0_off4_inb i k) hr]
  exact (store_acc (W Q K T) D p A a11.view G _ (k0_off4 i k) k.val 3 (k0_off4_eq i k) (k0_off4_inb i k) _ (dvBlock Q D K T 3 hk A) (store_acc (W Q K T) D p A a11.view G _ (k0_off3 i k) k.val 2 (k0_off3_eq i k) (k0_off3_inb i k) _ (dvBlock Q D K T 2 hk A) (store_acc (W Q K T) D p A a11.view G _ (k0_off2 i k) k.val 1 (k0_off2_eq i k) (k0_off2_inb i k) _ (dvBlock Q D K T 1 hk A) (store_acc (W Q K T) D p A a11.view G _ (k0_off1 i k) k.val 0 (k0_off1_eq i k) (k0_off1_inb i k) _ (dvBlock Q D K T 0 hk A) h))))

/-- Before trip `k`. -/
theorem loop_inv (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (a1 : BitVec 32) (t3 : Vec Ideal S1x256x1 .f32) (X3 : BufTy.Contents (Elt Ideal) a3.view.ty) (X4 : BufTy.Contents (Elt Ideal) a4.view.ty) (G10 : BufTy.Contents (Elt Ideal) a10.view.ty) (G11 : BufTy.Contents (Elt Ideal) a11.view.ty)
    (p : ℕ) (hp : (k0_t1_loop i).trips ≤ p) (h3 : a3.view.read (Elt Ideal) X3 = cv 2048 512 K) (h4 : a4.view.read (Elt Ideal) X4 = cv 2048 512 V) (ht : k0_pay107 (F := Ideal) t3 = cv 256 1 (tots T 3 p))
    (A B : ℕ → ℕ → ℝ) (h10 : a10.view.read (Elt Ideal) G10 = cv 2048 512 A) (h11 : a11.view.read (Elt Ideal) G11 = cv 2048 512 B) (k : ℕ) (hk : k ≤ (k0_t1_loop i).trips) :
    (st_k0_t1 (F := Ideal) Variants.none c none i a2 u2 a3 u3 a4 u4 a5 u5 a6 u6 a7 u7 a8 u8 a9 u9 a10 u10 a11 u11 a1 (iota .tc S256x256 32 [0] iota_S256x256_d0_w32) (iota .tc S256x256 32 [1] iota_S256x256_d1_w32) k0_pay102 k0_pay103 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (tots T 0 p)) (cv 256 1 (tots T 1 p)) (cv 256 1 (tots T 2 p)) t3 X3 X4 G10 G11 (carry Q D K V T p 0) k).1 = carry Q D K V T p k
    ∧ a10.view.read (Elt Ideal) (a10.view.writes (Elt Ideal) G10 (st_k0_t1 (F := Ideal) Variants.none c none i a2 u2 a3 u3 a4 u4 a5 u5 a6 u6 a7 u7 a8 u8 a9 u9 a10 u10 a11 u11 a1 (iota .tc S256x256 32 [0] iota_S256x256_d0_w32) (iota .tc S256x256 32 [1] iota_S256x256_d1_w32) k0_pay102 k0_pay103 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (tots T 0 p)) (cv 256 1 (tots T 1 p)) (cv 256 1 (tots T 2 p)) t3 X3 X4 G10 G11 (carry Q D K V T p 0) k).2.1) = cv 2048 512 (addN (DZ Q D K V T) Q p k 0 A)
    ∧ a11.view.read (Elt Ideal) (a11.view.writes (Elt Ideal) G11 (st_k0_t1 (F := Ideal) Variants.none c none i a2 u2 a3 u3 a4 u4 a5 u5 a6 u6 a7 u7 a8 u8 a9 u9 a10 u10 a11 u11 a1 (iota .tc S256x256 32 [0] iota_S256x256_d0_w32) (iota .tc S256x256 32 [1] iota_S256x256_d1_w32) k0_pay102 k0_pay103 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (tots T 0 p)) (cv 256 1 (tots T 1 p)) (cv 256 1 (tots T 2 p)) t3 X3 X4 G10 G11 (carry Q D K V T p 0) k).2.2) = cv 2048 512 (addN (W Q K T) D p k 0 B) := by
  induction k with
  | zero => rw [addN_zero, addN_zero]; exact ⟨rfl, h10, h11⟩
  | succ k ih =>
    obtain ⟨i1, i2, i3⟩ := ih (Nat.le_of_succ_le hk)
    have hs := st_k0_t1_succ (F := Ideal) Variants.none c none i a2 u2 a3 u3 a4 u4 a5 u5 a6 u6 a7 u7 a8 u8 a9 u9 a10 u10 a11 u11 a1 (iota .tc S256x256 32 [0] iota_S256x256_d0_w32) (iota .tc S256x256 32 [1] iota_S256x256_d1_w32) k0_pay102 k0_pay103 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (tots T 0 p)) (cv 256 1 (tots T 1 p)) (cv 256 1 (tots T 2 p)) t3 X3 X4 G10 G11 (carry Q D K V T p 0) ⟨k, hk⟩
    dsimp only at hs
    rw [hs, i1]
    exact ⟨trip_carry Q D K V T c i a2 u2 a3 u3 a4 u4 a5 u5 a6 u6 a7 u7 a8 u8 a9 u9 a10 u10 a11 u11 a1 t3 X3 X4 ⟨k, hk⟩ _ _ p (Nat.lt_of_lt_of_le hk hp) h3 h4 ht,
      trip_dk Q D K V T c i a2 u2 a3 u3 a4 u4 a5 u5 a6 u6 a7 u7 a8 u8 a9 u9 a10 u10 a11 u11 a1 t3 X3 X4 ⟨k, hk⟩ _ _ p (Nat.lt_of_lt_of_le hk hp) h3 h4 ht A _ _ rfl i2,
      trip_dv Q D K V T c i a2 u2 a3 u3 a4 u4 a5 u5 a6 u6 a7 u7 a8 u8 a9 u9 a10 u10 a11 u11 a1 t3 X3 X4 ⟨k, hk⟩ _ _ p (Nat.lt_of_lt_of_le hk hp) h3 h4 ht B _ _ rfl i3⟩

end Cert.KernelIdeal.Loop

end

end
-- ==== Proof.RunDefs.lean ====
/-
  The kernel's body opened, in each of its three cases: the loop over the blocks left of the diagonal, then the block on
  it, then what the block of dq and the accumulators of dk and dv hold.
-/
module

public import proofs.«01_k».proof.Proof.Trip
public import proofs.«01_k».proof.Proof.Gen.KernelIdeal.Frame.Runs

@[expose] public section

set_option maxRecDepth 16384

noncomputable section

namespace Cert.KernelIdeal.Runs

open Cert.KernelIdeal Cert.KernelIdeal.Gen Cert.KernelIdeal.Step Idealize.ShloMosaic Idealize.ShloMosaic.TcCoe Idealize.SL.Sem

/-- The parts of the blocks that the heads read. -/
abbrev r0 := (Rect.unit (s := S256x512) ![0, 0] S256x128.size inb_S256x512_S256x128_0_0).toLoadRect
abbrev r1 := (Rect.unit (s := S256x512) ![0, 128] S256x128.size inb_S256x512_S256x128_0_128).toLoadRect
abbrev r2 := (Rect.unit (s := S256x512) ![0, 256] S256x128.size inb_S256x512_S256x128_0_256).toLoadRect
abbrev r3 := (Rect.unit (s := S256x512) ![0, 384] S256x128.size inb_S256x512_S256x128_0_384).toLoadRect
abbrev r4 := (Rect.unit (s := S4x256x1) ![0, 0, 0] S1x256x1.size inb_S4x256x1_S1x256x1_0_0_0).toLoadRect
abbrev r5 := (Rect.unit (s := S4x256x1) ![1, 0, 0] S1x256x1.size inb_S4x256x1_S1x256x1_1_0_0).toLoadRect
abbrev r6 := (Rect.unit (s := S4x256x1) ![2, 0, 0] S1x256x1.size inb_S4x256x1_S1x256x1_2_0_0).toLoadRect
abbrev r7 := (Rect.unit (s := S4x256x1) ![3, 0, 0] S1x256x1.size inb_S4x256x1_S1x256x1_3_0_0).toLoadRect

/-- A state of the loops: per head the two rows' sums and dq; then the stores into the accumulators of dk and dv. -/
abbrev Carry (F : FTy → Type) : Type := FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32
/-- The carried values and the two lists of stores. -/
abbrev State (F : FTy → Type) : Type := Carry F × List (View.Piece (Elt F) S2048x512 .f32) × List (View.Piece (Elt F) S2048x512 .f32)

variable {F : FTy → Type} [FloatOps F]

variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec F S256x512 .bf16) (x1 : Vec F S2048x512 .bf16) (x2 : Vec F S2048x512 .bf16) (x3 : Vec F S256x512 .bf16) (x4 : Vec F S4x256x1 .f32) (G10 : BufTy.Contents (Elt F) a10.view.ty) (G11 : BufTy.Contents (Elt F) a11.view.ty)

/-- The state after `k` trips of the loop over the blocks left of the diagonal, from zero sums. -/
def st1 (k : ℕ) : State F :=
  st_k0_t1 Variants.none c none i a2 u2 a3 u3 a4 u4 a5 u5 a6 u6 a7 u7 a8 u8 a9 u9 a10 u10 a11 u11 (BitVec.ofNat 32 ↑(i 1)) (iota .tc S256x256 32 [0] iota_S256x256_d0_w32) (iota .tc S256x256 32 [1] iota_S256x256_d1_w32) k0_pay102 k0_pay103 (View.readAt (Elt F) a2.view r0 (u2.unread x0)) (View.readAt (Elt F) a2.view r1 (u2.unread x0)) (View.readAt (Elt F) a2.view r2 (u2.unread x0)) (View.readAt (Elt F) a2.view r3 (u2.unread x0)) (View.readAt (Elt F) a5.view r0 (u5.unread x3)) (View.readAt (Elt F) a5.view r1 (u5.unread x3)) (View.readAt (Elt F) a5.view r2 (u5.unread x3)) (View.readAt (Elt F) a5.view r3 (u5.unread x3)) (k0_pay104 (View.readAt (Elt F) a6.view r4 (u6.unread x4))) (k0_pay105 (View.readAt (Elt F) a6.view r5 (u6.unread x4))) (k0_pay106 (View.readAt (Elt F) a6.view r6 (u6.unread x4))) (View.readAt (Elt F) a6.view r7 (u6.unread x4)) (u3.unread x1) (u4.unread x2) G10 G11 (k0_pay108, k0_pay108, k0_pay109, k0_pay108, k0_pay108, k0_pay109, k0_pay108, k0_pay108, k0_pay109, k0_pay108, k0_pay108, k0_pay109) k

/-- The state after `k` trips of the loop's remainder, from a state. -/
def st2 (s : Carry F) (k : ℕ) : State F :=
  st_k0_t2 Variants.none c none i a2 u2 a3 u3 a4 u4 a5 u5 a6 u6 a7 u7 a8 u8 a9 u9 a10 u10 a11 u11 (BitVec.ofNat 32 ↑(i 1)) (iota .tc S256x256 32 [0] iota_S256x256_d0_w32) (iota .tc S256x256 32 [1] iota_S256x256_d1_w32) k0_pay102 k0_pay103 (View.readAt (Elt F) a2.view r0 (u2.unread x0)) (View.readAt (Elt F) a2.view r1 (u2.unread x0)) (View.readAt (Elt F) a2.view r2 (u2.unread x0)) (View.readAt (Elt F) a2.view r3 (u2.unread x0)) (View.readAt (Elt F) a5.view r0 (u5.unread x3)) (View.readAt (Elt F) a5.view r1 (u5.unread x3)) (View.readAt (Elt F) a5.view r2 (u5.unread x3)) (View.readAt (Elt F) a5.view r3 (u5.unread x3)) (k0_pay104 (View.readAt (Elt F) a6.view r4 (u6.unread x4))) (k0_pay105 (View.readAt (Elt F) a6.view r5 (u6.unread x4))) (k0_pay106 (View.readAt (Elt F) a6.view r6 (u6.unread x4))) (View.readAt (Elt F) a6.view r7 (u6.unread x4)) (Scalar.addi (0#32) (Scalar.muli (Scalar.divsi (Scalar.subi (BitVec.ofNat 32 ↑(i 1)) 0#32) 1#32) 1#32)) (u3.unread x1) (u4.unread x2) G10 G11 s k

/-- The state after both loops. -/
def stE  : State F :=
  let a := st1 c i a2 u2 a3 u3 a4 u4 a5 u5 a6 u6 a7 u7 a8 u8 a9 u9 a10 u10 a11 u11 x0 x1 x2 x3 x4 G10 G11 (Scf.trips (0#32) (Scalar.addi (0#32) (Scalar.muli (Scalar.divsi (Scalar.subi (BitVec.ofNat 32 ↑(i 1)) 0#32) 1#32) 1#32)) 1#32)
  let b := st2 c i a2 u2 a3 u3 a4 u4 a5 u5 a6 u6 a7 u7 a8 u8 a9 u9 a10 u10 a11 u11 x0 x1 x2 x3 x4 (a10.view.writes (Elt F) G10 a.2.1) (a11.view.writes (Elt F) G11 a.2.2) (a.1.1, a.1.2.1, a.1.2.2.1, a.1.2.2.2.1, a.1.2.2.2.2.1, a.1.2.2.2.2.2.1, a.1.2.2.2.2.2.2.1, a.1.2.2.2.2.2.2.2.1, a.1.2.2.2.2.2.2.2.2.1, a.1.2.2.2.2.2.2.2.2.2.1, a.1.2.2.2.2.2.2.2.2.2.2.1, a.1.2.2.2.2.2.2.2.2.2.2.2) (Scf.trips (Scalar.addi (0#32) (Scalar.muli (Scalar.divsi (Scalar.subi (BitVec.ofNat 32 ↑(i 1)) 0#32) 1#32) 1#32)) (Scalar.addi (0#32) (Scalar.subi (BitVec.ofNat 32 ↑(i 1)) 0#32)) 1#32)
  (b.1, b.2.1 ++ a.2.1, b.2.2 ++ a.2.2)

/-- What the block on the diagonal adds to dq, per head, the last first. -/
def dqL (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec F S256x512 .bf16) (x1 : Vec F S2048x512 .bf16) (x2 : Vec F S2048x512 .bf16) (x3 : Vec F S256x512 .bf16) (x4 : Vec F S4x256x1 .f32) (s : Carry F) : List (View.Piece (Elt F) S256x512 .bf16) :=
  [⟨Rect.unit (s := S256x512) ![0, 384] S256x128.size inb_S256x512_S256x128_0_384, (truncf .bf16 (dqV (s.2.2.2.2.2.2.2.2.2.2.2) (dzD (iota .tc S256x256 32 [0] iota_S256x256_d0_w32) (iota .tc S256x256 32 [1] iota_S256x256_d1_w32) k0_pay102 k0_pay103 (View.readAt (Elt F) a2.view r3 (u2.unread x0)) (View.readAt (Elt F) a5.view r3 (u5.unread x3)) (View.readAt (Elt F) a3.view (Rect.unit (s := S2048x512) (k0_off12 i) S256x128.size (k0_off12_inb i)).toLoadRect (u3.unread x1)) (View.readAt (Elt F) a4.view (Rect.unit (s := S2048x512) (k0_off12 i) S256x128.size (k0_off12_inb i)).toLoadRect (u4.unread x2)) (k0_pay107 (View.readAt (Elt F) a6.view r7 (u6.unread x4))) (s.2.2.2.2.2.2.2.2.2.1) (s.2.2.2.2.2.2.2.2.2.2.1)) (View.readAt (Elt F) a3.view (Rect.unit (s := S2048x512) (k0_off12 i) S256x128.size (k0_off12_inb i)).toLoadRect (u3.unread x1))) bitsLt_bf16_f32)⟩, ⟨Rect.unit (s := S256x512) ![0, 256] S256x128.size inb_S256x512_S256x128_0_256, (truncf .bf16 (dqV (s.2.2.2.2.2.2.2.2.1) (dzD (iota .tc S256x256 32 [0] iota_S256x256_d0_w32) (iota .tc S256x256 32 [1] iota_S256x256_d1_w32) k0_pay102 k0_pay103 (View.readAt (Elt F) a2.view r2 (u2.unread x0)) (View.readAt (Elt F) a5.view r2 (u5.unread x3)) (View.readAt (Elt F) a3.view (Rect.unit (s := S2048x512) (k0_off11 i) S256x128.size (k0_off11_inb i)).toLoadRect (u3.unread x1)) (View.readAt (Elt F) a4.view (Rect.unit (s := S2048x512) (k0_off11 i) S256x128.size (k0_off11_inb i)).toLoadRect (u4.unread x2)) (k0_pay106 (View.readAt (Elt F) a6.view r6 (u6.unread x4))) (s.2.2.2.2.2.2.1) (s.2.2.2.2.2.2.2.1)) (View.readAt (Elt F) a3.view (Rect.unit (s := S2048x512) (k0_off11 i) S256x128.size (k0_off11_inb i)).toLoadRect (u3.unread x1))) bitsLt_bf16_f32)⟩, ⟨Rect.unit (s := S256x512) ![0, 128] S256x128.size inb_S256x512_S256x128_0_128, (truncf .bf16 (dqV (s.2.2.2.2.2.1) (dzD (iota .tc S256x256 32 [0] iota_S256x256_d0_w32) (iota .tc S256x256 32 [1] iota_S256x256_d1_w32) k0_pay102 k0_pay103 (View.readAt (Elt F) a2.view r1 (u2.unread x0)) (View.readAt (Elt F) a5.view r1 (u5.unread x3)) (View.readAt (Elt F) a3.view (Rect.unit (s := S2048x512) (k0_off10 i) S256x128.size (k0_off10_inb i)).toLoadRect (u3.unread x1)) (View.readAt (Elt F) a4.view (Rect.unit (s := S2048x512) (k0_off10 i) S256x128.size (k0_off10_inb i)).toLoadRect (u4.unread x2)) (k0_pay105 (View.readAt (Elt F) a6.view r5 (u6.unread x4))) (s.2.2.2.1) (s.2.2.2.2.1)) (View.readAt (Elt F) a3.view (Rect.unit (s := S2048x512) (k0_off10 i) S256x128.size (k0_off10_inb i)).toLoadRect (u3.unread x1))) bitsLt_bf16_f32)⟩, ⟨Rect.unit (s := S256x512) ![0, 0] S256x128.size inb_S256x512_S256x128_0_0, (truncf .bf16 (dqV (s.2.2.1) (dzD (iota .tc S256x256 32 [0] iota_S256x256_d0_w32) (iota .tc S256x256 32 [1] iota_S256x256_d1_w32) k0_pay102 k0_pay103 (View.readAt (Elt F) a2.view r0 (u2.unread x0)) (View.readAt (Elt F) a5.view r0 (u5.unread x3)) (View.readAt (Elt F) a3.view (Rect.unit (s := S2048x512) (k0_off9 i) S256x128.size (k0_off9_inb i)).toLoadRect (u3.unread x1)) (View.readAt (Elt F) a4.view (Rect.unit (s := S2048x512) (k0_off9 i) S256x128.size (k0_off9_inb i)).toLoadRect (u4.unread x2)) (k0_pay104 (View.readAt (Elt F) a6.view r4 (u6.unread x4))) (s.1) (s.2.1)) (View.readAt (Elt F) a3.view (Rect.unit (s := S2048x512) (k0_off9 i) S256x128.size (k0_off9_inb i)).toLoadRect (u3.unread x1))) bitsLt_bf16_f32)⟩]

/-- The stores into the accumulator of dk up to head 0's of the block on the diagonal. -/
def dkL0 (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec F S256x512 .bf16) (x1 : Vec F S2048x512 .bf16) (x2 : Vec F S2048x512 .bf16) (x3 : Vec F S256x512 .bf16) (x4 : Vec F S4x256x1 .f32) (s : Carry F) (G : BufTy.Contents (Elt F) a10.view.ty) (L : List (View.Piece (Elt F) S2048x512 .f32)) : List (View.Piece (Elt F) S2048x512 .f32) :=
  ⟨(Rect.unit (s := S2048x512) (k0_off9 i) S256x128.size (k0_off9_inb i)), accV (View.readAt (Elt F) a10.view (Rect.unit (s := S2048x512) (k0_off9 i) S256x128.size (k0_off9_inb i)).toLoadRect (a10.view.writes (Elt F) G L)) (dzD (iota .tc S256x256 32 [0] iota_S256x256_d0_w32) (iota .tc S256x256 32 [1] iota_S256x256_d1_w32) k0_pay102 k0_pay103 (View.readAt (Elt F) a2.view r0 (u2.unread x0)) (View.readAt (Elt F) a5.view r0 (u5.unread x3)) (View.readAt (Elt F) a3.view (Rect.unit (s := S2048x512) (k0_off9 i) S256x128.size (k0_off9_inb i)).toLoadRect (u3.unread x1)) (View.readAt (Elt F) a4.view (Rect.unit (s := S2048x512) (k0_off9 i) S256x128.size (k0_off9_inb i)).toLoadRect (u4.unread x2)) (k0_pay104 (View.readAt (Elt F) a6.view r4 (u6.unread x4))) (s.1) (s.2.1)) (View.readAt (Elt F) a2.view r0 (u2.unread x0))⟩ :: L

/-- The stores into the accumulator of dk up to head 1's of the block on the diagonal. -/
def dkL1 (s : Carry F) (G : BufTy.Contents (Elt F) a10.view.ty) (L : List (View.Piece (Elt F) S2048x512 .f32)) : List (View.Piece (Elt F) S2048x512 .f32) :=
  ⟨(Rect.unit (s := S2048x512) (k0_off10 i) S256x128.size (k0_off10_inb i)), accV (View.readAt (Elt F) a10.view (Rect.unit (s := S2048x512) (k0_off10 i) S256x128.size (k0_off10_inb i)).toLoadRect (a10.view.writes (Elt F) G (dkL0 i a2 u2 a3 u3 a4 u4 a5 u5 a6 u6 a7 u7 a8 u8 a9 u9 a10 u10 a11 u11 x0 x1 x2 x3 x4 s G L))) (dzD (iota .tc S256x256 32 [0] iota_S256x256_d0_w32) (iota .tc S256x256 32 [1] iota_S256x256_d1_w32) k0_pay102 k0_pay103 (View.readAt (Elt F) a2.view r1 (u2.unread x0)) (View.readAt (Elt F) a5.view r1 (u5.unread x3)) (View.readAt (Elt F) a3.view (Rect.unit (s := S2048x512) (k0_off10 i) S256x128.size (k0_off10_inb i)).toLoadRect (u3.unread x1)) (View.readAt (Elt F) a4.view (Rect.unit (s := S2048x512) (k0_off10 i) S256x128.size (k0_off10_inb i)).toLoadRect (u4.unread x2)) (k0_pay105 (View.readAt (Elt F) a6.view r5 (u6.unread x4))) (s.2.2.2.1) (s.2.2.2.2.1)) (View.readAt (Elt F) a2.view r1 (u2.unread x0))⟩ :: (dkL0 i a2 u2 a3 u3 a4 u4 a5 u5 a6 u6 a7 u7 a8 u8 a9 u9 a10 u10 a11 u11 x0 x1 x2 x3 x4 s G L)

/-- The stores into the accumulator of dk up to head 2's of the block on the diagonal. -/
def dkL2 (s : Carry F) (G : BufTy.Contents (Elt F) a10.view.ty) (L : List (View.Piece (Elt F) S2048x512 .f32)) : List (View.Piece (Elt F) S2048x512 .f32) :=
  ⟨(Rect.unit (s := S2048x512) (k0_off11 i) S256x128.size (k0_off11_inb i)), accV (View.readAt (Elt F) a10.view (Rect.unit (s := S2048x512) (k0_off11 i) S256x128.size (k0_off11_inb i)).toLoadRect (a10.view.writes (Elt F) G (dkL1 i a2 u2 a3 u3 a4 u4 a5 u5 a6 u6 a7 u7 a8 u8 a9 u9 a10 u10 a11 u11 x0 x1 x2 x3 x4 s G L))) (dzD (iota .tc S256x256 32 [0] iota_S256x256_d0_w32) (iota .tc S256x256 32 [1] iota_S256x256_d1_w32) k0_pay102 k0_pay103 (View.readAt (Elt F) a2.view r2 (u2.unread x0)) (View.readAt (Elt F) a5.view r2 (u5.unread x3)) (View.readAt (Elt F) a3.view (Rect.unit (s := S2048x512) (k0_off11 i) S256x128.size (k0_off11_inb i)).toLoadRect (u3.unread x1)) (View.readAt (Elt F) a4.view (Rect.unit (s := S2048x512) (k0_off11 i) S256x128.size (k0_off11_inb i)).toLoadRect (u4.unread x2)) (k0_pay106 (View.readAt (Elt F) a6.view r6 (u6.unread x4))) (s.2.2.2.2.2.2.1) (s.2.2.2.2.2.2.2.1)) (View.readAt (Elt F) a2.view r2 (u2.unread x0))⟩ :: (dkL1 i a2 u2 a3 u3 a4 u4 a5 u5 a6 u6 a7 u7 a8 u8 a9 u9 a10 u10 a11 u11 x0 x1 x2 x3 x4 s G L)

/-- The stores into the accumulator of dk up to head 3's of the block on the diagonal. -/
def dkL3 (s : Carry F) (G : BufTy.Contents (Elt F) a10.view.ty) (L : List (View.Piece (Elt F) S2048x512 .f32)) : List (View.Piece (Elt F) S2048x512 .f32) :=
  ⟨(Rect.unit (s := S2048x512) (k0_off12 i) S256x128.size (k0_off12_inb i)), accV (View.readAt (Elt F) a10.view (Rect.unit (s := S2048x512) (k0_off12 i) S256x128.size (k0_off12_inb i)).toLoadRect (a10.view.writes (Elt F) G (dkL2 i a2 u2 a3 u3 a4 u4 a5 u5 a6 u6 a7 u7 a8 u8 a9 u9 a10 u10 a11 u11 x0 x1 x2 x3 x4 s G L))) (dzD (iota .tc S256x256 32 [0] iota_S256x256_d0_w32) (iota .tc S256x256 32 [1] iota_S256x256_d1_w32) k0_pay102 k0_pay103 (View.readAt (Elt F) a2.view r3 (u2.unread x0)) (View.readAt (Elt F) a5.view r3 (u5.unread x3)) (View.readAt (Elt F) a3.view (Rect.unit (s := S2048x512) (k0_off12 i) S256x128.size (k0_off12_inb i)).toLoadRect (u3.unread x1)) (View.readAt (Elt F) a4.view (Rect.unit (s := S2048x512) (k0_off12 i) S256x128.size (k0_off12_inb i)).toLoadRect (u4.unread x2)) (k0_pay107 (View.readAt (Elt F) a6.view r7 (u6.unread x4))) (s.2.2.2.2.2.2.2.2.2.1) (s.2.2.2.2.2.2.2.2.2.2.1)) (View.readAt (Elt F) a2.view r3 (u2.unread x0))⟩ :: (dkL2 i a2 u2 a3 u3 a4 u4 a5 u5 a6 u6 a7 u7 a8 u8 a9 u9 a10 u10 a11 u11 x0 x1 x2 x3 x4 s G L)

/-- The stores into the accumulator of dv up to head 0's of the block on the diagonal. -/
def dvL0 (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec F S256x512 .bf16) (x1 : Vec F S2048x512 .bf16) (x2 : Vec F S2048x512 .bf16) (x3 : Vec F S256x512 .bf16) (x4 : Vec F S4x256x1 .f32) (s : Carry F) (G : BufTy.Contents (Elt F) a11.view.ty) (L : List (View.Piece (Elt F) S2048x512 .f32)) : List (View.Piece (Elt F) S2048x512 .f32) :=
  ⟨(Rect.unit (s := S2048x512) (k0_off9 i) S256x128.size (k0_off9_inb i)), accV (View.readAt (Elt F) a11.view (Rect.unit (s := S2048x512) (k0_off9 i) S256x128.size (k0_off9_inb i)).toLoadRect (a11.view.writes (Elt F) G L)) (truncf .bf16 (wD (iota .tc S256x256 32 [0] iota_S256x256_d0_w32) (iota .tc S256x256 32 [1] iota_S256x256_d1_w32) k0_pay102 (View.readAt (Elt F) a2.view r0 (u2.unread x0)) (View.readAt (Elt F) a3.view (Rect.unit (s := S2048x512) (k0_off9 i) S256x128.size (k0_off9_inb i)).toLoadRect (u3.unread x1)) (k0_pay104 (View.readAt (Elt F) a6.view r4 (u6.unread x4))) (s.1)) bitsLt_bf16_f32) (View.readAt (Elt F) a5.view r0 (u5.unread x3))⟩ :: L

/-- The stores into the accumulator of dv up to head 1's of the block on the diagonal. -/
def dvL1 (s : Carry F) (G : BufTy.Contents (Elt F) a11.view.ty) (L : List (View.Piece (Elt F) S2048x512 .f32)) : List (View.Piece (Elt F) S2048x512 .f32) :=
  ⟨(Rect.unit (s := S2048x512) (k0_off10 i) S256x128.size (k0_off10_inb i)), accV (View.readAt (Elt F) a11.view (Rect.unit (s := S2048x512) (k0_off10 i) S256x128.size (k0_off10_inb i)).toLoadRect (a11.view.writes (Elt F) G (dvL0 i a2 u2 a3 u3 a4 u4 a5 u5 a6 u6 a7 u7 a8 u8 a9 u9 a10 u10 a11 u11 x0 x1 x2 x3 x4 s G L))) (truncf .bf16 (wD (iota .tc S256x256 32 [0] iota_S256x256_d0_w32) (iota .tc S256x256 32 [1] iota_S256x256_d1_w32) k0_pay102 (View.readAt (Elt F) a2.view r1 (u2.unread x0)) (View.readAt (Elt F) a3.view (Rect.unit (s := S2048x512) (k0_off10 i) S256x128.size (k0_off10_inb i)).toLoadRect (u3.unread x1)) (k0_pay105 (View.readAt (Elt F) a6.view r5 (u6.unread x4))) (s.2.2.2.1)) bitsLt_bf16_f32) (View.readAt (Elt F) a5.view r1 (u5.unread x3))⟩ :: (dvL0 i a2 u2 a3 u3 a4 u4 a5 u5 a6 u6 a7 u7 a8 u8 a9 u9 a10 u10 a11 u11 x0 x1 x2 x3 x4 s G L)

/-- The stores into the accumulator of dv up to head 2's of the block on the diagonal. -/
def dvL2 (s : Carry F) (G : BufTy.Contents (Elt F) a11.view.ty) (L : List (View.Piece (Elt F) S2048x512 .f32)) : List (View.Piece (Elt F) S2048x512 .f32) :=
  ⟨(Rect.unit (s := S2048x512) (k0_off11 i) S256x128.size (k0_off11_inb i)), accV (View.readAt (Elt F) a11.view (Rect.unit (s := S2048x512) (k0_off11 i) S256x128.size (k0_off11_inb i)).toLoadRect (a11.view.writes (Elt F) G (dvL1 i a2 u2 a3 u3 a4 u4 a5 u5 a6 u6 a7 u7 a8 u8 a9 u9 a10 u10 a11 u11 x0 x1 x2 x3 x4 s G L))) (truncf .bf16 (wD (iota .tc S256x256 32 [0] iota_S256x256_d0_w32) (iota .tc S256x256 32 [1] iota_S256x256_d1_w32) k0_pay102 (View.readAt (Elt F) a2.view r2 (u2.unread x0)) (View.readAt (Elt F) a3.view (Rect.unit (s := S2048x512) (k0_off11 i) S256x128.size (k0_off11_inb i)).toLoadRect (u3.unread x1)) (k0_pay106 (View.readAt (Elt F) a6.view r6 (u6.unread x4))) (s.2.2.2.2.2.2.1)) bitsLt_bf16_f32) (View.readAt (Elt F) a5.view r2 (u5.unread x3))⟩ :: (dvL1 i a2 u2 a3 u3 a4 u4 a5 u5 a6 u6 a7 u7 a8 u8 a9 u9 a10 u10 a11 u11 x0 x1 x2 x3 x4 s G L)

/-- The stores into the accumulator of dv up to head 3's of the block on the diagonal. -/
def dvL3 (s : Carry F) (G : BufTy.Contents (Elt F) a11.view.ty) (L : List (View.Piece (Elt F) S2048x512 .f32)) : List (View.Piece (Elt F) S2048x512 .f32) :=
  ⟨(Rect.unit (s := S2048x512) (k0_off12 i) S256x128.size (k0_off12_inb i)), accV (View.readAt (Elt F) a11.view (Rect.unit (s := S2048x512) (k0_off12 i) S256x128.size (k0_off12_inb i)).toLoadRect (a11.view.writes (Elt F) G (dvL2 i a2 u2 a3 u3 a4 u4 a5 u5 a6 u6 a7 u7 a8 u8 a9 u9 a10 u10 a11 u11 x0 x1 x2 x3 x4 s G L))) (truncf .bf16 (wD (iota .tc S256x256 32 [0] iota_S256x256_d0_w32) (iota .tc S256x256 32 [1] iota_S256x256_d1_w32) k0_pay102 (View.readAt (Elt F) a2.view r3 (u2.unread x0)) (View.readAt (Elt F) a3.view (Rect.unit (s := S2048x512) (k0_off12 i) S256x128.size (k0_off12_inb i)).toLoadRect (u3.unread x1)) (k0_pay107 (View.readAt (Elt F) a6.view r7 (u6.unread x4))) (s.2.2.2.2.2.2.2.2.2.1)) bitsLt_bf16_f32) (View.readAt (Elt F) a5.view r3 (u5.unread x3))⟩ :: (dvL2 i a2 u2 a3 u3 a4 u4 a5 u5 a6 u6 a7 u7 a8 u8 a9 u9 a10 u10 a11 u11 x0 x1 x2 x3 x4 s G L)

end Cert.KernelIdeal.Runs

end

end
-- ==== Proof.Diag.lean ====
/-
  A grid point's loops, and the block on the diagonal: what the block of dq and the accumulators of dk and dv then hold.
-/
module

public import proofs.«01_k».proof.Proof.Loop
public import proofs.«01_k».proof.Proof.RunDefs

@[expose] public section

set_option maxRecDepth 16384
set_option maxHeartbeats 1000000

noncomputable section

namespace Cert.KernelIdeal.Diag

open Cert.KernelIdeal Cert.KernelIdeal.Gen Cert.KernelIdeal.Step Cert.KernelIdeal.Block Cert.KernelIdeal.Model Cert.KernelIdeal.Mem Cert.KernelIdeal.Acc Cert.KernelIdeal.Loop Cert.KernelIdeal.Runs Idealize.ShloMosaic Idealize.ShloMosaic.TcCoe Idealize.SL.Sem
open Idealize.ShloMosaic.ValueIdx hiding ix2 eq_ix2 ix1 eq_ix1 ix0 eq_ix0
open scoped BigOperators

variable (Q D K V T : ℕ → ℕ → ℝ)

theorem trips1 : ∀ i : grid0.Coords, (Scf.trips (0#32) (Scalar.addi (0#32) (Scalar.muli (Scalar.divsi (Scalar.subi (BitVec.ofNat 32 ↑(i 1)) 0#32) 1#32) 1#32)) 1#32) = (i 1).val := by decide +kernel
theorem trips2 : ∀ i : grid0.Coords, (Scf.trips (Scalar.addi (0#32) (Scalar.muli (Scalar.divsi (Scalar.subi (BitVec.ofNat 32 ↑(i 1)) 0#32) 1#32) 1#32)) (Scalar.addi (0#32) (Scalar.subi (BitVec.ofNat 32 ↑(i 1)) 0#32)) 1#32) = 0 := by decide +kernel
theorem trips1' : ∀ i : grid0.Coords, (k0_t1_loop i).trips = (i 1).val := by decide +kernel

/-- The last query's block of a head's heads. -/
def dqB (p r e : ℕ) : ℝ := ∑ s ∈ Finset.range (256 * (p + 1)), DZ Q D K V T (e / 128) (256 * p + r) s * K s e

theorem st1_eq (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (G10 : BufTy.Contents (Elt Ideal) a10.view.ty) (G11 : BufTy.Contents (Elt Ideal) a11.view.ty) (k : ℕ) :
    st1 (F := Ideal) c i a2 u2 a3 u3 a4 u4 a5 u5 a6 u6 a7 u7 a8 u8 a9 u9 a10 u10 a11 u11 x0 x1 x2 x3 x4 G10 G11 k = st_k0_t1 (F := Ideal) Variants.none c none i a2 u2 a3 u3 a4 u4 a5 u5 a6 u6 a7 u7 a8 u8 a9 u9 a10 u10 a11 u11 (BitVec.ofNat 32 ↑(i 1)) (iota .tc S256x256 32 [0] iota_S256x256_d0_w32) (iota .tc S256x256 32 [1] iota_S256x256_d1_w32) k0_pay102 k0_pay103 (cv 256 128 (rows 0 Q (i 1).val)) (cv 256 128 (rows 1 Q (i 1).val)) (cv 256 128 (rows 2 Q (i 1).val)) (cv 256 128 (rows 3 Q (i 1).val)) (cv 256 128 (rows 0 D (i 1).val)) (cv 256 128 (rows 1 D (i 1).val)) (cv 256 128 (rows 2 D (i 1).val)) (cv 256 128 (rows 3 D (i 1).val)) (cv 256 1 (tots T 0 (i 1).val)) (cv 256 1 (tots T 1 (i 1).val)) (cv 256 1 (tots T 2 (i 1).val)) (View.readAt (Elt Ideal) a6.view (Rect.unit (s := S4x256x1) ![3, 0, 0] S1x256x1.size inb_S4x256x1_S1x256x1_3_0_0).toLoadRect (u6.unread x4)) (u3.unread x1) (u4.unread x2) G10 G11 (carry Q D K V T (i 1).val 0) k := by
  rw [carry_zero]
  unfold st1
  rw [load_rows a2.view (u2.unread x0) ![0, 0] 0 (i 1).val 0 rfl inb_S256x512_S256x128_0_0 Q _ (u2.read_unread x0 |>.trans hx0) (fun r e => by rw [Nat.zero_add])]
  rw [load_rows a5.view (u5.unread x3) ![0, 0] 0 (i 1).val 0 rfl inb_S256x512_S256x128_0_0 D _ (u5.read_unread x3 |>.trans hx3) (fun r e => by rw [Nat.zero_add])]
  rw [load_rows a2.view (u2.unread x0) ![0, 128] 0 (i 1).val 1 rfl inb_S256x512_S256x128_0_128 Q _ (u2.read_unread x0 |>.trans hx0) (fun r e => by rw [Nat.zero_add])]
  rw [load_rows a5.view (u5.unread x3) ![0, 128] 0 (i 1).val 1 rfl inb_S256x512_S256x128_0_128 D _ (u5.read_unread x3 |>.trans hx3) (fun r e => by rw [Nat.zero_add])]
  rw [load_rows a2.view (u2.unread x0) ![0, 256] 0 (i 1).val 2 rfl inb_S256x512_S256x128_0_256 Q _ (u2.read_unread x0 |>.trans hx0) (fun r e => by rw [Nat.zero_add])]
  rw [load_rows a5.view (u5.unread x3) ![0, 256] 0 (i 1).val 2 rfl inb_S256x512_S256x128_0_256 D _ (u5.read_unread x3 |>.trans hx3) (fun r e => by rw [Nat.zero_add])]
  rw [load_rows a2.view (u2.unread x0) ![0, 384] 0 (i 1).val 3 rfl inb_S256x512_S256x128_0_384 Q _ (u2.read_unread x0 |>.trans hx0) (fun r e => by rw [Nat.zero_add])]
  rw [load_rows a5.view (u5.unread x3) ![0, 384] 0 (i 1).val 3 rfl inb_S256x512_S256x128_0_384 D _ (u5.read_unread x3 |>.trans hx3) (fun r e => by rw [Nat.zero_add])]
  rw [show k0_pay104 (F := Ideal) _ = _ from load_tot a6.view (u6.unread x4) 0 inb_S4x256x1_S1x256x1_0_0_0 T (i 1).val (u6.read_unread x4 |>.trans hx4)]
  rw [show k0_pay105 (F := Ideal) _ = _ from load_tot a6.view (u6.unread x4) 1 inb_S4x256x1_S1x256x1_1_0_0 T (i 1).val (u6.read_unread x4 |>.trans hx4)]
  rw [show k0_pay106 (F := Ideal) _ = _ from load_tot a6.view (u6.unread x4) 2 inb_S4x256x1_S1x256x1_2_0_0 T (i 1).val (u6.read_unread x4 |>.trans hx4)]

/-- After the blocks left of the diagonal. -/
theorem st1_spec (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (G10 : BufTy.Contents (Elt Ideal) a10.view.ty) (G11 : BufTy.Contents (Elt Ideal) a11.view.ty)
    (A B : ℕ → ℕ → ℝ) (h10 : a10.view.read (Elt Ideal) G10 = cv 2048 512 A) (h11 : a11.view.read (Elt Ideal) G11 = cv 2048 512 B) :
    (st1 (F := Ideal) c i a2 u2 a3 u3 a4 u4 a5 u5 a6 u6 a7 u7 a8 u8 a9 u9 a10 u10 a11 u11 x0 x1 x2 x3 x4 G10 G11 (i 1).val).1 = carry Q D K V T (i 1).val (i 1).val
    ∧ a10.view.read (Elt Ideal) (a10.view.writes (Elt Ideal) G10 (st1 (F := Ideal) c i a2 u2 a3 u3 a4 u4 a5 u5 a6 u6 a7 u7 a8 u8 a9 u9 a10 u10 a11 u11 x0 x1 x2 x3 x4 G10 G11 (i 1).val).2.1) = cv 2048 512 (addN (DZ Q D K V T) Q (i 1).val (i 1).val 0 A)
    ∧ a11.view.read (Elt Ideal) (a11.view.writes (Elt Ideal) G11 (st1 (F := Ideal) c i a2 u2 a3 u3 a4 u4 a5 u5 a6 u6 a7 u7 a8 u8 a9 u9 a10 u10 a11 u11 x0 x1 x2 x3 x4 G10 G11 (i 1).val).2.2) = cv 2048 512 (addN (W Q K T) D (i 1).val (i 1).val 0 B) := by
  rw [st1_eq Q D K V T c i a2 u2 a3 u3 a4 u4 a5 u5 a6 u6 a7 u7 a8 u8 a9 u9 a10 u10 a11 u11 x0 x1 x2 x3 x4 hx0 hx1 hx2 hx3 hx4]
  exact loop_inv Q D K V T c i a2 u2 a3 u3 a4 u4 a5 u5 a6 u6 a7 u7 a8 u8 a9 u9 a10 u10 a11 u11 _ _ _ _ G10 G11 (i 1).val (Nat.le_of_eq (trips1' i)) (u3.read_unread x1 |>.trans hx1) (u4.read_unread x2 |>.trans hx2) (load_tot a6.view (u6.unread x4) 3 inb_S4x256x1_S1x256x1_3_0_0 T (i 1).val (u6.read_unread x4 |>.trans hx4)) A B h10 h11 (i 1).val (Nat.le_of_eq (trips1' i).symm)

/-- The loop's remainder makes no trip. -/
theorem stE_eq (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (G10 : BufTy.Contents (Elt Ideal) a10.view.ty) (G11 : BufTy.Contents (Elt Ideal) a11.view.ty) :
    stE (F := Ideal) c i a2 u2 a3 u3 a4 u4 a5 u5 a6 u6 a7 u7 a8 u8 a9 u9 a10 u10 a11 u11 x0 x1 x2 x3 x4 G10 G11 = (st1 (F := Ideal) c i a2 u2 a3 u3 a4 u4 a5 u5 a6 u6 a7 u7 a8 u8 a9 u9 a10 u10 a11 u11 x0 x1 x2 x3 x4 G10 G11 (i 1).val) := by
  unfold stE
  rw [trips1, trips2]
  rfl

theorem dkL0_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a10.view.ty) (L : List (View.Piece (Elt Ideal) S2048x512 .f32)) (A : ℕ → ℕ → ℝ)
    (hp : a10.view.read (Elt Ideal) (a10.view.writes (Elt Ideal) G L) = cv 2048 512 (addN (DZ Q D K V T) Q (i 1).val (i 1).val 0 A)) :
    a10.view.read (Elt Ideal) (a10.view.writes (Elt Ideal) G (dkL0 i a2 u2 a3 u3 a4 u4 a5 u5 a6 u6 a7 u7 a8 u8 a9 u9 a10 u10 a11 u11 x0 x1 x2 x3 x4 s G L)) = cv 2048 512 (addN (DZ Q D K V T) Q (i 1).val (i 1).val 1 A) := by
  have hq := hp
  unfold dkL0
  refine store_acc (DZ Q D K V T) Q (i 1).val A a10.view G _ (k0_off9 i) (i 1).val 0 (k0_off9_eq i) (k0_off9_inb i) _ ?_ hq
  rw [load_acc (DZ Q D K V T) Q (i 1).val A a10.view _ (k0_off9 i) (i 1).val 0 0 (k0_off9_eq i) (Nat.le_refl _) (k0_off9_inb i) hq]
  rw [hs]; unfold carry; dsimp only
  rw [load_rows a2.view (u2.unread x0) ![0, 0] 0 (i 1).val 0 rfl inb_S256x512_S256x128_0_0 Q _ (u2.read_unread x0 |>.trans hx0) (fun r e => by rw [Nat.zero_add]), load_rows a5.view (u5.unread x3) ![0, 0] 0 (i 1).val 0 rfl inb_S256x512_S256x128_0_0 D _ (u5.read_unread x3 |>.trans hx3) (fun r e => by rw [Nat.zero_add]), load_rows a3.view (u3.unread x1) (k0_off9 i) (256 * (i 1).val) (i 1).val 0 (k0_off9_eq i) (k0_off9_inb i) K K (u3.read_unread x1 |>.trans hx1) (fun _ _ => rfl), load_rows a4.view (u4.unread x2) (k0_off9 i) (256 * (i 1).val) (i 1).val 0 (k0_off9_eq i) (k0_off9_inb i) V V (u4.read_unread x2 |>.trans hx2) (fun _ _ => rfl)]
  rw [show k0_pay104 (F := Ideal) _ = _ from load_tot a6.view (u6.unread x4) 0 inb_S4x256x1_S1x256x1_0_0_0 T (i 1).val (u6.read_unread x4 |>.trans hx4), dzD_eq, accV_cv]; rfl

theorem dkL1_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a10.view.ty) (L : List (View.Piece (Elt Ideal) S2048x512 .f32)) (A : ℕ → ℕ → ℝ)
    (hp : a10.view.read (Elt Ideal) (a10.view.writes (Elt Ideal) G L) = cv 2048 512 (addN (DZ Q D K V T) Q (i 1).val (i 1).val 0 A)) :
    a10.view.read (Elt Ideal) (a10.view.writes (Elt Ideal) G (dkL1 i a2 u2 a3 u3 a4 u4 a5 u5 a6 u6 a7 u7 a8 u8 a9 u9 a10 u10 a11 u11 x0 x1 x2 x3 x4 s G L)) = cv 2048 512 (addN (DZ Q D K V T) Q (i 1).val (i 1).val 2 A) := by
  have hq := (dkL0_read Q D K V T i a2 u2 a3 u3 a4 u4 a5 u5 a6 u6 a7 u7 a8 u8 a9 u9 a10 u10 a11 u11 x0 x1 x2 x3 x4 hx0 hx1 hx2 hx3 hx4 s hs G L A hp)
  unfold dkL1
  refine store_acc (DZ Q D K V T) Q (i 1).val A a10.view G _ (k0_off10 i) (i 1).val 1 (k0_off10_eq i) (k0_off10_inb i) _ ?_ hq
  rw [load_acc (DZ Q D K V T) Q (i 1).val A a10.view _ (k0_off10 i) (i 1).val 1 1 (k0_off10_eq i) (Nat.le_refl _) (k0_off10_inb i) hq]
  rw [hs]; unfold carry; dsimp only
  rw [load_rows a2.view (u2.unread x0) ![0, 128] 0 (i 1).val 1 rfl inb_S256x512_S256x128_0_128 Q _ (u2.read_unread x0 |>.trans hx0) (fun r e => by rw [Nat.zero_add]), load_rows a5.view (u5.unread x3) ![0, 128] 0 (i 1).val 1 rfl inb_S256x512_S256x128_0_128 D _ (u5.read_unread x3 |>.trans hx3) (fun r e => by rw [Nat.zero_add]), load_rows a3.view (u3.unread x1) (k0_off10 i) (256 * (i 1).val) (i 1).val 1 (k0_off10_eq i) (k0_off10_inb i) K K (u3.read_unread x1 |>.trans hx1) (fun _ _ => rfl), load_rows a4.view (u4.unread x2) (k0_off10 i) (256 * (i 1).val) (i 1).val 1 (k0_off10_eq i) (k0_off10_inb i) V V (u4.read_unread x2 |>.trans hx2) (fun _ _ => rfl)]
  rw [show k0_pay105 (F := Ideal) _ = _ from load_tot a6.view (u6.unread x4) 1 inb_S4x256x1_S1x256x1_1_0_0 T (i 1).val (u6.read_unread x4 |>.trans hx4), dzD_eq, accV_cv]; rfl

theorem dkL2_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a10.view.ty) (L : List (View.Piece (Elt Ideal) S2048x512 .f32)) (A : ℕ → ℕ → ℝ)
    (hp : a10.view.read (Elt Ideal) (a10.view.writes (Elt Ideal) G L) = cv 2048 512 (addN (DZ Q D K V T) Q (i 1).val (i 1).val 0 A)) :
    a10.view.read (Elt Ideal) (a10.view.writes (Elt Ideal) G (dkL2 i a2 u2 a3 u3 a4 u4 a5 u5 a6 u6 a7 u7 a8 u8 a9 u9 a10 u10 a11 u11 x0 x1 x2 x3 x4 s G L)) = cv 2048 512 (addN (DZ Q D K V T) Q (i 1).val (i 1).val 3 A) := by
  have hq := (dkL1_read Q D K V T i a2 u2 a3 u3 a4 u4 a5 u5 a6 u6 a7 u7 a8 u8 a9 u9 a10 u10 a11 u11 x0 x1 x2 x3 x4 hx0 hx1 hx2 hx3 hx4 s hs G L A hp)
  unfold dkL2
  refine store_acc (DZ Q D K V T) Q (i 1).val A a10.view G _ (k0_off11 i) (i 1).val 2 (k0_off11_eq i) (k0_off11_inb i) _ ?_ hq
  rw [load_acc (DZ Q D K V T) Q (i 1).val A a10.view _ (k0_off11 i) (i 1).val 2 2 (k0_off11_eq i) (Nat.le_refl _) (k0_off11_inb i) hq]
  rw [hs]; unfold carry; dsimp only
  rw [load_rows a2.view (u2.unread x0) ![0, 256] 0 (i 1).val 2 rfl inb_S256x512_S256x128_0_256 Q _ (u2.read_unread x0 |>.trans hx0) (fun r e => by rw [Nat.zero_add]), load_rows a5.view (u5.unread x3) ![0, 256] 0 (i 1).val 2 rfl inb_S256x512_S256x128_0_256 D _ (u5.read_unread x3 |>.trans hx3) (fun r e => by rw [Nat.zero_add]), load_rows a3.view (u3.unread x1) (k0_off11 i) (256 * (i 1).val) (i 1).val 2 (k0_off11_eq i) (k0_off11_inb i) K K (u3.read_unread x1 |>.trans hx1) (fun _ _ => rfl), load_rows a4.view (u4.unread x2) (k0_off11 i) (256 * (i 1).val) (i 1).val 2 (k0_off11_eq i) (k0_off11_inb i) V V (u4.read_unread x2 |>.trans hx2) (fun _ _ => rfl)]
  rw [show k0_pay106 (F := Ideal) _ = _ from load_tot a6.view (u6.unread x4) 2 inb_S4x256x1_S1x256x1_2_0_0 T (i 1).val (u6.read_unread x4 |>.trans hx4), dzD_eq, accV_cv]; rfl

theorem dkL3_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a10.view.ty) (L : List (View.Piece (Elt Ideal) S2048x512 .f32)) (A : ℕ → ℕ → ℝ)
    (hp : a10.view.read (Elt Ideal) (a10.view.writes (Elt Ideal) G L) = cv 2048 512 (addN (DZ Q D K V T) Q (i 1).val (i 1).val 0 A)) :
    a10.view.read (Elt Ideal) (a10.view.writes (Elt Ideal) G (dkL3 i a2 u2 a3 u3 a4 u4 a5 u5 a6 u6 a7 u7 a8 u8 a9 u9 a10 u10 a11 u11 x0 x1 x2 x3 x4 s G L)) = cv 2048 512 (addN (DZ Q D K V T) Q (i 1).val (i 1).val 4 A) := by
  have hq := (dkL2_read Q D K V T i a2 u2 a3 u3 a4 u4 a5 u5 a6 u6 a7 u7 a8 u8 a9 u9 a10 u10 a11 u11 x0 x1 x2 x3 x4 hx0 hx1 hx2 hx3 hx4 s hs G L A hp)
  unfold dkL3
  refine store_acc (DZ Q D K V T) Q (i 1).val A a10.view G _ (k0_off12 i) (i 1).val 3 (k0_off12_eq i) (k0_off12_inb i) _ ?_ hq
  rw [load_acc (DZ Q D K V T) Q (i 1).val A a10.view _ (k0_off12 i) (i 1).val 3 3 (k0_off12_eq i) (Nat.le_refl _) (k0_off12_inb i) hq]
  rw [hs]; unfold carry; dsimp only
  rw [load_rows a2.view (u2.unread x0) ![0, 384] 0 (i 1).val 3 rfl inb_S256x512_S256x128_0_384 Q _ (u2.read_unread x0 |>.trans hx0) (fun r e => by rw [Nat.zero_add]), load_rows a5.view (u5.unread x3) ![0, 384] 0 (i 1).val 3 rfl inb_S256x512_S256x128_0_384 D _ (u5.read_unread x3 |>.trans hx3) (fun r e => by rw [Nat.zero_add]), load_rows a3.view (u3.unread x1) (k0_off12 i) (256 * (i 1).val) (i 1).val 3 (k0_off12_eq i) (k0_off12_inb i) K K (u3.read_unread x1 |>.trans hx1) (fun _ _ => rfl), load_rows a4.view (u4.unread x2) (k0_off12 i) (256 * (i 1).val) (i 1).val 3 (k0_off12_eq i) (k0_off12_inb i) V V (u4.read_unread x2 |>.trans hx2) (fun _ _ => rfl)]
  rw [show k0_pay107 (F := Ideal) _ = _ from load_tot a6.view (u6.unread x4) 3 inb_S4x256x1_S1x256x1_3_0_0 T (i 1).val (u6.read_unread x4 |>.trans hx4), dzD_eq, accV_cv]; rfl

theorem dvL0_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a11.view.ty) (L : List (View.Piece (Elt Ideal) S2048x512 .f32)) (A : ℕ → ℕ → ℝ)
    (hp : a11.view.read (Elt Ideal) (a11.view.writes (Elt Ideal) G L) = cv 2048 512 (addN (W Q K T) D (i 1).val (i 1).val 0 A)) :
    a11.view.read (Elt Ideal) (a11.view.writes (Elt Ideal) G (dvL0 i a2 u2 a3 u3 a4 u4 a5 u5 a6 u6 a7 u7 a8 u8 a9 u9 a10 u10 a11 u11 x0 x1 x2 x3 x4 s G L)) = cv 2048 512 (addN (W Q K T) D (i 1).val (i 1).val 1 A) := by
  have hq := hp
  unfold dvL0
  refine store_acc (W Q K T) D (i 1).val A a11.view G _ (k0_off9 i) (i 1).val 0 (k0_off9_eq i) (k0_off9_inb i) _ ?_ hq
  rw [load_acc (W Q K T) D (i 1).val A a11.view _ (k0_off9 i) (i 1).val 0 0 (k0_off9_eq i) (Nat.le_refl _) (k0_off9_inb i) hq]
  rw [hs]; unfold carry; dsimp only
  rw [load_rows a2.view (u2.unread x0) ![0, 0] 0 (i 1).val 0 rfl inb_S256x512_S256x128_0_0 Q _ (u2.read_unread x0 |>.trans hx0) (fun r e => by rw [Nat.zero_add]), load_rows a5.view (u5.unread x3) ![0, 0] 0 (i 1).val 0 rfl inb_S256x512_S256x128_0_0 D _ (u5.read_unread x3 |>.trans hx3) (fun r e => by rw [Nat.zero_add]), load_rows a3.view (u3.unread x1) (k0_off9 i) (256 * (i 1).val) (i 1).val 0 (k0_off9_eq i) (k0_off9_inb i) K K (u3.read_unread x1 |>.trans hx1) (fun _ _ => rfl)]
  rw [show k0_pay104 (F := Ideal) _ = _ from load_tot a6.view (u6.unread x4) 0 inb_S4x256x1_S1x256x1_0_0_0 T (i 1).val (u6.read_unread x4 |>.trans hx4), narrow, wD_eq, accV_cv]; rfl

theorem dvL1_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a11.view.ty) (L : List (View.Piece (Elt Ideal) S2048x512 .f32)) (A : ℕ → ℕ → ℝ)
    (hp : a11.view.read (Elt Ideal) (a11.view.writes (Elt Ideal) G L) = cv 2048 512 (addN (W Q K T) D (i 1).val (i 1).val 0 A)) :
    a11.view.read (Elt Ideal) (a11.view.writes (Elt Ideal) G (dvL1 i a2 u2 a3 u3 a4 u4 a5 u5 a6 u6 a7 u7 a8 u8 a9 u9 a10 u10 a11 u11 x0 x1 x2 x3 x4 s G L)) = cv 2048 512 (addN (W Q K T) D (i 1).val (i 1).val 2 A) := by
  have hq := (dvL0_read Q D K V T i a2 u2 a3 u3 a4 u4 a5 u5 a6 u6 a7 u7 a8 u8 a9 u9 a10 u10 a11 u11 x0 x1 x2 x3 x4 hx0 hx1 hx2 hx3 hx4 s hs G L A hp)
  unfold dvL1
  refine store_acc (W Q K T) D (i 1).val A a11.view G _ (k0_off10 i) (i 1).val 1 (k0_off10_eq i) (k0_off10_inb i) _ ?_ hq
  rw [load_acc (W Q K T) D (i 1).val A a11.view _ (k0_off10 i) (i 1).val 1 1 (k0_off10_eq i) (Nat.le_refl _) (k0_off10_inb i) hq]
  rw [hs]; unfold carry; dsimp only
  rw [load_rows a2.view (u2.unread x0) ![0, 128] 0 (i 1).val 1 rfl inb_S256x512_S256x128_0_128 Q _ (u2.read_unread x0 |>.trans hx0) (fun r e => by rw [Nat.zero_add]), load_rows a5.view (u5.unread x3) ![0, 128] 0 (i 1).val 1 rfl inb_S256x512_S256x128_0_128 D _ (u5.read_unread x3 |>.trans hx3) (fun r e => by rw [Nat.zero_add]), load_rows a3.view (u3.unread x1) (k0_off10 i) (256 * (i 1).val) (i 1).val 1 (k0_off10_eq i) (k0_off10_inb i) K K (u3.read_unread x1 |>.trans hx1) (fun _ _ => rfl)]
  rw [show k0_pay105 (F := Ideal) _ = _ from load_tot a6.view (u6.unread x4) 1 inb_S4x256x1_S1x256x1_1_0_0 T (i 1).val (u6.read_unread x4 |>.trans hx4), narrow, wD_eq, accV_cv]; rfl

theorem dvL2_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a11.view.ty) (L : List (View.Piece (Elt Ideal) S2048x512 .f32)) (A : ℕ → ℕ → ℝ)
    (hp : a11.view.read (Elt Ideal) (a11.view.writes (Elt Ideal) G L) = cv 2048 512 (addN (W Q K T) D (i 1).val (i 1).val 0 A)) :
    a11.view.read (Elt Ideal) (a11.view.writes (Elt Ideal) G (dvL2 i a2 u2 a3 u3 a4 u4 a5 u5 a6 u6 a7 u7 a8 u8 a9 u9 a10 u10 a11 u11 x0 x1 x2 x3 x4 s G L)) = cv 2048 512 (addN (W Q K T) D (i 1).val (i 1).val 3 A) := by
  have hq := (dvL1_read Q D K V T i a2 u2 a3 u3 a4 u4 a5 u5 a6 u6 a7 u7 a8 u8 a9 u9 a10 u10 a11 u11 x0 x1 x2 x3 x4 hx0 hx1 hx2 hx3 hx4 s hs G L A hp)
  unfold dvL2
  refine store_acc (W Q K T) D (i 1).val A a11.view G _ (k0_off11 i) (i 1).val 2 (k0_off11_eq i) (k0_off11_inb i) _ ?_ hq
  rw [load_acc (W Q K T) D (i 1).val A a11.view _ (k0_off11 i) (i 1).val 2 2 (k0_off11_eq i) (Nat.le_refl _) (k0_off11_inb i) hq]
  rw [hs]; unfold carry; dsimp only
  rw [load_rows a2.view (u2.unread x0) ![0, 256] 0 (i 1).val 2 rfl inb_S256x512_S256x128_0_256 Q _ (u2.read_unread x0 |>.trans hx0) (fun r e => by rw [Nat.zero_add]), load_rows a5.view (u5.unread x3) ![0, 256] 0 (i 1).val 2 rfl inb_S256x512_S256x128_0_256 D _ (u5.read_unread x3 |>.trans hx3) (fun r e => by rw [Nat.zero_add]), load_rows a3.view (u3.unread x1) (k0_off11 i) (256 * (i 1).val) (i 1).val 2 (k0_off11_eq i) (k0_off11_inb i) K K (u3.read_unread x1 |>.trans hx1) (fun _ _ => rfl)]
  rw [show k0_pay106 (F := Ideal) _ = _ from load_tot a6.view (u6.unread x4) 2 inb_S4x256x1_S1x256x1_2_0_0 T (i 1).val (u6.read_unread x4 |>.trans hx4), narrow, wD_eq, accV_cv]; rfl

theorem dvL3_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (G : BufTy.Contents (Elt Ideal) a11.view.ty) (L : List (View.Piece (Elt Ideal) S2048x512 .f32)) (A : ℕ → ℕ → ℝ)
    (hp : a11.view.read (Elt Ideal) (a11.view.writes (Elt Ideal) G L) = cv 2048 512 (addN (W Q K T) D (i 1).val (i 1).val 0 A)) :
    a11.view.read (Elt Ideal) (a11.view.writes (Elt Ideal) G (dvL3 i a2 u2 a3 u3 a4 u4 a5 u5 a6 u6 a7 u7 a8 u8 a9 u9 a10 u10 a11 u11 x0 x1 x2 x3 x4 s G L)) = cv 2048 512 (addN (W Q K T) D (i 1).val (i 1).val 4 A) := by
  have hq := (dvL2_read Q D K V T i a2 u2 a3 u3 a4 u4 a5 u5 a6 u6 a7 u7 a8 u8 a9 u9 a10 u10 a11 u11 x0 x1 x2 x3 x4 hx0 hx1 hx2 hx3 hx4 s hs G L A hp)
  unfold dvL3
  refine store_acc (W Q K T) D (i 1).val A a11.view G _ (k0_off12 i) (i 1).val 3 (k0_off12_eq i) (k0_off12_inb i) _ ?_ hq
  rw [load_acc (W Q K T) D (i 1).val A a11.view _ (k0_off12 i) (i 1).val 3 3 (k0_off12_eq i) (Nat.le_refl _) (k0_off12_inb i) hq]
  rw [hs]; unfold carry; dsimp only
  rw [load_rows a2.view (u2.unread x0) ![0, 384] 0 (i 1).val 3 rfl inb_S256x512_S256x128_0_384 Q _ (u2.read_unread x0 |>.trans hx0) (fun r e => by rw [Nat.zero_add]), load_rows a5.view (u5.unread x3) ![0, 384] 0 (i 1).val 3 rfl inb_S256x512_S256x128_0_384 D _ (u5.read_unread x3 |>.trans hx3) (fun r e => by rw [Nat.zero_add]), load_rows a3.view (u3.unread x1) (k0_off12 i) (256 * (i 1).val) (i 1).val 3 (k0_off12_eq i) (k0_off12_inb i) K K (u3.read_unread x1 |>.trans hx1) (fun _ _ => rfl)]
  rw [show k0_pay107 (F := Ideal) _ = _ from load_tot a6.view (u6.unread x4) 3 inb_S4x256x1_S1x256x1_3_0_0 T (i 1).val (u6.read_unread x4 |>.trans hx4), narrow, wD_eq, accV_cv]; rfl

/-- dq's block after the stores of the heads below `n`. -/
theorem store_dq {sp : Space} {κ : Kind} (v : View sig κ sp S256x512 .bf16) (f : v.ty.Contents (Elt Ideal)) (L : List (View.Piece (Elt Ideal) S256x512 .bf16)) (off : Fin 2 → ℕ) (n : ℕ)
    (hoff : off = ![0, 128 * n]) (inb : ∀ a, off a + S256x128.size a ≤ S256x512.size a) (w : Vec Ideal S256x128 .bf16) (C : ℕ → ℕ → ℝ) (hw : w = cv 256 128 fun r e => C r (128 * n + e))
    (h : ∀ y, (y 1).val < 128 * n → v.read (Elt Ideal) (v.writes (Elt Ideal) f L) y = cv 256 512 C y) :
    ∀ y, (y 1).val < 128 * (n + 1) → v.read (Elt Ideal) (v.writes (Elt Ideal) f ((⟨Rect.unit (s := S256x512) off S256x128.size inb, w⟩ : View.Piece (Elt Ideal) S256x512 .bf16) :: L)) y = cv 256 512 C y := by
  intro y hy
  rw [View.read_writes_cons_unit v f inb w L y hoff]
  by_cases hn : (y 1).val < 128 * n
  · rw [dif_neg fun h' => by have := (h' 1).1; exact absurd this (Nat.not_le.2 hn)]
    exact h y hn
  · rw [dif_pos fun a => by match a with
      | ⟨0, _⟩ => exact ⟨Nat.zero_le _, by have := idx2_lt0 y; show (y 0).val < 0 + 256; omega⟩
      | ⟨1, _⟩ => exact ⟨by show 128 * n ≤ (y 1).val; omega, by show (y 1).val < 128 * n + 128; omega⟩]
    rw [hw]
    show ((C ((y 0).val - 0) (128 * n + ((y 1).val - 128 * n)) : ℝ) : EReal) = ((C (y 0).val (y 1).val : ℝ) : EReal)
    rw [Nat.sub_zero, show 128 * n + ((y 1).val - 128 * n) = (y 1).val by omega]

/-- A head's part of dq's block. -/
theorem dqPart (n p : ℕ) : cv 256 128 (DQ Q D K V T n p (p + 1)) = cv 256 128 fun r e => dqB Q D K V T p r (128 * n + e) :=
  cv_congr fun r e _ he => by
    unfold DQ dqB hd
    rw [show (128 * n + e) / 128 = n by omega]

theorem dqPay0 (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) :
    truncf (F := Ideal) .bf16 (dqV (cv 256 128 (DQ Q D K V T 0 (i 1).val (i 1).val)) (dzD (iota .tc S256x256 32 [0] iota_S256x256_d0_w32) (iota .tc S256x256 32 [1] iota_S256x256_d1_w32) k0_pay102 k0_pay103 (View.readAt (Elt Ideal) a2.view (Rect.unit (s := S256x512) ![0, 0] S256x128.size inb_S256x512_S256x128_0_0).toLoadRect (u2.unread x0)) (View.readAt (Elt Ideal) a5.view (Rect.unit (s := S256x512) ![0, 0] S256x128.size inb_S256x512_S256x128_0_0).toLoadRect (u5.unread x3)) (View.readAt (Elt Ideal) a3.view (Rect.unit (s := S2048x512) (k0_off9 i) S256x128.size (k0_off9_inb i)).toLoadRect (u3.unread x1)) (View.readAt (Elt Ideal) a4.view (Rect.unit (s := S2048x512) (k0_off9 i) S256x128.size (k0_off9_inb i)).toLoadRect (u4.unread x2)) (k0_pay104 (View.readAt (Elt Ideal) a6.view (Rect.unit (s := S4x256x1) ![0, 0, 0] S1x256x1.size inb_S4x256x1_S1x256x1_0_0_0).toLoadRect (u6.unread x4))) (cv 256 1 (CL Q K 0 (i 1).val (i 1).val)) (cv 256 1 (CG Q D K V T 0 (i 1).val (i 1).val))) (View.readAt (Elt Ideal) a3.view (Rect.unit (s := S2048x512) (k0_off9 i) S256x128.size (k0_off9_inb i)).toLoadRect (u3.unread x1))) bitsLt_bf16_f32
      = cv 256 128 fun r e => dqB Q D K V T (i 1).val r (128 * 0 + e) := by
  rw [load_rows a2.view (u2.unread x0) ![0, 0] 0 (i 1).val 0 rfl inb_S256x512_S256x128_0_0 Q _ (u2.read_unread x0 |>.trans hx0) (fun r e => by rw [Nat.zero_add]), load_rows a5.view (u5.unread x3) ![0, 0] 0 (i 1).val 0 rfl inb_S256x512_S256x128_0_0 D _ (u5.read_unread x3 |>.trans hx3) (fun r e => by rw [Nat.zero_add]), load_rows a3.view (u3.unread x1) (k0_off9 i) (256 * (i 1).val) (i 1).val 0 (k0_off9_eq i) (k0_off9_inb i) K K (u3.read_unread x1 |>.trans hx1) (fun _ _ => rfl), load_rows a4.view (u4.unread x2) (k0_off9 i) (256 * (i 1).val) (i 1).val 0 (k0_off9_eq i) (k0_off9_inb i) V V (u4.read_unread x2 |>.trans hx2) (fun _ _ => rfl)]
  rw [show k0_pay104 (F := Ideal) _ = _ from load_tot a6.view (u6.unread x4) 0 inb_S4x256x1_S1x256x1_0_0_0 T (i 1).val (u6.read_unread x4 |>.trans hx4), narrow, stepDQD, dqPart]

theorem dqPay1 (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) :
    truncf (F := Ideal) .bf16 (dqV (cv 256 128 (DQ Q D K V T 1 (i 1).val (i 1).val)) (dzD (iota .tc S256x256 32 [0] iota_S256x256_d0_w32) (iota .tc S256x256 32 [1] iota_S256x256_d1_w32) k0_pay102 k0_pay103 (View.readAt (Elt Ideal) a2.view (Rect.unit (s := S256x512) ![0, 128] S256x128.size inb_S256x512_S256x128_0_128).toLoadRect (u2.unread x0)) (View.readAt (Elt Ideal) a5.view (Rect.unit (s := S256x512) ![0, 128] S256x128.size inb_S256x512_S256x128_0_128).toLoadRect (u5.unread x3)) (View.readAt (Elt Ideal) a3.view (Rect.unit (s := S2048x512) (k0_off10 i) S256x128.size (k0_off10_inb i)).toLoadRect (u3.unread x1)) (View.readAt (Elt Ideal) a4.view (Rect.unit (s := S2048x512) (k0_off10 i) S256x128.size (k0_off10_inb i)).toLoadRect (u4.unread x2)) (k0_pay105 (View.readAt (Elt Ideal) a6.view (Rect.unit (s := S4x256x1) ![1, 0, 0] S1x256x1.size inb_S4x256x1_S1x256x1_1_0_0).toLoadRect (u6.unread x4))) (cv 256 1 (CL Q K 1 (i 1).val (i 1).val)) (cv 256 1 (CG Q D K V T 1 (i 1).val (i 1).val))) (View.readAt (Elt Ideal) a3.view (Rect.unit (s := S2048x512) (k0_off10 i) S256x128.size (k0_off10_inb i)).toLoadRect (u3.unread x1))) bitsLt_bf16_f32
      = cv 256 128 fun r e => dqB Q D K V T (i 1).val r (128 * 1 + e) := by
  rw [load_rows a2.view (u2.unread x0) ![0, 128] 0 (i 1).val 1 rfl inb_S256x512_S256x128_0_128 Q _ (u2.read_unread x0 |>.trans hx0) (fun r e => by rw [Nat.zero_add]), load_rows a5.view (u5.unread x3) ![0, 128] 0 (i 1).val 1 rfl inb_S256x512_S256x128_0_128 D _ (u5.read_unread x3 |>.trans hx3) (fun r e => by rw [Nat.zero_add]), load_rows a3.view (u3.unread x1) (k0_off10 i) (256 * (i 1).val) (i 1).val 1 (k0_off10_eq i) (k0_off10_inb i) K K (u3.read_unread x1 |>.trans hx1) (fun _ _ => rfl), load_rows a4.view (u4.unread x2) (k0_off10 i) (256 * (i 1).val) (i 1).val 1 (k0_off10_eq i) (k0_off10_inb i) V V (u4.read_unread x2 |>.trans hx2) (fun _ _ => rfl)]
  rw [show k0_pay105 (F := Ideal) _ = _ from load_tot a6.view (u6.unread x4) 1 inb_S4x256x1_S1x256x1_1_0_0 T (i 1).val (u6.read_unread x4 |>.trans hx4), narrow, stepDQD, dqPart]

theorem dqPay2 (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) :
    truncf (F := Ideal) .bf16 (dqV (cv 256 128 (DQ Q D K V T 2 (i 1).val (i 1).val)) (dzD (iota .tc S256x256 32 [0] iota_S256x256_d0_w32) (iota .tc S256x256 32 [1] iota_S256x256_d1_w32) k0_pay102 k0_pay103 (View.readAt (Elt Ideal) a2.view (Rect.unit (s := S256x512) ![0, 256] S256x128.size inb_S256x512_S256x128_0_256).toLoadRect (u2.unread x0)) (View.readAt (Elt Ideal) a5.view (Rect.unit (s := S256x512) ![0, 256] S256x128.size inb_S256x512_S256x128_0_256).toLoadRect (u5.unread x3)) (View.readAt (Elt Ideal) a3.view (Rect.unit (s := S2048x512) (k0_off11 i) S256x128.size (k0_off11_inb i)).toLoadRect (u3.unread x1)) (View.readAt (Elt Ideal) a4.view (Rect.unit (s := S2048x512) (k0_off11 i) S256x128.size (k0_off11_inb i)).toLoadRect (u4.unread x2)) (k0_pay106 (View.readAt (Elt Ideal) a6.view (Rect.unit (s := S4x256x1) ![2, 0, 0] S1x256x1.size inb_S4x256x1_S1x256x1_2_0_0).toLoadRect (u6.unread x4))) (cv 256 1 (CL Q K 2 (i 1).val (i 1).val)) (cv 256 1 (CG Q D K V T 2 (i 1).val (i 1).val))) (View.readAt (Elt Ideal) a3.view (Rect.unit (s := S2048x512) (k0_off11 i) S256x128.size (k0_off11_inb i)).toLoadRect (u3.unread x1))) bitsLt_bf16_f32
      = cv 256 128 fun r e => dqB Q D K V T (i 1).val r (128 * 2 + e) := by
  rw [load_rows a2.view (u2.unread x0) ![0, 256] 0 (i 1).val 2 rfl inb_S256x512_S256x128_0_256 Q _ (u2.read_unread x0 |>.trans hx0) (fun r e => by rw [Nat.zero_add]), load_rows a5.view (u5.unread x3) ![0, 256] 0 (i 1).val 2 rfl inb_S256x512_S256x128_0_256 D _ (u5.read_unread x3 |>.trans hx3) (fun r e => by rw [Nat.zero_add]), load_rows a3.view (u3.unread x1) (k0_off11 i) (256 * (i 1).val) (i 1).val 2 (k0_off11_eq i) (k0_off11_inb i) K K (u3.read_unread x1 |>.trans hx1) (fun _ _ => rfl), load_rows a4.view (u4.unread x2) (k0_off11 i) (256 * (i 1).val) (i 1).val 2 (k0_off11_eq i) (k0_off11_inb i) V V (u4.read_unread x2 |>.trans hx2) (fun _ _ => rfl)]
  rw [show k0_pay106 (F := Ideal) _ = _ from load_tot a6.view (u6.unread x4) 2 inb_S4x256x1_S1x256x1_2_0_0 T (i 1).val (u6.read_unread x4 |>.trans hx4), narrow, stepDQD, dqPart]

theorem dqPay3 (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) :
    truncf (F := Ideal) .bf16 (dqV (cv 256 128 (DQ Q D K V T 3 (i 1).val (i 1).val)) (dzD (iota .tc S256x256 32 [0] iota_S256x256_d0_w32) (iota .tc S256x256 32 [1] iota_S256x256_d1_w32) k0_pay102 k0_pay103 (View.readAt (Elt Ideal) a2.view (Rect.unit (s := S256x512) ![0, 384] S256x128.size inb_S256x512_S256x128_0_384).toLoadRect (u2.unread x0)) (View.readAt (Elt Ideal) a5.view (Rect.unit (s := S256x512) ![0, 384] S256x128.size inb_S256x512_S256x128_0_384).toLoadRect (u5.unread x3)) (View.readAt (Elt Ideal) a3.view (Rect.unit (s := S2048x512) (k0_off12 i) S256x128.size (k0_off12_inb i)).toLoadRect (u3.unread x1)) (View.readAt (Elt Ideal) a4.view (Rect.unit (s := S2048x512) (k0_off12 i) S256x128.size (k0_off12_inb i)).toLoadRect (u4.unread x2)) (k0_pay107 (View.readAt (Elt Ideal) a6.view (Rect.unit (s := S4x256x1) ![3, 0, 0] S1x256x1.size inb_S4x256x1_S1x256x1_3_0_0).toLoadRect (u6.unread x4))) (cv 256 1 (CL Q K 3 (i 1).val (i 1).val)) (cv 256 1 (CG Q D K V T 3 (i 1).val (i 1).val))) (View.readAt (Elt Ideal) a3.view (Rect.unit (s := S2048x512) (k0_off12 i) S256x128.size (k0_off12_inb i)).toLoadRect (u3.unread x1))) bitsLt_bf16_f32
      = cv 256 128 fun r e => dqB Q D K V T (i 1).val r (128 * 3 + e) := by
  rw [load_rows a2.view (u2.unread x0) ![0, 384] 0 (i 1).val 3 rfl inb_S256x512_S256x128_0_384 Q _ (u2.read_unread x0 |>.trans hx0) (fun r e => by rw [Nat.zero_add]), load_rows a5.view (u5.unread x3) ![0, 384] 0 (i 1).val 3 rfl inb_S256x512_S256x128_0_384 D _ (u5.read_unread x3 |>.trans hx3) (fun r e => by rw [Nat.zero_add]), load_rows a3.view (u3.unread x1) (k0_off12 i) (256 * (i 1).val) (i 1).val 3 (k0_off12_eq i) (k0_off12_inb i) K K (u3.read_unread x1 |>.trans hx1) (fun _ _ => rfl), load_rows a4.view (u4.unread x2) (k0_off12 i) (256 * (i 1).val) (i 1).val 3 (k0_off12_eq i) (k0_off12_inb i) V V (u4.read_unread x2 |>.trans hx2) (fun _ _ => rfl)]
  rw [show k0_pay107 (F := Ideal) _ = _ from load_tot a6.view (u6.unread x4) 3 inb_S4x256x1_S1x256x1_3_0_0 T (i 1).val (u6.read_unread x4 |>.trans hx4), narrow, stepDQD, dqPart]

/-- dq's block. -/
theorem dqL_read (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (s : Carry Ideal) (hs : s = carry Q D K V T (i 1).val (i 1).val) (v : View sig .tc .vmem S256x512 .bf16) (f : v.ty.Contents (Elt Ideal)) :
    v.read (Elt Ideal) (v.writes (Elt Ideal) f (dqL i a2 u2 a3 u3 a4 u4 a5 u5 a6 u6 a7 u7 a8 u8 a9 u9 a10 u10 a11 u11 x0 x1 x2 x3 x4 s)) = cv 256 512 (dqB Q D K V T (i 1).val) := by
  rw [hs]; unfold dqL carry; dsimp only
  exact funext fun y => (store_dq v f _ _ 3 rfl inb_S256x512_S256x128_0_384 _ (dqB Q D K V T (i 1).val) (dqPay3 Q D K V T i a2 u2 a3 u3 a4 u4 a5 u5 a6 u6 a7 u7 a8 u8 a9 u9 a10 u10 a11 u11 x0 x1 x2 x3 x4 hx0 hx1 hx2 hx3 hx4) (store_dq v f _ _ 2 rfl inb_S256x512_S256x128_0_256 _ (dqB Q D K V T (i 1).val) (dqPay2 Q D K V T i a2 u2 a3 u3 a4 u4 a5 u5 a6 u6 a7 u7 a8 u8 a9 u9 a10 u10 a11 u11 x0 x1 x2 x3 x4 hx0 hx1 hx2 hx3 hx4) (store_dq v f _ _ 1 rfl inb_S256x512_S256x128_0_128 _ (dqB Q D K V T (i 1).val) (dqPay1 Q D K V T i a2 u2 a3 u3 a4 u4 a5 u5 a6 u6 a7 u7 a8 u8 a9 u9 a10 u10 a11 u11 x0 x1 x2 x3 x4 hx0 hx1 hx2 hx3 hx4) (store_dq v f _ _ 0 rfl inb_S256x512_S256x128_0_0 _ (dqB Q D K V T (i 1).val) (dqPay0 Q D K V T i a2 u2 a3 u3 a4 u4 a5 u5 a6 u6 a7 u7 a8 u8 a9 u9 a10 u10 a11 u11 x0 x1 x2 x3 x4 hx0 hx1 hx2 hx3 hx4) (fun y hy => absurd hy (Nat.not_lt_zero _)))))) y (idx2_lt1 y)

end Cert.KernelIdeal.Diag

end

end
-- ==== Proof.Inputs.lean ====
/-
  The blocks a grid point is handed, of arrays of reals: of head group `t / 8`, rows from `256 * (t % 8)` on.
-/
module

public import proofs.«01_k».proof.Proof.Diag
public import proofs.«01_k».proof.Proof.Gen.KernelIdeal.Frame

@[expose] public section

set_option maxRecDepth 16384

noncomputable section

namespace Cert.KernelIdeal.Inputs

open Cert.KernelIdeal Cert.KernelIdeal.Gen Cert.KernelIdeal.Block Cert.KernelIdeal.Model Cert.KernelIdeal.Acc Cert.KernelIdeal.Diag Idealize.ShloMosaic Idealize.ShloMosaic.TcCoe Idealize.SL.Sem
open scoped BigOperators

/-- The columns of head group `h` of the queries, keys, values and output gradients, and the totals of its heads. -/
def qs (X : ℕ → ℕ → ℝ) (h t e : ℕ) : ℝ := X t (512 * h + e)
def ks (X : ℕ → ℕ → ℝ) (h t e : ℕ) : ℝ := X t (2048 + 512 * h + e)
def vs (X : ℕ → ℕ → ℝ) (h t e : ℕ) : ℝ := X t (4096 + 512 * h + e)
def ts (S : ℕ → ℕ → ℝ) (h n t : ℕ) : ℝ := S (4 * h + n) t

theorem coord1 : ∀ t : Fin grid0.N, ((grid0.coords t) 1).val = t.val % 8 := by decide +kernel
theorem index0 : ∀ t : Fin grid0.N, win0_0.index t 0 = t.val % 8 ∧ win0_0.index t 1 = t.val / 8 := by decide +kernel
theorem index1 : ∀ t : Fin grid0.N, win0_1.index t 0 = 0 ∧ win0_1.index t 1 = 4 + t.val / 8 := by decide +kernel
theorem index2 : ∀ t : Fin grid0.N, win0_2.index t 0 = 0 ∧ win0_2.index t 1 = 8 + t.val / 8 := by decide +kernel
theorem index3 : ∀ t : Fin grid0.N, win0_3.index t 0 = t.val % 8 ∧ win0_3.index t 1 = t.val / 8 := by decide +kernel
theorem index4 : ∀ t : Fin grid0.N, win0_4.index t 0 = t.val / 8 ∧ win0_4.index t 1 = t.val % 8 ∧ win0_4.index t 2 = 0 := by decide +kernel

variable (m : (ℓ : Loc nD τ sig) → Buf (Elt Ideal) ℓ) (c : Dev nD) (X Y S : ℕ → ℕ → ℝ)

theorem blk0 (h0 : V m c main_arg0 = cv 2048 6144 X) (t : Fin cfg0.N) :
    iblk m c 0 t = cv 256 512 fun r e => qs X (t.val / 8) (256 * ((grid0.coords t) 1).val + r) e := by
  show (win0_0.blk t).view.read (Elt Ideal) (V m c main_arg0) = _
  rw [h0]
  funext j
  obtain ⟨e0, e1⟩ := index0 t
  have f0 : ((win0_0.blk t).view.emb j 0).val = win0_0.index t 0 * 256 + 1 * (j 0).val := rfl
  have f1 : ((win0_0.blk t).view.emb j 1).val = win0_0.index t 1 * 512 + 1 * (j 1).val := rfl
  show ((X ((win0_0.blk t).view.emb j 0).val ((win0_0.blk t).view.emb j 1).val : ℝ) : EReal) = ((X (256 * ((grid0.coords t) 1).val + (j 0).val) (512 * (t.val / 8) + (j 1).val) : ℝ) : EReal)
  rw [f0, f1, e0, e1, coord1]
  exact congrArg (fun x : ℝ => (x : EReal)) (congrArg₂ X (by omega) (by omega))

theorem blk1 (h0 : V m c main_arg0 = cv 2048 6144 X) (t : Fin cfg0.N) :
    iblk m c 1 t = cv 2048 512 (ks X (t.val / 8)) := by
  show (win0_1.blk t).view.read (Elt Ideal) (V m c main_arg0) = _
  rw [h0]
  funext j
  obtain ⟨e0, e1⟩ := index1 t
  have f0 : ((win0_1.blk t).view.emb j 0).val = win0_1.index t 0 * 2048 + 1 * (j 0).val := rfl
  have f1 : ((win0_1.blk t).view.emb j 1).val = win0_1.index t 1 * 512 + 1 * (j 1).val := rfl
  show ((X ((win0_1.blk t).view.emb j 0).val ((win0_1.blk t).view.emb j 1).val : ℝ) : EReal) = ((X (j 0).val (2048 + 512 * (t.val / 8) + (j 1).val) : ℝ) : EReal)
  rw [f0, f1, e0, e1]
  exact congrArg (fun x : ℝ => (x : EReal)) (congrArg₂ X (by omega) (by omega))

theorem blk2 (h0 : V m c main_arg0 = cv 2048 6144 X) (t : Fin cfg0.N) :
    iblk m c 2 t = cv 2048 512 (vs X (t.val / 8)) := by
  show (win0_2.blk t).view.read (Elt Ideal) (V m c main_arg0) = _
  rw [h0]
  funext j
  obtain ⟨e0, e1⟩ := index2 t
  have f0 : ((win0_2.blk t).view.emb j 0).val = win0_2.index t 0 * 2048 + 1 * (j 0).val := rfl
  have f1 : ((win0_2.blk t).view.emb j 1).val = win0_2.index t 1 * 512 + 1 * (j 1).val := rfl
  show ((X ((win0_2.blk t).view.emb j 0).val ((win0_2.blk t).view.emb j 1).val : ℝ) : EReal) = ((X (j 0).val (4096 + 512 * (t.val / 8) + (j 1).val) : ℝ) : EReal)
  rw [f0, f1, e0, e1]
  exact congrArg (fun x : ℝ => (x : EReal)) (congrArg₂ X (by omega) (by omega))

theorem blk3 (h1 : V m c main_arg1 = cv 2048 2048 Y) (t : Fin cfg0.N) :
    iblk m c 3 t = cv 256 512 fun r e => qs Y (t.val / 8) (256 * ((grid0.coords t) 1).val + r) e := by
  show (win0_3.blk t).view.read (Elt Ideal) (V m c main_arg1) = _
  rw [h1]
  funext j
  obtain ⟨e0, e1⟩ := index3 t
  have f0 : ((win0_3.blk t).view.emb j 0).val = win0_3.index t 0 * 256 + 1 * (j 0).val := rfl
  have f1 : ((win0_3.blk t).view.emb j 1).val = win0_3.index t 1 * 512 + 1 * (j 1).val := rfl
  show ((Y ((win0_3.blk t).view.emb j 0).val ((win0_3.blk t).view.emb j 1).val : ℝ) : EReal) = ((Y (256 * ((grid0.coords t) 1).val + (j 0).val) (512 * (t.val / 8) + (j 1).val) : ℝ) : EReal)
  rw [f0, f1, e0, e1, coord1]
  exact congrArg (fun x : ℝ => (x : EReal)) (congrArg₂ Y (by omega) (by omega))

theorem blk4 (h2 : V m c main_v21 = fun j => ((S (j 0).val (j 1).val : ℝ) : EReal)) (t : Fin cfg0.N) :
    iblk m c 4 t = fun j => ((ts S (t.val / 8) (j 0).val (256 * ((grid0.coords t) 1).val + (j 1).val) : ℝ) : EReal) := by
  show (win0_4.blk t).view.read (Elt Ideal) (V m c main_v21) = _
  rw [h2]
  funext j
  obtain ⟨e0, e1, _⟩ := index4 t
  have f0 : ((win0_4.blk t).view.emb j 0).val = win0_4.index t 0 * 4 + 1 * (j 0).val := rfl
  have f1 : ((win0_4.blk t).view.emb j 1).val = win0_4.index t 1 * 256 + 1 * (j 1).val := rfl
  show ((S ((win0_4.blk t).view.emb j 0).val ((win0_4.blk t).view.emb j 1).val : ℝ) : EReal) = ((S (4 * (t.val / 8) + (j 0).val) (256 * ((grid0.coords t) 1).val + (j 1).val) : ℝ) : EReal)
  rw [f0, f1, e0, e1, coord1]
  exact congrArg (fun x : ℝ => (x : EReal)) (congrArg₂ S (by omega) (by omega))

/-- The sum over the queries before row `256 * p`, what dk's and dv's accumulators hold before point `p`. -/
def accS (Z : ℕ → ℕ → ℕ → ℝ) (M : ℕ → ℕ → ℝ) (p s e : ℕ) : ℝ := ∑ t ∈ Finset.range (256 * p), Z (e / 128) t s * M t e

theorem accS_zero (Z : ℕ → ℕ → ℕ → ℝ) (M : ℕ → ℕ → ℝ) : accS Z M 0 = fun _ _ => 0 := by
  funext s e; unfold accS; exact Finset.sum_range_zero _

theorem accS_succ (Z : ℕ → ℕ → ℕ → ℝ) (M : ℕ → ℕ → ℝ) (hZ : ∀ n t s, ¬ s < t → Z n t s = 0) (p : ℕ) :
    addN Z M p (p + 1) 0 (accS Z M p) = accS Z M (p + 1) := by
  funext s e
  unfold addN
  have hs : accS Z M (p + 1) s e = accS Z M p s e + ∑ j ∈ Finset.range 256, Z (e / 128) (256 * p + j) s * M (256 * p + j) e := by
    unfold accS
    rw [Nat.mul_add, Nat.mul_one]
    exact Finset.sum_range_add (fun t => Z (e / 128) t s * M t e) (256 * p) 256
  rw [hs]
  by_cases h : s < 256 * (p + 1)
  · rw [if_pos (Or.inl h)]
  · rw [if_neg (by omega), Finset.sum_eq_zero fun j hj => ?_, add_zero]
    rw [hZ _ _ _ (by have := Finset.mem_range.1 hj; omega), zero_mul]

end Cert.KernelIdeal.Inputs

end

end
-- ==== Proof.RunA.lean ====
/-
  Case A of the kernel's body, opened.
-/
module

public import proofs.«01_k».proof.Proof.RunDefs
public import proofs.«01_k».proof.Proof.Gen.KernelIdeal.Frame.RunA

@[expose] public section

set_option maxRecDepth 16384
set_option maxHeartbeats 2000000

noncomputable section

namespace Cert.KernelIdeal.Runs

open Cert.KernelIdeal Cert.KernelIdeal.Gen Cert.KernelIdeal.Step Idealize.ShloMosaic Idealize.ShloMosaic.TcCoe Idealize.SL.Sem

variable {F : FTy → Type} [FloatOps F]

/-- The state after both loops from accumulators filled with zeros, the fills in the lists of stores. -/
def stA (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec F S256x512 .bf16) (x1 : Vec F S2048x512 .bf16) (x2 : Vec F S2048x512 .bf16) (x3 : Vec F S256x512 .bf16) (x4 : Vec F S4x256x1 .f32) : State F :=
  let h10 : List (View.Piece (Elt F) S2048x512 .f32) := [⟨(Rect.unit (s := S2048x512) ![0, 0] S2048x512.size inb_S2048x512_S2048x512_0_0), k0_pay100⟩]
  let h11 : List (View.Piece (Elt F) S2048x512 .f32) := [⟨(Rect.unit (s := S2048x512) ![0, 0] S2048x512.size inb_S2048x512_S2048x512_0_0), k0_pay101⟩]
  let a := st1 c i a2 u2 a3 u3 a4 u4 a5 u5 a6 u6 a7 u7 a8 u8 a9 u9 a10 u10 a11 u11 x0 x1 x2 x3 x4 (a10.view.writes (Elt F) a10.view.junk h10) (a11.view.writes (Elt F) a11.view.junk h11) (Scf.trips (0#32) (Scalar.addi (0#32) (Scalar.muli (Scalar.divsi (Scalar.subi (BitVec.ofNat 32 ↑(i 1)) 0#32) 1#32) 1#32)) 1#32)
  let b := st2 c i a2 u2 a3 u3 a4 u4 a5 u5 a6 u6 a7 u7 a8 u8 a9 u9 a10 u10 a11 u11 x0 x1 x2 x3 x4 (a10.view.writes (Elt F) a10.view.junk (a.2.1 ++ h10)) (a11.view.writes (Elt F) a11.view.junk (a.2.2 ++ h11)) (a.1.1, a.1.2.1, a.1.2.2.1, a.1.2.2.2.1, a.1.2.2.2.2.1, a.1.2.2.2.2.2.1, a.1.2.2.2.2.2.2.1, a.1.2.2.2.2.2.2.2.1, a.1.2.2.2.2.2.2.2.2.1, a.1.2.2.2.2.2.2.2.2.2.1, a.1.2.2.2.2.2.2.2.2.2.2.1, a.1.2.2.2.2.2.2.2.2.2.2.2) (Scf.trips (Scalar.addi (0#32) (Scalar.muli (Scalar.divsi (Scalar.subi (BitVec.ofNat 32 ↑(i 1)) 0#32) 1#32) 1#32)) (Scalar.addi (0#32) (Scalar.subi (BitVec.ofNat 32 ↑(i 1)) 0#32)) 1#32)
  (b.1, b.2.1 ++ (a.2.1 ++ h10), b.2.2 ++ (a.2.2 ++ h11))

theorem runA_dq (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : cond0_0 i) (hc1 : ¬cond0_1 i) (x0 : Vec F S256x512 .bf16) (x1 : Vec F S2048x512 .bf16) (x2 : Vec F S2048x512 .bf16) (x3 : Vec F S256x512 .bf16) (x4 : Vec F S4x256x1 .f32)  :
    (kernelRun0_A c i a2 u2 a3 u3 a4 u4 a5 u5 a6 u6 a7 u7 a8 u8 a9 u9 a10 u10 a11 u11 hc0 hc1 x0 x1 x2 x3 x4 ).1 = dqL i a2 u2 a3 u3 a4 u4 a5 u5 a6 u6 a7 u7 a8 u8 a9 u9 a10 u10 a11 u11 x0 x1 x2 x3 x4 (stA c i a2 u2 a3 u3 a4 u4 a5 u5 a6 u6 a7 u7 a8 u8 a9 u9 a10 u10 a11 u11 x0 x1 x2 x3 x4).1 := by
  unfold kernelRun0_A
  rfl

theorem runA_dkacc (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : cond0_0 i) (hc1 : ¬cond0_1 i) (x0 : Vec F S256x512 .bf16) (x1 : Vec F S2048x512 .bf16) (x2 : Vec F S2048x512 .bf16) (x3 : Vec F S256x512 .bf16) (x4 : Vec F S4x256x1 .f32)  :
    (kernelRun0_A c i a2 u2 a3 u3 a4 u4 a5 u5 a6 u6 a7 u7 a8 u8 a9 u9 a10 u10 a11 u11 hc0 hc1 x0 x1 x2 x3 x4 ).2.2.2.1 = dkL3 i a2 u2 a3 u3 a4 u4 a5 u5 a6 u6 a7 u7 a8 u8 a9 u9 a10 u10 a11 u11 x0 x1 x2 x3 x4 (stA c i a2 u2 a3 u3 a4 u4 a5 u5 a6 u6 a7 u7 a8 u8 a9 u9 a10 u10 a11 u11 x0 x1 x2 x3 x4).1 a10.view.junk ((stA c i a2 u2 a3 u3 a4 u4 a5 u5 a6 u6 a7 u7 a8 u8 a9 u9 a10 u10 a11 u11 x0 x1 x2 x3 x4).2.1) := by
  unfold kernelRun0_A
  rfl

theorem runA_dvacc (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : cond0_0 i) (hc1 : ¬cond0_1 i) (x0 : Vec F S256x512 .bf16) (x1 : Vec F S2048x512 .bf16) (x2 : Vec F S2048x512 .bf16) (x3 : Vec F S256x512 .bf16) (x4 : Vec F S4x256x1 .f32)  :
    (kernelRun0_A c i a2 u2 a3 u3 a4 u4 a5 u5 a6 u6 a7 u7 a8 u8 a9 u9 a10 u10 a11 u11 hc0 hc1 x0 x1 x2 x3 x4 ).2.2.2.2.1 = dvL3 i a2 u2 a3 u3 a4 u4 a5 u5 a6 u6 a7 u7 a8 u8 a9 u9 a10 u10 a11 u11 x0 x1 x2 x3 x4 (stA c i a2 u2 a3 u3 a4 u4 a5 u5 a6 u6 a7 u7 a8 u8 a9 u9 a10 u10 a11 u11 x0 x1 x2 x3 x4).1 a11.view.junk ((stA c i a2 u2 a3 u3 a4 u4 a5 u5 a6 u6 a7 u7 a8 u8 a9 u9 a10 u10 a11 u11 x0 x1 x2 x3 x4).2.2) := by
  unfold kernelRun0_A
  rfl

end Cert.KernelIdeal.Runs

end

end
-- ==== Proof.RunB.lean ====
/-
  Case B of the kernel's body, opened.
-/
module

public import proofs.«01_k».proof.Proof.RunDefs
public import proofs.«01_k».proof.Proof.Gen.KernelIdeal.Frame.RunB

@[expose] public section

set_option maxRecDepth 16384
set_option maxHeartbeats 2000000

noncomputable section

namespace Cert.KernelIdeal.Runs

open Cert.KernelIdeal Cert.KernelIdeal.Gen Cert.KernelIdeal.Step Idealize.ShloMosaic Idealize.ShloMosaic.TcCoe Idealize.SL.Sem

variable {F : FTy → Type} [FloatOps F]

theorem runB_dq (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : ¬cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_B c i a2 u2 a3 u3 a4 u4 a5 u5 a6 u6 a7 u7 a8 u8 a9 u9 a10 u10 a11 u11 hc0 hc1 x0 x1 x2 x3 x4 xs0 xs1).1 = dqL i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 := by
  unfold kernelRun0_B
  rfl

theorem runB_dkacc (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : ¬cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_B c i a2 u2 a3 u3 a4 u4 a5 u5 a6 u6 a7 u7 a8 u8 a9 u9 a10 u10 a11 u11 hc0 hc1 x0 x1 x2 x3 x4 xs0 xs1).2.2.2.1 = dkL3 i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 (u10.unread xs0) ((stE c i a2 u2 a3 u3 a4 u4 a5 u5 a6 u6 a7 u7 a8 u8 a9 u9 a10 u10 a11 u11 x0 x1 x2 x3 x4 (u10.unread xs0) (u11.unread xs1)).2.1) := by
  unfold kernelRun0_B
  rfl

theorem runB_dvacc (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : ¬cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_B c i a2 u2 a3 u3 a4 u4 a5 u5 a6 u6 a7 u7 a8 u8 a9 u9 a10 u10 a11 u11 hc0 hc1 x0 x1 x2 x3 x4 xs0 xs1).2.2.2.2.1 = dvL3 i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 (u11.unread xs1) ((stE c i a2 u2 a3 u3 a4 u4 a5 u5 a6 u6 a7 u7 a8 u8 a9 u9 a10 u10 a11 u11 x0 x1 x2 x3 x4 (u10.unread xs0) (u11.unread xs1)).2.2) := by
  unfold kernelRun0_B
  rfl

end Cert.KernelIdeal.Runs

end

end
-- ==== Proof.RunC.lean ====
/-
  Case C of the kernel's body, opened.
-/
module

public import proofs.«01_k».proof.Proof.RunDefs
public import proofs.«01_k».proof.Proof.Gen.KernelIdeal.Frame.RunC

@[expose] public section

set_option maxRecDepth 16384
set_option maxHeartbeats 2000000

noncomputable section

namespace Cert.KernelIdeal.Runs

open Cert.KernelIdeal Cert.KernelIdeal.Gen Cert.KernelIdeal.Step Idealize.ShloMosaic Idealize.ShloMosaic.TcCoe Idealize.SL.Sem

variable {F : FTy → Type} [FloatOps F]

theorem runC_dq (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_C c i a2 u2 a3 u3 a4 u4 a5 u5 a6 u6 a7 u7 a8 u8 a9 u9 a10 u10 a11 u11 hc0 hc1 x0 x1 x2 x3 x4 xs0 xs1).1 = dqL i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 := by
  unfold kernelRun0_C
  rfl

theorem runC_dkacc (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_C c i a2 u2 a3 u3 a4 u4 a5 u5 a6 u6 a7 u7 a8 u8 a9 u9 a10 u10 a11 u11 hc0 hc1 x0 x1 x2 x3 x4 xs0 xs1).2.2.2.1 = dkL3 i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 (u10.unread xs0) ((stE c i a2 u2 a3 u3 a4 u4 a5 u5 a6 u6 a7 u7 a8 u8 a9 u9 a10 u10 a11 u11 x0 x1 x2 x3 x4 (u10.unread xs0) (u11.unread xs1)).2.1) := by
  unfold kernelRun0_C
  rfl

theorem runC_dvacc (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_C c i a2 u2 a3 u3 a4 u4 a5 u5 a6 u6 a7 u7 a8 u8 a9 u9 a10 u10 a11 u11 hc0 hc1 x0 x1 x2 x3 x4 xs0 xs1).2.2.2.2.1 = dvL3 i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 (u11.unread xs1) ((stE c i a2 u2 a3 u3 a4 u4 a5 u5 a6 u6 a7 u7 a8 u8 a9 u9 a10 u10 a11 u11 x0 x1 x2 x3 x4 (u10.unread xs0) (u11.unread xs1)).2.2) := by
  unfold kernelRun0_C
  rfl

theorem runC_dk (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_C c i a2 u2 a3 u3 a4 u4 a5 u5 a6 u6 a7 u7 a8 u8 a9 u9 a10 u10 a11 u11 hc0 hc1 x0 x1 x2 x3 x4 xs0 xs1).2.1 = [⟨(Rect.unit (s := S2048x512) ![0, 0] S2048x512.size inb_S2048x512_S2048x512_0_0), k0_pay6 (View.readAt (Elt F) a10.view (Rect.unit (s := S2048x512) ![0, 0] S2048x512.size inb_S2048x512_S2048x512_0_0).toLoadRect (a10.view.writes (Elt F) (u10.unread xs0) (dkL3 i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 (u10.unread xs0) ((stE c i a2 u2 a3 u3 a4 u4 a5 u5 a6 u6 a7 u7 a8 u8 a9 u9 a10 u10 a11 u11 x0 x1 x2 x3 x4 (u10.unread xs0) (u11.unread xs1)).2.1))))⟩] := by
  unfold kernelRun0_C
  rfl

theorem runC_dv (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec F S256x512 .bf16) (x1 : Vec F S2048x512 .bf16) (x2 : Vec F S2048x512 .bf16) (x3 : Vec F S256x512 .bf16) (x4 : Vec F S4x256x1 .f32) (xs0 : Vec F S2048x512 .f32) (xs1 : Vec F S2048x512 .f32) :
    (kernelRun0_C c i a2 u2 a3 u3 a4 u4 a5 u5 a6 u6 a7 u7 a8 u8 a9 u9 a10 u10 a11 u11 hc0 hc1 x0 x1 x2 x3 x4 xs0 xs1).2.2.1 = [⟨(Rect.unit (s := S2048x512) ![0, 0] S2048x512.size inb_S2048x512_S2048x512_0_0), k0_pay7 (View.readAt (Elt F) a11.view (Rect.unit (s := S2048x512) ![0, 0] S2048x512.size inb_S2048x512_S2048x512_0_0).toLoadRect (a11.view.writes (Elt F) (u11.unread xs1) (dvL3 i a2 u2 a3 u3 a4 u4 a5 u5 a6 u6 a7 u7 a8 u8 a9 u9 a10 u10 a11 u11 x0 x1 x2 x3 x4 (stE c i a2 u2 a3 u3 a4 u4 a5 u5 a6 u6 a7 u7 a8 u8 a9 u9 a10 u10 a11 u11 x0 x1 x2 x3 x4 (u10.unread xs0) (u11.unread xs1)).1 (u11.unread xs1) ((stE c i a2 u2 a3 u3 a4 u4 a5 u5 a6 u6 a7 u7 a8 u8 a9 u9 a10 u10 a11 u11 x0 x1 x2 x3 x4 (u10.unread xs0) (u11.unread xs1)).2.2))))⟩] := by
  unfold kernelRun0_C
  rfl

end Cert.KernelIdeal.Runs

end

end
-- ==== Proof.Points.lean ====
/-
  What a grid point leaves in dq's block and in the accumulators of dk and dv, and what the last one writes out.
-/
module

public import proofs.«01_k».proof.Proof.Diag
public import proofs.«01_k».proof.Proof.RunB
public import proofs.«01_k».proof.Proof.RunC
public import proofs.«01_k».proof.Proof.Gen.KernelIdeal.Frame

@[expose] public section

set_option maxRecDepth 16384

noncomputable section

namespace Cert.KernelIdeal.Points

open Cert.KernelIdeal Cert.KernelIdeal.Gen Cert.KernelIdeal.Step Cert.KernelIdeal.Block Cert.KernelIdeal.Model Cert.KernelIdeal.Mem Cert.KernelIdeal.Acc Cert.KernelIdeal.Loop Cert.KernelIdeal.Runs Cert.KernelIdeal.Diag Idealize.ShloMosaic Idealize.ShloMosaic.TcCoe Idealize.SL.Sem
open Idealize.ShloMosaic.ValueIdx hiding ix2 eq_ix2 ix1 eq_ix1 ix0 eq_ix0
open scoped BigOperators

variable (Q D K V T : ℕ → ℕ → ℝ)

/-- A store of a whole view, read back. -/
theorem read_whole {sp : Space} {κ : Kind} {Val : EltTy → Type} {e : EltTy} (v : View sig κ sp S2048x512 e) (f : v.ty.Contents Val) (inb : ∀ a, (![0, 0] : Fin 2 → ℕ) a + S2048x512.size a ≤ S2048x512.size a) (w : S2048x512.Idx → Val e) :
    v.read Val (v.writes Val f [(⟨Rect.unit (s := S2048x512) ![0, 0] S2048x512.size inb, w⟩ : View.Piece Val S2048x512 e)]) = w := by
  funext y
  rw [View.read_writes_cons_unit v f inb w [] y rfl, dif_pos fun a => by match a with
    | ⟨0, _⟩ => exact ⟨Nat.zero_le _, by have := idx2_lt0 y; show (y 0).val < 0 + 2048; omega⟩
    | ⟨1, _⟩ => exact ⟨Nat.zero_le _, by have := idx2_lt1 y; show (y 1).val < 0 + 512; omega⟩]
  refine congrArg w (funext fun a => Fin.ext ?_)
  match a with
  | ⟨0, _⟩ => exact Nat.sub_zero _
  | ⟨1, _⟩ => exact Nat.sub_zero _

theorem fill10 : (k0_pay100 (F := Ideal)) = cv 2048 512 fun _ _ => 0 := by
  unfold k0_pay100; funext j; exact ofBits_zero
theorem fill11 : (k0_pay101 (F := Ideal)) = cv 2048 512 fun _ _ => 0 := by
  unfold k0_pay101; funext j; exact ofBits_zero

theorem stE_spec (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    (stE (F := Ideal) c i a2 u2 a3 u3 a4 u4 a5 u5 a6 u6 a7 u7 a8 u8 a9 u9 a10 u10 a11 u11 x0 x1 x2 x3 x4 (u10.unread xs0) (u11.unread xs1)).1 = carry Q D K V T (i 1).val (i 1).val
    ∧ a10.view.read (Elt Ideal) (a10.view.writes (Elt Ideal) (u10.unread xs0) (stE (F := Ideal) c i a2 u2 a3 u3 a4 u4 a5 u5 a6 u6 a7 u7 a8 u8 a9 u9 a10 u10 a11 u11 x0 x1 x2 x3 x4 (u10.unread xs0) (u11.unread xs1)).2.1) = cv 2048 512 (addN (DZ Q D K V T) Q (i 1).val (i 1).val 0 A)
    ∧ a11.view.read (Elt Ideal) (a11.view.writes (Elt Ideal) (u11.unread xs1) (stE (F := Ideal) c i a2 u2 a3 u3 a4 u4 a5 u5 a6 u6 a7 u7 a8 u8 a9 u9 a10 u10 a11 u11 x0 x1 x2 x3 x4 (u10.unread xs0) (u11.unread xs1)).2.2) = cv 2048 512 (addN (W Q K T) D (i 1).val (i 1).val 0 B) := by
  rw [stE_eq]
  exact st1_spec Q D K V T c i a2 u2 a3 u3 a4 u4 a5 u5 a6 u6 a7 u7 a8 u8 a9 u9 a10 u10 a11 u11 x0 x1 x2 x3 x4 hx0 hx1 hx2 hx3 hx4 _ _ A B (u10.read_unread xs0 |>.trans hs0) (u11.read_unread xs1 |>.trans hs1)

theorem outB_5 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : ¬cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    out0_B_5 (F := Ideal) c i a2 u2 a3 u3 a4 u4 a5 u5 a6 u6 a7 u7 a8 u8 a9 u9 a10 u10 a11 u11 hc0 hc1 x0 x1 x2 x3 x4 xs0 xs1 = cv 256 512 (dqB Q D K V T (i 1).val) := by
  unfold out0_B_5
  rw [runB_dq]
  exact dqL_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _

theorem soutB_0 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : ¬cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    sout0_B_0 (F := Ideal) c i a2 u2 a3 u3 a4 u4 a5 u5 a6 u6 a7 u7 a8 u8 a9 u9 a10 u10 a11 u11 hc0 hc1 x0 x1 x2 x3 x4 xs0 xs1 = cv 2048 512 (addN (DZ Q D K V T) Q (i 1).val ((i 1).val + 1) 0 A) := by
  unfold sout0_B_0
  rw [runB_dkacc, ← addN_next]
  exact (dkL3_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _ A (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).2.1)

theorem soutB_1 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : ¬cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    sout0_B_1 (F := Ideal) c i a2 u2 a3 u3 a4 u4 a5 u5 a6 u6 a7 u7 a8 u8 a9 u9 a10 u10 a11 u11 hc0 hc1 x0 x1 x2 x3 x4 xs0 xs1 = cv 2048 512 (addN (W Q K T) D (i 1).val ((i 1).val + 1) 0 B) := by
  unfold sout0_B_1
  rw [runB_dvacc, ← addN_next]
  exact (dvL3_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _ B (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).2.2)

theorem outC_5 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    out0_C_5 (F := Ideal) c i a2 u2 a3 u3 a4 u4 a5 u5 a6 u6 a7 u7 a8 u8 a9 u9 a10 u10 a11 u11 hc0 hc1 x0 x1 x2 x3 x4 xs0 xs1 = cv 256 512 (dqB Q D K V T (i 1).val) := by
  unfold out0_C_5
  rw [runC_dq]
  exact dqL_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _

theorem soutC_0 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    sout0_C_0 (F := Ideal) c i a2 u2 a3 u3 a4 u4 a5 u5 a6 u6 a7 u7 a8 u8 a9 u9 a10 u10 a11 u11 hc0 hc1 x0 x1 x2 x3 x4 xs0 xs1 = cv 2048 512 (addN (DZ Q D K V T) Q (i 1).val ((i 1).val + 1) 0 A) := by
  unfold sout0_C_0
  rw [runC_dkacc, ← addN_next]
  exact (dkL3_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _ A (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).2.1)

theorem outC_6 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    out0_C_6 (F := Ideal) c i a2 u2 a3 u3 a4 u4 a5 u5 a6 u6 a7 u7 a8 u8 a9 u9 a10 u10 a11 u11 hc0 hc1 x0 x1 x2 x3 x4 xs0 xs1 = cv 2048 512 (addN (DZ Q D K V T) Q (i 1).val ((i 1).val + 1) 0 A) := by
  unfold out0_C_6
  rw [runC_dk, read_whole, ← addN_next]
  unfold k0_pay6
  rw [View.readAt_full]
  exact (dkL3_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _ A (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).2.1)

theorem soutC_1 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    sout0_C_1 (F := Ideal) c i a2 u2 a3 u3 a4 u4 a5 u5 a6 u6 a7 u7 a8 u8 a9 u9 a10 u10 a11 u11 hc0 hc1 x0 x1 x2 x3 x4 xs0 xs1 = cv 2048 512 (addN (W Q K T) D (i 1).val ((i 1).val + 1) 0 B) := by
  unfold sout0_C_1
  rw [runC_dvacc, ← addN_next]
  exact (dvL3_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _ B (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).2.2)

theorem outC_7 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : ¬cond0_0 i) (hc1 : cond0_1 i) (x0 : Vec Ideal S256x512 .bf16) (x1 : Vec Ideal S2048x512 .bf16) (x2 : Vec Ideal S2048x512 .bf16) (x3 : Vec Ideal S256x512 .bf16) (x4 : Vec Ideal S4x256x1 .f32) (xs0 xs1 : Vec Ideal S2048x512 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) (A B : ℕ → ℕ → ℝ) (hs0 : xs0 = cv 2048 512 A) (hs1 : xs1 = cv 2048 512 B) :
    out0_C_7 (F := Ideal) c i a2 u2 a3 u3 a4 u4 a5 u5 a6 u6 a7 u7 a8 u8 a9 u9 a10 u10 a11 u11 hc0 hc1 x0 x1 x2 x3 x4 xs0 xs1 = cv 2048 512 (addN (W Q K T) D (i 1).val ((i 1).val + 1) 0 B) := by
  unfold out0_C_7
  rw [runC_dv, read_whole, ← addN_next]
  unfold k0_pay7
  rw [View.readAt_full]
  exact (dvL3_read Q D K V T i a2 u2 a3 u3 a4 u4 a5 u5 a6 u6 a7 u7 a8 u8 a9 u9 a10 u10 a11 u11 x0 x1 x2 x3 x4 hx0 hx1 hx2 hx3 hx4 _ (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).1 _ _ B (stE_spec Q D K V T c i a2 u2 a3 u3 a4 u4 a5 u5 a6 u6 a7 u7 a8 u8 a9 u9 a10 u10 a11 u11 x0 x1 x2 x3 x4 xs0 xs1 hx0 hx1 hx2 hx3 hx4 A B hs0 hs1).2.2)

end Cert.KernelIdeal.Points

end

end
-- ==== Proof.PointsA.lean ====
/-
  What the first grid point of a head group leaves in dq's block and in the accumulators of dk and dv.
-/
module

public import proofs.«01_k».proof.Proof.Diag
public import proofs.«01_k».proof.Proof.RunA
public import proofs.«01_k».proof.Proof.Points
public import proofs.«01_k».proof.Proof.Gen.KernelIdeal.Frame

@[expose] public section

set_option maxRecDepth 16384

noncomputable section

namespace Cert.KernelIdeal.Points

open Cert.KernelIdeal Cert.KernelIdeal.Gen Cert.KernelIdeal.Step Cert.KernelIdeal.Block Cert.KernelIdeal.Model Cert.KernelIdeal.Mem Cert.KernelIdeal.Acc Cert.KernelIdeal.Loop Cert.KernelIdeal.Runs Cert.KernelIdeal.Diag Idealize.ShloMosaic Idealize.ShloMosaic.TcCoe Idealize.SL.Sem
open Idealize.ShloMosaic.ValueIdx hiding ix2 eq_ix2 ix1 eq_ix1 ix0 eq_ix0
open scoped BigOperators

variable (Q D K V T : ℕ → ℕ → ℝ)

theorem stA_spec (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (x0 : Vec Ideal S256x512 .bf16) (x1 : Vec Ideal S2048x512 .bf16) (x2 : Vec Ideal S2048x512 .bf16) (x3 : Vec Ideal S256x512 .bf16) (x4 : Vec Ideal S4x256x1 .f32) (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal)) :
    (stA (F := Ideal) c i a2 u2 a3 u3 a4 u4 a5 u5 a6 u6 a7 u7 a8 u8 a9 u9 a10 u10 a11 u11 x0 x1 x2 x3 x4).1 = carry Q D K V T (i 1).val (i 1).val
    ∧ a10.view.read (Elt Ideal) (a10.view.writes (Elt Ideal) a10.view.junk (stA (F := Ideal) c i a2 u2 a3 u3 a4 u4 a5 u5 a6 u6 a7 u7 a8 u8 a9 u9 a10 u10 a11 u11 x0 x1 x2 x3 x4).2.1) = cv 2048 512 (addN (DZ Q D K V T) Q (i 1).val (i 1).val 0 fun _ _ => 0)
    ∧ a11.view.read (Elt Ideal) (a11.view.writes (Elt Ideal) a11.view.junk (stA (F := Ideal) c i a2 u2 a3 u3 a4 u4 a5 u5 a6 u6 a7 u7 a8 u8 a9 u9 a10 u10 a11 u11 x0 x1 x2 x3 x4).2.2) = cv 2048 512 (addN (W Q K T) D (i 1).val (i 1).val 0 fun _ _ => 0) := by
  have h := st1_spec Q D K V T c i a2 u2 a3 u3 a4 u4 a5 u5 a6 u6 a7 u7 a8 u8 a9 u9 a10 u10 a11 u11 x0 x1 x2 x3 x4 hx0 hx1 hx2 hx3 hx4 (a10.view.writes (Elt Ideal) a10.view.junk _) (a11.view.writes (Elt Ideal) a11.view.junk _) (fun _ _ => 0) (fun _ _ => 0) ((read_whole _ _ inb_S2048x512_S2048x512_0_0 (k0_pay100 (F := Ideal))).trans fill10) ((read_whole _ _ inb_S2048x512_S2048x512_0_0 (k0_pay101 (F := Ideal))).trans fill11)
  rw [← View.writes_append, ← View.writes_append] at h
  unfold stA
  rw [trips1, trips2]
  exact h

theorem outA_5 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : cond0_0 i) (hc1 : ¬cond0_1 i) (x0 : Vec Ideal S256x512 .bf16) (x1 : Vec Ideal S2048x512 .bf16) (x2 : Vec Ideal S2048x512 .bf16) (x3 : Vec Ideal S256x512 .bf16) (x4 : Vec Ideal S4x256x1 .f32)  (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal))  :
    out0_A_5 (F := Ideal) c i a2 u2 a3 u3 a4 u4 a5 u5 a6 u6 a7 u7 a8 u8 a9 u9 a10 u10 a11 u11 hc0 hc1 x0 x1 x2 x3 x4  = cv 256 512 (dqB Q D K V T (i 1).val) := by
  unfold out0_A_5
  rw [runA_dq]
  exact dqL_read Q D K V T i a2 u2 a3 u3 a4 u4 a5 u5 a6 u6 a7 u7 a8 u8 a9 u9 a10 u10 a11 u11 x0 x1 x2 x3 x4 hx0 hx1 hx2 hx3 hx4 _ (stA_spec Q D K V T c i a2 u2 a3 u3 a4 u4 a5 u5 a6 u6 a7 u7 a8 u8 a9 u9 a10 u10 a11 u11 x0 x1 x2 x3 x4 hx0 hx1 hx2 hx3 hx4).1 _ _

theorem soutA_0 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : cond0_0 i) (hc1 : ¬cond0_1 i) (x0 : Vec Ideal S256x512 .bf16) (x1 : Vec Ideal S2048x512 .bf16) (x2 : Vec Ideal S2048x512 .bf16) (x3 : Vec Ideal S256x512 .bf16) (x4 : Vec Ideal S4x256x1 .f32)  (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal))  :
    sout0_A_0 (F := Ideal) c i a2 u2 a3 u3 a4 u4 a5 u5 a6 u6 a7 u7 a8 u8 a9 u9 a10 u10 a11 u11 hc0 hc1 x0 x1 x2 x3 x4  = cv 2048 512 (addN (DZ Q D K V T) Q (i 1).val ((i 1).val + 1) 0 (fun _ _ => 0)) := by
  unfold sout0_A_0
  rw [View.read_writes_eq_canon _ _ _ (scover0_A_0 c i a2 u2 a3 u3 a4 u4 a5 u5 a6 u6 a7 u7 a8 u8 a9 u9 a10 u10 a11 u11 hc0 hc1 x0 x1 x2 x3 x4), ← View.read_writes_eq_canon a10.view a10.view.junk _ (scover0_A_0 c i a2 u2 a3 u3 a4 u4 a5 u5 a6 u6 a7 u7 a8 u8 a9 u9 a10 u10 a11 u11 hc0 hc1 x0 x1 x2 x3 x4), runA_dkacc, ← addN_next]
  exact (dkL3_read Q D K V T i a2 u2 a3 u3 a4 u4 a5 u5 a6 u6 a7 u7 a8 u8 a9 u9 a10 u10 a11 u11 x0 x1 x2 x3 x4 hx0 hx1 hx2 hx3 hx4 _ (stA_spec Q D K V T c i a2 u2 a3 u3 a4 u4 a5 u5 a6 u6 a7 u7 a8 u8 a9 u9 a10 u10 a11 u11 x0 x1 x2 x3 x4 hx0 hx1 hx2 hx3 hx4).1 _ _ (fun _ _ => 0) (stA_spec Q D K V T c i a2 u2 a3 u3 a4 u4 a5 u5 a6 u6 a7 u7 a8 u8 a9 u9 a10 u10 a11 u11 x0 x1 x2 x3 x4 hx0 hx1 hx2 hx3 hx4).2.1)

theorem soutA_1 (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S4x256x1 .f32) (u6 : a6.IsWhole) (a7 : Memref sig .tc .vmem S256x512 .bf16) (u7 : a7.IsWhole) (a8 : Memref sig .tc .vmem S2048x512 .bf16) (u8 : a8.IsWhole) (a9 : Memref sig .tc .vmem S2048x512 .bf16) (u9 : a9.IsWhole) (a10 : Memref sig .tc .vmem S2048x512 .f32) (u10 : a10.IsWhole) (a11 : Memref sig .tc .vmem S2048x512 .f32) (u11 : a11.IsWhole) (hc0 : cond0_0 i) (hc1 : ¬cond0_1 i) (x0 : Vec Ideal S256x512 .bf16) (x1 : Vec Ideal S2048x512 .bf16) (x2 : Vec Ideal S2048x512 .bf16) (x3 : Vec Ideal S256x512 .bf16) (x4 : Vec Ideal S4x256x1 .f32)  (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = fun j => ((T (j 0).val (256 * (i 1).val + (j 1).val) : ℝ) : EReal))  :
    sout0_A_1 (F := Ideal) c i a2 u2 a3 u3 a4 u4 a5 u5 a6 u6 a7 u7 a8 u8 a9 u9 a10 u10 a11 u11 hc0 hc1 x0 x1 x2 x3 x4  = cv 2048 512 (addN (W Q K T) D (i 1).val ((i 1).val + 1) 0 (fun _ _ => 0)) := by
  unfold sout0_A_1
  rw [View.read_writes_eq_canon _ _ _ (scover0_A_1 c i a2 u2 a3 u3 a4 u4 a5 u5 a6 u6 a7 u7 a8 u8 a9 u9 a10 u10 a11 u11 hc0 hc1 x0 x1 x2 x3 x4), ← View.read_writes_eq_canon a11.view a11.view.junk _ (scover0_A_1 c i a2 u2 a3 u3 a4 u4 a5 u5 a6 u6 a7 u7 a8 u8 a9 u9 a10 u10 a11 u11 hc0 hc1 x0 x1 x2 x3 x4), runA_dvacc, ← addN_next]
  exact (dvL3_read Q D K V T i a2 u2 a3 u3 a4 u4 a5 u5 a6 u6 a7 u7 a8 u8 a9 u9 a10 u10 a11 u11 x0 x1 x2 x3 x4 hx0 hx1 hx2 hx3 hx4 _ (stA_spec Q D K V T c i a2 u2 a3 u3 a4 u4 a5 u5 a6 u6 a7 u7 a8 u8 a9 u9 a10 u10 a11 u11 x0 x1 x2 x3 x4 hx0 hx1 hx2 hx3 hx4).1 _ _ (fun _ _ => 0) (stA_spec Q D K V T c i a2 u2 a3 u3 a4 u4 a5 u5 a6 u6 a7 u7 a8 u8 a9 u9 a10 u10 a11 u11 x0 x1 x2 x3 x4 hx0 hx1 hx2 hx3 hx4).2.2)

end Cert.KernelIdeal.Points

end

end
-- ==== Proof.Fold.lean ====
/-
  What every grid point leaves, from the first point on.
-/
module

public import proofs.«01_k».proof.Proof.Inputs
public import proofs.«01_k».proof.Proof.PointsA

@[expose] public section

set_option maxRecDepth 16384

noncomputable section

namespace Cert.KernelIdeal.Fold

open Cert.KernelIdeal Cert.KernelIdeal.Gen Cert.KernelIdeal.Block Cert.KernelIdeal.Model Cert.KernelIdeal.Acc Cert.KernelIdeal.Diag Cert.KernelIdeal.Inputs Cert.KernelIdeal.Points Idealize.ShloMosaic Idealize.ShloMosaic.TcCoe Idealize.SL.Sem
open scoped BigOperators

variable (m : (ℓ : Loc nD τ sig) → Buf (Elt Ideal) ℓ) (c : Dev nD) (X Y S : ℕ → ℕ → ℝ)

/-- The five blocks after point `n`. -/
def After (n : ℕ) (o : Vec Ideal S256x512 .bf16 × Vec Ideal S2048x512 .bf16 × Vec Ideal S2048x512 .bf16 × Vec Ideal S2048x512 .f32 × Vec Ideal S2048x512 .f32) : Prop :=
  o.1 = cv 256 512 (dqB (qs X (n / 8)) (qs Y (n / 8)) (ks X (n / 8)) (vs X (n / 8)) (ts S (n / 8)) (n % 8))
  ∧ o.2.2.2.1 = cv 2048 512 (accS (DZ (qs X (n / 8)) (qs Y (n / 8)) (ks X (n / 8)) (vs X (n / 8)) (ts S (n / 8))) (qs X (n / 8)) (n % 8 + 1))
  ∧ o.2.2.2.2 = cv 2048 512 (accS (W (qs X (n / 8)) (ks X (n / 8)) (ts S (n / 8))) (qs Y (n / 8)) (n % 8 + 1))
  ∧ (n % 8 = 7 → o.2.1 = cv 2048 512 (accS (DZ (qs X (n / 8)) (qs Y (n / 8)) (ks X (n / 8)) (vs X (n / 8)) (ts S (n / 8))) (qs X (n / 8)) (n % 8 + 1)) ∧ o.2.2.1 = cv 2048 512 (accS (W (qs X (n / 8)) (ks X (n / 8)) (ts S (n / 8))) (qs Y (n / 8)) (n % 8 + 1)))

theorem After.of {n : ℕ} {o : Vec Ideal S256x512 .bf16 × Vec Ideal S2048x512 .bf16 × Vec Ideal S2048x512 .bf16 × Vec Ideal S2048x512 .f32 × Vec Ideal S2048x512 .f32}
    {a : Vec Ideal S256x512 .bf16} {b d : Vec Ideal S2048x512 .bf16} {e f : Vec Ideal S2048x512 .f32} (h : o = (a, b, d, e, f))
    (ha : a = cv 256 512 (dqB (qs X (n / 8)) (qs Y (n / 8)) (ks X (n / 8)) (vs X (n / 8)) (ts S (n / 8)) (n % 8))) (he : e = cv 2048 512 (accS (DZ (qs X (n / 8)) (qs Y (n / 8)) (ks X (n / 8)) (vs X (n / 8)) (ts S (n / 8))) (qs X (n / 8)) (n % 8 + 1))) (hf : f = cv 2048 512 (accS (W (qs X (n / 8)) (ks X (n / 8)) (ts S (n / 8))) (qs Y (n / 8)) (n % 8 + 1)))
    (hl : n % 8 = 7 → b = cv 2048 512 (accS (DZ (qs X (n / 8)) (qs Y (n / 8)) (ks X (n / 8)) (vs X (n / 8)) (ts S (n / 8))) (qs X (n / 8)) (n % 8 + 1)) ∧ d = cv 2048 512 (accS (W (qs X (n / 8)) (ks X (n / 8)) (ts S (n / 8))) (qs Y (n / 8)) (n % 8 + 1))) : After X Y S n o := by
  rw [h]; exact ⟨ha, he, hf, hl⟩

section
variable (h0 : V m c main_arg0 = cv 2048 6144 X) (h1 : V m c main_arg1 = cv 2048 2048 Y) (h2 : V m c main_v21 = fun j => ((S (j 0).val (j 1).val : ℝ) : EReal))
include h0 h1 h2

theorem afterA (t : Fin cfg0.N) (g0 : t.val % 8 = 0) (g1 : ¬t.val % 8 = 7)  : After X Y S t.val (outsAt0 m c t.val t.isLt) := by
  exact After.of X Y S (outsAt0_A m c t g0 g1)
    ((outA_5 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr g0) (fun h => g1 ((hcond0_1 t).mp h)) (iblk m c 0 t) (iblk m c 1 t) (iblk m c 2 t) (iblk m c 3 t) (iblk m c 4 t) (blk0 m c X h0 t) (blk1 m c X h0 t) (blk2 m c X h0 t) (blk3 m c Y h1 t) (blk4 m c S h2 t)).trans (by rw [coord1]))
    ((soutA_0 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr g0) (fun h => g1 ((hcond0_1 t).mp h)) (iblk m c 0 t) (iblk m c 1 t) (iblk m c 2 t) (iblk m c 3 t) (iblk m c 4 t) (blk0 m c X h0 t) (blk1 m c X h0 t) (blk2 m c X h0 t) (blk3 m c Y h1 t) (blk4 m c S h2 t)).trans (by rw [coord1, g0, ← accS_zero (DZ (qs X (t.val / 8)) (qs Y (t.val / 8)) (ks X (t.val / 8)) (vs X (t.val / 8)) (ts S (t.val / 8))) (qs X (t.val / 8)), accS_succ _ _ (fun n t s h => DZ_of_not _ _ _ _ _ n h) _]))
    ((soutA_1 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr g0) (fun h => g1 ((hcond0_1 t).mp h)) (iblk m c 0 t) (iblk m c 1 t) (iblk m c 2 t) (iblk m c 3 t) (iblk m c 4 t) (blk0 m c X h0 t) (blk1 m c X h0 t) (blk2 m c X h0 t) (blk3 m c Y h1 t) (blk4 m c S h2 t)).trans (by rw [coord1, g0, ← accS_zero (W (qs X (t.val / 8)) (ks X (t.val / 8)) (ts S (t.val / 8))) (qs Y (t.val / 8)), accS_succ _ _ (fun n t s h => W_of_not _ _ _ n h) _]))
    (fun h => absurd h g1)

theorem afterB (t : Fin cfg0.N) (g0 : ¬t.val % 8 = 0) (g1 : ¬t.val % 8 = 7) (hp : After X Y S (t.val - 1) (outsAt0 m c (t.val - 1) (Nat.lt_of_le_of_lt (Nat.sub_le _ _) t.isLt))) : After X Y S t.val (outsAt0 m c t.val t.isLt) := by
  have ha := hp.2.1
  have hb := hp.2.2.1
  rw [show (t.val - 1) / 8 = t.val / 8 from by omega, show (t.val - 1) % 8 + 1 = t.val % 8 from by omega] at ha hb
  exact After.of X Y S (outsAt0_B m c t g0 g1)
    ((outB_5 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) (fun h => g1 ((hcond0_1 t).mp h)) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1]))
    ((soutB_0 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) (fun h => g1 ((hcond0_1 t).mp h)) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1, accS_succ _ _ (fun n t s h => DZ_of_not _ _ _ _ _ n h) _]))
    ((soutB_1 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) (fun h => g1 ((hcond0_1 t).mp h)) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1, accS_succ _ _ (fun n t s h => W_of_not _ _ _ n h) _]))
    (fun h => absurd h g1)

theorem afterC (t : Fin cfg0.N) (g0 : ¬t.val % 8 = 0) (g1 : t.val % 8 = 7) (hp : After X Y S (t.val - 1) (outsAt0 m c (t.val - 1) (Nat.lt_of_le_of_lt (Nat.sub_le _ _) t.isLt))) : After X Y S t.val (outsAt0 m c t.val t.isLt) := by
  have ha := hp.2.1
  have hb := hp.2.2.1
  rw [show (t.val - 1) / 8 = t.val / 8 from by omega, show (t.val - 1) % 8 + 1 = t.val % 8 from by omega] at ha hb
  exact After.of X Y S (outsAt0_C m c t g0 g1)
    ((outC_5 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) ((hcond0_1 t).mpr g1) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1]))
    ((soutC_0 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) ((hcond0_1 t).mpr g1) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1, accS_succ _ _ (fun n t s h => DZ_of_not _ _ _ _ _ n h) _]))
    ((soutC_1 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) ((hcond0_1 t).mpr g1) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1, accS_succ _ _ (fun n t s h => W_of_not _ _ _ n h) _]))
    (fun _ => ⟨(outC_6 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) ((hcond0_1 t).mpr g1) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1, accS_succ _ _ (fun n t s h => DZ_of_not _ _ _ _ _ n h) _]), (outC_7 (qs X (t.val / 8)) (qs Y (t.val / 8)) (ks X (t.val / 8)) (vs X (t.val / 8)) (ts S (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => g0 ((hcond0_0 t).mp h)) ((hcond0_1 t).mpr g1) (iblk m c 0 t) (iblk m c 1 t) (iblk m c 2 t) (iblk m c 3 t) (iblk m c 4 t) _ _ (blk0 m c X h0 t) (blk1 m c X h0 t) (blk2 m c X h0 t) (blk3 m c Y h1 t) (blk4 m c S h2 t) _ _ ha hb).trans (by rw [coord1, accS_succ _ _ (fun n t s h => W_of_not _ _ _ n h) _])⟩)

theorem after_all : ∀ (n : ℕ) (hn : n < cfg0.N), After X Y S n (outsAt0 m c n hn)
  | 0, hn => afterA m c X Y S h0 h1 h2 ⟨0, hn⟩ rfl (by show ¬0 % 8 = 7; decide)
  | n + 1, hn => by
    have ih := after_all n (Nat.lt_of_succ_lt hn)
    by_cases g0 : (n + 1) % 8 = 0
    · exact afterA m c X Y S h0 h1 h2 ⟨n + 1, hn⟩ g0 (by show ¬(n + 1) % 8 = 7; omega)
    · by_cases g1 : (n + 1) % 8 = 7
      · exact afterC m c X Y S h0 h1 h2 ⟨n + 1, hn⟩ g0 g1 ih
      · exact afterB m c X Y S h0 h1 h2 ⟨n + 1, hn⟩ g0 g1 ih

end

end Cert.KernelIdeal.Fold

end

end
-- ==== Proof.KernelOut.lean ====
/-
  The kernel's three results as whole matrices: the gradients with respect to the queries, the keys and the values.
-/
module

public import proofs.«01_k».proof.Proof.Gen.KernelIdeal.Value
public import proofs.«01_k».proof.Proof.Fold

@[expose] public section

set_option maxRecDepth 16384

noncomputable section

namespace Cert.KernelIdeal.KernelOut

open Cert.KernelIdeal Cert.KernelIdeal.Gen Cert.KernelIdeal.Block Cert.KernelIdeal.Model Cert.KernelIdeal.Acc Cert.KernelIdeal.Diag Cert.KernelIdeal.Inputs Cert.KernelIdeal.Fold Cert.KernelIdeal.Value Idealize.ShloMosaic Idealize.ShloMosaic.TcCoe Idealize.SL.Sem
open scoped BigOperators

/-! Head `n` of head group `h` is head `4 * h + n` of all. -/

theorem hd_qs (X : ℕ → ℕ → ℝ) (h n : ℕ) : hd (qs X h) n = hd (qs X 0) (4 * h + n) := by
  funext t e; unfold hd qs; exact congrArg (X t) (by omega)
theorem hd_ks (X : ℕ → ℕ → ℝ) (h n : ℕ) : hd (ks X h) n = hd (ks X 0) (4 * h + n) := by
  funext t e; unfold hd ks; exact congrArg (X t) (by omega)
theorem hd_vs (X : ℕ → ℕ → ℝ) (h n : ℕ) : hd (vs X h) n = hd (vs X 0) (4 * h + n) := by
  funext t e; unfold hd vs; exact congrArg (X t) (by omega)

section
variable (X Y S : ℕ → ℕ → ℝ)

/-- The weights of all heads. -/
def WA (n t s : ℕ) : ℝ := W (qs X 0) (ks X 0) S n t s
/-- The gradient of all heads' unscaled scores. -/
def DA (n t s : ℕ) : ℝ := DZ (qs X 0) (qs Y 0) (ks X 0) (vs X 0) S n t s

theorem W_grp (h n : ℕ) : W (qs X h) (ks X h) (ts S h) n = WA X S (4 * h + n) := by
  funext t s
  unfold WA W
  rw [hd_qs X h n, hd_ks X h n]
  rfl
theorem DZ_grp (h n : ℕ) : DZ (qs X h) (qs Y h) (ks X h) (vs X h) (ts S h) n = DA X Y S (4 * h + n) := by
  funext t s
  unfold DA DZ
  rw [hd_qs X h n, hd_qs Y h n, hd_ks X h n, hd_vs X h n]
  rfl

/-- The gradient with respect to the queries. -/
def dQ (t j : ℕ) : ℝ := ∑ s ∈ Finset.range 2048, DA X Y S (j / 128) t s * X s (2048 + j)
/-- The gradient with respect to the keys. -/
def dK (s j : ℕ) : ℝ := ∑ t ∈ Finset.range 2048, DA X Y S (j / 128) t s * X t j
/-- The gradient with respect to the values. -/
def dV (s j : ℕ) : ℝ := ∑ t ∈ Finset.range 2048, WA X S (j / 128) t s * Y t j

theorem dqB_eq (h p r e : ℕ) (hp : p < 8) (hr : r < 256) :
    dqB (qs X h) (qs Y h) (ks X h) (vs X h) (ts S h) p r e = dQ X Y S (256 * p + r) (512 * h + e) := by
  unfold dqB dQ
  have e1 : (512 * h + e) / 128 = 4 * h + e / 128 := by omega
  rw [DZ_grp, e1]
  rw [show 2048 = 256 * (p + 1) + (2048 - 256 * (p + 1)) by omega, Finset.sum_range_add _ (256 * (p + 1)) (2048 - 256 * (p + 1))]
  rw [Finset.sum_eq_zero (s := Finset.range (2048 - 256 * (p + 1))) fun s _ => by
    unfold DA; rw [DZ_of_not _ _ _ _ _ _ (by omega), zero_mul], add_zero]
  exact Finset.sum_congr rfl fun s _ => congrArg (_ * ·) (congrArg (X s) (by omega))

theorem accDZ_eq (h s e : ℕ) :
    accS (DZ (qs X h) (qs Y h) (ks X h) (vs X h) (ts S h)) (qs X h) 8 s e = dK X Y S s (512 * h + e) := by
  unfold accS dK
  have e1 : (512 * h + e) / 128 = 4 * h + e / 128 := by omega
  rw [DZ_grp, e1]
  rfl
theorem accW_eq (h s e : ℕ) :
    accS (W (qs X h) (ks X h) (ts S h)) (qs Y h) 8 s e = dV X Y S s (512 * h + e) := by
  unfold accS dV
  have e1 : (512 * h + e) / 128 = 4 * h + e / 128 := by omega
  rw [W_grp, e1]
  rfl
end

variable (m : (ℓ : Loc nD τ sig) → Buf (Elt Ideal) ℓ) (c : Dev nD) (X Y S : ℕ → ℕ → ℝ)
  (h0 : V m c main_arg0 = cv 2048 6144 X) (h1 : V m c main_arg1 = cv 2048 2048 Y)
  (h2 : V m c main_v21 = fun j => ((S (j 0).val (j 1).val : ℝ) : EReal))
include h0 h1 h2

theorem G5_eq : G5 m c = cv 2048 1024 (dQ X Y S) := by
  funext i
  have i0 : (i 0).val < 2048 := ValueIdx.idx2_lt0 i
  have i1 : (i 1).val < 1024 := ValueIdx.idx2_lt1 i
  have hp : pt5Of i = (i 0).val / 256 + 8 * ((i 1).val / 512) := by show 1 * ((i 0).val / 256 - 0) + 8 * ((i 1).val / 512 - 0) = _; omega
  have hN : pt5Of i < cfg0.N := by rw [hp, show cfg0.N = 16 from N_0]; omega
  have a := (after_all m c X Y S h0 h1 h2 (pt5Of i) hN).1
  rw [outsAt0_sweep] at a
  unfold G5
  rw [dif_pos hN]
  refine (congrFun a (loc5Of i)).trans ?_
  show ((dqB _ _ _ _ _ (pt5Of i % 8) ((i 0).val % 256) ((i 1).val % 512) : ℝ) : EReal) = _
  rw [dqB_eq _ _ _ _ _ _ _ (by omega) (by omega)]
  exact congrArg (fun x : ℝ => (x : EReal)) (congrArg₂ (dQ X Y S) (by omega) (by omega))

theorem G6_eq : G6 m c = cv 2048 1024 (dK X Y S) := by
  funext i
  have i0 : (i 0).val < 2048 := ValueIdx.idx2_lt0 i
  have i1 : (i 1).val < 1024 := ValueIdx.idx2_lt1 i
  have hp : pt6Of i = 8 * ((i 1).val / 512) + 7 := by show 8 * (2 * ((i 0).val / 2048 - 0) + 1 * ((i 1).val / 512 - 0)) + 7 = _; omega
  have hN : pt6Of i < cfg0.N := by rw [hp, show cfg0.N = 16 from N_0]; omega
  have h7 : pt6Of i % 8 = 7 := by omega
  have a := ((after_all m c X Y S h0 h1 h2 (pt6Of i) hN).2.2.2 h7).1
  rw [outsAt0_sweep, h7] at a
  unfold G6
  rw [dif_pos hN]
  refine (congrFun a (loc6Of i)).trans ?_
  show ((accS _ _ 8 ((i 0).val % 2048) ((i 1).val % 512) : ℝ) : EReal) = _
  rw [accDZ_eq]
  exact congrArg (fun x : ℝ => (x : EReal)) (congrArg₂ (dK X Y S) (by omega) (by omega))

theorem G7_eq : G7 m c = cv 2048 1024 (dV X Y S) := by
  funext i
  have i0 : (i 0).val < 2048 := ValueIdx.idx2_lt0 i
  have i1 : (i 1).val < 1024 := ValueIdx.idx2_lt1 i
  have hp : pt7Of i = 8 * ((i 1).val / 512) + 7 := by show 8 * (2 * ((i 0).val / 2048 - 0) + 1 * ((i 1).val / 512 - 0)) + 7 = _; omega
  have hN : pt7Of i < cfg0.N := by rw [hp, show cfg0.N = 16 from N_0]; omega
  have h7 : pt7Of i % 8 = 7 := by omega
  have a := ((after_all m c X Y S h0 h1 h2 (pt7Of i) hN).2.2.2 h7).2
  rw [outsAt0_sweep, h7] at a
  unfold G7
  rw [dif_pos hN]
  refine (congrFun a (loc7Of i)).trans ?_
  show ((accS _ _ 8 ((i 0).val % 2048) ((i 1).val % 512) : ℝ) : EReal) = _
  rw [accW_eq]
  exact congrArg (fun x : ℝ => (x : EReal)) (congrArg₂ (dV X Y S) (by omega) (by omega))

end Cert.KernelIdeal.KernelOut

end

end
-- ==== Proof.RefLib.lean ====
/-
  Tensors of reals with three axes, sums over their windows, and the softplus function one element at a time.
-/
module

public import proofs.«01_k».proof.Proof.KernelOut
public import Idealize.ShloMosaic.Lib.ShapeFacts
public import proofs.«01_k».proof.Proof.Gen.ReferenceIdeal.Read

@[expose] public section

set_option maxRecDepth 16384

noncomputable section

namespace Cert.RefLib

open Cert.KernelIdeal.Block Idealize.ShloMosaic
open scoped BigOperators

/-- A tensor of reals, its axes numbered from zero, as one of extended reals. -/
def c3 (a b c : ℕ) (A : ℕ → ℕ → ℕ → ℝ) : (⟨3, ![a, b, c]⟩ : Shape).Idx → EReal := fun j => ((A (j 0).val (j 1).val (j 2).val : ℝ) : EReal)

theorem c3_congr {a b c : ℕ} {A B : ℕ → ℕ → ℕ → ℝ} (h : ∀ n t s, n < a → t < b → s < c → A n t s = B n t s) : c3 a b c A = c3 a b c B :=
  funext fun j => congrArg _ (h _ _ _ (j 0).isLt (j 1).isLt (j 2).isLt)

/-! Sums over windows. -/

theorem foldl_sum {α : Type} (g : α → EReal) : ∀ (l : List α) (v : EReal), l.foldl (fun r n => r + g n) v = v + (l.map g).sum
  | [], v => by simp
  | x :: l, v => by rw [List.foldl_cons, foldl_sum g l, List.map_cons, List.sum_cons, add_assoc]

theorem row_symm (n : Fin (⟨3, ![1, 1, 2048]⟩ : Shape).numel) :
    ((⟨3, ![1, 1, 2048]⟩ : Shape).rowMajor.symm n 0).val = 0 ∧ ((⟨3, ![1, 1, 2048]⟩ : Shape).rowMajor.symm n 1).val = 0
      ∧ ((⟨3, ![1, 1, 2048]⟩ : Shape).rowMajor.symm n 2).val = n.val := by
  generalize hi : (⟨3, ![1, 1, 2048]⟩ : Shape).rowMajor.symm n = i
  have e : ((⟨3, ![1, 1, 2048]⟩ : Shape).rowMajor i).val = n.val := by rw [← hi, Equiv.apply_symm_apply]
  rw [Shape.rowMajor_val_three] at e
  have h0 : (i 0).val < 1 := (i 0).isLt
  have h1 : (i 1).val < 1 := (i 1).isLt
  have e' : ((i 0).val * 1 + (i 1).val) * 2048 + (i 2).val = n.val := e
  refine ⟨by omega, by omega, by omega⟩

theorem sum_window {N : ℕ} (f : ℕ → ℝ) {s : ℕ} (h : s < N) :
    ∑ w ∈ Finset.range N, (if s + w < N then f (s + w) else 0) = ∑ j ∈ Finset.range N, f j - ∑ j ∈ Finset.range s, f j := by
  obtain ⟨d, rfl⟩ : ∃ d, N = s + d := ⟨N - s, by omega⟩
  rw [Finset.sum_range_add f s d, add_sub_cancel_left, Nat.add_comm s d, Finset.sum_range_add _ d s,
    Finset.sum_eq_zero (s := Finset.range s) (fun w _ => if_neg (by omega)), add_zero]
  exact Finset.sum_congr rfl fun w hw => if_pos (by have := Finset.mem_range.mp hw; omega)

theorem sum_window' (f : ℕ → ℝ) {s : ℕ} (h : s < 2048) :
    ∑ w ∈ Finset.range 2048, (if 2047 ≤ s + w then f (s + w - 2047) else 0) = ∑ j ∈ Finset.range (s + 1), f j := by
  obtain ⟨d, hd⟩ : ∃ d, 2048 = d + (s + 1) := ⟨2047 - s, by omega⟩
  conv_lhs => rw [hd]
  rw [Finset.sum_range_add _ d (s + 1),
    Finset.sum_eq_zero (s := Finset.range d) (fun w hw => if_neg (by have := Finset.mem_range.mp hw; omega)), zero_add]
  refine Finset.sum_congr rfl fun w _ => ?_
  rw [if_pos (by omega)]
  exact congrArg f (by omega)

theorem window_ideal {s t u : Shape} (window strides lo hi : Fin s.rank → Nat) (x : FVec Ideal s .f32) (init : u.Idx → Ideal .f32)
    (h : s.ReduceWindows window strides lo hi t) (hu : 0 < u.numel) :
    Host.reduceWindowAdd (F := Ideal) (φ := .f32) window strides lo hi x init h hu = Ideal.hostReduceWindowAdd window strides lo hi h x (init (Shape.Idx.first hu)) := rfl

theorem window_hi (A : ℕ → ℕ → ℕ → ℝ) (h : (⟨3, ![8, 2048, 2048]⟩ : Shape).ReduceWindows (![1, 1, 2048] : Fin 3 → Nat) ![1, 1, 1] ![0, 0, 0] ![0, 0, 2047] ⟨3, ![8, 2048, 2048]⟩)
    (init : (⟨0, ![]⟩ : Shape).Idx → EReal) (hu : 0 < (⟨0, ![]⟩ : Shape).numel) (hi : ∀ j, init j = ((0 : ℝ) : EReal)) :
    Host.reduceWindowAdd (F := Ideal) (φ := .f32) ![1, 1, 2048] ![1, 1, 1] ![0, 0, 0] ![0, 0, 2047] (c3 8 2048 2048 A) init h hu
      = c3 8 2048 2048 fun n t s => ∑ j ∈ Finset.range 2048, A n t j - ∑ j ∈ Finset.range s, A n t j := by
  funext i
  have i0 : (i 0).val < 8 := (i 0).isLt
  have i1 : (i 1).val < 2048 := (i 1).isLt
  have i2 : (i 2).val < 2048 := (i 2).isLt
  rw [window_ideal]
  unfold Ideal.hostReduceWindowAdd Host.reduceWindow
  refine (foldl_sum _ _ _).trans ?_
  rw [hi, EReal.coe_zero, zero_add, ← Fin.sum_univ_def]
  refine (Finset.sum_congr rfl fun n _ => ?_).trans ((coe_sum_fin fun w => if (i 2).val + w < 2048 then A (i 0).val (i 1).val ((i 2).val + w) else 0).trans ?_)
  · obtain ⟨w0, w1, w2⟩ := row_symm n
    dsimp only
    split
    · next hin =>
      have q := (hin 2).2
      change (i 2).val * 1 + ((⟨3, ![1, 1, 2048]⟩ : Shape).rowMajor.symm n 2).val - 0 < 2048 at q
      rw [w2] at q
      rw [if_pos (by omega)]
      show ((A ((i 0).val * 1 + ((⟨3, ![1, 1, 2048]⟩ : Shape).rowMajor.symm n 0).val - 0) ((i 1).val * 1 + ((⟨3, ![1, 1, 2048]⟩ : Shape).rowMajor.symm n 1).val - 0)
        ((i 2).val * 1 + ((⟨3, ![1, 1, 2048]⟩ : Shape).rowMajor.symm n 2).val - 0) : ℝ) : EReal) = _
      rw [w0, w1, w2]
      simp only [Nat.mul_one, Nat.add_zero, Nat.sub_zero]
    · next hin =>
      rw [if_neg fun hle => hin fun a => by
        match a with
        | ⟨0, _⟩ =>
          show 0 ≤ (i 0).val * 1 + ((⟨3, ![1, 1, 2048]⟩ : Shape).rowMajor.symm n 0).val ∧ (i 0).val * 1 + ((⟨3, ![1, 1, 2048]⟩ : Shape).rowMajor.symm n 0).val - 0 < 8
          rw [w0]; omega
        | ⟨1, _⟩ =>
          show 0 ≤ (i 1).val * 1 + ((⟨3, ![1, 1, 2048]⟩ : Shape).rowMajor.symm n 1).val ∧ (i 1).val * 1 + ((⟨3, ![1, 1, 2048]⟩ : Shape).rowMajor.symm n 1).val - 0 < 2048
          rw [w1]; omega
        | ⟨2, _⟩ =>
          show 0 ≤ (i 2).val * 1 + ((⟨3, ![1, 1, 2048]⟩ : Shape).rowMajor.symm n 2).val ∧ (i 2).val * 1 + ((⟨3, ![1, 1, 2048]⟩ : Shape).rowMajor.symm n 2).val - 0 < 2048
          rw [w2]; omega]
      exact EReal.coe_zero.symm
  · rw [show (⟨3, ![1, 1, 2048]⟩ : Shape).numel = 2048 from (Shape.numel_rank3 _)]
    exact congrArg (fun x : ℝ => (x : EReal)) (sum_window (fun j => A (i 0).val (i 1).val j) i2)

theorem window_lo (A : ℕ → ℕ → ℕ → ℝ) (h : (⟨3, ![8, 2048, 2048]⟩ : Shape).ReduceWindows (![1, 1, 2048] : Fin 3 → Nat) ![1, 1, 1] ![0, 0, 2047] ![0, 0, 0] ⟨3, ![8, 2048, 2048]⟩)
    (init : (⟨0, ![]⟩ : Shape).Idx → EReal) (hu : 0 < (⟨0, ![]⟩ : Shape).numel) (hi : ∀ j, init j = ((0 : ℝ) : EReal)) :
    Host.reduceWindowAdd (F := Ideal) (φ := .f32) ![1, 1, 2048] ![1, 1, 1] ![0, 0, 2047] ![0, 0, 0] (c3 8 2048 2048 A) init h hu
      = c3 8 2048 2048 fun n t s => ∑ j ∈ Finset.range (s + 1), A n t j := by
  funext i
  have i0 : (i 0).val < 8 := (i 0).isLt
  have i1 : (i 1).val < 2048 := (i 1).isLt
  have i2 : (i 2).val < 2048 := (i 2).isLt
  rw [window_ideal]
  unfold Ideal.hostReduceWindowAdd Host.reduceWindow
  refine (foldl_sum _ _ _).trans ?_
  rw [hi, EReal.coe_zero, zero_add, ← Fin.sum_univ_def]
  refine (Finset.sum_congr rfl fun n _ => ?_).trans ((coe_sum_fin fun w => if 2047 ≤ (i 2).val + w then A (i 0).val (i 1).val ((i 2).val + w - 2047) else 0).trans ?_)
  · obtain ⟨w0, w1, w2⟩ := row_symm n
    have hn : n.val < 2048 := lt_of_lt_of_eq n.isLt (Shape.numel_rank3 _)
    dsimp only
    split
    · next hin =>
      have q := (hin 2).1
      change 2047 ≤ (i 2).val * 1 + ((⟨3, ![1, 1, 2048]⟩ : Shape).rowMajor.symm n 2).val at q
      rw [w2] at q
      rw [if_pos (by omega)]
      show ((A ((i 0).val * 1 + ((⟨3, ![1, 1, 2048]⟩ : Shape).rowMajor.symm n 0).val - 0) ((i 1).val * 1 + ((⟨3, ![1, 1, 2048]⟩ : Shape).rowMajor.symm n 1).val - 0)
        ((i 2).val * 1 + ((⟨3, ![1, 1, 2048]⟩ : Shape).rowMajor.symm n 2).val - 2047) : ℝ) : EReal) = _
      rw [w0, w1, w2]
      simp only [Nat.mul_one, Nat.add_zero, Nat.sub_zero]
    · next hin =>
      rw [if_neg fun hle => hin fun a => by
        match a with
        | ⟨0, _⟩ =>
          show 0 ≤ (i 0).val * 1 + ((⟨3, ![1, 1, 2048]⟩ : Shape).rowMajor.symm n 0).val ∧ (i 0).val * 1 + ((⟨3, ![1, 1, 2048]⟩ : Shape).rowMajor.symm n 0).val - 0 < 8
          rw [w0]; omega
        | ⟨1, _⟩ =>
          show 0 ≤ (i 1).val * 1 + ((⟨3, ![1, 1, 2048]⟩ : Shape).rowMajor.symm n 1).val ∧ (i 1).val * 1 + ((⟨3, ![1, 1, 2048]⟩ : Shape).rowMajor.symm n 1).val - 0 < 2048
          rw [w1]; omega
        | ⟨2, _⟩ =>
          show 2047 ≤ (i 2).val * 1 + ((⟨3, ![1, 1, 2048]⟩ : Shape).rowMajor.symm n 2).val ∧ (i 2).val * 1 + ((⟨3, ![1, 1, 2048]⟩ : Shape).rowMajor.symm n 2).val - 2047 < 2048
          rw [w2]; omega]
      exact EReal.coe_zero.symm
  · rw [show (⟨3, ![1, 1, 2048]⟩ : Shape).numel = 2048 from (Shape.numel_rank3 _)]
    exact congrArg (fun x : ℝ => (x : EReal)) (sum_window' (fun j => A (i 0).val (i 1).val j) i2)

/-! The softplus function. -/

/-- The logarithm of one plus the exponential. -/
def sp (x : ℝ) : ℝ := max x 0 + Real.log (1 + Real.exp (-|x|))

theorem neg_sp (z : ℝ) : -sp z = lr z := by
  unfold sp lr ls
  rw [zero_sub]
  have e : max z 0 + min z 0 = z := by rw [max_add_min, add_zero]
  linarith
theorem neg_sp_neg (z : ℝ) : -sp (-z) = ls z := by
  unfold sp ls
  rw [abs_neg, zero_sub]
  have e : max (-z) 0 = -min z 0 := by rw [← neg_zero, max_neg_neg, neg_zero]
  rw [e]; ring
theorem sub_sp (z : ℝ) : z - sp z = ls z := by
  have := neg_sp z; unfold lr at this; linarith
theorem neg_sub_sp (z : ℝ) : -z - sp (-z) = lr z := by
  have := neg_sp_neg z; unfold lr; linarith

theorem ofBits_top : (Ideal.ofBits .f32 0x7F800000#32 : EReal) = ⊤ := by simp [Ideal.ofBits, Ideal.ieee]

theorem sp_elem (x : ℝ) : Scalar.select (Ideal.cmp .une ((x : EReal) - Ideal.ofBits .f32 0x00000000#32) ((x : EReal) - Ideal.ofBits .f32 0x00000000#32))
      ((x : EReal) + Ideal.ofBits .f32 0x00000000#32)
      (max (x : EReal) (Ideal.ofBits .f32 0x00000000#32)
        + Ideal.log (1 + Ideal.exp (-max ((x : EReal) - Ideal.ofBits .f32 0x00000000#32) (-((x : EReal) - Ideal.ofBits .f32 0x00000000#32)))))
    = ((sp x : ℝ) : EReal) := by
  have hc : ∀ y : EReal, Ideal.cmp .une y y = 0#1 := fun y => by simp [Ideal.cmp]
  rw [hc, ofBits_zero, EReal.coe_zero, sub_zero]
  rw [show ∀ a b : EReal, Scalar.select 0#1 a b = b from fun _ _ => rfl]
  rw [← EReal.coe_zero, ← EReal.coe_neg, ← EReal.coe_strictMono.monotone.map_max, ← EReal.coe_strictMono.monotone.map_max, ← EReal.coe_neg, Ideal.exp_coe, ← EReal.coe_one, ← EReal.coe_add, Ideal.log_coe,
    if_neg (not_le.mpr (by positivity)), ← EReal.coe_add]
  rfl

/-- A comparison with plus infinity, of a real. -/
theorem sel_top (x : ℝ) (a b : EReal) : Scalar.select (Ideal.cmp .oeq (x : EReal) (Ideal.ofBits .f32 0x7F800000#32)) a b = b := by
  rw [ofBits_top, show Ideal.cmp .oeq (x : EReal) ⊤ = 0#1 by simp [Ideal.cmp]]
  rfl

end Cert.RefLib

end

end
-- ==== Proof.RefVal.lean ====
/-
  The reference's values over the reals, one operation after another: scores, weights, gradients.
-/
module

public import proofs.«01_k».proof.Proof.RefLib

@[expose] public section

set_option maxRecDepth 16384

noncomputable section

namespace Cert.RefVal

open Cert.ReferenceIdeal Cert.ReferenceIdeal.Gen Cert.ReferenceIdeal.Read Cert.KernelIdeal.Block Cert.KernelIdeal.Model Cert.KernelIdeal.Inputs Cert.KernelIdeal.KernelOut Cert.RefLib Idealize.ShloMosaic
open scoped BigOperators

variable (X Y : ℕ → ℕ → ℝ)

/-- The first argument. -/
abbrev A0 : (⟨S2048x6144, .bf16⟩ : BufTy).Contents (Elt Ideal) := cv 2048 6144 X
/-- The second argument. -/
abbrev A1 : (⟨S2048x2048, .bf16⟩ : BufTy).Contents (Elt Ideal) := cv 2048 2048 Y

/-! The heads. -/

theorem v5_c : val_main_v5 (F := Ideal) (A0 X) = c3 8 2048 128 (hd (qs X 0)) := by
  funext i
  have h0 : (i 0).val < 8 := (i 0).isLt
  have h1 : (i 1).val < 2048 := (i 1).isLt
  have h2 : (i 2).val < 128 := (i 2).isLt
  rw [val_main_v5_apply, val_main_v4_apply, val_main_v1_apply, val_main_v0_apply]
  show ((X ((((i 1).val * 8 + (i 0).val) * 128 + (i 2).val) / 1024) ((((i 1).val * 8 + (i 0).val) * 128 + (i 2).val) % 1024) : ℝ) : EReal) = ((X (i 1).val (512 * 0 + (128 * (i 0).val + (i 2).val)) : ℝ) : EReal)
  exact congrArg (fun x : ℝ => (x : EReal)) (congrArg₂ X (by omega) (by omega))

theorem v7_c : val_main_v7 (F := Ideal) (A0 X) = c3 8 2048 128 (hd (ks X 0)) := by
  funext i
  have h0 : (i 0).val < 8 := (i 0).isLt
  have h1 : (i 1).val < 2048 := (i 1).isLt
  have h2 : (i 2).val < 128 := (i 2).isLt
  rw [val_main_v7_apply, val_main_v6_apply, val_main_v2_apply, val_main_v0_apply]
  show ((X ((((i 1).val * 8 + (i 0).val) * 128 + (i 2).val) / 1024) (2048 + (((i 1).val * 8 + (i 0).val) * 128 + (i 2).val) % 1024) : ℝ) : EReal) = ((X (i 1).val (2048 + 512 * 0 + (128 * (i 0).val + (i 2).val)) : ℝ) : EReal)
  exact congrArg (fun x : ℝ => (x : EReal)) (congrArg₂ X (by omega) (by omega))

theorem v27_c : val_main_v27 (F := Ideal) (A0 X) = c3 8 2048 128 (hd (vs X 0)) := by
  funext i
  have h0 : (i 0).val < 8 := (i 0).isLt
  have h1 : (i 1).val < 2048 := (i 1).isLt
  have h2 : (i 2).val < 128 := (i 2).isLt
  rw [val_main_v27_apply, val_main_v26_apply, val_main_v3_apply, val_main_v0_apply]
  show ((X ((((i 1).val * 8 + (i 0).val) * 128 + (i 2).val) / 1024) (4096 + (((i 1).val * 8 + (i 0).val) * 128 + (i 2).val) % 1024) : ℝ) : EReal) = ((X (i 1).val (4096 + 512 * 0 + (128 * (i 0).val + (i 2).val)) : ℝ) : EReal)
  exact congrArg (fun x : ℝ => (x : EReal)) (congrArg₂ X (by omega) (by omega))

theorem v34_c : val_main_v34 (F := Ideal) (A1 Y) = c3 8 2048 128 (hd (qs Y 0)) := by
  funext i
  have h0 : (i 0).val < 8 := (i 0).isLt
  have h1 : (i 1).val < 2048 := (i 1).isLt
  have h2 : (i 2).val < 128 := (i 2).isLt
  rw [val_main_v34_apply, val_main_v33_apply, val_main_v32_apply, val_main_v31_apply]
  show ((Y ((((i 1).val * 8 + (i 0).val) * 128 + (i 2).val) / 1024) ((((i 1).val * 8 + (i 0).val) * 128 + (i 2).val) % 1024) : ℝ) : EReal) = ((Y (i 1).val (512 * 0 + (128 * (i 0).val + (i 2).val)) : ℝ) : EReal)
  exact congrArg (fun x : ℝ => (x : EReal)) (congrArg₂ Y (by omega) (by omega))

/-! The scores and their logistic functions. -/

/-- The scores. -/
def zA (n t s : ℕ) : ℝ := bz (hd (qs X 0) n) (hd (ks X 0) n) t s

theorem v8_c : val_main_v8 (F := Ideal) (A0 X) = c3 8 2048 2048 fun n t s => ∑ j ∈ Finset.range 128, hd (qs X 0) n t j * hd (ks X 0) n s j := by
  funext i
  rw [val_main_v8_apply, v5_c, v7_c]
  exact (Finset.sum_congr rfl fun k _ => (EReal.coe_mul _ _).symm).trans (coe_sum_fin fun k => hd (qs X 0) (i 0).val (i 1).val k * hd (ks X 0) (i 0).val (i 2).val k)

theorem v10_c : val_main_v10 (F := Ideal) (A0 X) = c3 8 2048 2048 (zA X) := by
  funext i
  rw [val_main_v10_apply, v8_c, val_main_v9_apply, val_main_cst_apply]
  show c3 8 2048 2048 _ i * Ideal.ofBits .f32 0x3DB504F3#32 = _
  rw [ofBits_sc]
  exact (EReal.coe_mul _ _).symm

theorem v17_c : val_main_v17 (F := Ideal) (A0 X) = c3 8 2048 2048 fun n t s => -zA X n t s := by
  funext i
  rw [val_main_v17_apply, v10_c]
  exact (EReal.coe_neg _).symm

theorem call0_v0_c : val_main_call0_v0 (F := Ideal) (A0 X) = c3 8 2048 2048 (zA X) := by
  funext i
  rw [val_main_call0_v0_apply, v17_c]
  exact (EReal.coe_neg _).symm.trans (congrArg (fun x : ℝ => (x : EReal)) (neg_neg _))

theorem call0_v1_c : val_main_call0_v1_0 (F := Ideal) (A0 X) = c3 8 2048 2048 fun n t s => sp (zA X n t s) := by
  funext i
  simp only [val_main_call0_v1_0_apply, val_main_call0_call0_v4_apply, val_main_call0_call0_v3_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v0_apply, val_main_call0_call0_v2_apply, val_main_call0_call0_v5_apply,
    val_main_call0_call0_cst_apply, call0_v0_c]
  exact sp_elem (zA X (i 0).val (i 1).val (i 2).val)

theorem v18_0_c : val_main_v18_0 (F := Ideal) (A0 X) = c3 8 2048 2048 fun n t s => lr (zA X n t s) := by
  funext i
  rw [val_main_v18_0_apply, call0_v1_c]
  exact (EReal.coe_neg _).symm.trans (congrArg (fun x : ℝ => (x : EReal)) (neg_sp _))

theorem v18_1_c : val_main_v18_1 (F := Ideal) (A0 X) = c3 8 2048 2048 fun n t s => Real.exp (ls (zA X n t s)) := by
  funext i
  have e1 : val_main_call0_call0_v16 (F := Ideal) (A0 X) i = ((zA X (i 0).val (i 1).val (i 2).val : ℝ) : EReal) := by
    rw [val_main_call0_call0_v16_apply, val_main_call0_call0_v14_apply, val_main_call0_call0_v13_apply, val_main_call0_call0_cst_0_apply, call0_v0_c]
    exact sel_top _ _ _
  have e2 : val_main_call0_call0_v20 (F := Ideal) (A0 X) i = ((sp (zA X (i 0).val (i 1).val (i 2).val) : ℝ) : EReal) := by
    rw [val_main_call0_call0_v20_apply, val_main_call0_call0_v18_apply, val_main_call0_call0_v17_apply, val_main_call0_call0_cst_2_apply, call0_v1_c]
    exact sel_top _ _ _
  rw [val_main_v18_1_apply, val_main_call0_call0_v21_apply, e1, e2]
  exact (congrArg Ideal.exp ((EReal.coe_sub _ _).symm.trans (congrArg (fun x : ℝ => (x : EReal)) (sub_sp _)))).trans (Ideal.exp_coe _)

theorem call3_v0_c : val_main_call3_v0 (F := Ideal) (A0 X) = c3 8 2048 2048 fun n t s => -zA X n t s := by
  funext i
  rw [val_main_call3_v0_apply, v10_c]
  exact (EReal.coe_neg _).symm

theorem call3_v1_c : val_main_call3_v1_0 (F := Ideal) (A0 X) = c3 8 2048 2048 fun n t s => sp (-zA X n t s) := by
  funext i
  simp only [val_main_call3_v1_0_apply, val_main_call3_call0_v4_apply, val_main_call3_call0_v3_apply, val_main_call3_call0_v6_apply, val_main_call3_call0_v11_apply, val_main_call3_call0_v1_apply,
    val_main_call3_call0_v10_apply, val_main_call3_call0_v9_apply, val_main_call3_call0_v8_apply, val_main_call3_call0_v7_apply, val_main_call3_call0_v0_apply, val_main_call3_call0_v2_apply, val_main_call3_call0_v5_apply,
    val_main_call3_call0_cst_apply, call3_v0_c]
  exact sp_elem (-zA X (i 0).val (i 1).val (i 2).val)

theorem v22_0_c : val_main_v22_0 (F := Ideal) (A0 X) = c3 8 2048 2048 fun n t s => ls (zA X n t s) := by
  funext i
  rw [val_main_v22_0_apply, call3_v1_c]
  exact (EReal.coe_neg _).symm.trans (congrArg (fun x : ℝ => (x : EReal)) (neg_sp_neg _))

theorem v22_1_c : val_main_v22_1 (F := Ideal) (A0 X) = c3 8 2048 2048 fun n t s => Real.exp (lr (zA X n t s)) := by
  funext i
  have e1 : val_main_call3_call0_v16 (F := Ideal) (A0 X) i = ((-zA X (i 0).val (i 1).val (i 2).val : ℝ) : EReal) := by
    rw [val_main_call3_call0_v16_apply, val_main_call3_call0_v14_apply, val_main_call3_call0_v13_apply, val_main_call3_call0_cst_0_apply, call3_v0_c]
    exact sel_top _ _ _
  have e2 : val_main_call3_call0_v20 (F := Ideal) (A0 X) i = ((sp (-zA X (i 0).val (i 1).val (i 2).val) : ℝ) : EReal) := by
    rw [val_main_call3_call0_v20_apply, val_main_call3_call0_v18_apply, val_main_call3_call0_v17_apply, val_main_call3_call0_cst_2_apply, call3_v1_c]
    exact sel_top _ _ _
  rw [val_main_v22_1_apply, val_main_call3_call0_v21_apply, e1, e2]
  exact (congrArg Ideal.exp ((EReal.coe_sub _ _).symm.trans (congrArg (fun x : ℝ => (x : EReal)) (neg_sub_sp _)))).trans (Ideal.exp_coe _)

/-! The mask, the shares' logarithms and their sums. -/

/-- A choice by the mask. -/
theorem sel_lt {t s : ℕ} (ht : t < 2048) (hs : s < 2048) (a b : EReal) :
    Scalar.select (IntOp.cmpi .slt (BitVec.ofNat 32 s) (BitVec.ofNat 32 t)) a b = if s < t then a else b := by
  rw [WordCmp.cmpi_slt_ofNat (by omega) (by omega)]
  by_cases h : s < t
  · simp only [h, decide_true, if_true]; rfl
  · simp only [h, decide_false, if_false]; rfl

theorem v16_at (i : S2048x2048.Idx) : val_main_v16 (F := Ideal) i = IntOp.cmpi .slt (BitVec.ofNat 32 (i 1).val) (BitVec.ofNat 32 (i 0).val) := by
  rw [val_main_v16_apply, val_main_v14_apply, val_main_v12_apply, val_main_v11_apply, val_main_v15_apply, val_main_v13_apply, val_main_v11_apply]

theorem v19_1_at (i : S8x2048x2048.Idx) : val_main_v19_1 (F := Ideal) i = IntOp.cmpi .slt (BitVec.ofNat 32 (i 2).val) (BitVec.ofNat 32 (i 1).val) := by
  rw [val_main_v19_1_apply, v16_at]
theorem v25_1_at (i : S8x2048x2048.Idx) : val_main_v25_1 (F := Ideal) i = IntOp.cmpi .slt (BitVec.ofNat 32 (i 2).val) (BitVec.ofNat 32 (i 1).val) := by
  rw [val_main_v25_1_apply, v16_at]

theorem v19_0_c : val_main_v19_0 (F := Ideal) (A0 X) = c3 8 2048 2048 (LR (qs X 0) (ks X 0)) := by
  funext i
  rw [val_main_v19_0_apply, v19_1_at, v18_0_c, val_main_call1_v2_apply, val_main_call1_v0_apply, val_main_cst_0_apply]
  refine (sel_lt (i 1).isLt (i 2).isLt _ _).trans ?_
  show (if (i 2).val < (i 1).val then _ else Ideal.ofBits .f32 0x00000000#32) = ((if (i 2).val < (i 1).val then _ else 0 : ℝ) : EReal)
  rw [ofBits_zero]
  split <;> rfl

/-- The sums of the kept shares' logarithms over all keys. -/
def tA (n t : ℕ) : ℝ := ∑ s ∈ Finset.range 2048, LR (qs X 0) (ks X 0) n t s

theorem v21_c : val_main_v21 (F := Ideal) (A0 X) = c3 8 2048 2048 fun n t s => tA X n t - ∑ j ∈ Finset.range (s + 1), LR (qs X 0) (ks X 0) n t j := by
  funext i
  rw [val_main_v21_apply]
  unfold val_main_v20
  rw [v19_0_c, show (Host.reduceWindowAdd (F := Ideal) _ _ _ _ (c3 8 2048 2048 _) (val_main_call2_v0 (F := Ideal)) _ _) = _ from
    window_hi (LR (qs X 0) (ks X 0)) _ _ _ fun j => by rw [val_main_call2_v0_apply, val_main_call2_cst_apply]; exact ofBits_zero]
  refine (EReal.coe_sub _ _).symm.trans (congrArg (fun x : ℝ => (x : EReal)) ?_)
  dsimp only
  rw [Finset.sum_range_succ _ (i 2).val, tA]
  ring

theorem v24_c : val_main_v24 (F := Ideal) (A0 X) = c3 8 2048 2048 fun n t s =>
    Real.exp (ls (zA X n t s) + (tA X n t - (none0 t 0 + ∑ j ∈ Finset.range (s + 1), LR (qs X 0) (ks X 0) n t j))) := by
  funext i
  rw [val_main_v24_apply, val_main_v23_apply, v22_0_c, v21_c]
  refine (congrArg Ideal.exp (EReal.coe_add _ _).symm).trans ((Ideal.exp_coe _).trans ?_)
  show _ = ((Real.exp (_ + (_ - (0 + _))) : ℝ) : EReal)
  rw [zero_add]

theorem v25_0_c : val_main_v25_0 (F := Ideal) (A0 X) = c3 8 2048 2048 (WA X (tA X)) := by
  funext i
  rw [val_main_v25_0_apply, v25_1_at, v24_c, val_main_call4_v2_apply, val_main_call4_v0_apply, val_main_cst_1_apply]
  refine (sel_lt (i 1).isLt (i 2).isLt _ _).trans ?_
  show (if (i 2).val < (i 1).val then _ else Ideal.ofBits .f32 0x00000000#32) = ((if (i 2).val < (i 1).val then _ else 0 : ℝ) : EReal)
  rw [ofBits_zero]
  split <;> rfl

/-! The gradients. -/

theorem v37_c : val_main_v37 (F := Ideal) (A0 X) (A1 Y) = c3 8 2048 2048 fun n t s => ∑ j ∈ Finset.range 128, hd (qs Y 0) n t j * hd (vs X 0) n s j := by
  funext i
  rw [val_main_v37_apply, v34_c, v27_c]
  exact (Finset.sum_congr rfl fun k _ => (EReal.coe_mul _ _).symm).trans (coe_sum_fin fun k => hd (qs Y 0) (i 0).val (i 1).val k * hd (vs X 0) (i 0).val (i 2).val k)

/-- The gradient of the weights' logarithms. -/
def gA (n t s : ℕ) : ℝ := G (qs X 0) (qs Y 0) (ks X 0) (vs X 0) (tA X) n t s

theorem gA_of_not {n t s : ℕ} (h : ¬s < t) : gA X Y n t s = 0 := by
  unfold gA G bg bw
  rw [if_neg (show ¬before t s from h), mul_zero]

theorem v41_c : val_main_v41 (F := Ideal) (A0 X) (A1 Y) = c3 8 2048 2048 (gA X Y) := by
  funext i
  rw [val_main_v41_apply, val_main_v40_apply, v25_1_at, v37_c, v24_c, val_main_call5_v0_apply, val_main_call5_cst_apply]
  refine (congrArg (· * _) (sel_lt (i 1).isLt (i 2).isLt _ _)).trans ?_
  show (if (i 2).val < (i 1).val then _ else Ideal.ofBits .f32 0x00000000#32) * _ = _
  by_cases h : (i 2).val < (i 1).val
  · rw [if_pos h]
    refine (EReal.coe_mul _ _).symm.trans (congrArg (fun x : ℝ => (x : EReal)) ?_)
    unfold gA G bg bw
    rw [if_pos (show before _ _ from h)]
    rfl
  · rw [if_neg h, ofBits_zero, EReal.coe_zero, zero_mul]
    exact (congrArg (fun x : ℝ => (x : EReal)) (gA_of_not X Y h).symm)

theorem v42_c : val_main_v42 (F := Ideal) (A0 X) (A1 Y) = c3 8 2048 2048 fun n t s => -(-gA X Y n t s * Real.exp (lr (zA X n t s))) := by
  funext i
  rw [val_main_v42_apply, val_main_call6_v1_apply, val_main_call6_v0_apply, v41_c, v22_1_c]
  show -(-((gA X Y _ _ _ : ℝ) : EReal) * ((Real.exp _ : ℝ) : EReal)) = _
  rw [← EReal.coe_neg, ← EReal.coe_mul, ← EReal.coe_neg]
  rfl

theorem v45_c : val_main_v45 (F := Ideal) (A0 X) (A1 Y) = c3 8 2048 2048 fun n t s => ∑ j ∈ Finset.range s, gA X Y n t j := by
  funext i
  rw [val_main_v45_apply, val_main_v43_apply]
  unfold val_main_v44
  rw [v41_c, show (Host.reduceWindowAdd (F := Ideal) _ _ _ _ (c3 8 2048 2048 _) (val_main_call7_v0 (F := Ideal)) _ _) = _ from
    window_lo (gA X Y) _ _ _ fun j => by rw [val_main_call7_v0_apply, val_main_call7_cst_apply]; exact ofBits_zero]
  show -((gA X Y _ _ _ : ℝ) : EReal) + ((∑ j ∈ _, gA X Y _ _ j : ℝ) : EReal) = _
  rw [← EReal.coe_neg, ← EReal.coe_add, Finset.sum_range_succ]
  refine congrArg (fun x : ℝ => (x : EReal)) ?_
  ring

theorem v51_c : val_main_v51 (F := Ideal) (A0 X) (A1 Y) = c3 8 2048 2048 (DA X Y (tA X)) := by
  funext i
  rw [val_main_v51_apply, val_main_v49_apply, v42_c, val_main_v48_apply, val_main_v47_apply, val_main_call9_v1_apply, val_main_call9_v0_apply, val_main_v46_apply,
    v19_1_at, v45_c, v18_1_c, val_main_call8_v0_apply, val_main_call8_cst_apply, val_main_v50_apply, val_main_cst_2_apply]
  have e := sel_lt (t := (i 1).val) (s := (i 2).val) (i 1).isLt (i 2).isLt (c3 8 2048 2048 (fun n t s => ∑ j ∈ Finset.range s, gA X Y n t j) i) (Ideal.ofBits .f32 0x00000000#32)
  show (((-(-gA X Y _ _ _ * Real.exp _) : ℝ) : EReal) + - - (- (Scalar.select _ _ (Ideal.ofBits .f32 0x00000000#32)) * ((Real.exp _ : ℝ) : EReal))) * Ideal.ofBits .f32 0x3DB504F3#32 = _
  rw [e, ofBits_sc, ofBits_zero]
  by_cases h : (i 2).val < (i 1).val
  · rw [if_pos h]
    show (_ + - - (- ((∑ j ∈ _, gA X Y _ _ j : ℝ) : EReal) * _)) * _ = _
    rw [← EReal.coe_neg, ← EReal.coe_mul, ← EReal.coe_neg, ← EReal.coe_neg, ← EReal.coe_add, ← EReal.coe_mul]
    refine congrArg (fun x : ℝ => (x : EReal)) ?_
    unfold DA DZ bdz
    rw [if_pos (show before _ _ from h)]
    show _ = (gA X Y _ _ _ * Real.exp (lr (zA X _ _ _)) - (0 + ∑ j ∈ _, gA X Y _ _ j) * Real.exp (ls (zA X _ _ _))) * sc
    ring
  · rw [if_neg h, ← EReal.coe_neg, ← EReal.coe_mul, ← EReal.coe_neg, ← EReal.coe_neg, ← EReal.coe_add, ← EReal.coe_mul]
    refine congrArg (fun x : ℝ => (x : EReal)) ?_
    rw [gA_of_not X Y h]
    unfold DA
    rw [DZ_of_not _ _ _ _ _ _ h]
    ring

/-! The results. -/

theorem v52_c : val_main_v52 (F := Ideal) (A0 X) (A1 Y) = c3 8 2048 128 fun n s e => ∑ t ∈ Finset.range 2048, DA X Y (tA X) n t s * hd (qs X 0) n t e := by
  funext i
  rw [val_main_v52_apply, v51_c, v5_c]
  exact (Finset.sum_congr rfl fun k _ => (EReal.coe_mul _ _).symm).trans (coe_sum_fin fun t => DA X Y (tA X) (i 0).val t (i 1).val * hd (qs X 0) (i 0).val t (i 2).val)

theorem v53_c : val_main_v53 (F := Ideal) (A0 X) (A1 Y) = c3 8 2048 128 fun n t e => ∑ s ∈ Finset.range 2048, DA X Y (tA X) n t s * hd (ks X 0) n s e := by
  funext i
  rw [val_main_v53_apply, v51_c, v7_c]
  exact (Finset.sum_congr rfl fun k _ => (EReal.coe_mul _ _).symm).trans (coe_sum_fin fun s => DA X Y (tA X) (i 0).val (i 1).val s * hd (ks X 0) (i 0).val s (i 2).val)

theorem v35_c : val_main_v35 (F := Ideal) (A0 X) (A1 Y) = c3 8 128 2048 fun n e s => ∑ t ∈ Finset.range 2048, hd (qs Y 0) n t e * WA X (tA X) n t s := by
  funext i
  rw [val_main_v35_apply, v34_c, v25_0_c]
  exact (Finset.sum_congr rfl fun k _ => (EReal.coe_mul _ _).symm).trans (coe_sum_fin fun t => hd (qs Y 0) (i 0).val t (i 1).val * WA X (tA X) (i 0).val t (i 2).val)

theorem v58_c : val_main_v58 (F := Ideal) (A0 X) (A1 Y) = cv 2048 1024 (dQ X Y (tA X)) := by
  funext i
  have h0 : (i 0).val < 2048 := (i 0).isLt
  have h1 : (i 1).val < 1024 := (i 1).isLt
  rw [val_main_v58_apply, val_main_v57_apply, val_main_v56_apply, v53_c]
  refine congrArg (fun x : ℝ => (x : EReal)) (Finset.sum_congr rfl fun s _ => congrArg₂ (· * ·) ?_ ?_)
  · show DA X Y (tA X) (((i 0).val * 1024 + (i 1).val) / 128 % 8) (((i 0).val * 1024 + (i 1).val) / 1024) s = DA X Y (tA X) ((i 1).val / 128) (i 0).val s
    exact congrArg₂ (fun a b => DA X Y (tA X) a b s) (by omega) (by omega)
  · show X s (2048 + 512 * 0 + (128 * (((i 0).val * 1024 + (i 1).val) / 128 % 8) + ((i 0).val * 1024 + (i 1).val) % 128)) = X s (2048 + (i 1).val)
    exact congrArg (X s) (by omega)

theorem v59_c : val_main_v59 (F := Ideal) (A0 X) (A1 Y) = cv 2048 1024 (dK X Y (tA X)) := by
  funext i
  have h0 : (i 0).val < 2048 := (i 0).isLt
  have h1 : (i 1).val < 1024 := (i 1).isLt
  rw [val_main_v59_apply, val_main_v55_apply, val_main_v54_apply, v52_c]
  refine congrArg (fun x : ℝ => (x : EReal)) (Finset.sum_congr rfl fun t _ => congrArg₂ (· * ·) ?_ ?_)
  · show DA X Y (tA X) (((i 0).val * 1024 + (i 1).val) / 128 % 8) t (((i 0).val * 1024 + (i 1).val) / 1024) = DA X Y (tA X) ((i 1).val / 128) t (i 0).val
    exact congrArg₂ (fun a b => DA X Y (tA X) a t b) (by omega) (by omega)
  · show X t (512 * 0 + (128 * (((i 0).val * 1024 + (i 1).val) / 128 % 8) + ((i 0).val * 1024 + (i 1).val) % 128)) = X t (i 1).val
    exact congrArg (X t) (by omega)

theorem v60_c : val_main_v60 (F := Ideal) (A0 X) (A1 Y) = cv 2048 1024 (dV X Y (tA X)) := by
  funext i
  have h0 : (i 0).val < 2048 := (i 0).isLt
  have h1 : (i 1).val < 1024 := (i 1).isLt
  rw [val_main_v60_apply, val_main_v39_apply, val_main_v38_apply, val_main_v36_apply, v35_c]
  refine congrArg (fun x : ℝ => (x : EReal)) (Finset.sum_congr rfl fun t _ => (mul_comm _ _).trans (congrArg₂ (· * ·) ?_ ?_))
  · show WA X (tA X) (((i 0).val * 1024 + (i 1).val) / 128 % 8) t (((i 0).val * 1024 + (i 1).val) / 1024) = WA X (tA X) ((i 1).val / 128) t (i 0).val
    exact congrArg₂ (fun a b => WA X (tA X) a t b) (by omega) (by omega)
  · show Y t (512 * 0 + (128 * (((i 0).val * 1024 + (i 1).val) / 128 % 8) + ((i 0).val * 1024 + (i 1).val) % 128)) = Y t (i 1).val
    exact congrArg (Y t) (by omega)

end Cert.RefVal

end

end
-- ==== Proof.Tot.lean ====
/-
  What the kernel finds in its third input: the sums of the kept shares' logarithms, per head and query.
-/
module

public import proofs.«01_k».proof.Proof.RefVal

@[expose] public section

set_option maxRecDepth 16384

noncomputable section

namespace Cert.KernelIdeal.Tot

open Cert.KernelIdeal Cert.KernelIdeal.Gen Cert.KernelIdeal.Block Cert.KernelIdeal.Model Cert.KernelIdeal.Inputs Cert.KernelIdeal.KernelOut Cert.RefLib Cert.RefVal Idealize.ShloMosaic Idealize.ShloMosaic.TcCoe Idealize.SL.Sem Idealize.ShloMosaic.StableHlo
open scoped BigOperators

variable (m : (ℓ : Loc nD τ sig) → Buf (Elt Ideal) ℓ) (c : Dev nD)

theorem V21 : V m c main_v21 = broadcastInDim S8x2048x1 ![0, 1] bcast_S8x2048_S8x2048x1_0_1
    (Host.reduceAdd (F := Ideal) (Cert.ReferenceIdeal.Read.val_main_v19_0 (F := Ideal) (m ((c : Thread nD τ).loc main_arg0))) (constant S_ .f32 0x00000000#32) reducesTo_S8x2048x2048_S8x2048_d2 h_S_) := by
  unfold_abbrev_sides
  after_results
  rfl

theorem red : S8x2048x2048.Reduces [2] S8x2048 := by decide

theorem V21_c (X : ℕ → ℕ → ℝ) (h0 : m ((c : Thread nD τ).loc main_arg0) = cv 2048 6144 X) :
    V m c main_v21 = fun j => ((tA X (j 0).val (j 1).val : ℝ) : EReal) := by
  have e : Cert.ReferenceIdeal.Read.val_main_v19_0 (F := Ideal) (m ((c : Thread nD τ).loc main_arg0)) = c3 8 2048 2048 (LR (qs X 0) (ks X 0)) :=
    (congrArg (fun a => Cert.ReferenceIdeal.Read.val_main_v19_0 (F := Ideal) a) h0).trans (v19_0_c X)
  rw [V21, e]
  funext j
  refine (Ideal.hostReduceAdd_single reducesTo_S8x2048x2048_S8x2048_d2 red _ _ _).trans ?_
  refine (congrArg₂ (· + ·) ofBits_zero (coe_sum_fin fun s => LR (qs X 0) (ks X 0) (j 0).val (j 1).val s)).trans ?_
  exact zero_add _

end Cert.KernelIdeal.Tot

end

end
-- ==== Proof.Finite.lean ====
/-
  Arrays which the precondition calls finite are arrays of reals.
-/
module

public import proofs.«01_k».proof.Proof.Tot
public import proofs.«01_k».proof.Proof.Gen.Pre_finite
public import Idealize.ShloMosaic.Lib.ReduceAll

@[expose] public section

set_option maxRecDepth 16384

noncomputable section

namespace Cert.Finite

open Cert.KernelIdeal.Block Cert.RefLib Idealize.ShloMosaic Cert.Pre_finite Cert.Pre_finite.Gen

theorem real_of_lt (x : EReal) (h : Ideal.cmp .olt (max x (-x)) (Ideal.ofBits .f32 0x7F800000#32) = 1#1) : ((x.toReal : ℝ) : EReal) = x := by
  rw [ofBits_top] at h
  have h' : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  obtain ⟨h1, h2⟩ := max_lt_iff.mp h'
  refine EReal.coe_toReal h1.ne fun hb => ?_
  rw [hb] at h2
  exact absurd h2 (by simp)

theorem cv_of_real {a b : ℕ} (A : (⟨2, ![a, b]⟩ : Shape).Idx → EReal) (h : ∀ i, (((A i).toReal : ℝ) : EReal) = A i) :
    ∃ X : ℕ → ℕ → ℝ, A = cv a b X := by
  refine ⟨fun t j => if h : t < a ∧ j < b then (A (ValueIdx.ix2 ⟨t, h.1⟩ ⟨j, h.2⟩)).toReal else 0, funext fun i => ?_⟩
  have hi : (i 0).val < a ∧ (i 1).val < b := ⟨ValueIdx.idx2_lt0 i, ValueIdx.idx2_lt1 i⟩
  show A i = ((dite _ _ _ : ℝ) : EReal)
  rw [dif_pos hi, h]
  refine congrArg A (funext fun x => ?_)
  match x with
  | ⟨0, _⟩ => rfl
  | ⟨1, _⟩ => rfl

instance : Subsingleton Cert.Pre_finite.S_.Idx := ⟨fun a b => funext fun x => x.elim0⟩

theorem reals (A : FVec Ideal Cert.Pre_finite.S2048x6144 .bf16) (B : FVec Ideal Cert.Pre_finite.S2048x2048 .bf16)
    (h : Cert.Pre_finite.fn (F := Ideal) A B = fun _ => 1#1) :
    ∃ X Y : ℕ → ℕ → ℝ, A = cv 2048 6144 X ∧ B = cv 2048 2048 Y := by
  have h0 := congrFun h (fun x => x.elim0)
  obtain ⟨ha, hb⟩ := IntOp.andi_eq_one.mp h0
  obtain ⟨X, hX⟩ := cv_of_real (a := 2048) (b := 6144) A fun i => real_of_lt _ (Host.reduce_andi_all _ _ _ _ _ ha i)
  obtain ⟨Y, hY⟩ := cv_of_real (a := 2048) (b := 2048) B fun i => real_of_lt _ (Host.reduce_andi_all _ _ _ _ _ hb i)
  exact ⟨X, Y, hX, hY⟩

end Cert.Finite

end

end
-- ==== Proof.Prod.lean ====
/-
  Sums taken block by block, and arrays read at a running position.
-/
module

public import Idealize.ShloMosaic.Lib.Pipeline.ValueKit

@[expose] public section

set_option maxRecDepth 16384

noncomputable section

namespace Cert.Prod

open Idealize.ShloMosaic
open scoped BigOperators

/-- A sum over the first `b * (s + 1)` positions is the sum over the first `b * s` and the next block of `b`. -/
theorem sum_block (f : ℕ → EReal) (b s : ℕ) :
    ∑ k ∈ Finset.range (b * (s + 1)), f k = (∑ k ∈ Finset.range (b * s), f k) + ∑ k : Fin b, f (b * s + k.val) := by
  rw [Nat.mul_succ, Finset.sum_range_add]
  congr 1
  exact Finset.sum_range fun k => f (b * s + k)

theorem sum_first (f : ℕ → EReal) (b : ℕ) : ∑ k ∈ Finset.range (b * 1), f k = ∑ k : Fin b, f k.val := by
  rw [Nat.mul_one]
  exact Finset.sum_range f

/-- The entry of row `k` and column `c` of the two halves laid side by side. -/
def halves (u : (⟨3, ![2, 2048, 5632]⟩ : Shape).Idx → EReal) (k : Fin 2048) (c : ℕ) : EReal :=
  u (ValueIdx.ix3 (Fin.ofNat 2 (c / 5632)) k (Fin.ofNat 5632 c))

/-- The entry of row `k` and column `c` of the eight column blocks laid side by side. -/
def eighths (u : (⟨3, ![8, 2048, 1408]⟩ : Shape).Idx → EReal) (k : Fin 2048) (c : ℕ) : EReal :=
  u (ValueIdx.ix3 (Fin.ofNat 8 (c / 1408)) k (Fin.ofNat 1408 c))

end Cert.Prod

end
-- ==== Proof.UpDwVal.lean ====
/-
  The weight gradient of the up projection: the kernel's result and the reference's are the same product.
-/
module

public import proofs.«01_k».proof.Proof.Gen.UpDwIdeal.Value
public import proofs.«01_k».proof.Proof.Gen.UpDwRefIdeal.Read
public import proofs.«01_k».proof.Proof.Prod
public import Idealize.ShloMosaic.Lib.ValueLayout

@[expose] public section

set_option maxRecDepth 16384

noncomputable section

namespace Cert.UpDwVal

open Cert.UpDwIdeal Cert.UpDwIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The transposed input times the two halves laid side by side, in eight column blocks. -/
def G (a : (⟨S2048x2048, .bf16⟩ : BufTy).Contents (Elt Ideal)) (d : (⟨S2x2048x5632, .bf16⟩ : BufTy).Contents (Elt Ideal)) : (⟨S8x2048x1408, .bf16⟩ : BufTy).Contents (Elt Ideal) :=
  fun i => ((∑ k : Fin 2048, (a (ValueIdx.ix2 k (i 1)) : EReal) * Prod.halves d k ((i 0).val * 1408 + (i 2).val) : EReal))

theorem mm (x : FVec Ideal S2048x1024 .bf16) (y : FVec Ideal S2048x1408 .bf16) (i : S1024x1408.Idx) :
    matmul (F := Ideal) (φ₁ := .bf16) (φ₂ := .bf16) dot_S2048x1024_S2048x1408_S1024x1408_0_0_1_1_n_n none x y (constant S1024x1408 .f32 0x00000000#32) i = ((∑ k : Fin 2048, (x (ValueIdx.ix2 k (i 0)) : EReal) * (y (ValueIdx.ix2 k (i 1)) : EReal) : EReal)) := by
  refine (Ideal.matmul_constant_zero_apply (φ₁ := .bf16) (φ₂ := .bf16) dot_S2048x1024_S2048x1408_S1024x1408_0_0_1_1_n_n none x y i).trans ?_
  rw [← Equiv.sum_comp (contrEquiv1 dot_S2048x1024_S2048x1408_S1024x1408_0_0_1_1_n_n 2048 rfl rfl).symm]
  refine Finset.sum_congr rfl fun k _ => ?_
  have hk := contrEquiv1_symm_val dot_S2048x1024_S2048x1408_S1024x1408_0_0_1_1_n_n 2048 rfl rfl k
  refine congrArg₂ (fun p q : EReal => p * q) (congrArg x ?_) (congrArg y ?_)
  · funext a; apply Fin.ext
    match a with
    | ⟨0, _⟩ => exact hk
    | ⟨1, _⟩ => rfl
  · funext a; apply Fin.ext
    match a with
    | ⟨0, _⟩ => exact hk
    | ⟨1, _⟩ => rfl

theorem pay (x : Vec Ideal S2048x1024 .bf16) (y : Vec Ideal S1x2048x1408 .bf16) (i : S1x1024x1408.Idx) :
    k0_pay1 x y i = ((∑ k : Fin 2048, (x (ValueIdx.ix2 k (i 1)) : EReal) * (y (ValueIdx.ix3 0 k (i 2)) : EReal) : EReal)) := by
  obtain ⟨u, p, q, rfl⟩ : ∃ (u : Fin 1) (p : Fin 1024) (q : Fin 1408), i = ValueIdx.ix3 u p q := ⟨i 0, i 1, i 2, by funext a; match a with | ⟨0, _⟩ => rfl | ⟨1, _⟩ => rfl | ⟨2, _⟩ => rfl⟩
  refine (shapeCast_ab_1ab_apply (α := EReal) (matmul (F := Ideal) (φ₁ := .bf16) (φ₂ := .bf16) dot_S2048x1024_S2048x1408_S1024x1408_0_0_1_1_n_n none x (shapeCast S2048x1408 y shapeCasts_S1x2048x1408_S2048x1408) (constant S1024x1408 .f32 0x00000000#32)) shapeCasts_S1024x1408_S1x1024x1408 u p q).trans ?_
  refine (mm x (shapeCast S2048x1408 y shapeCasts_S1x2048x1408_S2048x1408) (ValueIdx.ix2 p q)).trans ?_
  refine Finset.sum_congr (M := EReal) rfl fun k _ => ?_
  exact congrArg (fun z : EReal => (x (ValueIdx.ix2 k p) : EReal) * z) (shapeCast_1ab_ab_apply y shapeCasts_S1x2048x1408_S2048x1408 k q)

theorem e0 : ∀ t : Fin cfg0.N, win0_0.index t 0 = 0 ∧ win0_0.index t 1 = win0_2.index t 1 := (by decide +kernel : ∀ t : Fin grid0.N, _)
theorem e1 : ∀ t : Fin cfg0.N, win0_1.index t 0 = win0_2.index t 0 / 4 ∧ win0_1.index t 1 = 0 ∧ win0_1.index t 2 = win0_2.index t 0 % 4 ∧ win0_2.index t 0 < 8 ∧ win0_2.index t 2 = 0 := (by decide +kernel : ∀ t : Fin grid0.N, _)

variable (m : (ℓ : Loc nD τ sig) → Buf (Elt Ideal) ℓ) (c : Dev nD)

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1, q2, q3, q4⟩ := e1 t
  have h0 : (y 0).val < 1 := (y 0).isLt
  have h2 : (y 2).val < 1408 := (y 2).isLt
  refine congrArg₂ (fun p q : EReal => p * q) (congrArg (V m c main_arg0) ?_) (congrArg (V m c main_arg1) ?_)
  · funext a; apply Fin.ext
    match a with
    | ⟨0, _⟩ => show win0_0.index t 0 * 2048 + 1 * k.val = k.val; omega
    | ⟨1, _⟩ => show win0_0.index t 1 * 1024 + 1 * (y 1).val = win0_2.index t 1 * 1024 + 1 * (y 1).val; omega
  · funext a; apply Fin.ext
    match a with
    | ⟨0, _⟩ =>
      show win0_1.index t 0 * 1 + 1 * 0 = (((win0_2.index t 0 * 1 + 1 * (y 0).val) * 1408 + (win0_2.index t 2 * 1408 + 1 * (y 2).val)) / 5632) % 2
      omega
    | ⟨1, _⟩ => show win0_1.index t 1 * 2048 + 1 * k.val = k.val; omega
    | ⟨2, _⟩ =>
      show win0_1.index t 2 * 1408 + 1 * (y 2).val = ((win0_2.index t 0 * 1 + 1 * (y 0).val) * 1408 + (win0_2.index t 2 * 1408 + 1 * (y 2).val)) % 5632
      omega

open Cert.UpDwRefIdeal.Read in
/-- The two halves side by side, at a row and a column. -/
theorem ref_halves (x1 : (⟨S2x2048x5632, .bf16⟩ : BufTy).Contents (Elt Ideal)) (k : Fin 2048) (q : Fin 11264) :
    val_main_v5 (F := Ideal) x1 (ValueIdx.ix2 k q) = Prod.halves x1 k q.val := by
  unfold val_main_v5
  have hk := k.isLt
  have hq := q.isLt
  by_cases h : q.val < 5632
  · refine (concatenate_pair_apply_left 1 (val_main_v2 (F := Ideal) x1) (val_main_v4 (F := Ideal) x1) _ (ValueIdx.ix2 k q) rfl (ValueIdx.ix2 k ⟨q.val, h⟩) (fun b => match b with | ⟨0, _⟩ => rfl | ⟨1, _⟩ => rfl)).trans ?_
    rw [val_main_v2_apply, val_main_v1_apply]
    refine congrArg x1 ?_
    funext a; apply Fin.ext
    match a with
    | ⟨0, _⟩ => show 0 = q.val / 5632 % 2; omega
    | ⟨1, _⟩ => show (k.val * 5632 + q.val) / 5632 % 2048 = k.val; omega
    | ⟨2, _⟩ => show (k.val * 5632 + q.val) % 5632 = q.val % 5632; omega
  · refine (concatenate_pair_apply_right 1 (val_main_v2 (F := Ideal) x1) (val_main_v4 (F := Ideal) x1) _ (ValueIdx.ix2 k q) rfl rfl (ValueIdx.ix2 k ⟨q.val - 5632, by omega⟩) (fun b hb => match b, hb with | ⟨0, _⟩, _ => rfl | ⟨1, _⟩, hb => absurd rfl hb) (by show q.val - 5632 + 5632 = q.val; omega)).trans ?_
    rw [val_main_v4_apply, val_main_v3_apply]
    refine congrArg x1 ?_
    funext a; apply Fin.ext
    match a with
    | ⟨0, _⟩ => show 1 + 0 = q.val / 5632 % 2; omega
    | ⟨1, _⟩ => show (k.val * 5632 + (q.val - 5632)) / 5632 % 2048 = k.val; omega
    | ⟨2, _⟩ => show (k.val * 5632 + (q.val - 5632)) % 5632 = q.val % 5632; omega

open Cert.UpDwRefIdeal.Read in
theorem ref (x0 : (⟨S2048x2048, .bf16⟩ : BufTy).Contents (Elt Ideal)) (x1 : (⟨S2x2048x5632, .bf16⟩ : BufTy).Contents (Elt Ideal)) :
    val_main_v14 (F := Ideal) x0 x1 = G x0 x1 := by
  funext i
  have h0 : (i 0).val < 8 := (i 0).isLt
  have h1 : (i 1).val < 2048 := (i 1).isLt
  have h2 : (i 2).val < 1408 := (i 2).isLt
  show val_main_v13 (F := Ideal) x0 x1 i = _
  rw [val_main_v13_apply, val_main_v12_apply, val_main_v10_apply, val_main_v9_apply]
  refine Finset.sum_congr (M := EReal) rfl fun k _ => ?_
  rw [mul_comm]
  refine congrArg₂ (fun p q : EReal => p * q) (congrArg x0 ?_) ?_
  · funext a; apply Fin.ext
    match a with
    | ⟨0, _⟩ => rfl
    | ⟨1, _⟩ => show (((i 1).val * 8 + (i 0).val) * 1408 + (i 2).val) / 11264 = (i 1).val; omega
  · refine Eq.trans (congrArg (val_main_v5 (F := Ideal) x1) ?_) (ref_halves x1 k ⟨(i 0).val * 1408 + (i 2).val, by omega⟩)
    funext a; apply Fin.ext
    match a with
    | ⟨0, _⟩ => rfl
    | ⟨1, _⟩ => show (((i 1).val * 8 + (i 0).val) * 1408 + (i 2).val) % 11264 = (i 0).val * 1408 + (i 2).val; omega

end Cert.UpDwVal

end
-- ==== Proof.UpDxVal.lean ====
/-
  The input gradient of the up projection: the kernel's result, accumulated over eight column blocks, and the
  reference's are the same product.
-/
module

public import proofs.«01_k».proof.Proof.Gen.UpDxIdeal.Value
public import proofs.«01_k».proof.Proof.Gen.UpDxRefIdeal.Read
public import proofs.«01_k».proof.Proof.Prod
public import Idealize.ShloMosaic.Lib.ValueLayout

@[expose] public section

set_option maxRecDepth 16384

noncomputable section

namespace Cert.UpDxVal

open Cert.UpDxIdeal Cert.UpDxIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- One product of the sum: column `k` of the halves side by side with column `k` of the weight. -/
def term (u : (⟨S2x2048x5632, .bf16⟩ : BufTy).Contents (Elt Ideal)) (w : (⟨S8x2048x1408, .bf16⟩ : BufTy).Contents (Elt Ideal)) (i : Fin 2048) (j : Fin 2048) (k : ℕ) : EReal :=
  Prod.halves u i k * Prod.eighths w j k

/-- The halves laid side by side times the transposed weight. -/
def G (u : (⟨S2x2048x5632, .bf16⟩ : BufTy).Contents (Elt Ideal)) (w : (⟨S8x2048x1408, .bf16⟩ : BufTy).Contents (Elt Ideal)) : (⟨S2048x2048, .f32⟩ : BufTy).Contents (Elt Ideal) :=
  fun i => ((∑ k ∈ Finset.range 11264, term u w (i 0) (i 1) k : EReal))

theorem mm (x : FVec Ideal S1024x1408 .bf16) (y : FVec Ideal S2048x1408 .bf16) (i : S1024x2048.Idx) :
    matmul (F := Ideal) (φ₁ := .bf16) (φ₂ := .bf16) dot_S1024x1408_S2048x1408_S1024x2048_1_1_0_0_n_n none x y (constant S1024x2048 .f32 0x00000000#32) i = ((∑ k : Fin 1408, (x (ValueIdx.ix2 (i 0) k) : EReal) * (y (ValueIdx.ix2 (i 1) k) : EReal) : EReal)) := by
  refine (Ideal.matmul_constant_zero_apply (φ₁ := .bf16) (φ₂ := .bf16) dot_S1024x1408_S2048x1408_S1024x2048_1_1_0_0_n_n none x y i).trans ?_
  rw [← Equiv.sum_comp (contrEquiv1 dot_S1024x1408_S2048x1408_S1024x2048_1_1_0_0_n_n 1408 rfl rfl).symm]
  refine Finset.sum_congr rfl fun k _ => ?_
  have hk := contrEquiv1_symm_val dot_S1024x1408_S2048x1408_S1024x2048_1_1_0_0_n_n 1408 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => rfl
    | ⟨1, _⟩ => exact hk

/-- The product of one block of columns. -/
def part (x : Vec Ideal S1x1024x1408 .bf16) (y : Vec Ideal S1x2048x1408 .bf16) (i : S1024x2048.Idx) : EReal :=
  ∑ k : Fin 1408, (x (ValueIdx.ix3 0 (i 0) k) : EReal) * (y (ValueIdx.ix3 0 (i 1) k) : EReal)

theorem mm3 (x : Vec Ideal S1x1024x1408 .bf16) (y : Vec Ideal S1x2048x1408 .bf16) (i : S1024x2048.Idx) :
    matmul (F := Ideal) (φ₁ := .bf16) (φ₂ := .bf16) dot_S1024x1408_S2048x1408_S1024x2048_1_1_0_0_n_n none (shapeCast S1024x1408 x shapeCasts_S1x1024x1408_S1024x1408) (shapeCast S2048x1408 y shapeCasts_S1x2048x1408_S2048x1408) (constant S1024x2048 .f32 0x00000000#32) i = part x y i := by
  refine (mm _ _ i).trans ?_
  refine Finset.sum_congr (M := EReal) rfl fun k _ => ?_
  exact congrArg₂ (fun p q : EReal => p * q) (shapeCast_1ab_ab_apply x shapeCasts_S1x1024x1408_S1024x1408 (i 0) k) (shapeCast_1ab_ab_apply y shapeCasts_S1x2048x1408_S2048x1408 (i 1) k)

theorem pay1 (x : Vec Ideal S1x1024x1408 .bf16) (y : Vec Ideal S1x2048x1408 .bf16) (i : S1024x2048.Idx) :
    k0_pay1 x y i = part x y i := by
  unfold k0_pay1
  rw [shapeCast_self]
  exact mm3 x y i

theorem pay2 (v : Vec Ideal S1024x2048 .f32) (x : Vec Ideal S1x1024x1408 .bf16) (y : Vec Ideal S1x2048x1408 .bf16) (i : S1024x2048.Idx) :
    k0_pay2 v x y i = ((v i : EReal) + part x y i : EReal) := by
  unfold k0_pay2
  rw [shapeCast_self]
  exact congrArg (fun z : EReal => (v i : EReal) + z) (mm3 x y i)

theorem pay3 (v : Vec Ideal S1024x2048 .f32) (x : Vec Ideal S1x1024x1408 .bf16) (y : Vec Ideal S1x2048x1408 .bf16) (i : S1024x2048.Idx) :
    k0_pay3 v x y i = ((v i : EReal) + part x y i : EReal) :=
  congrArg (fun z : EReal => (v i : EReal) + z) (mm3 x y i)

theorem e0 : ∀ t : Fin cfg0.N, win0_0.index t 0 = t.val % 8 / 4 ∧ win0_0.index t 1 = t.val / 8 ∧ win0_0.index t 2 = t.val % 4 := (by decide +kernel : ∀ t : Fin grid0.N, _)
theorem e1 : ∀ t : Fin cfg0.N, win0_1.index t 0 = t.val % 8 ∧ win0_1.index t 1 = 0 ∧ win0_1.index t 2 = 0 := (by decide +kernel : ∀ t : Fin grid0.N, _)
theorem e2 : ∀ t : Fin cfg0.N, win0_2.index t 0 = t.val / 8 ∧ win0_2.index t 1 = 0 := (by decide +kernel : ∀ t : Fin grid0.N, _)
theorem points : cfg0.N = 16 := (by decide +kernel : grid0.N = 16)

variable (m : (ℓ : Loc nD τ sig) → Buf (Elt Ideal) ℓ) (c : Dev nD)

/-- The row of the result that row `r` of point `n`'s block is. -/
def row (n : ℕ) (r : Fin 1024) : Fin 2048 := Fin.ofNat 2048 (n / 8 * 1024 + r.val)

theorem part_term (t : Fin cfg0.N) (i : S1024x2048.Idx) :
    part (iblk m c 0 t) (iblk m c 1 t) i = ∑ k : Fin 1408, term (V m c main_arg0) (V m c main_arg1) (row t.val (i 0)) (i 1) (1408 * (t.val % 8) + k.val) := by
  refine Finset.sum_congr (M := EReal) rfl fun k _ => ?_
  obtain ⟨p0, p1, p2⟩ := e0 t
  obtain ⟨q0, q1, q2⟩ := e1 t
  have hk := k.isLt
  have ht := lt_of_lt_of_eq t.isLt points
  have hr : (i 0).val < 1024 := (i 0).isLt
  refine congrArg₂ (fun p q : EReal => p * q) (congrArg (V m c main_arg0) ?_) (congrArg (V m c main_arg1) ?_)
  · funext a; apply Fin.ext
    match a with
    | ⟨0, _⟩ => show win0_0.index t 0 * 1 + 1 * 0 = (1408 * (t.val % 8) + k.val) / 5632 % 2; omega
    | ⟨1, _⟩ => show win0_0.index t 1 * 1024 + 1 * (i 0).val = (t.val / 8 * 1024 + (i 0).val) % 2048; omega
    | ⟨2, _⟩ => show win0_0.index t 2 * 1408 + 1 * k.val = (1408 * (t.val % 8) + k.val) % 5632; omega
  · funext a; apply Fin.ext
    match a with
    | ⟨0, _⟩ => show win0_1.index t 0 * 1 + 1 * 0 = (1408 * (t.val % 8) + k.val) / 1408 % 8; omega
    | ⟨1, _⟩ => show win0_1.index t 1 * 2048 + 1 * (i 1).val = (i 1).val; omega
    | ⟨2, _⟩ => show win0_1.index t 2 * 1408 + 1 * k.val = (1408 * (t.val % 8) + k.val) % 1408; omega

/-- After the block of columns `n % 8`, short of the last, the accumulator holds the sum over the columns so far. -/
theorem acc (n : ℕ) (hn : n < cfg0.N) (h7 : ¬ n % 8 = 7) (i : S1024x2048.Idx) :
    (outsAt0 m c n hn).2 i = ((∑ k ∈ Finset.range (1408 * (n % 8 + 1)), term (V m c main_arg0) (V m c main_arg1) (row n (i 0)) (i 1) k : EReal)) := by
  induction n with
  | zero =>
    rw [outsAt0_A m c ⟨0, hn⟩ (Nat.zero_mod _) (by show ¬(1 ≤ 0 % 8 ∧ 0 % 8 ≤ 6); omega) h7]
    dsimp only
    frame_out
    refine (pay1 _ _ i).trans ((part_term m c ⟨0, hn⟩ i).trans ?_)
    refine Eq.trans ?_ (Prod.sum_block (term (V m c main_arg0) (V m c main_arg1) (row 0 (i 0)) (i 1)) 1408 0).symm
    rw [Nat.mul_zero, Finset.range_zero, Finset.sum_empty, zero_add]
    refine Finset.sum_congr rfl fun k _ => ?_
    show term _ _ _ _ (0 + k.val) = term _ _ _ _ (0 + k.val)
    rfl
  | succ n ih =>
    by_cases h0 : (n + 1) % 8 = 0
    · rw [outsAt0_A m c ⟨n + 1, hn⟩ h0 (by show ¬(1 ≤ (n + 1) % 8 ∧ (n + 1) % 8 ≤ 6); omega) h7]
      dsimp only
      frame_out
      refine (pay1 _ _ i).trans ((part_term m c ⟨n + 1, hn⟩ i).trans ?_)
      rw [Prod.sum_block]
      show _ = (∑ k ∈ Finset.range (1408 * ((n + 1) % 8)), _) + _
      rw [h0, Nat.mul_zero, Finset.range_zero, Finset.sum_empty, zero_add]
    · rw [outsAt0_B m c ⟨n + 1, hn⟩ h0 (by show (1 ≤ (n + 1) % 8 ∧ (n + 1) % 8 ≤ 6); omega) h7]
      dsimp only
      frame_out
      refine (pay2 _ _ _ i).trans ?_
      rw [Prod.sum_block, part_term m c ⟨n + 1, hn⟩ i]
      have e : (outsAt0 m c n (Nat.lt_of_succ_lt hn)).2 i = _ := ih (Nat.lt_of_succ_lt hn) (by omega)
      have e8 : n % 8 + 1 = (n + 1) % 8 := by omega
      have er : row n (i 0) = row (n + 1) (i 0) := by unfold row; rw [show n / 8 = (n + 1) / 8 by omega]
      rw [e8, er] at e
      exact congrArg (fun z : EReal => z + _) ((congrFun ((Memref.isWhole_whole cc0_scratch0).read_unread _) i).trans e)

theorem final : (dats m 0 c).arrAt 2 cfg0.N = G (V m c main_arg0) (V m c main_arg1) := by
  refine (dats m 0 c).arrAt_eq_of_covers 2 _ (by decide +kernel) fun t hf y => ?_
  have h7 : t.val % 8 = 7 := (flush0_2 t).mp hf
  have ht := lt_of_lt_of_eq t.isLt points
  blk_simp
  rw [after0_2, outsAt0_C m c t (by omega) (by omega) h7]
  dsimp only
  frame_out
  refine (pay3 _ _ _ y).trans ?_
  refine (congrArg₂ (fun p q : EReal => p + q) ((congrFun ((Memref.isWhole_whole cc0_scratch0).read_unread _) y).trans (acc m c (t.val - 1) _ (by omega) y)) (part_term m c t y)).trans ?_
  obtain ⟨p0, p1⟩ := e2 t
  have hr : (y 0).val < 1024 := (y 0).isLt
  have er : row (t.val - 1) (y 0) = row t.val (y 0) := by unfold row; rw [show (t.val - 1) / 8 = t.val / 8 by omega]
  rw [er, show (t.val - 1) % 8 + 1 = 7 by omega, h7]
  refine (Prod.sum_block _ 1408 7).symm.trans ?_
  refine congrArg₂ (fun (p q : Fin 2048) => ∑ k ∈ Finset.range 11264, term (V m c main_arg0) (V m c main_arg1) p q k) ?_ ?_
  · apply Fin.ext
    show (t.val / 8 * 1024 + (y 0).val) % 2048 = win0_2.index t 0 * 1024 + 1 * (y 0).val
    omega
  · apply Fin.ext
    show (y 1).val = win0_2.index t 1 * 2048 + 1 * (y 1).val
    omega

open Cert.UpDxRefIdeal.Read in
/-- The two halves side by side, at a row and a column. -/
theorem ref_halves (x0 : (⟨S2x2048x5632, .bf16⟩ : BufTy).Contents (Elt Ideal)) (k : Fin 2048) (q : Fin 11264) :
    val_main_v7 (F := Ideal) x0 (ValueIdx.ix2 k q) = Prod.halves x0 k q.val := by
  unfold val_main_v7
  have hk := k.isLt
  have hq := q.isLt
  by_cases h : q.val < 5632
  · refine (concatenate_pair_apply_left 1 (val_main_v4 (F := Ideal) x0) (val_main_v6 (F := Ideal) x0) _ (ValueIdx.ix2 k q) rfl (ValueIdx.ix2 k ⟨q.val, h⟩) (fun b => match b with | ⟨0, _⟩ => rfl | ⟨1, _⟩ => rfl)).trans ?_
    rw [val_main_v4_apply, val_main_v3_apply]
    refine congrArg x0 ?_
    funext a; apply Fin.ext
    match a with
    | ⟨0, _⟩ => show 0 = q.val / 5632 % 2; omega
    | ⟨1, _⟩ => show (k.val * 5632 + q.val) / 5632 % 2048 = k.val; omega
    | ⟨2, _⟩ => show (k.val * 5632 + q.val) % 5632 = q.val % 5632; omega
  · refine (concatenate_pair_apply_right 1 (val_main_v4 (F := Ideal) x0) (val_main_v6 (F := Ideal) x0) _ (ValueIdx.ix2 k q) rfl rfl (ValueIdx.ix2 k ⟨q.val - 5632, by omega⟩) (fun b hb => match b, hb with | ⟨0, _⟩, _ => rfl | ⟨1, _⟩, hb => absurd rfl hb) (by show q.val - 5632 + 5632 = q.val; omega)).trans ?_
    rw [val_main_v6_apply, val_main_v5_apply]
    refine congrArg x0 ?_
    funext a; apply Fin.ext
    match a with
    | ⟨0, _⟩ => show 1 + 0 = q.val / 5632 % 2; omega
    | ⟨1, _⟩ => show (k.val * 5632 + (q.val - 5632)) / 5632 % 2048 = k.val; omega
    | ⟨2, _⟩ => show (k.val * 5632 + (q.val - 5632)) % 5632 = q.val % 5632; omega

open Cert.UpDxRefIdeal.Read in
/-- The eight column blocks of the weight side by side, at a row and a column. -/
theorem ref_eighths (x1 : (⟨S8x2048x1408, .bf16⟩ : BufTy).Contents (Elt Ideal)) (k : Fin 2048) (q : Fin 11264) :
    val_main_v1 (F := Ideal) x1 (ValueIdx.ix2 k q) = Prod.eighths x1 k q.val := by
  have hk := k.isLt
  have hq := q.isLt
  rw [val_main_v1_apply, val_main_v0_apply]
  refine congrArg x1 ?_
  funext a; apply Fin.ext
  match a with
  | ⟨0, _⟩ => show (k.val * 11264 + q.val) / 1408 % 8 = q.val / 1408 % 8; omega
  | ⟨1, _⟩ => show (k.val * 11264 + q.val) / 11264 = k.val; omega
  | ⟨2, _⟩ => show (k.val * 11264 + q.val) % 1408 = q.val % 1408; omega

open Cert.UpDxRefIdeal.Read in
theorem ref (x0 : (⟨S2x2048x5632, .bf16⟩ : BufTy).Contents (Elt Ideal)) (x1 : (⟨S8x2048x1408, .bf16⟩ : BufTy).Contents (Elt Ideal)) :
    val_main_v13 (F := Ideal) x0 x1 = G x0 x1 := by
  funext i
  rw [val_main_v13_apply]
  refine Eq.trans ?_ (Finset.sum_range fun k => term x0 x1 (i 0) (i 1) k).symm
  refine Finset.sum_congr (M := EReal) rfl fun k _ => ?_
  refine congrArg₂ (fun p q : EReal => p * q) ?_ ?_
  · refine Eq.trans (congrArg (val_main_v7 (F := Ideal) x0) ?_) (ref_halves x0 (i 0) k)
    funext a
    match a with
    | ⟨0, _⟩ => rfl
    | ⟨1, _⟩ => rfl
  · refine Eq.trans (congrArg (val_main_v1 (F := Ideal) x1) ?_) (ref_eighths x1 (i 1) k)
    funext a
    match a with
    | ⟨0, _⟩ => rfl
    | ⟨1, _⟩ => rfl

end Cert.UpDxVal

end
-- ==== Proof.DownDwVal.lean ====
/-
  The weight gradient of the down projection: the kernel's result and the reference's are the same product.
-/
module

public import proofs.«01_k».proof.Proof.Gen.DownDwIdeal.Value
public import proofs.«01_k».proof.Proof.Gen.DownDwRefIdeal.Read
public import Idealize.ShloMosaic.Lib.Pipeline.ValueKit

@[expose] public section

set_option maxRecDepth 16384

noncomputable section

namespace Cert.DownDwVal

open Cert.DownDwIdeal Cert.DownDwIdeal.Gen Idealize.ShloMosaic Idealize.ShloMosaic.TcCoe Idealize.SL.Sem
open Idealize.ShloMosaic.ValueIdx hiding ix2 eq_ix2 ix1 eq_ix1 ix0 eq_ix0
open scoped BigOperators

/-- The product of the transposed left operand with the right one. -/
def G (a : (⟨S2048x5632, .bf16⟩ : BufTy).Contents (Elt Ideal)) (d : (⟨S2048x2048, .bf16⟩ : BufTy).Contents (Elt Ideal)) : (⟨S5632x2048, .bf16⟩ : BufTy).Contents (Elt Ideal) :=
  fun i => ((∑ k : Fin 2048, (a (ValueIdx.ix2 k (i 0)) : EReal) * (d (ValueIdx.ix2 k (i 1)) : EReal) : EReal))

theorem pay (x : Vec Ideal S2048x1408 .bf16) (y : Vec Ideal S2048x1024 .bf16) (i : S1408x1024.Idx) :
    k0_pay1 x y i = ((∑ k : Fin 2048, (x (ValueIdx.ix2 k (i 0)) : EReal) * (y (ValueIdx.ix2 k (i 1)) : EReal) : EReal)) := by
  show matmul (F := Ideal) (φ₁ := .bf16) (φ₂ := .bf16) dot_S2048x1408_S2048x1024_S1408x1024_0_0_1_1_n_n none x y (constant S1408x1024 .f32 0x00000000#32) i = _
  refine (Ideal.matmul_constant_zero_apply (φ₁ := .bf16) (φ₂ := .bf16) dot_S2048x1408_S2048x1024_S1408x1024_0_0_1_1_n_n none x y i).trans ?_
  rw [← Equiv.sum_comp (contrEquiv1 dot_S2048x1408_S2048x1024_S1408x1024_0_0_1_1_n_n 2048 rfl rfl).symm]
  refine Finset.sum_congr rfl fun k _ => ?_
  have hk := contrEquiv1_symm_val dot_S2048x1408_S2048x1024_S1408x1024_0_0_1_1_n_n 2048 rfl rfl k
  refine congrArg₂ (fun p q : EReal => p * q) (congrArg x ?_) (congrArg y ?_)
  · funext a; apply Fin.ext
    match a with
    | ⟨0, _⟩ => exact hk
    | ⟨1, _⟩ => rfl
  · funext a; apply Fin.ext
    match a with
    | ⟨0, _⟩ => exact hk
    | ⟨1, _⟩ => rfl

theorem e0 : ∀ t : Fin cfg0.N, win0_0.index t 0 = 0 ∧ win0_0.index t 1 = win0_2.index t 0 := (by decide +kernel : ∀ t : Fin grid0.N, _)
theorem e1 : ∀ t : Fin cfg0.N, win0_1.index t 0 = 0 ∧ win0_1.index t 1 = win0_2.index t 1 := (by decide +kernel : ∀ t : Fin grid0.N, _)

variable (m : (ℓ : Loc nD τ sig) → Buf (Elt Ideal) ℓ) (c : Dev nD)

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1⟩ := e1 t
  refine congrArg₂ (fun p q : EReal => p * q) (congrArg (V m c main_arg0) ?_) (congrArg (V m c main_arg1) ?_)
  · funext a; apply Fin.ext
    match a with
    | ⟨0, _⟩ => show win0_0.index t 0 * 2048 + 1 * k.val = k.val; omega
    | ⟨1, _⟩ => show win0_0.index t 1 * 1408 + 1 * (y 0).val = win0_2.index t 0 * 1408 + 1 * (y 0).val; omega
  · funext a; apply Fin.ext
    match a with
    | ⟨0, _⟩ => show win0_1.index t 0 * 2048 + 1 * k.val = k.val; omega
    | ⟨1, _⟩ => show win0_1.index t 1 * 1024 + 1 * (y 1).val = win0_2.index t 1 * 1024 + 1 * (y 1).val; omega

theorem ref (x0 : (⟨S2048x5632, .bf16⟩ : BufTy).Contents (Elt Ideal)) (x1 : (⟨S2048x2048, .bf16⟩ : BufTy).Contents (Elt Ideal)) :
    Cert.DownDwRefIdeal.Read.val_main_v7 (F := Ideal) x0 x1 = G x0 x1 := by
  funext i
  show Cert.DownDwRefIdeal.Read.val_main_v5 (F := Ideal) x0 x1 i = _
  rw [Cert.DownDwRefIdeal.Read.val_main_v5_apply, Cert.DownDwRefIdeal.Read.val_main_v4_apply]
  refine Finset.sum_congr (M := EReal) rfl fun k _ => ?_
  rw [mul_comm]
  refine congrArg₂ (fun p q : EReal => p * q) (congrArg x0 ?_) (congrArg x1 ?_)
  · funext a
    match a with
    | ⟨0, _⟩ => rfl
    | ⟨1, _⟩ => rfl
  · funext a
    match a with
    | ⟨0, _⟩ => rfl
    | ⟨1, _⟩ => rfl

end Cert.DownDwVal

end
-- ==== Proof.DownDxVal.lean ====
/-
  The input gradient of the down projection: the kernel's result and the reference's are the same product.
-/
module

public import proofs.«01_k».proof.Proof.Gen.DownDxIdeal.Value
public import proofs.«01_k».proof.Proof.Gen.DownDxRefIdeal.Read
public import Idealize.ShloMosaic.Lib.Pipeline.ValueKit

@[expose] public section

set_option maxRecDepth 16384

noncomputable section

namespace Cert.DownDxVal

open Cert.DownDxIdeal Cert.DownDxIdeal.Gen Idealize.ShloMosaic Idealize.ShloMosaic.TcCoe Idealize.SL.Sem
open Idealize.ShloMosaic.ValueIdx hiding ix2 eq_ix2 ix1 eq_ix1 ix0 eq_ix0
open scoped BigOperators

/-- The product of the left operand with the transposed right one. -/
def G (a : (⟨S2048x2048, .bf16⟩ : BufTy).Contents (Elt Ideal)) (d : (⟨S5632x2048, .bf16⟩ : BufTy).Contents (Elt Ideal)) : (⟨S2048x5632, .f32⟩ : BufTy).Contents (Elt Ideal) :=
  fun i => ((∑ k : Fin 2048, (a (ValueIdx.ix2 (i 0) k) : EReal) * (d (ValueIdx.ix2 (i 1) k) : EReal) : EReal))

theorem pay (x : Vec Ideal S1024x2048 .bf16) (y : Vec Ideal S1408x2048 .bf16) (i : S1024x1408.Idx) :
    k0_pay1 x y i = ((∑ k : Fin 2048, (x (ValueIdx.ix2 (i 0) k) : EReal) * (y (ValueIdx.ix2 (i 1) k) : EReal) : EReal)) := by
  show matmul (F := Ideal) (φ₁ := .bf16) (φ₂ := .bf16) dot_S1024x2048_S1408x2048_S1024x1408_1_1_0_0_n_n none x y (constant S1024x1408 .f32 0x00000000#32) i = _
  refine (Ideal.matmul_constant_zero_apply (φ₁ := .bf16) (φ₂ := .bf16) dot_S1024x2048_S1408x2048_S1024x1408_1_1_0_0_n_n none x y i).trans ?_
  rw [← Equiv.sum_comp (contrEquiv1 dot_S1024x2048_S1408x2048_S1024x1408_1_1_0_0_n_n 2048 rfl rfl).symm]
  refine Finset.sum_congr rfl fun k _ => ?_
  have hk := contrEquiv1_symm_val dot_S1024x2048_S1408x2048_S1024x1408_1_1_0_0_n_n 2048 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => rfl
    | ⟨1, _⟩ => exact hk

theorem e0 : ∀ t : Fin cfg0.N, win0_0.index t 1 = 0 ∧ win0_0.index t 0 = win0_2.index t 0 := (by decide +kernel : ∀ t : Fin grid0.N, _)
theorem e1 : ∀ t : Fin cfg0.N, win0_1.index t 1 = 0 ∧ win0_1.index t 0 = win0_2.index t 1 := (by decide +kernel : ∀ t : Fin grid0.N, _)

variable (m : (ℓ : Loc nD τ sig) → Buf (Elt Ideal) ℓ) (c : Dev nD)

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1⟩ := e1 t
  refine congrArg₂ (fun p q : EReal => p * q) (congrArg (V m c main_arg0) ?_) (congrArg (V m c main_arg1) ?_)
  · funext a; apply Fin.ext
    match a with
    | ⟨0, _⟩ => show win0_0.index t 0 * 1024 + 1 * (y 0).val = win0_2.index t 0 * 1024 + 1 * (y 0).val; omega
    | ⟨1, _⟩ => show win0_0.index t 1 * 2048 + 1 * k.val = k.val; omega
  · funext a; apply Fin.ext
    match a with
    | ⟨0, _⟩ => show win0_1.index t 0 * 1408 + 1 * (y 1).val = win0_2.index t 1 * 1408 + 1 * (y 1).val; omega
    | ⟨1, _⟩ => show win0_1.index t 1 * 2048 + 1 * k.val = k.val; omega

theorem ref (x0 : (⟨S2048x2048, .bf16⟩ : BufTy).Contents (Elt Ideal)) (x1 : (⟨S5632x2048, .bf16⟩ : BufTy).Contents (Elt Ideal)) :
    Cert.DownDxRefIdeal.Read.val_main_v6 (F := Ideal) x0 x1 = G x0 x1 := by
  funext i
  rw [Cert.DownDxRefIdeal.Read.val_main_v6_apply]
  refine Finset.sum_congr (M := EReal) rfl fun k _ => ?_
  refine congrArg₂ (fun p q : EReal => p * q) (congrArg x0 ?_) (congrArg x1 ?_)
  · funext a
    match a with
    | ⟨0, _⟩ => rfl
    | ⟨1, _⟩ => rfl
  · funext a
    match a with
    | ⟨0, _⟩ => rfl
    | ⟨1, _⟩ => rfl

end Cert.DownDxVal

end
-- ==== Proof.UpVal.lean ====
/-
  The up projection: the kernel and the reference are the same product.
-/
module

public import proofs.«01_k».proof.Proof.Gen.UpIdeal.Value
public import proofs.«01_k».proof.Proof.Gen.UpRefIdeal.Read
public import proofs.«01_k».proof.Proof.Prod
public import Idealize.ShloMosaic.Lib.ValueLayout

@[expose] public section

set_option maxRecDepth 16384

noncomputable section

namespace Cert.UpVal

open Cert.UpIdeal Cert.UpIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The product of the input with the eight column blocks of the weight laid side by side. -/
def G (a : (⟨S2048x2048, .bf16⟩ : BufTy).Contents (Elt Ideal)) (d : (⟨S8x2048x1408, .bf16⟩ : BufTy).Contents (Elt Ideal)) : (⟨S2048x11264, .f32⟩ : BufTy).Contents (Elt Ideal) :=
  fun i => ((∑ k : Fin 2048, (a (ValueIdx.ix2 (i 0) k) : EReal) * Prod.eighths d k (i 1).val : EReal))

theorem mm (x : FVec Ideal S1024x2048 .bf16) (y : FVec Ideal S2048x1408 .bf16) (i : S1024x1408.Idx) :
    matmul (F := Ideal) (φ₁ := .bf16) (φ₂ := .bf16) dot_S1024x2048_S2048x1408_S1024x1408_1_0_0_1_n_n none x y (constant S1024x1408 .f32 0x00000000#32) i = ((∑ k : Fin 2048, (x (ValueIdx.ix2 (i 0) k) : EReal) * (y (ValueIdx.ix2 k (i 1)) : EReal) : EReal)) := by
  refine (Ideal.matmul_constant_zero_apply (φ₁ := .bf16) (φ₂ := .bf16) dot_S1024x2048_S2048x1408_S1024x1408_1_0_0_1_n_n none x y i).trans ?_
  rw [← Equiv.sum_comp (contrEquiv1 dot_S1024x2048_S2048x1408_S1024x1408_1_0_0_1_n_n 2048 rfl rfl).symm]
  refine Finset.sum_congr rfl fun k _ => ?_
  have hk := contrEquiv1_symm_val dot_S1024x2048_S2048x1408_S1024x1408_1_0_0_1_n_n 2048 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => exact hk
    | ⟨1, _⟩ => rfl

theorem pay (x : Vec Ideal S1024x2048 .bf16) (y : Vec Ideal S1x2048x1408 .bf16) (i : S1024x1408.Idx) :
    k0_pay1 x y i = ((∑ k : Fin 2048, (x (ValueIdx.ix2 (i 0) k) : EReal) * (y (ValueIdx.ix3 0 k (i 1)) : EReal) : EReal)) := by
  refine (mm x (shapeCast S2048x1408 y shapeCasts_S1x2048x1408_S2048x1408) i).trans ?_
  refine Finset.sum_congr (M := EReal) rfl fun k _ => ?_
  exact congrArg (fun z : EReal => (x (ValueIdx.ix2 (i 0) k) : EReal) * z) (shapeCast_1ab_ab_apply y shapeCasts_S1x2048x1408_S2048x1408 k (i 1))

theorem e0 : ∀ t : Fin cfg0.N, win0_0.index t 1 = 0 ∧ win0_0.index t 0 = win0_2.index t 0 := (by decide +kernel : ∀ t : Fin grid0.N, _)
theorem e1 : ∀ t : Fin cfg0.N, win0_1.index t 0 = win0_2.index t 1 ∧ win0_1.index t 1 = 0 ∧ win0_1.index t 2 = 0 ∧ win0_2.index t 1 < 8 := (by decide +kernel : ∀ t : Fin grid0.N, _)

variable (m : (ℓ : Loc nD τ sig) → Buf (Elt Ideal) ℓ) (c : Dev nD)

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1, q2, q3⟩ := e1 t
  have h1 : (y 1).val < 1408 := (y 1).isLt
  refine congrArg₂ (fun p q : EReal => p * q) (congrArg (V m c main_arg0) ?_) (congrArg (V m c main_arg1) ?_)
  · funext a; apply Fin.ext
    match a with
    | ⟨0, _⟩ => show win0_0.index t 0 * 1024 + 1 * (y 0).val = win0_2.index t 0 * 1024 + 1 * (y 0).val; omega
    | ⟨1, _⟩ => show win0_0.index t 1 * 2048 + 1 * k.val = k.val; omega
  · funext a; apply Fin.ext
    match a with
    | ⟨0, _⟩ => show win0_1.index t 0 * 1 + 1 * 0 = (win0_2.index t 1 * 1408 + 1 * (y 1).val) / 1408 % 8; omega
    | ⟨1, _⟩ => show win0_1.index t 1 * 2048 + 1 * k.val = k.val; omega
    | ⟨2, _⟩ => show win0_1.index t 2 * 1408 + 1 * (y 1).val = (win0_2.index t 1 * 1408 + 1 * (y 1).val) % 1408; omega

open Cert.UpRefIdeal.Read in
/-- The eight column blocks of the weight side by side, at a row and a column. -/
theorem ref_eighths (x1 : (⟨S8x2048x1408, .bf16⟩ : BufTy).Contents (Elt Ideal)) (k : Fin 2048) (q : Fin 11264) :
    val_main_v1 (F := Ideal) x1 (ValueIdx.ix2 k q) = Prod.eighths x1 k q.val := by
  have hk := k.isLt
  have hq := q.isLt
  rw [val_main_v1_apply, val_main_v0_apply]
  refine congrArg x1 ?_
  funext a; apply Fin.ext
  match a with
  | ⟨0, _⟩ => show (k.val * 11264 + q.val) / 1408 % 8 = q.val / 1408 % 8; omega
  | ⟨1, _⟩ => show (k.val * 11264 + q.val) / 11264 = k.val; omega
  | ⟨2, _⟩ => show (k.val * 11264 + q.val) % 1408 = q.val % 1408; omega

open Cert.UpRefIdeal.Read in
theorem ref (x0 : (⟨S2048x2048, .bf16⟩ : BufTy).Contents (Elt Ideal)) (x1 : (⟨S8x2048x1408, .bf16⟩ : BufTy).Contents (Elt Ideal)) :
    val_main_v4 (F := Ideal) x0 x1 = G x0 x1 := by
  funext i
  rw [val_main_v4_apply]
  refine Finset.sum_congr (M := EReal) rfl fun k _ => ?_
  refine congrArg₂ (fun p q : EReal => p * q) (congrArg x0 ?_) ?_
  · funext a
    match a with
    | ⟨0, _⟩ => rfl
    | ⟨1, _⟩ => rfl
  · refine Eq.trans (congrArg (val_main_v1 (F := Ideal) x1) ?_) (ref_eighths x1 k (i 1))
    funext a
    match a with
    | ⟨0, _⟩ => rfl
    | ⟨1, _⟩ => rfl

end Cert.UpVal

end
-- ==== Proof.DownVal.lean ====
/-
  The down projection with the gated sum: the kernel, accumulated over two blocks of the contracted axis, and the
  reference are the same product, and the same sum.
-/
module

public import proofs.«01_k».proof.Proof.Gen.DownIdeal.Value
public import proofs.«01_k».proof.Proof.Gen.DownRefIdeal.Read
public import proofs.«01_k».proof.Proof.Prod
public import Idealize.ShloMosaic.Lib.ValueLayout

@[expose] public section

set_option maxRecDepth 16384

noncomputable section

namespace Cert.DownVal

open Cert.DownIdeal Cert.DownIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- One product of the sum. -/
def term (a : (⟨S2048x5632, .bf16⟩ : BufTy).Contents (Elt Ideal)) (w : (⟨S5632x2048, .bf16⟩ : BufTy).Contents (Elt Ideal)) (i : Fin 2048) (j : Fin 2048) (k : ℕ) : EReal :=
  (a (ValueIdx.ix2 i (Fin.ofNat 5632 k)) : EReal) * (w (ValueIdx.ix2 (Fin.ofNat 5632 k) j) : EReal)

/-- The product, the second result. -/
def H (a : (⟨S2048x5632, .bf16⟩ : BufTy).Contents (Elt Ideal)) (w : (⟨S5632x2048, .bf16⟩ : BufTy).Contents (Elt Ideal)) : (⟨S2048x2048, .bf16⟩ : BufTy).Contents (Elt Ideal) :=
  fun i => ((∑ k ∈ Finset.range 5632, term a w (i 0) (i 1) k : EReal))

/-- The residual plus the gate times the product, the first result. -/
def G (a : (⟨S2048x5632, .bf16⟩ : BufTy).Contents (Elt Ideal)) (w : (⟨S5632x2048, .bf16⟩ : BufTy).Contents (Elt Ideal)) (x : (⟨S2048x2048, .f32⟩ : BufTy).Contents (Elt Ideal)) (g : (⟨S1x2048, .f32⟩ : BufTy).Contents (Elt Ideal)) : (⟨S2048x2048, .f32⟩ : BufTy).Contents (Elt Ideal) :=
  fun i => ((x i : EReal) + (g (ValueIdx.ix2 0 (i 1)) : EReal) * (∑ k ∈ Finset.range 5632, term a w (i 0) (i 1) k) : EReal)

theorem mm (x : FVec Ideal S1024x2816 .bf16) (y : FVec Ideal S2816x1024 .bf16) (i : S1024x1024.Idx) :
    matmul (F := Ideal) (φ₁ := .bf16) (φ₂ := .bf16) dot_S1024x2816_S2816x1024_S1024x1024_1_0_0_1_n_n none x y (constant S1024x1024 .f32 0x00000000#32) i = ((∑ k : Fin 2816, (x (ValueIdx.ix2 (i 0) k) : EReal) * (y (ValueIdx.ix2 k (i 1)) : EReal) : EReal)) := by
  refine (Ideal.matmul_constant_zero_apply (φ₁ := .bf16) (φ₂ := .bf16) dot_S1024x2816_S2816x1024_S1024x1024_1_0_0_1_n_n none x y i).trans ?_
  rw [← Equiv.sum_comp (contrEquiv1 dot_S1024x2816_S2816x1024_S1024x1024_1_0_0_1_n_n 2816 rfl rfl).symm]
  refine Finset.sum_congr rfl fun k _ => ?_
  have hk := contrEquiv1_symm_val dot_S1024x2816_S2816x1024_S1024x1024_1_0_0_1_n_n 2816 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => exact hk
    | ⟨1, _⟩ => rfl

/-- The product of one block of the contracted axis. -/
def part (x : Vec Ideal S1024x2816 .bf16) (y : Vec Ideal S2816x1024 .bf16) (i : S1024x1024.Idx) : EReal :=
  ∑ k : Fin 2816, (x (ValueIdx.ix2 (i 0) k) : EReal) * (y (ValueIdx.ix2 k (i 1)) : EReal)

theorem pay1 (x : Vec Ideal S1024x2816 .bf16) (y : Vec Ideal S2816x1024 .bf16) (i : S1024x1024.Idx) :
    k0_pay1 x y i = part x y i := by
  unfold k0_pay1
  rw [shapeCast_self]
  exact mm x y i

theorem pay3 (v : Vec Ideal S1024x1024 .f32) (x : Vec Ideal S1024x2816 .bf16) (y : Vec Ideal S2816x1024 .bf16) (i : S1024x1024.Idx) :
    k0_pay3 v x y i = ((v i : EReal) + part x y i : EReal) :=
  congrArg (fun z : EReal => (v i : EReal) + z) (mm x y i)

theorem gate (v : Vec Ideal S1x1024 .f32) (i : S1024x1024.Idx) :
    broadcastTo S1024x1024 v broadcasts_S1x1024_S1024x1024 i = v (ValueIdx.ix2 0 (i 1)) :=
  broadcastTo_apply v broadcasts_S1x1024_S1024x1024 i (ValueIdx.ix2 0 (i 1)) fun a => match a with
    | ⟨0, _⟩ => rfl
    | ⟨1, _⟩ => rfl

theorem pay4 (v : Vec Ideal S1024x1024 .f32) (x : Vec Ideal S1024x2816 .bf16) (y : Vec Ideal S2816x1024 .bf16) (u : Vec Ideal S1024x1024 .f32) (g : Vec Ideal S1x1024 .f32) (i : S1024x1024.Idx) :
    k0_pay4 v x y u g i = ((u i : EReal) + (g (ValueIdx.ix2 0 (i 1)) : EReal) * ((v i : EReal) + part x y i) : EReal) :=
  congrArg (fun z : EReal => (u i : EReal) + z) (congrArg₂ (fun p q : EReal => p * q) (gate g i) (pay3 v x y i))

theorem pay5 (v : Vec Ideal S1024x1024 .f32) (x : Vec Ideal S1024x2816 .bf16) (y : Vec Ideal S2816x1024 .bf16) (i : S1024x1024.Idx) :
    k0_pay5 v x y i = ((v i : EReal) + part x y i : EReal) := pay3 v x y i

theorem e0 : ∀ t : Fin cfg0.N, win0_0.index t 0 = t.val / 4 ∧ win0_0.index t 1 = t.val % 2 := (by decide +kernel : ∀ t : Fin grid0.N, _)
theorem e1 : ∀ t : Fin cfg0.N, win0_1.index t 0 = t.val % 2 ∧ win0_1.index t 1 = t.val / 2 % 2 := (by decide +kernel : ∀ t : Fin grid0.N, _)
theorem e2 : ∀ t : Fin cfg0.N, win0_2.index t 0 = t.val / 4 ∧ win0_2.index t 1 = t.val / 2 % 2 := (by decide +kernel : ∀ t : Fin grid0.N, _)
theorem e3 : ∀ t : Fin cfg0.N, win0_3.index t 0 = 0 ∧ win0_3.index t 1 = t.val / 2 % 2 := (by decide +kernel : ∀ t : Fin grid0.N, _)
theorem e4 : ∀ t : Fin cfg0.N, win0_4.index t 0 = t.val / 4 ∧ win0_4.index t 1 = t.val / 2 % 2 := (by decide +kernel : ∀ t : Fin grid0.N, _)
theorem e5 : ∀ t : Fin cfg0.N, win0_5.index t 0 = t.val / 4 ∧ win0_5.index t 1 = t.val / 2 % 2 := (by decide +kernel : ∀ t : Fin grid0.N, _)
theorem points : cfg0.N = 8 := (by decide +kernel : grid0.N = 8)

variable (m : (ℓ : Loc nD τ sig) → Buf (Elt Ideal) ℓ) (c : Dev nD)

/-- The row of the result that row `r` of point `n`'s block is. -/
def row (n : ℕ) (r : Fin 1024) : Fin 2048 := Fin.ofNat 2048 (n / 4 * 1024 + r.val)

/-- The column of the result that column `r` of point `n`'s block is. -/
def col (n : ℕ) (r : Fin 1024) : Fin 2048 := Fin.ofNat 2048 (n / 2 % 2 * 1024 + r.val)

theorem part_term (t : Fin cfg0.N) (i : S1024x1024.Idx) :
    part (iblk m c 0 t) (iblk m c 1 t) i = ∑ k : Fin 2816, term (V m c main_arg0) (V m c main_arg1) (row t.val (i 0)) (col t.val (i 1)) (2816 * (t.val % 2) + k.val) := by
  refine Finset.sum_congr (M := EReal) rfl fun k _ => ?_
  obtain ⟨p0, p1⟩ := e0 t
  obtain ⟨q0, q1⟩ := e1 t
  have hk := k.isLt
  have ht := lt_of_lt_of_eq t.isLt points
  have hr : (i 0).val < 1024 := (i 0).isLt
  have hs : (i 1).val < 1024 := (i 1).isLt
  refine congrArg₂ (fun p q : EReal => p * q) (congrArg (V m c main_arg0) ?_) (congrArg (V m c main_arg1) ?_)
  · funext a; apply Fin.ext
    match a with
    | ⟨0, _⟩ => show win0_0.index t 0 * 1024 + 1 * (i 0).val = (t.val / 4 * 1024 + (i 0).val) % 2048; omega
    | ⟨1, _⟩ => show win0_0.index t 1 * 2816 + 1 * k.val = (2816 * (t.val % 2) + k.val) % 5632; omega
  · funext a; apply Fin.ext
    match a with
    | ⟨0, _⟩ => show win0_1.index t 0 * 2816 + 1 * k.val = (2816 * (t.val % 2) + k.val) % 5632; omega
    | ⟨1, _⟩ => show win0_1.index t 1 * 1024 + 1 * (i 1).val = (t.val / 2 % 2 * 1024 + (i 1).val) % 2048; omega

/-- After the first block the accumulator holds the sum over it. -/
theorem acc (n : ℕ) (hn : n < cfg0.N) (h0 : n % 2 = 0) (i : S1024x1024.Idx) :
    (outsAt0 m c n hn).2.2 i = ((∑ k ∈ Finset.range (2816 * 1), term (V m c main_arg0) (V m c main_arg1) (row n (i 0)) (col n (i 1)) k : EReal)) := by
  rw [outsAt0_A m c ⟨n, hn⟩ h0 (by show ¬n % 2 = 1; omega)]
  dsimp only
  frame_out
  refine (pay1 _ _ i).trans ((part_term m c ⟨n, hn⟩ i).trans ?_)
  rw [Prod.sum_first]
  refine Finset.sum_congr rfl fun k _ => ?_
  refine congrArg (term _ _ _ _) ?_
  show 2816 * (n % 2) + k.val = k.val
  omega

/-- The accumulator and the last block's product together are the whole sum. -/
theorem whole (t : Fin cfg0.N) (h1 : t.val % 2 = 1) (h : t.val - 1 < cfg0.N) (y : S1024x1024.Idx) :
    ((outsAt0 m c (t.val - 1) h).2.2 y : EReal) + part (iblk m c 0 t) (iblk m c 1 t) y = ((∑ k ∈ Finset.range 5632, term (V m c main_arg0) (V m c main_arg1) (row t.val (y 0)) (col t.val (y 1)) k : EReal)) := by
  refine (congrArg₂ (fun p q : EReal => p + q) (acc m c (t.val - 1) h (by omega) y) (part_term m c t y)).trans ?_
  have er : row (t.val - 1) (y 0) = row t.val (y 0) := by unfold row; rw [show (t.val - 1) / 4 = t.val / 4 by omega]
  have ec : col (t.val - 1) (y 1) = col t.val (y 1) := by unfold col; rw [show (t.val - 1) / 2 = t.val / 2 by omega]
  rw [er, ec, h1]
  exact (Prod.sum_block _ 2816 1).symm

theorem final : (dats m 0 c).arrAt 4 cfg0.N = G (V m c main_arg0) (V m c main_arg1) (V m c main_arg2) (V m c main_arg3) := by
  refine (dats m 0 c).arrAt_eq_of_covers 4 _ (by decide +kernel) fun t hf y => ?_
  have h1 : t.val % 2 = 1 := (flush0_4 t).mp hf
  have ht := lt_of_lt_of_eq t.isLt points
  blk_simp
  rw [after0_4, outsAt0_B m c t (by omega) h1]
  dsimp only
  frame_out
  refine (pay4 _ _ _ _ _ y).trans ?_
  obtain ⟨r0, r1⟩ := e2 t
  obtain ⟨s0, s1⟩ := e3 t
  obtain ⟨u0, u1⟩ := e4 t
  have hr : (y 0).val < 1024 := (y 0).isLt
  have hs : (y 1).val < 1024 := (y 1).isLt
  refine congrArg₂ (fun p q : EReal => p + q) (congrArg (V m c main_arg2) ?_) (congrArg₂ (fun p q : EReal => p * q) (congrArg (V m c main_arg3) ?_) ((congrArg (fun z : EReal => z + part (iblk m c 0 t) (iblk m c 1 t) y) (congrFun ((Memref.isWhole_whole cc0_scratch0).read_unread _) y)).trans ((whole m c t h1 _ y).trans ?_)))
  · funext a; apply Fin.ext
    match a with
    | ⟨0, _⟩ => show win0_2.index t 0 * 1024 + 1 * (y 0).val = win0_4.index t 0 * 1024 + 1 * (y 0).val; omega
    | ⟨1, _⟩ => show win0_2.index t 1 * 1024 + 1 * (y 1).val = win0_4.index t 1 * 1024 + 1 * (y 1).val; omega
  · funext a; apply Fin.ext
    match a with
    | ⟨0, _⟩ => show win0_3.index t 0 * 1 + 1 * 0 = 0; omega
    | ⟨1, _⟩ => show win0_3.index t 1 * 1024 + 1 * (y 1).val = win0_4.index t 1 * 1024 + 1 * (y 1).val; omega
  · refine congrArg₂ (fun (p q : Fin 2048) => ∑ k ∈ Finset.range 5632, term (V m c main_arg0) (V m c main_arg1) p q k) ?_ ?_
    · apply Fin.ext
      show (t.val / 4 * 1024 + (y 0).val) % 2048 = win0_4.index t 0 * 1024 + 1 * (y 0).val
      omega
    · apply Fin.ext
      show (t.val / 2 % 2 * 1024 + (y 1).val) % 2048 = win0_4.index t 1 * 1024 + 1 * (y 1).val
      omega

theorem final5 : (dats m 0 c).arrAt 5 cfg0.N = H (V m c main_arg0) (V m c main_arg1) := by
  refine (dats m 0 c).arrAt_eq_of_covers 5 _ (by decide +kernel) fun t hf y => ?_
  have h1 : t.val % 2 = 1 := (flush0_5 t).mp hf
  have ht := lt_of_lt_of_eq t.isLt points
  blk_simp
  rw [after0_5, outsAt0_B m c t (by omega) h1]
  dsimp only
  frame_out
  refine (pay5 _ _ _ y).trans ?_
  obtain ⟨r0, r1⟩ := e2 t
  obtain ⟨s0, s1⟩ := e3 t
  obtain ⟨u0, u1⟩ := e5 t
  have hr : (y 0).val < 1024 := (y 0).isLt
  have hs : (y 1).val < 1024 := (y 1).isLt
  refine (congrArg (fun z : EReal => z + part (iblk m c 0 t) (iblk m c 1 t) y) (congrFun ((Memref.isWhole_whole cc0_scratch0).read_unread _) y)).trans ((whole m c t h1 _ y).trans ?_)
  · refine congrArg₂ (fun (p q : Fin 2048) => ∑ k ∈ Finset.range 5632, term (V m c main_arg0) (V m c main_arg1) p q k) ?_ ?_
    · apply Fin.ext
      show (t.val / 4 * 1024 + (y 0).val) % 2048 = win0_5.index t 0 * 1024 + 1 * (y 0).val
      omega
    · apply Fin.ext
      show (t.val / 2 % 2 * 1024 + (y 1).val) % 2048 = win0_5.index t 1 * 1024 + 1 * (y 1).val
      omega

theorem ref5 (x0 : (⟨S2048x5632, .bf16⟩ : BufTy).Contents (Elt Ideal)) (x1 : (⟨S5632x2048, .bf16⟩ : BufTy).Contents (Elt Ideal)) :
    Cert.DownRefIdeal.Read.val_main_v6 (F := Ideal) x0 x1 = H x0 x1 := by
  funext i
  show Cert.DownRefIdeal.Read.val_main_v2 (F := Ideal) x0 x1 i = _
  rw [Cert.DownRefIdeal.Read.val_main_v2_apply]
  refine Eq.trans ?_ (Finset.sum_range fun k => term x0 x1 (i 0) (i 1) k).symm
  refine Finset.sum_congr (M := EReal) rfl fun k _ => ?_
  have hk := k.isLt
  refine congrArg₂ (fun p q : EReal => p * q) (congrArg x0 ?_) (congrArg x1 ?_)
  · funext a; apply Fin.ext
    match a with
    | ⟨0, _⟩ => rfl
    | ⟨1, _⟩ => show k.val = k.val % 5632; omega
  · funext a; apply Fin.ext
    match a with
    | ⟨0, _⟩ => show k.val = k.val % 5632; omega
    | ⟨1, _⟩ => rfl

theorem ref (x0 : (⟨S2048x5632, .bf16⟩ : BufTy).Contents (Elt Ideal)) (x1 : (⟨S5632x2048, .bf16⟩ : BufTy).Contents (Elt Ideal)) (x2 : (⟨S2048x2048, .f32⟩ : BufTy).Contents (Elt Ideal)) (x3 : (⟨S1x2048, .f32⟩ : BufTy).Contents (Elt Ideal)) :
    Cert.DownRefIdeal.Read.val_main_v5 (F := Ideal) x0 x1 x2 x3 = G x0 x1 x2 x3 := by
  funext i
  refine congrArg (fun z : EReal => (x2 i : EReal) + z) (congrArg₂ (fun p q : EReal => p * q) ?_ (congrFun (ref5 x0 x1) i))
  refine (Cert.DownRefIdeal.Read.val_main_v3_apply x3 i).trans (congrArg x3 ?_)
  funext a
  match a with
  | ⟨0, _⟩ => rfl
  | ⟨1, _⟩ => rfl

end Cert.DownVal

end
-- ==== Proof.QkvDxVal.lean ====
/-
  The gradient of the attention input projection with respect to its input: the kernel, accumulated over three blocks of
  the contracted axis, and the reference are the same product.
-/
module

public import proofs.«01_k».proof.Proof.Gen.QkvDxIdeal.Value
public import proofs.«01_k».proof.Proof.Gen.QkvDxRefIdeal.Read
public import proofs.«01_k».proof.Proof.Prod
public import Idealize.ShloMosaic.Lib.ValueLayout

@[expose] public section

set_option maxRecDepth 16384

noncomputable section

namespace Cert.QkvDxVal

open Cert.QkvDxIdeal Cert.QkvDxIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- One product of the sum. -/
def term (a : (⟨S2048x6144, .bf16⟩ : BufTy).Contents (Elt Ideal)) (w : (⟨S6152x2048, .bf16⟩ : BufTy).Contents (Elt Ideal)) (i : Fin 2048) (j : Fin 2048) (k : ℕ) : EReal :=
  (a (ValueIdx.ix2 i (Fin.ofNat 6144 k)) : EReal) * (w (ValueIdx.ix2 (Fin.ofNat 6152 k) j) : EReal)

/-- The product of the gradient with the first 6144 rows of the transposed weight. -/
def G (a : (⟨S2048x6144, .bf16⟩ : BufTy).Contents (Elt Ideal)) (w : (⟨S6152x2048, .bf16⟩ : BufTy).Contents (Elt Ideal)) : (⟨S2048x2048, .f32⟩ : BufTy).Contents (Elt Ideal) :=
  fun i => ((∑ k ∈ Finset.range 6144, term a w (i 0) (i 1) k : EReal))

theorem mm (x : FVec Ideal S1024x2048 .bf16) (y : FVec Ideal S2048x1024 .bf16) (i : S1024x1024.Idx) :
    matmul (F := Ideal) (φ₁ := .bf16) (φ₂ := .bf16) dot_S1024x2048_S2048x1024_S1024x1024_1_0_0_1_n_n none x y (constant S1024x1024 .f32 0x00000000#32) i = ((∑ k : Fin 2048, (x (ValueIdx.ix2 (i 0) k) : EReal) * (y (ValueIdx.ix2 k (i 1)) : EReal) : EReal)) := by
  refine (Ideal.matmul_constant_zero_apply (φ₁ := .bf16) (φ₂ := .bf16) dot_S1024x2048_S2048x1024_S1024x1024_1_0_0_1_n_n none x y i).trans ?_
  rw [← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => exact hk
    | ⟨1, _⟩ => rfl

/-- The product of one block of the contracted axis. -/
def part (x : Vec Ideal S1024x2048 .bf16) (y : Vec Ideal S2048x1024 .bf16) (i : S1024x1024.Idx) : EReal :=
  ∑ k : Fin 2048, (x (ValueIdx.ix2 (i 0) k) : EReal) * (y (ValueIdx.ix2 k (i 1)) : EReal)

theorem pay1 (x : Vec Ideal S1024x2048 .bf16) (y : Vec Ideal S2048x1024 .bf16) (i : S1024x1024.Idx) :
    k0_pay1 x y i = part x y i := by
  unfold k0_pay1
  rw [shapeCast_self]
  exact mm x y i

theorem pay2 (v : Vec Ideal S1024x1024 .f32) (x : Vec Ideal S1024x2048 .bf16) (y : Vec Ideal S2048x1024 .bf16) (i : S1024x1024.Idx) :
    k0_pay2 v x y i = ((v i : EReal) + part x y i : EReal) := by
  unfold k0_pay2
  rw [shapeCast_self]
  exact congrArg (fun z : EReal => (v i : EReal) + z) (mm x y i)

theorem pay3 (v : Vec Ideal S1024x1024 .f32) (x : Vec Ideal S1024x2048 .bf16) (y : Vec Ideal S2048x1024 .bf16) (i : S1024x1024.Idx) :
    k0_pay3 v x y i = ((v i : EReal) + part x y i : EReal) :=
  congrArg (fun z : EReal => (v i : EReal) + z) (mm x y i)

theorem e0 : ∀ t : Fin cfg0.N, win0_0.index t 0 = t.val / 6 ∧ win0_0.index t 1 = t.val % 3 := (by decide +kernel : ∀ t : Fin grid0.N, _)
theorem e1 : ∀ t : Fin cfg0.N, win0_1.index t 0 = t.val % 3 ∧ win0_1.index t 1 = t.val / 3 % 2 := (by decide +kernel : ∀ t : Fin grid0.N, _)
theorem e2 : ∀ t : Fin cfg0.N, win0_2.index t 0 = t.val / 6 ∧ win0_2.index t 1 = t.val / 3 % 2 := (by decide +kernel : ∀ t : Fin grid0.N, _)
theorem points : cfg0.N = 12 := (by decide +kernel : grid0.N = 12)

variable (m : (ℓ : Loc nD τ sig) → Buf (Elt Ideal) ℓ) (c : Dev nD)

/-- The row of the result that row `r` of point `n`'s block is. -/
def row (n : ℕ) (r : Fin 1024) : Fin 2048 := Fin.ofNat 2048 (n / 6 * 1024 + r.val)

/-- The column of the result that column `r` of point `n`'s block is. -/
def col (n : ℕ) (r : Fin 1024) : Fin 2048 := Fin.ofNat 2048 (n / 3 % 2 * 1024 + r.val)

/-- The block of the weight the kernel reads at a point. -/
theorem block (t : Fin cfg0.N) (p : Fin 2048) (q : Fin 1024) :
    X0_1 m c t (ValueIdx.ix2 p q) = V m c main_arg1 (ValueIdx.ix2 (Fin.ofNat 6152 (2048 * (t.val % 3) + p.val)) (col t.val q)) := by
  unfold X0_1 Pipeline.Window.fill
  rw [dif_pos (moved0_1 t (ValueIdx.ix2 p q))]
  obtain ⟨q0, q1⟩ := e1 t
  have hp := p.isLt
  have hq := q.isLt
  refine congrArg (V m c main_arg1) ?_
  funext a; apply Fin.ext
  match a with
  | ⟨0, _⟩ => show win0_1.index t 0 * 2048 + 1 * p.val = (2048 * (t.val % 3) + p.val) % 6152; omega
  | ⟨1, _⟩ => show win0_1.index t 1 * 1024 + 1 * q.val = (t.val / 3 % 2 * 1024 + q.val) % 2048; omega

theorem part_term (t : Fin cfg0.N) (i : S1024x1024.Idx) :
    part (iblk m c 0 t) (X0_1 m c t) i = ∑ k : Fin 2048, term (V m c main_arg0) (V m c main_arg1) (row t.val (i 0)) (col t.val (i 1)) (2048 * (t.val % 3) + k.val) := by
  refine Finset.sum_congr (M := EReal) rfl fun k _ => ?_
  obtain ⟨p0, p1⟩ := e0 t
  have hk := k.isLt
  have ht := lt_of_lt_of_eq t.isLt points
  have hr : (i 0).val < 1024 := (i 0).isLt
  refine congrArg₂ (fun p q : EReal => p * q) (congrArg (V m c main_arg0) ?_) (block m c t k (i 1))
  funext a; apply Fin.ext
  match a with
  | ⟨0, _⟩ => show win0_0.index t 0 * 1024 + 1 * (i 0).val = (t.val / 6 * 1024 + (i 0).val) % 2048; omega
  | ⟨1, _⟩ => show win0_0.index t 1 * 2048 + 1 * k.val = (2048 * (t.val % 3) + k.val) % 6144; omega

/-- After a block that is not the last the accumulator holds the sum over the blocks so far. -/
theorem acc (n : ℕ) (hn : n < cfg0.N) (h2 : ¬ n % 3 = 2) (i : S1024x1024.Idx) :
    (outsAt0 m c n hn).2 i = ((∑ k ∈ Finset.range (2048 * (n % 3 + 1)), term (V m c main_arg0) (V m c main_arg1) (row n (i 0)) (col n (i 1)) k : EReal)) := by
  induction n with
  | zero =>
    rw [outsAt0_A m c ⟨0, hn⟩ (Nat.zero_mod _) (by show ¬0 % 3 = 1; omega) h2]
    dsimp only
    frame_out
    refine (pay1 _ _ i).trans ((part_term m c ⟨0, hn⟩ i).trans ?_)
    refine Eq.trans ?_ (Prod.sum_block (term (V m c main_arg0) (V m c main_arg1) (row 0 (i 0)) (col 0 (i 1))) 2048 0).symm
    rw [Nat.mul_zero, Finset.range_zero, Finset.sum_empty, zero_add]
    refine Finset.sum_congr rfl fun k _ => ?_
    show term _ _ _ _ (0 + k.val) = term _ _ _ _ (0 + k.val)
    rfl
  | succ n ih =>
    by_cases h0 : (n + 1) % 3 = 0
    · rw [outsAt0_A m c ⟨n + 1, hn⟩ h0 (by show ¬(n + 1) % 3 = 1; omega) h2]
      dsimp only
      frame_out
      refine (pay1 _ _ i).trans ((part_term m c ⟨n + 1, hn⟩ i).trans ?_)
      rw [Prod.sum_block]
      show _ = (∑ k ∈ Finset.range (2048 * ((n + 1) % 3)), _) + _
      rw [h0, Nat.mul_zero, Finset.range_zero, Finset.sum_empty, zero_add]
    · rw [outsAt0_B m c ⟨n + 1, hn⟩ h0 (by show (n + 1) % 3 = 1; omega) h2]
      dsimp only
      frame_out
      refine (pay2 _ _ _ i).trans ?_
      rw [Prod.sum_block, part_term m c ⟨n + 1, hn⟩ i]
      have e : (outsAt0 m c n (Nat.lt_of_succ_lt hn)).2 i = _ := ih (Nat.lt_of_succ_lt hn) (by omega)
      have e8 : n % 3 + 1 = (n + 1) % 3 := by omega
      have er : row n (i 0) = row (n + 1) (i 0) := by unfold row; rw [show n / 6 = (n + 1) / 6 by omega]
      have ec : col n (i 1) = col (n + 1) (i 1) := by unfold col; rw [show n / 3 = (n + 1) / 3 by omega]
      rw [e8, er, ec] at e
      exact congrArg (fun z : EReal => z + _) ((congrFun ((Memref.isWhole_whole cc0_scratch0).read_unread _) i).trans e)

theorem final : (dats m 0 c).arrAt 2 cfg0.N = G (V m c main_arg0) (V m c main_arg1) := by
  refine (dats m 0 c).arrAt_eq_of_covers 2 _ (by decide +kernel) fun t hf y => ?_
  have h2 : t.val % 3 = 2 := (flush0_2 t).mp hf
  have ht := lt_of_lt_of_eq t.isLt points
  blk_simp
  rw [after0_2, outsAt0_C m c t (by omega) (by omega) h2]
  dsimp only
  frame_out
  refine (pay3 _ _ _ y).trans ?_
  refine (congrArg₂ (fun p q : EReal => p + q) ((congrFun ((Memref.isWhole_whole cc0_scratch0).read_unread _) y).trans (acc m c (t.val - 1) _ (by omega) y)) (part_term m c t y)).trans ?_
  obtain ⟨p0, p1⟩ := e2 t
  have hr : (y 0).val < 1024 := (y 0).isLt
  have hs : (y 1).val < 1024 := (y 1).isLt
  have er : row (t.val - 1) (y 0) = row t.val (y 0) := by unfold row; rw [show (t.val - 1) / 6 = t.val / 6 by omega]
  have ec : col (t.val - 1) (y 1) = col t.val (y 1) := by unfold col; rw [show (t.val - 1) / 3 = t.val / 3 by omega]
  rw [er, ec, show (t.val - 1) % 3 + 1 = 2 by omega, h2]
  refine (Prod.sum_block _ 2048 2).symm.trans ?_
  refine congrArg₂ (fun (p q : Fin 2048) => ∑ k ∈ Finset.range 6144, term (V m c main_arg0) (V m c main_arg1) p q k) ?_ ?_
  · apply Fin.ext
    show (t.val / 6 * 1024 + (y 0).val) % 2048 = win0_2.index t 0 * 1024 + 1 * (y 0).val
    omega
  · apply Fin.ext
    show (t.val / 3 % 2 * 1024 + (y 1).val) % 2048 = win0_2.index t 1 * 1024 + 1 * (y 1).val
    omega

open Cert.QkvDxRefIdeal.Read in
theorem ref (x0 : (⟨S2048x6144, .bf16⟩ : BufTy).Contents (Elt Ideal)) (x1 : (⟨S6152x2048, .bf16⟩ : BufTy).Contents (Elt Ideal)) :
    val_main_v8 (F := Ideal) x0 x1 = G x0 x1 := by
  funext i
  rw [val_main_v8_apply]
  refine Eq.trans ?_ (Finset.sum_range fun k => term x0 x1 (i 0) (i 1) k).symm
  refine Finset.sum_congr (M := EReal) rfl fun k _ => ?_
  have hk := k.isLt
  refine congrArg₂ (fun p q : EReal => p * q) (congrArg x0 ?_) ?_
  · funext a; apply Fin.ext
    match a with
    | ⟨0, _⟩ => rfl
    | ⟨1, _⟩ => show k.val = k.val % 6144; omega
  · show val_main_v2 (F := Ideal) x1 _ = _
    rw [val_main_v2_apply, val_main_v1_apply]
    refine congrArg x1 ?_
    funext a; apply Fin.ext
    match a with
    | ⟨0, _⟩ => show k.val = k.val % 6152; omega
    | ⟨1, _⟩ => rfl

end Cert.QkvDxVal

end
-- ==== Proof.QkvDwVal.lean ====
/-
  The gradient of the attention input projection with respect to its transposed weight: the kernel and the reference are the same product.
-/
module

public import proofs.«01_k».proof.Proof.Gen.QkvDwIdeal.Value
public import proofs.«01_k».proof.Proof.Gen.QkvDwRefIdeal.Read
public import proofs.«01_k».proof.Proof.Prod
public import Idealize.ShloMosaic.Lib.ValueLayout

@[expose] public section

set_option maxRecDepth 16384

noncomputable section

namespace Cert.QkvDwVal

open Cert.QkvDwIdeal Cert.QkvDwIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The product of the transposed left operand with the right one. -/
def G (a : (⟨S2048x6144, .bf16⟩ : BufTy).Contents (Elt Ideal)) (d : (⟨S2048x2048, .bf16⟩ : BufTy).Contents (Elt Ideal)) : (⟨S6144x2048, .bf16⟩ : BufTy).Contents (Elt Ideal) :=
  fun i => ((∑ k : Fin 2048, (a (ValueIdx.ix2 k (i 0)) : EReal) * (d (ValueIdx.ix2 k (i 1)) : EReal) : EReal))

theorem mm (x : FVec Ideal S2048x1024 .bf16) (y : FVec Ideal S2048x1024 .bf16) (i : S1024x1024.Idx) :
    matmul (F := Ideal) (φ₁ := .bf16) (φ₂ := .bf16) dot_S2048x1024_S2048x1024_S1024x1024_0_0_1_1_n_n none x y (constant S1024x1024 .f32 0x00000000#32) i = ((∑ k : Fin 2048, (x (ValueIdx.ix2 k (i 0)) : EReal) * (y (ValueIdx.ix2 k (i 1)) : EReal) : EReal)) := by
  refine (Ideal.matmul_constant_zero_apply (φ₁ := .bf16) (φ₂ := .bf16) dot_S2048x1024_S2048x1024_S1024x1024_0_0_1_1_n_n none x y i).trans ?_
  rw [← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  refine congrArg₂ (fun p q : EReal => p * q) (congrArg x ?_) (congrArg y ?_)
  · funext a; apply Fin.ext
    match a with
    | ⟨0, _⟩ => exact hk
    | ⟨1, _⟩ => rfl
  · funext a; apply Fin.ext
    match a with
    | ⟨0, _⟩ => exact hk
    | ⟨1, _⟩ => rfl

theorem pay (x : Vec Ideal S2048x1024 .bf16) (y : Vec Ideal S2048x1024 .bf16) (i : S1024x1024.Idx) :
    k0_pay1 x y i = ((∑ k : Fin 2048, (x (ValueIdx.ix2 k (i 0)) : EReal) * (y (ValueIdx.ix2 k (i 1)) : EReal) : EReal)) :=
  mm x y i

theorem e0 : ∀ t : Fin cfg0.N, win0_0.index t 0 = 0 ∧ win0_0.index t 1 = win0_2.index t 0 := (by decide +kernel : ∀ t : Fin grid0.N, _)
theorem e1 : ∀ t : Fin cfg0.N, win0_1.index t 0 = 0 ∧ win0_1.index t 1 = win0_2.index t 1 := (by decide +kernel : ∀ t : Fin grid0.N, _)

variable (m : (ℓ : Loc nD τ sig) → Buf (Elt Ideal) ℓ) (c : Dev nD)

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1⟩ := e1 t
  refine congrArg₂ (fun p q : EReal => p * q) (congrArg (V m c main_arg0) ?_) (congrArg (V m c main_arg1) ?_)
  · funext a; apply Fin.ext
    match a with
    | ⟨0, _⟩ => show win0_0.index t 0 * 2048 + 1 * k.val = k.val; omega
    | ⟨1, _⟩ => show win0_0.index t 1 * 1024 + 1 * (y 0).val = win0_2.index t 0 * 1024 + 1 * (y 0).val; omega
  · funext a; apply Fin.ext
    match a with
    | ⟨0, _⟩ => show win0_1.index t 0 * 2048 + 1 * k.val = k.val; omega
    | ⟨1, _⟩ => show win0_1.index t 1 * 1024 + 1 * (y 1).val = win0_2.index t 1 * 1024 + 1 * (y 1).val; omega

theorem ref (x0 : (⟨S2048x6144, .bf16⟩ : BufTy).Contents (Elt Ideal)) (x1 : (⟨S2048x2048, .bf16⟩ : BufTy).Contents (Elt Ideal)) :
    Cert.QkvDwRefIdeal.Read.val_main_v8 (F := Ideal) x0 x1 = G x0 x1 := by
  funext i
  show Cert.QkvDwRefIdeal.Read.val_main_v7 (F := Ideal) x0 x1 i = _
  rw [Cert.QkvDwRefIdeal.Read.val_main_v7_apply, Cert.QkvDwRefIdeal.Read.val_main_v5_apply, Cert.QkvDwRefIdeal.Read.val_main_v4_apply]
  refine Finset.sum_congr (M := EReal) rfl fun k _ => ?_
  refine congrArg₂ (fun p q : EReal => p * q) (congrArg x0 ?_) (congrArg x1 ?_)
  · funext a
    match a with
    | ⟨0, _⟩ => rfl
    | ⟨1, _⟩ => rfl
  · funext a
    match a with
    | ⟨0, _⟩ => rfl
    | ⟨1, _⟩ => rfl

end Cert.QkvDwVal

end
-- ==== Proof.QkvVal.lean ====
/-
  The attention input projection: the kernel and the reference are the same product.
-/
module

public import proofs.«01_k».proof.Proof.Gen.QkvIdeal.Value
public import proofs.«01_k».proof.Proof.Gen.QkvRefIdeal.Read
public import proofs.«01_k».proof.Proof.Prod
public import Idealize.ShloMosaic.Lib.ValueLayout

@[expose] public section

set_option maxRecDepth 16384

noncomputable section

namespace Cert.QkvVal

open Cert.QkvIdeal Cert.QkvIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The product of the input with the first 6144 rows of the transposed weight. -/
def G (a : (⟨S2048x2048, .bf16⟩ : BufTy).Contents (Elt Ideal)) (d : (⟨S6152x2048, .bf16⟩ : BufTy).Contents (Elt Ideal)) : (⟨S2048x6144, .bf16⟩ : BufTy).Contents (Elt Ideal) :=
  fun i => ((∑ k : Fin 2048, (a (ValueIdx.ix2 (i 0) k) : EReal) * (d (ValueIdx.ix2 (Fin.ofNat 6152 (i 1).val) k) : EReal) : EReal))

theorem mm (x : FVec Ideal S1024x2048 .bf16) (y : FVec Ideal S1024x2048 .bf16) (i : S1024x1024.Idx) :
    matmul (F := Ideal) (φ₁ := .bf16) (φ₂ := .bf16) dot_S1024x2048_S1024x2048_S1024x1024_1_1_0_0_n_n none x y (constant S1024x1024 .f32 0x00000000#32) i = ((∑ k : Fin 2048, (x (ValueIdx.ix2 (i 0) k) : EReal) * (y (ValueIdx.ix2 (i 1) k) : EReal) : EReal)) := by
  refine (Ideal.matmul_constant_zero_apply (φ₁ := .bf16) (φ₂ := .bf16) dot_S1024x2048_S1024x2048_S1024x1024_1_1_0_0_n_n none x y i).trans ?_
  rw [← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => rfl
    | ⟨1, _⟩ => exact hk

theorem pay (x : Vec Ideal S1024x2048 .bf16) (y : Vec Ideal S1024x2048 .bf16) (i : S1024x1024.Idx) :
    k0_pay1 x y i = ((∑ k : Fin 2048, (x (ValueIdx.ix2 (i 0) k) : EReal) * (y (ValueIdx.ix2 (i 1) k) : EReal) : EReal)) :=
  mm x y i

theorem e0 : ∀ t : Fin cfg0.N, win0_0.index t 1 = 0 ∧ win0_0.index t 0 = win0_2.index t 0 := (by decide +kernel : ∀ t : Fin grid0.N, _)
theorem e1 : ∀ t : Fin cfg0.N, win0_1.index t 1 = 0 ∧ win0_1.index t 0 = win0_2.index t 1 ∧ win0_2.index t 1 < 6 := (by decide +kernel : ∀ t : Fin grid0.N, _)

variable (m : (ℓ : Loc nD τ sig) → Buf (Elt Ideal) ℓ) (c : Dev nD)

/-- The block of the weight the kernel reads at a point. -/
theorem block (t : Fin cfg0.N) (p : Fin 1024) (k : Fin 2048) :
    X0_1 m c t (ValueIdx.ix2 p k) = V m c main_arg1 (ValueIdx.ix2 (Fin.ofNat 6152 (win0_1.index t 0 * 1024 + p.val)) k) := by
  unfold X0_1 Pipeline.Window.fill
  rw [dif_pos (moved0_1 t (ValueIdx.ix2 p k))]
  obtain ⟨q0, q1, q2⟩ := e1 t
  have hp := p.isLt
  refine congrArg (V m c main_arg1) ?_
  funext a; apply Fin.ext
  match a with
  | ⟨0, _⟩ => show win0_1.index t 0 * 1024 + 1 * p.val = (win0_1.index t 0 * 1024 + p.val) % 6152; omega
  | ⟨1, _⟩ => show win0_1.index t 1 * 2048 + 1 * k.val = k.val; omega

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1, q2⟩ := e1 t
  refine congrArg₂ (fun p q : EReal => p * q) (congrArg (V m c main_arg0) ?_) ((block m c t (y 1) k).trans (congrArg (V m c main_arg1) ?_))
  · funext a; apply Fin.ext
    match a with
    | ⟨0, _⟩ => show win0_0.index t 0 * 1024 + 1 * (y 0).val = win0_2.index t 0 * 1024 + 1 * (y 0).val; omega
    | ⟨1, _⟩ => show win0_0.index t 1 * 2048 + 1 * k.val = k.val; omega
  · funext a; apply Fin.ext
    match a with
    | ⟨0, _⟩ => show (win0_1.index t 0 * 1024 + (y 1).val) % 6152 = (win0_2.index t 1 * 1024 + 1 * (y 1).val) % 6152; omega
    | ⟨1, _⟩ => rfl

open Cert.QkvRefIdeal.Read in
theorem ref (x0 : (⟨S2048x2048, .bf16⟩ : BufTy).Contents (Elt Ideal)) (x1 : (⟨S6152x2048, .bf16⟩ : BufTy).Contents (Elt Ideal)) :
    val_main_v5 (F := Ideal) x0 x1 = G x0 x1 := by
  funext i
  have h1 : (i 1).val < 6144 := (i 1).isLt
  show val_main_v4 (F := Ideal) x0 x1 i = _
  rw [val_main_v4_apply]
  refine Finset.sum_congr (M := EReal) rfl fun k _ => ?_
  refine congrArg₂ (fun p q : EReal => p * q) (congrArg x0 ?_) ?_
  · funext a
    match a with
    | ⟨0, _⟩ => rfl
    | ⟨1, _⟩ => rfl
  · show val_main_v2 (F := Ideal) x1 _ = _
    rw [val_main_v2_apply, val_main_v1_apply]
    refine congrArg x1 ?_
    funext a; apply Fin.ext
    match a with
    | ⟨0, _⟩ => show (i 1).val = (i 1).val % 6152; omega
    | ⟨1, _⟩ => rfl

end Cert.QkvVal

end
-- ==== Proof.OutDxVal.lean ====
/-
  The gradient of the attention output projection with respect to its input: the kernel and the reference are the same product.
-/
module

public import proofs.«01_k».proof.Proof.Gen.OutDxIdeal.Value
public import proofs.«01_k».proof.Proof.Gen.OutDxRefIdeal.Read
public import proofs.«01_k».proof.Proof.Prod
public import Idealize.ShloMosaic.Lib.ValueLayout

@[expose] public section

set_option maxRecDepth 16384

noncomputable section

namespace Cert.OutDxVal

open Cert.OutDxIdeal Cert.OutDxIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The product of the left operand with the transposed right one. -/
def G (a : (⟨S2048x2048, .bf16⟩ : BufTy).Contents (Elt Ideal)) (d : (⟨S2048x2048, .bf16⟩ : BufTy).Contents (Elt Ideal)) : (⟨S2048x2048, .bf16⟩ : BufTy).Contents (Elt Ideal) :=
  fun i => ((∑ k : Fin 2048, (a (ValueIdx.ix2 (i 0) k) : EReal) * (d (ValueIdx.ix2 (i 1) k) : EReal) : EReal))

theorem mm (x : FVec Ideal S1024x2048 .bf16) (y : FVec Ideal S1024x2048 .bf16) (i : S1024x1024.Idx) :
    matmul (F := Ideal) (φ₁ := .bf16) (φ₂ := .bf16) dot_S1024x2048_S1024x2048_S1024x1024_1_1_0_0_n_n none x y (constant S1024x1024 .f32 0x00000000#32) i = ((∑ k : Fin 2048, (x (ValueIdx.ix2 (i 0) k) : EReal) * (y (ValueIdx.ix2 (i 1) k) : EReal) : EReal)) := by
  refine (Ideal.matmul_constant_zero_apply (φ₁ := .bf16) (φ₂ := .bf16) dot_S1024x2048_S1024x2048_S1024x1024_1_1_0_0_n_n none x y i).trans ?_
  rw [← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => rfl
    | ⟨1, _⟩ => exact hk

theorem pay (x : Vec Ideal S1024x2048 .bf16) (y : Vec Ideal S1024x2048 .bf16) (i : S1024x1024.Idx) :
    k0_pay1 x y i = ((∑ k : Fin 2048, (x (ValueIdx.ix2 (i 0) k) : EReal) * (y (ValueIdx.ix2 (i 1) k) : EReal) : EReal)) :=
  mm x y i

theorem e0 : ∀ t : Fin cfg0.N, win0_0.index t 1 = 0 ∧ win0_0.index t 0 = win0_2.index t 0 := (by decide +kernel : ∀ t : Fin grid0.N, _)
theorem e1 : ∀ t : Fin cfg0.N, win0_1.index t 1 = 0 ∧ win0_1.index t 0 = win0_2.index t 1 := (by decide +kernel : ∀ t : Fin grid0.N, _)

variable (m : (ℓ : Loc nD τ sig) → Buf (Elt Ideal) ℓ) (c : Dev nD)

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1⟩ := e1 t
  refine congrArg₂ (fun p q : EReal => p * q) (congrArg (V m c main_arg0) ?_) (congrArg (V m c main_arg1) ?_)
  · funext a; apply Fin.ext
    match a with
    | ⟨0, _⟩ => show win0_0.index t 0 * 1024 + 1 * (y 0).val = win0_2.index t 0 * 1024 + 1 * (y 0).val; omega
    | ⟨1, _⟩ => show win0_0.index t 1 * 2048 + 1 * k.val = k.val; omega
  · funext a; apply Fin.ext
    match a with
    | ⟨0, _⟩ => show win0_1.index t 0 * 1024 + 1 * (y 1).val = win0_2.index t 1 * 1024 + 1 * (y 1).val; omega
    | ⟨1, _⟩ => show win0_1.index t 1 * 2048 + 1 * k.val = k.val; omega

theorem ref (x0 : (⟨S2048x2048, .bf16⟩ : BufTy).Contents (Elt Ideal)) (x1 : (⟨S2048x2048, .bf16⟩ : BufTy).Contents (Elt Ideal)) :
    Cert.OutDxRefIdeal.Read.val_main_v7 (F := Ideal) x0 x1 = G x0 x1 := by
  funext i
  show Cert.OutDxRefIdeal.Read.val_main_v6 (F := Ideal) x0 x1 i = _
  rw [Cert.OutDxRefIdeal.Read.val_main_v6_apply]
  refine Finset.sum_congr (M := EReal) rfl fun k _ => ?_
  refine congrArg₂ (fun p q : EReal => p * q) (congrArg x0 ?_) (congrArg x1 ?_)
  · funext a
    match a with
    | ⟨0, _⟩ => rfl
    | ⟨1, _⟩ => rfl
  · funext a
    match a with
    | ⟨0, _⟩ => rfl
    | ⟨1, _⟩ => rfl

end Cert.OutDxVal

end
-- ==== Proof.OutDwVal.lean ====
/-
  The gradient of the attention output projection with respect to its weight: the kernel and the reference are the same product.
-/
module

public import proofs.«01_k».proof.Proof.Gen.OutDwIdeal.Value
public import proofs.«01_k».proof.Proof.Gen.OutDwRefIdeal.Read
public import proofs.«01_k».proof.Proof.Prod
public import Idealize.ShloMosaic.Lib.ValueLayout

@[expose] public section

set_option maxRecDepth 16384

noncomputable section

namespace Cert.OutDwVal

open Cert.OutDwIdeal Cert.OutDwIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The product of the transposed left operand with the right one. -/
def G (a : (⟨S2048x2048, .bf16⟩ : BufTy).Contents (Elt Ideal)) (d : (⟨S2048x2048, .bf16⟩ : BufTy).Contents (Elt Ideal)) : (⟨S2048x2048, .bf16⟩ : BufTy).Contents (Elt Ideal) :=
  fun i => ((∑ k : Fin 2048, (a (ValueIdx.ix2 k (i 0)) : EReal) * (d (ValueIdx.ix2 k (i 1)) : EReal) : EReal))

theorem mm (x : FVec Ideal S2048x1024 .bf16) (y : FVec Ideal S2048x1024 .bf16) (i : S1024x1024.Idx) :
    matmul (F := Ideal) (φ₁ := .bf16) (φ₂ := .bf16) dot_S2048x1024_S2048x1024_S1024x1024_0_0_1_1_n_n none x y (constant S1024x1024 .f32 0x00000000#32) i = ((∑ k : Fin 2048, (x (ValueIdx.ix2 k (i 0)) : EReal) * (y (ValueIdx.ix2 k (i 1)) : EReal) : EReal)) := by
  refine (Ideal.matmul_constant_zero_apply (φ₁ := .bf16) (φ₂ := .bf16) dot_S2048x1024_S2048x1024_S1024x1024_0_0_1_1_n_n none x y i).trans ?_
  rw [← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  refine congrArg₂ (fun p q : EReal => p * q) (congrArg x ?_) (congrArg y ?_)
  · funext a; apply Fin.ext
    match a with
    | ⟨0, _⟩ => exact hk
    | ⟨1, _⟩ => rfl
  · funext a; apply Fin.ext
    match a with
    | ⟨0, _⟩ => exact hk
    | ⟨1, _⟩ => rfl

theorem pay (x : Vec Ideal S2048x1024 .bf16) (y : Vec Ideal S2048x1024 .bf16) (i : S1024x1024.Idx) :
    k0_pay1 x y i = ((∑ k : Fin 2048, (x (ValueIdx.ix2 k (i 0)) : EReal) * (y (ValueIdx.ix2 k (i 1)) : EReal) : EReal)) :=
  mm x y i

theorem e0 : ∀ t : Fin cfg0.N, win0_0.index t 0 = 0 ∧ win0_0.index t 1 = win0_2.index t 0 := (by decide +kernel : ∀ t : Fin grid0.N, _)
theorem e1 : ∀ t : Fin cfg0.N, win0_1.index t 0 = 0 ∧ win0_1.index t 1 = win0_2.index t 1 := (by decide +kernel : ∀ t : Fin grid0.N, _)

variable (m : (ℓ : Loc nD τ sig) → Buf (Elt Ideal) ℓ) (c : Dev nD)

theorem final : (dats m 0 c).arrAt 2 cfg0.N = G (V m c main_arg0) (V m c main_arg1) := by
  refine (dats m 0 c).arrAt_eq_of_covers 2 _ (by decide +kernel) fun t hf y => ?_
  blk_simp
  rw [after0_2]
  unfold outsAt0
  frame_out
  refine (pay _ _ y).trans ?_
  refine Finset.sum_congr (M := EReal) rfl fun k _ => ?_
  obtain ⟨p0, p1⟩ := e0 t
  obtain ⟨q0, q1⟩ := e1 t
  refine congrArg₂ (fun p q : EReal => p * q) (congrArg (V m c main_arg0) ?_) (congrArg (V m c main_arg1) ?_)
  · funext a; apply Fin.ext
    match a with
    | ⟨0, _⟩ => show win0_0.index t 0 * 2048 + 1 * k.val = k.val; omega
    | ⟨1, _⟩ => show win0_0.index t 1 * 1024 + 1 * (y 0).val = win0_2.index t 0 * 1024 + 1 * (y 0).val; omega
  · funext a; apply Fin.ext
    match a with
    | ⟨0, _⟩ => show win0_1.index t 0 * 2048 + 1 * k.val = k.val; omega
    | ⟨1, _⟩ => show win0_1.index t 1 * 1024 + 1 * (y 1).val = win0_2.index t 1 * 1024 + 1 * (y 1).val; omega

theorem ref (x0 : (⟨S2048x2048, .bf16⟩ : BufTy).Contents (Elt Ideal)) (x1 : (⟨S2048x2048, .bf16⟩ : BufTy).Contents (Elt Ideal)) :
    Cert.OutDwRefIdeal.Read.val_main_v7 (F := Ideal) x0 x1 = G x0 x1 := by
  funext i
  show Cert.OutDwRefIdeal.Read.val_main_v5 (F := Ideal) x0 x1 i = _
  rw [Cert.OutDwRefIdeal.Read.val_main_v5_apply, Cert.OutDwRefIdeal.Read.val_main_v4_apply]
  refine Finset.sum_congr (M := EReal) rfl fun k _ => ?_
  rw [mul_comm]
  refine congrArg₂ (fun p q : EReal => p * q) (congrArg x0 ?_) (congrArg x1 ?_)
  · funext a
    match a with
    | ⟨0, _⟩ => rfl
    | ⟨1, _⟩ => rfl
  · funext a
    match a with
    | ⟨0, _⟩ => rfl
    | ⟨1, _⟩ => rfl

end Cert.OutDwVal

end
-- ==== Proof.OutVal.lean ====
/-
  The attention output projection with the gated sum: the kernel and the reference are the same product, and the same sum.
-/
module

public import proofs.«01_k».proof.Proof.Gen.OutIdeal.Value
public import proofs.«01_k».proof.Proof.Gen.OutRefIdeal.Read
public import proofs.«01_k».proof.Proof.Prod
public import Idealize.ShloMosaic.Lib.ValueLayout

@[expose] public section

set_option maxRecDepth 16384

noncomputable section

namespace Cert.OutVal

open Cert.OutIdeal Cert.OutIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The product, the second result. -/
def H (a : (⟨S2048x2048, .bf16⟩ : BufTy).Contents (Elt Ideal)) (w : (⟨S2048x2048, .bf16⟩ : BufTy).Contents (Elt Ideal)) : (⟨S2048x2048, .bf16⟩ : BufTy).Contents (Elt Ideal) :=
  fun i => ((∑ k : Fin 2048, (a (ValueIdx.ix2 (i 0) k) : EReal) * (w (ValueIdx.ix2 k (i 1)) : EReal) : EReal))

/-- The residual plus the gate times the product, the first result. -/
def G (a : (⟨S2048x2048, .bf16⟩ : BufTy).Contents (Elt Ideal)) (w : (⟨S2048x2048, .bf16⟩ : BufTy).Contents (Elt Ideal)) (x : (⟨S2048x2048, .f32⟩ : BufTy).Contents (Elt Ideal)) (g : (⟨S1x2048, .f32⟩ : BufTy).Contents (Elt Ideal)) : (⟨S2048x2048, .f32⟩ : BufTy).Contents (Elt Ideal) :=
  fun i => ((x i : EReal) + (g (ValueIdx.ix2 0 (i 1)) : EReal) * (∑ k : Fin 2048, (a (ValueIdx.ix2 (i 0) k) : EReal) * (w (ValueIdx.ix2 k (i 1)) : EReal)) : EReal)

theorem mm (x : FVec Ideal S1024x2048 .bf16) (y : FVec Ideal S2048x1024 .bf16) (i : S1024x1024.Idx) :
    matmul (F := Ideal) (φ₁ := .bf16) (φ₂ := .bf16) dot_S1024x2048_S2048x1024_S1024x1024_1_0_0_1_n_n none x y (constant S1024x1024 .f32 0x00000000#32) i = ((∑ k : Fin 2048, (x (ValueIdx.ix2 (i 0) k) : EReal) * (y (ValueIdx.ix2 k (i 1)) : EReal) : EReal)) := by
  refine (Ideal.matmul_constant_zero_apply (φ₁ := .bf16) (φ₂ := .bf16) dot_S1024x2048_S2048x1024_S1024x1024_1_0_0_1_n_n none x y i).trans ?_
  rw [← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => exact hk
    | ⟨1, _⟩ => rfl

theorem pay3 (x : Vec Ideal S1024x2048 .bf16) (y : Vec Ideal S2048x1024 .bf16) (i : S1024x1024.Idx) :
    k0_pay3 x y i = ((∑ k : Fin 2048, (x (ValueIdx.ix2 (i 0) k) : EReal) * (y (ValueIdx.ix2 k (i 1)) : EReal) : EReal)) :=
  mm x y i

theorem gate (v : Vec Ideal S1x1024 .f32) (i : S1024x1024.Idx) :
    broadcastTo S1024x1024 v broadcasts_S1x1024_S1024x1024 i = v (ValueIdx.ix2 0 (i 1)) :=
  broadcastTo_apply v broadcasts_S1x1024_S1024x1024 i (ValueIdx.ix2 0 (i 1)) fun a => match a with
    | ⟨0, _⟩ => rfl
    | ⟨1, _⟩ => rfl

theorem pay2 (x : Vec Ideal S1024x2048 .bf16) (y : Vec Ideal S2048x1024 .bf16) (u : Vec Ideal S1024x1024 .f32) (v : Vec Ideal S1x1024 .f32) (i : S1024x1024.Idx) :
    k0_pay2 x y u v i = ((u i : EReal) + (v (ValueIdx.ix2 0 (i 1)) : EReal) * (∑ k : Fin 2048, (x (ValueIdx.ix2 (i 0) k) : EReal) * (y (ValueIdx.ix2 k (i 1)) : EReal)) : EReal) :=
  congrArg (fun z : EReal => (u i : EReal) + z) (congrArg₂ (fun p q : EReal => p * q) (gate v i) (mm x y i))

theorem e0 : ∀ t : Fin cfg0.N, win0_0.index t 1 = 0 ∧ win0_0.index t 0 = win0_4.index t 0 := (by decide +kernel : ∀ t : Fin grid0.N, _)
theorem e1 : ∀ t : Fin cfg0.N, win0_1.index t 0 = 0 ∧ win0_1.index t 1 = win0_4.index t 1 := (by decide +kernel : ∀ t : Fin grid0.N, _)
theorem e2 : ∀ t : Fin cfg0.N, win0_2.index t 0 = win0_4.index t 0 ∧ win0_2.index t 1 = win0_4.index t 1 := (by decide +kernel : ∀ t : Fin grid0.N, _)
theorem e3 : ∀ t : Fin cfg0.N, win0_3.index t 0 = 0 ∧ win0_3.index t 1 = win0_4.index t 1 := (by decide +kernel : ∀ t : Fin grid0.N, _)
theorem e5 : ∀ t : Fin cfg0.N, win0_5.index t 0 = win0_4.index t 0 ∧ win0_5.index t 1 = win0_4.index t 1 := (by decide +kernel : ∀ t : Fin grid0.N, _)

variable (m : (ℓ : Loc nD τ sig) → Buf (Elt Ideal) ℓ) (c : Dev nD)

theorem final : (dats m 0 c).arrAt 4 cfg0.N = G (V m c main_arg0) (V m c main_arg1) (V m c main_arg2) (V m c main_arg3) := by
  refine (dats m 0 c).arrAt_eq_of_covers 4 _ (by decide +kernel) fun t hf y => ?_
  blk_simp
  rw [after0_4]
  unfold outsAt0
  dsimp only
  frame_out
  refine (pay2 _ _ _ _ y).trans ?_
  obtain ⟨p0, p1⟩ := e0 t
  obtain ⟨q0, q1⟩ := e1 t
  obtain ⟨r0, r1⟩ := e2 t
  obtain ⟨s0, s1⟩ := e3 t
  obtain ⟨u0, u1⟩ := e5 t
  refine congrArg₂ (fun p q : EReal => p + q) (congrArg (V m c main_arg2) ?_) (congrArg₂ (fun p q : EReal => p * q) (congrArg (V m c main_arg3) ?_) ?_)
  · funext a; apply Fin.ext
    match a with
    | ⟨0, _⟩ => show win0_2.index t 0 * 1024 + 1 * (y 0).val = win0_4.index t 0 * 1024 + 1 * (y 0).val; omega
    | ⟨1, _⟩ => show win0_2.index t 1 * 1024 + 1 * (y 1).val = win0_4.index t 1 * 1024 + 1 * (y 1).val; omega
  · funext a; apply Fin.ext
    match a with
    | ⟨0, _⟩ => show win0_3.index t 0 * 1 + 1 * 0 = 0; omega
    | ⟨1, _⟩ => show win0_3.index t 1 * 1024 + 1 * (y 1).val = win0_4.index t 1 * 1024 + 1 * (y 1).val; omega
  · refine Finset.sum_congr (M := EReal) rfl fun k _ => ?_
    refine congrArg₂ (fun p q : EReal => p * q) (congrArg (V m c main_arg0) ?_) (congrArg (V m c main_arg1) ?_)
    · funext a; apply Fin.ext
      match a with
      | ⟨0, _⟩ => show win0_0.index t 0 * 1024 + 1 * (y 0).val = win0_4.index t 0 * 1024 + 1 * (y 0).val; omega
      | ⟨1, _⟩ => show win0_0.index t 1 * 2048 + 1 * k.val = k.val; omega
    · funext a; apply Fin.ext
      match a with
      | ⟨0, _⟩ => show win0_1.index t 0 * 2048 + 1 * k.val = k.val; omega
      | ⟨1, _⟩ => show win0_1.index t 1 * 1024 + 1 * (y 1).val = win0_4.index t 1 * 1024 + 1 * (y 1).val; omega

theorem final5 : (dats m 0 c).arrAt 5 cfg0.N = H (V m c main_arg0) (V m c main_arg1) := by
  refine (dats m 0 c).arrAt_eq_of_covers 5 _ (by decide +kernel) fun t hf y => ?_
  blk_simp
  rw [after0_5]
  unfold outsAt0
  dsimp only
  frame_out
  refine (pay3 _ _ y).trans ?_
  obtain ⟨p0, p1⟩ := e0 t
  obtain ⟨q0, q1⟩ := e1 t
  obtain ⟨r0, r1⟩ := e2 t
  obtain ⟨s0, s1⟩ := e3 t
  obtain ⟨u0, u1⟩ := e5 t
  refine Finset.sum_congr (M := EReal) rfl fun k _ => ?_
  refine congrArg₂ (fun p q : EReal => p * q) (congrArg (V m c main_arg0) ?_) (congrArg (V m c main_arg1) ?_)
  · funext a; apply Fin.ext
    match a with
    | ⟨0, _⟩ => show win0_0.index t 0 * 1024 + 1 * (y 0).val = win0_5.index t 0 * 1024 + 1 * (y 0).val; omega
    | ⟨1, _⟩ => show win0_0.index t 1 * 2048 + 1 * k.val = k.val; omega
  · funext a; apply Fin.ext
    match a with
    | ⟨0, _⟩ => show win0_1.index t 0 * 2048 + 1 * k.val = k.val; omega
    | ⟨1, _⟩ => show win0_1.index t 1 * 1024 + 1 * (y 1).val = win0_5.index t 1 * 1024 + 1 * (y 1).val; omega

theorem ref5 (x0 : (⟨S2048x2048, .bf16⟩ : BufTy).Contents (Elt Ideal)) (x1 : (⟨S2048x2048, .bf16⟩ : BufTy).Contents (Elt Ideal)) :
    Cert.OutRefIdeal.Read.val_main_v6 (F := Ideal) x0 x1 = H x0 x1 := by
  funext i
  show Cert.OutRefIdeal.Read.val_main_v2 (F := Ideal) x0 x1 i = _
  rw [Cert.OutRefIdeal.Read.val_main_v2_apply]
  refine Finset.sum_congr (M := EReal) rfl fun k _ => ?_
  refine congrArg₂ (fun p q : EReal => p * q) (congrArg x0 ?_) (congrArg x1 ?_)
  · funext a
    match a with
    | ⟨0, _⟩ => rfl
    | ⟨1, _⟩ => rfl
  · funext a
    match a with
    | ⟨0, _⟩ => rfl
    | ⟨1, _⟩ => rfl

theorem ref (x0 : (⟨S2048x2048, .bf16⟩ : BufTy).Contents (Elt Ideal)) (x1 : (⟨S2048x2048, .bf16⟩ : BufTy).Contents (Elt Ideal)) (x2 : (⟨S2048x2048, .f32⟩ : BufTy).Contents (Elt Ideal)) (x3 : (⟨S1x2048, .f32⟩ : BufTy).Contents (Elt Ideal)) :
    Cert.OutRefIdeal.Read.val_main_v5 (F := Ideal) x0 x1 x2 x3 = G x0 x1 x2 x3 := by
  funext i
  refine congrArg (fun z : EReal => (x2 i : EReal) + z) (congrArg₂ (fun p q : EReal => p * q) ?_ (congrFun (ref5 x0 x1) i))
  refine (Cert.OutRefIdeal.Read.val_main_v3_apply x3 i).trans (congrArg x3 ?_)
  funext a
  match a with
  | ⟨0, _⟩ => rfl
  | ⟨1, _⟩ => rfl

end Cert.OutVal

end
-- ==== Proof.PoolBwdVal.lean ====
/-
  The gradients of the pooling map of each channel group: the kernel, whose weight gradient is accumulated over two blocks
  of rows, and the reference are the same products.
-/
module

public import proofs.«01_k».proof.Proof.Gen.PoolBwdIdeal.Value
public import proofs.«01_k».proof.Proof.Gen.PoolBwdRefIdeal.Read
public import proofs.«01_k».proof.Proof.Prod
public import Idealize.ShloMosaic.Lib.ValueLayout

@[expose] public section

set_option maxRecDepth 16384

noncomputable section

namespace Cert.PoolBwdVal

open Cert.PoolBwdIdeal Cert.PoolBwdIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The gradient of the pooled differences: within the group of the column, the gradient of the result times the transposed matrix. -/
def G (e : (⟨S2048x2048, .bf16⟩ : BufTy).Contents (Elt Ideal)) (w : (⟨S4x512x512, .bf16⟩ : BufTy).Contents (Elt Ideal)) : (⟨S2048x2048, .f32⟩ : BufTy).Contents (Elt Ideal) :=
  fun i => ((∑ k : Fin 512, (e (ValueIdx.ix2 (i 0) (Fin.ofNat 2048 ((i 1).val / 512 * 512 + k.val))) : EReal) * (w (ValueIdx.ix3 (Fin.ofNat 4 ((i 1).val / 512)) (Fin.ofNat 512 (i 1).val) k) : EReal) : EReal))

/-- One product of the weight gradient's sum, at a row. -/
def term (e : (⟨S2048x2048, .bf16⟩ : BufTy).Contents (Elt Ideal)) (d : (⟨S2048x2048, .bf16⟩ : BufTy).Contents (Elt Ideal)) (g : Fin 4) (p q : Fin 512) (k : ℕ) : EReal :=
  (d (ValueIdx.ix2 (Fin.ofNat 2048 k) (Fin.ofNat 2048 (g.val * 512 + p.val))) : EReal) * (e (ValueIdx.ix2 (Fin.ofNat 2048 k) (Fin.ofNat 2048 (g.val * 512 + q.val))) : EReal)

/-- The gradient of the groups' matrices: the transposed pooled differences times the gradient of the result. -/
def H (e : (⟨S2048x2048, .bf16⟩ : BufTy).Contents (Elt Ideal)) (d : (⟨S2048x2048, .bf16⟩ : BufTy).Contents (Elt Ideal)) : (⟨S4x512x512, .bf16⟩ : BufTy).Contents (Elt Ideal) :=
  fun i => ((∑ k ∈ Finset.range 2048, term e d (i 0) (i 1) (i 2) k : EReal))

theorem mm (x : FVec Ideal S1024x512 .bf16) (y : FVec Ideal S512x512 .bf16) (i : S1024x512.Idx) :
    matmul (F := Ideal) (φ₁ := .bf16) (φ₂ := .bf16) dot_S1024x512_S512x512_S1024x512_1_1_0_0_n_n none x y (constant S1024x512 .f32 0x00000000#32) i = ((∑ k : Fin 512, (x (ValueIdx.ix2 (i 0) k) : EReal) * (y (ValueIdx.ix2 (i 1) k) : EReal) : EReal)) := by
  refine (Ideal.matmul_constant_zero_apply (φ₁ := .bf16) (φ₂ := .bf16) dot_S1024x512_S512x512_S1024x512_1_1_0_0_n_n none x y i).trans ?_
  rw [← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => rfl
    | ⟨1, _⟩ => exact hk

theorem mmt (x : FVec Ideal S1024x512 .bf16) (y : FVec Ideal S1024x512 .bf16) (i : S512x512.Idx) :
    matmul (F := Ideal) (φ₁ := .bf16) (φ₂ := .bf16) dot_S1024x512_S1024x512_S512x512_0_0_1_1_n_n none x y (constant S512x512 .f32 0x00000000#32) i = ((∑ k : Fin 1024, (x (ValueIdx.ix2 k (i 0)) : EReal) * (y (ValueIdx.ix2 k (i 1)) : EReal) : EReal)) := by
  refine (Ideal.matmul_constant_zero_apply (φ₁ := .bf16) (φ₂ := .bf16) dot_S1024x512_S1024x512_S512x512_0_0_1_1_n_n none x y i).trans ?_
  rw [← Equiv.sum_comp (contrEquiv1 dot_S1024x512_S1024x512_S512x512_0_0_1_1_n_n 1024 rfl rfl).symm]
  refine Finset.sum_congr rfl fun k _ => ?_
  have hk := contrEquiv1_symm_val dot_S1024x512_S1024x512_S512x512_0_0_1_1_n_n 1024 rfl rfl k
  refine congrArg₂ (fun p q : EReal => p * q) (congrArg x ?_) (congrArg y ?_)
  · funext a; apply Fin.ext
    match a with
    | ⟨0, _⟩ => exact hk
    | ⟨1, _⟩ => rfl
  · funext a; apply Fin.ext
    match a with
    | ⟨0, _⟩ => exact hk
    | ⟨1, _⟩ => rfl

/-- The product of one block of rows. -/
def part (x : Vec Ideal S1024x512 .bf16) (y : Vec Ideal S1024x512 .bf16) (i : S512x512.Idx) : EReal :=
  ∑ k : Fin 1024, (x (ValueIdx.ix2 k (i 0)) : EReal) * (y (ValueIdx.ix2 k (i 1)) : EReal)

theorem pay1 (i : S512x512.Idx) : (k0_pay1 (F := Ideal)) i = (0 : EReal) := by
  unfold k0_pay1
  rw [shapeCast_self]
  exact Ideal.ofBits_zero_f32

theorem pay2 (x : Vec Ideal S1024x512 .bf16) (y : Vec Ideal S1x512x512 .bf16) (i : S1024x512.Idx) :
    k0_pay2 x y i = ((∑ k : Fin 512, (x (ValueIdx.ix2 (i 0) k) : EReal) * (y (ValueIdx.ix3 0 (i 1) k) : EReal) : EReal)) := by
  refine (mm x (shapeCast S512x512 y shapeCasts_S1x512x512_S512x512) i).trans ?_
  refine Finset.sum_congr (M := EReal) rfl fun k _ => ?_
  exact congrArg (fun z : EReal => (x (ValueIdx.ix2 (i 0) k) : EReal) * z) (shapeCast_1ab_ab_apply y shapeCasts_S1x512x512_S512x512 (i 1) k)

theorem pay3 (e : Vec Ideal S1024x512 .bf16) (v : Vec Ideal S512x512 .f32) (d : Vec Ideal S1024x512 .bf16) (i : S512x512.Idx) :
    k0_pay3 e v d i = ((v i : EReal) + part d e i : EReal) := by
  unfold k0_pay3
  rw [shapeCast_self]
  exact congrArg (fun z : EReal => (v i : EReal) + z) (mmt d e i)

theorem pay4 (v : Vec Ideal S512x512 .f32) (i : S1x512x512.Idx) :
    k0_pay4 v i = (v (ValueIdx.ix2 (i 1) (i 2)) : EReal) := by
  obtain ⟨u, p, q, rfl⟩ : ∃ (u : Fin 1) (p : Fin 512) (q : Fin 512), i = ValueIdx.ix3 u p q := ⟨i 0, i 1, i 2, by funext a; match a with | ⟨0, _⟩ => rfl | ⟨1, _⟩ => rfl | ⟨2, _⟩ => rfl⟩
  exact shapeCast_ab_1ab_apply (α := EReal) (v : S512x512.Idx → EReal) shapeCasts_S512x512_S1x512x512 u p q

theorem e0 : ∀ t : Fin cfg0.N, win0_0.index t 0 = t.val % 2 ∧ win0_0.index t 1 = t.val / 2 := (by decide +kernel : ∀ t : Fin grid0.N, _)
theorem e1 : ∀ t : Fin cfg0.N, win0_1.index t 0 = t.val % 2 ∧ win0_1.index t 1 = t.val / 2 := (by decide +kernel : ∀ t : Fin grid0.N, _)
theorem e2 : ∀ t : Fin cfg0.N, win0_2.index t 0 = t.val / 2 ∧ win0_2.index t 1 = 0 ∧ win0_2.index t 2 = 0 := (by decide +kernel : ∀ t : Fin grid0.N, _)
theorem e3 : ∀ t : Fin cfg0.N, win0_3.index t 0 = t.val % 2 ∧ win0_3.index t 1 = t.val / 2 := (by decide +kernel : ∀ t : Fin grid0.N, _)
theorem e4 : ∀ t : Fin cfg0.N, win0_4.index t 0 = t.val / 2 ∧ win0_4.index t 1 = 0 ∧ win0_4.index t 2 = 0 := (by decide +kernel : ∀ t : Fin grid0.N, _)
theorem points : cfg0.N = 8 := (by decide +kernel : grid0.N = 8)

variable (m : (ℓ : Loc nD τ sig) → Buf (Elt Ideal) ℓ) (c : Dev nD)

theorem part_term (t : Fin cfg0.N) (i : S512x512.Idx) :
    part (iblk m c 1 t) (iblk m c 0 t) i = ∑ k : Fin 1024, term (V m c main_arg0) (V m c main_arg1) (Fin.ofNat 4 (t.val / 2)) (i 0) (i 1) (1024 * (t.val % 2) + k.val) := by
  refine Finset.sum_congr (M := EReal) rfl fun k _ => ?_
  obtain ⟨p0, p1⟩ := e0 t
  obtain ⟨q0, q1⟩ := e1 t
  have hk := k.isLt
  have ht := lt_of_lt_of_eq t.isLt points
  have hr : (i 0).val < 512 := (i 0).isLt
  have hs : (i 1).val < 512 := (i 1).isLt
  refine congrArg₂ (fun p q : EReal => p * q) (congrArg (V m c main_arg1) ?_) (congrArg (V m c main_arg0) ?_)
  · funext a; apply Fin.ext
    match a with
    | ⟨0, _⟩ => show win0_1.index t 0 * 1024 + 1 * k.val = (1024 * (t.val % 2) + k.val) % 2048; omega
    | ⟨1, _⟩ => show win0_1.index t 1 * 512 + 1 * (i 0).val = (t.val / 2 % 4 * 512 + (i 0).val) % 2048; omega
  · funext a; apply Fin.ext
    match a with
    | ⟨0, _⟩ => show win0_0.index t 0 * 1024 + 1 * k.val = (1024 * (t.val % 2) + k.val) % 2048; omega
    | ⟨1, _⟩ => show win0_0.index t 1 * 512 + 1 * (i 1).val = (t.val / 2 % 4 * 512 + (i 1).val) % 2048; omega

/-- After the first block of rows the accumulator holds the sum over it. -/
theorem acc (n : ℕ) (hn : n < cfg0.N) (h0 : n % 2 = 0) (i : S512x512.Idx) :
    (outsAt0 m c n hn).2.2 i = ((∑ k ∈ Finset.range (1024 * 1), term (V m c main_arg0) (V m c main_arg1) (Fin.ofNat 4 (n / 2)) (i 0) (i 1) k : EReal)) := by
  rw [outsAt0_A m c ⟨n, hn⟩ h0 (by show ¬n % 2 = 1; omega)]
  dsimp only
  frame_out
  refine (pay3 _ _ _ i).trans ?_
  refine (congrArg₂ (fun p q : EReal => p + q) (pay1 i) (part_term m c ⟨n, hn⟩ i)).trans ?_
  rw [Prod.sum_first, zero_add]
  refine Finset.sum_congr rfl fun k _ => ?_
  refine congrArg (term _ _ _ _ _) ?_
  show 1024 * (n % 2) + k.val = k.val
  omega

/-- The accumulator and the last block's product together are the whole sum. -/
theorem whole (t : Fin cfg0.N) (h1 : t.val % 2 = 1) (h : t.val - 1 < cfg0.N) (i : S512x512.Idx) :
    ((outsAt0 m c (t.val - 1) h).2.2 i : EReal) + part (iblk m c 1 t) (iblk m c 0 t) i = ((∑ k ∈ Finset.range 2048, term (V m c main_arg0) (V m c main_arg1) (Fin.ofNat 4 (t.val / 2)) (i 0) (i 1) k : EReal)) := by
  refine (congrArg₂ (fun p q : EReal => p + q) (acc m c (t.val - 1) h (by omega) i) (part_term m c t i)).trans ?_
  rw [show (t.val - 1) / 2 = t.val / 2 by omega, h1]
  exact (Prod.sum_block _ 1024 1).symm

/-- The gradient of the pooled differences at an entry of a point's block. -/
theorem entry (t : Fin cfg0.N) (y : S1024x512.Idx) :
    k0_pay2 (iblk m c 0 t) (iblk m c 2 t) y = G (V m c main_arg0) (V m c main_arg2) (((cfg0.win 3).blk t).view.emb y) := by
  have ht := lt_of_lt_of_eq t.isLt points
  obtain ⟨p0, p1⟩ := e0 t
  obtain ⟨q0, q1, q2⟩ := e2 t
  obtain ⟨u0, u1⟩ := e3 t
  have h1 : (y 1).val < 512 := (y 1).isLt
  refine (pay2 _ _ y).trans ?_
  refine Finset.sum_congr (M := EReal) rfl fun k _ => ?_
  have hk := k.isLt
  refine congrArg₂ (fun p q : EReal => p * q) (congrArg (V m c main_arg0) ?_) (congrArg (V m c main_arg2) ?_)
  · funext a; apply Fin.ext
    match a with
    | ⟨0, _⟩ => show win0_0.index t 0 * 1024 + 1 * (y 0).val = win0_3.index t 0 * 1024 + 1 * (y 0).val; omega
    | ⟨1, _⟩ => show win0_0.index t 1 * 512 + 1 * k.val = ((win0_3.index t 1 * 512 + 1 * (y 1).val) / 512 * 512 + k.val) % 2048; omega
  · funext a; apply Fin.ext
    match a with
    | ⟨0, _⟩ => show win0_2.index t 0 * 1 + 1 * 0 = (win0_3.index t 1 * 512 + 1 * (y 1).val) / 512 % 4; omega
    | ⟨1, _⟩ => show win0_2.index t 1 * 512 + 1 * (y 1).val = (win0_3.index t 1 * 512 + 1 * (y 1).val) % 512; omega
    | ⟨2, _⟩ => show win0_2.index t 2 * 512 + 1 * k.val = k.val; omega

theorem final : (dats m 0 c).arrAt 3 cfg0.N = G (V m c main_arg0) (V m c main_arg2) := by
  refine (dats m 0 c).arrAt_eq_of_covers 3 _ (by decide +kernel) fun t hf y => ?_
  have ht := lt_of_lt_of_eq t.isLt points
  blk_simp
  rw [after0_3]
  by_cases h : t.val % 2 = 0
  · rw [outsAt0_A m c t h (by omega)]
    dsimp only
    frame_out
    exact entry m c t y
  · rw [outsAt0_B m c t h (by omega)]
    dsimp only
    frame_out
    exact entry m c t y

theorem final4 : (dats m 0 c).arrAt 4 cfg0.N = H (V m c main_arg0) (V m c main_arg1) := by
  refine (dats m 0 c).arrAt_eq_of_covers 4 _ (by decide +kernel) fun t hf y => ?_
  have h1 : t.val % 2 = 1 := (flush0_4 t).mp hf
  have ht := lt_of_lt_of_eq t.isLt points
  blk_simp
  rw [after0_4, outsAt0_B m c t (by omega) h1]
  dsimp only
  frame_out
  refine (pay4 _ y).trans ((pay3 _ _ _ _).trans ?_)
  refine (congrArg (fun z : EReal => z + part (iblk m c 1 t) (iblk m c 0 t) (ValueIdx.ix2 (y 1) (y 2))) (congrFun ((Memref.isWhole_whole cc0_scratch0).read_unread _) _)).trans ((whole m c t h1 _ _).trans ?_)
  obtain ⟨u0, u1, u2⟩ := e4 t
  have h0 : (y 0).val < 1 := (y 0).isLt
  refine Finset.sum_congr rfl fun k _ => ?_
  have eg : Fin.ofNat 4 (t.val / 2) = (⟨win0_4.index t 0 * 1 + 1 * (y 0).val, by omega⟩ : Fin 4) := Fin.ext (by show t.val / 2 % 4 = win0_4.index t 0 * 1 + 1 * (y 0).val; omega)
  have ep : (y 1 : Fin 512) = (⟨win0_4.index t 1 * 512 + 1 * (y 1).val, by have := (y 1).isLt; show win0_4.index t 1 * 512 + 1 * (y 1).val < 512; change (y 1).val < 512 at this; omega⟩ : Fin 512) := Fin.ext (by show (y 1).val = win0_4.index t 1 * 512 + 1 * (y 1).val; omega)
  have eq : (y 2 : Fin 512) = (⟨win0_4.index t 2 * 512 + 1 * (y 2).val, by have := (y 2).isLt; show win0_4.index t 2 * 512 + 1 * (y 2).val < 512; change (y 2).val < 512 at this; omega⟩ : Fin 512) := Fin.ext (by show (y 2).val = win0_4.index t 2 * 512 + 1 * (y 2).val; omega)
  show term _ _ (Fin.ofNat 4 (t.val / 2)) (y 1 : Fin 512) (y 2 : Fin 512) k = _
  rw [eg]
  refine (congrArg₂ (fun p q : Fin 512 => term (V m c main_arg0) (V m c main_arg1) _ p q k) ep eq).trans rfl

open Cert.PoolBwdRefIdeal.Read in
/-- The gradient of the result, split into groups. -/
theorem ref_e (x0 : (⟨S2048x2048, .bf16⟩ : BufTy).Contents (Elt Ideal)) (g : Fin 4) (p : Fin 512) (q : Fin 2048) :
    val_main_v8 (F := Ideal) x0 (ValueIdx.ix3 g p q) = x0 (ValueIdx.ix2 q (Fin.ofNat 2048 (g.val * 512 + p.val))) := by
  have hg := g.isLt
  have hp := p.isLt
  have hq := q.isLt
  rw [val_main_v8_apply, val_main_v7_apply]
  refine congrArg x0 ?_
  funext a; apply Fin.ext
  match a with
  | ⟨0, _⟩ => show ((q.val * 4 + g.val) * 512 + p.val) / 2048 = q.val; omega
  | ⟨1, _⟩ => show ((q.val * 4 + g.val) * 512 + p.val) % 2048 = (g.val * 512 + p.val) % 2048; omega

open Cert.PoolBwdRefIdeal.Read in
/-- The pooled differences, split into groups. -/
theorem ref_d (x1 : (⟨S2048x2048, .bf16⟩ : BufTy).Contents (Elt Ideal)) (q : Fin 2048) (g : Fin 4) (p : Fin 512) :
    val_main_v2 (F := Ideal) x1 (ValueIdx.ix3 q g p) = x1 (ValueIdx.ix2 q (Fin.ofNat 2048 (g.val * 512 + p.val))) := by
  have hg := g.isLt
  have hp := p.isLt
  have hq := q.isLt
  rw [val_main_v2_apply]
  refine congrArg x1 ?_
  funext a; apply Fin.ext
  match a with
  | ⟨0, _⟩ => show ((q.val * 4 + g.val) * 512 + p.val) / 2048 = q.val; omega
  | ⟨1, _⟩ => show ((q.val * 4 + g.val) * 512 + p.val) % 2048 = (g.val * 512 + p.val) % 2048; omega

open Cert.PoolBwdRefIdeal.Read in
theorem ref (x0 : (⟨S2048x2048, .bf16⟩ : BufTy).Contents (Elt Ideal)) (x2 : (⟨S4x512x512, .bf16⟩ : BufTy).Contents (Elt Ideal)) :
    val_main_v13 (F := Ideal) x0 x2 = G x0 x2 := by
  funext i
  have h0 : (i 0).val < 2048 := (i 0).isLt
  have h1 : (i 1).val < 2048 := (i 1).isLt
  rw [val_main_v13_apply, val_main_v10_apply, val_main_v9_apply]
  refine Finset.sum_congr (M := EReal) rfl fun k _ => ?_
  have hk := k.isLt
  refine congrArg₂ (fun p q : EReal => p * q) ?_ (congrArg x2 ?_)
  · refine (congrArg (val_main_v8 (F := Ideal) x0) ?_).trans ((ref_e x0 (Fin.ofNat 4 ((i 1).val / 512)) k (i 0)).trans (congrArg x0 ?_))
    · funext a; apply Fin.ext
      match a with
      | ⟨0, _⟩ => show ((i 0).val * 2048 + (i 1).val) / 512 % 4 = (i 1).val / 512 % 4; omega
      | ⟨1, _⟩ => rfl
      | ⟨2, _⟩ => show ((i 0).val * 2048 + (i 1).val) / 2048 = (i 0).val; omega
    · funext a; apply Fin.ext
      match a with
      | ⟨0, _⟩ => rfl
      | ⟨1, _⟩ => show ((i 1).val / 512 % 4 * 512 + k.val) % 2048 = ((i 1).val / 512 * 512 + k.val) % 2048; omega
  · funext a; apply Fin.ext
    match a with
    | ⟨0, _⟩ => show ((i 0).val * 2048 + (i 1).val) / 512 % 4 = (i 1).val / 512 % 4; omega
    | ⟨1, _⟩ => show ((i 0).val * 2048 + (i 1).val) % 512 = (i 1).val % 512; omega
    | ⟨2, _⟩ => rfl

open Cert.PoolBwdRefIdeal.Read in
theorem ref4 (x0 : (⟨S2048x2048, .bf16⟩ : BufTy).Contents (Elt Ideal)) (x1 : (⟨S2048x2048, .bf16⟩ : BufTy).Contents (Elt Ideal)) :
    val_main_v14 (F := Ideal) x0 x1 = H x0 x1 := by
  funext i
  show val_main_v12 (F := Ideal) x0 x1 i = _
  rw [val_main_v12_apply, val_main_v11_apply]
  refine Eq.trans ?_ (Finset.sum_range fun k => term x0 x1 (i 0) (i 1) (i 2) k).symm
  refine Finset.sum_congr (M := EReal) rfl fun k _ => ?_
  have hk := k.isLt
  rw [mul_comm]
  have ek : k = Fin.ofNat 2048 k.val := Fin.ext (by show k.val = k.val % 2048; omega)
  refine congrArg₂ (fun p q : EReal => p * q) ?_ ?_
  · refine (congrArg (val_main_v2 (F := Ideal) x1) ?_).trans ((ref_d x1 k (i 0) (i 1)).trans (congrArg (fun z : Fin 2048 => x1 (ValueIdx.ix2 z _)) ek))
    funext a
    match a with
    | ⟨0, _⟩ => rfl
    | ⟨1, _⟩ => rfl
    | ⟨2, _⟩ => rfl
  · refine (congrArg (val_main_v8 (F := Ideal) x0) ?_).trans ((ref_e x0 (i 0) (i 2) k).trans (congrArg (fun z : Fin 2048 => x0 (ValueIdx.ix2 z _)) ek))
    funext a
    match a with
    | ⟨0, _⟩ => rfl
    | ⟨1, _⟩ => rfl
    | ⟨2, _⟩ => rfl

end Cert.PoolBwdVal

end
-- ==== Proof.PoolVal.lean ====
/-
  The pooling map of each channel group with the gated sum: the kernel and the reference are the same product, and the
  same sum.
-/
module

public import proofs.«01_k».proof.Proof.Gen.PoolIdeal.Value
public import proofs.«01_k».proof.Proof.Gen.PoolRefIdeal.Read
public import proofs.«01_k».proof.Proof.Prod
public import Idealize.ShloMosaic.Lib.ValueLayout

@[expose] public section

set_option maxRecDepth 16384

noncomputable section

namespace Cert.PoolVal

open Cert.PoolIdeal Cert.PoolIdeal.Gen Idealize.ShloMosaic Idealize.ShloMosaic.TcCoe Idealize.SL.Sem
open Idealize.ShloMosaic.ValueIdx hiding ix2 eq_ix2 ix1 eq_ix1 ix0 eq_ix0 ix3 eq_ix3
open scoped BigOperators

/-- The product of a row of the pooled differences, within the group of the column, with the group's matrix. -/
def prod (a : (⟨S2048x2048, .bf16⟩ : BufTy).Contents (Elt Ideal)) (w : (⟨S4x512x512, .bf16⟩ : BufTy).Contents (Elt Ideal)) (i j : Fin 2048) : EReal :=
  ∑ k : Fin 512, (a (ValueIdx.ix2 i (Fin.ofNat 2048 (j.val / 512 * 512 + k.val))) : EReal) * (w (ValueIdx.ix3 (Fin.ofNat 4 (j.val / 512)) k (Fin.ofNat 512 j.val)) : EReal)

/-- The product, the second result. -/
def H (a : (⟨S2048x2048, .bf16⟩ : BufTy).Contents (Elt Ideal)) (w : (⟨S4x512x512, .bf16⟩ : BufTy).Contents (Elt Ideal)) : (⟨S2048x2048, .bf16⟩ : BufTy).Contents (Elt Ideal) :=
  fun i => prod a w (i 0) (i 1)

/-- The residual plus the gate times the product, the first result. -/
def G (a : (⟨S2048x2048, .bf16⟩ : BufTy).Contents (Elt Ideal)) (w : (⟨S4x512x512, .bf16⟩ : BufTy).Contents (Elt Ideal)) (x : (⟨S2048x2048, .f32⟩ : BufTy).Contents (Elt Ideal)) (g : (⟨S1x2048, .f32⟩ : BufTy).Contents (Elt Ideal)) : (⟨S2048x2048, .f32⟩ : BufTy).Contents (Elt Ideal) :=
  fun i => ((x i : EReal) + (g (ValueIdx.ix2 0 (i 1)) : EReal) * prod a w (i 0) (i 1) : EReal)

theorem mm (x : FVec Ideal S1024x512 .bf16) (y : FVec Ideal S512x512 .bf16) (i : S1024x512.Idx) :
    matmul (F := Ideal) (φ₁ := .bf16) (φ₂ := .bf16) dot_S1024x512_S512x512_S1024x512_1_0_0_1_n_n none x y (constant S1024x512 .f32 0x00000000#32) i = ((∑ k : Fin 512, (x (ValueIdx.ix2 (i 0) k) : EReal) * (y (ValueIdx.ix2 k (i 1)) : EReal) : EReal)) := by
  refine (Ideal.matmul_constant_zero_apply (φ₁ := .bf16) (φ₂ := .bf16) dot_S1024x512_S512x512_S1024x512_1_0_0_1_n_n none x y i).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  refine congrArg₂ (fun p q : EReal => p * q) (congrArg x ?_) (congrArg y ?_)
  · funext a; apply Fin.ext
    match a with
    | ⟨0, _⟩ => rfl
    | ⟨1, _⟩ => exact hk
  · funext a; apply Fin.ext
    match a with
    | ⟨0, _⟩ => exact hk
    | ⟨1, _⟩ => rfl

/-- The product of one block. -/
def part (x : Vec Ideal S1024x512 .bf16) (y : Vec Ideal S1x512x512 .bf16) (i : S1024x512.Idx) : EReal :=
  ∑ k : Fin 512, (x (ValueIdx.ix2 (i 0) k) : EReal) * (y (ValueIdx.ix3 0 k (i 1)) : EReal)

theorem pay3 (x : Vec Ideal S1024x512 .bf16) (y : Vec Ideal S1x512x512 .bf16) (i : S1024x512.Idx) :
    k0_pay3 x y i = part x y i := by
  refine (mm x (shapeCast S512x512 y shapeCasts_S1x512x512_S512x512) i).trans ?_
  refine Finset.sum_congr (M := EReal) rfl fun k _ => ?_
  exact congrArg (fun z : EReal => (x (ValueIdx.ix2 (i 0) k) : EReal) * z) (shapeCast_1ab_ab_apply y shapeCasts_S1x512x512_S512x512 k (i 1))

theorem gate (v : Vec Ideal S1x512 .f32) (i : S1024x512.Idx) :
    broadcastTo S1024x512 v broadcasts_S1x512_S1024x512 i = v (ValueIdx.ix2 0 (i 1)) :=
  broadcastTo_apply v broadcasts_S1x512_S1024x512 i (ValueIdx.ix2 0 (i 1)) fun a => match a with
    | ⟨0, _⟩ => rfl
    | ⟨1, _⟩ => rfl

theorem pay2 (x : Vec Ideal S1024x512 .bf16) (y : Vec Ideal S1x512x512 .bf16) (u : Vec Ideal S1024x512 .f32) (v : Vec Ideal S1x512 .f32) (i : S1024x512.Idx) :
    k0_pay2 x y u v i = ((u i : EReal) + (v (ValueIdx.ix2 0 (i 1)) : EReal) * part x y i : EReal) :=
  congrArg (fun z : EReal => (u i : EReal) + z) (congrArg₂ (fun p q : EReal => p * q) (gate v i) (pay3 x y i))

theorem e0 : ∀ t : Fin cfg0.N, win0_0.index t 0 = win0_4.index t 0 ∧ win0_0.index t 1 = win0_4.index t 1 := (by decide +kernel : ∀ t : Fin grid0.N, _)
theorem e1 : ∀ t : Fin cfg0.N, win0_1.index t 0 = win0_4.index t 1 ∧ win0_1.index t 1 = 0 ∧ win0_1.index t 2 = 0 ∧ win0_4.index t 1 < 4 := (by decide +kernel : ∀ t : Fin grid0.N, _)
theorem e2 : ∀ t : Fin cfg0.N, win0_2.index t 0 = win0_4.index t 0 ∧ win0_2.index t 1 = win0_4.index t 1 := (by decide +kernel : ∀ t : Fin grid0.N, _)
theorem e3 : ∀ t : Fin cfg0.N, win0_3.index t 0 = 0 ∧ win0_3.index t 1 = win0_4.index t 1 := (by decide +kernel : ∀ t : Fin grid0.N, _)
theorem e5 : ∀ t : Fin cfg0.N, win0_5.index t 0 = win0_4.index t 0 ∧ win0_5.index t 1 = win0_4.index t 1 := (by decide +kernel : ∀ t : Fin grid0.N, _)

variable (m : (ℓ : Loc nD τ sig) → Buf (Elt Ideal) ℓ) (c : Dev nD)

theorem final : (dats m 0 c).arrAt 4 cfg0.N = G (V m c main_arg0) (V m c main_arg1) (V m c main_arg2) (V m c main_arg3) := by
  refine (dats m 0 c).arrAt_eq_of_covers 4 _ (by decide +kernel) fun t hf y => ?_
  blk_simp
  rw [after0_4]
  frame_out
  refine (pay2 _ _ _ _ y).trans ?_
  obtain ⟨p0, p1⟩ := e0 t
  obtain ⟨q0, q1, q2, q3⟩ := e1 t
  obtain ⟨r0, r1⟩ := e2 t
  obtain ⟨s0, s1⟩ := e3 t
  obtain ⟨u0, u1⟩ := e5 t
  have h1 : (y 1).val < 512 := (y 1).isLt
  refine congrArg₂ (fun p q : EReal => p + q) (congrArg (V m c main_arg2) ?_) (congrArg₂ (fun p q : EReal => p * q) (congrArg (V m c main_arg3) ?_) ?_)
  · funext a; apply Fin.ext
    match a with
    | ⟨0, _⟩ => show win0_2.index t 0 * 1024 + 1 * (y 0).val = win0_4.index t 0 * 1024 + 1 * (y 0).val; omega
    | ⟨1, _⟩ => show win0_2.index t 1 * 512 + 1 * (y 1).val = win0_4.index t 1 * 512 + 1 * (y 1).val; omega
  · funext a; apply Fin.ext
    match a with
    | ⟨0, _⟩ => show win0_3.index t 0 * 1 + 1 * 0 = 0; omega
    | ⟨1, _⟩ => show win0_3.index t 1 * 512 + 1 * (y 1).val = win0_4.index t 1 * 512 + 1 * (y 1).val; omega
  · show part _ _ y = prod _ _ _ _
    unfold part prod
    refine Finset.sum_congr (M := EReal) rfl fun k _ => ?_
    have hk := k.isLt
    refine congrArg₂ (fun p q : EReal => p * q) (congrArg (V m c main_arg0) ?_) (congrArg (V m c main_arg1) ?_)
    · funext a; apply Fin.ext
      match a with
      | ⟨0, _⟩ => show win0_0.index t 0 * 1024 + 1 * (y 0).val = win0_4.index t 0 * 1024 + 1 * (y 0).val; omega
      | ⟨1, _⟩ => show win0_0.index t 1 * 512 + 1 * k.val = ((win0_4.index t 1 * 512 + 1 * (y 1).val) / 512 * 512 + k.val) % 2048; omega
    · funext a; apply Fin.ext
      match a with
      | ⟨0, _⟩ => show win0_1.index t 0 * 1 + 1 * 0 = (win0_4.index t 1 * 512 + 1 * (y 1).val) / 512 % 4; omega
      | ⟨1, _⟩ => show win0_1.index t 1 * 512 + 1 * k.val = k.val; omega
      | ⟨2, _⟩ => show win0_1.index t 2 * 512 + 1 * (y 1).val = (win0_4.index t 1 * 512 + 1 * (y 1).val) % 512; omega

theorem final5 : (dats m 0 c).arrAt 5 cfg0.N = H (V m c main_arg0) (V m c main_arg1) := by
  refine (dats m 0 c).arrAt_eq_of_covers 5 _ (by decide +kernel) fun t hf y => ?_
  blk_simp
  rw [after0_5]
  frame_out
  refine (pay3 _ _ y).trans ?_
  obtain ⟨p0, p1⟩ := e0 t
  obtain ⟨q0, q1, q2, q3⟩ := e1 t
  obtain ⟨r0, r1⟩ := e2 t
  obtain ⟨s0, s1⟩ := e3 t
  obtain ⟨u0, u1⟩ := e5 t
  have h1 : (y 1).val < 512 := (y 1).isLt
  show part _ _ y = prod _ _ _ _
  unfold part prod
  refine Finset.sum_congr (M := EReal) rfl fun k _ => ?_
  have hk := k.isLt
  refine congrArg₂ (fun p q : EReal => p * q) (congrArg (V m c main_arg0) ?_) (congrArg (V m c main_arg1) ?_)
  · funext a; apply Fin.ext
    match a with
    | ⟨0, _⟩ => show win0_0.index t 0 * 1024 + 1 * (y 0).val = win0_5.index t 0 * 1024 + 1 * (y 0).val; omega
    | ⟨1, _⟩ => show win0_0.index t 1 * 512 + 1 * k.val = ((win0_5.index t 1 * 512 + 1 * (y 1).val) / 512 * 512 + k.val) % 2048; omega
  · funext a; apply Fin.ext
    match a with
    | ⟨0, _⟩ => show win0_1.index t 0 * 1 + 1 * 0 = (win0_5.index t 1 * 512 + 1 * (y 1).val) / 512 % 4; omega
    | ⟨1, _⟩ => show win0_1.index t 1 * 512 + 1 * k.val = k.val; omega
    | ⟨2, _⟩ => show win0_1.index t 2 * 512 + 1 * (y 1).val = (win0_5.index t 1 * 512 + 1 * (y 1).val) % 512; omega

open Cert.PoolRefIdeal.Read in
theorem ref5 (x0 : (⟨S2048x2048, .bf16⟩ : BufTy).Contents (Elt Ideal)) (x1 : (⟨S4x512x512, .bf16⟩ : BufTy).Contents (Elt Ideal)) :
    val_main_v9 (F := Ideal) x0 x1 = H x0 x1 := by
  funext i
  have h0 : (i 0).val < 2048 := (i 0).isLt
  have h1 : (i 1).val < 2048 := (i 1).isLt
  show val_main_v5 (F := Ideal) x0 x1 i = _
  rw [val_main_v5_apply, val_main_v4_apply, val_main_v3_apply]
  show _ = prod _ _ _ _
  unfold prod
  refine Finset.sum_congr (M := EReal) rfl fun k _ => ?_
  have hk := k.isLt
  rw [mul_comm]
  refine congrArg₂ (fun p q : EReal => p * q) ?_ (congrArg x1 ?_)
  · rw [val_main_v2_apply]
    refine congrArg x0 ?_
    funext a; apply Fin.ext
    match a with
    | ⟨0, _⟩ => show ((((i 0).val * 2048 + (i 1).val) / 2048 * 4 + ((i 0).val * 2048 + (i 1).val) / 512 % 4) * 512 + k.val) / 2048 = (i 0).val; omega
    | ⟨1, _⟩ => show ((((i 0).val * 2048 + (i 1).val) / 2048 * 4 + ((i 0).val * 2048 + (i 1).val) / 512 % 4) * 512 + k.val) % 2048 = ((i 1).val / 512 * 512 + k.val) % 2048; omega
  · funext a; apply Fin.ext
    match a with
    | ⟨0, _⟩ => show ((i 0).val * 2048 + (i 1).val) / 512 % 4 = (i 1).val / 512 % 4; omega
    | ⟨1, _⟩ => rfl
    | ⟨2, _⟩ => show ((i 0).val * 2048 + (i 1).val) % 512 = (i 1).val % 512; omega

theorem ref (x0 : (⟨S2048x2048, .bf16⟩ : BufTy).Contents (Elt Ideal)) (x1 : (⟨S4x512x512, .bf16⟩ : BufTy).Contents (Elt Ideal)) (x2 : (⟨S2048x2048, .f32⟩ : BufTy).Contents (Elt Ideal)) (x3 : (⟨S1x2048, .f32⟩ : BufTy).Contents (Elt Ideal)) :
    Cert.PoolRefIdeal.Read.val_main_v8 (F := Ideal) x0 x1 x2 x3 = G x0 x1 x2 x3 := by
  funext i
  refine congrArg (fun z : EReal => (x2 i : EReal) + z) (congrArg₂ (fun p q : EReal => p * q) ?_ (congrFun (ref5 x0 x1) i))
  refine (Cert.PoolRefIdeal.Read.val_main_v6_apply x3 i).trans (congrArg x3 ?_)
  funext a
  match a with
  | ⟨0, _⟩ => rfl
  | ⟨1, _⟩ => rfl

end Cert.PoolVal

end
-- ==== Proof.FoxStep.lean ====
/-
  One head's block of the forgetting attention's gradient, as functions of vectors: the scores with the forget gates'
  difference, the weights, the gradient of the scores, and what the block adds to dq and to the accumulators of dk, dv
  and of the forget logits' gradient. `N` marks a block left of the diagonal, `D` the block on it (mask `col ≤ row`).
-/
module

public import proofs.«01_k».proof.Proof.Gen.FoxIdeal.Skeleton

@[expose] public section

set_option maxRecDepth 16384

noncomputable section

namespace Cert.FoxIdeal.Step

open Cert.FoxIdeal Cert.FoxIdeal.Gen Idealize.ShloMosaic Idealize.ShloMosaic.TcCoe

variable {F : FTy → Type} [FloatOps F]

/-- The scores of a block: query rows against key rows, scaled, and the difference of the forget sums. -/
def zV (q k : Vec F S256x128 .bf16) (fq : FVec F S256x1 .f32) (fk : Vec F S1x1x1x256 .f32) : FVec F S256x256 .f32 :=
  addf (mulf (matmul dot_S256x128_S256x128_S256x256_1_1_0_0_n_n none q k (constant S256x256 .f32 0x00000000#32)) (broadcast S256x256 (Scalar.ofBits .f32 0x3DB504F3#32)))
    (subf (broadcastTo S256x256 fq broadcasts_S256x1_S256x256) (broadcastTo S256x256 (shapeCast S1x256 fk shapeCasts_S1x1x1x256_S1x256) broadcasts_S1x256_S256x256))

/-- The weights: the exponential of the scores less the rows' logarithms. -/
def pN (q k : Vec F S256x128 .bf16) (fq lse : FVec F S256x1 .f32) (fk : Vec F S1x1x1x256 .f32) : FVec F S256x256 .f32 :=
  exp (subf (zV q k fq fk) (broadcastTo S256x256 lse broadcasts_S256x1_S256x256))

/-- The weights on the diagonal: zero where the column is after the row. -/
def pD (v3 v4 : IVec S256x256 32) (q k : Vec F S256x128 .bf16) (fq lse : FVec F S256x1 .f32) (fk : Vec F S1x1x1x256 .f32) : FVec F S256x256 .f32 :=
  select (cmpi .sle v4 v3) (pN q k fq lse fk) (broadcast S256x256 (Scalar.ofBits .f32 0x00000000#32))

/-- The gradient of the scores. -/
def dsV (p : FVec F S256x256 .f32) (d v : Vec F S256x128 .bf16) (dl : FVec F S256x1 .f32) : FVec F S256x256 .f32 :=
  mulf p (subf (matmul dot_S256x128_S256x128_S256x256_1_1_0_0_n_n none d v (constant S256x256 .f32 0x00000000#32)) (broadcastTo S256x256 dl broadcasts_S256x1_S256x256))

/-- The gradient of the unscaled scores. -/
def dsbV (ds : FVec F S256x256 .f32) : FVec F S256x256 .bf16 :=
  truncf .bf16 (mulf ds (broadcast S256x256 (Scalar.ofBits .f32 0x3DB504F3#32))) bitsLt_bf16_f32

def pb (p : FVec F S256x256 .f32) : FVec F S256x256 .bf16 := truncf .bf16 p bitsLt_bf16_f32

/-- What the block adds to its rows of an accumulator: the transposed product. -/
def accV (old : Vec F S256x128 .f32) (a : FVec F S256x256 .bf16) (x : Vec F S256x128 .bf16) : FVec F S256x128 .f32 :=
  shapeCast S256x128 (addf old (matmul dot_S256x256_S256x128_S256x128_0_0_1_1_n_n none a x (constant S256x128 .f32 0x00000000#32))) shapeCasts_S256x128_S256x128

/-- What the block adds to dq. -/
def dqV (old : FVec F S256x128 .f32) (a : FVec F S256x256 .bf16) (k : Vec F S256x128 .bf16) : FVec F S256x128 .f32 :=
  addf old (matmul dot_S256x256_S256x128_S256x128_1_0_0_1_n_n none a k (constant S256x128 .f32 0x00000000#32))

/-- What the block takes from the forget logits' gradient: its column sums. -/
def dfV (old : Vec F S1x1x1x256 .f32) (ds : FVec F S256x256 .f32) : FVec F S1x1x1x256 .f32 :=
  shapeCast S1x1x1x256 (subf (shapeCast S1x256 old shapeCasts_S1x1x1x256_S1x256) (shapeCast S1x256 (multiReduction .add [0] S256 ds 0x00000000#32 reduces_S256x256_S256 (.inl rfl) rfl) shapeCasts_S256_S1x256)) shapeCasts_S1x256_S1x1x1x256

/-- A row's sum of `do · o`. -/
def deltaV (d : Vec F S256x128 .bf16) (o : Vec F S256x128 .f32) : FVec F S256x1 .f32 :=
  shapeCast S256x1 (multiReduction .add [1] S256 (mulf (extf .f32 d bitsLt_bf16_f32) (shapeCast S256x128 o shapeCasts_S256x128_S256x128)) 0x00000000#32 reduces_S256x128_S256 (.inl rfl) rfl) shapeCasts_S256_S256x1

/-- A column with its leading axis dropped. -/
def colV (x : Vec F S1x256x1 .f32) : FVec F S256x1 .f32 := shapeCast S256x1 x shapeCasts_S1x256x1_S256x1

/-- The gradient of the scores left of the diagonal. -/
def dsN (q d k v : Vec F S256x128 .bf16) (fq lse dl : FVec F S256x1 .f32) (fk : Vec F S1x1x1x256 .f32) : FVec F S256x256 .f32 := dsV (pN q k fq lse fk) d v dl

/-- The gradient of the scores on the diagonal. -/
def dsD (v3 v4 : IVec S256x256 32) (q d k v : Vec F S256x128 .bf16) (fq lse dl : FVec F S256x1 .f32) (fk : Vec F S1x1x1x256 .f32) : FVec F S256x256 .f32 := dsV (pD v3 v4 q k fq lse fk) d v dl

end Cert.FoxIdeal.Step

end

end
-- ==== Proof.FoxBlock.lean ====
/-
  The gradient of forgetting attention over the reals, one head at a time, and the block of it one step of the kernel
  computes where what it is given is finite.
-/
module

public import proofs.«01_k».proof.Proof.Acc
public import proofs.«01_k».proof.Proof.FoxStep
public import Idealize.ShloMosaic.Lib.ValueLayout

@[expose] public section

set_option maxRecDepth 16384

noncomputable section

namespace Cert.FoxIdeal.Block

open Cert.FoxIdeal Cert.FoxIdeal.Gen Cert.FoxIdeal.Step Idealize.ShloMosaic Idealize.ShloMosaic.TcCoe
open Cert.KernelIdeal.Block (cv cv_congr coe_sum_fin sc ofBits_sc ofBits_zero bz nt_cv nn_cv tn_cv subf_cv addf_cv addf_cv' mulf_cv exp_cv bcast_cv)
open Cert.KernelIdeal.Model (hd rows)
open Idealize.ShloMosaic.ValueIdx hiding ix2 eq_ix2 ix1 eq_ix1 ix0 eq_ix0
open scoped BigOperators

/-- A row of reals as a vector with three unit axes before. -/
def cr (f : ℕ → ℝ) : S1x1x1x256.Idx → EReal := fun j => ((f (j 3).val : ℝ) : EReal)

theorem cr_congr {f g : ℕ → ℝ} (h : ∀ c, c < 256 → f c = g c) : cr f = cr g :=
  funext fun j => congrArg _ (h _ (j 3).isLt)

theorem row_cv (f : ℕ → ℝ) : shapeCast S1x256 (cr f) shapeCasts_S1x1x1x256_S1x256 = cv 1 256 fun _ c => f c := by
  funext j
  refine (shapeCast_apply (cr f) _ j (Fin.cons ⟨0, Nat.one_pos⟩ (Fin.cons ⟨0, Nat.one_pos⟩ j)) ?_).trans rfl
  rw [Shape.rowMajor_val_four, Shape.rowMajor_val_two]
  show ((0 * 1 + 0) * 1 + (j 0).val) * 256 + (j 1).val = (j 0).val * 256 + (j 1).val
  omega

theorem unrow_cv (f : ℕ → ℕ → ℝ) : shapeCast S1x1x1x256 (cv 1 256 f : S1x256.Idx → EReal) shapeCasts_S1x256_S1x1x1x256 = cr (f 0) := by
  funext j
  refine (shapeCast_apply (cv 1 256 f : S1x256.Idx → EReal) _ j (ValueIdx.ix2 ⟨0, Nat.one_pos⟩ (j 3)) ?_).trans rfl
  have h0 : (j 0).val < 1 := (j 0).isLt
  have h1 : (j 1).val < 1 := (j 1).isLt
  have h2 : (j 2).val < 1 := (j 2).isLt
  rw [Shape.rowMajor_val_four, Shape.rowMajor_val_two]
  show 0 * 256 + (j 3).val = (((j 0).val * 1 + (j 1).val) * 1 + (j 2).val) * 256 + (j 3).val
  omega

theorem brow_cv {φ : FTy} (f : ℕ → ℕ → ℝ) : (broadcastTo S256x256 (cv 1 256 f : FVec Ideal S1x256 φ) broadcasts_S1x256_S256x256 : FVec Ideal S256x256 φ) = cv 256 256 fun _ c => f 0 c := by
  funext j
  refine (broadcastTo_apply (cv 1 256 f) _ j (ValueIdx.ix2 ⟨0, Nat.one_pos⟩ ⟨(j 1).val, idx2_lt1 j⟩) fun a => ?_).trans rfl
  match a with
  | ⟨0, _⟩ => rfl
  | ⟨1, _⟩ => rfl

theorem nt (A B : ℕ → ℕ → ℝ) :
    matmul (F := Ideal) (φ₁ := .bf16) (φ₂ := .bf16) dot_S256x128_S256x128_S256x256_1_1_0_0_n_n none (cv 256 128 A) (cv 256 128 B) (constant S256x256 .f32 0x00000000#32)
      = cv 256 256 fun r c => ∑ k ∈ Finset.range 128, A r k * B c k := nt_cv (φ := .bf16) A B
theorem nn (A B : ℕ → ℕ → ℝ) :
    matmul (F := Ideal) (φ₁ := .bf16) (φ₂ := .bf16) dot_S256x256_S256x128_S256x128_1_0_0_1_n_n none (cv 256 256 A) (cv 256 128 B) (constant S256x128 .f32 0x00000000#32)
      = cv 256 128 fun r c => ∑ k ∈ Finset.range 256, A r k * B k c := nn_cv (φ := .bf16) (ψ := .bf16) A B
theorem tn (A B : ℕ → ℕ → ℝ) :
    matmul (F := Ideal) (φ₁ := .bf16) (φ₂ := .bf16) dot_S256x256_S256x128_S256x128_0_0_1_1_n_n none (cv 256 256 A) (cv 256 128 B) (constant S256x128 .f32 0x00000000#32)
      = cv 256 128 fun r c => ∑ k ∈ Finset.range 256, A k r * B k c := tn_cv (φ := .bf16) (ψ := .bf16) A B

theorem scale_cv (q k : ℕ → ℕ → ℝ) : mulf (F := Ideal) (φ := .f32) (cv 256 256 fun r c => ∑ j ∈ Finset.range 128, q r j * k c j) (broadcast S256x256 (FloatOps.ofBits .f32 0x3DB504F3#32)) = cv 256 256 (bz q k) := by
  funext j
  show cv 256 256 _ j * Ideal.ofBits .f32 0x3DB504F3#32 = _
  rw [ofBits_sc, cv, ← EReal.coe_mul]; rfl

theorem zV_cv (q k fq : ℕ → ℕ → ℝ) (f : ℕ → ℝ) : zV (F := Ideal) (cv 256 128 q) (cv 256 128 k) (cv 256 1 fq) (cr f) = cv 256 256 fun r c => bz q k r c + (fq r 0 - f c) := by
  unfold zV
  rw [nt, row_cv, show (broadcastTo S256x256 (cv 256 1 fq) _ : FVec Ideal S256x256 .f32) = _ from bcast_cv fq, brow_cv, subf_cv,
    scale_cv, addf_cv]

theorem pN_cv (q k fq l : ℕ → ℕ → ℝ) (f : ℕ → ℝ) : pN (F := Ideal) (cv 256 128 q) (cv 256 128 k) (cv 256 1 fq) (cv 256 1 l) (cr f) = cv 256 256 fun r c => Real.exp (bz q k r c + (fq r 0 - f c) - l r 0) := by
  unfold pN
  rw [zV_cv, show (broadcastTo S256x256 (cv 256 1 l) _ : FVec Ideal S256x256 .f32) = _ from bcast_cv l, subf_cv, exp_cv]

theorem pD_cv (q k fq l : ℕ → ℕ → ℝ) (f : ℕ → ℝ) : pD (F := Ideal) (iota .tc S256x256 32 [0] iota_S256x256_d0_w32) (iota .tc S256x256 32 [1] iota_S256x256_d1_w32) (cv 256 128 q) (cv 256 128 k) (cv 256 1 fq) (cv 256 1 l) (cr f)
    = cv 256 256 fun r c => if c ≤ r then Real.exp (bz q k r c + (fq r 0 - f c) - l r 0) else 0 := by
  unfold pD
  rw [pN_cv]
  funext j
  have h0 := idx2_lt0 j; have h1 := idx2_lt1 j
  rw [select_apply, broadcast_apply]
  show Scalar.select (IntOp.cmpi .sle (iota .tc S256x256 32 [1] iota_S256x256_d1_w32 j) (iota .tc S256x256 32 [0] iota_S256x256_d0_w32 j)) _ (Ideal.ofBits .f32 0x00000000#32) = _
  rw [iota_single_apply, iota_single_apply, WordCmp.cmpi_sle_ofNat (by omega) (by omega), ofBits_zero]
  by_cases h : (j 1).val ≤ (j 0).val
  · simp only [h, decide_true, cv, if_true]; rfl
  · simp only [h, decide_false, cv, if_false]; rfl

theorem dsV_cv (p d v dl : ℕ → ℕ → ℝ) : dsV (F := Ideal) (cv 256 256 p) (cv 256 128 d) (cv 256 128 v) (cv 256 1 dl) = cv 256 256 fun r c => p r c * ((∑ j ∈ Finset.range 128, d r j * v c j) - dl r 0) := by
  unfold dsV
  rw [nt, show (broadcastTo S256x256 (cv 256 1 dl) _ : FVec Ideal S256x256 .f32) = _ from bcast_cv dl, subf_cv, mulf_cv]

theorem dsbV_cv (A : ℕ → ℕ → ℝ) : dsbV (F := Ideal) (cv 256 256 A) = cv 256 256 fun r c => A r c * sc := by
  funext j
  show cv 256 256 A j * Ideal.ofBits .f32 0x3DB504F3#32 = _
  rw [ofBits_sc, cv, ← EReal.coe_mul]; rfl

theorem pb_cv (A : FVec Ideal S256x256 .f32) : pb (F := Ideal) A = A := rfl

theorem accV_cv (o a x : ℕ → ℕ → ℝ) :
    accV (F := Ideal) (cv 256 128 o) (cv 256 256 a) (cv 256 128 x) = cv 256 128 fun r c => o r c + ∑ k ∈ Finset.range 256, a k r * x k c := by
  unfold accV
  rw [shapeCast_self, tn, addf_cv']

theorem dqV_cv (o a k : ℕ → ℕ → ℝ) :
    dqV (F := Ideal) (cv 256 128 o) (cv 256 256 a) (cv 256 128 k) = cv 256 128 fun r c => o r c + ∑ j ∈ Finset.range 256, a r j * k j c := by
  unfold dqV
  rw [nn, addf_cv']

theorem dfV_cv (o : ℕ → ℝ) (A : ℕ → ℕ → ℝ) : dfV (F := Ideal) (cr o) (cv 256 256 A) = cr fun c => o c - ∑ k ∈ Finset.range 256, A k c := by
  unfold dfV
  rw [row_cv]
  refine (congrArg (fun x => shapeCast S1x1x1x256 x shapeCasts_S1x256_S1x1x1x256) ?_).trans (unrow_cv fun _ c => o c - ∑ k ∈ Finset.range 256, A k c)
  funext j
  obtain ⟨u, c, rfl⟩ : ∃ u c, j = ValueIdx.ix2 u c := ⟨_, _, ValueIdx.eq_ix2 j⟩
  rw [subf_apply, shapeCast_a_1a_apply]
  have e : (∑ k : Fin 256, cv 256 256 A (ValueIdx.ix2 k c)) = ((∑ k ∈ Finset.range 256, A k c.val : ℝ) : EReal) := coe_sum_fin fun k => A k c.val
  refine (congrArg (cv 1 256 (fun _ c => o c) (ValueIdx.ix2 u c) - ·) ((Ideal.reduceAdd_r2_a0 reduces_S256x256_S256 (cv 256 256 A) (ValueIdx.ix1 c)).trans e)).trans ?_
  show ((o c.val : ℝ) : EReal) - _ = ((o c.val - _ : ℝ) : EReal)
  rw [EReal.coe_sub]

theorem deltaV_cv (d o : ℕ → ℕ → ℝ) : deltaV (F := Ideal) (cv 256 128 d) (cv 256 128 o) = cv 256 1 fun r _ => ∑ k ∈ Finset.range 128, d r k * o r k := by
  funext j
  obtain ⟨r, u, rfl⟩ : ∃ r u, j = ValueIdx.ix2 r u := ⟨_, _, ValueIdx.eq_ix2 j⟩
  unfold deltaV
  rw [shapeCast_self, shapeCast_a_a1_apply]
  refine (Ideal.reduceAdd_r2_a1 reduces_S256x128_S256 _ (ValueIdx.ix1 r)).trans ?_
  refine Eq.trans (Finset.sum_congr rfl fun k _ => ?_) (coe_sum_fin fun k => d r.val k * o r.val k)
  rw [EReal.coe_mul]; rfl

/-! The whole's gradient. -/

section
variable (Q D K V O G L : ℕ → ℕ → ℝ) (n : ℕ)

/-- The weights of a head. -/
def P (t s : ℕ) : ℝ := if s ≤ t then Real.exp (bz (hd Q n) (hd K n) t s + (G n t - G n s) - L n t) else 0
/-- A query's sum of `do · o`. -/
def dlt (t : ℕ) : ℝ := ∑ e ∈ Finset.range 128, hd D n t e * hd O n t e
/-- The gradient of a head's scores. -/
def DS (t s : ℕ) : ℝ := P Q K G L n t s * ((∑ j ∈ Finset.range 128, hd D n t j * hd V n s j) - dlt D O n t)
/-- The gradient of a head's unscaled scores. -/
def DZ (t s : ℕ) : ℝ := DS Q D K V O G L n t s * sc
/-- dq from the keys before block `b`. -/
def DQ (i b r e : ℕ) : ℝ := ∑ s ∈ Finset.range (256 * b), DZ Q D K V O G L n (256 * i + r) s * hd K n s e

/-- A column of a head from row `256 * i` on, and a row. -/
def cols (T : ℕ → ℕ → ℝ) (i r : ℕ) (_ : ℕ) : ℝ := T n (256 * i + r)
def rw4 (T : ℕ → ℕ → ℝ) (b c : ℕ) : ℝ := T n (256 * b + c)
/-- The rows' sums of `do · o`. -/
def dls (i r : ℕ) (_ : ℕ) : ℝ := dlt D O n (256 * i + r)

theorem pN_eq {i b : ℕ} (h : b < i) : pN (F := Ideal) (cv 256 128 (rows n Q i)) (cv 256 128 (rows n K b)) (cv 256 1 (cols n G i)) (cv 256 1 (cols n L i)) (cr (rw4 n G b)) = cv 256 256 fun r c => P Q K G L n (256 * i + r) (256 * b + c) := by
  rw [pN_cv]
  exact cv_congr fun r c _ hc => by rw [P, if_pos (by omega)]; rfl
theorem pD_eq (i : ℕ) : pD (F := Ideal) (iota .tc S256x256 32 [0] iota_S256x256_d0_w32) (iota .tc S256x256 32 [1] iota_S256x256_d1_w32) (cv 256 128 (rows n Q i)) (cv 256 128 (rows n K i)) (cv 256 1 (cols n G i)) (cv 256 1 (cols n L i)) (cr (rw4 n G i)) = cv 256 256 fun r c => P Q K G L n (256 * i + r) (256 * i + c) := by
  rw [pD_cv]
  refine cv_congr fun r c _ hc => ?_
  rw [P]
  by_cases h : c ≤ r
  · rw [if_pos h, if_pos (by omega)]; rfl
  · rw [if_neg h, if_neg (by omega)]
theorem dsN_eq {i b : ℕ} (h : b < i) : dsN (F := Ideal) (cv 256 128 (rows n Q i)) (cv 256 128 (rows n D i)) (cv 256 128 (rows n K b)) (cv 256 128 (rows n V b)) (cv 256 1 (cols n G i)) (cv 256 1 (cols n L i)) (cv 256 1 (dls D O n i)) (cr (rw4 n G b)) = cv 256 256 fun r c => DS Q D K V O G L n (256 * i + r) (256 * b + c) := by
  unfold dsN; rw [pN_eq Q K G L n h, dsV_cv]; rfl
theorem dsD_eq (i : ℕ) : dsD (F := Ideal) (iota .tc S256x256 32 [0] iota_S256x256_d0_w32) (iota .tc S256x256 32 [1] iota_S256x256_d1_w32) (cv 256 128 (rows n Q i)) (cv 256 128 (rows n D i)) (cv 256 128 (rows n K i)) (cv 256 128 (rows n V i)) (cv 256 1 (cols n G i)) (cv 256 1 (cols n L i)) (cv 256 1 (dls D O n i)) (cr (rw4 n G i)) = cv 256 256 fun r c => DS Q D K V O G L n (256 * i + r) (256 * i + c) := by
  unfold dsD; rw [pD_eq, dsV_cv]; rfl

theorem DQ_step (i b : ℕ) : dqV (F := Ideal) (cv 256 128 (DQ Q D K V O G L n i b)) (dsbV (cv 256 256 fun r c => DS Q D K V O G L n (256 * i + r) (256 * b + c))) (cv 256 128 (rows n K b)) = cv 256 128 (DQ Q D K V O G L n i (b + 1)) := by
  rw [dsbV_cv, dqV_cv]
  exact cv_congr fun r _ _ _ => by unfold DQ; rw [Nat.mul_succ, Finset.sum_range_add]; rfl

/-- What a step stores into dk's accumulator for a head. -/
theorem dk_block (i b : ℕ) (A : ℕ → ℕ → ℝ) : accV (F := Ideal) (cv 256 128 fun r e => A (256 * b + r) (128 * n + e)) (dsbV (cv 256 256 fun r c => DS Q D K V O G L n (256 * i + r) (256 * b + c))) (cv 256 128 (rows n Q i))
    = cv 256 128 (Cert.KernelIdeal.Acc.blockN (DZ Q D K V O G L) Q i A b n) := by
  rw [dsbV_cv, accV_cv]; rfl
/-- What a step stores into dv's accumulator for a head. -/
theorem dv_block (i b : ℕ) (A : ℕ → ℕ → ℝ) : accV (F := Ideal) (cv 256 128 fun r e => A (256 * b + r) (128 * n + e)) (pb (cv 256 256 fun r c => P Q K G L n (256 * i + r) (256 * b + c))) (cv 256 128 (rows n D i))
    = cv 256 128 (Cert.KernelIdeal.Acc.blockN (P Q K G L) D i A b n) := by
  rw [pb_cv, accV_cv]; rfl

end

end Cert.FoxIdeal.Block

end

end
-- ==== Proof.FoxMem.lean ====
/-
  Loads and stores of the blocks a step of the forgetting attention's gradient touches, and the accumulator of the forget
  logits' gradient block of keys by block of keys and head by head.
-/
module

public import proofs.«01_k».proof.Proof.FoxBlock

@[expose] public section

set_option maxRecDepth 16384

noncomputable section

namespace Cert.FoxIdeal.Mem

open Cert.FoxIdeal Cert.FoxIdeal.Gen Cert.FoxIdeal.Step Cert.FoxIdeal.Block Idealize.ShloMosaic Idealize.ShloMosaic.TcCoe Idealize.SL.Sem
open Cert.KernelIdeal.Block (cv cv_congr ofBits_zero)
open Cert.KernelIdeal.Model (hd rows)
open Cert.KernelIdeal.Mem (upd cgen)
open Cert.KernelIdeal.Acc (addN addN_zero addN_next blockN upd_addN addN_here)
open Idealize.ShloMosaic.ValueIdx hiding ix2 eq_ix2 ix1 eq_ix1 ix0 eq_ix0
open scoped BigOperators

section
variable {sp : Space} {κ : Kind} {Val : EltTy → Type} {e : EltTy} {m n : ℕ}

theorem read_store (g : ℝ → Val e) (v : View sig κ sp ⟨2, ![m, n]⟩ e) (f : v.ty.Contents Val) (L : List (View.Piece Val ⟨2, ![m, n]⟩ e))
    (off : Fin 2 → ℕ) (o c : ℕ) (hoff : off = ![o, c]) (inb : ∀ a : Fin 2, off a + S256x128.size a ≤ (![m, n] : Fin 2 → ℕ) a) (w A : ℕ → ℕ → ℝ)
    (h : v.read Val (v.writes Val f L) = cgen g m n A) :
    v.read Val (v.writes Val f ((⟨Rect.unit (s := ⟨2, ![m, n]⟩) off S256x128.size inb, cgen g 256 128 w⟩ : View.Piece Val ⟨2, ![m, n]⟩ e) :: L)) = cgen g m n (upd o c w A) := by
  funext y
  rw [View.read_writes_cons_unit v f inb (cgen g 256 128 w) L y hoff, h]
  unfold upd cgen
  beta_reduce
  by_cases hy : (o ≤ (y 0).val ∧ (y 0).val < o + 256) ∧ (c ≤ (y 1).val ∧ (y 1).val < c + 128)
  · rw [if_pos hy, dif_pos (fun a => by match a with
      | ⟨0, _⟩ => exact hy.1
      | ⟨1, _⟩ => exact hy.2)]
    rfl
  · rw [if_neg hy, dif_neg fun h' => hy ⟨h' 0, h' 1⟩]

theorem load (g : ℝ → Val e) (v : View sig κ sp ⟨2, ![m, n]⟩ e) (f : v.ty.Contents Val) (off : Fin 2 → ℕ) (o c : ℕ) (hoff : off = ![o, c])
    (inb : ∀ a : Fin 2, off a + S256x128.size a ≤ (![m, n] : Fin 2 → ℕ) a) (A : ℕ → ℕ → ℝ) (h : v.read Val f = cgen g m n A) :
    v.readAt Val (Rect.unit (s := ⟨2, ![m, n]⟩) off S256x128.size inb).toLoadRect f = cgen g 256 128 fun r t => A (o + r) (c + t) := by
  subst hoff
  funext y
  show v.read Val f ((Rect.unit (s := ⟨2, ![m, n]⟩) ![o, c] S256x128.size inb).emb y) = _
  rw [h]
  show g (A (o + 1 * (y 0).val) (c + 1 * (y 1).val)) = g (A (o + (y 0).val) (c + (y 1).val))
  rw [Nat.one_mul, Nat.one_mul]

end

variable (X : ℕ → ℕ → ℕ → ℝ) (M : ℕ → ℕ → ℝ) (i : ℕ) (A : ℕ → ℕ → ℝ)

section
variable {sp : Space} {κ : Kind}

/-- A block of the accumulator, loaded. -/
theorem load_acc (v : View sig κ sp S2048x512 .f32) (f : v.ty.Contents (Elt Ideal)) (off : Fin 2 → ℕ) (b n m : ℕ) (hoff : off = ![256 * b, 128 * n]) (hm : m ≤ n)
    (inb : ∀ a, off a + S256x128.size a ≤ S2048x512.size a) (h : v.read (Elt Ideal) f = cv 2048 512 (addN X M i b m A)) :
    v.readAt (Elt Ideal) (Rect.unit (s := S2048x512) off S256x128.size inb).toLoadRect f = cv 256 128 fun r e => A (256 * b + r) (128 * n + e) :=
  (load (Val := Elt Ideal) (e := .f32) (fun x : ℝ => (x : EReal)) v f off _ _ hoff inb _ h).trans (cv_congr (m := 256) (n := 128) (A := fun r e => addN X M i b m A (256 * b + r) (128 * n + e)) fun r e _ _ => addN_here X M i A hm)

/-- A block of the accumulator, stored. -/
theorem store_acc (v : View sig κ sp S2048x512 .f32) (f : v.ty.Contents (Elt Ideal)) (L : List (View.Piece (Elt Ideal) S2048x512 .f32)) (off : Fin 2 → ℕ) (b n : ℕ)
    (hoff : off = ![256 * b, 128 * n]) (inb : ∀ a, off a + S256x128.size a ≤ S2048x512.size a) (w : Vec Ideal S256x128 .f32) (hw : w = cv 256 128 (blockN X M i A b n))
    (h : v.read (Elt Ideal) (v.writes (Elt Ideal) f L) = cv 2048 512 (addN X M i b n A)) :
    v.read (Elt Ideal) (v.writes (Elt Ideal) f ((⟨Rect.unit (s := S2048x512) off S256x128.size inb, w⟩ : View.Piece (Elt Ideal) S2048x512 .f32) :: L)) = cv 2048 512 (addN X M i b (n + 1) A) := by
  rw [hw, ← upd_addN]
  exact read_store (Val := Elt Ideal) (e := .f32) (fun x : ℝ => (x : EReal)) v f L off _ _ hoff inb _ _ h

/-- A block of keys, values, queries or gradients, loaded. -/
theorem load_rows {m : ℕ} (v : View sig κ sp ⟨2, ![m, 512]⟩ .bf16) (f : v.ty.Contents (Elt Ideal)) (off : Fin 2 → ℕ) (o b n : ℕ) (hoff : off = ![o, 128 * n])
    (inb : ∀ a : Fin 2, off a + S256x128.size a ≤ (![m, 512] : Fin 2 → ℕ) a) (A B : ℕ → ℕ → ℝ) (h : v.read (Elt Ideal) f = cv m 512 B) (hB : ∀ r e, B (o + r) e = A (256 * b + r) e) :
    v.readAt (Elt Ideal) (Rect.unit (s := ⟨2, ![m, 512]⟩) off S256x128.size inb).toLoadRect f = cv 256 128 (rows n A b) :=
  (load (Val := Elt Ideal) (e := .bf16) (fun x : ℝ => (x : EReal)) v f off _ _ hoff inb _ h).trans (cv_congr (m := 256) (n := 128) (A := fun r e => B (o + r) (128 * n + e)) (B := rows n A b) fun r e _ _ => hB _ _)

/-- A head's column, loaded. -/
theorem load_col (v : View sig κ sp S4x256x1 .f32) (f : v.ty.Contents (Elt Ideal)) (n : ℕ) (inb : ∀ a : Fin 3, (![n, 0, 0] : Fin 3 → ℕ) a + S1x256x1.size a ≤ S4x256x1.size a) (T : ℕ → ℕ → ℝ) (i : ℕ)
    (h : v.read (Elt Ideal) f = fun j => ((T (j 0).val (256 * i + (j 1).val) : ℝ) : EReal)) :
    colV (F := Ideal) (v.readAt (Elt Ideal) (Rect.unit (s := S4x256x1) ![n, 0, 0] S1x256x1.size inb).toLoadRect f) = cv 256 1 (cols n T i) := by
  funext j
  unfold colV
  refine (shapeCast_dropUnit_apply (n := 2) ![256, 1] _ _ j).trans ?_
  show v.read (Elt Ideal) f ((Rect.unit (s := S4x256x1) ![n, 0, 0] S1x256x1.size inb).emb (Fin.cons ⟨0, Nat.one_pos⟩ j)) = _
  rw [h]
  show ((T (n + 1 * 0) (256 * i + (0 + 1 * (j 0).val)) : ℝ) : EReal) = ((T n (256 * i + (j 0).val) : ℝ) : EReal)
  simp only [Nat.mul_zero, Nat.add_zero, Nat.one_mul, Nat.zero_add]

/-- A head's block of `o`, loaded. -/
theorem load_o (v : View sig κ sp S256x512 .f32) (f : v.ty.Contents (Elt Ideal)) (b n : ℕ) (inb : ∀ a : Fin 2, (![0, 128 * n] : Fin 2 → ℕ) a + S256x128.size a ≤ S256x512.size a) (A B : ℕ → ℕ → ℝ)
    (h : v.read (Elt Ideal) f = cv 256 512 B) (hB : ∀ r e, B (0 + r) e = A (256 * b + r) e) :
    v.readAt (Elt Ideal) (Rect.unit (s := S256x512) ![0, 128 * n] S256x128.size inb).toLoadRect f = cv 256 128 (rows n A b) :=
  (load (Val := Elt Ideal) (e := .f32) (fun x : ℝ => (x : EReal)) v f ![0, 128 * n] _ _ rfl inb _ h).trans (cv_congr (m := 256) (n := 128) (A := fun r e => B (0 + r) (128 * n + e)) (B := rows n A b) fun r e _ _ => hB _ _)
end

/-- Rows of reals, by head, block of keys and key. -/
def c4 (A : ℕ → ℕ → ℝ) : S4x8x1x256.Idx → EReal := fun j => ((A (j 0).val (256 * (j 1).val + (j 3).val) : ℝ) : EReal)

theorem c4_congr {A B : ℕ → ℕ → ℝ} (h : ∀ n s, n < 4 → s < 2048 → A n s = B n s) : c4 A = c4 B :=
  funext fun j => congrArg _ (h _ _ (j 0).isLt (by have : (j 1).val < 8 := (j 1).isLt; have : (j 3).val < 256 := (j 3).isLt; omega))

/-- An accumulator `A` with the column sums of the rows from `256 * i` on taken off: at the keys before block `b`, and in block `b` at the heads below `n`. -/
def subN (b n : ℕ) (m s : ℕ) : ℝ := if s < 256 * b ∨ (s < 256 * (b + 1) ∧ m < n) then A m s - ∑ j ∈ Finset.range 256, X m (256 * i + j) s else A m s

theorem subN_zero : subN X i A 0 0 = A := by
  funext m s; unfold subN; rw [if_neg (by omega)]

theorem subN_next (b : ℕ) : c4 (subN X i A b 4) = c4 (subN X i A (b + 1) 0) :=
  c4_congr fun m s hm _ => by
    unfold subN
    by_cases h : s < 256 * (b + 1)
    · rw [if_pos (Or.inr ⟨h, hm⟩), if_pos (Or.inl h)]
    · rw [if_neg (by omega), if_neg (by omega)]

section
variable {sp : Space} {κ : Kind}

/-- A head's row of forget sums or of the accumulator, loaded. -/
theorem load_row (v : View sig κ sp S4x8x1x256 .f32) (f : v.ty.Contents (Elt Ideal)) (off : Fin 4 → ℕ) (b n : ℕ) (hoff : off = ![n, b, 0, 0])
    (inb : ∀ a, off a + S1x1x1x256.size a ≤ S4x8x1x256.size a) (h : v.read (Elt Ideal) f = c4 A) :
    v.readAt (Elt Ideal) (Rect.unit (s := S4x8x1x256) off S1x1x1x256.size inb).toLoadRect f = cr (rw4 n A b) := by
  subst hoff
  funext y
  show v.read (Elt Ideal) f ((Rect.unit (s := S4x8x1x256) ![n, b, 0, 0] S1x1x1x256.size inb).emb y) = _
  rw [h]
  have h0 : (y 0).val < 1 := (y 0).isLt
  have h1 : (y 1).val < 1 := (y 1).isLt
  show ((A (n + 1 * (y 0).val) (256 * (b + 1 * (y 1).val) + (0 + 1 * (y 3).val)) : ℝ) : EReal) = ((A n (256 * b + (y 3).val) : ℝ) : EReal)
  rw [show n + 1 * (y 0).val = n by omega, show b + 1 * (y 1).val = b by omega, show 0 + 1 * (y 3).val = (y 3).val by omega]

theorem load_sub (v : View sig κ sp S4x8x1x256 .f32) (f : v.ty.Contents (Elt Ideal)) (off : Fin 4 → ℕ) (b n m : ℕ) (hoff : off = ![n, b, 0, 0]) (hm : m ≤ n)
    (inb : ∀ a, off a + S1x1x1x256.size a ≤ S4x8x1x256.size a) (h : v.read (Elt Ideal) f = c4 (subN X i A b m)) :
    v.readAt (Elt Ideal) (Rect.unit (s := S4x8x1x256) off S1x1x1x256.size inb).toLoadRect f = cr (rw4 n A b) :=
  (load_row _ v f off b n hoff inb h).trans (cr_congr fun c _ => by unfold rw4 subN; rw [if_neg (by omega)])

theorem store_sub (v : View sig κ sp S4x8x1x256 .f32) (f : v.ty.Contents (Elt Ideal)) (L : List (View.Piece (Elt Ideal) S4x8x1x256 .f32)) (off : Fin 4 → ℕ) (b n : ℕ) (hoff : off = ![n, b, 0, 0])
    (inb : ∀ a, off a + S1x1x1x256.size a ≤ S4x8x1x256.size a) (w : Vec Ideal S1x1x1x256 .f32) (hw : w = cr fun c => rw4 n A b c - ∑ j ∈ Finset.range 256, X n (256 * i + j) (256 * b + c))
    (h : v.read (Elt Ideal) (v.writes (Elt Ideal) f L) = c4 (subN X i A b n)) :
    v.read (Elt Ideal) (v.writes (Elt Ideal) f ((⟨Rect.unit (s := S4x8x1x256) off S1x1x1x256.size inb, w⟩ : View.Piece (Elt Ideal) S4x8x1x256 .f32) :: L)) = c4 (subN X i A b (n + 1)) := by
  rw [hw]
  funext y
  rw [View.read_writes_cons_unit v f inb _ L y hoff, h]
  have h2 : (y 2).val < 1 := (y 2).isLt
  have h3 : (y 3).val < 256 := (y 3).isLt
  by_cases hy : (y 0).val = n ∧ (y 1).val = b
  · obtain ⟨y0, y1⟩ := hy
    rw [dif_pos (fun a => by match a with
      | ⟨0, _⟩ => exact ⟨by show n ≤ (y 0).val; omega, by show (y 0).val < n + 1; omega⟩
      | ⟨1, _⟩ => exact ⟨by show b ≤ (y 1).val; omega, by show (y 1).val < b + 1; omega⟩
      | ⟨2, _⟩ => exact ⟨Nat.zero_le _, by show (y 2).val < 0 + 1; omega⟩
      | ⟨3, _⟩ => exact ⟨Nat.zero_le _, by show (y 3).val < 0 + 256; omega⟩)]
    show ((A n (256 * b + ((y 3).val - 0)) - ∑ j ∈ Finset.range 256, X n (256 * i + j) (256 * b + ((y 3).val - 0)) : ℝ) : EReal) = ((subN X i A b (n + 1) (y 0).val (256 * (y 1).val + (y 3).val) : ℝ) : EReal)
    unfold subN
    rw [y0, y1, if_pos (by omega), Nat.sub_zero]
  · rw [dif_neg fun h' => hy ⟨by have := h' 0; have a : n ≤ (y 0).val := this.1; have b : (y 0).val < n + 1 := this.2; omega, by have := h' 1; have a : b ≤ (y 1).val := this.1; have c : (y 1).val < b + 1 := this.2; omega⟩]
    show ((subN X i A b n (y 0).val (256 * (y 1).val + (y 3).val) : ℝ) : EReal) = ((subN X i A b (n + 1) (y 0).val (256 * (y 1).val + (y 3).val) : ℝ) : EReal)
    unfold subN
    by_cases hc : 256 * (y 1).val + (y 3).val < 256 * b ∨ (256 * (y 1).val + (y 3).val < 256 * (b + 1) ∧ (y 0).val < n)
    · rw [if_pos hc, if_pos (by omega)]
    · rw [if_neg hc, if_neg (by omega)]
end

theorem df_block (n b : ℕ) (A : ℕ → ℕ → ℝ) : dfV (F := Ideal) (cr (rw4 n A b)) (cv 256 256 fun r c => X n (256 * i + r) (256 * b + c)) = cr fun c => rw4 n A b c - ∑ j ∈ Finset.range 256, X n (256 * i + j) (256 * b + c) := dfV_cv _ _

end Cert.FoxIdeal.Mem

end

end
-- ==== Proof.FoxModel.lean ====
/-
  The gradients, of all heads, over the reals.
-/
module

public import proofs.«01_k».proof.Proof.FoxBlock
public import proofs.«01_k».proof.Proof.Inputs

@[expose] public section

set_option maxRecDepth 16384

noncomputable section

namespace Cert.FoxIdeal

open Cert.FoxIdeal.Block Idealize.ShloMosaic
open scoped BigOperators

namespace Inputs

/-- The columns of head group `h` of the queries, keys, values and outputs, and the rows of its heads. -/
def qs (X : ℕ → ℕ → ℝ) (h t e : ℕ) : ℝ := X t (1024 + 512 * h + e)
def ks (X : ℕ → ℕ → ℝ) (h t e : ℕ) : ℝ := X t (3072 + 512 * h + e)
def vs (X : ℕ → ℕ → ℝ) (h t e : ℕ) : ℝ := X t (5120 + 512 * h + e)
def os (O : ℕ → ℕ → ℝ) (h t e : ℕ) : ℝ := O t (512 * h + e)
def ts (S : ℕ → ℕ → ℝ) (h n t : ℕ) : ℝ := S (4 * h + n) t

end Inputs

namespace KernelOut

open Inputs

variable (X Y O F L : ℕ → ℕ → ℝ)

/-- The weights, the gradients of the scores and of the unscaled scores, of all heads. -/
def WA : ℕ → ℕ → ℕ → ℝ := P (qs X 0) (ks X 0) F L
def SA : ℕ → ℕ → ℕ → ℝ := DS (qs X 0) (qs Y 0) (ks X 0) (vs X 0) O F L
def ZA (n t s : ℕ) : ℝ := SA X Y O F L n t s * Cert.KernelIdeal.Block.sc

/-- The gradient with respect to the queries. -/
def dQ (t j : ℕ) : ℝ := ∑ s ∈ Finset.range 2048, ZA X Y O F L (j / 128) t s * X s (3072 + j)
/-- The gradient with respect to the keys. -/
def dK (s j : ℕ) : ℝ := ∑ t ∈ Finset.range 2048, ZA X Y O F L (j / 128) t s * X t (1024 + j)
/-- The gradient with respect to the values. -/
def dV (s j : ℕ) : ℝ := ∑ t ∈ Finset.range 2048, WA X F L (j / 128) t s * Y t (1024 + j)
/-- The gradient with respect to the forget sums. -/
def dF (n s : ℕ) : ℝ := -∑ t ∈ Finset.range 2048, SA X Y O F L n t s

end KernelOut

end Cert.FoxIdeal

end

end
-- ==== Proof.FoxInputs.lean ====
/-
  The blocks a grid point is handed, of arrays of reals: of head group `t / 8`, rows from `256 * (t % 8)` on.
-/
module

public import proofs.«01_k».proof.Proof.FoxMem
public import proofs.«01_k».proof.Proof.FoxModel
public import proofs.«01_k».proof.Proof.Gen.FoxIdeal.Frame

@[expose] public section

set_option maxRecDepth 16384

noncomputable section

namespace Cert.FoxIdeal.Inputs

open Cert.FoxIdeal Cert.FoxIdeal.Gen Cert.FoxIdeal.Block Cert.FoxIdeal.Mem Idealize.ShloMosaic Idealize.ShloMosaic.TcCoe Idealize.SL.Sem
open Cert.KernelIdeal.Block (cv)
open Cert.KernelIdeal.Acc (addN)
open Cert.KernelIdeal.Inputs (accS)
open scoped BigOperators

theorem coord1 : ∀ t : Fin grid0.N, ((grid0.coords t) 1).val = t.val % 8 := by decide +kernel
theorem index0 : ∀ t : Fin grid0.N, win0_0.index t 0 = t.val % 8 ∧ win0_0.index t 1 = 2 + t.val / 8 := by decide +kernel
theorem index1 : ∀ t : Fin grid0.N, win0_1.index t 0 = 0 ∧ win0_1.index t 1 = 6 + t.val / 8 := by decide +kernel
theorem index2 : ∀ t : Fin grid0.N, win0_2.index t 0 = 0 ∧ win0_2.index t 1 = 10 + t.val / 8 := by decide +kernel
theorem index3 : ∀ t : Fin grid0.N, win0_3.index t 0 = t.val % 8 ∧ win0_3.index t 1 = 2 + t.val / 8 := by decide +kernel
theorem index4 : ∀ t : Fin grid0.N, win0_4.index t 0 = t.val % 8 ∧ win0_4.index t 1 = t.val / 8 := by decide +kernel
theorem index5 : ∀ t : Fin grid0.N, win0_5.index t 0 = t.val / 8 ∧ win0_5.index t 1 = t.val % 8 ∧ win0_5.index t 2 = 0 := by decide +kernel
theorem index6 : ∀ t : Fin grid0.N, win0_6.index t 0 = t.val / 8 ∧ win0_6.index t 1 = 0 ∧ win0_6.index t 2 = 0 ∧ win0_6.index t 3 = 0 := by decide +kernel
theorem index7 : ∀ t : Fin grid0.N, win0_7.index t 0 = t.val / 8 ∧ win0_7.index t 1 = t.val % 8 ∧ win0_7.index t 2 = 0 := by decide +kernel

variable (m : (ℓ : Loc nD τ sig) → Buf (Elt Ideal) ℓ) (c : Dev nD) (X Y O F L : ℕ → ℕ → ℝ)

theorem blk0 (h : V m c main_arg0 = cv 2048 6144 X) (t : Fin cfg0.N) : iblk m c 0 t = cv 256 512 fun r e => qs X (t.val / 8) (256 * ((grid0.coords t) 1).val + r) e := by
  show (win0_0.blk t).view.read (Elt Ideal) (V m c main_arg0) = _
  rw [h]
  funext j
  obtain ⟨e0, e1⟩ := index0 t
  have f0 : ((win0_0.blk t).view.emb j 0).val = win0_0.index t 0 * 256 + 1 * (j 0).val := rfl
  have f1 : ((win0_0.blk t).view.emb j 1).val = win0_0.index t 1 * 512 + 1 * (j 1).val := rfl
  show ((X ((win0_0.blk t).view.emb j 0).val ((win0_0.blk t).view.emb j 1).val : ℝ) : EReal) = (((X (256 * ((grid0.coords t) 1).val + (j 0).val) (1024 + 512 * (t.val / 8) + (j 1).val)) : ℝ) : EReal)
  rw [f0, f1, e0, e1, coord1]
  exact congrArg (fun x : ℝ => (x : EReal)) (congrArg₂ X (by omega) (by omega))

theorem blk1 (h : V m c main_arg0 = cv 2048 6144 X) (t : Fin cfg0.N) : iblk m c 1 t = cv 2048 512 (ks X (t.val / 8)) := by
  show (win0_1.blk t).view.read (Elt Ideal) (V m c main_arg0) = _
  rw [h]
  funext j
  obtain ⟨e0, e1⟩ := index1 t
  have f0 : ((win0_1.blk t).view.emb j 0).val = win0_1.index t 0 * 2048 + 1 * (j 0).val := rfl
  have f1 : ((win0_1.blk t).view.emb j 1).val = win0_1.index t 1 * 512 + 1 * (j 1).val := rfl
  show ((X ((win0_1.blk t).view.emb j 0).val ((win0_1.blk t).view.emb j 1).val : ℝ) : EReal) = (((X (j 0).val (3072 + 512 * (t.val / 8) + (j 1).val)) : ℝ) : EReal)
  rw [f0, f1, e0, e1]
  exact congrArg (fun x : ℝ => (x : EReal)) (congrArg₂ X (by omega) (by omega))

theorem blk2 (h : V m c main_arg0 = cv 2048 6144 X) (t : Fin cfg0.N) : iblk m c 2 t = cv 2048 512 (vs X (t.val / 8)) := by
  show (win0_2.blk t).view.read (Elt Ideal) (V m c main_arg0) = _
  rw [h]
  funext j
  obtain ⟨e0, e1⟩ := index2 t
  have f0 : ((win0_2.blk t).view.emb j 0).val = win0_2.index t 0 * 2048 + 1 * (j 0).val := rfl
  have f1 : ((win0_2.blk t).view.emb j 1).val = win0_2.index t 1 * 512 + 1 * (j 1).val := rfl
  show ((X ((win0_2.blk t).view.emb j 0).val ((win0_2.blk t).view.emb j 1).val : ℝ) : EReal) = (((X (j 0).val (5120 + 512 * (t.val / 8) + (j 1).val)) : ℝ) : EReal)
  rw [f0, f1, e0, e1]
  exact congrArg (fun x : ℝ => (x : EReal)) (congrArg₂ X (by omega) (by omega))

theorem blk3 (h : V m c main_arg1 = cv 2048 2048 Y) (t : Fin cfg0.N) : iblk m c 3 t = cv 256 512 fun r e => qs Y (t.val / 8) (256 * ((grid0.coords t) 1).val + r) e := by
  show (win0_3.blk t).view.read (Elt Ideal) (V m c main_arg1) = _
  rw [h]
  funext j
  obtain ⟨e0, e1⟩ := index3 t
  have f0 : ((win0_3.blk t).view.emb j 0).val = win0_3.index t 0 * 256 + 1 * (j 0).val := rfl
  have f1 : ((win0_3.blk t).view.emb j 1).val = win0_3.index t 1 * 512 + 1 * (j 1).val := rfl
  show ((Y ((win0_3.blk t).view.emb j 0).val ((win0_3.blk t).view.emb j 1).val : ℝ) : EReal) = (((Y (256 * ((grid0.coords t) 1).val + (j 0).val) (1024 + 512 * (t.val / 8) + (j 1).val)) : ℝ) : EReal)
  rw [f0, f1, e0, e1, coord1]
  exact congrArg (fun x : ℝ => (x : EReal)) (congrArg₂ Y (by omega) (by omega))

theorem blk4 (h : V m c main_v80 = cv 2048 1024 O) (t : Fin cfg0.N) : iblk m c 4 t = cv 256 512 fun r e => os O (t.val / 8) (256 * ((grid0.coords t) 1).val + r) e := by
  show (win0_4.blk t).view.read (Elt Ideal) (V m c main_v80) = _
  rw [h]
  funext j
  obtain ⟨e0, e1⟩ := index4 t
  have f0 : ((win0_4.blk t).view.emb j 0).val = win0_4.index t 0 * 256 + 1 * (j 0).val := rfl
  have f1 : ((win0_4.blk t).view.emb j 1).val = win0_4.index t 1 * 512 + 1 * (j 1).val := rfl
  show ((O ((win0_4.blk t).view.emb j 0).val ((win0_4.blk t).view.emb j 1).val : ℝ) : EReal) = (((O (256 * ((grid0.coords t) 1).val + (j 0).val) (512 * (t.val / 8) + (j 1).val)) : ℝ) : EReal)
  rw [f0, f1, e0, e1, coord1]
  exact congrArg (fun x : ℝ => (x : EReal)) (congrArg₂ O (by omega) (by omega))

theorem blk5 (h : V m c main_v81 = fun j => ((F (j 0).val (j 1).val : ℝ) : EReal)) (t : Fin cfg0.N) :
    iblk m c 5 t = fun j => ((ts F (t.val / 8) (j 0).val (256 * ((grid0.coords t) 1).val + (j 1).val) : ℝ) : EReal) := by
  show (win0_5.blk t).view.read (Elt Ideal) (V m c main_v81) = _
  rw [h]
  funext j
  obtain ⟨e0, e1, _⟩ := index5 t
  have f0 : ((win0_5.blk t).view.emb j 0).val = win0_5.index t 0 * 4 + 1 * (j 0).val := rfl
  have f1 : ((win0_5.blk t).view.emb j 1).val = win0_5.index t 1 * 256 + 1 * (j 1).val := rfl
  show ((F ((win0_5.blk t).view.emb j 0).val ((win0_5.blk t).view.emb j 1).val : ℝ) : EReal) = ((F (4 * (t.val / 8) + (j 0).val) (256 * ((grid0.coords t) 1).val + (j 1).val) : ℝ) : EReal)
  rw [f0, f1, e0, e1, coord1]
  exact congrArg (fun x : ℝ => (x : EReal)) (congrArg₂ F (by omega) (by omega))

theorem blk7 (h : V m c main_v38 = fun j => ((L (j 0).val (j 1).val : ℝ) : EReal)) (t : Fin cfg0.N) :
    iblk m c 7 t = fun j => ((ts L (t.val / 8) (j 0).val (256 * ((grid0.coords t) 1).val + (j 1).val) : ℝ) : EReal) := by
  show (win0_7.blk t).view.read (Elt Ideal) (V m c main_v38) = _
  rw [h]
  funext j
  obtain ⟨e0, e1, _⟩ := index7 t
  have f0 : ((win0_7.blk t).view.emb j 0).val = win0_7.index t 0 * 4 + 1 * (j 0).val := rfl
  have f1 : ((win0_7.blk t).view.emb j 1).val = win0_7.index t 1 * 256 + 1 * (j 1).val := rfl
  show ((L ((win0_7.blk t).view.emb j 0).val ((win0_7.blk t).view.emb j 1).val : ℝ) : EReal) = ((L (4 * (t.val / 8) + (j 0).val) (256 * ((grid0.coords t) 1).val + (j 1).val) : ℝ) : EReal)
  rw [f0, f1, e0, e1, coord1]
  exact congrArg (fun x : ℝ => (x : EReal)) (congrArg₂ L (by omega) (by omega))

theorem blk6 (h : V m c main_v82 = fun j => ((F (j 0).val (256 * (j 1).val + (j 3).val) : ℝ) : EReal)) (t : Fin cfg0.N) :
    iblk m c 6 t = c4 (ts F (t.val / 8)) := by
  show (win0_6.blk t).view.read (Elt Ideal) (V m c main_v82) = _
  rw [h]
  funext j
  obtain ⟨e0, e1, _, e3⟩ := index6 t
  have f0 : ((win0_6.blk t).view.emb j 0).val = win0_6.index t 0 * 4 + 1 * (j 0).val := rfl
  have f1 : ((win0_6.blk t).view.emb j 1).val = win0_6.index t 1 * 8 + 1 * (j 1).val := rfl
  have f3 : ((win0_6.blk t).view.emb j 3).val = win0_6.index t 3 * 256 + 1 * (j 3).val := rfl
  show ((F ((win0_6.blk t).view.emb j 0).val (256 * ((win0_6.blk t).view.emb j 1).val + ((win0_6.blk t).view.emb j 3).val) : ℝ) : EReal) = ((F (4 * (t.val / 8) + (j 0).val) (256 * (j 1).val + (j 3).val) : ℝ) : EReal)
  rw [f0, f1, f3, e0, e1, e3]
  exact congrArg (fun x : ℝ => (x : EReal)) (congrArg₂ F (by omega) (by omega))

theorem accS_next (Z : ℕ → ℕ → ℕ → ℝ) (M : ℕ → ℕ → ℝ) (hZ : ∀ n t s, ¬ s ≤ t → Z n t s = 0) (p : ℕ) :
    addN Z M p (p + 1) 0 (accS Z M p) = accS Z M (p + 1) := by
  funext s e
  unfold addN
  have hs : accS Z M (p + 1) s e = accS Z M p s e + ∑ j ∈ Finset.range 256, Z (e / 128) (256 * p + j) s * M (256 * p + j) e := by
    unfold accS
    rw [Nat.mul_add, Nat.mul_one]
    exact Finset.sum_range_add (fun t => Z (e / 128) t s * M t e) (256 * p) 256
  rw [hs]
  by_cases h : s < 256 * (p + 1)
  · rw [if_pos (Or.inl h)]
  · rw [if_neg (by omega), Finset.sum_eq_zero fun j hj => ?_, add_zero]
    rw [hZ _ _ _ (by have := Finset.mem_range.1 hj; omega), zero_mul]

/-- The column sums over the queries before row `256 * p`, taken from zero. -/
def colS (Z : ℕ → ℕ → ℕ → ℝ) (p n s : ℕ) : ℝ := -∑ t ∈ Finset.range (256 * p), Z n t s

theorem colS_zero (Z : ℕ → ℕ → ℕ → ℝ) : colS Z 0 = fun _ _ => 0 := by
  funext n s; unfold colS; rw [Nat.mul_zero, Finset.sum_range_zero, neg_zero]

theorem colS_next (Z : ℕ → ℕ → ℕ → ℝ) (hZ : ∀ n t s, ¬ s ≤ t → Z n t s = 0) (p : ℕ) :
    subN Z p (colS Z p) (p + 1) 0 = colS Z (p + 1) := by
  funext n s
  unfold subN
  have hs : colS Z (p + 1) n s = colS Z p n s - ∑ j ∈ Finset.range 256, Z n (256 * p + j) s := by
    unfold colS
    rw [Nat.mul_add, Nat.mul_one, Finset.sum_range_add (fun t => Z n t s) (256 * p) 256, neg_add, sub_eq_add_neg]
  rw [hs]
  by_cases h : s < 256 * (p + 1)
  · rw [if_pos (Or.inl h)]
  · rw [if_neg (by omega), Finset.sum_eq_zero fun j hj => ?_, sub_zero]
    exact hZ _ _ _ (by have := Finset.mem_range.1 hj; omega)

section
variable (Q D K V O G L : ℕ → ℕ → ℝ) (n : ℕ) {t s : ℕ} (h : ¬ s ≤ t)
include h
theorem P_of_not : P Q K G L n t s = 0 := if_neg h
theorem DS_of_not : DS Q D K V O G L n t s = 0 := by unfold DS; rw [P_of_not Q K G L n h, zero_mul]
theorem DZ_of_not : DZ Q D K V O G L n t s = 0 := by unfold DZ; rw [DS_of_not Q D K V O G L n h, zero_mul]
end

end Cert.FoxIdeal.Inputs

end

end
-- ==== Proof.FoxTrip.lean ====
/-
  One trip of the loop over the blocks left of the diagonal, read: what it yields and what it stores, per head.
-/
module

public import proofs.«01_k».proof.Proof.FoxStep
public import proofs.«01_k».proof.Proof.Gen.FoxIdeal.Loops

@[expose] public section

set_option maxRecDepth 16384
set_option maxHeartbeats 4000000

noncomputable section

namespace Cert.FoxIdeal.Trip

open Cert.FoxIdeal Cert.FoxIdeal.Gen Cert.FoxIdeal.Step Idealize.ShloMosaic Idealize.ShloMosaic.TcCoe Idealize.SL.Sem

variable {F : FTy → Type} [FloatOps F]

/-- What a trip stores into the accumulators. -/
theorem tripL_eq (𝒱 : Variants) (c : Dev nD) (bd : Option 𝒱.V) (i : grid0.Coords) (m2 : Memref sig .tc .vmem S256x512 .bf16) (w2 : m2.IsWhole) (m3 : Memref sig .tc .vmem S2048x512 .bf16) (w3 : m3.IsWhole) (m4 : Memref sig .tc .vmem S2048x512 .bf16) (w4 : m4.IsWhole) (m5 : Memref sig .tc .vmem S256x512 .bf16) (w5 : m5.IsWhole) (m6 : Memref sig .tc .vmem S256x512 .f32) (w6 : m6.IsWhole) (m7 : Memref sig .tc .vmem S4x256x1 .f32) (w7 : m7.IsWhole) (m8 : Memref sig .tc .vmem S4x8x1x256 .f32) (w8 : m8.IsWhole) (m9 : Memref sig .tc .vmem S4x256x1 .f32) (w9 : m9.IsWhole) (m10 : Memref sig .tc .vmem S256x512 .bf16) (w10 : m10.IsWhole) (m11 : Memref sig .tc .vmem S2048x512 .bf16) (w11 : m11.IsWhole) (m12 : Memref sig .tc .vmem S2048x512 .bf16) (w12 : m12.IsWhole) (m13 : Memref sig .tc .vmem S4x8x1x256 .f32) (w13 : m13.IsWhole) (m14 : Memref sig .tc .vmem S2048x512 .f32) (w14 : m14.IsWhole) (m15 : Memref sig .tc .vmem S2048x512 .f32) (w15 : m15.IsWhole) (m16 : Memref sig .tc .vmem S4x8x1x256 .f32) (w16 : m16.IsWhole) (m1 : BitVec 32) (v3 : IVec S256x256 32) (v4 : IVec S256x256 32) (v5 : Vec F S256x128 .bf16) (v6 : Vec F S256x128 .bf16) (v7 : Vec F S256x128 .bf16) (v8 : Vec F S256x128 .bf16) (v9 : Vec F S256x128 .bf16) (v10 : Vec F S256x128 .bf16) (v11 : Vec F S256x128 .bf16) (v12 : Vec F S256x128 .bf16) (v14 : FVec F S256x1 .f32) (v16 : FVec F S256x1 .f32) (v18 : FVec F S256x1 .f32) (v20 : FVec F S256x1 .f32) (v22 : FVec F S256x1 .f32) (v24 : FVec F S256x1 .f32) (v26 : FVec F S256x1 .f32) (v28 : FVec F S256x1 .f32) (v34 : FVec F S256x1 .f32) (v40 : FVec F S256x1 .f32) (v46 : FVec F S256x1 .f32) (v52 : FVec F S256x1 .f32) (v53 : FVec F S256x128 .f32) (c0_i32_46 : BitVec 32) (v58 : BitVec 32) (c1_i32_47 : BitVec 32) (X_arg3 : BufTy.Contents (Elt F) m3.view.ty) (X_arg4 : BufTy.Contents (Elt F) m4.view.ty) (X_arg8 : BufTy.Contents (Elt F) m8.view.ty) (k : Fin (k0_t1_loop i).trips) (a0 a1 a2 a3 : FVec F S256x128 .f32) (f14 : BufTy.Contents (Elt F) m14.view.ty) (f15 : BufTy.Contents (Elt F) m15.view.ty) (f16 : BufTy.Contents (Elt F) m16.view.ty) :
    tripL_k0_t1 𝒱 c bd i m2 w2 m3 w3 m4 w4 m5 w5 m6 w6 m7 w7 m8 w8 m9 w9 m10 w10 m11 w11 m12 w12 m13 w13 m14 w14 m15 w15 m16 w16 m1 v3 v4 v5 v6 v7 v8 v9 v10 v11 v12 v14 v16 v18 v20 v22 v24 v26 v28 v34 v40 v46 v52 v53 c0_i32_46 v58 c1_i32_47 X_arg3 X_arg4 X_arg8 k (a0,a1,a2,a3) f14 f15 f16
      = ([⟨(Rect.unit (s := S2048x512) (k0_off7 i k) S256x128.size (k0_off7_inb i k)), accV (View.readAt (Elt F) m14.view (Rect.unit (s := S2048x512) (k0_off7 i k) S256x128.size (k0_off7_inb i k)).toLoadRect f14) (dsbV (dsN v8 v12 (View.readAt (Elt F) m3.view (Rect.unit (s := S2048x512) (k0_off7 i k) S256x128.size (k0_off7_inb i k)).toLoadRect X_arg3) (View.readAt (Elt F) m4.view (Rect.unit (s := S2048x512) (k0_off7 i k) S256x128.size (k0_off7_inb i k)).toLoadRect X_arg4) v20 v28 v52 (View.readAt (Elt F) m8.view (Rect.unit (s := S4x8x1x256) (k0_off8 i k) S1x1x1x256.size (k0_off8_inb i k)).toLoadRect X_arg8))) v8⟩,
        ⟨(Rect.unit (s := S2048x512) (k0_off5 i k) S256x128.size (k0_off5_inb i k)), accV (View.readAt (Elt F) m14.view (Rect.unit (s := S2048x512) (k0_off5 i k) S256x128.size (k0_off5_inb i k)).toLoadRect f14) (dsbV (dsN v7 v11 (View.readAt (Elt F) m3.view (Rect.unit (s := S2048x512) (k0_off5 i k) S256x128.size (k0_off5_inb i k)).toLoadRect X_arg3) (View.readAt (Elt F) m4.view (Rect.unit (s := S2048x512) (k0_off5 i k) S256x128.size (k0_off5_inb i k)).toLoadRect X_arg4) v18 v26 v46 (View.readAt (Elt F) m8.view (Rect.unit (s := S4x8x1x256) (k0_off6 i k) S1x1x1x256.size (k0_off6_inb i k)).toLoadRect X_arg8))) v7⟩,
        ⟨(Rect.unit (s := S2048x512) (k0_off3 i k) S256x128.size (k0_off3_inb i k)), accV (View.readAt (Elt F) m14.view (Rect.unit (s := S2048x512) (k0_off3 i k) S256x128.size (k0_off3_inb i k)).toLoadRect f14) (dsbV (dsN v6 v10 (View.readAt (Elt F) m3.view (Rect.unit (s := S2048x512) (k0_off3 i k) S256x128.size (k0_off3_inb i k)).toLoadRect X_arg3) (View.readAt (Elt F) m4.view (Rect.unit (s := S2048x512) (k0_off3 i k) S256x128.size (k0_off3_inb i k)).toLoadRect X_arg4) v16 v24 v40 (View.readAt (Elt F) m8.view (Rect.unit (s := S4x8x1x256) (k0_off4 i k) S1x1x1x256.size (k0_off4_inb i k)).toLoadRect X_arg8))) v6⟩,
        ⟨(Rect.unit (s := S2048x512) (k0_off1 i k) S256x128.size (k0_off1_inb i k)), accV (View.readAt (Elt F) m14.view (Rect.unit (s := S2048x512) (k0_off1 i k) S256x128.size (k0_off1_inb i k)).toLoadRect f14) (dsbV (dsN v5 v9 (View.readAt (Elt F) m3.view (Rect.unit (s := S2048x512) (k0_off1 i k) S256x128.size (k0_off1_inb i k)).toLoadRect X_arg3) (View.readAt (Elt F) m4.view (Rect.unit (s := S2048x512) (k0_off1 i k) S256x128.size (k0_off1_inb i k)).toLoadRect X_arg4) v14 v22 v34 (View.readAt (Elt F) m8.view (Rect.unit (s := S4x8x1x256) (k0_off2 i k) S1x1x1x256.size (k0_off2_inb i k)).toLoadRect X_arg8))) v5⟩],
       [⟨(Rect.unit (s := S2048x512) (k0_off7 i k) S256x128.size (k0_off7_inb i k)), accV (View.readAt (Elt F) m15.view (Rect.unit (s := S2048x512) (k0_off7 i k) S256x128.size (k0_off7_inb i k)).toLoadRect f15) (pb (pN v8 (View.readAt (Elt F) m3.view (Rect.unit (s := S2048x512) (k0_off7 i k) S256x128.size (k0_off7_inb i k)).toLoadRect X_arg3) v20 v28 (View.readAt (Elt F) m8.view (Rect.unit (s := S4x8x1x256) (k0_off8 i k) S1x1x1x256.size (k0_off8_inb i k)).toLoadRect X_arg8))) v12⟩,
        ⟨(Rect.unit (s := S2048x512) (k0_off5 i k) S256x128.size (k0_off5_inb i k)), accV (View.readAt (Elt F) m15.view (Rect.unit (s := S2048x512) (k0_off5 i k) S256x128.size (k0_off5_inb i k)).toLoadRect f15) (pb (pN v7 (View.readAt (Elt F) m3.view (Rect.unit (s := S2048x512) (k0_off5 i k) S256x128.size (k0_off5_inb i k)).toLoadRect X_arg3) v18 v26 (View.readAt (Elt F) m8.view (Rect.unit (s := S4x8x1x256) (k0_off6 i k) S1x1x1x256.size (k0_off6_inb i k)).toLoadRect X_arg8))) v11⟩,
        ⟨(Rect.unit (s := S2048x512) (k0_off3 i k) S256x128.size (k0_off3_inb i k)), accV (View.readAt (Elt F) m15.view (Rect.unit (s := S2048x512) (k0_off3 i k) S256x128.size (k0_off3_inb i k)).toLoadRect f15) (pb (pN v6 (View.readAt (Elt F) m3.view (Rect.unit (s := S2048x512) (k0_off3 i k) S256x128.size (k0_off3_inb i k)).toLoadRect X_arg3) v16 v24 (View.readAt (Elt F) m8.view (Rect.unit (s := S4x8x1x256) (k0_off4 i k) S1x1x1x256.size (k0_off4_inb i k)).toLoadRect X_arg8))) v10⟩,
        ⟨(Rect.unit (s := S2048x512) (k0_off1 i k) S256x128.size (k0_off1_inb i k)), accV (View.readAt (Elt F) m15.view (Rect.unit (s := S2048x512) (k0_off1 i k) S256x128.size (k0_off1_inb i k)).toLoadRect f15) (pb (pN v5 (View.readAt (Elt F) m3.view (Rect.unit (s := S2048x512) (k0_off1 i k) S256x128.size (k0_off1_inb i k)).toLoadRect X_arg3) v14 v22 (View.readAt (Elt F) m8.view (Rect.unit (s := S4x8x1x256) (k0_off2 i k) S1x1x1x256.size (k0_off2_inb i k)).toLoadRect X_arg8))) v9⟩],
       [⟨(Rect.unit (s := S4x8x1x256) (k0_off8 i k) S1x1x1x256.size (k0_off8_inb i k)), dfV (View.readAt (Elt F) m16.view (Rect.unit (s := S4x8x1x256) (k0_off8 i k) S1x1x1x256.size (k0_off8_inb i k)).toLoadRect f16) (dsN v8 v12 (View.readAt (Elt F) m3.view (Rect.unit (s := S2048x512) (k0_off7 i k) S256x128.size (k0_off7_inb i k)).toLoadRect X_arg3) (View.readAt (Elt F) m4.view (Rect.unit (s := S2048x512) (k0_off7 i k) S256x128.size (k0_off7_inb i k)).toLoadRect X_arg4) v20 v28 v52 (View.readAt (Elt F) m8.view (Rect.unit (s := S4x8x1x256) (k0_off8 i k) S1x1x1x256.size (k0_off8_inb i k)).toLoadRect X_arg8))⟩,
        ⟨(Rect.unit (s := S4x8x1x256) (k0_off6 i k) S1x1x1x256.size (k0_off6_inb i k)), dfV (View.readAt (Elt F) m16.view (Rect.unit (s := S4x8x1x256) (k0_off6 i k) S1x1x1x256.size (k0_off6_inb i k)).toLoadRect f16) (dsN v7 v11 (View.readAt (Elt F) m3.view (Rect.unit (s := S2048x512) (k0_off5 i k) S256x128.size (k0_off5_inb i k)).toLoadRect X_arg3) (View.readAt (Elt F) m4.view (Rect.unit (s := S2048x512) (k0_off5 i k) S256x128.size (k0_off5_inb i k)).toLoadRect X_arg4) v18 v26 v46 (View.readAt (Elt F) m8.view (Rect.unit (s := S4x8x1x256) (k0_off6 i k) S1x1x1x256.size (k0_off6_inb i k)).toLoadRect X_arg8))⟩,
        ⟨(Rect.unit (s := S4x8x1x256) (k0_off4 i k) S1x1x1x256.size (k0_off4_inb i k)), dfV (View.readAt (Elt F) m16.view (Rect.unit (s := S4x8x1x256) (k0_off4 i k) S1x1x1x256.size (k0_off4_inb i k)).toLoadRect f16) (dsN v6 v10 (View.readAt (Elt F) m3.view (Rect.unit (s := S2048x512) (k0_off3 i k) S256x128.size (k0_off3_inb i k)).toLoadRect X_arg3) (View.readAt (Elt F) m4.view (Rect.unit (s := S2048x512) (k0_off3 i k) S256x128.size (k0_off3_inb i k)).toLoadRect X_arg4) v16 v24 v40 (View.readAt (Elt F) m8.view (Rect.unit (s := S4x8x1x256) (k0_off4 i k) S1x1x1x256.size (k0_off4_inb i k)).toLoadRect X_arg8))⟩,
        ⟨(Rect.unit (s := S4x8x1x256) (k0_off2 i k) S1x1x1x256.size (k0_off2_inb i k)), dfV (View.readAt (Elt F) m16.view (Rect.unit (s := S4x8x1x256) (k0_off2 i k) S1x1x1x256.size (k0_off2_inb i k)).toLoadRect f16) (dsN v5 v9 (View.readAt (Elt F) m3.view (Rect.unit (s := S2048x512) (k0_off1 i k) S256x128.size (k0_off1_inb i k)).toLoadRect X_arg3) (View.readAt (Elt F) m4.view (Rect.unit (s := S2048x512) (k0_off1 i k) S256x128.size (k0_off1_inb i k)).toLoadRect X_arg4) v14 v22 v34 (View.readAt (Elt F) m8.view (Rect.unit (s := S4x8x1x256) (k0_off2 i k) S1x1x1x256.size (k0_off2_inb i k)).toLoadRect X_arg8))⟩]) := by
  unfold tripL_k0_t1 trip_k0_t1
  rfl

/-- What a trip yields. -/
theorem tripR_eq (𝒱 : Variants) (c : Dev nD) (bd : Option 𝒱.V) (i : grid0.Coords) (m2 : Memref sig .tc .vmem S256x512 .bf16) (w2 : m2.IsWhole) (m3 : Memref sig .tc .vmem S2048x512 .bf16) (w3 : m3.IsWhole) (m4 : Memref sig .tc .vmem S2048x512 .bf16) (w4 : m4.IsWhole) (m5 : Memref sig .tc .vmem S256x512 .bf16) (w5 : m5.IsWhole) (m6 : Memref sig .tc .vmem S256x512 .f32) (w6 : m6.IsWhole) (m7 : Memref sig .tc .vmem S4x256x1 .f32) (w7 : m7.IsWhole) (m8 : Memref sig .tc .vmem S4x8x1x256 .f32) (w8 : m8.IsWhole) (m9 : Memref sig .tc .vmem S4x256x1 .f32) (w9 : m9.IsWhole) (m10 : Memref sig .tc .vmem S256x512 .bf16) (w10 : m10.IsWhole) (m11 : Memref sig .tc .vmem S2048x512 .bf16) (w11 : m11.IsWhole) (m12 : Memref sig .tc .vmem S2048x512 .bf16) (w12 : m12.IsWhole) (m13 : Memref sig .tc .vmem S4x8x1x256 .f32) (w13 : m13.IsWhole) (m14 : Memref sig .tc .vmem S2048x512 .f32) (w14 : m14.IsWhole) (m15 : Memref sig .tc .vmem S2048x512 .f32) (w15 : m15.IsWhole) (m16 : Memref sig .tc .vmem S4x8x1x256 .f32) (w16 : m16.IsWhole) (m1 : BitVec 32) (v3 : IVec S256x256 32) (v4 : IVec S256x256 32) (v5 : Vec F S256x128 .bf16) (v6 : Vec F S256x128 .bf16) (v7 : Vec F S256x128 .bf16) (v8 : Vec F S256x128 .bf16) (v9 : Vec F S256x128 .bf16) (v10 : Vec F S256x128 .bf16) (v11 : Vec F S256x128 .bf16) (v12 : Vec F S256x128 .bf16) (v14 : FVec F S256x1 .f32) (v16 : FVec F S256x1 .f32) (v18 : FVec F S256x1 .f32) (v20 : FVec F S256x1 .f32) (v22 : FVec F S256x1 .f32) (v24 : FVec F S256x1 .f32) (v26 : FVec F S256x1 .f32) (v28 : FVec F S256x1 .f32) (v34 : FVec F S256x1 .f32) (v40 : FVec F S256x1 .f32) (v46 : FVec F S256x1 .f32) (v52 : FVec F S256x1 .f32) (v53 : FVec F S256x128 .f32) (c0_i32_46 : BitVec 32) (v58 : BitVec 32) (c1_i32_47 : BitVec 32) (X_arg3 : BufTy.Contents (Elt F) m3.view.ty) (X_arg4 : BufTy.Contents (Elt F) m4.view.ty) (X_arg8 : BufTy.Contents (Elt F) m8.view.ty) (k : Fin (k0_t1_loop i).trips) (a0 a1 a2 a3 : FVec F S256x128 .f32) (f14 : BufTy.Contents (Elt F) m14.view.ty) (f15 : BufTy.Contents (Elt F) m15.view.ty) (f16 : BufTy.Contents (Elt F) m16.view.ty) :
    tripR_k0_t1 𝒱 c bd i m2 w2 m3 w3 m4 w4 m5 w5 m6 w6 m7 w7 m8 w8 m9 w9 m10 w10 m11 w11 m12 w12 m13 w13 m14 w14 m15 w15 m16 w16 m1 v3 v4 v5 v6 v7 v8 v9 v10 v11 v12 v14 v16 v18 v20 v22 v24 v26 v28 v34 v40 v46 v52 v53 c0_i32_46 v58 c1_i32_47 X_arg3 X_arg4 X_arg8 k (a0,a1,a2,a3) f14 f15 f16
      = (dqV a0 (dsbV (dsN v5 v9 (View.readAt (Elt F) m3.view (Rect.unit (s := S2048x512) (k0_off1 i k) S256x128.size (k0_off1_inb i k)).toLoadRect X_arg3) (View.readAt (Elt F) m4.view (Rect.unit (s := S2048x512) (k0_off1 i k) S256x128.size (k0_off1_inb i k)).toLoadRect X_arg4) v14 v22 v34 (View.readAt (Elt F) m8.view (Rect.unit (s := S4x8x1x256) (k0_off2 i k) S1x1x1x256.size (k0_off2_inb i k)).toLoadRect X_arg8))) (View.readAt (Elt F) m3.view (Rect.unit (s := S2048x512) (k0_off1 i k) S256x128.size (k0_off1_inb i k)).toLoadRect X_arg3),
        dqV a1 (dsbV (dsN v6 v10 (View.readAt (Elt F) m3.view (Rect.unit (s := S2048x512) (k0_off3 i k) S256x128.size (k0_off3_inb i k)).toLoadRect X_arg3) (View.readAt (Elt F) m4.view (Rect.unit (s := S2048x512) (k0_off3 i k) S256x128.size (k0_off3_inb i k)).toLoadRect X_arg4) v16 v24 v40 (View.readAt (Elt F) m8.view (Rect.unit (s := S4x8x1x256) (k0_off4 i k) S1x1x1x256.size (k0_off4_inb i k)).toLoadRect X_arg8))) (View.readAt (Elt F) m3.view (Rect.unit (s := S2048x512) (k0_off3 i k) S256x128.size (k0_off3_inb i k)).toLoadRect X_arg3),
        dqV a2 (dsbV (dsN v7 v11 (View.readAt (Elt F) m3.view (Rect.unit (s := S2048x512) (k0_off5 i k) S256x128.size (k0_off5_inb i k)).toLoadRect X_arg3) (View.readAt (Elt F) m4.view (Rect.unit (s := S2048x512) (k0_off5 i k) S256x128.size (k0_off5_inb i k)).toLoadRect X_arg4) v18 v26 v46 (View.readAt (Elt F) m8.view (Rect.unit (s := S4x8x1x256) (k0_off6 i k) S1x1x1x256.size (k0_off6_inb i k)).toLoadRect X_arg8))) (View.readAt (Elt F) m3.view (Rect.unit (s := S2048x512) (k0_off5 i k) S256x128.size (k0_off5_inb i k)).toLoadRect X_arg3),
        dqV a3 (dsbV (dsN v8 v12 (View.readAt (Elt F) m3.view (Rect.unit (s := S2048x512) (k0_off7 i k) S256x128.size (k0_off7_inb i k)).toLoadRect X_arg3) (View.readAt (Elt F) m4.view (Rect.unit (s := S2048x512) (k0_off7 i k) S256x128.size (k0_off7_inb i k)).toLoadRect X_arg4) v20 v28 v52 (View.readAt (Elt F) m8.view (Rect.unit (s := S4x8x1x256) (k0_off8 i k) S1x1x1x256.size (k0_off8_inb i k)).toLoadRect X_arg8))) (View.readAt (Elt F) m3.view (Rect.unit (s := S2048x512) (k0_off7 i k) S256x128.size (k0_off7_inb i k)).toLoadRect X_arg3)) := by
  unfold tripR_k0_t1 trip_k0_t1
  rfl

end Cert.FoxIdeal.Trip

end

end
-- ==== Proof.FoxLoop.lean ====
/-
  The loop over the blocks left of the diagonal, read: before trip `k` the carried values are the sums over the keys
  before block `k`, and the accumulators hold the rows' products and column sums at those keys.
-/
module

public import proofs.«01_k».proof.Proof.FoxMem
public import proofs.«01_k».proof.Proof.FoxTrip

@[expose] public section

set_option maxRecDepth 16384
set_option maxHeartbeats 1000000

noncomputable section

namespace Cert.FoxIdeal.Loop

open Cert.FoxIdeal Cert.FoxIdeal.Gen Cert.FoxIdeal.Step Cert.FoxIdeal.Block Cert.FoxIdeal.Mem Cert.FoxIdeal.Trip Idealize.ShloMosaic Idealize.ShloMosaic.TcCoe Idealize.SL.Sem
open Cert.KernelIdeal.Block (cv cv_congr ofBits_zero)
open Cert.KernelIdeal.Model (hd rows)
open Cert.KernelIdeal.Acc (addN addN_zero addN_next blockN)
open Idealize.ShloMosaic.ValueIdx hiding ix2 eq_ix2 ix1 eq_ix1 ix0 eq_ix0
open scoped BigOperators

variable (Q D K V O G L : ℕ → ℕ → ℝ)

/-- The carried values before block `b`, rows from `256 * p` on. -/
def carry (p b : ℕ) : FVec Ideal S256x128 .f32 × FVec Ideal S256x128 .f32 × FVec Ideal S256x128 .f32 × FVec Ideal S256x128 .f32 :=
  (cv 256 128 (DQ Q D K V O G L 0 p b), cv 256 128 (DQ Q D K V O G L 1 p b), cv 256 128 (DQ Q D K V O G L 2 p b), cv 256 128 (DQ Q D K V O G L 3 p b))

theorem carry_zero (p : ℕ) : carry Q D K V O G L p 0 = (k0_pay82, k0_pay82, k0_pay82, k0_pay82) := by
  have c : ∀ n, cv 256 128 (DQ Q D K V O G L n p 0) = (k0_pay82 (F := Ideal)) := fun n => by
    funext j; unfold k0_pay82; exact (Eq.trans (by simp [cv, DQ]) ofBits_zero.symm)
  unfold carry
  rw [c, c, c, c]

variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole)
variable (a1 : BitVec 32) (v3 v4 : IVec S256x256 32) (v53 : FVec Ideal S256x128 .f32) (c0 v58 c1 : BitVec 32)
variable (X3 : BufTy.Contents (Elt Ideal) a3.view.ty) (X4 : BufTy.Contents (Elt Ideal) a4.view.ty) (X8 : BufTy.Contents (Elt Ideal) a8.view.ty)
variable (p : ℕ) (h3 : a3.view.read (Elt Ideal) X3 = cv 2048 512 K) (h4 : a4.view.read (Elt Ideal) X4 = cv 2048 512 V) (h8 : a8.view.read (Elt Ideal) X8 = c4 G)

section
variable (k : Fin (k0_t1_loop i).trips) (hk : k.val < p) (f14 : BufTy.Contents (Elt Ideal) a14.view.ty) (f15 : BufTy.Contents (Elt Ideal) a15.view.ty) (f16 : BufTy.Contents (Elt Ideal) a16.view.ty)
include hk h3 h4 h8

/-- A trip's carried values. -/
theorem trip_carry :
    tripR_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 k (carry Q D K V O G L p k.val) f14 f15 f16 = carry Q D K V O G L p (k.val + 1) := by
  unfold carry
  rw [tripR_eq]
  rw [load_rows a3.view X3 (k0_off1 i k) (256 * k.val) k.val 0 (k0_off1_eq i k) (k0_off1_inb i k) K K h3 (fun _ _ => rfl), load_rows a4.view X4 (k0_off1 i k) (256 * k.val) k.val 0 (k0_off1_eq i k) (k0_off1_inb i k) V V h4 (fun _ _ => rfl), load_row G a8.view X8 (k0_off2 i k) k.val 0 (k0_off2_eq i k) (k0_off2_inb i k) h8]
  rw [dsN_eq Q D K V O G L 0 hk, DQ_step]
  rw [load_rows a3.view X3 (k0_off3 i k) (256 * k.val) k.val 1 (k0_off3_eq i k) (k0_off3_inb i k) K K h3 (fun _ _ => rfl), load_rows a4.view X4 (k0_off3 i k) (256 * k.val) k.val 1 (k0_off3_eq i k) (k0_off3_inb i k) V V h4 (fun _ _ => rfl), load_row G a8.view X8 (k0_off4 i k) k.val 1 (k0_off4_eq i k) (k0_off4_inb i k) h8]
  rw [dsN_eq Q D K V O G L 1 hk, DQ_step]
  rw [load_rows a3.view X3 (k0_off5 i k) (256 * k.val) k.val 2 (k0_off5_eq i k) (k0_off5_inb i k) K K h3 (fun _ _ => rfl), load_rows a4.view X4 (k0_off5 i k) (256 * k.val) k.val 2 (k0_off5_eq i k) (k0_off5_inb i k) V V h4 (fun _ _ => rfl), load_row G a8.view X8 (k0_off6 i k) k.val 2 (k0_off6_eq i k) (k0_off6_inb i k) h8]
  rw [dsN_eq Q D K V O G L 2 hk, DQ_step]
  rw [load_rows a3.view X3 (k0_off7 i k) (256 * k.val) k.val 3 (k0_off7_eq i k) (k0_off7_inb i k) K K h3 (fun _ _ => rfl), load_rows a4.view X4 (k0_off7 i k) (256 * k.val) k.val 3 (k0_off7_eq i k) (k0_off7_inb i k) V V h4 (fun _ _ => rfl), load_row G a8.view X8 (k0_off8 i k) k.val 3 (k0_off8_eq i k) (k0_off8_inb i k) h8]
  rw [dsN_eq Q D K V O G L 3 hk, DQ_step]

/-- A trip's stores into dk's accumulator. -/
theorem trip_dk (A : ℕ → ℕ → ℝ) (Z : BufTy.Contents (Elt Ideal) a14.view.ty) (W : List (View.Piece (Elt Ideal) S2048x512 .f32)) (hf : f14 = a14.view.writes (Elt Ideal) Z W) (h : a14.view.read (Elt Ideal) (a14.view.writes (Elt Ideal) Z W) = cv 2048 512 (addN (DZ Q D K V O G L) Q p k.val 0 A)) :
    a14.view.read (Elt Ideal) (a14.view.writes (Elt Ideal) Z ((tripL_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 k (carry Q D K V O G L p k.val) f14 f15 f16).1 ++ W)) = cv 2048 512 (addN (DZ Q D K V O G L) Q p (k.val + 1) 0 A) := by
  have hr : a14.view.read (Elt Ideal) f14 = cv 2048 512 (addN (DZ Q D K V O G L) Q p k.val 0 A) := by rw [hf]; exact h
  clear hf
  unfold carry
  rw [tripL_eq, ← addN_next]
  dsimp only
  rw [load_rows a3.view X3 (k0_off1 i k) (256 * k.val) k.val 0 (k0_off1_eq i k) (k0_off1_inb i k) K K h3 (fun _ _ => rfl), load_rows a4.view X4 (k0_off1 i k) (256 * k.val) k.val 0 (k0_off1_eq i k) (k0_off1_inb i k) V V h4 (fun _ _ => rfl), load_row G a8.view X8 (k0_off2 i k) k.val 0 (k0_off2_eq i k) (k0_off2_inb i k) h8, load_acc (DZ Q D K V O G L) Q p A a14.view f14 (k0_off1 i k) k.val 0 0 (k0_off1_eq i k) (Nat.zero_le _) (k0_off1_inb i k) hr]
  rw [dsN_eq Q D K V O G L 0 hk]
  rw [load_rows a3.view X3 (k0_off3 i k) (256 * k.val) k.val 1 (k0_off3_eq i k) (k0_off3_inb i k) K K h3 (fun _ _ => rfl), load_rows a4.view X4 (k0_off3 i k) (256 * k.val) k.val 1 (k0_off3_eq i k) (k0_off3_inb i k) V V h4 (fun _ _ => rfl), load_row G a8.view X8 (k0_off4 i k) k.val 1 (k0_off4_eq i k) (k0_off4_inb i k) h8, load_acc (DZ Q D K V O G L) Q p A a14.view f14 (k0_off3 i k) k.val 1 0 (k0_off3_eq i k) (Nat.zero_le _) (k0_off3_inb i k) hr]
  rw [dsN_eq Q D K V O G L 1 hk]
  rw [load_rows a3.view X3 (k0_off5 i k) (256 * k.val) k.val 2 (k0_off5_eq i k) (k0_off5_inb i k) K K h3 (fun _ _ => rfl), load_rows a4.view X4 (k0_off5 i k) (256 * k.val) k.val 2 (k0_off5_eq i k) (k0_off5_inb i k) V V h4 (fun _ _ => rfl), load_row G a8.view X8 (k0_off6 i k) k.val 2 (k0_off6_eq i k) (k0_off6_inb i k) h8, load_acc (DZ Q D K V O G L) Q p A a14.view f14 (k0_off5 i k) k.val 2 0 (k0_off5_eq i k) (Nat.zero_le _) (k0_off5_inb i k) hr]
  rw [dsN_eq Q D K V O G L 2 hk]
  rw [load_rows a3.view X3 (k0_off7 i k) (256 * k.val) k.val 3 (k0_off7_eq i k) (k0_off7_inb i k) K K h3 (fun _ _ => rfl), load_rows a4.view X4 (k0_off7 i k) (256 * k.val) k.val 3 (k0_off7_eq i k) (k0_off7_inb i k) V V h4 (fun _ _ => rfl), load_row G a8.view X8 (k0_off8 i k) k.val 3 (k0_off8_eq i k) (k0_off8_inb i k) h8, load_acc (DZ Q D K V O G L) Q p A a14.view f14 (k0_off7 i k) k.val 3 0 (k0_off7_eq i k) (Nat.zero_le _) (k0_off7_inb i k) hr]
  rw [dsN_eq Q D K V O G L 3 hk]
  exact (store_acc (DZ Q D K V O G L) Q p A a14.view Z _ (k0_off7 i k) k.val 3 (k0_off7_eq i k) (k0_off7_inb i k) _ (dk_block Q D K V O G L 3 p k.val A) (store_acc (DZ Q D K V O G L) Q p A a14.view Z _ (k0_off5 i k) k.val 2 (k0_off5_eq i k) (k0_off5_inb i k) _ (dk_block Q D K V O G L 2 p k.val A) (store_acc (DZ Q D K V O G L) Q p A a14.view Z _ (k0_off3 i k) k.val 1 (k0_off3_eq i k) (k0_off3_inb i k) _ (dk_block Q D K V O G L 1 p k.val A) (store_acc (DZ Q D K V O G L) Q p A a14.view Z _ (k0_off1 i k) k.val 0 (k0_off1_eq i k) (k0_off1_inb i k) _ (dk_block Q D K V O G L 0 p k.val A) h))))

/-- A trip's stores into dv's accumulator. -/
theorem trip_dv (A : ℕ → ℕ → ℝ) (Z : BufTy.Contents (Elt Ideal) a15.view.ty) (W : List (View.Piece (Elt Ideal) S2048x512 .f32)) (hf : f15 = a15.view.writes (Elt Ideal) Z W) (h : a15.view.read (Elt Ideal) (a15.view.writes (Elt Ideal) Z W) = cv 2048 512 (addN (P Q K G L) D p k.val 0 A)) :
    a15.view.read (Elt Ideal) (a15.view.writes (Elt Ideal) Z ((tripL_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 k (carry Q D K V O G L p k.val) f14 f15 f16).2.1 ++ W)) = cv 2048 512 (addN (P Q K G L) D p (k.val + 1) 0 A) := by
  have hr : a15.view.read (Elt Ideal) f15 = cv 2048 512 (addN (P Q K G L) D p k.val 0 A) := by rw [hf]; exact h
  clear hf
  unfold carry
  rw [tripL_eq, ← addN_next]
  dsimp only
  rw [load_rows a3.view X3 (k0_off1 i k) (256 * k.val) k.val 0 (k0_off1_eq i k) (k0_off1_inb i k) K K h3 (fun _ _ => rfl), load_row G a8.view X8 (k0_off2 i k) k.val 0 (k0_off2_eq i k) (k0_off2_inb i k) h8, load_acc (P Q K G L) D p A a15.view f15 (k0_off1 i k) k.val 0 0 (k0_off1_eq i k) (Nat.zero_le _) (k0_off1_inb i k) hr]
  rw [pN_eq Q K G L 0 hk]
  rw [load_rows a3.view X3 (k0_off3 i k) (256 * k.val) k.val 1 (k0_off3_eq i k) (k0_off3_inb i k) K K h3 (fun _ _ => rfl), load_row G a8.view X8 (k0_off4 i k) k.val 1 (k0_off4_eq i k) (k0_off4_inb i k) h8, load_acc (P Q K G L) D p A a15.view f15 (k0_off3 i k) k.val 1 0 (k0_off3_eq i k) (Nat.zero_le _) (k0_off3_inb i k) hr]
  rw [pN_eq Q K G L 1 hk]
  rw [load_rows a3.view X3 (k0_off5 i k) (256 * k.val) k.val 2 (k0_off5_eq i k) (k0_off5_inb i k) K K h3 (fun _ _ => rfl), load_row G a8.view X8 (k0_off6 i k) k.val 2 (k0_off6_eq i k) (k0_off6_inb i k) h8, load_acc (P Q K G L) D p A a15.view f15 (k0_off5 i k) k.val 2 0 (k0_off5_eq i k) (Nat.zero_le _) (k0_off5_inb i k) hr]
  rw [pN_eq Q K G L 2 hk]
  rw [load_rows a3.view X3 (k0_off7 i k) (256 * k.val) k.val 3 (k0_off7_eq i k) (k0_off7_inb i k) K K h3 (fun _ _ => rfl), load_row G a8.view X8 (k0_off8 i k) k.val 3 (k0_off8_eq i k) (k0_off8_inb i k) h8, load_acc (P Q K G L) D p A a15.view f15 (k0_off7 i k) k.val 3 0 (k0_off7_eq i k) (Nat.zero_le _) (k0_off7_inb i k) hr]
  rw [pN_eq Q K G L 3 hk]
  exact (store_acc (P Q K G L) D p A a15.view Z _ (k0_off7 i k) k.val 3 (k0_off7_eq i k) (k0_off7_inb i k) _ (dv_block Q D K G L 3 p k.val A) (store_acc (P Q K G L) D p A a15.view Z _ (k0_off5 i k) k.val 2 (k0_off5_eq i k) (k0_off5_inb i k) _ (dv_block Q D K G L 2 p k.val A) (store_acc (P Q K G L) D p A a15.view Z _ (k0_off3 i k) k.val 1 (k0_off3_eq i k) (k0_off3_inb i k) _ (dv_block Q D K G L 1 p k.val A) (store_acc (P Q K G L) D p A a15.view Z _ (k0_off1 i k) k.val 0 (k0_off1_eq i k) (k0_off1_inb i k) _ (dv_block Q D K G L 0 p k.val A) h))))

/-- A trip's stores into df's accumulator. -/
theorem trip_df (A : ℕ → ℕ → ℝ) (Z : BufTy.Contents (Elt Ideal) a16.view.ty) (W : List (View.Piece (Elt Ideal) S4x8x1x256 .f32)) (hf : f16 = a16.view.writes (Elt Ideal) Z W) (h : a16.view.read (Elt Ideal) (a16.view.writes (Elt Ideal) Z W) = c4 (subN (DS Q D K V O G L) p A k.val 0)) :
    a16.view.read (Elt Ideal) (a16.view.writes (Elt Ideal) Z ((tripL_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 k (carry Q D K V O G L p k.val) f14 f15 f16).2.2 ++ W)) = c4 (subN (DS Q D K V O G L) p A (k.val + 1) 0) := by
  have hr : a16.view.read (Elt Ideal) f16 = c4 (subN (DS Q D K V O G L) p A k.val 0) := by rw [hf]; exact h
  clear hf
  unfold carry
  rw [tripL_eq, ← subN_next]
  dsimp only
  rw [load_rows a3.view X3 (k0_off1 i k) (256 * k.val) k.val 0 (k0_off1_eq i k) (k0_off1_inb i k) K K h3 (fun _ _ => rfl), load_rows a4.view X4 (k0_off1 i k) (256 * k.val) k.val 0 (k0_off1_eq i k) (k0_off1_inb i k) V V h4 (fun _ _ => rfl), load_row G a8.view X8 (k0_off2 i k) k.val 0 (k0_off2_eq i k) (k0_off2_inb i k) h8, load_sub (DS Q D K V O G L) p A a16.view f16 (k0_off2 i k) k.val 0 0 (k0_off2_eq i k) (Nat.zero_le _) (k0_off2_inb i k) hr]
  rw [dsN_eq Q D K V O G L 0 hk]
  rw [load_rows a3.view X3 (k0_off3 i k) (256 * k.val) k.val 1 (k0_off3_eq i k) (k0_off3_inb i k) K K h3 (fun _ _ => rfl), load_rows a4.view X4 (k0_off3 i k) (256 * k.val) k.val 1 (k0_off3_eq i k) (k0_off3_inb i k) V V h4 (fun _ _ => rfl), load_row G a8.view X8 (k0_off4 i k) k.val 1 (k0_off4_eq i k) (k0_off4_inb i k) h8, load_sub (DS Q D K V O G L) p A a16.view f16 (k0_off4 i k) k.val 1 0 (k0_off4_eq i k) (Nat.zero_le _) (k0_off4_inb i k) hr]
  rw [dsN_eq Q D K V O G L 1 hk]
  rw [load_rows a3.view X3 (k0_off5 i k) (256 * k.val) k.val 2 (k0_off5_eq i k) (k0_off5_inb i k) K K h3 (fun _ _ => rfl), load_rows a4.view X4 (k0_off5 i k) (256 * k.val) k.val 2 (k0_off5_eq i k) (k0_off5_inb i k) V V h4 (fun _ _ => rfl), load_row G a8.view X8 (k0_off6 i k) k.val 2 (k0_off6_eq i k) (k0_off6_inb i k) h8, load_sub (DS Q D K V O G L) p A a16.view f16 (k0_off6 i k) k.val 2 0 (k0_off6_eq i k) (Nat.zero_le _) (k0_off6_inb i k) hr]
  rw [dsN_eq Q D K V O G L 2 hk]
  rw [load_rows a3.view X3 (k0_off7 i k) (256 * k.val) k.val 3 (k0_off7_eq i k) (k0_off7_inb i k) K K h3 (fun _ _ => rfl), load_rows a4.view X4 (k0_off7 i k) (256 * k.val) k.val 3 (k0_off7_eq i k) (k0_off7_inb i k) V V h4 (fun _ _ => rfl), load_row G a8.view X8 (k0_off8 i k) k.val 3 (k0_off8_eq i k) (k0_off8_inb i k) h8, load_sub (DS Q D K V O G L) p A a16.view f16 (k0_off8 i k) k.val 3 0 (k0_off8_eq i k) (Nat.zero_le _) (k0_off8_inb i k) hr]
  rw [dsN_eq Q D K V O G L 3 hk]
  exact (store_sub (DS Q D K V O G L) p A a16.view Z _ (k0_off8 i k) k.val 3 (k0_off8_eq i k) (k0_off8_inb i k) _ (df_block (DS Q D K V O G L) p 3 k.val A) (store_sub (DS Q D K V O G L) p A a16.view Z _ (k0_off6 i k) k.val 2 (k0_off6_eq i k) (k0_off6_inb i k) _ (df_block (DS Q D K V O G L) p 2 k.val A) (store_sub (DS Q D K V O G L) p A a16.view Z _ (k0_off4 i k) k.val 1 (k0_off4_eq i k) (k0_off4_inb i k) _ (df_block (DS Q D K V O G L) p 1 k.val A) (store_sub (DS Q D K V O G L) p A a16.view Z _ (k0_off2 i k) k.val 0 (k0_off2_eq i k) (k0_off2_inb i k) _ (df_block (DS Q D K V O G L) p 0 k.val A) h))))
end

section
variable (hp : (k0_t1_loop i).trips ≤ p) (A B C : ℕ → ℕ → ℝ) (G14 : BufTy.Contents (Elt Ideal) a14.view.ty) (G15 : BufTy.Contents (Elt Ideal) a15.view.ty) (G16 : BufTy.Contents (Elt Ideal) a16.view.ty)
  (h14 : a14.view.read (Elt Ideal) G14 = cv 2048 512 A) (h15 : a15.view.read (Elt Ideal) G15 = cv 2048 512 B) (h16 : a16.view.read (Elt Ideal) G16 = c4 C)
include hp h3 h4 h8 h14 h15 h16

/-- Before trip `k`. -/
theorem loop_inv (k : ℕ) (hk : k ≤ (k0_t1_loop i).trips) :
    (st_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 G14 G15 G16 (carry Q D K V O G L p 0) k).1 = carry Q D K V O G L p k
    ∧ a14.view.read (Elt Ideal) (a14.view.writes (Elt Ideal) G14 (st_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 G14 G15 G16 (carry Q D K V O G L p 0) k).2.1) = cv 2048 512 (addN (DZ Q D K V O G L) Q p k 0 A)
    ∧ a15.view.read (Elt Ideal) (a15.view.writes (Elt Ideal) G15 (st_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 G14 G15 G16 (carry Q D K V O G L p 0) k).2.2.1) = cv 2048 512 (addN (P Q K G L) D p k 0 B)
    ∧ a16.view.read (Elt Ideal) (a16.view.writes (Elt Ideal) G16 (st_k0_t1 (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 G14 G15 G16 (carry Q D K V O G L p 0) k).2.2.2) = c4 (subN (DS Q D K V O G L) p C k 0) := by
  induction k with
  | zero => rw [addN_zero, addN_zero, subN_zero]; exact ⟨rfl, h14, h15, h16⟩
  | succ k ih =>
    obtain ⟨i1, i2, i3, i4⟩ := ih (Nat.le_of_succ_le hk)
    have hs := st_k0_t1_succ (F := Ideal) Variants.none c none i a2 u2 a3 u3 a4 u4 a5 u5 a6 u6 a7 u7 a8 u8 a9 u9 a10 u10 a11 u11 a12 u12 a13 u13 a14 u14 a15 u15 a16 u16 a1 v3 v4 (cv 256 128 (rows 0 Q p)) (cv 256 128 (rows 1 Q p)) (cv 256 128 (rows 2 Q p)) (cv 256 128 (rows 3 Q p)) (cv 256 128 (rows 0 D p)) (cv 256 128 (rows 1 D p)) (cv 256 128 (rows 2 D p)) (cv 256 128 (rows 3 D p)) (cv 256 1 (cols 0 G p)) (cv 256 1 (cols 1 G p)) (cv 256 1 (cols 2 G p)) (cv 256 1 (cols 3 G p)) (cv 256 1 (cols 0 L p)) (cv 256 1 (cols 1 L p)) (cv 256 1 (cols 2 L p)) (cv 256 1 (cols 3 L p)) (cv 256 1 (dls D O 0 p)) (cv 256 1 (dls D O 1 p)) (cv 256 1 (dls D O 2 p)) (cv 256 1 (dls D O 3 p)) v53 c0 v58 c1 X3 X4 X8 G14 G15 G16 (carry Q D K V O G L p 0) ⟨k, hk⟩
    dsimp only at hs
    rw [hs, i1]
    exact ⟨trip_carry Q D K V O G L c i a2 u2 a3 u3 a4 u4 a5 u5 a6 u6 a7 u7 a8 u8 a9 u9 a10 u10 a11 u11 a12 u12 a13 u13 a14 u14 a15 u15 a16 u16 a1 v3 v4 v53 c0 v58 c1 X3 X4 X8 p h3 h4 h8 ⟨k, hk⟩ (Nat.lt_of_lt_of_le hk hp) _ _ _,
      trip_dk Q D K V O G L c i a2 u2 a3 u3 a4 u4 a5 u5 a6 u6 a7 u7 a8 u8 a9 u9 a10 u10 a11 u11 a12 u12 a13 u13 a14 u14 a15 u15 a16 u16 a1 v3 v4 v53 c0 v58 c1 X3 X4 X8 p h3 h4 h8 ⟨k, hk⟩ (Nat.lt_of_lt_of_le hk hp) _ _ _ A _ _ rfl i2,
      trip_dv Q D K V O G L c i a2 u2 a3 u3 a4 u4 a5 u5 a6 u6 a7 u7 a8 u8 a9 u9 a10 u10 a11 u11 a12 u12 a13 u13 a14 u14 a15 u15 a16 u16 a1 v3 v4 v53 c0 v58 c1 X3 X4 X8 p h3 h4 h8 ⟨k, hk⟩ (Nat.lt_of_lt_of_le hk hp) _ _ _ B _ _ rfl i3,
      trip_df Q D K V O G L c i a2 u2 a3 u3 a4 u4 a5 u5 a6 u6 a7 u7 a8 u8 a9 u9 a10 u10 a11 u11 a12 u12 a13 u13 a14 u14 a15 u15 a16 u16 a1 v3 v4 v53 c0 v58 c1 X3 X4 X8 p h3 h4 h8 ⟨k, hk⟩ (Nat.lt_of_lt_of_le hk hp) _ _ _ C _ _ rfl i4⟩
end

end Cert.FoxIdeal.Loop

end

end
-- ==== Proof.FoxRunDefs.lean ====
/-
  The kernel's body opened, in each of its three cases: the loop over the blocks left of the diagonal, then the block on
  it, then what the block of dq and the accumulators hold.
-/
module

public import proofs.«01_k».proof.Proof.FoxTrip
public import proofs.«01_k».proof.Proof.Gen.FoxIdeal.Frame.Runs

@[expose] public section

set_option maxRecDepth 16384

noncomputable section

namespace Cert.FoxIdeal.Runs

open Cert.FoxIdeal Cert.FoxIdeal.Gen Cert.FoxIdeal.Step Idealize.ShloMosaic Idealize.ShloMosaic.TcCoe Idealize.SL.Sem

/-- The parts of the blocks that the heads read. -/
abbrev r0 := (Rect.unit (s := S256x512) ![0, 0] S256x128.size inb_S256x512_S256x128_0_0).toLoadRect
abbrev r1 := (Rect.unit (s := S256x512) ![0, 128] S256x128.size inb_S256x512_S256x128_0_128).toLoadRect
abbrev r2 := (Rect.unit (s := S256x512) ![0, 256] S256x128.size inb_S256x512_S256x128_0_256).toLoadRect
abbrev r3 := (Rect.unit (s := S256x512) ![0, 384] S256x128.size inb_S256x512_S256x128_0_384).toLoadRect
abbrev r4 := (Rect.unit (s := S4x256x1) ![0, 0, 0] S1x256x1.size inb_S4x256x1_S1x256x1_0_0_0).toLoadRect
abbrev r5 := (Rect.unit (s := S4x256x1) ![1, 0, 0] S1x256x1.size inb_S4x256x1_S1x256x1_1_0_0).toLoadRect
abbrev r6 := (Rect.unit (s := S4x256x1) ![2, 0, 0] S1x256x1.size inb_S4x256x1_S1x256x1_2_0_0).toLoadRect
abbrev r7 := (Rect.unit (s := S4x256x1) ![3, 0, 0] S1x256x1.size inb_S4x256x1_S1x256x1_3_0_0).toLoadRect

/-- The carried values of the loops: dq per head. -/
abbrev Carry (F : FTy → Type) : Type := FVec F S256x128 .f32 × FVec F S256x128 .f32 × FVec F S256x128 .f32 × FVec F S256x128 .f32
/-- The carried values and the three lists of stores. -/
abbrev State (F : FTy → Type) : Type := Carry F × List (View.Piece (Elt F) S2048x512 .f32) × List (View.Piece (Elt F) S2048x512 .f32) × List (View.Piece (Elt F) S4x8x1x256 .f32)

variable {F : FTy → Type} [FloatOps F]

variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole) (x0 : Vec F S256x512 .bf16) (x1 : Vec F S2048x512 .bf16) (x2 : Vec F S2048x512 .bf16) (x3 : Vec F S256x512 .bf16) (x4 : Vec F S256x512 .f32) (x5 : Vec F S4x256x1 .f32) (x6 : Vec F S4x8x1x256 .f32) (x7 : Vec F S4x256x1 .f32) (G14 : BufTy.Contents (Elt F) a14.view.ty) (G15 : BufTy.Contents (Elt F) a15.view.ty) (G16 : BufTy.Contents (Elt F) a16.view.ty)

/-- The state after `k` trips of the loop over the blocks left of the diagonal, from zeros. -/
def st1 (k : ℕ) : State F :=
  st_k0_t1 Variants.none c none i a2 u2 a3 u3 a4 u4 a5 u5 a6 u6 a7 u7 a8 u8 a9 u9 a10 u10 a11 u11 a12 u12 a13 u13 a14 u14 a15 u15 a16 u16 (BitVec.ofNat 32 ↑(i 1)) (iota .tc S256x256 32 [0] iota_S256x256_d0_w32) (iota .tc S256x256 32 [1] iota_S256x256_d1_w32) (View.readAt (Elt F) a2.view r0 (u2.unread x0)) (View.readAt (Elt F) a2.view r1 (u2.unread x0)) (View.readAt (Elt F) a2.view r2 (u2.unread x0)) (View.readAt (Elt F) a2.view r3 (u2.unread x0)) (View.readAt (Elt F) a5.view r0 (u5.unread x3)) (View.readAt (Elt F) a5.view r1 (u5.unread x3)) (View.readAt (Elt F) a5.view r2 (u5.unread x3)) (View.readAt (Elt F) a5.view r3 (u5.unread x3)) (colV (View.readAt (Elt F) a7.view r4 (u7.unread x5))) (colV (View.readAt (Elt F) a7.view r5 (u7.unread x5))) (colV (View.readAt (Elt F) a7.view r6 (u7.unread x5))) (colV (View.readAt (Elt F) a7.view r7 (u7.unread x5))) (colV (View.readAt (Elt F) a9.view r4 (u9.unread x7))) (colV (View.readAt (Elt F) a9.view r5 (u9.unread x7))) (colV (View.readAt (Elt F) a9.view r6 (u9.unread x7))) (colV (View.readAt (Elt F) a9.view r7 (u9.unread x7))) (deltaV (View.readAt (Elt F) a5.view r0 (u5.unread x3)) (View.readAt (Elt F) a6.view r0 (u6.unread x4))) (deltaV (View.readAt (Elt F) a5.view r1 (u5.unread x3)) (View.readAt (Elt F) a6.view r1 (u6.unread x4))) (deltaV (View.readAt (Elt F) a5.view r2 (u5.unread x3)) (View.readAt (Elt F) a6.view r2 (u6.unread x4))) (deltaV (View.readAt (Elt F) a5.view r3 (u5.unread x3)) (View.readAt (Elt F) a6.view r3 (u6.unread x4))) k0_pay82 (0#32) (Scalar.addi (0#32) (Scalar.muli (Scalar.divsi (Scalar.subi (BitVec.ofNat 32 ↑(i 1)) 0#32) 1#32) 1#32)) (1#32) (u3.unread x1) (u4.unread x2) (u8.unread x6) G14 G15 G16 (k0_pay82, k0_pay82, k0_pay82, k0_pay82) k

/-- The state after `k` trips of the loop's remainder, from a state. -/
def st2 (s : Carry F) (k : ℕ) : State F :=
  st_k0_t2 Variants.none c none i a2 u2 a3 u3 a4 u4 a5 u5 a6 u6 a7 u7 a8 u8 a9 u9 a10 u10 a11 u11 a12 u12 a13 u13 a14 u14 a15 u15 a16 u16 (BitVec.ofNat 32 ↑(i 1)) (iota .tc S256x256 32 [0] iota_S256x256_d0_w32) (iota .tc S256x256 32 [1] iota_S256x256_d1_w32) (View.readAt (Elt F) a2.view r0 (u2.unread x0)) (View.readAt (Elt F) a2.view r1 (u2.unread x0)) (View.readAt (Elt F) a2.view r2 (u2.unread x0)) (View.readAt (Elt F) a2.view r3 (u2.unread x0)) (View.readAt (Elt F) a5.view r0 (u5.unread x3)) (View.readAt (Elt F) a5.view r1 (u5.unread x3)) (View.readAt (Elt F) a5.view r2 (u5.unread x3)) (View.readAt (Elt F) a5.view r3 (u5.unread x3)) (colV (View.readAt (Elt F) a7.view r4 (u7.unread x5))) (colV (View.readAt (Elt F) a7.view r5 (u7.unread x5))) (colV (View.readAt (Elt F) a7.view r6 (u7.unread x5))) (colV (View.readAt (Elt F) a7.view r7 (u7.unread x5))) (colV (View.readAt (Elt F) a9.view r4 (u9.unread x7))) (colV (View.readAt (Elt F) a9.view r5 (u9.unread x7))) (colV (View.readAt (Elt F) a9.view r6 (u9.unread x7))) (colV (View.readAt (Elt F) a9.view r7 (u9.unread x7))) (deltaV (View.readAt (Elt F) a5.view r0 (u5.unread x3)) (View.readAt (Elt F) a6.view r0 (u6.unread x4))) (deltaV (View.readAt (Elt F) a5.view r1 (u5.unread x3)) (View.readAt (Elt F) a6.view r1 (u6.unread x4))) (deltaV (View.readAt (Elt F) a5.view r2 (u5.unread x3)) (View.readAt (Elt F) a6.view r2 (u6.unread x4))) (deltaV (View.readAt (Elt F) a5.view r3 (u5.unread x3)) (View.readAt (Elt F) a6.view r3 (u6.unread x4))) k0_pay82 (0#32) (Scalar.addi (0#32) (Scalar.muli (Scalar.divsi (Scalar.subi (BitVec.ofNat 32 ↑(i 1)) 0#32) 1#32) 1#32)) (1#32) (u3.unread x1) (u4.unread x2) (u8.unread x6) G14 G15 G16 s k

/-- The state after both loops. -/
def stE : State F :=
  let a := st1 c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 (Scf.trips (0#32) (Scalar.addi (0#32) (Scalar.muli (Scalar.divsi (Scalar.subi (BitVec.ofNat 32 ↑(i 1)) 0#32) 1#32) 1#32)) 1#32)
  let b := st2 c i a2 u2 a3 u3 a4 u4 a5 u5 a6 u6 a7 u7 a8 u8 a9 u9 a10 u10 a11 u11 a12 u12 a13 u13 a14 u14 a15 u15 a16 u16 x0 x1 x2 x3 x4 x5 x6 x7 (a14.view.writes (Elt F) G14 a.2.1) (a15.view.writes (Elt F) G15 a.2.2.1) (a16.view.writes (Elt F) G16 a.2.2.2) (a.1.1, a.1.2.1, a.1.2.2.1, a.1.2.2.2) (Scf.trips (Scalar.addi (0#32) (Scalar.muli (Scalar.divsi (Scalar.subi (BitVec.ofNat 32 ↑(i 1)) 0#32) 1#32) 1#32)) (Scalar.addi (0#32) (Scalar.subi (BitVec.ofNat 32 ↑(i 1)) 0#32)) 1#32)
  (b.1, b.2.1 ++ a.2.1, b.2.2.1 ++ a.2.2.1, b.2.2.2 ++ a.2.2.2)

/-- The gradient of head 0's scores in the block on the diagonal, and its weights. -/
def ds0 : FVec F S256x256 .f32 := (dsD (iota .tc S256x256 32 [0] iota_S256x256_d0_w32) (iota .tc S256x256 32 [1] iota_S256x256_d1_w32) (View.readAt (Elt F) a2.view r0 (u2.unread x0)) (View.readAt (Elt F) a5.view r0 (u5.unread x3)) (View.readAt (Elt F) a3.view (Rect.unit (s := S2048x512) (k0_off17 i) S256x128.size (k0_off17_inb i)).toLoadRect (u3.unread x1)) (View.readAt (Elt F) a4.view (Rect.unit (s := S2048x512) (k0_off17 i) S256x128.size (k0_off17_inb i)).toLoadRect (u4.unread x2)) (colV (View.readAt (Elt F) a7.view r4 (u7.unread x5))) (colV (View.readAt (Elt F) a9.view r4 (u9.unread x7))) (deltaV (View.readAt (Elt F) a5.view r0 (u5.unread x3)) (View.readAt (Elt F) a6.view r0 (u6.unread x4))) (View.readAt (Elt F) a8.view (Rect.unit (s := S4x8x1x256) (k0_off18 i) S1x1x1x256.size (k0_off18_inb i)).toLoadRect (u8.unread x6)))
def pd0 : FVec F S256x256 .f32 := (pD (iota .tc S256x256 32 [0] iota_S256x256_d0_w32) (iota .tc S256x256 32 [1] iota_S256x256_d1_w32) (View.readAt (Elt F) a2.view r0 (u2.unread x0)) (View.readAt (Elt F) a3.view (Rect.unit (s := S2048x512) (k0_off17 i) S256x128.size (k0_off17_inb i)).toLoadRect (u3.unread x1)) (colV (View.readAt (Elt F) a7.view r4 (u7.unread x5))) (colV (View.readAt (Elt F) a9.view r4 (u9.unread x7))) (View.readAt (Elt F) a8.view (Rect.unit (s := S4x8x1x256) (k0_off18 i) S1x1x1x256.size (k0_off18_inb i)).toLoadRect (u8.unread x6)))

/-- The gradient of head 1's scores in the block on the diagonal, and its weights. -/
def ds1 : FVec F S256x256 .f32 := (dsD (iota .tc S256x256 32 [0] iota_S256x256_d0_w32) (iota .tc S256x256 32 [1] iota_S256x256_d1_w32) (View.readAt (Elt F) a2.view r1 (u2.unread x0)) (View.readAt (Elt F) a5.view r1 (u5.unread x3)) (View.readAt (Elt F) a3.view (Rect.unit (s := S2048x512) (k0_off19 i) S256x128.size (k0_off19_inb i)).toLoadRect (u3.unread x1)) (View.readAt (Elt F) a4.view (Rect.unit (s := S2048x512) (k0_off19 i) S256x128.size (k0_off19_inb i)).toLoadRect (u4.unread x2)) (colV (View.readAt (Elt F) a7.view r5 (u7.unread x5))) (colV (View.readAt (Elt F) a9.view r5 (u9.unread x7))) (deltaV (View.readAt (Elt F) a5.view r1 (u5.unread x3)) (View.readAt (Elt F) a6.view r1 (u6.unread x4))) (View.readAt (Elt F) a8.view (Rect.unit (s := S4x8x1x256) (k0_off20 i) S1x1x1x256.size (k0_off20_inb i)).toLoadRect (u8.unread x6)))
def pd1 : FVec F S256x256 .f32 := (pD (iota .tc S256x256 32 [0] iota_S256x256_d0_w32) (iota .tc S256x256 32 [1] iota_S256x256_d1_w32) (View.readAt (Elt F) a2.view r1 (u2.unread x0)) (View.readAt (Elt F) a3.view (Rect.unit (s := S2048x512) (k0_off19 i) S256x128.size (k0_off19_inb i)).toLoadRect (u3.unread x1)) (colV (View.readAt (Elt F) a7.view r5 (u7.unread x5))) (colV (View.readAt (Elt F) a9.view r5 (u9.unread x7))) (View.readAt (Elt F) a8.view (Rect.unit (s := S4x8x1x256) (k0_off20 i) S1x1x1x256.size (k0_off20_inb i)).toLoadRect (u8.unread x6)))

/-- The gradient of head 2's scores in the block on the diagonal, and its weights. -/
def ds2 : FVec F S256x256 .f32 := (dsD (iota .tc S256x256 32 [0] iota_S256x256_d0_w32) (iota .tc S256x256 32 [1] iota_S256x256_d1_w32) (View.readAt (Elt F) a2.view r2 (u2.unread x0)) (View.readAt (Elt F) a5.view r2 (u5.unread x3)) (View.readAt (Elt F) a3.view (Rect.unit (s := S2048x512) (k0_off21 i) S256x128.size (k0_off21_inb i)).toLoadRect (u3.unread x1)) (View.readAt (Elt F) a4.view (Rect.unit (s := S2048x512) (k0_off21 i) S256x128.size (k0_off21_inb i)).toLoadRect (u4.unread x2)) (colV (View.readAt (Elt F) a7.view r6 (u7.unread x5))) (colV (View.readAt (Elt F) a9.view r6 (u9.unread x7))) (deltaV (View.readAt (Elt F) a5.view r2 (u5.unread x3)) (View.readAt (Elt F) a6.view r2 (u6.unread x4))) (View.readAt (Elt F) a8.view (Rect.unit (s := S4x8x1x256) (k0_off22 i) S1x1x1x256.size (k0_off22_inb i)).toLoadRect (u8.unread x6)))
def pd2 : FVec F S256x256 .f32 := (pD (iota .tc S256x256 32 [0] iota_S256x256_d0_w32) (iota .tc S256x256 32 [1] iota_S256x256_d1_w32) (View.readAt (Elt F) a2.view r2 (u2.unread x0)) (View.readAt (Elt F) a3.view (Rect.unit (s := S2048x512) (k0_off21 i) S256x128.size (k0_off21_inb i)).toLoadRect (u3.unread x1)) (colV (View.readAt (Elt F) a7.view r6 (u7.unread x5))) (colV (View.readAt (Elt F) a9.view r6 (u9.unread x7))) (View.readAt (Elt F) a8.view (Rect.unit (s := S4x8x1x256) (k0_off22 i) S1x1x1x256.size (k0_off22_inb i)).toLoadRect (u8.unread x6)))

/-- The gradient of head 3's scores in the block on the diagonal, and its weights. -/
def ds3 : FVec F S256x256 .f32 := (dsD (iota .tc S256x256 32 [0] iota_S256x256_d0_w32) (iota .tc S256x256 32 [1] iota_S256x256_d1_w32) (View.readAt (Elt F) a2.view r3 (u2.unread x0)) (View.readAt (Elt F) a5.view r3 (u5.unread x3)) (View.readAt (Elt F) a3.view (Rect.unit (s := S2048x512) (k0_off23 i) S256x128.size (k0_off23_inb i)).toLoadRect (u3.unread x1)) (View.readAt (Elt F) a4.view (Rect.unit (s := S2048x512) (k0_off23 i) S256x128.size (k0_off23_inb i)).toLoadRect (u4.unread x2)) (colV (View.readAt (Elt F) a7.view r7 (u7.unread x5))) (colV (View.readAt (Elt F) a9.view r7 (u9.unread x7))) (deltaV (View.readAt (Elt F) a5.view r3 (u5.unread x3)) (View.readAt (Elt F) a6.view r3 (u6.unread x4))) (View.readAt (Elt F) a8.view (Rect.unit (s := S4x8x1x256) (k0_off24 i) S1x1x1x256.size (k0_off24_inb i)).toLoadRect (u8.unread x6)))
def pd3 : FVec F S256x256 .f32 := (pD (iota .tc S256x256 32 [0] iota_S256x256_d0_w32) (iota .tc S256x256 32 [1] iota_S256x256_d1_w32) (View.readAt (Elt F) a2.view r3 (u2.unread x0)) (View.readAt (Elt F) a3.view (Rect.unit (s := S2048x512) (k0_off23 i) S256x128.size (k0_off23_inb i)).toLoadRect (u3.unread x1)) (colV (View.readAt (Elt F) a7.view r7 (u7.unread x5))) (colV (View.readAt (Elt F) a9.view r7 (u9.unread x7))) (View.readAt (Elt F) a8.view (Rect.unit (s := S4x8x1x256) (k0_off24 i) S1x1x1x256.size (k0_off24_inb i)).toLoadRect (u8.unread x6)))

/-- What the block on the diagonal adds to dq, per head, the last first. -/
def dqL (s : Carry F) : List (View.Piece (Elt F) S256x512 .bf16) :=
  [⟨Rect.unit (s := S256x512) ![0, 384] S256x128.size inb_S256x512_S256x128_0_384, (truncf .bf16 (dqV (s.2.2.2) (dsbV (ds3 i a2 u2 a3 u3 a4 u4 a5 u5 a6 u6 a7 u7 a8 u8 a9 u9 x0 x1 x2 x3 x4 x5 x6 x7)) (View.readAt (Elt F) a3.view (Rect.unit (s := S2048x512) (k0_off23 i) S256x128.size (k0_off23_inb i)).toLoadRect (u3.unread x1))) bitsLt_bf16_f32)⟩, ⟨Rect.unit (s := S256x512) ![0, 256] S256x128.size inb_S256x512_S256x128_0_256, (truncf .bf16 (dqV (s.2.2.1) (dsbV (ds2 i a2 u2 a3 u3 a4 u4 a5 u5 a6 u6 a7 u7 a8 u8 a9 u9 x0 x1 x2 x3 x4 x5 x6 x7)) (View.readAt (Elt F) a3.view (Rect.unit (s := S2048x512) (k0_off21 i) S256x128.size (k0_off21_inb i)).toLoadRect (u3.unread x1))) bitsLt_bf16_f32)⟩, ⟨Rect.unit (s := S256x512) ![0, 128] S256x128.size inb_S256x512_S256x128_0_128, (truncf .bf16 (dqV (s.2.1) (dsbV (ds1 i a2 u2 a3 u3 a4 u4 a5 u5 a6 u6 a7 u7 a8 u8 a9 u9 x0 x1 x2 x3 x4 x5 x6 x7)) (View.readAt (Elt F) a3.view (Rect.unit (s := S2048x512) (k0_off19 i) S256x128.size (k0_off19_inb i)).toLoadRect (u3.unread x1))) bitsLt_bf16_f32)⟩, ⟨Rect.unit (s := S256x512) ![0, 0] S256x128.size inb_S256x512_S256x128_0_0, (truncf .bf16 (dqV (s.1) (dsbV (ds0 i a2 u2 a3 u3 a4 u4 a5 u5 a6 u6 a7 u7 a8 u8 a9 u9 x0 x1 x2 x3 x4 x5 x6 x7)) (View.readAt (Elt F) a3.view (Rect.unit (s := S2048x512) (k0_off17 i) S256x128.size (k0_off17_inb i)).toLoadRect (u3.unread x1))) bitsLt_bf16_f32)⟩]

/-- The stores into the accumulator of dk up to head 0's of the block on the diagonal. -/
def dkL0 (G : BufTy.Contents (Elt F) a14.view.ty) (L : List (View.Piece (Elt F) S2048x512 .f32)) : List (View.Piece (Elt F) S2048x512 .f32) :=
  ⟨(Rect.unit (s := S2048x512) (k0_off17 i) S256x128.size (k0_off17_inb i)), accV (View.readAt (Elt F) a14.view (Rect.unit (s := S2048x512) (k0_off17 i) S256x128.size (k0_off17_inb i)).toLoadRect (a14.view.writes (Elt F) G L)) (dsbV (ds0 i a2 u2 a3 u3 a4 u4 a5 u5 a6 u6 a7 u7 a8 u8 a9 u9 x0 x1 x2 x3 x4 x5 x6 x7)) (View.readAt (Elt F) a2.view r0 (u2.unread x0))⟩ :: L

/-- The stores into the accumulator of dk up to head 1's of the block on the diagonal. -/
def dkL1 (G : BufTy.Contents (Elt F) a14.view.ty) (L : List (View.Piece (Elt F) S2048x512 .f32)) : List (View.Piece (Elt F) S2048x512 .f32) :=
  ⟨(Rect.unit (s := S2048x512) (k0_off19 i) S256x128.size (k0_off19_inb i)), accV (View.readAt (Elt F) a14.view (Rect.unit (s := S2048x512) (k0_off19 i) S256x128.size (k0_off19_inb i)).toLoadRect (a14.view.writes (Elt F) G (dkL0 i a2 u2 a3 u3 a4 u4 a5 u5 a6 u6 a7 u7 a8 u8 a9 u9 a14 x0 x1 x2 x3 x4 x5 x6 x7 G L))) (dsbV (ds1 i a2 u2 a3 u3 a4 u4 a5 u5 a6 u6 a7 u7 a8 u8 a9 u9 x0 x1 x2 x3 x4 x5 x6 x7)) (View.readAt (Elt F) a2.view r1 (u2.unread x0))⟩ :: (dkL0 i a2 u2 a3 u3 a4 u4 a5 u5 a6 u6 a7 u7 a8 u8 a9 u9 a14 x0 x1 x2 x3 x4 x5 x6 x7 G L)

/-- The stores into the accumulator of dk up to head 2's of the block on the diagonal. -/
def dkL2 (G : BufTy.Contents (Elt F) a14.view.ty) (L : List (View.Piece (Elt F) S2048x512 .f32)) : List (View.Piece (Elt F) S2048x512 .f32) :=
  ⟨(Rect.unit (s := S2048x512) (k0_off21 i) S256x128.size (k0_off21_inb i)), accV (View.readAt (Elt F) a14.view (Rect.unit (s := S2048x512) (k0_off21 i) S256x128.size (k0_off21_inb i)).toLoadRect (a14.view.writes (Elt F) G (dkL1 i a2 u2 a3 u3 a4 u4 a5 u5 a6 u6 a7 u7 a8 u8 a9 u9 a14 x0 x1 x2 x3 x4 x5 x6 x7 G L))) (dsbV (ds2 i a2 u2 a3 u3 a4 u4 a5 u5 a6 u6 a7 u7 a8 u8 a9 u9 x0 x1 x2 x3 x4 x5 x6 x7)) (View.readAt (Elt F) a2.view r2 (u2.unread x0))⟩ :: (dkL1 i a2 u2 a3 u3 a4 u4 a5 u5 a6 u6 a7 u7 a8 u8 a9 u9 a14 x0 x1 x2 x3 x4 x5 x6 x7 G L)

/-- The stores into the accumulator of dk up to head 3's of the block on the diagonal. -/
def dkL3 (G : BufTy.Contents (Elt F) a14.view.ty) (L : List (View.Piece (Elt F) S2048x512 .f32)) : List (View.Piece (Elt F) S2048x512 .f32) :=
  ⟨(Rect.unit (s := S2048x512) (k0_off23 i) S256x128.size (k0_off23_inb i)), accV (View.readAt (Elt F) a14.view (Rect.unit (s := S2048x512) (k0_off23 i) S256x128.size (k0_off23_inb i)).toLoadRect (a14.view.writes (Elt F) G (dkL2 i a2 u2 a3 u3 a4 u4 a5 u5 a6 u6 a7 u7 a8 u8 a9 u9 a14 x0 x1 x2 x3 x4 x5 x6 x7 G L))) (dsbV (ds3 i a2 u2 a3 u3 a4 u4 a5 u5 a6 u6 a7 u7 a8 u8 a9 u9 x0 x1 x2 x3 x4 x5 x6 x7)) (View.readAt (Elt F) a2.view r3 (u2.unread x0))⟩ :: (dkL2 i a2 u2 a3 u3 a4 u4 a5 u5 a6 u6 a7 u7 a8 u8 a9 u9 a14 x0 x1 x2 x3 x4 x5 x6 x7 G L)

/-- The stores into the accumulator of dv up to head 0's of the block on the diagonal. -/
def dvL0 (G : BufTy.Contents (Elt F) a15.view.ty) (L : List (View.Piece (Elt F) S2048x512 .f32)) : List (View.Piece (Elt F) S2048x512 .f32) :=
  ⟨(Rect.unit (s := S2048x512) (k0_off17 i) S256x128.size (k0_off17_inb i)), accV (View.readAt (Elt F) a15.view (Rect.unit (s := S2048x512) (k0_off17 i) S256x128.size (k0_off17_inb i)).toLoadRect (a15.view.writes (Elt F) G L)) (pb (pd0 i a2 u2 a3 u3 a7 u7 a8 u8 a9 u9 x0 x1 x5 x6 x7)) (View.readAt (Elt F) a5.view r0 (u5.unread x3))⟩ :: L

/-- The stores into the accumulator of dv up to head 1's of the block on the diagonal. -/
def dvL1 (G : BufTy.Contents (Elt F) a15.view.ty) (L : List (View.Piece (Elt F) S2048x512 .f32)) : List (View.Piece (Elt F) S2048x512 .f32) :=
  ⟨(Rect.unit (s := S2048x512) (k0_off19 i) S256x128.size (k0_off19_inb i)), accV (View.readAt (Elt F) a15.view (Rect.unit (s := S2048x512) (k0_off19 i) S256x128.size (k0_off19_inb i)).toLoadRect (a15.view.writes (Elt F) G (dvL0 i a2 u2 a3 u3 a5 u5 a7 u7 a8 u8 a9 u9 a15 x0 x1 x3 x5 x6 x7 G L))) (pb (pd1 i a2 u2 a3 u3 a7 u7 a8 u8 a9 u9 x0 x1 x5 x6 x7)) (View.readAt (Elt F) a5.view r1 (u5.unread x3))⟩ :: (dvL0 i a2 u2 a3 u3 a5 u5 a7 u7 a8 u8 a9 u9 a15 x0 x1 x3 x5 x6 x7 G L)

/-- The stores into the accumulator of dv up to head 2's of the block on the diagonal. -/
def dvL2 (G : BufTy.Contents (Elt F) a15.view.ty) (L : List (View.Piece (Elt F) S2048x512 .f32)) : List (View.Piece (Elt F) S2048x512 .f32) :=
  ⟨(Rect.unit (s := S2048x512) (k0_off21 i) S256x128.size (k0_off21_inb i)), accV (View.readAt (Elt F) a15.view (Rect.unit (s := S2048x512) (k0_off21 i) S256x128.size (k0_off21_inb i)).toLoadRect (a15.view.writes (Elt F) G (dvL1 i a2 u2 a3 u3 a5 u5 a7 u7 a8 u8 a9 u9 a15 x0 x1 x3 x5 x6 x7 G L))) (pb (pd2 i a2 u2 a3 u3 a7 u7 a8 u8 a9 u9 x0 x1 x5 x6 x7)) (View.readAt (Elt F) a5.view r2 (u5.unread x3))⟩ :: (dvL1 i a2 u2 a3 u3 a5 u5 a7 u7 a8 u8 a9 u9 a15 x0 x1 x3 x5 x6 x7 G L)

/-- The stores into the accumulator of dv up to head 3's of the block on the diagonal. -/
def dvL3 (G : BufTy.Contents (Elt F) a15.view.ty) (L : List (View.Piece (Elt F) S2048x512 .f32)) : List (View.Piece (Elt F) S2048x512 .f32) :=
  ⟨(Rect.unit (s := S2048x512) (k0_off23 i) S256x128.size (k0_off23_inb i)), accV (View.readAt (Elt F) a15.view (Rect.unit (s := S2048x512) (k0_off23 i) S256x128.size (k0_off23_inb i)).toLoadRect (a15.view.writes (Elt F) G (dvL2 i a2 u2 a3 u3 a5 u5 a7 u7 a8 u8 a9 u9 a15 x0 x1 x3 x5 x6 x7 G L))) (pb (pd3 i a2 u2 a3 u3 a7 u7 a8 u8 a9 u9 x0 x1 x5 x6 x7)) (View.readAt (Elt F) a5.view r3 (u5.unread x3))⟩ :: (dvL2 i a2 u2 a3 u3 a5 u5 a7 u7 a8 u8 a9 u9 a15 x0 x1 x3 x5 x6 x7 G L)

/-- The stores into the accumulator of df up to head 0's of the block on the diagonal. -/
def dfL0 (G : BufTy.Contents (Elt F) a16.view.ty) (L : List (View.Piece (Elt F) S4x8x1x256 .f32)) : List (View.Piece (Elt F) S4x8x1x256 .f32) :=
  ⟨(Rect.unit (s := S4x8x1x256) (k0_off18 i) S1x1x1x256.size (k0_off18_inb i)), dfV (View.readAt (Elt F) a16.view (Rect.unit (s := S4x8x1x256) (k0_off18 i) S1x1x1x256.size (k0_off18_inb i)).toLoadRect (a16.view.writes (Elt F) G L)) (ds0 i a2 u2 a3 u3 a4 u4 a5 u5 a6 u6 a7 u7 a8 u8 a9 u9 x0 x1 x2 x3 x4 x5 x6 x7)⟩ :: L

/-- The stores into the accumulator of df up to head 1's of the block on the diagonal. -/
def dfL1 (G : BufTy.Contents (Elt F) a16.view.ty) (L : List (View.Piece (Elt F) S4x8x1x256 .f32)) : List (View.Piece (Elt F) S4x8x1x256 .f32) :=
  ⟨(Rect.unit (s := S4x8x1x256) (k0_off20 i) S1x1x1x256.size (k0_off20_inb i)), dfV (View.readAt (Elt F) a16.view (Rect.unit (s := S4x8x1x256) (k0_off20 i) S1x1x1x256.size (k0_off20_inb i)).toLoadRect (a16.view.writes (Elt F) G (dfL0 i a2 u2 a3 u3 a4 u4 a5 u5 a6 u6 a7 u7 a8 u8 a9 u9 a16 x0 x1 x2 x3 x4 x5 x6 x7 G L))) (ds1 i a2 u2 a3 u3 a4 u4 a5 u5 a6 u6 a7 u7 a8 u8 a9 u9 x0 x1 x2 x3 x4 x5 x6 x7)⟩ :: (dfL0 i a2 u2 a3 u3 a4 u4 a5 u5 a6 u6 a7 u7 a8 u8 a9 u9 a16 x0 x1 x2 x3 x4 x5 x6 x7 G L)

/-- The stores into the accumulator of df up to head 2's of the block on the diagonal. -/
def dfL2 (G : BufTy.Contents (Elt F) a16.view.ty) (L : List (View.Piece (Elt F) S4x8x1x256 .f32)) : List (View.Piece (Elt F) S4x8x1x256 .f32) :=
  ⟨(Rect.unit (s := S4x8x1x256) (k0_off22 i) S1x1x1x256.size (k0_off22_inb i)), dfV (View.readAt (Elt F) a16.view (Rect.unit (s := S4x8x1x256) (k0_off22 i) S1x1x1x256.size (k0_off22_inb i)).toLoadRect (a16.view.writes (Elt F) G (dfL1 i a2 u2 a3 u3 a4 u4 a5 u5 a6 u6 a7 u7 a8 u8 a9 u9 a16 x0 x1 x2 x3 x4 x5 x6 x7 G L))) (ds2 i a2 u2 a3 u3 a4 u4 a5 u5 a6 u6 a7 u7 a8 u8 a9 u9 x0 x1 x2 x3 x4 x5 x6 x7)⟩ :: (dfL1 i a2 u2 a3 u3 a4 u4 a5 u5 a6 u6 a7 u7 a8 u8 a9 u9 a16 x0 x1 x2 x3 x4 x5 x6 x7 G L)

/-- The stores into the accumulator of df up to head 3's of the block on the diagonal. -/
def dfL3 (G : BufTy.Contents (Elt F) a16.view.ty) (L : List (View.Piece (Elt F) S4x8x1x256 .f32)) : List (View.Piece (Elt F) S4x8x1x256 .f32) :=
  ⟨(Rect.unit (s := S4x8x1x256) (k0_off24 i) S1x1x1x256.size (k0_off24_inb i)), dfV (View.readAt (Elt F) a16.view (Rect.unit (s := S4x8x1x256) (k0_off24 i) S1x1x1x256.size (k0_off24_inb i)).toLoadRect (a16.view.writes (Elt F) G (dfL2 i a2 u2 a3 u3 a4 u4 a5 u5 a6 u6 a7 u7 a8 u8 a9 u9 a16 x0 x1 x2 x3 x4 x5 x6 x7 G L))) (ds3 i a2 u2 a3 u3 a4 u4 a5 u5 a6 u6 a7 u7 a8 u8 a9 u9 x0 x1 x2 x3 x4 x5 x6 x7)⟩ :: (dfL2 i a2 u2 a3 u3 a4 u4 a5 u5 a6 u6 a7 u7 a8 u8 a9 u9 a16 x0 x1 x2 x3 x4 x5 x6 x7 G L)

end Cert.FoxIdeal.Runs

end

end
-- ==== Proof.FoxDiag.lean ====
/-
  A grid point's loops, and the block on the diagonal: what the block of dq and the accumulators then hold.
-/
module

public import proofs.«01_k».proof.Proof.FoxLoop
public import proofs.«01_k».proof.Proof.FoxRunDefs

@[expose] public section

set_option maxRecDepth 16384
set_option maxHeartbeats 2000000

noncomputable section

namespace Cert.FoxIdeal.Diag

open Cert.FoxIdeal Cert.FoxIdeal.Gen Cert.FoxIdeal.Step Cert.FoxIdeal.Block Cert.FoxIdeal.Mem Cert.FoxIdeal.Loop Cert.FoxIdeal.Runs Idealize.ShloMosaic Idealize.ShloMosaic.TcCoe Idealize.SL.Sem
open Cert.KernelIdeal.Block (cv cv_congr ofBits_zero)
open Cert.KernelIdeal.Model (hd rows)
open Cert.KernelIdeal.Acc (addN addN_zero addN_next blockN)
open Idealize.ShloMosaic.ValueIdx hiding ix2 eq_ix2 ix1 eq_ix1 ix0 eq_ix0
open scoped BigOperators

theorem trips1 : ∀ i : grid0.Coords, (Scf.trips (0#32) (Scalar.addi (0#32) (Scalar.muli (Scalar.divsi (Scalar.subi (BitVec.ofNat 32 ↑(i 1)) 0#32) 1#32) 1#32)) 1#32) = (i 1).val := by decide +kernel
theorem trips2 : ∀ i : grid0.Coords, (Scf.trips (Scalar.addi (0#32) (Scalar.muli (Scalar.divsi (Scalar.subi (BitVec.ofNat 32 ↑(i 1)) 0#32) 1#32) 1#32)) (Scalar.addi (0#32) (Scalar.subi (BitVec.ofNat 32 ↑(i 1)) 0#32)) 1#32) = 0 := by decide +kernel
theorem trips1' : ∀ i : grid0.Coords, (k0_t1_loop i).trips = (i 1).val := by decide +kernel

variable (Q D K V O G L : ℕ → ℕ → ℝ)

/-- The last query's block of a head's heads. -/
def dqB (p r e : ℕ) : ℝ := ∑ s ∈ Finset.range (256 * (p + 1)), DZ Q D K V O G L (e / 128) (256 * p + r) s * K s e

/-- A head's part of dq's block. -/
theorem dqPart (n p : ℕ) : cv 256 128 (DQ Q D K V O G L n p (p + 1)) = cv 256 128 fun r e => dqB Q D K V O G L p r (128 * n + e) :=
  cv_congr fun r e _ he => by
    unfold DQ dqB hd
    rw [show (128 * n + e) / 128 = n by omega]

theorem narrow (s : Shape) (x : FVec Ideal s .f32) : truncf (F := Ideal) .bf16 x bitsLt_bf16_f32 = x := rfl

/-- dq's block after the stores of the heads below `n`. -/
theorem store_dq {sp : Space} {κ : Kind} (v : View sig κ sp S256x512 .bf16) (f : v.ty.Contents (Elt Ideal)) (L : List (View.Piece (Elt Ideal) S256x512 .bf16)) (off : Fin 2 → ℕ) (n : ℕ)
    (hoff : off = ![0, 128 * n]) (inb : ∀ a, off a + S256x128.size a ≤ S256x512.size a) (w : Vec Ideal S256x128 .bf16) (C : ℕ → ℕ → ℝ) (hw : w = cv 256 128 fun r e => C r (128 * n + e))
    (h : ∀ y, (y 1).val < 128 * n → v.read (Elt Ideal) (v.writes (Elt Ideal) f L) y = cv 256 512 C y) :
    ∀ y, (y 1).val < 128 * (n + 1) → v.read (Elt Ideal) (v.writes (Elt Ideal) f ((⟨Rect.unit (s := S256x512) off S256x128.size inb, w⟩ : View.Piece (Elt Ideal) S256x512 .bf16) :: L)) y = cv 256 512 C y := by
  intro y hy
  rw [View.read_writes_cons_unit v f inb w L y hoff]
  by_cases hn : (y 1).val < 128 * n
  · rw [dif_neg fun h' => by have := (h' 1).1; exact absurd this (Nat.not_le.2 hn)]
    exact h y hn
  · rw [dif_pos fun a => by match a with
      | ⟨0, _⟩ => exact ⟨Nat.zero_le _, by have := idx2_lt0 y; show (y 0).val < 0 + 256; omega⟩
      | ⟨1, _⟩ => exact ⟨by show 128 * n ≤ (y 1).val; omega, by show (y 1).val < 128 * n + 128; omega⟩]
    rw [hw]
    show ((C ((y 0).val - 0) (128 * n + ((y 1).val - 128 * n)) : ℝ) : EReal) = ((C (y 0).val (y 1).val : ℝ) : EReal)
    rw [Nat.sub_zero, show 128 * n + ((y 1).val - 128 * n) = (y 1).val by omega]

variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole) (x0 : Vec Ideal S256x512 .bf16) (x1 : Vec Ideal S2048x512 .bf16) (x2 : Vec Ideal S2048x512 .bf16) (x3 : Vec Ideal S256x512 .bf16) (x4 : Vec Ideal S256x512 .f32) (x5 : Vec Ideal S4x256x1 .f32) (x6 : Vec Ideal S4x8x1x256 .f32) (x7 : Vec Ideal S4x256x1 .f32)
variable (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = cv 256 512 fun r e => O (256 * (i 1).val + r) e) (hx5 : x5 = fun j => ((G (j 0).val (256 * (i 1).val + (j 1).val) : ℝ) : EReal)) (hx6 : x6 = c4 G) (hx7 : x7 = fun j => ((L (j 0).val (256 * (i 1).val + (j 1).val) : ℝ) : EReal))

section
variable (G14 : BufTy.Contents (Elt Ideal) a14.view.ty) (G15 : BufTy.Contents (Elt Ideal) a15.view.ty) (G16 : BufTy.Contents (Elt Ideal) a16.view.ty)
include hx0 hx1 hx2 hx3 hx4 hx5 hx6 hx7

theorem st1_eq (k : ℕ) :
    st1 (F := Ideal) c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 k = st_k0_t1 (F := Ideal) Variants.none c none i a2 u2 a3 u3 a4 u4 a5 u5 a6 u6 a7 u7 a8 u8 a9 u9 a10 u10 a11 u11 a12 u12 a13 u13 a14 u14 a15 u15 a16 u16 (BitVec.ofNat 32 ↑(i 1)) (iota .tc S256x256 32 [0] iota_S256x256_d0_w32) (iota .tc S256x256 32 [1] iota_S256x256_d1_w32) (cv 256 128 (rows 0 Q (i 1).val)) (cv 256 128 (rows 1 Q (i 1).val)) (cv 256 128 (rows 2 Q (i 1).val)) (cv 256 128 (rows 3 Q (i 1).val)) (cv 256 128 (rows 0 D (i 1).val)) (cv 256 128 (rows 1 D (i 1).val)) (cv 256 128 (rows 2 D (i 1).val)) (cv 256 128 (rows 3 D (i 1).val)) (cv 256 1 (cols 0 G (i 1).val)) (cv 256 1 (cols 1 G (i 1).val)) (cv 256 1 (cols 2 G (i 1).val)) (cv 256 1 (cols 3 G (i 1).val)) (cv 256 1 (cols 0 L (i 1).val)) (cv 256 1 (cols 1 L (i 1).val)) (cv 256 1 (cols 2 L (i 1).val)) (cv 256 1 (cols 3 L (i 1).val)) (cv 256 1 (dls D O 0 (i 1).val)) (cv 256 1 (dls D O 1 (i 1).val)) (cv 256 1 (dls D O 2 (i 1).val)) (cv 256 1 (dls D O 3 (i 1).val)) k0_pay82 (0#32) (Scalar.addi (0#32) (Scalar.muli (Scalar.divsi (Scalar.subi (BitVec.ofNat 32 ↑(i 1)) 0#32) 1#32) 1#32)) (1#32) (u3.unread x1) (u4.unread x2) (u8.unread x6) G14 G15 G16 (carry Q D K V O G L (i 1).val 0) k := by
  rw [carry_zero]
  unfold st1
  rw [load_rows a2.view (u2.unread x0) ![0, 0] 0 (i 1).val 0 rfl inb_S256x512_S256x128_0_0 Q _ (u2.read_unread x0 |>.trans hx0) (fun r e => by rw [Nat.zero_add])]
  rw [load_rows a5.view (u5.unread x3) ![0, 0] 0 (i 1).val 0 rfl inb_S256x512_S256x128_0_0 D _ (u5.read_unread x3 |>.trans hx3) (fun r e => by rw [Nat.zero_add])]
  rw [load_o a6.view (u6.unread x4) (i 1).val 0 inb_S256x512_S256x128_0_0 O _ (u6.read_unread x4 |>.trans hx4) (fun r e => by rw [Nat.zero_add]), deltaV_cv]
  rw [load_col a7.view (u7.unread x5) 0 inb_S4x256x1_S1x256x1_0_0_0 G (i 1).val (u7.read_unread x5 |>.trans hx5)]
  rw [load_col a9.view (u9.unread x7) 0 inb_S4x256x1_S1x256x1_0_0_0 L (i 1).val (u9.read_unread x7 |>.trans hx7)]
  rw [load_rows a2.view (u2.unread x0) ![0, 128] 0 (i 1).val 1 rfl inb_S256x512_S256x128_0_128 Q _ (u2.read_unread x0 |>.trans hx0) (fun r e => by rw [Nat.zero_add])]
  rw [load_rows a5.view (u5.unread x3) ![0, 128] 0 (i 1).val 1 rfl inb_S256x512_S256x128_0_128 D _ (u5.read_unread x3 |>.trans hx3) (fun r e => by rw [Nat.zero_add])]
  rw [load_o a6.view (u6.unread x4) (i 1).val 1 inb_S256x512_S256x128_0_128 O _ (u6.read_unread x4 |>.trans hx4) (fun r e => by rw [Nat.zero_add]), deltaV_cv]
  rw [load_col a7.view (u7.unread x5) 1 inb_S4x256x1_S1x256x1_1_0_0 G (i 1).val (u7.read_unread x5 |>.trans hx5)]
  rw [load_col a9.view (u9.unread x7) 1 inb_S4x256x1_S1x256x1_1_0_0 L (i 1).val (u9.read_unread x7 |>.trans hx7)]
  rw [load_rows a2.view (u2.unread x0) ![0, 256] 0 (i 1).val 2 rfl inb_S256x512_S256x128_0_256 Q _ (u2.read_unread x0 |>.trans hx0) (fun r e => by rw [Nat.zero_add])]
  rw [load_rows a5.view (u5.unread x3) ![0, 256] 0 (i 1).val 2 rfl inb_S256x512_S256x128_0_256 D _ (u5.read_unread x3 |>.trans hx3) (fun r e => by rw [Nat.zero_add])]
  rw [load_o a6.view (u6.unread x4) (i 1).val 2 inb_S256x512_S256x128_0_256 O _ (u6.read_unread x4 |>.trans hx4) (fun r e => by rw [Nat.zero_add]), deltaV_cv]
  rw [load_col a7.view (u7.unread x5) 2 inb_S4x256x1_S1x256x1_2_0_0 G (i 1).val (u7.read_unread x5 |>.trans hx5)]
  rw [load_col a9.view (u9.unread x7) 2 inb_S4x256x1_S1x256x1_2_0_0 L (i 1).val (u9.read_unread x7 |>.trans hx7)]
  rw [load_rows a2.view (u2.unread x0) ![0, 384] 0 (i 1).val 3 rfl inb_S256x512_S256x128_0_384 Q _ (u2.read_unread x0 |>.trans hx0) (fun r e => by rw [Nat.zero_add])]
  rw [load_rows a5.view (u5.unread x3) ![0, 384] 0 (i 1).val 3 rfl inb_S256x512_S256x128_0_384 D _ (u5.read_unread x3 |>.trans hx3) (fun r e => by rw [Nat.zero_add])]
  rw [load_o a6.view (u6.unread x4) (i 1).val 3 inb_S256x512_S256x128_0_384 O _ (u6.read_unread x4 |>.trans hx4) (fun r e => by rw [Nat.zero_add]), deltaV_cv]
  rw [load_col a7.view (u7.unread x5) 3 inb_S4x256x1_S1x256x1_3_0_0 G (i 1).val (u7.read_unread x5 |>.trans hx5)]
  rw [load_col a9.view (u9.unread x7) 3 inb_S4x256x1_S1x256x1_3_0_0 L (i 1).val (u9.read_unread x7 |>.trans hx7)]
  rfl

/-- After the blocks left of the diagonal. -/
theorem st1_spec (A B C : ℕ → ℕ → ℝ) (h14 : a14.view.read (Elt Ideal) G14 = cv 2048 512 A) (h15 : a15.view.read (Elt Ideal) G15 = cv 2048 512 B) (h16 : a16.view.read (Elt Ideal) G16 = c4 C) :
    (st1 (F := Ideal) c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 (i 1).val).1 = carry Q D K V O G L (i 1).val (i 1).val
    ∧ a14.view.read (Elt Ideal) (a14.view.writes (Elt Ideal) G14 (st1 (F := Ideal) c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 (i 1).val).2.1) = cv 2048 512 (addN (DZ Q D K V O G L) Q (i 1).val (i 1).val 0 A)
    ∧ a15.view.read (Elt Ideal) (a15.view.writes (Elt Ideal) G15 (st1 (F := Ideal) c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 (i 1).val).2.2.1) = cv 2048 512 (addN (P Q K G L) D (i 1).val (i 1).val 0 B)
    ∧ a16.view.read (Elt Ideal) (a16.view.writes (Elt Ideal) G16 (st1 (F := Ideal) c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 (i 1).val).2.2.2) = c4 (subN (DS Q D K V O G L) (i 1).val C (i 1).val 0) := by
  rw [st1_eq Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7]
  exact loop_inv Q D K V O G L c i a2 u2 a3 u3 a4 u4 a5 u5 a6 u6 a7 u7 a8 u8 a9 u9 a10 u10 a11 u11 a12 u12 a13 u13 a14 u14 a15 u15 a16 u16 _ _ _ _ _ _ _ _ _ _ (i 1).val (u3.read_unread x1 |>.trans hx1) (u4.read_unread x2 |>.trans hx2) (u8.read_unread x6 |>.trans hx6) (Nat.le_of_eq (trips1' i)) A B C G14 G15 G16 h14 h15 h16 (i 1).val (Nat.le_of_eq (trips1' i).symm)
end

/-- The loop's remainder makes no trip. -/
theorem stE_eq (G14 : BufTy.Contents (Elt Ideal) a14.view.ty) (G15 : BufTy.Contents (Elt Ideal) a15.view.ty) (G16 : BufTy.Contents (Elt Ideal) a16.view.ty) :
    stE (F := Ideal) c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 = (st1 (F := Ideal) c i a2 u2 a3 u3 a4 u4 a5 u5 a6 u6 a7 u7 a8 u8 a9 u9 a10 u10 a11 u11 a12 u12 a13 u13 a14 u14 a15 u15 a16 u16 x0 x1 x2 x3 x4 x5 x6 x7 G14 G15 G16 (i 1).val) := by
  unfold stE
  rw [trips1, trips2]
  rfl

section
include hx0 hx1 hx2 hx3 hx4 hx5 hx6 hx7
theorem ds0_eq : ds0 (F := Ideal) i a2 u2 a3 u3 a4 u4 a5 u5 a6 u6 a7 u7 a8 u8 a9 u9 x0 x1 x2 x3 x4 x5 x6 x7 = cv 256 256 fun r c => DS Q D K V O G L 0 (256 * (i 1).val + r) (256 * (i 1).val + c) := by
  unfold ds0
  rw [load_rows a2.view (u2.unread x0) ![0, 0] 0 (i 1).val 0 rfl inb_S256x512_S256x128_0_0 Q _ (u2.read_unread x0 |>.trans hx0) (fun r e => by rw [Nat.zero_add])]
  rw [load_rows a5.view (u5.unread x3) ![0, 0] 0 (i 1).val 0 rfl inb_S256x512_S256x128_0_0 D _ (u5.read_unread x3 |>.trans hx3) (fun r e => by rw [Nat.zero_add])]
  rw [load_o a6.view (u6.unread x4) (i 1).val 0 inb_S256x512_S256x128_0_0 O _ (u6.read_unread x4 |>.trans hx4) (fun r e => by rw [Nat.zero_add]), deltaV_cv]
  rw [load_col a7.view (u7.unread x5) 0 inb_S4x256x1_S1x256x1_0_0_0 G (i 1).val (u7.read_unread x5 |>.trans hx5), load_col a9.view (u9.unread x7) 0 inb_S4x256x1_S1x256x1_0_0_0 L (i 1).val (u9.read_unread x7 |>.trans hx7)]
  rw [load_rows a3.view (u3.unread x1) (k0_off17 i) (256 * (i 1).val) (i 1).val 0 (k0_off17_eq i) (k0_off17_inb i) K K (u3.read_unread x1 |>.trans hx1) (fun _ _ => rfl), load_rows a4.view (u4.unread x2) (k0_off17 i) (256 * (i 1).val) (i 1).val 0 (k0_off17_eq i) (k0_off17_inb i) V V (u4.read_unread x2 |>.trans hx2) (fun _ _ => rfl), load_row G a8.view (u8.unread x6) (k0_off18 i) (i 1).val 0 (k0_off18_eq i) (k0_off18_inb i) (u8.read_unread x6 |>.trans hx6)]
  exact dsD_eq Q D K V O G L 0 (i 1).val
end
section
include hx0 hx1 hx5 hx6 hx7
theorem pd0_eq : pd0 (F := Ideal) i a2 u2 a3 u3 a7 u7 a8 u8 a9 u9 x0 x1 x5 x6 x7 = cv 256 256 fun r c => P Q K G L 0 (256 * (i 1).val + r) (256 * (i 1).val + c) := by
  unfold pd0
  rw [load_rows a2.view (u2.unread x0) ![0, 0] 0 (i 1).val 0 rfl inb_S256x512_S256x128_0_0 Q _ (u2.read_unread x0 |>.trans hx0) (fun r e => by rw [Nat.zero_add])]
  rw [load_col a7.view (u7.unread x5) 0 inb_S4x256x1_S1x256x1_0_0_0 G (i 1).val (u7.read_unread x5 |>.trans hx5), load_col a9.view (u9.unread x7) 0 inb_S4x256x1_S1x256x1_0_0_0 L (i 1).val (u9.read_unread x7 |>.trans hx7)]
  rw [load_rows a3.view (u3.unread x1) (k0_off17 i) (256 * (i 1).val) (i 1).val 0 (k0_off17_eq i) (k0_off17_inb i) K K (u3.read_unread x1 |>.trans hx1) (fun _ _ => rfl), load_row G a8.view (u8.unread x6) (k0_off18 i) (i 1).val 0 (k0_off18_eq i) (k0_off18_inb i) (u8.read_unread x6 |>.trans hx6)]
  exact pD_eq Q K G L 0 (i 1).val
end

section
include hx0 hx1 hx2 hx3 hx4 hx5 hx6 hx7
theorem ds1_eq : ds1 (F := Ideal) i a2 u2 a3 u3 a4 u4 a5 u5 a6 u6 a7 u7 a8 u8 a9 u9 x0 x1 x2 x3 x4 x5 x6 x7 = cv 256 256 fun r c => DS Q D K V O G L 1 (256 * (i 1).val + r) (256 * (i 1).val + c) := by
  unfold ds1
  rw [load_rows a2.view (u2.unread x0) ![0, 128] 0 (i 1).val 1 rfl inb_S256x512_S256x128_0_128 Q _ (u2.read_unread x0 |>.trans hx0) (fun r e => by rw [Nat.zero_add])]
  rw [load_rows a5.view (u5.unread x3) ![0, 128] 0 (i 1).val 1 rfl inb_S256x512_S256x128_0_128 D _ (u5.read_unread x3 |>.trans hx3) (fun r e => by rw [Nat.zero_add])]
  rw [load_o a6.view (u6.unread x4) (i 1).val 1 inb_S256x512_S256x128_0_128 O _ (u6.read_unread x4 |>.trans hx4) (fun r e => by rw [Nat.zero_add]), deltaV_cv]
  rw [load_col a7.view (u7.unread x5) 1 inb_S4x256x1_S1x256x1_1_0_0 G (i 1).val (u7.read_unread x5 |>.trans hx5), load_col a9.view (u9.unread x7) 1 inb_S4x256x1_S1x256x1_1_0_0 L (i 1).val (u9.read_unread x7 |>.trans hx7)]
  rw [load_rows a3.view (u3.unread x1) (k0_off19 i) (256 * (i 1).val) (i 1).val 1 (k0_off19_eq i) (k0_off19_inb i) K K (u3.read_unread x1 |>.trans hx1) (fun _ _ => rfl), load_rows a4.view (u4.unread x2) (k0_off19 i) (256 * (i 1).val) (i 1).val 1 (k0_off19_eq i) (k0_off19_inb i) V V (u4.read_unread x2 |>.trans hx2) (fun _ _ => rfl), load_row G a8.view (u8.unread x6) (k0_off20 i) (i 1).val 1 (k0_off20_eq i) (k0_off20_inb i) (u8.read_unread x6 |>.trans hx6)]
  exact dsD_eq Q D K V O G L 1 (i 1).val
end
section
include hx0 hx1 hx5 hx6 hx7
theorem pd1_eq : pd1 (F := Ideal) i a2 u2 a3 u3 a7 u7 a8 u8 a9 u9 x0 x1 x5 x6 x7 = cv 256 256 fun r c => P Q K G L 1 (256 * (i 1).val + r) (256 * (i 1).val + c) := by
  unfold pd1
  rw [load_rows a2.view (u2.unread x0) ![0, 128] 0 (i 1).val 1 rfl inb_S256x512_S256x128_0_128 Q _ (u2.read_unread x0 |>.trans hx0) (fun r e => by rw [Nat.zero_add])]
  rw [load_col a7.view (u7.unread x5) 1 inb_S4x256x1_S1x256x1_1_0_0 G (i 1).val (u7.read_unread x5 |>.trans hx5), load_col a9.view (u9.unread x7) 1 inb_S4x256x1_S1x256x1_1_0_0 L (i 1).val (u9.read_unread x7 |>.trans hx7)]
  rw [load_rows a3.view (u3.unread x1) (k0_off19 i) (256 * (i 1).val) (i 1).val 1 (k0_off19_eq i) (k0_off19_inb i) K K (u3.read_unread x1 |>.trans hx1) (fun _ _ => rfl), load_row G a8.view (u8.unread x6) (k0_off20 i) (i 1).val 1 (k0_off20_eq i) (k0_off20_inb i) (u8.read_unread x6 |>.trans hx6)]
  exact pD_eq Q K G L 1 (i 1).val
end

section
include hx0 hx1 hx2 hx3 hx4 hx5 hx6 hx7
theorem ds2_eq : ds2 (F := Ideal) i a2 u2 a3 u3 a4 u4 a5 u5 a6 u6 a7 u7 a8 u8 a9 u9 x0 x1 x2 x3 x4 x5 x6 x7 = cv 256 256 fun r c => DS Q D K V O G L 2 (256 * (i 1).val + r) (256 * (i 1).val + c) := by
  unfold ds2
  rw [load_rows a2.view (u2.unread x0) ![0, 256] 0 (i 1).val 2 rfl inb_S256x512_S256x128_0_256 Q _ (u2.read_unread x0 |>.trans hx0) (fun r e => by rw [Nat.zero_add])]
  rw [load_rows a5.view (u5.unread x3) ![0, 256] 0 (i 1).val 2 rfl inb_S256x512_S256x128_0_256 D _ (u5.read_unread x3 |>.trans hx3) (fun r e => by rw [Nat.zero_add])]
  rw [load_o a6.view (u6.unread x4) (i 1).val 2 inb_S256x512_S256x128_0_256 O _ (u6.read_unread x4 |>.trans hx4) (fun r e => by rw [Nat.zero_add]), deltaV_cv]
  rw [load_col a7.view (u7.unread x5) 2 inb_S4x256x1_S1x256x1_2_0_0 G (i 1).val (u7.read_unread x5 |>.trans hx5), load_col a9.view (u9.unread x7) 2 inb_S4x256x1_S1x256x1_2_0_0 L (i 1).val (u9.read_unread x7 |>.trans hx7)]
  rw [load_rows a3.view (u3.unread x1) (k0_off21 i) (256 * (i 1).val) (i 1).val 2 (k0_off21_eq i) (k0_off21_inb i) K K (u3.read_unread x1 |>.trans hx1) (fun _ _ => rfl), load_rows a4.view (u4.unread x2) (k0_off21 i) (256 * (i 1).val) (i 1).val 2 (k0_off21_eq i) (k0_off21_inb i) V V (u4.read_unread x2 |>.trans hx2) (fun _ _ => rfl), load_row G a8.view (u8.unread x6) (k0_off22 i) (i 1).val 2 (k0_off22_eq i) (k0_off22_inb i) (u8.read_unread x6 |>.trans hx6)]
  exact dsD_eq Q D K V O G L 2 (i 1).val
end
section
include hx0 hx1 hx5 hx6 hx7
theorem pd2_eq : pd2 (F := Ideal) i a2 u2 a3 u3 a7 u7 a8 u8 a9 u9 x0 x1 x5 x6 x7 = cv 256 256 fun r c => P Q K G L 2 (256 * (i 1).val + r) (256 * (i 1).val + c) := by
  unfold pd2
  rw [load_rows a2.view (u2.unread x0) ![0, 256] 0 (i 1).val 2 rfl inb_S256x512_S256x128_0_256 Q _ (u2.read_unread x0 |>.trans hx0) (fun r e => by rw [Nat.zero_add])]
  rw [load_col a7.view (u7.unread x5) 2 inb_S4x256x1_S1x256x1_2_0_0 G (i 1).val (u7.read_unread x5 |>.trans hx5), load_col a9.view (u9.unread x7) 2 inb_S4x256x1_S1x256x1_2_0_0 L (i 1).val (u9.read_unread x7 |>.trans hx7)]
  rw [load_rows a3.view (u3.unread x1) (k0_off21 i) (256 * (i 1).val) (i 1).val 2 (k0_off21_eq i) (k0_off21_inb i) K K (u3.read_unread x1 |>.trans hx1) (fun _ _ => rfl), load_row G a8.view (u8.unread x6) (k0_off22 i) (i 1).val 2 (k0_off22_eq i) (k0_off22_inb i) (u8.read_unread x6 |>.trans hx6)]
  exact pD_eq Q K G L 2 (i 1).val
end

section
include hx0 hx1 hx2 hx3 hx4 hx5 hx6 hx7
theorem ds3_eq : ds3 (F := Ideal) i a2 u2 a3 u3 a4 u4 a5 u5 a6 u6 a7 u7 a8 u8 a9 u9 x0 x1 x2 x3 x4 x5 x6 x7 = cv 256 256 fun r c => DS Q D K V O G L 3 (256 * (i 1).val + r) (256 * (i 1).val + c) := by
  unfold ds3
  rw [load_rows a2.view (u2.unread x0) ![0, 384] 0 (i 1).val 3 rfl inb_S256x512_S256x128_0_384 Q _ (u2.read_unread x0 |>.trans hx0) (fun r e => by rw [Nat.zero_add])]
  rw [load_rows a5.view (u5.unread x3) ![0, 384] 0 (i 1).val 3 rfl inb_S256x512_S256x128_0_384 D _ (u5.read_unread x3 |>.trans hx3) (fun r e => by rw [Nat.zero_add])]
  rw [load_o a6.view (u6.unread x4) (i 1).val 3 inb_S256x512_S256x128_0_384 O _ (u6.read_unread x4 |>.trans hx4) (fun r e => by rw [Nat.zero_add]), deltaV_cv]
  rw [load_col a7.view (u7.unread x5) 3 inb_S4x256x1_S1x256x1_3_0_0 G (i 1).val (u7.read_unread x5 |>.trans hx5), load_col a9.view (u9.unread x7) 3 inb_S4x256x1_S1x256x1_3_0_0 L (i 1).val (u9.read_unread x7 |>.trans hx7)]
  rw [load_rows a3.view (u3.unread x1) (k0_off23 i) (256 * (i 1).val) (i 1).val 3 (k0_off23_eq i) (k0_off23_inb i) K K (u3.read_unread x1 |>.trans hx1) (fun _ _ => rfl), load_rows a4.view (u4.unread x2) (k0_off23 i) (256 * (i 1).val) (i 1).val 3 (k0_off23_eq i) (k0_off23_inb i) V V (u4.read_unread x2 |>.trans hx2) (fun _ _ => rfl), load_row G a8.view (u8.unread x6) (k0_off24 i) (i 1).val 3 (k0_off24_eq i) (k0_off24_inb i) (u8.read_unread x6 |>.trans hx6)]
  exact dsD_eq Q D K V O G L 3 (i 1).val
end
section
include hx0 hx1 hx5 hx6 hx7
theorem pd3_eq : pd3 (F := Ideal) i a2 u2 a3 u3 a7 u7 a8 u8 a9 u9 x0 x1 x5 x6 x7 = cv 256 256 fun r c => P Q K G L 3 (256 * (i 1).val + r) (256 * (i 1).val + c) := by
  unfold pd3
  rw [load_rows a2.view (u2.unread x0) ![0, 384] 0 (i 1).val 3 rfl inb_S256x512_S256x128_0_384 Q _ (u2.read_unread x0 |>.trans hx0) (fun r e => by rw [Nat.zero_add])]
  rw [load_col a7.view (u7.unread x5) 3 inb_S4x256x1_S1x256x1_3_0_0 G (i 1).val (u7.read_unread x5 |>.trans hx5), load_col a9.view (u9.unread x7) 3 inb_S4x256x1_S1x256x1_3_0_0 L (i 1).val (u9.read_unread x7 |>.trans hx7)]
  rw [load_rows a3.view (u3.unread x1) (k0_off23 i) (256 * (i 1).val) (i 1).val 3 (k0_off23_eq i) (k0_off23_inb i) K K (u3.read_unread x1 |>.trans hx1) (fun _ _ => rfl), load_row G a8.view (u8.unread x6) (k0_off24 i) (i 1).val 3 (k0_off24_eq i) (k0_off24_inb i) (u8.read_unread x6 |>.trans hx6)]
  exact pD_eq Q K G L 3 (i 1).val
end

section
variable (Z : BufTy.Contents (Elt Ideal) a14.view.ty) (W : List (View.Piece (Elt Ideal) S2048x512 .f32)) (A : ℕ → ℕ → ℝ) (hp : a14.view.read (Elt Ideal) (a14.view.writes (Elt Ideal) Z W) = cv 2048 512 (addN (DZ Q D K V O G L) Q (i 1).val (i 1).val 0 A))
include hx0 hx1 hx2 hx3 hx4 hx5 hx6 hx7 hp

theorem dkL0_read : a14.view.read (Elt Ideal) (a14.view.writes (Elt Ideal) Z (dkL0 i a2 u2 a3 u3 a4 u4 a5 u5 a6 u6 a7 u7 a8 u8 a9 u9 a14 x0 x1 x2 x3 x4 x5 x6 x7 Z W)) = cv 2048 512 (addN (DZ Q D K V O G L) Q (i 1).val (i 1).val 1 A) := by
  have hq := hp
  unfold dkL0
  refine store_acc (DZ Q D K V O G L) Q (i 1).val A a14.view Z _ (k0_off17 i) (i 1).val 0 (k0_off17_eq i) (k0_off17_inb i) _ ?_ hq
  rw [load_acc (DZ Q D K V O G L) Q (i 1).val A a14.view _ (k0_off17 i) (i 1).val 0 0 (k0_off17_eq i) (Nat.le_refl _) (k0_off17_inb i) hq]
  rw [ds0_eq Q D K V O G L i a2 u2 a3 u3 a4 u4 a5 u5 a6 u6 a7 u7 a8 u8 a9 u9 x0 x1 x2 x3 x4 x5 x6 x7 hx0 hx1 hx2 hx3 hx4 hx5 hx6 hx7, load_rows a2.view (u2.unread x0) ![0, 0] 0 (i 1).val 0 rfl inb_S256x512_S256x128_0_0 Q _ (u2.read_unread x0 |>.trans hx0) (fun r e => by rw [Nat.zero_add])]
  exact dk_block Q D K V O G L 0 (i 1).val (i 1).val A

theorem dkL1_read : a14.view.read (Elt Ideal) (a14.view.writes (Elt Ideal) Z (dkL1 i a2 u2 a3 u3 a4 u4 a5 u5 a6 u6 a7 u7 a8 u8 a9 u9 a14 x0 x1 x2 x3 x4 x5 x6 x7 Z W)) = cv 2048 512 (addN (DZ Q D K V O G L) Q (i 1).val (i 1).val 2 A) := by
  have hq := dkL0_read Q D K V O G L i a2 u2 a3 u3 a4 u4 a5 u5 a6 u6 a7 u7 a8 u8 a9 u9 a14 x0 x1 x2 x3 x4 x5 x6 x7 hx0 hx1 hx2 hx3 hx4 hx5 hx6 hx7 Z W A hp
  unfold dkL1
  refine store_acc (DZ Q D K V O G L) Q (i 1).val A a14.view Z _ (k0_off19 i) (i 1).val 1 (k0_off19_eq i) (k0_off19_inb i) _ ?_ hq
  rw [load_acc (DZ Q D K V O G L) Q (i 1).val A a14.view _ (k0_off19 i) (i 1).val 1 1 (k0_off19_eq i) (Nat.le_refl _) (k0_off19_inb i) hq]
  rw [ds1_eq Q D K V O G L i a2 u2 a3 u3 a4 u4 a5 u5 a6 u6 a7 u7 a8 u8 a9 u9 x0 x1 x2 x3 x4 x5 x6 x7 hx0 hx1 hx2 hx3 hx4 hx5 hx6 hx7, load_rows a2.view (u2.unread x0) ![0, 128] 0 (i 1).val 1 rfl inb_S256x512_S256x128_0_128 Q _ (u2.read_unread x0 |>.trans hx0) (fun r e => by rw [Nat.zero_add])]
  exact dk_block Q D K V O G L 1 (i 1).val (i 1).val A

theorem dkL2_read : a14.view.read (Elt Ideal) (a14.view.writes (Elt Ideal) Z (dkL2 i a2 u2 a3 u3 a4 u4 a5 u5 a6 u6 a7 u7 a8 u8 a9 u9 a14 x0 x1 x2 x3 x4 x5 x6 x7 Z W)) = cv 2048 512 (addN (DZ Q D K V O G L) Q (i 1).val (i 1).val 3 A) := by
  have hq := dkL1_read Q D K V O G L i a2 u2 a3 u3 a4 u4 a5 u5 a6 u6 a7 u7 a8 u8 a9 u9 a14 x0 x1 x2 x3 x4 x5 x6 x7 hx0 hx1 hx2 hx3 hx4 hx5 hx6 hx7 Z W A hp
  unfold dkL2
  refine store_acc (DZ Q D K V O G L) Q (i 1).val A a14.view Z _ (k0_off21 i) (i 1).val 2 (k0_off21_eq i) (k0_off21_inb i) _ ?_ hq
  rw [load_acc (DZ Q D K V O G L) Q (i 1).val A a14.view _ (k0_off21 i) (i 1).val 2 2 (k0_off21_eq i) (Nat.le_refl _) (k0_off21_inb i) hq]
  rw [ds2_eq Q D K V O G L i a2 u2 a3 u3 a4 u4 a5 u5 a6 u6 a7 u7 a8 u8 a9 u9 x0 x1 x2 x3 x4 x5 x6 x7 hx0 hx1 hx2 hx3 hx4 hx5 hx6 hx7, load_rows a2.view (u2.unread x0) ![0, 256] 0 (i 1).val 2 rfl inb_S256x512_S256x128_0_256 Q _ (u2.read_unread x0 |>.trans hx0) (fun r e => by rw [Nat.zero_add])]
  exact dk_block Q D K V O G L 2 (i 1).val (i 1).val A

theorem dkL3_read : a14.view.read (Elt Ideal) (a14.view.writes (Elt Ideal) Z (dkL3 i a2 u2 a3 u3 a4 u4 a5 u5 a6 u6 a7 u7 a8 u8 a9 u9 a14 x0 x1 x2 x3 x4 x5 x6 x7 Z W)) = cv 2048 512 (addN (DZ Q D K V O G L) Q (i 1).val (i 1).val 4 A) := by
  have hq := dkL2_read Q D K V O G L i a2 u2 a3 u3 a4 u4 a5 u5 a6 u6 a7 u7 a8 u8 a9 u9 a14 x0 x1 x2 x3 x4 x5 x6 x7 hx0 hx1 hx2 hx3 hx4 hx5 hx6 hx7 Z W A hp
  unfold dkL3
  refine store_acc (DZ Q D K V O G L) Q (i 1).val A a14.view Z _ (k0_off23 i) (i 1).val 3 (k0_off23_eq i) (k0_off23_inb i) _ ?_ hq
  rw [load_acc (DZ Q D K V O G L) Q (i 1).val A a14.view _ (k0_off23 i) (i 1).val 3 3 (k0_off23_eq i) (Nat.le_refl _) (k0_off23_inb i) hq]
  rw [ds3_eq Q D K V O G L i a2 u2 a3 u3 a4 u4 a5 u5 a6 u6 a7 u7 a8 u8 a9 u9 x0 x1 x2 x3 x4 x5 x6 x7 hx0 hx1 hx2 hx3 hx4 hx5 hx6 hx7, load_rows a2.view (u2.unread x0) ![0, 384] 0 (i 1).val 3 rfl inb_S256x512_S256x128_0_384 Q _ (u2.read_unread x0 |>.trans hx0) (fun r e => by rw [Nat.zero_add])]
  exact dk_block Q D K V O G L 3 (i 1).val (i 1).val A
end

section
variable (Z : BufTy.Contents (Elt Ideal) a15.view.ty) (W : List (View.Piece (Elt Ideal) S2048x512 .f32)) (A : ℕ → ℕ → ℝ) (hp : a15.view.read (Elt Ideal) (a15.view.writes (Elt Ideal) Z W) = cv 2048 512 (addN (P Q K G L) D (i 1).val (i 1).val 0 A))
include hx0 hx1 hx3 hx5 hx6 hx7 hp

theorem dvL0_read : a15.view.read (Elt Ideal) (a15.view.writes (Elt Ideal) Z (dvL0 i a2 u2 a3 u3 a5 u5 a7 u7 a8 u8 a9 u9 a15 x0 x1 x3 x5 x6 x7 Z W)) = cv 2048 512 (addN (P Q K G L) D (i 1).val (i 1).val 1 A) := by
  have hq := hp
  unfold dvL0
  refine store_acc (P Q K G L) D (i 1).val A a15.view Z _ (k0_off17 i) (i 1).val 0 (k0_off17_eq i) (k0_off17_inb i) _ ?_ hq
  rw [load_acc (P Q K G L) D (i 1).val A a15.view _ (k0_off17 i) (i 1).val 0 0 (k0_off17_eq i) (Nat.le_refl _) (k0_off17_inb i) hq]
  rw [pd0_eq Q K G L i a2 u2 a3 u3 a7 u7 a8 u8 a9 u9 x0 x1 x5 x6 x7 hx0 hx1 hx5 hx6 hx7, load_rows a5.view (u5.unread x3) ![0, 0] 0 (i 1).val 0 rfl inb_S256x512_S256x128_0_0 D _ (u5.read_unread x3 |>.trans hx3) (fun r e => by rw [Nat.zero_add])]
  exact dv_block Q D K G L 0 (i 1).val (i 1).val A

theorem dvL1_read : a15.view.read (Elt Ideal) (a15.view.writes (Elt Ideal) Z (dvL1 i a2 u2 a3 u3 a5 u5 a7 u7 a8 u8 a9 u9 a15 x0 x1 x3 x5 x6 x7 Z W)) = cv 2048 512 (addN (P Q K G L) D (i 1).val (i 1).val 2 A) := by
  have hq := dvL0_read Q D K G L i a2 u2 a3 u3 a5 u5 a7 u7 a8 u8 a9 u9 a15 x0 x1 x3 x5 x6 x7 hx0 hx1 hx3 hx5 hx6 hx7 Z W A hp
  unfold dvL1
  refine store_acc (P Q K G L) D (i 1).val A a15.view Z _ (k0_off19 i) (i 1).val 1 (k0_off19_eq i) (k0_off19_inb i) _ ?_ hq
  rw [load_acc (P Q K G L) D (i 1).val A a15.view _ (k0_off19 i) (i 1).val 1 1 (k0_off19_eq i) (Nat.le_refl _) (k0_off19_inb i) hq]
  rw [pd1_eq Q K G L i a2 u2 a3 u3 a7 u7 a8 u8 a9 u9 x0 x1 x5 x6 x7 hx0 hx1 hx5 hx6 hx7, load_rows a5.view (u5.unread x3) ![0, 128] 0 (i 1).val 1 rfl inb_S256x512_S256x128_0_128 D _ (u5.read_unread x3 |>.trans hx3) (fun r e => by rw [Nat.zero_add])]
  exact dv_block Q D K G L 1 (i 1).val (i 1).val A

theorem dvL2_read : a15.view.read (Elt Ideal) (a15.view.writes (Elt Ideal) Z (dvL2 i a2 u2 a3 u3 a5 u5 a7 u7 a8 u8 a9 u9 a15 x0 x1 x3 x5 x6 x7 Z W)) = cv 2048 512 (addN (P Q K G L) D (i 1).val (i 1).val 3 A) := by
  have hq := dvL1_read Q D K G L i a2 u2 a3 u3 a5 u5 a7 u7 a8 u8 a9 u9 a15 x0 x1 x3 x5 x6 x7 hx0 hx1 hx3 hx5 hx6 hx7 Z W A hp
  unfold dvL2
  refine store_acc (P Q K G L) D (i 1).val A a15.view Z _ (k0_off21 i) (i 1).val 2 (k0_off21_eq i) (k0_off21_inb i) _ ?_ hq
  rw [load_acc (P Q K G L) D (i 1).val A a15.view _ (k0_off21 i) (i 1).val 2 2 (k0_off21_eq i) (Nat.le_refl _) (k0_off21_inb i) hq]
  rw [pd2_eq Q K G L i a2 u2 a3 u3 a7 u7 a8 u8 a9 u9 x0 x1 x5 x6 x7 hx0 hx1 hx5 hx6 hx7, load_rows a5.view (u5.unread x3) ![0, 256] 0 (i 1).val 2 rfl inb_S256x512_S256x128_0_256 D _ (u5.read_unread x3 |>.trans hx3) (fun r e => by rw [Nat.zero_add])]
  exact dv_block Q D K G L 2 (i 1).val (i 1).val A

theorem dvL3_read : a15.view.read (Elt Ideal) (a15.view.writes (Elt Ideal) Z (dvL3 i a2 u2 a3 u3 a5 u5 a7 u7 a8 u8 a9 u9 a15 x0 x1 x3 x5 x6 x7 Z W)) = cv 2048 512 (addN (P Q K G L) D (i 1).val (i 1).val 4 A) := by
  have hq := dvL2_read Q D K G L i a2 u2 a3 u3 a5 u5 a7 u7 a8 u8 a9 u9 a15 x0 x1 x3 x5 x6 x7 hx0 hx1 hx3 hx5 hx6 hx7 Z W A hp
  unfold dvL3
  refine store_acc (P Q K G L) D (i 1).val A a15.view Z _ (k0_off23 i) (i 1).val 3 (k0_off23_eq i) (k0_off23_inb i) _ ?_ hq
  rw [load_acc (P Q K G L) D (i 1).val A a15.view _ (k0_off23 i) (i 1).val 3 3 (k0_off23_eq i) (Nat.le_refl _) (k0_off23_inb i) hq]
  rw [pd3_eq Q K G L i a2 u2 a3 u3 a7 u7 a8 u8 a9 u9 x0 x1 x5 x6 x7 hx0 hx1 hx5 hx6 hx7, load_rows a5.view (u5.unread x3) ![0, 384] 0 (i 1).val 3 rfl inb_S256x512_S256x128_0_384 D _ (u5.read_unread x3 |>.trans hx3) (fun r e => by rw [Nat.zero_add])]
  exact dv_block Q D K G L 3 (i 1).val (i 1).val A
end

section
variable (Z : BufTy.Contents (Elt Ideal) a16.view.ty) (W : List (View.Piece (Elt Ideal) S4x8x1x256 .f32)) (A : ℕ → ℕ → ℝ) (hp : a16.view.read (Elt Ideal) (a16.view.writes (Elt Ideal) Z W) = c4 (subN (DS Q D K V O G L) (i 1).val A (i 1).val 0))
include hx0 hx1 hx2 hx3 hx4 hx5 hx6 hx7 hp

theorem dfL0_read : a16.view.read (Elt Ideal) (a16.view.writes (Elt Ideal) Z (dfL0 i a2 u2 a3 u3 a4 u4 a5 u5 a6 u6 a7 u7 a8 u8 a9 u9 a16 x0 x1 x2 x3 x4 x5 x6 x7 Z W)) = c4 (subN (DS Q D K V O G L) (i 1).val A (i 1).val 1) := by
  have hq := hp
  unfold dfL0
  refine store_sub (DS Q D K V O G L) (i 1).val A a16.view Z _ (k0_off18 i) (i 1).val 0 (k0_off18_eq i) (k0_off18_inb i) _ ?_ hq
  rw [load_sub (DS Q D K V O G L) (i 1).val A a16.view _ (k0_off18 i) (i 1).val 0 0 (k0_off18_eq i) (Nat.le_refl _) (k0_off18_inb i) hq]
  rw [ds0_eq Q D K V O G L i a2 u2 a3 u3 a4 u4 a5 u5 a6 u6 a7 u7 a8 u8 a9 u9 x0 x1 x2 x3 x4 x5 x6 x7 hx0 hx1 hx2 hx3 hx4 hx5 hx6 hx7]
  exact df_block (DS Q D K V O G L) (i 1).val 0 (i 1).val A

theorem dfL1_read : a16.view.read (Elt Ideal) (a16.view.writes (Elt Ideal) Z (dfL1 i a2 u2 a3 u3 a4 u4 a5 u5 a6 u6 a7 u7 a8 u8 a9 u9 a16 x0 x1 x2 x3 x4 x5 x6 x7 Z W)) = c4 (subN (DS Q D K V O G L) (i 1).val A (i 1).val 2) := by
  have hq := dfL0_read Q D K V O G L i a2 u2 a3 u3 a4 u4 a5 u5 a6 u6 a7 u7 a8 u8 a9 u9 a16 x0 x1 x2 x3 x4 x5 x6 x7 hx0 hx1 hx2 hx3 hx4 hx5 hx6 hx7 Z W A hp
  unfold dfL1
  refine store_sub (DS Q D K V O G L) (i 1).val A a16.view Z _ (k0_off20 i) (i 1).val 1 (k0_off20_eq i) (k0_off20_inb i) _ ?_ hq
  rw [load_sub (DS Q D K V O G L) (i 1).val A a16.view _ (k0_off20 i) (i 1).val 1 1 (k0_off20_eq i) (Nat.le_refl _) (k0_off20_inb i) hq]
  rw [ds1_eq Q D K V O G L i a2 u2 a3 u3 a4 u4 a5 u5 a6 u6 a7 u7 a8 u8 a9 u9 x0 x1 x2 x3 x4 x5 x6 x7 hx0 hx1 hx2 hx3 hx4 hx5 hx6 hx7]
  exact df_block (DS Q D K V O G L) (i 1).val 1 (i 1).val A

theorem dfL2_read : a16.view.read (Elt Ideal) (a16.view.writes (Elt Ideal) Z (dfL2 i a2 u2 a3 u3 a4 u4 a5 u5 a6 u6 a7 u7 a8 u8 a9 u9 a16 x0 x1 x2 x3 x4 x5 x6 x7 Z W)) = c4 (subN (DS Q D K V O G L) (i 1).val A (i 1).val 3) := by
  have hq := dfL1_read Q D K V O G L i a2 u2 a3 u3 a4 u4 a5 u5 a6 u6 a7 u7 a8 u8 a9 u9 a16 x0 x1 x2 x3 x4 x5 x6 x7 hx0 hx1 hx2 hx3 hx4 hx5 hx6 hx7 Z W A hp
  unfold dfL2
  refine store_sub (DS Q D K V O G L) (i 1).val A a16.view Z _ (k0_off22 i) (i 1).val 2 (k0_off22_eq i) (k0_off22_inb i) _ ?_ hq
  rw [load_sub (DS Q D K V O G L) (i 1).val A a16.view _ (k0_off22 i) (i 1).val 2 2 (k0_off22_eq i) (Nat.le_refl _) (k0_off22_inb i) hq]
  rw [ds2_eq Q D K V O G L i a2 u2 a3 u3 a4 u4 a5 u5 a6 u6 a7 u7 a8 u8 a9 u9 x0 x1 x2 x3 x4 x5 x6 x7 hx0 hx1 hx2 hx3 hx4 hx5 hx6 hx7]
  exact df_block (DS Q D K V O G L) (i 1).val 2 (i 1).val A

theorem dfL3_read : a16.view.read (Elt Ideal) (a16.view.writes (Elt Ideal) Z (dfL3 i a2 u2 a3 u3 a4 u4 a5 u5 a6 u6 a7 u7 a8 u8 a9 u9 a16 x0 x1 x2 x3 x4 x5 x6 x7 Z W)) = c4 (subN (DS Q D K V O G L) (i 1).val A (i 1).val 4) := by
  have hq := dfL2_read Q D K V O G L i a2 u2 a3 u3 a4 u4 a5 u5 a6 u6 a7 u7 a8 u8 a9 u9 a16 x0 x1 x2 x3 x4 x5 x6 x7 hx0 hx1 hx2 hx3 hx4 hx5 hx6 hx7 Z W A hp
  unfold dfL3
  refine store_sub (DS Q D K V O G L) (i 1).val A a16.view Z _ (k0_off24 i) (i 1).val 3 (k0_off24_eq i) (k0_off24_inb i) _ ?_ hq
  rw [load_sub (DS Q D K V O G L) (i 1).val A a16.view _ (k0_off24 i) (i 1).val 3 3 (k0_off24_eq i) (Nat.le_refl _) (k0_off24_inb i) hq]
  rw [ds3_eq Q D K V O G L i a2 u2 a3 u3 a4 u4 a5 u5 a6 u6 a7 u7 a8 u8 a9 u9 x0 x1 x2 x3 x4 x5 x6 x7 hx0 hx1 hx2 hx3 hx4 hx5 hx6 hx7]
  exact df_block (DS Q D K V O G L) (i 1).val 3 (i 1).val A
end

section
include hx0 hx1 hx2 hx3 hx4 hx5 hx6 hx7

theorem dqPay0 : truncf (F := Ideal) .bf16 (dqV (cv 256 128 (DQ Q D K V O G L 0 (i 1).val (i 1).val)) (dsbV (ds0 i a2 u2 a3 u3 a4 u4 a5 u5 a6 u6 a7 u7 a8 u8 a9 u9 x0 x1 x2 x3 x4 x5 x6 x7)) (View.readAt (Elt Ideal) a3.view (Rect.unit (s := S2048x512) (k0_off17 i) S256x128.size (k0_off17_inb i)).toLoadRect (u3.unread x1))) bitsLt_bf16_f32 = cv 256 128 fun r e => dqB Q D K V O G L (i 1).val r (128 * 0 + e) := by
  rw [ds0_eq Q D K V O G L i a2 u2 a3 u3 a4 u4 a5 u5 a6 u6 a7 u7 a8 u8 a9 u9 x0 x1 x2 x3 x4 x5 x6 x7 hx0 hx1 hx2 hx3 hx4 hx5 hx6 hx7, load_rows a3.view (u3.unread x1) (k0_off17 i) (256 * (i 1).val) (i 1).val 0 (k0_off17_eq i) (k0_off17_inb i) K K (u3.read_unread x1 |>.trans hx1) (fun _ _ => rfl), narrow, DQ_step, dqPart]

theorem dqPay1 : truncf (F := Ideal) .bf16 (dqV (cv 256 128 (DQ Q D K V O G L 1 (i 1).val (i 1).val)) (dsbV (ds1 i a2 u2 a3 u3 a4 u4 a5 u5 a6 u6 a7 u7 a8 u8 a9 u9 x0 x1 x2 x3 x4 x5 x6 x7)) (View.readAt (Elt Ideal) a3.view (Rect.unit (s := S2048x512) (k0_off19 i) S256x128.size (k0_off19_inb i)).toLoadRect (u3.unread x1))) bitsLt_bf16_f32 = cv 256 128 fun r e => dqB Q D K V O G L (i 1).val r (128 * 1 + e) := by
  rw [ds1_eq Q D K V O G L i a2 u2 a3 u3 a4 u4 a5 u5 a6 u6 a7 u7 a8 u8 a9 u9 x0 x1 x2 x3 x4 x5 x6 x7 hx0 hx1 hx2 hx3 hx4 hx5 hx6 hx7, load_rows a3.view (u3.unread x1) (k0_off19 i) (256 * (i 1).val) (i 1).val 1 (k0_off19_eq i) (k0_off19_inb i) K K (u3.read_unread x1 |>.trans hx1) (fun _ _ => rfl), narrow, DQ_step, dqPart]

theorem dqPay2 : truncf (F := Ideal) .bf16 (dqV (cv 256 128 (DQ Q D K V O G L 2 (i 1).val (i 1).val)) (dsbV (ds2 i a2 u2 a3 u3 a4 u4 a5 u5 a6 u6 a7 u7 a8 u8 a9 u9 x0 x1 x2 x3 x4 x5 x6 x7)) (View.readAt (Elt Ideal) a3.view (Rect.unit (s := S2048x512) (k0_off21 i) S256x128.size (k0_off21_inb i)).toLoadRect (u3.unread x1))) bitsLt_bf16_f32 = cv 256 128 fun r e => dqB Q D K V O G L (i 1).val r (128 * 2 + e) := by
  rw [ds2_eq Q D K V O G L i a2 u2 a3 u3 a4 u4 a5 u5 a6 u6 a7 u7 a8 u8 a9 u9 x0 x1 x2 x3 x4 x5 x6 x7 hx0 hx1 hx2 hx3 hx4 hx5 hx6 hx7, load_rows a3.view (u3.unread x1) (k0_off21 i) (256 * (i 1).val) (i 1).val 2 (k0_off21_eq i) (k0_off21_inb i) K K (u3.read_unread x1 |>.trans hx1) (fun _ _ => rfl), narrow, DQ_step, dqPart]

theorem dqPay3 : truncf (F := Ideal) .bf16 (dqV (cv 256 128 (DQ Q D K V O G L 3 (i 1).val (i 1).val)) (dsbV (ds3 i a2 u2 a3 u3 a4 u4 a5 u5 a6 u6 a7 u7 a8 u8 a9 u9 x0 x1 x2 x3 x4 x5 x6 x7)) (View.readAt (Elt Ideal) a3.view (Rect.unit (s := S2048x512) (k0_off23 i) S256x128.size (k0_off23_inb i)).toLoadRect (u3.unread x1))) bitsLt_bf16_f32 = cv 256 128 fun r e => dqB Q D K V O G L (i 1).val r (128 * 3 + e) := by
  rw [ds3_eq Q D K V O G L i a2 u2 a3 u3 a4 u4 a5 u5 a6 u6 a7 u7 a8 u8 a9 u9 x0 x1 x2 x3 x4 x5 x6 x7 hx0 hx1 hx2 hx3 hx4 hx5 hx6 hx7, load_rows a3.view (u3.unread x1) (k0_off23 i) (256 * (i 1).val) (i 1).val 3 (k0_off23_eq i) (k0_off23_inb i) K K (u3.read_unread x1 |>.trans hx1) (fun _ _ => rfl), narrow, DQ_step, dqPart]

/-- dq's block. -/
theorem dqL_read (s : Carry Ideal) (hs : s = carry Q D K V O G L (i 1).val (i 1).val) (v : View sig .tc .vmem S256x512 .bf16) (f : v.ty.Contents (Elt Ideal)) :
    v.read (Elt Ideal) (v.writes (Elt Ideal) f (dqL i a2 u2 a3 u3 a4 u4 a5 u5 a6 u6 a7 u7 a8 u8 a9 u9 x0 x1 x2 x3 x4 x5 x6 x7 s)) = cv 256 512 (dqB Q D K V O G L (i 1).val) := by
  rw [hs]; unfold dqL carry; dsimp only
  exact funext fun y => (store_dq v f _ _ 3 rfl inb_S256x512_S256x128_0_384 _ (dqB Q D K V O G L (i 1).val) (dqPay3 Q D K V O G L i a2 u2 a3 u3 a4 u4 a5 u5 a6 u6 a7 u7 a8 u8 a9 u9 x0 x1 x2 x3 x4 x5 x6 x7 hx0 hx1 hx2 hx3 hx4 hx5 hx6 hx7) (store_dq v f _ _ 2 rfl inb_S256x512_S256x128_0_256 _ (dqB Q D K V O G L (i 1).val) (dqPay2 Q D K V O G L i a2 u2 a3 u3 a4 u4 a5 u5 a6 u6 a7 u7 a8 u8 a9 u9 x0 x1 x2 x3 x4 x5 x6 x7 hx0 hx1 hx2 hx3 hx4 hx5 hx6 hx7) (store_dq v f _ _ 1 rfl inb_S256x512_S256x128_0_128 _ (dqB Q D K V O G L (i 1).val) (dqPay1 Q D K V O G L i a2 u2 a3 u3 a4 u4 a5 u5 a6 u6 a7 u7 a8 u8 a9 u9 x0 x1 x2 x3 x4 x5 x6 x7 hx0 hx1 hx2 hx3 hx4 hx5 hx6 hx7) (store_dq v f _ _ 0 rfl inb_S256x512_S256x128_0_0 _ (dqB Q D K V O G L (i 1).val) (dqPay0 Q D K V O G L i a2 u2 a3 u3 a4 u4 a5 u5 a6 u6 a7 u7 a8 u8 a9 u9 x0 x1 x2 x3 x4 x5 x6 x7 hx0 hx1 hx2 hx3 hx4 hx5 hx6 hx7) (fun y hy => absurd hy (Nat.not_lt_zero _)))))) y (idx2_lt1 y)
end

end Cert.FoxIdeal.Diag

end

end
-- ==== Proof.FoxRunB.lean ====
/-
  Case B of the kernel's body, opened.
-/
module

public import proofs.«01_k».proof.Proof.FoxRunDefs
public import proofs.«01_k».proof.Proof.Gen.FoxIdeal.Frame.RunB

@[expose] public section

set_option maxRecDepth 16384
set_option maxHeartbeats 4000000

noncomputable section

namespace Cert.FoxIdeal.Runs

open Cert.FoxIdeal Cert.FoxIdeal.Gen Cert.FoxIdeal.Step Idealize.ShloMosaic Idealize.ShloMosaic.TcCoe Idealize.SL.Sem

variable {F : FTy → Type} [FloatOps F]

variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole) (hc0 : ¬cond0_0 i) (hc1 : ¬cond0_1 i) (x0 : Vec F S256x512 .bf16) (x1 : Vec F S2048x512 .bf16) (x2 : Vec F S2048x512 .bf16) (x3 : Vec F S256x512 .bf16) (x4 : Vec F S256x512 .f32) (x5 : Vec F S4x256x1 .f32) (x6 : Vec F S4x8x1x256 .f32) (x7 : Vec F S4x256x1 .f32) (xs0 : Vec F S2048x512 .f32) (xs1 : Vec F S2048x512 .f32) (xs2 : Vec F S4x8x1x256 .f32)

theorem runB_dq : (kernelRun0_B c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).1 = dqL i a2 u2 a3 u3 a4 u4 a5 u5 a6 u6 a7 u7 a8 u8 a9 u9 x0 x1 x2 x3 x4 x5 x6 x7 (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).1 := by
  unfold kernelRun0_B
  rfl

theorem runB_dkacc : (kernelRun0_B c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.2.2.1 = (dkL3 i a2 u2 a3 u3 a4 u4 a5 u5 a6 u6 a7 u7 a8 u8 a9 u9 a14 x0 x1 x2 x3 x4 x5 x6 x7 (u14.unread xs0) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.1) := by
  unfold kernelRun0_B
  rfl

theorem runB_dvacc : (kernelRun0_B c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.2.2.2.1 = (dvL3 i a2 u2 a3 u3 a5 u5 a7 u7 a8 u8 a9 u9 a15 x0 x1 x3 x5 x6 x7 (u15.unread xs1) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.1) := by
  unfold kernelRun0_B
  rfl

theorem runB_dfacc : (kernelRun0_B c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.2.2.2.2.1 = (dfL3 i a2 u2 a3 u3 a4 u4 a5 u5 a6 u6 a7 u7 a8 u8 a9 u9 a16 x0 x1 x2 x3 x4 x5 x6 x7 (u16.unread xs2) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.2) := by
  unfold kernelRun0_B
  rfl

end Cert.FoxIdeal.Runs

end

end
-- ==== Proof.FoxRunC.lean ====
/-
  Case C of the kernel's body, opened.
-/
module

public import proofs.«01_k».proof.Proof.FoxRunDefs
public import proofs.«01_k».proof.Proof.Gen.FoxIdeal.Frame.RunC

@[expose] public section

set_option maxRecDepth 16384
set_option maxHeartbeats 4000000

noncomputable section

namespace Cert.FoxIdeal.Runs

open Cert.FoxIdeal Cert.FoxIdeal.Gen Cert.FoxIdeal.Step Idealize.ShloMosaic Idealize.ShloMosaic.TcCoe Idealize.SL.Sem

variable {F : FTy → Type} [FloatOps F]

variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole) (hc0 : ¬cond0_0 i) (hc1 : cond0_1 i) (x0 : Vec F S256x512 .bf16) (x1 : Vec F S2048x512 .bf16) (x2 : Vec F S2048x512 .bf16) (x3 : Vec F S256x512 .bf16) (x4 : Vec F S256x512 .f32) (x5 : Vec F S4x256x1 .f32) (x6 : Vec F S4x8x1x256 .f32) (x7 : Vec F S4x256x1 .f32) (xs0 : Vec F S2048x512 .f32) (xs1 : Vec F S2048x512 .f32) (xs2 : Vec F S4x8x1x256 .f32)

theorem runC_dq : (kernelRun0_C c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).1 = dqL i a2 u2 a3 u3 a4 u4 a5 u5 a6 u6 a7 u7 a8 u8 a9 u9 x0 x1 x2 x3 x4 x5 x6 x7 (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).1 := by
  unfold kernelRun0_C
  rfl

theorem runC_dkacc : (kernelRun0_C c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.2.2.1 = (dkL3 i a2 u2 a3 u3 a4 u4 a5 u5 a6 u6 a7 u7 a8 u8 a9 u9 a14 x0 x1 x2 x3 x4 x5 x6 x7 (u14.unread xs0) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.1) := by
  unfold kernelRun0_C
  rfl

theorem runC_dvacc : (kernelRun0_C c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.2.2.2.1 = (dvL3 i a2 u2 a3 u3 a5 u5 a7 u7 a8 u8 a9 u9 a15 x0 x1 x3 x5 x6 x7 (u15.unread xs1) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.1) := by
  unfold kernelRun0_C
  rfl

theorem runC_dfacc : (kernelRun0_C c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.2.2.2.2.1 = (dfL3 i a2 u2 a3 u3 a4 u4 a5 u5 a6 u6 a7 u7 a8 u8 a9 u9 a16 x0 x1 x2 x3 x4 x5 x6 x7 (u16.unread xs2) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.2) := by
  unfold kernelRun0_C
  rfl

theorem runC_dk : (kernelRun0_C c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.1 = [⟨(Rect.unit (s := S2048x512) ![0, 0] S2048x512.size inb_S2048x512_S2048x512_0_0), k0_pay1 (View.readAt (Elt F) a14.view (Rect.unit (s := S2048x512) ![0, 0] S2048x512.size inb_S2048x512_S2048x512_0_0).toLoadRect (a14.view.writes (Elt F) (u14.unread xs0) ((dkL3 i a2 u2 a3 u3 a4 u4 a5 u5 a6 u6 a7 u7 a8 u8 a9 u9 a14 x0 x1 x2 x3 x4 x5 x6 x7 (u14.unread xs0) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.1))))⟩] := by
  unfold kernelRun0_C
  rfl

theorem runC_dv : (kernelRun0_C c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.1 = [⟨(Rect.unit (s := S2048x512) ![0, 0] S2048x512.size inb_S2048x512_S2048x512_0_0), k0_pay2 (View.readAt (Elt F) a15.view (Rect.unit (s := S2048x512) ![0, 0] S2048x512.size inb_S2048x512_S2048x512_0_0).toLoadRect (a15.view.writes (Elt F) (u15.unread xs1) ((dvL3 i a2 u2 a3 u3 a5 u5 a7 u7 a8 u8 a9 u9 a15 x0 x1 x3 x5 x6 x7 (u15.unread xs1) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.1))))⟩] := by
  unfold kernelRun0_C
  rfl

theorem runC_df : (kernelRun0_C c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2).2.2.2.1 = [⟨(Rect.unit (s := S4x8x1x256) ![0, 0, 0, 0] S4x8x1x256.size inb_S4x8x1x256_S4x8x1x256_0_0_0_0), (View.readAt (Elt F) a16.view (Rect.unit (s := S4x8x1x256) ![0, 0, 0, 0] S4x8x1x256.size inb_S4x8x1x256_S4x8x1x256_0_0_0_0).toLoadRect (a16.view.writes (Elt F) (u16.unread xs2) ((dfL3 i a2 u2 a3 u3 a4 u4 a5 u5 a6 u6 a7 u7 a8 u8 a9 u9 a16 x0 x1 x2 x3 x4 x5 x6 x7 (u16.unread xs2) (stE c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.2))))⟩] := by
  unfold kernelRun0_C
  rfl

end Cert.FoxIdeal.Runs

end

end
-- ==== Proof.FoxPoints.lean ====
/-
  What a grid point leaves in dq's block and in the accumulators, and what the last one of a head group writes out.
-/
module

public import proofs.«01_k».proof.Proof.FoxDiag
public import proofs.«01_k».proof.Proof.FoxRunB
public import proofs.«01_k».proof.Proof.FoxRunC
public import proofs.«01_k».proof.Proof.Gen.FoxIdeal.Frame

@[expose] public section

set_option maxRecDepth 16384

noncomputable section

namespace Cert.FoxIdeal.Points

open Cert.FoxIdeal Cert.FoxIdeal.Gen Cert.FoxIdeal.Step Cert.FoxIdeal.Block Cert.FoxIdeal.Mem Cert.FoxIdeal.Loop Cert.FoxIdeal.Runs Cert.FoxIdeal.Diag Idealize.ShloMosaic Idealize.ShloMosaic.TcCoe Idealize.SL.Sem
open Cert.KernelIdeal.Block (cv cv_congr ofBits_zero)
open Cert.KernelIdeal.Model (hd rows)
open Cert.KernelIdeal.Acc (addN addN_zero addN_next blockN)
open Idealize.ShloMosaic.ValueIdx hiding ix2 eq_ix2 ix1 eq_ix1 ix0 eq_ix0
open scoped BigOperators

/-- A store of a whole view, read back. -/
theorem read_whole {sp : Space} {κ : Kind} {Val : EltTy → Type} {e : EltTy} (v : View sig κ sp S2048x512 e) (f : v.ty.Contents Val) (inb : ∀ a, (![0, 0] : Fin 2 → ℕ) a + S2048x512.size a ≤ S2048x512.size a) (w : S2048x512.Idx → Val e) :
    v.read Val (v.writes Val f [(⟨Rect.unit (s := S2048x512) ![0, 0] S2048x512.size inb, w⟩ : View.Piece Val S2048x512 e)]) = w := by
  funext y
  rw [View.read_writes_cons_unit v f inb w [] y rfl, dif_pos fun a => by match a with
    | ⟨0, _⟩ => exact ⟨Nat.zero_le _, by have h : (y 0).val < 2048 := (y 0).isLt; show (y 0).val < 0 + 2048; omega⟩
    | ⟨1, _⟩ => exact ⟨Nat.zero_le _, by have h : (y 1).val < 512 := (y 1).isLt; show (y 1).val < 0 + 512; omega⟩]
  refine congrArg w (funext fun a => Fin.ext ?_)
  match a with
  | ⟨0, _⟩ => exact Nat.sub_zero _
  | ⟨1, _⟩ => exact Nat.sub_zero _

/-- A store of a whole view, read back. -/
theorem read_whole4 {sp : Space} {κ : Kind} {Val : EltTy → Type} {e : EltTy} (v : View sig κ sp S4x8x1x256 e) (f : v.ty.Contents Val) (inb : ∀ a, (![0, 0, 0, 0] : Fin 4 → ℕ) a + S4x8x1x256.size a ≤ S4x8x1x256.size a) (w : S4x8x1x256.Idx → Val e) :
    v.read Val (v.writes Val f [(⟨Rect.unit (s := S4x8x1x256) ![0, 0, 0, 0] S4x8x1x256.size inb, w⟩ : View.Piece Val S4x8x1x256 e)]) = w := by
  funext y
  rw [View.read_writes_cons_unit v f inb w [] y rfl, dif_pos fun a => by match a with
    | ⟨0, _⟩ => exact ⟨Nat.zero_le _, by have h : (y 0).val < 4 := (y 0).isLt; show (y 0).val < 0 + 4; omega⟩
    | ⟨1, _⟩ => exact ⟨Nat.zero_le _, by have h : (y 1).val < 8 := (y 1).isLt; show (y 1).val < 0 + 8; omega⟩
    | ⟨2, _⟩ => exact ⟨Nat.zero_le _, by have h : (y 2).val < 1 := (y 2).isLt; show (y 2).val < 0 + 1; omega⟩
    | ⟨3, _⟩ => exact ⟨Nat.zero_le _, by have h : (y 3).val < 256 := (y 3).isLt; show (y 3).val < 0 + 256; omega⟩]
  refine congrArg w (funext fun a => Fin.ext ?_)
  match a with
  | ⟨0, _⟩ => exact Nat.sub_zero _
  | ⟨1, _⟩ => exact Nat.sub_zero _
  | ⟨2, _⟩ => exact Nat.sub_zero _
  | ⟨3, _⟩ => exact Nat.sub_zero _

variable (Q D K V O G L : ℕ → ℕ → ℝ)
variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole) (x0 : Vec Ideal S256x512 .bf16) (x1 : Vec Ideal S2048x512 .bf16) (x2 : Vec Ideal S2048x512 .bf16) (x3 : Vec Ideal S256x512 .bf16) (x4 : Vec Ideal S256x512 .f32) (x5 : Vec Ideal S4x256x1 .f32) (x6 : Vec Ideal S4x8x1x256 .f32) (x7 : Vec Ideal S4x256x1 .f32)
variable (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = cv 256 512 fun r e => O (256 * (i 1).val + r) e) (hx5 : x5 = fun j => ((G (j 0).val (256 * (i 1).val + (j 1).val) : ℝ) : EReal)) (hx6 : x6 = c4 G) (hx7 : x7 = fun j => ((L (j 0).val (256 * (i 1).val + (j 1).val) : ℝ) : EReal))

section
variable (xs0 xs1 : Vec Ideal S2048x512 .f32) (xs2 : Vec Ideal S4x8x1x256 .f32) (A B C : ℕ → ℕ → ℝ) (hs0 : xs0 = cv 2048 512 A) (hs1 : xs1 = cv 2048 512 B) (hs2 : xs2 = c4 C)
include hx0 hx1 hx2 hx3 hx4 hx5 hx6 hx7 hs0 hs1 hs2
theorem stE_spec :
    (stE (F := Ideal) c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).1 = carry Q D K V O G L (i 1).val (i 1).val
    ∧ a14.view.read (Elt Ideal) (a14.view.writes (Elt Ideal) (u14.unread xs0) (stE (F := Ideal) c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.1) = cv 2048 512 (addN (DZ Q D K V O G L) Q (i 1).val (i 1).val 0 A)
    ∧ a15.view.read (Elt Ideal) (a15.view.writes (Elt Ideal) (u15.unread xs1) (stE (F := Ideal) c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.1) = cv 2048 512 (addN (P Q K G L) D (i 1).val (i 1).val 0 B)
    ∧ a16.view.read (Elt Ideal) (a16.view.writes (Elt Ideal) (u16.unread xs2) (stE (F := Ideal) c i a2 u2 a3 u3 a4 u4 a5 u5 a6 u6 a7 u7 a8 u8 a9 u9 a10 u10 a11 u11 a12 u12 a13 u13 a14 u14 a15 u15 a16 u16 x0 x1 x2 x3 x4 x5 x6 x7 (u14.unread xs0) (u15.unread xs1) (u16.unread xs2)).2.2.2) = c4 (subN (DS Q D K V O G L) (i 1).val C (i 1).val 0) := by
  rw [stE_eq]
  exact st1_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 _ _ _ A B C (u14.read_unread xs0 |>.trans hs0) (u15.read_unread xs1 |>.trans hs1) (u16.read_unread xs2 |>.trans hs2)
end

section
variable (hc0 : ¬cond0_0 i) (hc1 : ¬cond0_1 i) (xs0 xs1 : Vec Ideal S2048x512 .f32) (xs2 : Vec Ideal S4x8x1x256 .f32) (A B C : ℕ → ℕ → ℝ) (hs0 : xs0 = cv 2048 512 A) (hs1 : xs1 = cv 2048 512 B) (hs2 : xs2 = c4 C)
include hx0 hx1 hx2 hx3 hx4 hx5 hx6 hx7 hs0 hs1 hs2

theorem outB_8 : out0_B_8 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 256 512 (dqB Q D K V O G L (i 1).val) := by
  unfold out0_B_8
  rw [runB_dq]
  exact dqL_read Q D K V O G L i a2 u2 a3 u3 a4 u4 a5 u5 a6 u6 a7 u7 a8 u8 a9 u9 x0 x1 x2 x3 x4 x5 x6 x7 hx0 hx1 hx2 hx3 hx4 hx5 hx6 hx7 _ (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).1 _ _

theorem soutB_0 : sout0_B_0 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 2048 512 (addN (DZ Q D K V O G L) Q (i 1).val ((i 1).val + 1) 0 A) := by
  unfold sout0_B_0
  rw [runB_dkacc, ← addN_next]
  exact dkL3_read Q D K V O G L i a2 u2 a3 u3 a4 u4 a5 u5 a6 u6 a7 u7 a8 u8 a9 u9 a14 x0 x1 x2 x3 x4 x5 x6 x7 hx0 hx1 hx2 hx3 hx4 hx5 hx6 hx7 _ _ A (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.1

theorem soutB_1 : sout0_B_1 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 2048 512 (addN (P Q K G L) D (i 1).val ((i 1).val + 1) 0 B) := by
  unfold sout0_B_1
  rw [runB_dvacc, ← addN_next]
  exact dvL3_read Q D K G L i a2 u2 a3 u3 a5 u5 a7 u7 a8 u8 a9 u9 a15 x0 x1 x3 x5 x6 x7 hx0 hx1 hx3 hx5 hx6 hx7 _ _ B (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.2.1

theorem soutB_2 : sout0_B_2 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = c4 (subN (DS Q D K V O G L) (i 1).val C ((i 1).val + 1) 0) := by
  unfold sout0_B_2
  rw [runB_dfacc, ← subN_next]
  exact dfL3_read Q D K V O G L i a2 u2 a3 u3 a4 u4 a5 u5 a6 u6 a7 u7 a8 u8 a9 u9 a16 x0 x1 x2 x3 x4 x5 x6 x7 hx0 hx1 hx2 hx3 hx4 hx5 hx6 hx7 _ _ C (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.2.2
end

section
variable (hc0 : ¬cond0_0 i) (hc1 : cond0_1 i) (xs0 xs1 : Vec Ideal S2048x512 .f32) (xs2 : Vec Ideal S4x8x1x256 .f32) (A B C : ℕ → ℕ → ℝ) (hs0 : xs0 = cv 2048 512 A) (hs1 : xs1 = cv 2048 512 B) (hs2 : xs2 = c4 C)
include hx0 hx1 hx2 hx3 hx4 hx5 hx6 hx7 hs0 hs1 hs2

theorem outC_8 : out0_C_8 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 256 512 (dqB Q D K V O G L (i 1).val) := by
  unfold out0_C_8
  rw [runC_dq]
  exact dqL_read Q D K V O G L i a2 u2 a3 u3 a4 u4 a5 u5 a6 u6 a7 u7 a8 u8 a9 u9 x0 x1 x2 x3 x4 x5 x6 x7 hx0 hx1 hx2 hx3 hx4 hx5 hx6 hx7 _ (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).1 _ _

theorem soutC_0 : sout0_C_0 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 2048 512 (addN (DZ Q D K V O G L) Q (i 1).val ((i 1).val + 1) 0 A) := by
  unfold sout0_C_0
  rw [runC_dkacc, ← addN_next]
  exact dkL3_read Q D K V O G L i a2 u2 a3 u3 a4 u4 a5 u5 a6 u6 a7 u7 a8 u8 a9 u9 a14 x0 x1 x2 x3 x4 x5 x6 x7 hx0 hx1 hx2 hx3 hx4 hx5 hx6 hx7 _ _ A (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.1

theorem outC_9 : out0_C_9 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 2048 512 (addN (DZ Q D K V O G L) Q (i 1).val ((i 1).val + 1) 0 A) := by
  unfold out0_C_9
  rw [runC_dk, read_whole, ← addN_next]
  unfold k0_pay1
  rw [View.readAt_full]
  exact dkL3_read Q D K V O G L i a2 u2 a3 u3 a4 u4 a5 u5 a6 u6 a7 u7 a8 u8 a9 u9 a14 x0 x1 x2 x3 x4 x5 x6 x7 hx0 hx1 hx2 hx3 hx4 hx5 hx6 hx7 _ _ A (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.1

theorem soutC_1 : sout0_C_1 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 2048 512 (addN (P Q K G L) D (i 1).val ((i 1).val + 1) 0 B) := by
  unfold sout0_C_1
  rw [runC_dvacc, ← addN_next]
  exact dvL3_read Q D K G L i a2 u2 a3 u3 a5 u5 a7 u7 a8 u8 a9 u9 a15 x0 x1 x3 x5 x6 x7 hx0 hx1 hx3 hx5 hx6 hx7 _ _ B (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.2.1

theorem outC_10 : out0_C_10 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = cv 2048 512 (addN (P Q K G L) D (i 1).val ((i 1).val + 1) 0 B) := by
  unfold out0_C_10
  rw [runC_dv, read_whole, ← addN_next]
  unfold k0_pay2
  rw [View.readAt_full]
  exact dvL3_read Q D K G L i a2 u2 a3 u3 a5 u5 a7 u7 a8 u8 a9 u9 a15 x0 x1 x3 x5 x6 x7 hx0 hx1 hx3 hx5 hx6 hx7 _ _ B (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.2.1

theorem soutC_2 : sout0_C_2 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = c4 (subN (DS Q D K V O G L) (i 1).val C ((i 1).val + 1) 0) := by
  unfold sout0_C_2
  rw [runC_dfacc, ← subN_next]
  exact dfL3_read Q D K V O G L i a2 u2 a3 u3 a4 u4 a5 u5 a6 u6 a7 u7 a8 u8 a9 u9 a16 x0 x1 x2 x3 x4 x5 x6 x7 hx0 hx1 hx2 hx3 hx4 hx5 hx6 hx7 _ _ C (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.2.2

theorem outC_11 : out0_C_11 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7 xs0 xs1 xs2 = c4 (subN (DS Q D K V O G L) (i 1).val C ((i 1).val + 1) 0) := by
  unfold out0_C_11
  rw [runC_df, read_whole4, ← subN_next]
  rw [View.readAt_full]
  exact dfL3_read Q D K V O G L i a2 u2 a3 u3 a4 u4 a5 u5 a6 u6 a7 u7 a8 u8 a9 u9 a16 x0 x1 x2 x3 x4 x5 x6 x7 hx0 hx1 hx2 hx3 hx4 hx5 hx6 hx7 _ _ C (stE_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 xs0 xs1 xs2 A B C hs0 hs1 hs2).2.2.2
end

end Cert.FoxIdeal.Points

end

end
-- ==== Proof.FoxRunA.lean ====
/-
  Case A of the kernel's body, opened.
-/
module

public import proofs.«01_k».proof.Proof.FoxRunDefs
public import proofs.«01_k».proof.Proof.Gen.FoxIdeal.Frame.RunA

@[expose] public section

set_option maxRecDepth 16384
set_option maxHeartbeats 4000000

noncomputable section

namespace Cert.FoxIdeal.Runs

open Cert.FoxIdeal Cert.FoxIdeal.Gen Cert.FoxIdeal.Step Idealize.ShloMosaic Idealize.ShloMosaic.TcCoe Idealize.SL.Sem

variable {F : FTy → Type} [FloatOps F]

variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole) (hc0 : cond0_0 i) (hc1 : ¬cond0_1 i) (x0 : Vec F S256x512 .bf16) (x1 : Vec F S2048x512 .bf16) (x2 : Vec F S2048x512 .bf16) (x3 : Vec F S256x512 .bf16) (x4 : Vec F S256x512 .f32) (x5 : Vec F S4x256x1 .f32) (x6 : Vec F S4x8x1x256 .f32) (x7 : Vec F S4x256x1 .f32)

/-- The state after both loops from accumulators filled with zeros, the fills in the lists of stores. -/
def stA : State F :=
  let h14 : List (View.Piece (Elt F) S2048x512 .f32) := [⟨(Rect.unit (s := S2048x512) ![0, 0] S2048x512.size inb_S2048x512_S2048x512_0_0), k0_pay67⟩]
  let h15 : List (View.Piece (Elt F) S2048x512 .f32) := [⟨(Rect.unit (s := S2048x512) ![0, 0] S2048x512.size inb_S2048x512_S2048x512_0_0), k0_pay68⟩]
  let h16 : List (View.Piece (Elt F) S4x8x1x256 .f32) := [⟨(Rect.unit (s := S4x8x1x256) ![0, 0, 0, 0] S4x8x1x256.size inb_S4x8x1x256_S4x8x1x256_0_0_0_0), k0_pay69⟩]
  let a := st1 c i a2 u2 a3 u3 a4 u4 a5 u5 a6 u6 a7 u7 a8 u8 a9 u9 a10 u10 a11 u11 a12 u12 a13 u13 a14 u14 a15 u15 a16 u16 x0 x1 x2 x3 x4 x5 x6 x7 (a14.view.writes (Elt F) a14.view.junk h14) (a15.view.writes (Elt F) a15.view.junk h15) (a16.view.writes (Elt F) a16.view.junk h16) (Scf.trips (0#32) (Scalar.addi (0#32) (Scalar.muli (Scalar.divsi (Scalar.subi (BitVec.ofNat 32 ↑(i 1)) 0#32) 1#32) 1#32)) 1#32)
  let b := st2 c i a2 u2 a3 u3 a4 u4 a5 u5 a6 u6 a7 u7 a8 u8 a9 u9 a10 u10 a11 u11 a12 u12 a13 u13 a14 u14 a15 u15 a16 u16 x0 x1 x2 x3 x4 x5 x6 x7 (a14.view.writes (Elt F) a14.view.junk (a.2.1 ++ h14)) (a15.view.writes (Elt F) a15.view.junk (a.2.2.1 ++ h15)) (a16.view.writes (Elt F) a16.view.junk (a.2.2.2 ++ h16)) (a.1.1, a.1.2.1, a.1.2.2.1, a.1.2.2.2) (Scf.trips (Scalar.addi (0#32) (Scalar.muli (Scalar.divsi (Scalar.subi (BitVec.ofNat 32 ↑(i 1)) 0#32) 1#32) 1#32)) (Scalar.addi (0#32) (Scalar.subi (BitVec.ofNat 32 ↑(i 1)) 0#32)) 1#32)
  (b.1, b.2.1 ++ (a.2.1 ++ h14), b.2.2.1 ++ (a.2.2.1 ++ h15), b.2.2.2 ++ (a.2.2.2 ++ h16))

theorem runA_dq : (kernelRun0_A c i a2 u2 a3 u3 a4 u4 a5 u5 a6 u6 a7 u7 a8 u8 a9 u9 a10 u10 a11 u11 a12 u12 a13 u13 a14 u14 a15 u15 a16 u16 hc0 hc1 x0 x1 x2 x3 x4 x5 x6 x7 ).1 = dqL i a2 u2 a3 u3 a4 u4 a5 u5 a6 u6 a7 u7 a8 u8 a9 u9 x0 x1 x2 x3 x4 x5 x6 x7 (stA c i a2 u2 a3 u3 a4 u4 a5 u5 a6 u6 a7 u7 a8 u8 a9 u9 a10 u10 a11 u11 a12 u12 a13 u13 a14 u14 a15 u15 a16 u16 x0 x1 x2 x3 x4 x5 x6 x7).1 := by
  unfold kernelRun0_A
  rfl

theorem runA_dkacc : (kernelRun0_A c i a2 u2 a3 u3 a4 u4 a5 u5 a6 u6 a7 u7 a8 u8 a9 u9 a10 u10 a11 u11 a12 u12 a13 u13 a14 u14 a15 u15 a16 u16 hc0 hc1 x0 x1 x2 x3 x4 x5 x6 x7 ).2.2.2.2.1 = (dkL3 i a2 u2 a3 u3 a4 u4 a5 u5 a6 u6 a7 u7 a8 u8 a9 u9 a14 x0 x1 x2 x3 x4 x5 x6 x7 a14.view.junk (stA c i a2 u2 a3 u3 a4 u4 a5 u5 a6 u6 a7 u7 a8 u8 a9 u9 a10 u10 a11 u11 a12 u12 a13 u13 a14 u14 a15 u15 a16 u16 x0 x1 x2 x3 x4 x5 x6 x7).2.1) := by
  unfold kernelRun0_A
  rfl

theorem runA_dvacc : (kernelRun0_A c i a2 u2 a3 u3 a4 u4 a5 u5 a6 u6 a7 u7 a8 u8 a9 u9 a10 u10 a11 u11 a12 u12 a13 u13 a14 u14 a15 u15 a16 u16 hc0 hc1 x0 x1 x2 x3 x4 x5 x6 x7 ).2.2.2.2.2.1 = (dvL3 i a2 u2 a3 u3 a5 u5 a7 u7 a8 u8 a9 u9 a15 x0 x1 x3 x5 x6 x7 a15.view.junk (stA c i a2 u2 a3 u3 a4 u4 a5 u5 a6 u6 a7 u7 a8 u8 a9 u9 a10 u10 a11 u11 a12 u12 a13 u13 a14 u14 a15 u15 a16 u16 x0 x1 x2 x3 x4 x5 x6 x7).2.2.1) := by
  unfold kernelRun0_A
  rfl

theorem runA_dfacc : (kernelRun0_A c i a2 u2 a3 u3 a4 u4 a5 u5 a6 u6 a7 u7 a8 u8 a9 u9 a10 u10 a11 u11 a12 u12 a13 u13 a14 u14 a15 u15 a16 u16 hc0 hc1 x0 x1 x2 x3 x4 x5 x6 x7 ).2.2.2.2.2.2.1 = (dfL3 i a2 u2 a3 u3 a4 u4 a5 u5 a6 u6 a7 u7 a8 u8 a9 u9 a16 x0 x1 x2 x3 x4 x5 x6 x7 a16.view.junk (stA c i a2 u2 a3 u3 a4 u4 a5 u5 a6 u6 a7 u7 a8 u8 a9 u9 a10 u10 a11 u11 a12 u12 a13 u13 a14 u14 a15 u15 a16 u16 x0 x1 x2 x3 x4 x5 x6 x7).2.2.2) := by
  unfold kernelRun0_A
  rfl

end Cert.FoxIdeal.Runs

end

end
-- ==== Proof.FoxPointsA.lean ====
/-
  What the first grid point of a head group leaves in dq's block and in the accumulators.
-/
module

public import proofs.«01_k».proof.Proof.FoxPoints
public import proofs.«01_k».proof.Proof.FoxRunA

@[expose] public section

set_option maxRecDepth 16384

noncomputable section

namespace Cert.FoxIdeal.Points

open Cert.FoxIdeal Cert.FoxIdeal.Gen Cert.FoxIdeal.Step Cert.FoxIdeal.Block Cert.FoxIdeal.Mem Cert.FoxIdeal.Loop Cert.FoxIdeal.Runs Cert.FoxIdeal.Diag Idealize.ShloMosaic Idealize.ShloMosaic.TcCoe Idealize.SL.Sem
open Cert.KernelIdeal.Block (cv cv_congr ofBits_zero)
open Cert.KernelIdeal.Model (hd rows)
open Cert.KernelIdeal.Acc (addN addN_zero addN_next blockN)
open Idealize.ShloMosaic.ValueIdx hiding ix2 eq_ix2 ix1 eq_ix1 ix0 eq_ix0
open scoped BigOperators

theorem fill14 : (k0_pay67 (F := Ideal)) = cv 2048 512 fun _ _ => 0 := by
  unfold k0_pay67; funext j; exact ofBits_zero
theorem fill15 : (k0_pay68 (F := Ideal)) = cv 2048 512 fun _ _ => 0 := by
  unfold k0_pay68; funext j; exact ofBits_zero
theorem fill16 : (k0_pay69 (F := Ideal)) = c4 fun _ _ => 0 := by
  unfold k0_pay69; funext j; exact ofBits_zero

variable (Q D K V O G L : ℕ → ℕ → ℝ)
variable (c : Dev nD) (i : grid0.Coords) (a2 : Memref sig .tc .vmem S256x512 .bf16) (u2 : a2.IsWhole) (a3 : Memref sig .tc .vmem S2048x512 .bf16) (u3 : a3.IsWhole) (a4 : Memref sig .tc .vmem S2048x512 .bf16) (u4 : a4.IsWhole) (a5 : Memref sig .tc .vmem S256x512 .bf16) (u5 : a5.IsWhole) (a6 : Memref sig .tc .vmem S256x512 .f32) (u6 : a6.IsWhole) (a7 : Memref sig .tc .vmem S4x256x1 .f32) (u7 : a7.IsWhole) (a8 : Memref sig .tc .vmem S4x8x1x256 .f32) (u8 : a8.IsWhole) (a9 : Memref sig .tc .vmem S4x256x1 .f32) (u9 : a9.IsWhole) (a10 : Memref sig .tc .vmem S256x512 .bf16) (u10 : a10.IsWhole) (a11 : Memref sig .tc .vmem S2048x512 .bf16) (u11 : a11.IsWhole) (a12 : Memref sig .tc .vmem S2048x512 .bf16) (u12 : a12.IsWhole) (a13 : Memref sig .tc .vmem S4x8x1x256 .f32) (u13 : a13.IsWhole) (a14 : Memref sig .tc .vmem S2048x512 .f32) (u14 : a14.IsWhole) (a15 : Memref sig .tc .vmem S2048x512 .f32) (u15 : a15.IsWhole) (a16 : Memref sig .tc .vmem S4x8x1x256 .f32) (u16 : a16.IsWhole) (x0 : Vec Ideal S256x512 .bf16) (x1 : Vec Ideal S2048x512 .bf16) (x2 : Vec Ideal S2048x512 .bf16) (x3 : Vec Ideal S256x512 .bf16) (x4 : Vec Ideal S256x512 .f32) (x5 : Vec Ideal S4x256x1 .f32) (x6 : Vec Ideal S4x8x1x256 .f32) (x7 : Vec Ideal S4x256x1 .f32)
variable (hx0 : x0 = cv 256 512 fun r e => Q (256 * (i 1).val + r) e) (hx1 : x1 = cv 2048 512 K) (hx2 : x2 = cv 2048 512 V) (hx3 : x3 = cv 256 512 fun r e => D (256 * (i 1).val + r) e) (hx4 : x4 = cv 256 512 fun r e => O (256 * (i 1).val + r) e) (hx5 : x5 = fun j => ((G (j 0).val (256 * (i 1).val + (j 1).val) : ℝ) : EReal)) (hx6 : x6 = c4 G) (hx7 : x7 = fun j => ((L (j 0).val (256 * (i 1).val + (j 1).val) : ℝ) : EReal))

section
include hx0 hx1 hx2 hx3 hx4 hx5 hx6 hx7
theorem stA_spec :
    (stA (F := Ideal) c i a2 u2 a3 u3 a4 u4 a5 u5 a6 u6 a7 u7 a8 u8 a9 u9 a10 u10 a11 u11 a12 u12 a13 u13 a14 u14 a15 u15 a16 u16 x0 x1 x2 x3 x4 x5 x6 x7).1 = carry Q D K V O G L (i 1).val (i 1).val
    ∧ a14.view.read (Elt Ideal) (a14.view.writes (Elt Ideal) a14.view.junk (stA (F := Ideal) c i a2 u2 a3 u3 a4 u4 a5 u5 a6 u6 a7 u7 a8 u8 a9 u9 a10 u10 a11 u11 a12 u12 a13 u13 a14 u14 a15 u15 a16 u16 x0 x1 x2 x3 x4 x5 x6 x7).2.1) = cv 2048 512 (addN (DZ Q D K V O G L) Q (i 1).val (i 1).val 0 (fun _ _ => 0))
    ∧ a15.view.read (Elt Ideal) (a15.view.writes (Elt Ideal) a15.view.junk (stA (F := Ideal) c i a2 u2 a3 u3 a4 u4 a5 u5 a6 u6 a7 u7 a8 u8 a9 u9 a10 u10 a11 u11 a12 u12 a13 u13 a14 u14 a15 u15 a16 u16 x0 x1 x2 x3 x4 x5 x6 x7).2.2.1) = cv 2048 512 (addN (P Q K G L) D (i 1).val (i 1).val 0 (fun _ _ => 0))
    ∧ a16.view.read (Elt Ideal) (a16.view.writes (Elt Ideal) a16.view.junk (stA (F := Ideal) c i a2 u2 a3 u3 a4 u4 a5 u5 a6 u6 a7 u7 a8 u8 a9 u9 a10 u10 a11 u11 a12 u12 a13 u13 a14 u14 a15 u15 a16 u16 x0 x1 x2 x3 x4 x5 x6 x7).2.2.2) = c4 (subN (DS Q D K V O G L) (i 1).val (fun _ _ => 0) (i 1).val 0) := by
  have h := st1_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7 (a14.view.writes (Elt Ideal) a14.view.junk _) (a15.view.writes (Elt Ideal) a15.view.junk _) (a16.view.writes (Elt Ideal) a16.view.junk _) (fun _ _ => 0) (fun _ _ => 0) (fun _ _ => 0) ((read_whole _ _ inb_S2048x512_S2048x512_0_0 (k0_pay67 (F := Ideal))).trans fill14) ((read_whole _ _ inb_S2048x512_S2048x512_0_0 (k0_pay68 (F := Ideal))).trans fill15) ((read_whole4 _ _ inb_S4x8x1x256_S4x8x1x256_0_0_0_0 (k0_pay69 (F := Ideal))).trans fill16)
  rw [← View.writes_append, ← View.writes_append, ← View.writes_append] at h
  unfold stA
  rw [trips1, trips2]
  exact h
end

section
variable (hc0 : cond0_0 i) (hc1 : ¬cond0_1 i)
include hx0 hx1 hx2 hx3 hx4 hx5 hx6 hx7

theorem outA_8 : out0_A_8 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7  = cv 256 512 (dqB Q D K V O G L (i 1).val) := by
  unfold out0_A_8
  rw [runA_dq]
  exact dqL_read Q D K V O G L i a2 u2 a3 u3 a4 u4 a5 u5 a6 u6 a7 u7 a8 u8 a9 u9 x0 x1 x2 x3 x4 x5 x6 x7 hx0 hx1 hx2 hx3 hx4 hx5 hx6 hx7 _ (stA_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7).1 _ _

theorem soutA_0 : sout0_A_0 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7  = cv 2048 512 (addN (DZ Q D K V O G L) Q (i 1).val ((i 1).val + 1) 0 (fun _ _ => 0)) := by
  unfold sout0_A_0
  rw [View.read_writes_eq_canon _ _ _ (scover0_A_0 c i a2 u2 a3 u3 a4 u4 a5 u5 a6 u6 a7 u7 a8 u8 a9 u9 a10 u10 a11 u11 a12 u12 a13 u13 a14 u14 a15 u15 a16 u16 hc0 hc1 x0 x1 x2 x3 x4 x5 x6 x7), ← View.read_writes_eq_canon a14.view a14.view.junk _ (scover0_A_0 c i a2 u2 a3 u3 a4 u4 a5 u5 a6 u6 a7 u7 a8 u8 a9 u9 a10 u10 a11 u11 a12 u12 a13 u13 a14 u14 a15 u15 a16 u16 hc0 hc1 x0 x1 x2 x3 x4 x5 x6 x7), runA_dkacc, ← addN_next]
  exact dkL3_read Q D K V O G L i a2 u2 a3 u3 a4 u4 a5 u5 a6 u6 a7 u7 a8 u8 a9 u9 a14 x0 x1 x2 x3 x4 x5 x6 x7 hx0 hx1 hx2 hx3 hx4 hx5 hx6 hx7 _ _ (fun _ _ => 0) (stA_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7).2.1

theorem soutA_1 : sout0_A_1 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7  = cv 2048 512 (addN (P Q K G L) D (i 1).val ((i 1).val + 1) 0 (fun _ _ => 0)) := by
  unfold sout0_A_1
  rw [View.read_writes_eq_canon _ _ _ (scover0_A_1 c i a2 u2 a3 u3 a4 u4 a5 u5 a6 u6 a7 u7 a8 u8 a9 u9 a10 u10 a11 u11 a12 u12 a13 u13 a14 u14 a15 u15 a16 u16 hc0 hc1 x0 x1 x2 x3 x4 x5 x6 x7), ← View.read_writes_eq_canon a15.view a15.view.junk _ (scover0_A_1 c i a2 u2 a3 u3 a4 u4 a5 u5 a6 u6 a7 u7 a8 u8 a9 u9 a10 u10 a11 u11 a12 u12 a13 u13 a14 u14 a15 u15 a16 u16 hc0 hc1 x0 x1 x2 x3 x4 x5 x6 x7), runA_dvacc, ← addN_next]
  exact dvL3_read Q D K G L i a2 u2 a3 u3 a5 u5 a7 u7 a8 u8 a9 u9 a15 x0 x1 x3 x5 x6 x7 hx0 hx1 hx3 hx5 hx6 hx7 _ _ (fun _ _ => 0) (stA_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7).2.2.1

theorem soutA_2 : sout0_A_2 (F := Ideal) c i a2 u2 a3 u3 a4 u4 a5 u5 a6 u6 a7 u7 a8 u8 a9 u9 a10 u10 a11 u11 a12 u12 a13 u13 a14 u14 a15 u15 a16 u16 hc0 hc1 x0 x1 x2 x3 x4 x5 x6 x7  = c4 (subN (DS Q D K V O G L) (i 1).val (fun _ _ => 0) ((i 1).val + 1) 0) := by
  unfold sout0_A_2
  rw [View.read_writes_eq_canon _ _ _ (scover0_A_2 c i a2 u2 a3 u3 a4 u4 a5 u5 a6 u6 a7 u7 a8 u8 a9 u9 a10 u10 a11 u11 a12 u12 a13 u13 a14 u14 a15 u15 a16 u16 hc0 hc1 x0 x1 x2 x3 x4 x5 x6 x7), ← View.read_writes_eq_canon a16.view a16.view.junk _ (scover0_A_2 c i a2 u2 a3 u3 a4 u4 a5 u5 a6 u6 a7 u7 a8 u8 a9 u9 a10 u10 a11 u11 a12 u12 a13 u13 a14 u14 a15 u15 a16 u16 hc0 hc1 x0 x1 x2 x3 x4 x5 x6 x7), runA_dfacc, ← subN_next]
  exact dfL3_read Q D K V O G L i a2 u2 a3 u3 a4 u4 a5 u5 a6 u6 a7 u7 a8 u8 a9 u9 a16 x0 x1 x2 x3 x4 x5 x6 x7 hx0 hx1 hx2 hx3 hx4 hx5 hx6 hx7 _ _ (fun _ _ => 0) (stA_spec Q D K V O G L c i a2 u2 a3 u3 a4 u4 a5 u5 a6 u6 a7 u7 a8 u8 a9 u9 a10 u10 a11 u11 a12 u12 a13 u13 a14 u14 a15 u15 a16 u16 x0 x1 x2 x3 x4 x5 x6 x7 hx0 hx1 hx2 hx3 hx4 hx5 hx6 hx7).2.2.2
end

end Cert.FoxIdeal.Points

end

end
-- ==== Proof.FoxFold.lean ====
/-
  What every grid point leaves, from the first point on.
-/
module

public import proofs.«01_k».proof.Proof.FoxInputs
public import proofs.«01_k».proof.Proof.FoxPointsA

@[expose] public section

set_option maxRecDepth 16384
set_option maxHeartbeats 1000000

noncomputable section

namespace Cert.FoxIdeal.Fold

open Cert.FoxIdeal Cert.FoxIdeal.Gen Cert.FoxIdeal.Block Cert.FoxIdeal.Mem Cert.FoxIdeal.Diag Cert.FoxIdeal.Inputs Cert.FoxIdeal.Points Idealize.ShloMosaic Idealize.ShloMosaic.TcCoe Idealize.SL.Sem
open Cert.KernelIdeal.Block (cv)
open Cert.KernelIdeal.Inputs (accS accS_zero)
open scoped BigOperators

variable (m : (ℓ : Loc nD τ sig) → Buf (Elt Ideal) ℓ) (c : Dev nD) (X Y O F L : ℕ → ℕ → ℝ)

/-- A head group's weights, gradients of the scores, and gradients of the unscaled scores. -/
def gP (h : ℕ) : ℕ → ℕ → ℕ → ℝ := P (qs X h) (ks X h) (ts F h) (ts L h)
def gS (h : ℕ) : ℕ → ℕ → ℕ → ℝ := DS (qs X h) (qs Y h) (ks X h) (vs X h) (os O h) (ts F h) (ts L h)
def gZ (h : ℕ) : ℕ → ℕ → ℕ → ℝ := DZ (qs X h) (qs Y h) (ks X h) (vs X h) (os O h) (ts F h) (ts L h)

/-- What is accumulated before point `p` of head group `h`. -/
def aK (h p : ℕ) : ℕ → ℕ → ℝ := accS (gZ X Y O F L h) (qs X h) p
def aV (h p : ℕ) : ℕ → ℕ → ℝ := accS (gP X F L h) (qs Y h) p
def aF (h p : ℕ) : ℕ → ℕ → ℝ := colS (gS X Y O F L h) p

/-- The blocks of the results and the accumulators. -/
abbrev Blocks : Type := Vec Ideal S256x512 .bf16 × Vec Ideal S2048x512 .bf16 × Vec Ideal S2048x512 .bf16 × Vec Ideal S4x8x1x256 .f32 × Vec Ideal S2048x512 .f32 × Vec Ideal S2048x512 .f32 × Vec Ideal S4x8x1x256 .f32

/-- The blocks after point `n`. -/
def After (n : ℕ) (o : Blocks) : Prop :=
  o.1 = cv 256 512 (dqB (qs X (n / 8)) (qs Y (n / 8)) (ks X (n / 8)) (vs X (n / 8)) (os O (n / 8)) (ts F (n / 8)) (ts L (n / 8)) (n % 8))
  ∧ o.2.2.2.2.1 = cv 2048 512 (aK X Y O F L (n / 8) (n % 8 + 1)) ∧ o.2.2.2.2.2.1 = cv 2048 512 (aV X Y F L (n / 8) (n % 8 + 1)) ∧ o.2.2.2.2.2.2 = c4 (aF X Y O F L (n / 8) (n % 8 + 1))
  ∧ (n % 8 = 7 → o.2.1 = cv 2048 512 (aK X Y O F L (n / 8) (n % 8 + 1)) ∧ o.2.2.1 = cv 2048 512 (aV X Y F L (n / 8) (n % 8 + 1)) ∧ o.2.2.2.1 = c4 (aF X Y O F L (n / 8) (n % 8 + 1)))

section
variable {X Y O F L}
theorem After.of {n : ℕ} {o : Blocks} {a : Vec Ideal S256x512 .bf16} {b d : Vec Ideal S2048x512 .bf16} {e : Vec Ideal S4x8x1x256 .f32} {f g : Vec Ideal S2048x512 .f32} {k : Vec Ideal S4x8x1x256 .f32} (h : o = (a, b, d, e, f, g, k))
    (ha : a = cv 256 512 (dqB (qs X (n / 8)) (qs Y (n / 8)) (ks X (n / 8)) (vs X (n / 8)) (os O (n / 8)) (ts F (n / 8)) (ts L (n / 8)) (n % 8)))
    (hf : f = cv 2048 512 (aK X Y O F L (n / 8) (n % 8 + 1))) (hg : g = cv 2048 512 (aV X Y F L (n / 8) (n % 8 + 1))) (hk : k = c4 (aF X Y O F L (n / 8) (n % 8 + 1)))
    (hl : n % 8 = 7 → b = cv 2048 512 (aK X Y O F L (n / 8) (n % 8 + 1)) ∧ d = cv 2048 512 (aV X Y F L (n / 8) (n % 8 + 1)) ∧ e = c4 (aF X Y O F L (n / 8) (n % 8 + 1))) : After X Y O F L n o := by
  rw [h]; exact ⟨ha, hf, hg, hk, hl⟩

theorem stepK {h p q : ℕ} (e : p = q) : cv 2048 512 (Cert.KernelIdeal.Acc.addN (gZ X Y O F L h) (qs X h) p (p + 1) 0 (aK X Y O F L h q)) = cv 2048 512 (aK X Y O F L h (q + 1)) := by
  subst e; exact congrArg (cv 2048 512) (accS_next _ _ (fun n t s h => DZ_of_not _ _ _ _ _ _ _ n h) _)
theorem stepV {h p q : ℕ} (e : p = q) : cv 2048 512 (Cert.KernelIdeal.Acc.addN (gP X F L h) (qs Y h) p (p + 1) 0 (aV X Y F L h q)) = cv 2048 512 (aV X Y F L h (q + 1)) := by
  subst e; exact congrArg (cv 2048 512) (accS_next _ _ (fun n t s h => P_of_not _ _ _ _ n h) _)
theorem stepF {h p q : ℕ} (e : p = q) : c4 (subN (gS X Y O F L h) p (aF X Y O F L h q) (p + 1) 0) = c4 (aF X Y O F L h (q + 1)) := by
  subst e; exact congrArg c4 (colS_next _ (fun n t s h => DS_of_not _ _ _ _ _ _ _ n h) _)
theorem zeroK {h q : ℕ} (e : q = 0) : (fun _ _ => 0) = aK X Y O F L h q := by subst e; exact (accS_zero _ _).symm
theorem zeroV {h q : ℕ} (e : q = 0) : (fun _ _ => 0) = aV X Y F L h q := by subst e; exact (accS_zero _ _).symm
theorem zeroF {h q : ℕ} (e : q = 0) : (fun _ _ => 0) = aF X Y O F L h q := by subst e; exact (colS_zero _).symm
end

section
variable (h0 : V m c main_arg0 = cv 2048 6144 X) (h1 : V m c main_arg1 = cv 2048 2048 Y) (h4 : V m c main_v80 = cv 2048 1024 O)
  (h5 : V m c main_v81 = fun j => ((F (j 0).val (j 1).val : ℝ) : EReal)) (h6 : V m c main_v82 = fun j => ((F (j 0).val (256 * (j 1).val + (j 3).val) : ℝ) : EReal)) (h7 : V m c main_v38 = fun j => ((L (j 0).val (j 1).val : ℝ) : EReal))
include h0 h1 h4 h5 h6 h7

theorem afterA (t : Fin cfg0.N) (g0 : t.val % 8 = 0) (g1 : ¬t.val % 8 = 7) : After X Y O F L t.val (outsAt0 m c t.val t.isLt) := by
  exact After.of (outsAt0_A m c t g0 g1)
    (((outA_8 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) ((hcond0_0 t).mpr g0) (fun h => g1 ((hcond0_1 t).mp h)))).trans (by rw [coord1]))
    (((soutA_0 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) ((hcond0_0 t).mpr g0) (fun h => g1 ((hcond0_1 t).mp h)))).trans ((congrArg (fun z => cv 2048 512 (Cert.KernelIdeal.Acc.addN (gZ X Y O F L (t.val / 8)) (qs X (t.val / 8)) _ (_ + 1) 0 z)) (zeroK g0)).trans (stepK (coord1 t))))
    (((soutA_1 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) ((hcond0_0 t).mpr g0) (fun h => g1 ((hcond0_1 t).mp h)))).trans ((congrArg (fun z => cv 2048 512 (Cert.KernelIdeal.Acc.addN (gP X F L (t.val / 8)) (qs Y (t.val / 8)) _ (_ + 1) 0 z)) (zeroV g0)).trans (stepV (coord1 t))))
    (((soutA_2 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) ((hcond0_0 t).mpr g0) (fun h => g1 ((hcond0_1 t).mp h)))).trans ((congrArg (fun z => c4 (subN (gS X Y O F L (t.val / 8)) _ z (_ + 1) 0)) (zeroF g0)).trans (stepF (coord1 t))))
    (fun h => absurd h g1)

theorem afterB (t : Fin cfg0.N) (g0 : ¬t.val % 8 = 0) (g1 : ¬t.val % 8 = 7) (hp : After X Y O F L (t.val - 1) (outsAt0 m c (t.val - 1) (Nat.lt_of_le_of_lt (Nat.sub_le _ _) t.isLt))) : After X Y O F L t.val (outsAt0 m c t.val t.isLt) := by
  obtain ⟨_, ha, hb, hc, _⟩ := hp
  rw [show (t.val - 1) / 8 = t.val / 8 from by omega, show (t.val - 1) % 8 + 1 = t.val % 8 from by omega] at ha hb hc
  exact After.of (outsAt0_B m c t g0 g1)
    (((outB_8 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) (fun h => g1 ((hcond0_1 t).mp h)) _ _ _ _ _ _ ha hb hc)).trans (by rw [coord1]))
    (((soutB_0 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) (fun h => g1 ((hcond0_1 t).mp h)) _ _ _ _ _ _ ha hb hc)).trans (stepK (coord1 t)))
    (((soutB_1 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) (fun h => g1 ((hcond0_1 t).mp h)) _ _ _ _ _ _ ha hb hc)).trans (stepV (coord1 t)))
    (((soutB_2 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) (fun h => g1 ((hcond0_1 t).mp h)) _ _ _ _ _ _ ha hb hc)).trans (stepF (coord1 t)))
    (fun h => absurd h g1)

theorem afterC (t : Fin cfg0.N) (g0 : ¬t.val % 8 = 0) (g1 : t.val % 8 = 7) (hp : After X Y O F L (t.val - 1) (outsAt0 m c (t.val - 1) (Nat.lt_of_le_of_lt (Nat.sub_le _ _) t.isLt))) : After X Y O F L t.val (outsAt0 m c t.val t.isLt) := by
  obtain ⟨_, ha, hb, hc, _⟩ := hp
  rw [show (t.val - 1) / 8 = t.val / 8 from by omega, show (t.val - 1) % 8 + 1 = t.val % 8 from by omega] at ha hb hc
  exact After.of (outsAt0_C m c t g0 g1)
    (((outC_8 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) ((hcond0_1 t).mpr g1) _ _ _ _ _ _ ha hb hc)).trans (by rw [coord1]))
    (((soutC_0 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) ((hcond0_1 t).mpr g1) _ _ _ _ _ _ ha hb hc)).trans (stepK (coord1 t)))
    (((soutC_1 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) ((hcond0_1 t).mpr g1) _ _ _ _ _ _ ha hb hc)).trans (stepV (coord1 t)))
    (((soutC_2 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) ((hcond0_1 t).mpr g1) _ _ _ _ _ _ ha hb hc)).trans (stepF (coord1 t)))
    (fun _ => ⟨(((outC_9 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) ((hcond0_1 t).mpr g1) _ _ _ _ _ _ ha hb hc)).trans (stepK (coord1 t))), (((outC_10 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) ((hcond0_1 t).mpr g1) _ _ _ _ _ _ ha hb hc)).trans (stepV (coord1 t))), (((outC_11 (qs X (t.val / 8)) (qs Y (t.val / 8)) (ks X (t.val / 8)) (vs X (t.val / 8)) (os O (t.val / 8)) (ts F (t.val / 8)) (ts L (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blk0 m c X h0 t) (blk1 m c X h0 t) (blk2 m c X h0 t) (blk3 m c Y h1 t) (blk4 m c O h4 t) (blk5 m c F h5 t) (blk6 m c F h6 t) (blk7 m c L h7 t) (fun h => g0 ((hcond0_0 t).mp h)) ((hcond0_1 t).mpr g1) _ _ _ _ _ _ ha hb hc)).trans (stepF (coord1 t)))⟩)

theorem after_all : ∀ (n : ℕ) (hn : n < cfg0.N), After X Y O F L n (outsAt0 m c n hn)
  | 0, hn => afterA m c X Y O F L h0 h1 h4 h5 h6 h7 ⟨0, hn⟩ rfl (by show ¬0 % 8 = 7; decide)
  | n + 1, hn => by
    have ih := after_all n (Nat.lt_of_succ_lt hn)
    by_cases g0 : (n + 1) % 8 = 0
    · exact afterA m c X Y O F L h0 h1 h4 h5 h6 h7 ⟨n + 1, hn⟩ g0 (by show ¬(n + 1) % 8 = 7; omega)
    · by_cases g1 : (n + 1) % 8 = 7
      · exact afterC m c X Y O F L h0 h1 h4 h5 h6 h7 ⟨n + 1, hn⟩ g0 g1 ih
      · exact afterB m c X Y O F L h0 h1 h4 h5 h6 h7 ⟨n + 1, hn⟩ g0 g1 ih

end

end Cert.FoxIdeal.Fold

end

end
-- ==== Proof.FoxOut.lean ====
/-
  The kernel's four results as whole arrays: the gradients with respect to the queries, the keys, the values and the
  forget sums.
-/
module

public import proofs.«01_k».proof.Proof.FoxFold
public import proofs.«01_k».proof.Proof.Gen.FoxIdeal.Value

@[expose] public section

set_option maxRecDepth 16384

noncomputable section

namespace Cert.FoxIdeal.KernelOut

open Cert.FoxIdeal Cert.FoxIdeal.Gen Cert.FoxIdeal.Block Cert.FoxIdeal.Mem Cert.FoxIdeal.Diag Cert.FoxIdeal.Inputs Cert.FoxIdeal.Points Cert.FoxIdeal.Fold Cert.FoxIdeal.Value Idealize.ShloMosaic Idealize.ShloMosaic.TcCoe Idealize.SL.Sem
open Cert.KernelIdeal.Block (cv)
open Cert.KernelIdeal.Inputs (accS accS_zero)
open scoped BigOperators
open Cert.KernelIdeal.Model (hd)

theorem hd_qs (X : ℕ → ℕ → ℝ) (h n : ℕ) : hd (qs X h) n = hd (qs X 0) (4 * h + n) := by
  funext t e; unfold hd qs; exact congrArg (X t) (by omega)
theorem hd_ks (X : ℕ → ℕ → ℝ) (h n : ℕ) : hd (ks X h) n = hd (ks X 0) (4 * h + n) := by
  funext t e; unfold hd ks; exact congrArg (X t) (by omega)
theorem hd_vs (X : ℕ → ℕ → ℝ) (h n : ℕ) : hd (vs X h) n = hd (vs X 0) (4 * h + n) := by
  funext t e; unfold hd vs; exact congrArg (X t) (by omega)
theorem hd_os (X : ℕ → ℕ → ℝ) (h n : ℕ) : hd (os X h) n = hd X (4 * h + n) := by
  funext t e; unfold hd os; exact congrArg (X t) (by omega)

section
variable (X Y O F L : ℕ → ℕ → ℝ)

theorem P_grp (h n : ℕ) : gP X F L h n = WA X F L (4 * h + n) := by
  funext t s
  unfold gP WA P
  rw [hd_qs X h n, hd_ks X h n]
  rfl
theorem S_grp (h n : ℕ) : gS X Y O F L h n = SA X Y O F L (4 * h + n) := by
  funext t s
  have e := congrFun (congrFun (P_grp X F L h n) t) s
  unfold gP WA at e
  unfold gS SA DS dlt
  rw [e, hd_qs Y h n, hd_vs X h n, hd_os O h n]
theorem Z_grp (h n : ℕ) : gZ X Y O F L h n = ZA X Y O F L (4 * h + n) := by
  funext t s
  unfold ZA
  rw [← S_grp]
  rfl

theorem dqB_eq (h p r e : ℕ) (hp : p < 8) (hr : r < 256) :
    dqB (qs X h) (qs Y h) (ks X h) (vs X h) (os O h) (ts F h) (ts L h) p r e = dQ X Y O F L (256 * p + r) (512 * h + e) := by
  have g : ∀ n, DZ (qs X h) (qs Y h) (ks X h) (vs X h) (os O h) (ts F h) (ts L h) n = ZA X Y O F L (4 * h + n) := Z_grp X Y O F L h
  unfold dqB dQ
  have e1 : (512 * h + e) / 128 = 4 * h + e / 128 := by omega
  rw [g, e1]
  rw [show 2048 = 256 * (p + 1) + (2048 - 256 * (p + 1)) by omega, Finset.sum_range_add _ (256 * (p + 1)) (2048 - 256 * (p + 1))]
  rw [Finset.sum_eq_zero (s := Finset.range (2048 - 256 * (p + 1))) fun s _ => by
    unfold ZA SA; rw [DS_of_not _ _ _ _ _ _ _ _ (by omega), zero_mul, zero_mul], add_zero]
  exact Finset.sum_congr rfl fun s _ => congrArg (_ * ·) (congrArg (X s) (by omega))

theorem aK_eq (h s e : ℕ) : aK X Y O F L h 8 s e = dK X Y O F L s (512 * h + e) := by
  unfold aK accS dK
  have e1 : (512 * h + e) / 128 = 4 * h + e / 128 := by omega
  rw [Z_grp, e1]
  exact Finset.sum_congr rfl fun s _ => congrArg (_ * ·) (congrArg (X s) (by omega))
theorem aV_eq (h s e : ℕ) : aV X Y F L h 8 s e = dV X Y F L s (512 * h + e) := by
  unfold aV accS dV
  have e1 : (512 * h + e) / 128 = 4 * h + e / 128 := by omega
  rw [P_grp, e1]
  exact Finset.sum_congr rfl fun s _ => congrArg (_ * ·) (congrArg (Y s) (by omega))
theorem aF_eq (h n s : ℕ) : aF X Y O F L h 8 n s = dF X Y O F L (4 * h + n) s := by
  unfold aF colS dF
  rw [S_grp]
end

variable (m : (ℓ : Loc nD τ sig) → Buf (Elt Ideal) ℓ) (c : Dev nD) (X Y O F L : ℕ → ℕ → ℝ)
  (h0 : V m c main_arg0 = cv 2048 6144 X) (h1 : V m c main_arg1 = cv 2048 2048 Y) (h4 : V m c main_v80 = cv 2048 1024 O)
  (h5 : V m c main_v81 = fun j => ((F (j 0).val (j 1).val : ℝ) : EReal)) (h6 : V m c main_v82 = fun j => ((F (j 0).val (256 * (j 1).val + (j 3).val) : ℝ) : EReal)) (h7 : V m c main_v38 = fun j => ((L (j 0).val (j 1).val : ℝ) : EReal))
include h0 h1 h4 h5 h6 h7

theorem G8_eq : G8 m c = cv 2048 1024 (dQ X Y O F L) := by
  funext i
  have i0 : (i 0).val < 2048 := ValueIdx.idx2_lt0 i
  have i1 : (i 1).val < 1024 := ValueIdx.idx2_lt1 i
  have hp : pt8Of i = (i 0).val / 256 + 8 * ((i 1).val / 512) := by show 1 * ((i 0).val / 256 - 0) + 8 * ((i 1).val / 512 - 0) = _; omega
  have hN : pt8Of i < cfg0.N := by rw [hp, show cfg0.N = 16 from N_0]; omega
  have a := (after_all m c X Y O F L h0 h1 h4 h5 h6 h7 (pt8Of i) hN).1
  rw [outsAt0_sweep] at a
  unfold G8
  rw [dif_pos hN]
  refine (congrFun a (loc8Of i)).trans ?_
  show ((dqB _ _ _ _ _ _ _ (pt8Of i % 8) ((i 0).val % 256) ((i 1).val % 512) : ℝ) : EReal) = _
  rw [dqB_eq _ _ _ _ _ _ _ _ _ (by omega) (by omega)]
  exact congrArg (fun x : ℝ => (x : EReal)) (congrArg₂ (dQ X Y O F L) (by omega) (by omega))

theorem G9_eq : G9 m c = cv 2048 1024 (dK X Y O F L) := by
  funext i
  have i0 : (i 0).val < 2048 := ValueIdx.idx2_lt0 i
  have i1 : (i 1).val < 1024 := ValueIdx.idx2_lt1 i
  have hp : pt9Of i = 8 * ((i 1).val / 512) + 7 := by show 8 * (2 * ((i 0).val / 2048 - 0) + 1 * ((i 1).val / 512 - 0)) + 7 = _; omega
  have hN : pt9Of i < cfg0.N := by rw [hp, show cfg0.N = 16 from N_0]; omega
  have h7' : pt9Of i % 8 = 7 := by omega
  have a := ((after_all m c X Y O F L h0 h1 h4 h5 h6 h7 (pt9Of i) hN).2.2.2.2 h7').1
  rw [outsAt0_sweep, h7'] at a
  unfold G9
  rw [dif_pos hN]
  refine (congrFun a (loc9Of i)).trans ?_
  show ((aK X Y O F L _ 8 ((i 0).val % 2048) ((i 1).val % 512) : ℝ) : EReal) = _
  rw [aK_eq]
  exact congrArg (fun x : ℝ => (x : EReal)) (congrArg₂ (dK X Y O F L) (by omega) (by omega))

theorem G10_eq : G10 m c = cv 2048 1024 (dV X Y F L) := by
  funext i
  have i0 : (i 0).val < 2048 := ValueIdx.idx2_lt0 i
  have i1 : (i 1).val < 1024 := ValueIdx.idx2_lt1 i
  have hp : pt10Of i = 8 * ((i 1).val / 512) + 7 := by show 8 * (2 * ((i 0).val / 2048 - 0) + 1 * ((i 1).val / 512 - 0)) + 7 = _; omega
  have hN : pt10Of i < cfg0.N := by rw [hp, show cfg0.N = 16 from N_0]; omega
  have h7' : pt10Of i % 8 = 7 := by omega
  have a := ((after_all m c X Y O F L h0 h1 h4 h5 h6 h7 (pt10Of i) hN).2.2.2.2 h7').2.1
  rw [outsAt0_sweep, h7'] at a
  unfold G10
  rw [dif_pos hN]
  refine (congrFun a (loc10Of i)).trans ?_
  show ((aV X Y F L _ 8 ((i 0).val % 2048) ((i 1).val % 512) : ℝ) : EReal) = _
  rw [aV_eq]
  exact congrArg (fun x : ℝ => (x : EReal)) (congrArg₂ (dV X Y F L) (by omega) (by omega))

theorem G11_eq : G11 m c = fun j => ((dF X Y O F L (j 0).val (256 * (j 1).val + (j 3).val) : ℝ) : EReal) := by
  funext i
  have i0 : (i 0).val < 8 := (i 0).isLt
  have i1 : (i 1).val < 8 := (i 1).isLt
  have i2 : (i 2).val < 1 := (i 2).isLt
  have i3 : (i 3).val < 256 := (i 3).isLt
  have hp : pt11Of i = 8 * ((i 0).val / 4) + 7 := by show 8 * (1 * ((i 0).val / 4 - 0) + 1 * ((i 1).val / 8 - 0) + 1 * ((i 2).val / 1 - 0) + 1 * ((i 3).val / 256 - 0)) + 7 = _; omega
  have hN : pt11Of i < cfg0.N := by rw [hp, show cfg0.N = 16 from N_0]; omega
  have h7' : pt11Of i % 8 = 7 := by omega
  have a := ((after_all m c X Y O F L h0 h1 h4 h5 h6 h7 (pt11Of i) hN).2.2.2.2 h7').2.2
  rw [outsAt0_sweep, h7'] at a
  unfold G11
  rw [dif_pos hN]
  refine (congrFun a (loc11Of i)).trans ?_
  show ((aF X Y O F L _ 8 ((i 0).val % 4) (256 * ((i 1).val % 8) + (i 3).val % 256) : ℝ) : EReal) = _
  rw [aF_eq]
  exact congrArg (fun x : ℝ => (x : EReal)) (congrArg₂ (dF X Y O F L) (by omega) (by omega))

end Cert.FoxIdeal.KernelOut

end

end
-- ==== Proof.FoxRef.lean ====
/-
  The values of attention with forget gates and of its gradients over the reals, one operation after another.
-/
module

public import proofs.«01_k».proof.Proof.FoxModel
public import proofs.«01_k».proof.Proof.RefLib
public import proofs.«01_k».proof.Proof.Gen.FoxRefIdeal.Read

@[expose] public section

set_option maxRecDepth 16384

noncomputable section

namespace Cert.FoxRefVal

open Cert.FoxRefIdeal Cert.FoxRefIdeal.Gen Cert.FoxRefIdeal.Read Cert.KernelIdeal.Block Cert.KernelIdeal.Model Cert.FoxIdeal.Inputs Cert.FoxIdeal.KernelOut Cert.RefLib Idealize.ShloMosaic
open scoped BigOperators

variable (X Y F : ℕ → ℕ → ℝ)

/-! The scores, their greatest per query, and the softmax, as reals. -/

/-- The scores with the gates' sums. -/
def lg (n t s : ℕ) : ℝ := bz (hd (qs X 0) n) (hd (ks X 0) n) t s + (F n t - F n s)
/-- The masked scores. -/
def lm (n t s : ℕ) : EReal := if s ≤ t then ((lg X F n t s : ℝ) : EReal) else ⊥
/-- A query's greatest score. -/
def mx (n t : ℕ) : ℝ := ((Finset.univ : Finset (Fin 2048)).sup fun k => lm X F n t k.val).toReal
/-- The exponentials, their sums, and the logarithms of the sums of the scores' exponentials. -/
def ex (n t s : ℕ) : ℝ := if s ≤ t then Real.exp (lg X F n t s - mx X F n t) else 0
def sm (n t : ℕ) : ℝ := ∑ s ∈ Finset.range 2048, ex X F n t s
def lse (n t : ℕ) : ℝ := mx X F n t + Real.log (sm X F n t)
/-- The softmax, and attention's output. -/
abbrev W : ℕ → ℕ → ℕ → ℝ := WA X F (lse X F)
def oA (t j : ℕ) : ℝ := ∑ s ∈ Finset.range 2048, W X F (j / 128) t s * X s (5120 + j)
/-- The products of the output's gradients with the values. -/
def dp (n t s : ℕ) : ℝ := ∑ j ∈ Finset.range 128, hd (qs Y 0) n t j * hd (vs X 0) n s j
/-- The scores' gradients. -/
abbrev S : ℕ → ℕ → ℕ → ℝ := SA X Y (oA X F) F (lse X F)

theorem mx_eq {n t : ℕ} (ht : t < 2048) : ((Finset.univ : Finset (Fin 2048)).sup fun k => lm X F n t k.val) = ((mx X F n t : ℝ) : EReal) := by
  refine (EReal.coe_toReal ?_ ?_).symm
  · refine ((Finset.sup_lt_iff bot_lt_top).mpr fun k _ => ?_).ne
    unfold lm
    split
    · exact EReal.coe_lt_top _
    · exact bot_lt_top
  · refine (lt_of_lt_of_le ?_ (Finset.le_sup (f := fun k : Fin 2048 => lm X F n t k.val) (Finset.mem_univ ⟨t, ht⟩))).ne'
    show ⊥ < lm X F n t t
    unfold lm
    rw [if_pos le_rfl]
    exact EReal.bot_lt_coe _

theorem ex_nonneg (n t s : ℕ) : 0 ≤ ex X F n t s := by
  unfold ex; split
  · exact (Real.exp_pos _).le
  · exact le_rfl

theorem sm_pos {n t : ℕ} (ht : t < 2048) : 0 < sm X F n t := by
  refine Finset.sum_pos' (fun s _ => ex_nonneg X F n t s) ⟨t, Finset.mem_range.mpr ht, ?_⟩
  unfold ex; rw [if_pos le_rfl]; exact Real.exp_pos _

theorem W_eq {n t : ℕ} (s : ℕ) (ht : t < 2048) : W X F n t s = ex X F n t s / sm X F n t := by
  have hs := sm_pos X F (n := n) ht
  unfold W WA Cert.FoxIdeal.Block.P ex
  split
  · show Real.exp (lg X F n t s - (mx X F n t + Real.log (sm X F n t))) = _
    rw [← sub_sub, Real.exp_sub, Real.exp_log hs]
  · rw [zero_div]

theorem W_sum {n t : ℕ} (ht : t < 2048) : ∑ s ∈ Finset.range 2048, W X F n t s = 1 := by
  rw [Finset.sum_congr rfl fun s _ => W_eq X F s ht, ← Finset.sum_div]
  exact div_self (sm_pos X F ht).ne'

theorem dlt_eq (n t : ℕ) : Cert.FoxIdeal.Block.dlt (qs Y 0) (oA X F) n t = ∑ s ∈ Finset.range 2048, W X F n t s * dp X Y n t s := by
  unfold Cert.FoxIdeal.Block.dlt dp
  simp only [Finset.mul_sum]
  rw [Finset.sum_comm]
  refine Finset.sum_congr rfl fun e he => ?_
  have := Finset.mem_range.mp he
  unfold hd oA
  rw [Finset.mul_sum, show (128 * n + e) / 128 = n by omega]
  refine Finset.sum_congr rfl fun s _ => ?_
  rw [show vs X 0 s (128 * n + e) = X s (5120 + (128 * n + e)) from rfl]
  ring

theorem S_eq {n t : ℕ} (s : ℕ) (ht : t < 2048) :
    (dp X Y n t s / sm X F n t + -∑ j ∈ Finset.range 2048, dp X Y n t j * (1 / (sm X F n t * sm X F n t)) * ex X F n t j) * ex X F n t s = S X Y F n t s := by
  unfold S SA Cert.FoxIdeal.Block.DS
  rw [dlt_eq, show Cert.FoxIdeal.Block.P (qs X 0) (ks X 0) F (lse X F) n t s = W X F n t s from rfl]
  rw [Finset.sum_congr rfl fun j _ => show W X F n t j * dp X Y n t j = (dp X Y n t j * (1 / (sm X F n t * sm X F n t)) * ex X F n t j) * sm X F n t by
    rw [W_eq X F j ht]; have := (sm_pos X F (n := n) ht).ne'; field_simp, ← Finset.sum_mul, W_eq X F s ht]
  have := (sm_pos X F (n := n) ht).ne'
  show _ = ex X F n t s / sm X F n t * (dp X Y n t s - _)
  field_simp
  ring

theorem S_sum {n t : ℕ} (ht : t < 2048) : ∑ s ∈ Finset.range 2048, S X Y F n t s = 0 := by
  rw [Finset.sum_congr rfl fun s _ => show S X Y F n t s = W X F n t s * dp X Y n t s - W X F n t s * Cert.FoxIdeal.Block.dlt (qs Y 0) (oA X F) n t from
    mul_sub _ _ _, Finset.sum_sub_distrib, ← Finset.sum_mul, W_sum X F ht, ← dlt_eq, one_mul, sub_self]

theorem S_of_not {n t s : ℕ} (h : ¬s ≤ t) : S X Y F n t s = 0 := by
  unfold S SA Cert.FoxIdeal.Block.DS Cert.FoxIdeal.Block.P
  rw [if_neg h, zero_mul]

/-! Elements. -/

theorem ofBits_bot : (Ideal.ofBits .f32 0xFF800000#32 : EReal) = ⊥ := by simp [Ideal.ofBits, Ideal.ieee]
theorem ofBits_one : (Ideal.ofBits .f32 0x3F800000#32 : EReal) = ((1 : ℝ) : EReal) := by
  simp [Ideal.ofBits, Ideal.ieee, -EReal.coe_mul]; norm_num
theorem z_add (x : ℝ) : Ideal.ofBits .f32 0x00000000#32 + (x : EReal) = ((x : ℝ) : EReal) := by
  rw [ofBits_zero, ← EReal.coe_add, zero_add]
theorem div_c (x : ℝ) {y : ℝ} (h : y ≠ 0) : Ideal.div (x : EReal) (y : EReal) = ((x / y : ℝ) : EReal) := by
  unfold Ideal.div
  rw [if_neg fun e => h (EReal.coe_eq_zero.mp e), ← EReal.coe_inv, ← EReal.coe_mul, div_eq_mul_inv]

theorem sel_le {t s : ℕ} (ht : t < 2048) (hs : s < 2048) (a b : EReal) :
    Scalar.select (IntOp.cmpi .sle (BitVec.ofNat 32 s) (BitVec.ofNat 32 t)) a b = if s ≤ t then a else b := by
  rw [WordCmp.cmpi_sle_ofNat (by omega) (by omega)]
  by_cases h : s ≤ t
  · simp only [h, decide_true, if_true]; rfl
  · simp only [h, decide_false, if_false]; rfl

theorem exp_lm {n t s : ℕ} : Ideal.exp (lm X F n t s - ((mx X F n t : ℝ) : EReal)) = ((ex X F n t s : ℝ) : EReal) := by
  unfold lm ex
  split
  · exact (congrArg Ideal.exp (EReal.coe_sub _ _).symm).trans (Ideal.exp_coe _)
  · rw [EReal.bot_sub]; rfl

/-- The arguments. -/
abbrev A0 : (⟨S2048x6144, .bf16⟩ : BufTy).Contents (Elt Ideal) := cv 2048 6144 X
abbrev A1 : (⟨S2048x2048, .bf16⟩ : BufTy).Contents (Elt Ideal) := cv 2048 2048 Y
abbrev A2 : (⟨S8x2048, .f32⟩ : BufTy).Contents (Elt Ideal) := cv 8 2048 F

/-! The heads. -/

theorem v5_c : val_main_v5 (F := Ideal) (A0 X) = c3 8 2048 128 (hd (qs X 0)) := by
  funext i
  have h0 : (i 0).val < 8 := (i 0).isLt
  have h1 : (i 1).val < 2048 := (i 1).isLt
  have h2 : (i 2).val < 128 := (i 2).isLt
  rw [val_main_v5_apply, val_main_v4_apply, val_main_v1_apply, val_main_v0_apply]
  show ((X ((((i 1).val * 8 + (i 0).val) * 128 + (i 2).val) / 1024) (1024 + (((i 1).val * 8 + (i 0).val) * 128 + (i 2).val) % 1024) : ℝ) : EReal) = ((X (i 1).val (1024 + 512 * 0 + (128 * (i 0).val + (i 2).val)) : ℝ) : EReal)
  exact congrArg (fun x : ℝ => (x : EReal)) (congrArg₂ X (by omega) (by omega))

theorem v7_c : val_main_v7 (F := Ideal) (A0 X) = c3 8 2048 128 (hd (ks X 0)) := by
  funext i
  have h0 : (i 0).val < 8 := (i 0).isLt
  have h1 : (i 1).val < 2048 := (i 1).isLt
  have h2 : (i 2).val < 128 := (i 2).isLt
  rw [val_main_v7_apply, val_main_v6_apply, val_main_v2_apply, val_main_v0_apply]
  show ((X ((((i 1).val * 8 + (i 0).val) * 128 + (i 2).val) / 1024) (3072 + (((i 1).val * 8 + (i 0).val) * 128 + (i 2).val) % 1024) : ℝ) : EReal) = ((X (i 1).val (3072 + 512 * 0 + (128 * (i 0).val + (i 2).val)) : ℝ) : EReal)
  exact congrArg (fun x : ℝ => (x : EReal)) (congrArg₂ X (by omega) (by omega))

theorem v59_c : val_main_v59 (F := Ideal) (A0 X) = c3 8 2048 128 (hd (vs X 0)) := by
  funext i
  have h0 : (i 0).val < 8 := (i 0).isLt
  have h1 : (i 1).val < 2048 := (i 1).isLt
  have h2 : (i 2).val < 128 := (i 2).isLt
  rw [val_main_v59_apply, val_main_v58_apply, val_main_v3_apply, val_main_v0_apply]
  show ((X ((((i 1).val * 8 + (i 0).val) * 128 + (i 2).val) / 1024) (5120 + (((i 1).val * 8 + (i 0).val) * 128 + (i 2).val) % 1024) : ℝ) : EReal) = ((X (i 1).val (5120 + 512 * 0 + (128 * (i 0).val + (i 2).val)) : ℝ) : EReal)
  exact congrArg (fun x : ℝ => (x : EReal)) (congrArg₂ X (by omega) (by omega))

theorem v66_c : val_main_v66 (F := Ideal) (A1 Y) = c3 8 2048 128 (hd (qs Y 0)) := by
  funext i
  have h0 : (i 0).val < 8 := (i 0).isLt
  have h1 : (i 1).val < 2048 := (i 1).isLt
  have h2 : (i 2).val < 128 := (i 2).isLt
  rw [val_main_v66_apply, val_main_v65_apply, val_main_v64_apply, val_main_v63_apply]
  show ((Y ((((i 1).val * 8 + (i 0).val) * 128 + (i 2).val) / 1024) (1024 + (((i 1).val * 8 + (i 0).val) * 128 + (i 2).val) % 1024) : ℝ) : EReal) = ((Y (i 1).val (1024 + 512 * 0 + (128 * (i 0).val + (i 2).val)) : ℝ) : EReal)
  exact congrArg (fun x : ℝ => (x : EReal)) (congrArg₂ Y (by omega) (by omega))

/-! The scores and the softmax. -/

theorem v8_c : val_main_v8 (F := Ideal) (A0 X) = c3 8 2048 2048 fun n a b => ∑ k ∈ Finset.range 128, hd (qs X 0) n a k * hd (ks X 0) n b k := by
  funext i
  rw [val_main_v8_apply, v5_c, v7_c]
  exact (Finset.sum_congr rfl fun k _ => (EReal.coe_mul _ _).symm).trans (coe_sum_fin fun k => (fun n a b => hd (qs X 0) n a k * hd (ks X 0) n b k) (i 0).val (i 1).val (i 2).val)

theorem v28_c : val_main_v28 (F := Ideal) (A0 X) (A2 F) = c3 8 2048 2048 (lg X F) := by
  funext i
  rw [val_main_v28_apply, val_main_v25_apply, val_main_v10_apply, v8_c, val_main_v9_apply, val_main_cst_apply, val_main_v24_apply, val_main_v23_apply, val_main_v27_apply, val_main_v26_apply]
  show c3 8 2048 2048 _ i * Ideal.ofBits .f32 0x3DB504F3#32 + ((F (i 0).val (i 1).val : ℝ) : EReal) - ((F (i 0).val (i 2).val : ℝ) : EReal) = _
  rw [ofBits_sc, c3, ← EReal.coe_mul, ← EReal.coe_add, ← EReal.coe_sub, add_sub_assoc]
  rfl

theorem v29_1_at (i : S8x2048x2048.Idx) : val_main_v29_1 (F := Ideal) i = IntOp.cmpi .sle (BitVec.ofNat 32 (i 2).val) (BitVec.ofNat 32 (i 1).val) := by
  rw [val_main_v29_1_apply, val_main_v22_apply, val_main_v20_apply, val_main_v18_apply, val_main_v17_apply, val_main_v21_apply, val_main_v19_apply, val_main_v17_apply]

theorem v29_0_c : val_main_v29_0 (F := Ideal) (A0 X) (A2 F) = fun i => lm X F (i 0).val (i 1).val (i 2).val := by
  funext i
  rw [val_main_v29_0_apply, v29_1_at, v28_c, val_main_call0_v2_apply, val_main_call0_v0_apply, val_main_cst_0_apply]
  refine (sel_le (i 1).isLt (i 2).isLt _ _).trans ?_
  show (if (i 2).val ≤ (i 1).val then _ else Ideal.ofBits .f32 0xFF800000#32) = _
  rw [ofBits_bot]
  rfl

theorem red : S8x2048x2048.Reduces [2] S8x2048 := by decide

theorem v30_c : val_main_v30 (F := Ideal) (A0 X) (A2 F) = cv 8 2048 (mx X F) := by
  funext i
  unfold val_main_v30
  rw [v29_0_c]
  refine (Host.reduce_eq_fold_single (FloatOps.maximumf (F := Ideal) (φ := .f32)) _ _ reducesTo_S8x2048x2048_S8x2048_d2 red _ i).trans ?_
  refine Eq.trans ?_ (mx_eq X F (n := (i 0).val) (i 1).isLt)
  rw [val_main_cst_1_apply]
  refine (congrArg (fun b : EReal => (Finset.univ : Finset (Fin 2048)).fold (fun x y : EReal => max x y) b fun k => lm X F (i 0).val (i 1).val k.val) ofBits_bot).trans rfl

theorem v37_c : val_main_v37 (F := Ideal) (A0 X) (A2 F) = cv 8 2048 (mx X F) := by
  funext i
  rw [val_main_v37_apply, val_main_v36_apply, val_main_cst_3_apply, v30_c]
  show max (Ideal.ofBits .f32 0xFF800000#32) _ = _
  rw [ofBits_bot]
  exact max_eq_right bot_le

theorem v50_c : val_main_v50 (F := Ideal) (A0 X) (A2 F) = c3 8 2048 2048 (ex X F) := by
  funext i
  rw [val_main_v50_apply, val_main_v49_apply, v29_0_c, val_main_v48_apply, val_main_v47_apply, v37_c]
  exact exp_lm X F

theorem v51_c : val_main_v51 (F := Ideal) (A0 X) (A2 F) = cv 8 2048 (sm X F) := by
  funext i
  rw [val_main_v51_apply, v50_c, val_main_cst_9_apply]
  exact (congrArg (Ideal.ofBits .f32 0x00000000#32 + ·) (coe_sum_fin fun s => ex X F (i 0).val (i 1).val s)).trans (z_add _)

theorem v54_c : val_main_v54 (F := Ideal) (A0 X) (A2 F) = c3 8 2048 2048 (W X F) := by
  funext i
  rw [val_main_v54_apply, v50_c, val_main_v53_apply, val_main_v52_apply, v51_c]
  exact (div_c _ (sm_pos X F (i 1).isLt).ne').trans (congrArg (fun x : ℝ => (x : EReal)) (W_eq X F _ (i 1).isLt).symm)

theorem v57_at (i : S8x2048x1.Idx) : val_main_v57 (F := Ideal) (A0 X) (A2 F) i = ((1 / (sm X F (i 0).val (i 1).val * sm X F (i 0).val (i 1).val) : ℝ) : EReal) := by
  rw [val_main_v57_apply, val_main_v56_apply, val_main_cst_10_apply, val_main_v55_apply, val_main_v52_apply, v51_c]
  show Ideal.div (Ideal.ofBits .f32 0x3F800000#32) (((sm X F _ _ : ℝ) : EReal) * ((sm X F _ _ : ℝ) : EReal)) = _
  rw [ofBits_one, ← EReal.coe_mul]
  exact div_c _ (mul_pos (sm_pos X F (i 1).isLt) (sm_pos X F (i 1).isLt)).ne'

theorem v60_c : val_main_v60 (F := Ideal) (A0 X) (A2 F) = c3 8 2048 128 fun n a b => ∑ k ∈ Finset.range 2048, W X F n a k * hd (vs X 0) n k b := by
  funext i
  rw [val_main_v60_apply, v54_c, v59_c]
  exact (Finset.sum_congr rfl fun k _ => (EReal.coe_mul _ _).symm).trans (coe_sum_fin fun k => (fun n a b => W X F n a k * hd (vs X 0) n k b) (i 0).val (i 1).val (i 2).val)

theorem v62_c : val_main_v62 (F := Ideal) (A0 X) (A2 F) = cv 2048 1024 (oA X F) := by
  funext i
  have h0 : (i 0).val < 2048 := (i 0).isLt
  have h1 : (i 1).val < 1024 := (i 1).isLt
  rw [val_main_v62_apply, val_main_v61_apply, v60_c]
  refine congrArg (fun x : ℝ => (x : EReal)) (Finset.sum_congr rfl fun s _ => congrArg₂ (· * ·) ?_ ?_)
  · show W X F (((i 0).val * 1024 + (i 1).val) / 128 % 8) (((i 0).val * 1024 + (i 1).val) / 1024) s = W X F ((i 1).val / 128) (i 0).val s
    exact congrArg₂ (fun a b => W X F a b s) (by omega) (by omega)
  · show X s (5120 + 512 * 0 + (128 * (((i 0).val * 1024 + (i 1).val) / 128 % 8) + ((i 0).val * 1024 + (i 1).val) % 128)) = X s (5120 + (i 1).val)
    exact congrArg (X s) (by omega)

/-! The gradients. -/

theorem v67_c : val_main_v67 (F := Ideal) (A0 X) (A1 Y) (A2 F) = c3 8 128 2048 fun n a b => ∑ k ∈ Finset.range 2048, hd (qs Y 0) n k a * W X F n k b := by
  funext i
  rw [val_main_v67_apply, v66_c, v54_c]
  exact (Finset.sum_congr rfl fun k _ => (EReal.coe_mul _ _).symm).trans (coe_sum_fin fun k => (fun n a b => hd (qs Y 0) n k a * W X F n k b) (i 0).val (i 1).val (i 2).val)

theorem v69_c : val_main_v69 (F := Ideal) (A0 X) (A1 Y) = c3 8 2048 2048 (dp X Y) := by
  funext i
  rw [val_main_v69_apply, v66_c, v59_c]
  exact (Finset.sum_congr rfl fun k _ => (EReal.coe_mul _ _).symm).trans (coe_sum_fin fun k => hd (qs Y 0) (i 0).val (i 1).val k * hd (vs X 0) (i 0).val (i 2).val k)

theorem v74_c : val_main_v74 (F := Ideal) (A0 X) (A1 Y) (A2 F) = c3 8 2048 2048 fun n t s => dp X Y n t s * (1 / (sm X F n t * sm X F n t)) * ex X F n t s := by
  funext i
  rw [val_main_v74_apply, val_main_v73_apply, v69_c, val_main_v72_apply, v57_at, v50_c]
  exact (congrArg (· * _) (EReal.coe_mul _ _).symm).trans (EReal.coe_mul _ _).symm

/-- The sums the gradients of the softmax share. -/
def ssum (n t : ℕ) : ℝ := ∑ j ∈ Finset.range 2048, dp X Y n t j * (1 / (sm X F n t * sm X F n t)) * ex X F n t j

theorem v75_c : val_main_v75 (F := Ideal) (A0 X) (A1 Y) (A2 F) = cv 8 2048 (ssum X Y F) := by
  funext i
  rw [val_main_v75_apply, v74_c, val_main_cst_11_apply]
  exact (congrArg (Ideal.ofBits .f32 0x00000000#32 + ·) (coe_sum_fin fun s => dp X Y (i 0).val (i 1).val s * (1 / (sm X F (i 0).val (i 1).val * sm X F (i 0).val (i 1).val)) * ex X F (i 0).val (i 1).val s)).trans (z_add _)

theorem v80_c : val_main_v80 (F := Ideal) (A0 X) (A1 Y) (A2 F) = cv 8 2048 fun n t => -ssum X Y F n t := by
  funext i
  have h0 : (i 0).val < 8 := (i 0).isLt
  have h1 : (i 1).val < 2048 := (i 1).isLt
  rw [val_main_v80_apply, val_main_cst_12_apply, Fin.sum_univ_one, val_main_v77_apply, val_main_v76_apply, v75_c]
  show Ideal.ofBits .f32 0x00000000#32 + -((ssum X Y F ((((i 0).val * 2048 + (i 1).val) * 1 + 0) / 2048) ((((i 0).val * 2048 + (i 1).val) * 1 + 0) % 2048) : ℝ) : EReal) = _
  rw [← EReal.coe_neg, z_add]
  exact congrArg (fun x : ℝ => ((-x : ℝ) : EReal)) (congrArg₂ (ssum X Y F) (by omega) (by omega))

theorem v84_c : val_main_v84 (F := Ideal) (A0 X) (A1 Y) (A2 F) = c3 8 2048 2048 (S X Y F) := by
  funext i
  rw [val_main_v84_apply, v29_1_at, val_main_v83_apply, val_main_v82_apply, val_main_v79_apply, v69_c, val_main_v78_apply, val_main_v52_apply, v51_c, val_main_v81_apply, v80_c, v50_c, val_main_call1_v0_apply, val_main_call1_cst_apply]
  refine (sel_le (i 1).isLt (i 2).isLt _ _).trans ?_
  show (if (i 2).val ≤ (i 1).val then (Ideal.div ((dp X Y (i 0).val (i 1).val (i 2).val : ℝ) : EReal) ((sm X F (i 0).val (i 1).val : ℝ) : EReal) + ((-ssum X Y F (i 0).val (i 1).val : ℝ) : EReal)) * ((ex X F (i 0).val (i 1).val (i 2).val : ℝ) : EReal) else Ideal.ofBits .f32 0x00000000#32) = ((S X Y F (i 0).val (i 1).val (i 2).val : ℝ) : EReal)
  by_cases h : (i 2).val ≤ (i 1).val
  · rw [if_pos h, div_c _ (sm_pos X F (i 1).isLt).ne', ← EReal.coe_add, ← EReal.coe_mul]
    exact congrArg (fun x : ℝ => (x : EReal)) (S_eq X Y F _ (i 1).isLt)
  · rw [if_neg h, ofBits_zero, S_of_not X Y F h]

theorem v88_c : val_main_v88 (F := Ideal) (A0 X) (A1 Y) (A2 F) = cv 8 2048 (dF X Y (oA X F) F (lse X F)) := by
  have e : val_main_v86 (F := Ideal) (A0 X) (A1 Y) (A2 F) = cv 8 2048 fun n s => ∑ t ∈ Finset.range 2048, -S X Y F n t s := by
    funext i
    rw [val_main_v86_apply, val_main_cst_13_apply]
    refine (congrArg (Ideal.ofBits .f32 0x00000000#32 + ·) ((Finset.sum_congr rfl fun k _ => ?_).trans (coe_sum_fin fun t => -S X Y F (i 0).val t (i 1).val))).trans (z_add _)
    rw [val_main_v85_apply, v84_c]
    exact (EReal.coe_neg _).symm
  funext i
  have h0 : (i 0).val < 8 := (i 0).isLt
  have h1 : (i 1).val < 2048 := (i 1).isLt
  rw [val_main_v88_apply, val_main_cst_14_apply, Fin.sum_univ_one, val_main_v87_apply, e]
  refine (z_add _).trans (congrArg (fun x : ℝ => (x : EReal)) ?_)
  unfold dF
  rw [← Finset.sum_neg_distrib]
  refine Finset.sum_congr rfl fun t _ => congrArg (fun x : ℝ => -x) ?_
  show S X Y F ((((i 0).val * 1 + 0) * 2048 + (i 1).val) / 2048) t ((((i 0).val * 1 + 0) * 2048 + (i 1).val) % 2048) = S X Y F (i 0).val t (i 1).val
  exact congrArg₂ (fun a b => S X Y F a t b) (by omega) (by omega)

theorem v91_c : val_main_v91 (F := Ideal) (A0 X) (A1 Y) (A2 F) = cv 8 2048 fun _ _ => 0 := by
  have e : val_main_v89 (F := Ideal) (A0 X) (A1 Y) (A2 F) = cv 8 2048 fun _ _ => 0 := by
    funext i
    rw [val_main_v89_apply, v84_c, val_main_cst_15_apply]
    exact (congrArg (Ideal.ofBits .f32 0x00000000#32 + ·) (coe_sum_fin fun s => S X Y F (i 0).val (i 1).val s)).trans ((z_add _).trans (congrArg (fun x : ℝ => (x : EReal)) (S_sum X Y F (i 1).isLt)))
  funext i
  rw [val_main_v91_apply, val_main_cst_16_apply, Fin.sum_univ_one, val_main_v90_apply, e]
  exact z_add _

theorem v104_c : val_main_v104 (F := Ideal) (A0 X) (A1 Y) (A2 F) = fun j => ((dF X Y (oA X F) F (lse X F) (j 0).val (256 * (j 1).val + (j 3).val) : ℝ) : EReal) := by
  funext i
  have h0 : (i 0).val < 8 := (i 0).isLt
  have h1 : (i 1).val < 8 := (i 1).isLt
  have h2 : (i 2).val < 1 := (i 2).isLt
  have h3 : (i 3).val < 256 := (i 3).isLt
  rw [val_main_v104_apply, val_main_v92_apply, v88_c, v91_c]
  refine (EReal.coe_add _ _).symm.trans (congrArg (fun x : ℝ => (x : EReal)) ((add_zero _).trans ?_))
  show dF X Y (oA X F) F (lse X F) (((((i 0).val * 8 + (i 1).val) * 1 + (i 2).val) * 256 + (i 3).val) / 2048) (((((i 0).val * 8 + (i 1).val) * 1 + (i 2).val) * 256 + (i 3).val) % 2048) = _
  exact congrArg₂ (dF X Y (oA X F) F (lse X F)) (by omega) (by omega)

/-- The unscaled scores' gradients. -/
abbrev Z : ℕ → ℕ → ℕ → ℝ := ZA X Y (oA X F) F (lse X F)

theorem v94_c : val_main_v94 (F := Ideal) (A0 X) (A1 Y) (A2 F) = c3 8 2048 2048 (Z X Y F) := by
  funext i
  rw [val_main_v94_apply, v84_c, val_main_v93_apply, val_main_cst_17_apply]
  show c3 8 2048 2048 _ i * Ideal.ofBits .f32 0x3DB504F3#32 = _
  rw [ofBits_sc]
  exact (EReal.coe_mul _ _).symm

theorem v95_c : val_main_v95 (F := Ideal) (A0 X) (A1 Y) (A2 F) = c3 8 2048 128 fun n a b => ∑ k ∈ Finset.range 2048, Z X Y F n k a * hd (qs X 0) n k b := by
  funext i
  rw [val_main_v95_apply, v94_c, v5_c]
  exact (Finset.sum_congr rfl fun k _ => (EReal.coe_mul _ _).symm).trans (coe_sum_fin fun k => (fun n a b => Z X Y F n k a * hd (qs X 0) n k b) (i 0).val (i 1).val (i 2).val)

theorem v96_c : val_main_v96 (F := Ideal) (A0 X) (A1 Y) (A2 F) = c3 8 2048 128 fun n a b => ∑ k ∈ Finset.range 2048, Z X Y F n a k * hd (ks X 0) n k b := by
  funext i
  rw [val_main_v96_apply, v94_c, v7_c]
  exact (Finset.sum_congr rfl fun k _ => (EReal.coe_mul _ _).symm).trans (coe_sum_fin fun k => (fun n a b => Z X Y F n a k * hd (ks X 0) n k b) (i 0).val (i 1).val (i 2).val)

/-! The results. -/

theorem v101_c : val_main_v101 (F := Ideal) (A0 X) (A1 Y) (A2 F) = cv 2048 1024 (dQ X Y (oA X F) F (lse X F)) := by
  funext i
  have h0 : (i 0).val < 2048 := (i 0).isLt
  have h1 : (i 1).val < 1024 := (i 1).isLt
  rw [val_main_v101_apply, val_main_v100_apply, val_main_v99_apply, v96_c]
  refine congrArg (fun x : ℝ => (x : EReal)) (Finset.sum_congr rfl fun s _ => (congrArg₂ (· * ·) ?_ ?_))
  · exact congrArg₂ (fun a b => Z X Y F a b s) (show ((i 0).val * 1024 + (i 1).val) / 128 % 8 = (i 1).val / 128 by omega) (show ((i 0).val * 1024 + (i 1).val) / 1024 = (i 0).val by omega)
  · show X s (3072 + 512 * 0 + (128 * (((i 0).val * 1024 + (i 1).val) / 128 % 8) + ((i 0).val * 1024 + (i 1).val) % 128)) = X s (3072 + (i 1).val)
    exact congrArg (X s) (by omega)

theorem v102_c : val_main_v102 (F := Ideal) (A0 X) (A1 Y) (A2 F) = cv 2048 1024 (dK X Y (oA X F) F (lse X F)) := by
  funext i
  have h0 : (i 0).val < 2048 := (i 0).isLt
  have h1 : (i 1).val < 1024 := (i 1).isLt
  rw [val_main_v102_apply, val_main_v98_apply, val_main_v97_apply, v95_c]
  refine congrArg (fun x : ℝ => (x : EReal)) (Finset.sum_congr rfl fun s _ => (congrArg₂ (· * ·) ?_ ?_))
  · exact congrArg₂ (fun a b => Z X Y F a s b) (show ((i 0).val * 1024 + (i 1).val) / 128 % 8 = (i 1).val / 128 by omega) (show ((i 0).val * 1024 + (i 1).val) / 1024 = (i 0).val by omega)
  · show X s (1024 + 512 * 0 + (128 * (((i 0).val * 1024 + (i 1).val) / 128 % 8) + ((i 0).val * 1024 + (i 1).val) % 128)) = X s (1024 + (i 1).val)
    exact congrArg (X s) (by omega)

theorem v103_c : val_main_v103 (F := Ideal) (A0 X) (A1 Y) (A2 F) = cv 2048 1024 (dV X Y F (lse X F)) := by
  funext i
  have h0 : (i 0).val < 2048 := (i 0).isLt
  have h1 : (i 1).val < 1024 := (i 1).isLt
  rw [val_main_v103_apply, val_main_v71_apply, val_main_v70_apply, val_main_v68_apply, v67_c]
  refine congrArg (fun x : ℝ => (x : EReal)) (Finset.sum_congr rfl fun s _ => (mul_comm _ _).trans (congrArg₂ (· * ·) ?_ ?_))
  · exact congrArg₂ (fun a b => W X F a s b) (show ((i 0).val * 1024 + (i 1).val) / 128 % 8 = (i 1).val / 128 by omega) (show ((i 0).val * 1024 + (i 1).val) / 1024 = (i 0).val by omega)
  · show Y s (1024 + 512 * 0 + (128 * (((i 0).val * 1024 + (i 1).val) / 128 % 8) + ((i 0).val * 1024 + (i 1).val) % 128)) = Y s (1024 + (i 1).val)
    exact congrArg (Y s) (by omega)

end Cert.FoxRefVal

end

end
-- ==== Proof.FoxHost.lean ====
/-
  What the kernel finds in its inputs: attention's output, the gates' sums, and the logarithms of the sums of the exponentials.
-/
module

public import proofs.«01_k».proof.Proof.FoxRef
public import proofs.«01_k».proof.Proof.Gen.FoxIdeal.Frame

@[expose] public section

set_option maxRecDepth 16384

noncomputable section

namespace Cert.FoxIdeal.Host

open Cert.FoxIdeal Cert.FoxIdeal.Gen Cert.KernelIdeal.Block Cert.FoxRefVal Cert.RefLib Idealize.ShloMosaic Idealize.ShloMosaic.TcCoe Idealize.SL.Sem Idealize.ShloMosaic.StableHlo
open scoped BigOperators

/-- A row's greatest score plus the logarithm of the sum of its exponentials. -/
def lseV (a : FVec Ideal S8x2048 .f32) (b : FVec Ideal S8x2048x2048 .f32) : FVec Ideal S8x2048x1 .f32 :=
  addf (broadcastInDim S8x2048x1 ![0, 1] bcast_S8x2048_S8x2048x1_0_1 a)
    (Host.log (broadcastInDim S8x2048x1 ![0, 1] bcast_S8x2048_S8x2048x1_0_1
      (Host.reduceAdd (F := Ideal) (Host.exp (subf b (broadcastInDim S8x2048x2048 ![0, 1, 2] bcast_S8x2048x1_S8x2048x2048_0_1_2 (broadcastInDim S8x2048x1 ![0, 1] bcast_S8x2048_S8x2048x1_0_1 a))))
        (constant S_ .f32 0x00000000#32) reducesTo_S8x2048x2048_S8x2048_d2 h_S_)))

theorem bc1 (f : ℕ → ℕ → ℝ) : (broadcastInDim S8x2048x1 ![0, 1] bcast_S8x2048_S8x2048x1_0_1 (cv 8 2048 f) : FVec Ideal S8x2048x1 .f32) = fun j => ((f (j 0).val (j 1).val : ℝ) : EReal) := by
  funext j
  exact broadcastInDim_apply _ bcast_S8x2048_S8x2048x1_0_1 (cv 8 2048 f) j (ValueIdx.ix2 ⟨(j 0).val, (j 0).isLt⟩ ⟨(j 1).val, (j 1).isLt⟩) fun a => match a with
    | ⟨0, _⟩ => by show (j 0).val = if (8 : Nat) = 1 then 0 else (j 0).val; rw [if_neg (by decide)]
    | ⟨1, _⟩ => by show (j 1).val = if (2048 : Nat) = 1 then 0 else (j 1).val; rw [if_neg (by decide)]

theorem bc2 (f : ℕ → ℕ → ℝ) : (broadcastInDim S8x2048x2048 ![0, 1, 2] bcast_S8x2048x1_S8x2048x2048_0_1_2 (fun j : S8x2048x1.Idx => ((f (j 0).val (j 1).val : ℝ) : EReal)) : FVec Ideal S8x2048x2048 .f32)
    = fun j => ((f (j 0).val (j 1).val : ℝ) : EReal) := by
  funext j
  exact broadcastInDim_apply _ bcast_S8x2048x1_S8x2048x2048_0_1_2 (fun j : S8x2048x1.Idx => ((f (j 0).val (j 1).val : ℝ) : EReal)) j
    (Fin.cons ⟨(j 0).val, (j 0).isLt⟩ (Fin.cons ⟨(j 1).val, (j 1).isLt⟩ (Fin.cons ⟨0, Nat.one_pos⟩ fun x => x.elim0))) fun a => match a with
    | ⟨0, _⟩ => by show (j 0).val = if (8 : Nat) = 1 then 0 else (j 0).val; rw [if_neg (by decide)]
    | ⟨1, _⟩ => by show (j 1).val = if (2048 : Nat) = 1 then 0 else (j 1).val; rw [if_neg (by decide)]
    | ⟨2, _⟩ => by show 0 = if (1 : Nat) = 1 then 0 else (j 2).val; rw [if_pos rfl]

theorem sum_c (f : ℕ → ℕ → ℕ → ℝ) : (Host.reduceAdd (F := Ideal) (φ := .f32) (c3 8 2048 2048 f) (constant S_ .f32 0x00000000#32) reducesTo_S8x2048x2048_S8x2048_d2 h_S_ : FVec Ideal S8x2048 .f32)
    = cv 8 2048 fun n t => ∑ s ∈ Finset.range 2048, f n t s := by
  funext j
  refine (Ideal.hostReduceAdd_single reducesTo_S8x2048x2048_S8x2048_d2 red _ _ _).trans ?_
  exact (congrArg (Ideal.ofBits .f32 0x00000000#32 + ·) (coe_sum_fin fun s => f (j 0).val (j 1).val s)).trans (z_add _)

theorem lseV_c (X F : ℕ → ℕ → ℝ) : lseV (cv 8 2048 (mx X F)) (fun i => lm X F (i 0).val (i 1).val (i 2).val) = fun j => ((lse X F (j 0).val (j 1).val : ℝ) : EReal) := by
  have e : Host.exp (F := Ideal) (φ := .f32) (subf (fun i : S8x2048x2048.Idx => lm X F (i 0).val (i 1).val (i 2).val) fun i => ((mx X F (i 0).val (i 1).val : ℝ) : EReal)) = c3 8 2048 2048 (ex X F) :=
    funext fun i => exp_lm X F
  unfold lseV
  rw [bc1, bc2, e, sum_c, show (fun n t => ∑ s ∈ Finset.range 2048, ex X F n t s) = sm X F from rfl, bc1]
  funext j
  show ((mx X F (j 0).val (j 1).val : ℝ) : EReal) + Ideal.log ((sm X F (j 0).val (j 1).val : ℝ) : EReal) = _
  rw [Ideal.log_coe, if_neg (not_le.mpr (sm_pos X F (j 1).isLt)), ← EReal.coe_add]
  rfl

variable (m : (ℓ : Loc nD τ sig) → Buf (Elt Ideal) ℓ) (c : Dev nD) (X F : ℕ → ℕ → ℝ)
  (h0 : m ((c : Thread nD τ).loc main_arg0) = cv 2048 6144 X) (h2 : m ((c : Thread nD τ).loc main_arg2) = cv 8 2048 F)

theorem V80 : V m c main_v80 = Cert.FoxRefIdeal.Read.val_main_v62 (F := Ideal) (m ((c : Thread nD τ).loc main_arg0)) (m ((c : Thread nD τ).loc main_arg2)) := by
  unfold_abbrev_sides
  simp only [hostOps0, hostOps0_1, hostOps0_2, hostOps0_3, hostOps0_4, List.flatten_cons, List.flatten_nil, List.append_nil, List.cons_append, List.nil_append]
  after_results
  rfl
theorem V38 : V m c main_v38 = lseV (Cert.FoxRefIdeal.Read.val_main_v30 (F := Ideal) (m ((c : Thread nD τ).loc main_arg0)) (m ((c : Thread nD τ).loc main_arg2)))
    (Cert.FoxRefIdeal.Read.val_main_v29_0 (F := Ideal) (m ((c : Thread nD τ).loc main_arg0)) (m ((c : Thread nD τ).loc main_arg2))) := by
  unfold_abbrev_sides
  simp only [hostOps0, hostOps0_1, hostOps0_2, hostOps0_3, hostOps0_4, List.flatten_cons, List.flatten_nil, List.append_nil, List.cons_append, List.nil_append]
  after_results
  rfl
theorem V81 : V m c main_v81 = broadcastInDim S8x2048x1 ![0, 1] bcast_S8x2048_S8x2048x1_0_1 (m ((c : Thread nD τ).loc main_arg2)) := by
  unfold_abbrev_sides
  simp only [hostOps0, hostOps0_1, hostOps0_2, hostOps0_3, hostOps0_4, List.flatten_cons, List.flatten_nil, List.append_nil, List.cons_append, List.nil_append]
  after_results
theorem V82 : V m c main_v82 = shapeCast S8x8x1x256 (m ((c : Thread nD τ).loc main_arg2)) shapeCasts_S8x2048_S8x8x1x256 := by
  unfold_abbrev_sides
  simp only [hostOps0, hostOps0_1, hostOps0_2, hostOps0_3, hostOps0_4, List.flatten_cons, List.flatten_nil, List.append_nil, List.cons_append, List.nil_append]
  after_results
  rfl

include h2

theorem V81_c : V m c main_v81 = fun j => ((F (j 0).val (j 1).val : ℝ) : EReal) :=
  (V81 m c).trans ((congrArg (fun a => broadcastInDim S8x2048x1 ![0, 1] bcast_S8x2048_S8x2048x1_0_1 a) h2).trans (bc1 F))

theorem V82_c : V m c main_v82 = fun j => ((F (j 0).val (256 * (j 1).val + (j 3).val) : ℝ) : EReal) := by
  refine (V82 m c).trans ((congrArg (fun a => shapeCast S8x8x1x256 a shapeCasts_S8x2048_S8x8x1x256) h2).trans ?_)
  funext j
  have h0 : (j 0).val < 8 := (j 0).isLt
  have h1 : (j 1).val < 8 := (j 1).isLt
  have h2 : (j 2).val < 1 := (j 2).isLt
  have h3 : (j 3).val < 256 := (j 3).isLt
  refine (shapeCast_apply (cv 8 2048 F) _ j (ValueIdx.ix2 ⟨(j 0).val, h0⟩ ⟨256 * (j 1).val + (j 3).val, by omega⟩) ?_).trans rfl
  rw [Shape.rowMajor_val_four, Shape.rowMajor_val_two]
  show (j 0).val * 2048 + (256 * (j 1).val + (j 3).val) = (((j 0).val * 8 + (j 1).val) * 1 + (j 2).val) * 256 + (j 3).val
  omega

include h0

theorem V80_c : V m c main_v80 = cv 2048 1024 (oA X F) :=
  (V80 m c).trans ((congrArg₂ (fun a b => Cert.FoxRefIdeal.Read.val_main_v62 (F := Ideal) a b) h0 h2).trans (v62_c X F))

theorem V38_c : V m c main_v38 = fun j => ((lse X F (j 0).val (j 1).val : ℝ) : EReal) :=
  (V38 m c).trans ((congrArg₂ lseV ((congrArg₂ (fun a b => Cert.FoxRefIdeal.Read.val_main_v30 (F := Ideal) a b) h0 h2).trans (v30_c X F))
    ((congrArg₂ (fun a b => Cert.FoxRefIdeal.Read.val_main_v29_0 (F := Ideal) a b) h0 h2).trans (v29_0_c X F))).trans (lseV_c X F))

end Cert.FoxIdeal.Host

end

end
-- ==== Proof.FoxFinite.lean ====
/-
  Arrays which the precondition of the attention's gradients calls finite are arrays of reals.
-/
module

public import proofs.«01_k».proof.Proof.Finite
public import proofs.«01_k».proof.Proof.Gen.Pre_fox_finite

@[expose] public section

set_option maxRecDepth 16384

noncomputable section

namespace Cert.FoxFinite

open Cert.KernelIdeal.Block Cert.Finite Idealize.ShloMosaic Cert.Pre_fox_finite Cert.Pre_fox_finite.Gen

instance : Subsingleton Cert.Pre_fox_finite.S_.Idx := ⟨fun a b => funext fun x => x.elim0⟩

theorem reals (A : FVec Ideal Cert.Pre_fox_finite.S2048x6144 .bf16) (B : FVec Ideal Cert.Pre_fox_finite.S2048x2048 .bf16) (C : FVec Ideal Cert.Pre_fox_finite.S8x2048 .f32)
    (h : Cert.Pre_fox_finite.fn (F := Ideal) A B C = fun _ => 1#1) :
    ∃ X Y F : ℕ → ℕ → ℝ, A = cv 2048 6144 X ∧ B = cv 2048 2048 Y ∧ C = cv 8 2048 F := by
  have h0 := congrFun h (fun x => x.elim0)
  obtain ⟨hab, hc⟩ := IntOp.andi_eq_one.mp h0
  obtain ⟨ha, hb⟩ := IntOp.andi_eq_one.mp hab
  obtain ⟨X, hX⟩ := cv_of_real (a := 2048) (b := 6144) A fun i => real_of_lt _ (Host.reduce_andi_all _ _ _ _ _ ha i)
  obtain ⟨Y, hY⟩ := cv_of_real (a := 2048) (b := 2048) B fun i => real_of_lt _ (Host.reduce_andi_all _ _ _ _ _ hb i)
  obtain ⟨F, hF⟩ := cv_of_real (a := 8) (b := 2048) C fun i => real_of_lt _ (Host.reduce_andi_all _ _ _ _ _ hc i)
  exact ⟨X, Y, F, hX, hY, hF⟩

end Cert.FoxFinite

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Finite
public import Idealize.ShloMosaic.Lib.Quiescent
public import Idealize.ShloMosaic.Adequacy
public import Idealize.ShloMosaic.Init
public import proofs.«01_k».proof.Proof.Gen.UpDw
public import proofs.«01_k».proof.Proof.Gen.UpDwIdeal
public import proofs.«01_k».proof.Proof.Gen.UpDw.Skeleton
public import proofs.«01_k».proof.Proof.Gen.UpDwIdeal.Skeleton
public import proofs.«01_k».proof.Proof.Gen.UpDw.Launch
public import proofs.«01_k».proof.Proof.Gen.UpDwIdeal.Launch
public import proofs.«01_k».proof.Proof.Gen.UpDw.Points
public import proofs.«01_k».proof.Proof.Gen.UpDwIdeal.Points
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.UpDwVal
public import proofs.«01_k».proof.Proof.Gen.UpDx
public import proofs.«01_k».proof.Proof.Gen.UpDxIdeal
public import proofs.«01_k».proof.Proof.Gen.UpDx.Skeleton
public import proofs.«01_k».proof.Proof.Gen.UpDxIdeal.Skeleton
public import proofs.«01_k».proof.Proof.Gen.UpDx.Launch
public import proofs.«01_k».proof.Proof.Gen.UpDxIdeal.Launch
public import proofs.«01_k».proof.Proof.Gen.UpDx.Points
public import proofs.«01_k».proof.Proof.Gen.UpDxIdeal.Points
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.UpDxVal
public import proofs.«01_k».proof.Proof.Gen.DownDw
public import proofs.«01_k».proof.Proof.Gen.DownDwIdeal
public import proofs.«01_k».proof.Proof.Gen.DownDw.Skeleton
public import proofs.«01_k».proof.Proof.Gen.DownDwIdeal.Skeleton
public import proofs.«01_k».proof.Proof.Gen.DownDw.Launch
public import proofs.«01_k».proof.Proof.Gen.DownDwIdeal.Launch
public import proofs.«01_k».proof.Proof.Gen.DownDw.Points
public import proofs.«01_k».proof.Proof.Gen.DownDwIdeal.Points
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.DownDwVal
public import proofs.«01_k».proof.Proof.Gen.DownDx
public import proofs.«01_k».proof.Proof.Gen.DownDxIdeal
public import proofs.«01_k».proof.Proof.Gen.DownDx.Skeleton
public import proofs.«01_k».proof.Proof.Gen.DownDxIdeal.Skeleton
public import proofs.«01_k».proof.Proof.Gen.DownDx.Launch
public import proofs.«01_k».proof.Proof.Gen.DownDxIdeal.Launch
public import proofs.«01_k».proof.Proof.Gen.DownDx.Points
public import proofs.«01_k».proof.Proof.Gen.DownDxIdeal.Points
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.DownDxVal
public import proofs.«01_k».proof.Proof.Gen.Up
public import proofs.«01_k».proof.Proof.Gen.UpIdeal
public import proofs.«01_k».proof.Proof.Gen.Up.Skeleton
public import proofs.«01_k».proof.Proof.Gen.UpIdeal.Skeleton
public import proofs.«01_k».proof.Proof.Gen.Up.Launch
public import proofs.«01_k».proof.Proof.Gen.UpIdeal.Launch
public import proofs.«01_k».proof.Proof.Gen.Up.Points
public import proofs.«01_k».proof.Proof.Gen.UpIdeal.Points
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.UpVal
public import proofs.«01_k».proof.Proof.Gen.Down
public import proofs.«01_k».proof.Proof.Gen.DownIdeal
public import proofs.«01_k».proof.Proof.Gen.Down.Skeleton
public import proofs.«01_k».proof.Proof.Gen.DownIdeal.Skeleton
public import proofs.«01_k».proof.Proof.Gen.Down.Launch
public import proofs.«01_k».proof.Proof.Gen.DownIdeal.Launch
public import proofs.«01_k».proof.Proof.Gen.Down.Points
public import proofs.«01_k».proof.Proof.Gen.DownIdeal.Points
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownVal
public import proofs.«01_k».proof.Proof.Gen.QkvDx
public import proofs.«01_k».proof.Proof.Gen.QkvDxIdeal
public import proofs.«01_k».proof.Proof.Gen.QkvDx.Skeleton
public import proofs.«01_k».proof.Proof.Gen.QkvDxIdeal.Skeleton
public import proofs.«01_k».proof.Proof.Gen.QkvDx.Launch
public import proofs.«01_k».proof.Proof.Gen.QkvDxIdeal.Launch
public import proofs.«01_k».proof.Proof.Gen.QkvDx.Points
public import proofs.«01_k».proof.Proof.Gen.QkvDxIdeal.Points
public import proofs.«01_k».proof.Proof.Gen.QkvDx.Frame
public import proofs.«01_k».proof.Proof.Gen.QkvDxIdeal.Frame
public import proofs.«01_k».proof.Proof.Gen.QkvDxIdeal.Value
public import proofs.«01_k».proof.Proof.Gen.QkvDxRefIdeal
public import proofs.«01_k».proof.Proof.Gen.QkvDxRefIdeal.Run
public import proofs.«01_k».proof.Proof.Gen.QkvDxRefIdeal.Read
public import proofs.«01_k».proof.Proof.QkvDxVal
public import proofs.«01_k».proof.Proof.Gen.QkvDw
public import proofs.«01_k».proof.Proof.Gen.QkvDwIdeal
public import proofs.«01_k».proof.Proof.Gen.QkvDw.Skeleton
public import proofs.«01_k».proof.Proof.Gen.QkvDwIdeal.Skeleton
public import proofs.«01_k».proof.Proof.Gen.QkvDw.Launch
public import proofs.«01_k».proof.Proof.Gen.QkvDwIdeal.Launch
public import proofs.«01_k».proof.Proof.Gen.QkvDw.Points
public import proofs.«01_k».proof.Proof.Gen.QkvDwIdeal.Points
public import proofs.«01_k».proof.Proof.Gen.QkvDw.Frame
public import proofs.«01_k».proof.Proof.Gen.QkvDwIdeal.Frame
public import proofs.«01_k».proof.Proof.Gen.QkvDwIdeal.Value
public import proofs.«01_k».proof.Proof.Gen.QkvDwRefIdeal
public import proofs.«01_k».proof.Proof.Gen.QkvDwRefIdeal.Run
public import proofs.«01_k».proof.Proof.Gen.QkvDwRefIdeal.Read
public import proofs.«01_k».proof.Proof.QkvDwVal
public import proofs.«01_k».proof.Proof.Gen.Qkv
public import proofs.«01_k».proof.Proof.Gen.QkvIdeal
public import proofs.«01_k».proof.Proof.Gen.Qkv.Skeleton
public import proofs.«01_k».proof.Proof.Gen.QkvIdeal.Skeleton
public import proofs.«01_k».proof.Proof.Gen.Qkv.Launch
public import proofs.«01_k».proof.Proof.Gen.QkvIdeal.Launch
public import proofs.«01_k».proof.Proof.Gen.Qkv.Points
public import proofs.«01_k».proof.Proof.Gen.QkvIdeal.Points
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.QkvVal
public import proofs.«01_k».proof.Proof.Gen.OutDx
public import proofs.«01_k».proof.Proof.Gen.OutDxIdeal
public import proofs.«01_k».proof.Proof.Gen.OutDx.Skeleton
public import proofs.«01_k».proof.Proof.Gen.OutDxIdeal.Skeleton
public import proofs.«01_k».proof.Proof.Gen.OutDx.Launch
public import proofs.«01_k».proof.Proof.Gen.OutDxIdeal.Launch
public import proofs.«01_k».proof.Proof.Gen.OutDx.Points
public import proofs.«01_k».proof.Proof.Gen.OutDxIdeal.Points
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.OutDxVal
public import proofs.«01_k».proof.Proof.Gen.OutDw
public import proofs.«01_k».proof.Proof.Gen.OutDwIdeal
public import proofs.«01_k».proof.Proof.Gen.OutDw.Skeleton
public import proofs.«01_k».proof.Proof.Gen.OutDwIdeal.Skeleton
public import proofs.«01_k».proof.Proof.Gen.OutDw.Launch
public import proofs.«01_k».proof.Proof.Gen.OutDwIdeal.Launch
public import proofs.«01_k».proof.Proof.Gen.OutDw.Points
public import proofs.«01_k».proof.Proof.Gen.OutDwIdeal.Points
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.OutDwVal
public import proofs.«01_k».proof.Proof.Gen.Out
public import proofs.«01_k».proof.Proof.Gen.OutIdeal
public import proofs.«01_k».proof.Proof.Gen.Out.Skeleton
public import proofs.«01_k».proof.Proof.Gen.OutIdeal.Skeleton
public import proofs.«01_k».proof.Proof.Gen.Out.Launch
public import proofs.«01_k».proof.Proof.Gen.OutIdeal.Launch
public import proofs.«01_k».proof.Proof.Gen.Out.Points
public import proofs.«01_k».proof.Proof.Gen.OutIdeal.Points
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.OutVal
public import proofs.«01_k».proof.Proof.Gen.PoolBwd
public import proofs.«01_k».proof.Proof.Gen.PoolBwdIdeal
public import proofs.«01_k».proof.Proof.Gen.PoolBwd.Skeleton
public import proofs.«01_k».proof.Proof.Gen.PoolBwdIdeal.Skeleton
public import proofs.«01_k».proof.Proof.Gen.PoolBwd.Launch
public import proofs.«01_k».proof.Proof.Gen.PoolBwdIdeal.Launch
public import proofs.«01_k».proof.Proof.Gen.PoolBwd.Points
public import proofs.«01_k».proof.Proof.Gen.PoolBwdIdeal.Points
public import proofs.«01_k».proof.Proof.Gen.PoolBwd.Frame
public import proofs.«01_k».proof.Proof.Gen.PoolBwdIdeal.Frame
public import proofs.«01_k».proof.Proof.Gen.PoolBwdIdeal.Value
public import proofs.«01_k».proof.Proof.Gen.PoolBwdRefIdeal
public import proofs.«01_k».proof.Proof.Gen.PoolBwdRefIdeal.Run
public import proofs.«01_k».proof.Proof.Gen.PoolBwdRefIdeal.Read
public import proofs.«01_k».proof.Proof.PoolBwdVal
public import proofs.«01_k».proof.Proof.Gen.Pool
public import proofs.«01_k».proof.Proof.Gen.PoolIdeal
public import proofs.«01_k».proof.Proof.Gen.Pool.Skeleton
public import proofs.«01_k».proof.Proof.Gen.PoolIdeal.Skeleton
public import proofs.«01_k».proof.Proof.Gen.Pool.Launch
public import proofs.«01_k».proof.Proof.Gen.PoolIdeal.Launch
public import proofs.«01_k».proof.Proof.Gen.Pool.Points
public import proofs.«01_k».proof.Proof.Gen.PoolIdeal.Points
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.PoolVal
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.Fox.Loops
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Loops
public import proofs.«01_k».proof.Proof.Gen.FoxIdeal.Value
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Pre_fox_finite
public import proofs.«01_k».proof.Proof.FoxOut
public import proofs.«01_k».proof.Proof.FoxHost
public import proofs.«01_k».proof.Proof.FoxFinite

@[expose] public section

noncomputable section

namespace Cert.Proof

open Idealize.ShloMosaic Idealize.ShloMosaic.TcCoe Idealize.SL.Sem
open Cert.KernelIdeal.Block Cert.KernelIdeal.KernelOut Cert.RefVal

/-- The reference runs, leaves its arguments as they were and every counter at zero. -/
theorem referenceFrame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.2.1, (h c).2.2.2.2⟩, sem_eq_zero_of_no_sems rfl r.2⟩)
    (Cert.ReferenceIdeal.Value.run m g)

theorem algebraic : algebraic_KernelIdeal_ReferenceIdeal_pre_finite := by
  intro m g m' g' hp hm
  have hr : ∀ c : Dev Cert.KernelIdeal.nD, ∃ X Y : ℕ → ℕ → ℝ,
      m ((c : Thread Cert.KernelIdeal.nD Cert.KernelIdeal.τ).loc Cert.KernelIdeal.main_arg0) = cv 2048 6144 X
      ∧ m ((c : Thread Cert.KernelIdeal.nD Cert.KernelIdeal.τ).loc Cert.KernelIdeal.main_arg1) = cv 2048 2048 Y :=
    fun c => Cert.Finite.reals _ _ (hp c)
  choose X Y hX hY using hr
  have h0 := fun c => (Cert.KernelIdeal.Gen.V_main_arg0 m c).trans (hX c)
  have h1 := fun c => (Cert.KernelIdeal.Gen.V_main_arg1 m c).trans (hY c)
  have h2 := fun c => Cert.KernelIdeal.Tot.V21_c m c (X c) (hX c)
  have r0 : ∀ c : Dev Cert.ReferenceIdeal.nD, StableHlo.launchContents m' c (Proc.devRef .tc Cert.ReferenceIdeal.main_arg0) = A0 (X c) := fun c => (hm c).1.trans (hX c)
  have r1 : ∀ c : Dev Cert.ReferenceIdeal.nD, StableHlo.launchContents m' c (Proc.devRef .tc Cert.ReferenceIdeal.main_arg1) = A1 (Y c) := fun c => (hm c).2.trans (hY c)
  refine ⟨fun c => cv 2048 1024 (dQ (X c) (Y c) (tA (X c))), fun c => cv 2048 1024 (dK (X c) (Y c) (tA (X c))),
    fun c => cv 2048 1024 (dV (X c) (Y c) (tA (X c))), ?_, ?_⟩
  · refine (θ_run Cert.KernelIdeal.defs _ _).mono (fun r h c => ?_) (Cert.KernelIdeal.Value.run m g)
    obtain ⟨e5, e6, e7, ea, eb⟩ := h c
    exact ⟨e5.trans (G5_eq m c (X c) (Y c) (tA (X c)) (h0 c) (h1 c) (h2 c)), e6.trans (G6_eq m c (X c) (Y c) (tA (X c)) (h0 c) (h1 c) (h2 c)),
      e7.trans (G7_eq m c (X c) (Y c) (tA (X c)) (h0 c) (h1 c) (h2 c)), ea, eb⟩
  · refine (θ_run Cert.ReferenceIdeal.defs _ _).mono (fun r h c => ?_) (Cert.ReferenceIdeal.Value.run m' g')
    obtain ⟨e5, e6, e7, ea, eb⟩ := h c
    refine ⟨e5.trans ((Cert.ReferenceIdeal.Read.val_main_v58_eq _).trans ?_), e6.trans ((Cert.ReferenceIdeal.Read.val_main_v59_eq _).trans ?_),
      e7.trans ((Cert.ReferenceIdeal.Read.val_main_v60_eq _).trans ?_), ea, eb⟩
    · rw [r0 c, r1 c]; exact v58_c (X c) (Y c)
    · rw [r0 c, r1 c]; exact v59_c (X c) (Y c)
    · rw [r0 c, r1 c]; exact v60_c (X c) (Y c)

theorem congr1 {α ε : Sort*} (f : α → ε) {a a' : α} (ha : a' = a) : f a' = f a := by rw [ha]

theorem congr2 {α β ε : Sort*} (f : α → β → ε) {a a' : α} {b b' : β} (ha : a' = a) (hb : b' = b) : f a' b' = f a b := by rw [ha, hb]

theorem congr3 {α β γ ε : Sort*} (f : α → β → γ → ε) {a a' : α} {b b' : β} {c c' : γ} (ha : a' = a) (hb : b' = b) (hc : c' = c) : f a' b' c' = f a b c := by rw [ha, hb, hc]

theorem congr4 {α β γ δ ε : Sort*} (f : α → β → γ → δ → ε) {a a' : α} {b b' : β} {c c' : γ} {d d' : δ} (ha : a' = a) (hb : b' = b) (hc : c' = c) (hd : d' = d) :
    f a' b' c' d' = f a b c d := by rw [ha, hb, hc, hd]

theorem quietUpDw : quiescent_UpDwRefIdeal := fun m g _ =>
  (θ_run Cert.UpDwRefIdeal.defs _ _).mono (fun r h => ⟨fun c => (h c).2, sem_eq_zero_of_no_sems rfl r.2⟩) (Cert.UpDwRefIdeal.Value.run m g)

theorem algebraicUpDw : algebraic_UpDwIdeal_UpDwRefIdeal := by
  intro m g m' g' _ hm
  refine ⟨fun c => Cert.UpDwVal.G (m ((c.tc : Thread Cert.UpDwIdeal.nD Cert.UpDwIdeal.τ).loc Cert.UpDwIdeal.main_arg0)) (m ((c.tc : Thread Cert.UpDwIdeal.nD Cert.UpDwIdeal.τ).loc Cert.UpDwIdeal.main_arg1)), ?_, ?_⟩
  · exact (θ_run Cert.UpDwIdeal.defs _ _).mono (fun r h c => ⟨(h c).1.trans (Cert.UpDwVal.final m c), (h c).2⟩) (Cert.UpDwIdeal.Value.run_blocks m g)
  · exact (θ_run Cert.UpDwRefIdeal.defs _ _).mono (fun r h c => ⟨(h c).1.trans ((Cert.UpDwRefIdeal.Read.val_main_v14_eq _ _).trans ((Cert.UpDwVal.ref _ _).trans (congr2 Cert.UpDwVal.G (hm c).1 (hm c).2))), (h c).2⟩) (Cert.UpDwRefIdeal.Value.run m' g')

theorem quietUpDx : quiescent_UpDxRefIdeal := fun m g _ =>
  (θ_run Cert.UpDxRefIdeal.defs _ _).mono (fun r h => ⟨fun c => (h c).2, sem_eq_zero_of_no_sems rfl r.2⟩) (Cert.UpDxRefIdeal.Value.run m g)

theorem algebraicUpDx : algebraic_UpDxIdeal_UpDxRefIdeal := by
  intro m g m' g' _ hm
  refine ⟨fun c => Cert.UpDxVal.G (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)), ?_, ?_⟩
  · exact (θ_run Cert.UpDxIdeal.defs _ _).mono (fun r h c => ⟨(h c).1.trans (Cert.UpDxVal.final m c), (h c).2⟩) (Cert.UpDxIdeal.Value.run_blocks m g)
  · exact (θ_run Cert.UpDxRefIdeal.defs _ _).mono (fun r h c => ⟨(h c).1.trans ((Cert.UpDxRefIdeal.Read.val_main_v13_eq _ _).trans ((Cert.UpDxVal.ref _ _).trans (congr2 Cert.UpDxVal.G (hm c).1 (hm c).2))), (h c).2⟩) (Cert.UpDxRefIdeal.Value.run m' g')

theorem quietDownDw : quiescent_DownDwRefIdeal := fun m g _ =>
  (θ_run Cert.DownDwRefIdeal.defs _ _).mono (fun r h => ⟨fun c => (h c).2, sem_eq_zero_of_no_sems rfl r.2⟩) (Cert.DownDwRefIdeal.Value.run m g)

theorem algebraicDownDw : algebraic_DownDwIdeal_DownDwRefIdeal := by
  intro m g m' g' _ hm
  refine ⟨fun c => Cert.DownDwVal.G (m ((c.tc : Thread Cert.DownDwIdeal.nD Cert.DownDwIdeal.τ).loc Cert.DownDwIdeal.main_arg0)) (m ((c.tc : Thread Cert.DownDwIdeal.nD Cert.DownDwIdeal.τ).loc Cert.DownDwIdeal.main_arg1)), ?_, ?_⟩
  · exact (θ_run Cert.DownDwIdeal.defs _ _).mono (fun r h c => ⟨(h c).1.trans (Cert.DownDwVal.final m c), (h c).2⟩) (Cert.DownDwIdeal.Value.run_blocks m g)
  · exact (θ_run Cert.DownDwRefIdeal.defs _ _).mono (fun r h c => ⟨(h c).1.trans ((Cert.DownDwRefIdeal.Read.val_main_v7_eq _ _).trans ((Cert.DownDwVal.ref _ _).trans (congr2 Cert.DownDwVal.G (hm c).1 (hm c).2))), (h c).2⟩) (Cert.DownDwRefIdeal.Value.run m' g')

theorem quietDownDx : quiescent_DownDxRefIdeal := fun m g _ =>
  (θ_run Cert.DownDxRefIdeal.defs _ _).mono (fun r h => ⟨fun c => (h c).2, sem_eq_zero_of_no_sems rfl r.2⟩) (Cert.DownDxRefIdeal.Value.run m g)

theorem algebraicDownDx : algebraic_DownDxIdeal_DownDxRefIdeal := by
  intro m g m' g' _ hm
  refine ⟨fun c => Cert.DownDxVal.G (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)), ?_, ?_⟩
  · exact (θ_run Cert.DownDxIdeal.defs _ _).mono (fun r h c => ⟨(h c).1.trans (Cert.DownDxVal.final m c), (h c).2⟩) (Cert.DownDxIdeal.Value.run_blocks m g)
  · exact (θ_run Cert.DownDxRefIdeal.defs _ _).mono (fun r h c => ⟨(h c).1.trans ((Cert.DownDxRefIdeal.Read.val_main_v6_eq _ _).trans ((Cert.DownDxVal.ref _ _).trans (congr2 Cert.DownDxVal.G (hm c).1 (hm c).2))), (h c).2⟩) (Cert.DownDxRefIdeal.Value.run m' g')

theorem quietUp : quiescent_UpRefIdeal := fun m g _ =>
  (θ_run Cert.UpRefIdeal.defs _ _).mono (fun r h => ⟨fun c => (h c).2, sem_eq_zero_of_no_sems rfl r.2⟩) (Cert.UpRefIdeal.Value.run m g)

theorem algebraicUp : algebraic_UpIdeal_UpRefIdeal := by
  intro m g m' g' _ hm
  refine ⟨fun c => Cert.UpVal.G (m ((c.tc : Thread Cert.UpIdeal.nD Cert.UpIdeal.τ).loc Cert.UpIdeal.main_arg0)) (m ((c.tc : Thread Cert.UpIdeal.nD Cert.UpIdeal.τ).loc Cert.UpIdeal.main_arg1)), ?_, ?_⟩
  · exact (θ_run Cert.UpIdeal.defs _ _).mono (fun r h c => ⟨(h c).1.trans (Cert.UpVal.final m c), (h c).2⟩) (Cert.UpIdeal.Value.run_blocks m g)
  · exact (θ_run Cert.UpRefIdeal.defs _ _).mono (fun r h c => ⟨(h c).1.trans ((Cert.UpRefIdeal.Read.val_main_v4_eq _ _).trans ((Cert.UpVal.ref _ _).trans (congr2 Cert.UpVal.G (hm c).1 (hm c).2))), (h c).2⟩) (Cert.UpRefIdeal.Value.run m' g')

theorem quietDown : quiescent_DownRefIdeal := fun m g _ =>
  (θ_run Cert.DownRefIdeal.defs _ _).mono (fun r h => ⟨fun c => (h c).2.2, sem_eq_zero_of_no_sems rfl r.2⟩) (Cert.DownRefIdeal.Value.run m g)

theorem algebraicDown : algebraic_DownIdeal_DownRefIdeal := by
  intro m g m' g' _ hm
  refine ⟨fun c => Cert.DownVal.G (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)), fun c => Cert.DownVal.H (m ((c.tc : Thread Cert.DownIdeal.nD Cert.DownIdeal.τ).loc Cert.DownIdeal.main_arg0)) (m ((c.tc : Thread Cert.DownIdeal.nD Cert.DownIdeal.τ).loc Cert.DownIdeal.main_arg1)), ?_, ?_⟩
  · exact (θ_run Cert.DownIdeal.defs _ _).mono (fun r h c => ⟨(h c).1.trans (Cert.DownVal.final m c), (h c).2.1.trans (Cert.DownVal.final5 m c), (h c).2.2⟩) (Cert.DownIdeal.Value.run_blocks m g)
  · exact (θ_run Cert.DownRefIdeal.defs _ _).mono (fun r h c => ⟨(h c).1.trans ((Cert.DownRefIdeal.Read.val_main_v5_eq _ _ _ _).trans ((Cert.DownVal.ref _ _ _ _).trans (congr4 Cert.DownVal.G (hm c).1 (hm c).2.1 (hm c).2.2.1 (hm c).2.2.2))), (h c).2.1.trans ((Cert.DownRefIdeal.Read.val_main_v6_eq _ _).trans ((Cert.DownVal.ref5 _ _).trans (congr2 Cert.DownVal.H (hm c).1 (hm c).2.1))), (h c).2.2⟩) (Cert.DownRefIdeal.Value.run m' g')

theorem quietQkvDx : quiescent_QkvDxRefIdeal := fun m g _ =>
  (θ_run Cert.QkvDxRefIdeal.defs _ _).mono (fun r h => ⟨fun c => (h c).2, sem_eq_zero_of_no_sems rfl r.2⟩) (Cert.QkvDxRefIdeal.Value.run m g)

theorem algebraicQkvDx : algebraic_QkvDxIdeal_QkvDxRefIdeal := by
  intro m g m' g' _ hm
  refine ⟨fun c => Cert.QkvDxVal.G (m ((c.tc : Thread Cert.QkvDxIdeal.nD Cert.QkvDxIdeal.τ).loc Cert.QkvDxIdeal.main_arg0)) (m ((c.tc : Thread Cert.QkvDxIdeal.nD Cert.QkvDxIdeal.τ).loc Cert.QkvDxIdeal.main_arg1)), ?_, ?_⟩
  · exact (θ_run Cert.QkvDxIdeal.defs _ _).mono (fun r h c => ⟨(h c).1.trans (Cert.QkvDxVal.final m c), (h c).2⟩) (Cert.QkvDxIdeal.Value.run_blocks m g)
  · exact (θ_run Cert.QkvDxRefIdeal.defs _ _).mono (fun r h c => ⟨(h c).1.trans ((Cert.QkvDxRefIdeal.Read.val_main_v8_eq _ _).trans ((Cert.QkvDxVal.ref _ _).trans (congr2 Cert.QkvDxVal.G (hm c).1 (hm c).2))), (h c).2⟩) (Cert.QkvDxRefIdeal.Value.run m' g')

theorem quietQkvDw : quiescent_QkvDwRefIdeal := fun m g _ =>
  (θ_run Cert.QkvDwRefIdeal.defs _ _).mono (fun r h => ⟨fun c => (h c).2, sem_eq_zero_of_no_sems rfl r.2⟩) (Cert.QkvDwRefIdeal.Value.run m g)

theorem algebraicQkvDw : algebraic_QkvDwIdeal_QkvDwRefIdeal := by
  intro m g m' g' _ hm
  refine ⟨fun c => Cert.QkvDwVal.G (m ((c.tc : Thread Cert.QkvDwIdeal.nD Cert.QkvDwIdeal.τ).loc Cert.QkvDwIdeal.main_arg0)) (m ((c.tc : Thread Cert.QkvDwIdeal.nD Cert.QkvDwIdeal.τ).loc Cert.QkvDwIdeal.main_arg1)), ?_, ?_⟩
  · exact (θ_run Cert.QkvDwIdeal.defs _ _).mono (fun r h c => ⟨(h c).1.trans (Cert.QkvDwVal.final m c), (h c).2⟩) (Cert.QkvDwIdeal.Value.run_blocks m g)
  · exact (θ_run Cert.QkvDwRefIdeal.defs _ _).mono (fun r h c => ⟨(h c).1.trans ((Cert.QkvDwRefIdeal.Read.val_main_v8_eq _ _).trans ((Cert.QkvDwVal.ref _ _).trans (congr2 Cert.QkvDwVal.G (hm c).1 (hm c).2))), (h c).2⟩) (Cert.QkvDwRefIdeal.Value.run m' g')

theorem quietQkv : quiescent_QkvRefIdeal := fun m g _ =>
  (θ_run Cert.QkvRefIdeal.defs _ _).mono (fun r h => ⟨fun c => (h c).2, sem_eq_zero_of_no_sems rfl r.2⟩) (Cert.QkvRefIdeal.Value.run m g)

theorem algebraicQkv : algebraic_QkvIdeal_QkvRefIdeal := by
  intro m g m' g' _ hm
  refine ⟨fun c => Cert.QkvVal.G (m ((c.tc : Thread Cert.QkvIdeal.nD Cert.QkvIdeal.τ).loc Cert.QkvIdeal.main_arg0)) (m ((c.tc : Thread Cert.QkvIdeal.nD Cert.QkvIdeal.τ).loc Cert.QkvIdeal.main_arg1)), ?_, ?_⟩
  · exact (θ_run Cert.QkvIdeal.defs _ _).mono (fun r h c => ⟨(h c).1.trans (Cert.QkvVal.final m c), (h c).2⟩) (Cert.QkvIdeal.Value.run_blocks m g)
  · exact (θ_run Cert.QkvRefIdeal.defs _ _).mono (fun r h c => ⟨(h c).1.trans ((Cert.QkvRefIdeal.Read.val_main_v5_eq _ _).trans ((Cert.QkvVal.ref _ _).trans (congr2 Cert.QkvVal.G (hm c).1 (hm c).2))), (h c).2⟩) (Cert.QkvRefIdeal.Value.run m' g')

theorem quietOutDx : quiescent_OutDxRefIdeal := fun m g _ =>
  (θ_run Cert.OutDxRefIdeal.defs _ _).mono (fun r h => ⟨fun c => (h c).2, sem_eq_zero_of_no_sems rfl r.2⟩) (Cert.OutDxRefIdeal.Value.run m g)

theorem algebraicOutDx : algebraic_OutDxIdeal_OutDxRefIdeal := by
  intro m g m' g' _ hm
  refine ⟨fun c => Cert.OutDxVal.G (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)), ?_, ?_⟩
  · exact (θ_run Cert.OutDxIdeal.defs _ _).mono (fun r h c => ⟨(h c).1.trans (Cert.OutDxVal.final m c), (h c).2⟩) (Cert.OutDxIdeal.Value.run_blocks m g)
  · exact (θ_run Cert.OutDxRefIdeal.defs _ _).mono (fun r h c => ⟨(h c).1.trans ((Cert.OutDxRefIdeal.Read.val_main_v7_eq _ _).trans ((Cert.OutDxVal.ref _ _).trans (congr2 Cert.OutDxVal.G (hm c).1 (hm c).2))), (h c).2⟩) (Cert.OutDxRefIdeal.Value.run m' g')

theorem quietOutDw : quiescent_OutDwRefIdeal := fun m g _ =>
  (θ_run Cert.OutDwRefIdeal.defs _ _).mono (fun r h => ⟨fun c => (h c).2, sem_eq_zero_of_no_sems rfl r.2⟩) (Cert.OutDwRefIdeal.Value.run m g)

theorem algebraicOutDw : algebraic_OutDwIdeal_OutDwRefIdeal := by
  intro m g m' g' _ hm
  refine ⟨fun c => Cert.OutDwVal.G (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)), ?_, ?_⟩
  · exact (θ_run Cert.OutDwIdeal.defs _ _).mono (fun r h c => ⟨(h c).1.trans (Cert.OutDwVal.final m c), (h c).2⟩) (Cert.OutDwIdeal.Value.run_blocks m g)
  · exact (θ_run Cert.OutDwRefIdeal.defs _ _).mono (fun r h c => ⟨(h c).1.trans ((Cert.OutDwRefIdeal.Read.val_main_v7_eq _ _).trans ((Cert.OutDwVal.ref _ _).trans (congr2 Cert.OutDwVal.G (hm c).1 (hm c).2))), (h c).2⟩) (Cert.OutDwRefIdeal.Value.run m' g')

theorem quietOut : quiescent_OutRefIdeal := fun m g _ =>
  (θ_run Cert.OutRefIdeal.defs _ _).mono (fun r h => ⟨fun c => (h c).2.2, sem_eq_zero_of_no_sems rfl r.2⟩) (Cert.OutRefIdeal.Value.run m g)

theorem algebraicOut : algebraic_OutIdeal_OutRefIdeal := by
  intro m g m' g' _ hm
  refine ⟨fun c => Cert.OutVal.G (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), fun c => Cert.OutVal.H (m ((c.tc : Thread Cert.OutIdeal.nD Cert.OutIdeal.τ).loc Cert.OutIdeal.main_arg0)) (m ((c.tc : Thread Cert.OutIdeal.nD Cert.OutIdeal.τ).loc Cert.OutIdeal.main_arg1)), ?_, ?_⟩
  · exact (θ_run Cert.OutIdeal.defs _ _).mono (fun r h c => ⟨(h c).1.trans (Cert.OutVal.final m c), (h c).2.1.trans (Cert.OutVal.final5 m c), (h c).2.2⟩) (Cert.OutIdeal.Value.run_blocks m g)
  · exact (θ_run Cert.OutRefIdeal.defs _ _).mono (fun r h c => ⟨(h c).1.trans ((Cert.OutRefIdeal.Read.val_main_v5_eq _ _ _ _).trans ((Cert.OutVal.ref _ _ _ _).trans (congr4 Cert.OutVal.G (hm c).1 (hm c).2.1 (hm c).2.2.1 (hm c).2.2.2))), (h c).2.1.trans ((Cert.OutRefIdeal.Read.val_main_v6_eq _ _).trans ((Cert.OutVal.ref5 _ _).trans (congr2 Cert.OutVal.H (hm c).1 (hm c).2.1))), (h c).2.2⟩) (Cert.OutRefIdeal.Value.run m' g')

theorem quietPoolBwd : quiescent_PoolBwdRefIdeal := fun m g _ =>
  (θ_run Cert.PoolBwdRefIdeal.defs _ _).mono (fun r h => ⟨fun c => (h c).2.2, sem_eq_zero_of_no_sems rfl r.2⟩) (Cert.PoolBwdRefIdeal.Value.run m g)

theorem algebraicPoolBwd : algebraic_PoolBwdIdeal_PoolBwdRefIdeal := by
  intro m g m' g' _ hm
  refine ⟨fun c => Cert.PoolBwdVal.G (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg2)), fun c => Cert.PoolBwdVal.H (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)), ?_, ?_⟩
  · exact (θ_run Cert.PoolBwdIdeal.defs _ _).mono (fun r h c => ⟨(h c).1.trans (Cert.PoolBwdVal.final m c), (h c).2.1.trans (Cert.PoolBwdVal.final4 m c), (h c).2.2⟩) (Cert.PoolBwdIdeal.Value.run_blocks m g)
  · exact (θ_run Cert.PoolBwdRefIdeal.defs _ _).mono (fun r h c => ⟨(h c).1.trans ((Cert.PoolBwdRefIdeal.Read.val_main_v13_eq _ _).trans ((Cert.PoolBwdVal.ref _ _).trans (congr2 Cert.PoolBwdVal.G (hm c).1 (hm c).2.2))), (h c).2.1.trans ((Cert.PoolBwdRefIdeal.Read.val_main_v14_eq _ _).trans ((Cert.PoolBwdVal.ref4 _ _).trans (congr2 Cert.PoolBwdVal.H (hm c).1 (hm c).2.1))), (h c).2.2⟩) (Cert.PoolBwdRefIdeal.Value.run m' g')

theorem quietPool : quiescent_PoolRefIdeal := fun m g _ =>
  (θ_run Cert.PoolRefIdeal.defs _ _).mono (fun r h => ⟨fun c => (h c).2.2, sem_eq_zero_of_no_sems rfl r.2⟩) (Cert.PoolRefIdeal.Value.run m g)

theorem algebraicPool : algebraic_PoolIdeal_PoolRefIdeal := by
  intro m g m' g' _ hm
  refine ⟨fun c => Cert.PoolVal.G (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)), fun c => Cert.PoolVal.H (m ((c.tc : Thread Cert.PoolIdeal.nD Cert.PoolIdeal.τ).loc Cert.PoolIdeal.main_arg0)) (m ((c.tc : Thread Cert.PoolIdeal.nD Cert.PoolIdeal.τ).loc Cert.PoolIdeal.main_arg1)), ?_, ?_⟩
  · exact (θ_run Cert.PoolIdeal.defs _ _).mono (fun r h c => ⟨(h c).1.trans (Cert.PoolVal.final m c), (h c).2.1.trans (Cert.PoolVal.final5 m c), (h c).2.2⟩) (Cert.PoolIdeal.Value.run_blocks m g)
  · exact (θ_run Cert.PoolRefIdeal.defs _ _).mono (fun r h c => ⟨(h c).1.trans ((Cert.PoolRefIdeal.Read.val_main_v8_eq _ _ _ _).trans ((Cert.PoolVal.ref _ _ _ _).trans (congr4 Cert.PoolVal.G (hm c).1 (hm c).2.1 (hm c).2.2.1 (hm c).2.2.2))), (h c).2.1.trans ((Cert.PoolRefIdeal.Read.val_main_v9_eq _ _).trans ((Cert.PoolVal.ref5 _ _).trans (congr2 Cert.PoolVal.H (hm c).1 (hm c).2.1))), (h c).2.2⟩) (Cert.PoolRefIdeal.Value.run m' g')

/-- The reference of the forgetting attention's backward call runs, leaves its arguments as they were and every counter at zero. -/
theorem foxRefFrame (m : (ℓ : Loc Cert.FoxRefIdeal.nD Cert.FoxRefIdeal.τ Cert.FoxRefIdeal.sig) → Buf (Elt Ideal) ℓ) (g : Dev Cert.FoxRefIdeal.nD → PrngReg) :
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0) :=
  (θ_run Cert.FoxRefIdeal.defs _ _).mono (fun r h => ⟨fun c => (h c).2.2.2.2, sem_eq_zero_of_no_sems rfl r.2⟩) (Cert.FoxRefIdeal.Value.run m g)

/-- The forgetting attention's backward call and its reference leave the same four gradients. -/
theorem algebraicFox : algebraic_FoxIdeal_FoxRefIdeal_pre_fox_finite := by
  intro m g m' g' hp hm
  have hr : ∀ c : Dev Cert.FoxIdeal.nD, ∃ X Y F : ℕ → ℕ → ℝ,
      m ((c.tc : Thread Cert.FoxIdeal.nD Cert.FoxIdeal.τ).loc Cert.FoxIdeal.main_arg0) = cv 2048 6144 X
      ∧ m ((c.tc : Thread Cert.FoxIdeal.nD Cert.FoxIdeal.τ).loc Cert.FoxIdeal.main_arg1) = cv 2048 2048 Y
      ∧ m ((c.tc : Thread Cert.FoxIdeal.nD Cert.FoxIdeal.τ).loc Cert.FoxIdeal.main_arg2) = cv 8 2048 F :=
    fun c => Cert.FoxFinite.reals _ _ _ (hp c)
  choose X Y F hX hY hF using hr
  have h0 := fun c => (Cert.FoxIdeal.Gen.V_main_arg0 m c).trans (hX c)
  have h1 := fun c => (Cert.FoxIdeal.Gen.V_main_arg1 m c).trans (hY c)
  have h4 := fun c => Cert.FoxIdeal.Host.V80_c m c (X c) (F c) (hX c) (hF c)
  have h5 := fun c => Cert.FoxIdeal.Host.V81_c m c (F c) (hF c)
  have h6 := fun c => Cert.FoxIdeal.Host.V82_c m c (F c) (hF c)
  have h7 := fun c => Cert.FoxIdeal.Host.V38_c m c (X c) (F c) (hX c) (hF c)
  let O := fun c => Cert.FoxRefVal.oA (X c) (F c)
  let L := fun c => Cert.FoxRefVal.lse (X c) (F c)
  refine ⟨fun c => cv 2048 1024 (Cert.FoxIdeal.KernelOut.dQ (X c) (Y c) (O c) (F c) (L c)), fun c => cv 2048 1024 (Cert.FoxIdeal.KernelOut.dK (X c) (Y c) (O c) (F c) (L c)),
    fun c => cv 2048 1024 (Cert.FoxIdeal.KernelOut.dV (X c) (Y c) (F c) (L c)),
    fun c j => ((Cert.FoxIdeal.KernelOut.dF (X c) (Y c) (O c) (F c) (L c) (j 0).val (256 * (j 1).val + (j 3).val) : ℝ) : EReal), ?_, ?_⟩
  · refine (θ_run Cert.FoxIdeal.defs _ _).mono (fun r h c => ?_) (Cert.FoxIdeal.Value.run m g)
    obtain ⟨e0, e1, e2, e3, e⟩ := h c
    exact ⟨e0.trans (Cert.FoxIdeal.KernelOut.G8_eq m c (X c) (Y c) (O c) (F c) (L c) (h0 c) (h1 c) (h4 c) (h5 c) (h6 c) (h7 c)),
      e1.trans (Cert.FoxIdeal.KernelOut.G9_eq m c (X c) (Y c) (O c) (F c) (L c) (h0 c) (h1 c) (h4 c) (h5 c) (h6 c) (h7 c)),
      e2.trans (Cert.FoxIdeal.KernelOut.G10_eq m c (X c) (Y c) (O c) (F c) (L c) (h0 c) (h1 c) (h4 c) (h5 c) (h6 c) (h7 c)),
      e3.trans (Cert.FoxIdeal.KernelOut.G11_eq m c (X c) (Y c) (O c) (F c) (L c) (h0 c) (h1 c) (h4 c) (h5 c) (h6 c) (h7 c)), e⟩
  · refine (θ_run Cert.FoxRefIdeal.defs _ _).mono (fun r h c => ?_) (Cert.FoxRefIdeal.Value.run m' g')
    obtain ⟨e0, e1, e2, e3, e⟩ := h c
    have r0 := (hm c).1.trans (hX c)
    have r1 := (hm c).2.1.trans (hY c)
    have r2 := (hm c).2.2.trans (hF c)
    exact ⟨e0.trans ((Cert.FoxRefIdeal.Read.val_main_v101_eq m' c).trans ((congr3 (Cert.FoxRefIdeal.Read.val_main_v101 (F := Ideal)) r0 r1 r2).trans (Cert.FoxRefVal.v101_c (X c) (Y c) (F c)))),
      e1.trans ((Cert.FoxRefIdeal.Read.val_main_v102_eq m' c).trans ((congr3 (Cert.FoxRefIdeal.Read.val_main_v102 (F := Ideal)) r0 r1 r2).trans (Cert.FoxRefVal.v102_c (X c) (Y c) (F c)))),
      e2.trans ((Cert.FoxRefIdeal.Read.val_main_v103_eq m' c).trans ((congr3 (Cert.FoxRefIdeal.Read.val_main_v103 (F := Ideal)) r0 r1 r2).trans (Cert.FoxRefVal.v103_c (X c) (Y c) (F c)))),
      e3.trans ((Cert.FoxRefIdeal.Read.val_main_v104_eq m' c).trans ((congr3 (Cert.FoxRefIdeal.Read.val_main_v104 (F := Ideal)) r0 r1 r2).trans (Cert.FoxRefVal.v104_c (X c) (Y c) (F c)))), e⟩

theorem claim : Cert.Claim :=
  ⟨Cert.Kernel.Gen.facts, Cert.KernelIdeal.Gen.facts, Cert.ReferenceIdeal.Gen.facts,
    Cert.UpDw.Gen.facts, Cert.UpDwIdeal.Gen.facts, Cert.UpDwRefIdeal.Gen.facts, Cert.UpDx.Gen.facts, Cert.UpDxIdeal.Gen.facts, Cert.UpDxRefIdeal.Gen.facts, Cert.DownDw.Gen.facts, Cert.DownDwIdeal.Gen.facts, Cert.DownDwRefIdeal.Gen.facts, Cert.DownDx.Gen.facts, Cert.DownDxIdeal.Gen.facts, Cert.DownDxRefIdeal.Gen.facts, Cert.Up.Gen.facts, Cert.UpIdeal.Gen.facts, Cert.UpRefIdeal.Gen.facts, Cert.Down.Gen.facts, Cert.DownIdeal.Gen.facts, Cert.DownRefIdeal.Gen.facts, Cert.QkvDx.Gen.facts, Cert.QkvDxIdeal.Gen.facts, Cert.QkvDxRefIdeal.Gen.facts, Cert.QkvDw.Gen.facts, Cert.QkvDwIdeal.Gen.facts, Cert.QkvDwRefIdeal.Gen.facts, Cert.Qkv.Gen.facts, Cert.QkvIdeal.Gen.facts, Cert.QkvRefIdeal.Gen.facts, Cert.OutDx.Gen.facts, Cert.OutDxIdeal.Gen.facts, Cert.OutDxRefIdeal.Gen.facts, Cert.OutDw.Gen.facts, Cert.OutDwIdeal.Gen.facts, Cert.OutDwRefIdeal.Gen.facts, Cert.Out.Gen.facts, Cert.OutIdeal.Gen.facts, Cert.OutRefIdeal.Gen.facts, Cert.PoolBwd.Gen.facts, Cert.PoolBwdIdeal.Gen.facts, Cert.PoolBwdRefIdeal.Gen.facts, Cert.Pool.Gen.facts, Cert.PoolIdeal.Gen.facts, Cert.PoolRefIdeal.Gen.facts, Cert.Fox.Gen.facts, Cert.FoxIdeal.Gen.facts, Cert.FoxRefIdeal.Gen.facts, Cert.Pre_finite.Gen.facts, Cert.Pre_fox_finite.Gen.facts,
    fun m ρ _ => Cert.Kernel.Gen.frame m ρ, fun m ρ _ => Cert.KernelIdeal.Gen.frame m ρ,
    fun m ρ _ => Cert.KernelIdeal.Gen.frame m ρ, fun m ρ _ => referenceFrame m ρ, fun m ρ _ => referenceFrame m ρ,
    fun m ρ _ => Cert.UpDw.Gen.frame m ρ, fun m ρ _ => Cert.UpDwIdeal.Gen.frame m ρ, quietUpDw,
    fun m ρ _ => Cert.UpDx.Gen.frame m ρ, fun m ρ _ => Cert.UpDxIdeal.Gen.frame m ρ, quietUpDx,
    fun m ρ _ => Cert.DownDw.Gen.frame m ρ, fun m ρ _ => Cert.DownDwIdeal.Gen.frame m ρ, quietDownDw,
    fun m ρ _ => Cert.DownDx.Gen.frame m ρ, fun m ρ _ => Cert.DownDxIdeal.Gen.frame m ρ, quietDownDx,
    fun m ρ _ => Cert.Up.Gen.frame m ρ, fun m ρ _ => Cert.UpIdeal.Gen.frame m ρ, quietUp,
    fun m ρ _ => Cert.Down.Gen.frame m ρ, fun m ρ _ => Cert.DownIdeal.Gen.frame m ρ, quietDown,
    fun m ρ _ => Cert.QkvDx.Gen.frame m ρ, fun m ρ _ => Cert.QkvDxIdeal.Gen.frame m ρ, quietQkvDx,
    fun m ρ _ => Cert.QkvDw.Gen.frame m ρ, fun m ρ _ => Cert.QkvDwIdeal.Gen.frame m ρ, quietQkvDw,
    fun m ρ _ => Cert.Qkv.Gen.frame m ρ, fun m ρ _ => Cert.QkvIdeal.Gen.frame m ρ, quietQkv,
    fun m ρ _ => Cert.OutDx.Gen.frame m ρ, fun m ρ _ => Cert.OutDxIdeal.Gen.frame m ρ, quietOutDx,
    fun m ρ _ => Cert.OutDw.Gen.frame m ρ, fun m ρ _ => Cert.OutDwIdeal.Gen.frame m ρ, quietOutDw,
    fun m ρ _ => Cert.Out.Gen.frame m ρ, fun m ρ _ => Cert.OutIdeal.Gen.frame m ρ, quietOut,
    fun m ρ _ => Cert.PoolBwd.Gen.frame m ρ, fun m ρ _ => Cert.PoolBwdIdeal.Gen.frame m ρ, quietPoolBwd,
    fun m ρ _ => Cert.Pool.Gen.frame m ρ, fun m ρ _ => Cert.PoolIdeal.Gen.frame m ρ, quietPool,
    fun m ρ _ => Cert.Fox.Gen.frame m ρ, fun m ρ _ => Cert.FoxIdeal.Gen.frame m ρ, fun m ρ _ => Cert.FoxIdeal.Gen.frame m ρ,
    fun m ρ _ => foxRefFrame m ρ, fun m ρ _ => foxRefFrame m ρ,
    trivial, algebraic, trivial, algebraicUpDw, trivial, algebraicUpDx, trivial, algebraicDownDw, trivial, algebraicDownDx, trivial, algebraicUp, trivial, algebraicDown, trivial, algebraicQkvDx, trivial, algebraicQkvDw, trivial, algebraicQkv, trivial, algebraicOutDx, trivial, algebraicOutDw, trivial, algebraicOut, trivial, algebraicPoolBwd, trivial, algebraicPool, trivial, algebraicFox⟩

end Cert.Proof

end
